-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_attn_args [hPre_attn_args : Cert.Pre_attn_args.Facts] (m : (ℓ : Loc Cert.KernelIdeal.nD Cert.KernelIdeal.τ Cert.KernelIdeal.sig) → Buf (Elt Ideal) ℓ) : Prop :=
  ∀ c : Dev Cert.KernelIdeal.nD,
    (Cert.Pre_attn_args.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_attn_args [hPre_attn_args : Cert.Pre_attn_args.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_attn_args.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_attn_args [hKernelIdeal : Cert.KernelIdeal.Facts] [hPre_attn_args : Cert.Pre_attn_args.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_attn_args m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_attn_args [hReferenceIdeal : Cert.ReferenceIdeal.Facts] [hPre_attn_args : Cert.Pre_attn_args.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_attn_args m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8)
      ∧ r.2.mem ((c.tc : Thread Cert.Kernel2.nD Cert.Kernel2.τ).loc Cert.Kernel2.main_arg9) = m ((c.tc : Thread Cert.Kernel2.nD Cert.Kernel2.τ).loc Cert.Kernel2.main_arg9)
      ∧ r.2.mem ((c.tc : Thread Cert.Kernel2.nD Cert.Kernel2.τ).loc Cert.Kernel2.main_arg10) = m ((c.tc : Thread Cert.Kernel2.nD Cert.Kernel2.τ).loc Cert.Kernel2.main_arg10)
      ∧ r.2.mem ((c.tc : Thread Cert.Kernel2.nD Cert.Kernel2.τ).loc Cert.Kernel2.main_arg11) = m ((c.tc : Thread Cert.Kernel2.nD Cert.Kernel2.τ).loc Cert.Kernel2.main_arg11))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
      ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
      ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9)
      ∧ r.2.mem ((c.tc : Thread Cert.Reference2Ideal.nD Cert.Reference2Ideal.τ).loc Cert.Reference2Ideal.main_arg10) = m ((c.tc : Thread Cert.Reference2Ideal.nD Cert.Reference2Ideal.τ).loc Cert.Reference2Ideal.main_arg10)
      ∧ r.2.mem ((c.tc : Thread Cert.Reference2Ideal.nD Cert.Reference2Ideal.τ).loc Cert.Reference2Ideal.main_arg11) = m ((c.tc : Thread Cert.Reference2Ideal.nD Cert.Reference2Ideal.τ).loc Cert.Reference2Ideal.main_arg11))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2))
      ∧ r.2.sem = fun _ => 0)

def preserves_Kernel_KernelIdeal : Prop :=
  IdealRules.named_const.Statement Cert.KernelIdeal.κ "scale" .f32 0x3E38AA3B#32 (((1 / 8) * (Real.log 2)⁻¹ : ℝ) : EReal)
  ∧ IdealRules.named_const.Statement Cert.KernelIdeal.κ "log2e" .f32 0x3FB8AA3B#32 (((Real.log 2)⁻¹ : ℝ) : EReal)

def algebraic_KernelIdeal_ReferenceIdeal_pre_attn_args [hKernelIdeal : Cert.KernelIdeal.Facts] [hReferenceIdeal : Cert.ReferenceIdeal.Facts] [hPre_attn_args : Cert.Pre_attn_args.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_attn_args m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v94) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)
      ∧ m' ((c.tc : Thread Cert.Reference2Ideal.nD Cert.Reference2Ideal.τ).loc Cert.Reference2Ideal.main_arg9) = m ((c.tc : Thread Cert.Kernel2Ideal.nD Cert.Kernel2Ideal.τ).loc Cert.Kernel2Ideal.main_arg9)
      ∧ m' ((c.tc : Thread Cert.Reference2Ideal.nD Cert.Reference2Ideal.τ).loc Cert.Reference2Ideal.main_arg10) = m ((c.tc : Thread Cert.Kernel2Ideal.nD Cert.Kernel2Ideal.τ).loc Cert.Kernel2Ideal.main_arg10)
      ∧ m' ((c.tc : Thread Cert.Reference2Ideal.nD Cert.Reference2Ideal.τ).loc Cert.Reference2Ideal.main_arg11) = m ((c.tc : Thread Cert.Kernel2Ideal.nD Cert.Kernel2Ideal.τ).loc Cert.Kernel2Ideal.main_arg11)) →
    ∃ (v0 : (c : Dev Cert.Kernel2Ideal.nD) → Buf (Elt Ideal) ((c.tc : Thread Cert.Kernel2Ideal.nD Cert.Kernel2Ideal.τ).loc Cert.Kernel2Ideal.main_v4)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v4) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
          ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
          ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
          ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v70) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8)
          ∧ r.2.mem ((c.tc : Thread Cert.Reference2Ideal.nD Cert.Reference2Ideal.τ).loc Cert.Reference2Ideal.main_arg9) = m' ((c.tc : Thread Cert.Reference2Ideal.nD Cert.Reference2Ideal.τ).loc Cert.Reference2Ideal.main_arg9)
          ∧ r.2.mem ((c.tc : Thread Cert.Reference2Ideal.nD Cert.Reference2Ideal.τ).loc Cert.Reference2Ideal.main_arg10) = m' ((c.tc : Thread Cert.Reference2Ideal.nD Cert.Reference2Ideal.τ).loc Cert.Reference2Ideal.main_arg10)
          ∧ r.2.mem ((c.tc : Thread Cert.Reference2Ideal.nD Cert.Reference2Ideal.τ).loc Cert.Reference2Ideal.main_arg11) = m' ((c.tc : Thread Cert.Reference2Ideal.nD Cert.Reference2Ideal.τ).loc Cert.Reference2Ideal.main_arg11))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v0_0)) (v1 : (c : Dev Cert.Kernel3Ideal.nD) → Buf (Elt Ideal) ((c.tc : Thread Cert.Kernel3Ideal.nD Cert.Kernel3Ideal.τ).loc Cert.Kernel3Ideal.main_v0_1)) (v2 : (c : Dev Cert.Kernel3Ideal.nD) → Buf (Elt Ideal) ((c.tc : Thread Cert.Kernel3Ideal.nD Cert.Kernel3Ideal.τ).loc Cert.Kernel3Ideal.main_v0_2)) (v3 : (c : Dev Cert.Kernel3Ideal.nD) → Buf (Elt Ideal) ((c.tc : Thread Cert.Kernel3Ideal.nD Cert.Kernel3Ideal.τ).loc Cert.Kernel3Ideal.main_v0_3)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0_0) = v0 c
          ∧ r.2.mem ((c.tc : Thread Cert.Kernel3Ideal.nD Cert.Kernel3Ideal.τ).loc Cert.Kernel3Ideal.main_v0_1) = v1 c
          ∧ r.2.mem ((c.tc : Thread Cert.Kernel3Ideal.nD Cert.Kernel3Ideal.τ).loc Cert.Kernel3Ideal.main_v0_2) = v2 c
          ∧ r.2.mem ((c.tc : Thread Cert.Kernel3Ideal.nD Cert.Kernel3Ideal.τ).loc Cert.Kernel3Ideal.main_v0_3) = v3 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v8) = v0 c
          ∧ r.2.mem ((c.tc : Thread Cert.Reference3Ideal.nD Cert.Reference3Ideal.τ).loc Cert.Reference3Ideal.main_v9) = v1 c
          ∧ r.2.mem ((c.tc : Thread Cert.Reference3Ideal.nD Cert.Reference3Ideal.τ).loc Cert.Reference3Ideal.main_v10) = v2 c
          ∧ r.2.mem ((c.tc : Thread Cert.Reference3Ideal.nD Cert.Reference3Ideal.τ).loc Cert.Reference3Ideal.main_v11) = v3 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v1) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)) →
    ∃ (v0 : (c : Dev Cert.Kernel5Ideal.nD) → Buf (Elt Ideal) ((c.tc : Thread Cert.Kernel5Ideal.nD Cert.Kernel5Ideal.τ).loc Cert.Kernel5Ideal.main_v0_0)) (v1 : (c : Dev Cert.Kernel5Ideal.nD) → Buf (Elt Ideal) ((c.tc : Thread Cert.Kernel5Ideal.nD Cert.Kernel5Ideal.τ).loc Cert.Kernel5Ideal.main_v0_1)) (v2 : (c : Dev Cert.Kernel5Ideal.nD) → Buf (Elt Ideal) ((c.tc : Thread Cert.Kernel5Ideal.nD Cert.Kernel5Ideal.τ).loc Cert.Kernel5Ideal.main_v1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0_0) = v0 c
          ∧ r.2.mem ((c.tc : Thread Cert.Kernel5Ideal.nD Cert.Kernel5Ideal.τ).loc Cert.Kernel5Ideal.main_v0_1) = v1 c
          ∧ r.2.mem ((c.tc : Thread Cert.Kernel5Ideal.nD Cert.Kernel5Ideal.τ).loc Cert.Kernel5Ideal.main_v1) = v2 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v61) = v0 c
          ∧ r.2.mem ((c.tc : Thread Cert.Reference5Ideal.nD Cert.Reference5Ideal.τ).loc Cert.Reference5Ideal.main_v63) = v1 c
          ∧ r.2.mem ((c.tc : Thread Cert.Reference5Ideal.nD Cert.Reference5Ideal.τ).loc Cert.Reference5Ideal.main_v64) = v2 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)) →
    ∃ (v0 : (c : Dev Cert.Kernel6Ideal.nD) → Buf (Elt Ideal) ((c.tc : Thread Cert.Kernel6Ideal.nD Cert.Kernel6Ideal.τ).loc Cert.Kernel6Ideal.main_v4)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v4) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v21) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hPre_attn_args : Cert.Pre_attn_args.Facts),
    quiescent_Kernel (hKernel := hKernel)
    ∧ quiescent_KernelIdeal (hKernelIdeal := hKernelIdeal)
    ∧ quiescent_KernelIdeal_pre_attn_args (hKernelIdeal := hKernelIdeal) (hPre_attn_args := hPre_attn_args)
    ∧ quiescent_ReferenceIdeal (hReferenceIdeal := hReferenceIdeal)
    ∧ quiescent_ReferenceIdeal_pre_attn_args (hReferenceIdeal := hReferenceIdeal) (hPre_attn_args := hPre_attn_args)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ preserves_Kernel_KernelIdeal
    ∧ algebraic_KernelIdeal_ReferenceIdeal_pre_attn_args (hKernelIdeal := hKernelIdeal) (hReferenceIdeal := hReferenceIdeal) (hPre_attn_args := hPre_attn_args)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
-- ==== Pre_attn_args.lean ====
abbrev S8 : Shape := ⟨1, ![8]⟩
abbrev S8x4096x1024 : Shape := ⟨3, ![8, 4096, 1024]⟩
abbrev S8x8x144x4096 : Shape := ⟨4, ![8, 8, 144, 4096]⟩
abbrev S8x2x512x512 : Shape := ⟨4, ![8, 2, 512, 512]⟩
abbrev S4x64 : Shape := ⟨2, ![4, 64]⟩
abbrev S1x128 : Shape := ⟨2, ![1, 128]⟩
abbrev S8x512x512 : Shape := ⟨3, ![8, 512, 512]⟩
abbrev S_ : Shape := ⟨0, ![]⟩
abbrev S8x8x1x4096 : Shape := ⟨4, ![8, 8, 1, 4096]⟩
abbrev S8x1x512x512 : Shape := ⟨4, ![8, 1, 512, 512]⟩

class Facts : Prop where
  bcast_S_S8 : S_.BroadcastsInDim S8 (![] : Fin 0 → Fin S8.rank)
  reducesTo_S8_S_d0 : S8.ReducesTo [0] S_
  h_S_ : 0 < S_.numel
  bitsLt_bf16_f32 : FTy.bits .bf16 < FTy.bits .f32
  slices_S8x8x144x4096_S8x8x1x4096_0_0_128_0 : S8x8x144x4096.Slices ![0, 0, 128, 0] S8x8x1x4096
  bcast_S_S8x8x1x4096 : S_.BroadcastsInDim S8x8x1x4096 (![] : Fin 0 → Fin S8x8x1x4096.rank)
  reducesTo_S8x8x1x4096_S_d0_1_2_3 : S8x8x1x4096.ReducesTo [0, 1, 2, 3] S_
  slices_S8x2x512x512_S8x1x512x512_0_1_0_0 : S8x2x512x512.Slices ![0, 1, 0, 0] S8x1x512x512
  shapeCasts_S8x1x512x512_S8x512x512 : S8x1x512x512.ShapeCasts S8x512x512
  bcast_S_S8x512x512 : S_.BroadcastsInDim S8x512x512 (![] : Fin 0 → Fin S8x512x512.rank)
  reducesTo_S8x512x512_S_d0_1_2 : S8x512x512.ReducesTo [0, 1, 2] S_

variable [Facts]

def fn_part1 {F : FTy → Type} [FloatOps F] (main_v7 : IVec S_ 1) (main_v12 : IVec S_ 1) (main_v13 : IVec S8x512x512 1) (main_v17 : IVec S8x512x512 1) : IVec S_ 1 :=
  let main_v18 : IVec S8x512x512 1 := ori main_v13 main_v17
  let main_c_4 : IVec S_ 1 := constantI S_ 1 1#1
  let main_v19 : IVec S_ 1 := (fun x v => Host.reduce IntOp.andi x v reducesTo_S8x512x512_S_d0_1_2 h_S_) main_v18 main_c_4
  let main_v20 : IVec S_ 1 := andi main_v7 main_v12
  let main_v21 : IVec S_ 1 := andi main_v20 main_v19
  main_v21

def fn {F : FTy → Type} [FloatOps F] (main_arg0 : FVec F S8 .f32) (main_arg1 : FVec F S8x4096x1024 .f32) (main_arg2 : FVec F S8x4096x1024 .bf16) (main_arg3 : FVec F S8x8x144x4096 .bf16) (main_arg4 : FVec F S8x2x512x512 .f32) (main_arg5 : FVec F S4x64 .f32) (main_arg6 : FVec F S1x128 .f32) : IVec S_ 1 :=
  let main_v0 : IVec S8x512x512 32 := iotaInDim S8x512x512 32 1
  let main_v1 : IVec S8x512x512 32 := iotaInDim S8x512x512 32 2
  let main_cst : FVec F S_ .f32 := constant S_ .f32 0xFF800000#32
  let main_v2 : FVec F S8 .f32 := broadcastInDim S8 ![] bcast_S_S8 main_cst
  let main_v3 : IVec S8 1 := cmpf .ogt main_arg0 main_v2
  let main_cst_0 : FVec F S_ .f32 := constant S_ .f32 0x7F800000#32
  let main_v4 : FVec F S8 .f32 := broadcastInDim S8 ![] bcast_S_S8 main_cst_0
  let main_v5 : IVec S8 1 := cmpf .olt main_arg0 main_v4
  let main_v6 : IVec S8 1 := andi main_v3 main_v5
  let main_c : IVec S_ 1 := constantI S_ 1 1#1
  let main_v7 : IVec S_ 1 := (fun x v => Host.reduce IntOp.andi x v reducesTo_S8_S_d0 h_S_) main_v6 main_c
  let main_v8 : FVec F S8x8x144x4096 .f32 := (extf .f32 · bitsLt_bf16_f32) main_arg3
  let main_v9 : FVec F S8x8x1x4096 .f32 := (extractStridedSlice S8x8x1x4096 ![0, 0, 128, 0] · slices_S8x8x144x4096_S8x8x1x4096_0_0_128_0) main_v8
  let main_cst_1 : FVec F S_ .f32 := constant S_ .f32 0x3F800000#32
  let main_v10 : FVec F S8x8x1x4096 .f32 := broadcastInDim S8x8x1x4096 ![] bcast_S_S8x8x1x4096 main_cst_1
  let main_v11 : IVec S8x8x1x4096 1 := cmpf .oeq main_v9 main_v10
  let main_c_2 : IVec S_ 1 := constantI S_ 1 1#1
  let main_v12 : IVec S_ 1 := (fun x v => Host.reduce IntOp.andi x v reducesTo_S8x8x1x4096_S_d0_1_2_3 h_S_) main_v11 main_c_2
  let main_v13 : IVec S8x512x512 1 := cmpi .sle main_v0 main_v1
  let main_v14 : FVec F S8x1x512x512 .f32 := (extractStridedSlice S8x1x512x512 ![0, 1, 0, 0] · slices_S8x2x512x512_S8x1x512x512_0_1_0_0) main_arg4
  let main_v15 : FVec F S8x512x512 .f32 := shapeCast S8x512x512 main_v14 shapeCasts_S8x1x512x512_S8x512x512
  let main_cst_3 : FVec F S_ .f32 := constant S_ .f32 0xFF800000#32
  let main_v16 : FVec F S8x512x512 .f32 := broadcastInDim S8x512x512 ![] bcast_S_S8x512x512 main_cst_3
  let main_v17 : IVec S8x512x512 1 := cmpf .oeq main_v15 main_v16
  fn_part1 (F := F) main_v7 main_v12 main_v13 main_v17
-- ==== Kernel.lean ====
abbrev S8 : Shape := ⟨1, ![8]⟩
abbrev S8x4096x1024 : Shape := ⟨3, ![8, 4096, 1024]⟩
abbrev S8x8x144x4096 : Shape := ⟨4, ![8, 8, 144, 4096]⟩
abbrev S8x2x512x512 : Shape := ⟨4, ![8, 2, 512, 512]⟩
abbrev S4x64 : Shape := ⟨2, ![4, 64]⟩
abbrev S1x128 : Shape := ⟨2, ![1, 128]⟩
abbrev S1x512x256 : Shape := ⟨3, ![1, 512, 256]⟩
abbrev S1x4096x256 : Shape := ⟨3, ![1, 4096, 256]⟩
abbrev S1x2x144x4096 : Shape := ⟨4, ![1, 2, 144, 4096]⟩
abbrev S2x2x512x512 : Shape := ⟨4, ![2, 2, 512, 512]⟩
abbrev S2x128x1024 : Shape := ⟨3, ![2, 128, 1024]⟩
abbrev S2x1x1024 : Shape := ⟨3, ![2, 1, 1024]⟩
abbrev S2x144x1024 : Shape := ⟨3, ![2, 144, 1024]⟩
abbrev S1x512x128 : Shape := ⟨3, ![1, 512, 128]⟩
abbrev S512x128 : Shape := ⟨2, ![512, 128]⟩
abbrev S1024x128 : Shape := ⟨2, ![1024, 128]⟩
abbrev S128x1024 : Shape := ⟨2, ![128, 1024]⟩
abbrev S1x128x1024 : Shape := ⟨3, ![1, 128, 1024]⟩
abbrev S1 : Shape := ⟨1, ![1]⟩
abbrev S1x1024x128 : Shape := ⟨3, ![1, 1024, 128]⟩
abbrev S1x1x144x1024 : Shape := ⟨4, ![1, 1, 144, 1024]⟩
abbrev S144x1024 : Shape := ⟨2, ![144, 1024]⟩
abbrev S1x128x256 : Shape := ⟨3, ![1, 128, 256]⟩
abbrev S128x256 : Shape := ⟨2, ![128, 256]⟩
abbrev S1024x256 : Shape := ⟨2, ![1024, 256]⟩
abbrev S1x1x256 : Shape := ⟨3, ![1, 1, 256]⟩
abbrev S1x256 : Shape := ⟨2, ![1, 256]⟩
abbrev S256 : Shape := ⟨1, ![256]⟩
abbrev S144x256 : Shape := ⟨2, ![144, 256]⟩
abbrev S1x144x256 : Shape := ⟨3, ![1, 144, 256]⟩
abbrev S1x1x144x512 : Shape := ⟨4, ![1, 1, 144, 512]⟩
abbrev S144x512 : Shape := ⟨2, ![144, 512]⟩
abbrev S512x256 : Shape := ⟨2, ![512, 256]⟩
abbrev S1x2x512x256 : Shape := ⟨4, ![1, 2, 512, 256]⟩
abbrev S2x512x256 : Shape := ⟨3, ![2, 512, 256]⟩
abbrev S1x1x512x256 : Shape := ⟨4, ![1, 1, 512, 256]⟩
abbrev S1x64 : Shape := ⟨2, ![1, 64]⟩
abbrev S1x1 : Shape := ⟨2, ![1, 1]⟩
abbrev S1x144x1024 : Shape := ⟨3, ![1, 144, 1024]⟩
abbrev S1x1024 : Shape := ⟨2, ![1, 1024]⟩
abbrev S128x512 : Shape := ⟨2, ![128, 512]⟩
abbrev S512 : Shape := ⟨1, ![512]⟩
abbrev S1x512 : Shape := ⟨2, ![1, 512]⟩

abbrev nBuf : Space → Nat
  | .hbm => 8
  | .vmem => 15
  | .smem => 1
  | _ => 0

abbrev bufTy : (tb : Table) → Fin (tcTables nBuf tb) → BufTy
  | .hbm, ⟨0, _⟩ => ⟨S8, .f32⟩
  | .hbm, ⟨1, _⟩ => ⟨S8x4096x1024, .f32⟩
  | .hbm, ⟨2, _⟩ => ⟨S8x4096x1024, .bf16⟩
  | .hbm, ⟨3, _⟩ => ⟨S8x8x144x4096, .bf16⟩
  | .hbm, ⟨4, _⟩ => ⟨S8x2x512x512, .f32⟩
  | .hbm, ⟨5, _⟩ => ⟨S4x64, .f32⟩
  | .hbm, ⟨6, _⟩ => ⟨S1x128, .f32⟩
  | .hbm, ⟨7, _⟩ => ⟨S8x4096x1024, .bf16⟩
  | .local _ .vmem, ⟨0, _⟩ => ⟨S1x512x256, .f32⟩
  | .local _ .vmem, ⟨1, _⟩ => ⟨S1x512x256, .f32⟩
  | .local _ .vmem, ⟨2, _⟩ => ⟨S1x4096x256, .bf16⟩
  | .local _ .vmem, ⟨3, _⟩ => ⟨S1x4096x256, .bf16⟩
  | .local _ .vmem, ⟨4, _⟩ => ⟨S1x2x144x4096, .bf16⟩
  | .local _ .vmem, ⟨5, _⟩ => ⟨S1x2x144x4096, .bf16⟩
  | .local _ .vmem, ⟨6, _⟩ => ⟨S2x2x512x512, .f32⟩
  | .local _ .vmem, ⟨7, _⟩ => ⟨S2x2x512x512, .f32⟩
  | .local _ .vmem, ⟨8, _⟩ => ⟨S4x64, .f32⟩
  | .local _ .vmem, ⟨9, _⟩ => ⟨S1x128, .f32⟩
  | .local _ .vmem, ⟨10, _⟩ => ⟨S1x512x256, .bf16⟩
  | .local _ .vmem, ⟨11, _⟩ => ⟨S1x512x256, .bf16⟩
  | .local _ .vmem, ⟨12, _⟩ => ⟨S2x128x1024, .bf16⟩
  | .local _ .vmem, ⟨13, _⟩ => ⟨S2x1x1024, .f32⟩
  | .local _ .vmem, ⟨14, _⟩ => ⟨S2x144x1024, .f32⟩
  | .local _ .smem, ⟨0, _⟩ => ⟨S8, .f32⟩
  | _, _ => ⟨S8, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .smem, ⟨0, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨3, ![8, 4, 8], ![false, false, false]⟩

def k0_off1 (i : grid0.Coords) (c0_i32 : BitVec 32) : Fin 1 → Nat :=
  let arg1 : BitVec 32 := BitVec.ofNat 32 (i 1).val
  let c2_i32 : BitVec 32 := 2#32
  let v0 : BitVec 32 := Scalar.muli arg1 c2_i32
  let v47 : BitVec 32 := Scalar.addi v0 c0_i32
  let v48 : Index := Scalar.indexCast v47
  ![v48.toNat]
@[reducible] def k0_t1_loop (i : grid0.Coords) : Scf.Loop 32 :=
  let c0_i32_37 : BitVec 32 := 0#32
  let arg2 : BitVec 32 := BitVec.ofNat 32 (i 2).val
  let c1_i32_27 : BitVec 32 := 1#32
  let v55 : BitVec 32 := Scalar.subi arg2 c1_i32_27
  let c0_i32_28 : BitVec 32 := 0#32
  let v56 : BitVec 32 := Scalar.maxsi v55 c0_i32_28
  let c0_i32_30 : BitVec 32 := 0#32
  let v58 : BitVec 1 := Scalar.cmpi .sgt v56 c0_i32_30
  let v59 : BitVec 32 := Scalar.extui v58
  let c0_i32_31 : BitVec 32 := 0#32
  let v60 : BitVec 1 := Scalar.cmpi .slt v56 c0_i32_31
  let v61 : BitVec 32 := Scalar.extui v60
  let v62 : BitVec 32 := Scalar.subi v59 v61
  let c2_i32_29 : BitVec 32 := 2#32
  let c0_i32_32 : BitVec 32 := 0#32
  let v63 : BitVec 1 := Scalar.cmpi .sgt c2_i32_29 c0_i32_32
  let v64 : BitVec 32 := Scalar.extui v63
  let c0_i32_33 : BitVec 32 := 0#32
  let v65 : BitVec 1 := Scalar.cmpi .slt c2_i32_29 c0_i32_33
  let v66 : BitVec 32 := Scalar.extui v65
  let v67 : BitVec 32 := Scalar.subi v64 v66
  let v68 : BitVec 1 := Scalar.cmpi .ne v62 v67
  let v69 : BitVec 32 := Scalar.remsi v56 c2_i32_29
  let c0_i32_34 : BitVec 32 := 0#32
  let v70 : BitVec 1 := Scalar.cmpi .ne v69 c0_i32_34
  let v71 : BitVec 1 := Scalar.andi v68 v70
  let v57 : BitVec 32 := Scalar.divsi v56 c2_i32_29
  let c1_i32_35 : BitVec 32 := 1#32
  let v72 : BitVec 32 := Scalar.subi v57 c1_i32_35
  let v73 : BitVec 32 := Scalar.select v71 v72 v57
  let v74 : BitVec 32 := Scalar.subi v73 c0_i32_37
  let c1_i32_38 : BitVec 32 := 1#32
  let v76 : BitVec 32 := Scalar.divsi v74 c1_i32_38
  let v77 : BitVec 32 := Scalar.muli v76 c1_i32_38
  let v78 : BitVec 32 := Scalar.addi c0_i32_37 v77
  let c1_i32_39 : BitVec 32 := 1#32
  ⟨c0_i32_37, v78, c1_i32_39⟩
def k0_mult1 (i : grid0.Coords) (k0_t1 : Fin (k0_t1_loop i).trips) : BitVec 32 :=
  let c0_i32_37 : BitVec 32 := 0#32
  let c1_i32_39 : BitVec 32 := 1#32
  let arg14 : BitVec 32 := Scf.iv c0_i32_37 c1_i32_39 k0_t1
  let c2_i32_82 : BitVec 32 := 2#32
  let v176 : BitVec 32 := Scalar.muli arg14 c2_i32_82
  let c512_i32 : BitVec 32 := 512#32
  let v177 : BitVec 32 := Scalar.muli v176 c512_i32
  v177
def k0_off2 (i : grid0.Coords) (k0_t1 : Fin (k0_t1_loop i).trips) : Fin 3 → Nat :=
  let c0_83 : Index := 0#32
  let c0_i32_37 : BitVec 32 := 0#32
  let c1_i32_39 : BitVec 32 := 1#32
  let arg14 : BitVec 32 := Scf.iv c0_i32_37 c1_i32_39 k0_t1
  let c2_i32_82 : BitVec 32 := 2#32
  let v176 : BitVec 32 := Scalar.muli arg14 c2_i32_82
  let c512_i32 : BitVec 32 := 512#32
  let v177 : BitVec 32 := Scalar.muli v176 c512_i32
  let v178 : BitVec 32 := v177
  let v179 : Index := Scalar.indexCast v178
  let c0_84 : Index := 0#32
  ![0, v179.toNat, 0]
def k0_off3 (i : grid0.Coords) (k0_t1 : Fin (k0_t1_loop i).trips) : Fin 3 → Nat :=
  let c0_85 : Index := 0#32
  let c0_i32_37 : BitVec 32 := 0#32
  let c1_i32_39 : BitVec 32 := 1#32
  let arg14 : BitVec 32 := Scf.iv c0_i32_37 c1_i32_39 k0_t1
  let c2_i32_82 : BitVec 32 := 2#32
  let v176 : BitVec 32 := Scalar.muli arg14 c2_i32_82
  let c512_i32 : BitVec 32 := 512#32
  let v177 : BitVec 32 := Scalar.muli v176 c512_i32
  let v178 : BitVec 32 := v177
  let v182 : Index := Scalar.indexCast v178
  let c128_86 : Index := 128#32
  ![0, v182.toNat, 128]
def k0_off4 (i : grid0.Coords) (k0_t1 : Fin (k0_t1_loop i).trips) : Fin 4 → Nat :=
  let c0_87 : Index := 0#32
  let c0_88 : Index := 0#32
  let c0_89 : Index := 0#32
  let c0_i32_37 : BitVec 32 := 0#32
  let c1_i32_39 : BitVec 32 := 1#32
  let arg14 : BitVec 32 := Scf.iv c0_i32_37 c1_i32_39 k0_t1
  let c2_i32_82 : BitVec 32 := 2#32
  let v176 : BitVec 32 := Scalar.muli arg14 c2_i32_82
  let c512_i32 : BitVec 32 := 512#32
  let v177 : BitVec 32 := Scalar.muli v176 c512_i32
  let v178 : BitVec 32 := v177
  let v185 : Index := Scalar.indexCast v178
  ![0, 0, 0, v185.toNat]
def k0_off5 (i : grid0.Coords) (k0_t1 : Fin (k0_t1_loop i).trips) : Fin 4 → Nat :=
  let c0_90 : Index := 0#32
  let c1_91 : Index := 1#32
  let c0_92 : Index := 0#32
  let c0_i32_37 : BitVec 32 := 0#32
  let c1_i32_39 : BitVec 32 := 1#32
  let arg14 : BitVec 32 := Scf.iv c0_i32_37 c1_i32_39 k0_t1
  let c2_i32_82 : BitVec 32 := 2#32
  let v176 : BitVec 32 := Scalar.muli arg14 c2_i32_82
  let c512_i32 : BitVec 32 := 512#32
  let v177 : BitVec 32 := Scalar.muli v176 c512_i32
  let v178 : BitVec 32 := v177
  let v188 : Index := Scalar.indexCast v178
  ![0, 1, 0, v188.toNat]
@[reducible] def k0_t2_loop (i : grid0.Coords) : Scf.Loop 32 :=
  let c0_i32_37 : BitVec 32 := 0#32
  let arg2 : BitVec 32 := BitVec.ofNat 32 (i 2).val
  let c1_i32_27 : BitVec 32 := 1#32
  let v55 : BitVec 32 := Scalar.subi arg2 c1_i32_27
  let c0_i32_28 : BitVec 32 := 0#32
  let v56 : BitVec 32 := Scalar.maxsi v55 c0_i32_28
  let c0_i32_30 : BitVec 32 := 0#32
  let v58 : BitVec 1 := Scalar.cmpi .sgt v56 c0_i32_30
  let v59 : BitVec 32 := Scalar.extui v58
  let c0_i32_31 : BitVec 32 := 0#32
  let v60 : BitVec 1 := Scalar.cmpi .slt v56 c0_i32_31
  let v61 : BitVec 32 := Scalar.extui v60
  let v62 : BitVec 32 := Scalar.subi v59 v61
  let c2_i32_29 : BitVec 32 := 2#32
  let c0_i32_32 : BitVec 32 := 0#32
  let v63 : BitVec 1 := Scalar.cmpi .sgt c2_i32_29 c0_i32_32
  let v64 : BitVec 32 := Scalar.extui v63
  let c0_i32_33 : BitVec 32 := 0#32
  let v65 : BitVec 1 := Scalar.cmpi .slt c2_i32_29 c0_i32_33
  let v66 : BitVec 32 := Scalar.extui v65
  let v67 : BitVec 32 := Scalar.subi v64 v66
  let v68 : BitVec 1 := Scalar.cmpi .ne v62 v67
  let v69 : BitVec 32 := Scalar.remsi v56 c2_i32_29
  let c0_i32_34 : BitVec 32 := 0#32
  let v70 : BitVec 1 := Scalar.cmpi .ne v69 c0_i32_34
  let v71 : BitVec 1 := Scalar.andi v68 v70
  let v57 : BitVec 32 := Scalar.divsi v56 c2_i32_29
  let c1_i32_35 : BitVec 32 := 1#32
  let v72 : BitVec 32 := Scalar.subi v57 c1_i32_35
  let v73 : BitVec 32 := Scalar.select v71 v72 v57
  let v74 : BitVec 32 := Scalar.subi v73 c0_i32_37
  let c1_i32_38 : BitVec 32 := 1#32
  let v76 : BitVec 32 := Scalar.divsi v74 c1_i32_38
  let v77 : BitVec 32 := Scalar.muli v76 c1_i32_38
  let v78 : BitVec 32 := Scalar.addi c0_i32_37 v77
  let v75 : BitVec 32 := Scalar.addi c0_i32_37 v74
  let c1_i32_40 : BitVec 32 := 1#32
  ⟨v78, v75, c1_i32_40⟩
def k0_mult2 (i : grid0.Coords) (k0_t2 : Fin (k0_t2_loop i).trips) : BitVec 32 :=
  let c0_i32_37 : BitVec 32 := 0#32
  let arg2 : BitVec 32 := BitVec.ofNat 32 (i 2).val
  let c1_i32_27 : BitVec 32 := 1#32
  let v55 : BitVec 32 := Scalar.subi arg2 c1_i32_27
  let c0_i32_28 : BitVec 32 := 0#32
  let v56 : BitVec 32 := Scalar.maxsi v55 c0_i32_28
  let c0_i32_30 : BitVec 32 := 0#32
  let v58 : BitVec 1 := Scalar.cmpi .sgt v56 c0_i32_30
  let v59 : BitVec 32 := Scalar.extui v58
  let c0_i32_31 : BitVec 32 := 0#32
  let v60 : BitVec 1 := Scalar.cmpi .slt v56 c0_i32_31
  let v61 : BitVec 32 := Scalar.extui v60
  let v62 : BitVec 32 := Scalar.subi v59 v61
  let c2_i32_29 : BitVec 32 := 2#32
  let c0_i32_32 : BitVec 32 := 0#32
  let v63 : BitVec 1 := Scalar.cmpi .sgt c2_i32_29 c0_i32_32
  let v64 : BitVec 32 := Scalar.extui v63
  let c0_i32_33 : BitVec 32 := 0#32
  let v65 : BitVec 1 := Scalar.cmpi .slt c2_i32_29 c0_i32_33
  let v66 : BitVec 32 := Scalar.extui v65
  let v67 : BitVec 32 := Scalar.subi v64 v66
  let v68 : BitVec 1 := Scalar.cmpi .ne v62 v67
  let v69 : BitVec 32 := Scalar.remsi v56 c2_i32_29
  let c0_i32_34 : BitVec 32 := 0#32
  let v70 : BitVec 1 := Scalar.cmpi .ne v69 c0_i32_34
  let v71 : BitVec 1 := Scalar.andi v68 v70
  let v57 : BitVec 32 := Scalar.divsi v56 c2_i32_29
  let c1_i32_35 : BitVec 32 := 1#32
  let v72 : BitVec 32 := Scalar.subi v57 c1_i32_35
  let v73 : BitVec 32 := Scalar.select v71 v72 v57
  let v74 : BitVec 32 := Scalar.subi v73 c0_i32_37
  let c1_i32_38 : BitVec 32 := 1#32
  let v76 : BitVec 32 := Scalar.divsi v74 c1_i32_38
  let v77 : BitVec 32 := Scalar.muli v76 c1_i32_38
  let v78 : BitVec 32 := Scalar.addi c0_i32_37 v77
  let c1_i32_40 : BitVec 32 := 1#32
  let arg14 : BitVec 32 := Scf.iv v78 c1_i32_40 k0_t2
  let c2_i32_82 : BitVec 32 := 2#32
  let v176 : BitVec 32 := Scalar.muli arg14 c2_i32_82
  let c512_i32 : BitVec 32 := 512#32
  let v177 : BitVec 32 := Scalar.muli v176 c512_i32
  v177
def k0_off6 (i : grid0.Coords) (k0_t2 : Fin (k0_t2_loop i).trips) : Fin 3 → Nat :=
  let c0_83 : Index := 0#32
  let c0_i32_37 : BitVec 32 := 0#32
  let arg2 : BitVec 32 := BitVec.ofNat 32 (i 2).val
  let c1_i32_27 : BitVec 32 := 1#32
  let v55 : BitVec 32 := Scalar.subi arg2 c1_i32_27
  let c0_i32_28 : BitVec 32 := 0#32
  let v56 : BitVec 32 := Scalar.maxsi v55 c0_i32_28
  let c0_i32_30 : BitVec 32 := 0#32
  let v58 : BitVec 1 := Scalar.cmpi .sgt v56 c0_i32_30
  let v59 : BitVec 32 := Scalar.extui v58
  let c0_i32_31 : BitVec 32 := 0#32
  let v60 : BitVec 1 := Scalar.cmpi .slt v56 c0_i32_31
  let v61 : BitVec 32 := Scalar.extui v60
  let v62 : BitVec 32 := Scalar.subi v59 v61
  let c2_i32_29 : BitVec 32 := 2#32
  let c0_i32_32 : BitVec 32 := 0#32
  let v63 : BitVec 1 := Scalar.cmpi .sgt c2_i32_29 c0_i32_32
  let v64 : BitVec 32 := Scalar.extui v63
  let c0_i32_33 : BitVec 32 := 0#32
  let v65 : BitVec 1 := Scalar.cmpi .slt c2_i32_29 c0_i32_33
  let v66 : BitVec 32 := Scalar.extui v65
  let v67 : BitVec 32 := Scalar.subi v64 v66
  let v68 : BitVec 1 := Scalar.cmpi .ne v62 v67
  let v69 : BitVec 32 := Scalar.remsi v56 c2_i32_29
  let c0_i32_34 : BitVec 32 := 0#32
  let v70 : BitVec 1 := Scalar.cmpi .ne v69 c0_i32_34
  let v71 : BitVec 1 := Scalar.andi v68 v70
  let v57 : BitVec 32 := Scalar.divsi v56 c2_i32_29
  let c1_i32_35 : BitVec 32 := 1#32
  let v72 : BitVec 32 := Scalar.subi v57 c1_i32_35
  let v73 : BitVec 32 := Scalar.select v71 v72 v57
  let v74 : BitVec 32 := Scalar.subi v73 c0_i32_37
  let c1_i32_38 : BitVec 32 := 1#32
  let v76 : BitVec 32 := Scalar.divsi v74 c1_i32_38
  let v77 : BitVec 32 := Scalar.muli v76 c1_i32_38
  let v78 : BitVec 32 := Scalar.addi c0_i32_37 v77
  let c1_i32_40 : BitVec 32 := 1#32
  let arg14 : BitVec 32 := Scf.iv v78 c1_i32_40 k0_t2
  let c2_i32_82 : BitVec 32 := 2#32
  let v176 : BitVec 32 := Scalar.muli arg14 c2_i32_82
  let c512_i32 : BitVec 32 := 512#32
  let v177 : BitVec 32 := Scalar.muli v176 c512_i32
  let v178 : BitVec 32 := v177
  let v179 : Index := Scalar.indexCast v178
  let c0_84 : Index := 0#32
  ![0, v179.toNat, 0]
def k0_off7 (i : grid0.Coords) (k0_t2 : Fin (k0_t2_loop i).trips) : Fin 3 → Nat :=
  let c0_85 : Index := 0#32
  let c0_i32_37 : BitVec 32 := 0#32
  let arg2 : BitVec 32 := BitVec.ofNat 32 (i 2).val
  let c1_i32_27 : BitVec 32 := 1#32
  let v55 : BitVec 32 := Scalar.subi arg2 c1_i32_27
  let c0_i32_28 : BitVec 32 := 0#32
  let v56 : BitVec 32 := Scalar.maxsi v55 c0_i32_28
  let c0_i32_30 : BitVec 32 := 0#32
  let v58 : BitVec 1 := Scalar.cmpi .sgt v56 c0_i32_30
  let v59 : BitVec 32 := Scalar.extui v58
  let c0_i32_31 : BitVec 32 := 0#32
  let v60 : BitVec 1 := Scalar.cmpi .slt v56 c0_i32_31
  let v61 : BitVec 32 := Scalar.extui v60
  let v62 : BitVec 32 := Scalar.subi v59 v61
  let c2_i32_29 : BitVec 32 := 2#32
  let c0_i32_32 : BitVec 32 := 0#32
  let v63 : BitVec 1 := Scalar.cmpi .sgt c2_i32_29 c0_i32_32
  let v64 : BitVec 32 := Scalar.extui v63
  let c0_i32_33 : BitVec 32 := 0#32
  let v65 : BitVec 1 := Scalar.cmpi .slt c2_i32_29 c0_i32_33
  let v66 : BitVec 32 := Scalar.extui v65
  let v67 : BitVec 32 := Scalar.subi v64 v66
  let v68 : BitVec 1 := Scalar.cmpi .ne v62 v67
  let v69 : BitVec 32 := Scalar.remsi v56 c2_i32_29
  let c0_i32_34 : BitVec 32 := 0#32
  let v70 : BitVec 1 := Scalar.cmpi .ne v69 c0_i32_34
  let v71 : BitVec 1 := Scalar.andi v68 v70
  let v57 : BitVec 32 := Scalar.divsi v56 c2_i32_29
  let c1_i32_35 : BitVec 32 := 1#32
  let v72 : BitVec 32 := Scalar.subi v57 c1_i32_35
  let v73 : BitVec 32 := Scalar.select v71 v72 v57
  let v74 : BitVec 32 := Scalar.subi v73 c0_i32_37
  let c1_i32_38 : BitVec 32 := 1#32
  let v76 : BitVec 32 := Scalar.divsi v74 c1_i32_38
  let v77 : BitVec 32 := Scalar.muli v76 c1_i32_38
  let v78 : BitVec 32 := Scalar.addi c0_i32_37 v77
  let c1_i32_40 : BitVec 32 := 1#32
  let arg14 : BitVec 32 := Scf.iv v78 c1_i32_40 k0_t2
  let c2_i32_82 : BitVec 32 := 2#32
  let v176 : BitVec 32 := Scalar.muli arg14 c2_i32_82
  let c512_i32 : BitVec 32 := 512#32
  let v177 : BitVec 32 := Scalar.muli v176 c512_i32
  let v178 : BitVec 32 := v177
  let v182 : Index := Scalar.indexCast v178
  let c128_86 : Index := 128#32
  ![0, v182.toNat, 128]
def k0_off8 (i : grid0.Coords) (k0_t2 : Fin (k0_t2_loop i).trips) : Fin 4 → Nat :=
  let c0_87 : Index := 0#32
  let c0_88 : Index := 0#32
  let c0_89 : Index := 0#32
  let c0_i32_37 : BitVec 32 := 0#32
  let arg2 : BitVec 32 := BitVec.ofNat 32 (i 2).val
  let c1_i32_27 : BitVec 32 := 1#32
  let v55 : BitVec 32 := Scalar.subi arg2 c1_i32_27
  let c0_i32_28 : BitVec 32 := 0#32
  let v56 : BitVec 32 := Scalar.maxsi v55 c0_i32_28
  let c0_i32_30 : BitVec 32 := 0#32
  let v58 : BitVec 1 := Scalar.cmpi .sgt v56 c0_i32_30
  let v59 : BitVec 32 := Scalar.extui v58
  let c0_i32_31 : BitVec 32 := 0#32
  let v60 : BitVec 1 := Scalar.cmpi .slt v56 c0_i32_31
  let v61 : BitVec 32 := Scalar.extui v60
  let v62 : BitVec 32 := Scalar.subi v59 v61
  let c2_i32_29 : BitVec 32 := 2#32
  let c0_i32_32 : BitVec 32 := 0#32
  let v63 : BitVec 1 := Scalar.cmpi .sgt c2_i32_29 c0_i32_32
  let v64 : BitVec 32 := Scalar.extui v63
  let c0_i32_33 : BitVec 32 := 0#32
  let v65 : BitVec 1 := Scalar.cmpi .slt c2_i32_29 c0_i32_33
  let v66 : BitVec 32 := Scalar.extui v65
  let v67 : BitVec 32 := Scalar.subi v64 v66
  let v68 : BitVec 1 := Scalar.cmpi .ne v62 v67
  let v69 : BitVec 32 := Scalar.remsi v56 c2_i32_29
  let c0_i32_34 : BitVec 32 := 0#32
  let v70 : BitVec 1 := Scalar.cmpi .ne v69 c0_i32_34
  let v71 : BitVec 1 := Scalar.andi v68 v70
  let v57 : BitVec 32 := Scalar.divsi v56 c2_i32_29
  let c1_i32_35 : BitVec 32 := 1#32
  let v72 : BitVec 32 := Scalar.subi v57 c1_i32_35
  let v73 : BitVec 32 := Scalar.select v71 v72 v57
  let v74 : BitVec 32 := Scalar.subi v73 c0_i32_37
  let c1_i32_38 : BitVec 32 := 1#32
  let v76 : BitVec 32 := Scalar.divsi v74 c1_i32_38
  let v77 : BitVec 32 := Scalar.muli v76 c1_i32_38
  let v78 : BitVec 32 := Scalar.addi c0_i32_37 v77
  let c1_i32_40 : BitVec 32 := 1#32
  let arg14 : BitVec 32 := Scf.iv v78 c1_i32_40 k0_t2
  let c2_i32_82 : BitVec 32 := 2#32
  let v176 : BitVec 32 := Scalar.muli arg14 c2_i32_82
  let c512_i32 : BitVec 32 := 512#32
  let v177 : BitVec 32 := Scalar.muli v176 c512_i32
  let v178 : BitVec 32 := v177
  let v185 : Index := Scalar.indexCast v178
  ![0, 0, 0, v185.toNat]
def k0_off9 (i : grid0.Coords) (k0_t2 : Fin (k0_t2_loop i).trips) : Fin 4 → Nat :=
  let c0_90 : Index := 0#32
  let c1_91 : Index := 1#32
  let c0_92 : Index := 0#32
  let c0_i32_37 : BitVec 32 := 0#32
  let arg2 : BitVec 32 := BitVec.ofNat 32 (i 2).val
  let c1_i32_27 : BitVec 32 := 1#32
  let v55 : BitVec 32 := Scalar.subi arg2 c1_i32_27
  let c0_i32_28 : BitVec 32 := 0#32
  let v56 : BitVec 32 := Scalar.maxsi v55 c0_i32_28
  let c0_i32_30 : BitVec 32 := 0#32
  let v58 : BitVec 1 := Scalar.cmpi .sgt v56 c0_i32_30
  let v59 : BitVec 32 := Scalar.extui v58
  let c0_i32_31 : BitVec 32 := 0#32
  let v60 : BitVec 1 := Scalar.cmpi .slt v56 c0_i32_31
  let v61 : BitVec 32 := Scalar.extui v60
  let v62 : BitVec 32 := Scalar.subi v59 v61
  let c2_i32_29 : BitVec 32 := 2#32
  let c0_i32_32 : BitVec 32 := 0#32
  let v63 : BitVec 1 := Scalar.cmpi .sgt c2_i32_29 c0_i32_32
  let v64 : BitVec 32 := Scalar.extui v63
  let c0_i32_33 : BitVec 32 := 0#32
  let v65 : BitVec 1 := Scalar.cmpi .slt c2_i32_29 c0_i32_33
  let v66 : BitVec 32 := Scalar.extui v65
  let v67 : BitVec 32 := Scalar.subi v64 v66
  let v68 : BitVec 1 := Scalar.cmpi .ne v62 v67
  let v69 : BitVec 32 := Scalar.remsi v56 c2_i32_29
  let c0_i32_34 : BitVec 32 := 0#32
  let v70 : BitVec 1 := Scalar.cmpi .ne v69 c0_i32_34
  let v71 : BitVec 1 := Scalar.andi v68 v70
  let v57 : BitVec 32 := Scalar.divsi v56 c2_i32_29
  let c1_i32_35 : BitVec 32 := 1#32
  let v72 : BitVec 32 := Scalar.subi v57 c1_i32_35
  let v73 : BitVec 32 := Scalar.select v71 v72 v57
  let v74 : BitVec 32 := Scalar.subi v73 c0_i32_37
  let c1_i32_38 : BitVec 32 := 1#32
  let v76 : BitVec 32 := Scalar.divsi v74 c1_i32_38
  let v77 : BitVec 32 := Scalar.muli v76 c1_i32_38
  let v78 : BitVec 32 := Scalar.addi c0_i32_37 v77
  let c1_i32_40 : BitVec 32 := 1#32
  let arg14 : BitVec 32 := Scf.iv v78 c1_i32_40 k0_t2
  let c2_i32_82 : BitVec 32 := 2#32
  let v176 : BitVec 32 := Scalar.muli arg14 c2_i32_82
  let c512_i32 : BitVec 32 := 512#32
  let v177 : BitVec 32 := Scalar.muli v176 c512_i32
  let v178 : BitVec 32 := v177
  let v188 : Index := Scalar.indexCast v178
  ![0, 1, 0, v188.toNat]
def k0_cond1 (i : grid0.Coords) : BitVec 1 :=
  let arg2 : BitVec 32 := BitVec.ofNat 32 (i 2).val
  let c1_i32_27 : BitVec 32 := 1#32
  let v55 : BitVec 32 := Scalar.subi arg2 c1_i32_27
  let c0_i32_28 : BitVec 32 := 0#32
  let v56 : BitVec 32 := Scalar.maxsi v55 c0_i32_28
  let c2_i32_41 : BitVec 32 := 2#32
  let c0_i32_42 : BitVec 32 := 0#32
  let v79 : BitVec 1 := Scalar.cmpi .eq c2_i32_41 c0_i32_42
  let c1_i32_43 : BitVec 32 := 1#32
  let v80 : BitVec 32 := Scalar.select v79 c1_i32_43 c2_i32_41
  let v81 : BitVec 32 := Scalar.remsi v56 v80
  let c0_i32_45 : BitVec 32 := 0#32
  let v83 : BitVec 1 := Scalar.cmpi .slt v81 c0_i32_45
  let c0_i32_46 : BitVec 32 := 0#32
  let v84 : BitVec 1 := Scalar.cmpi .slt v80 c0_i32_46
  let v85 : BitVec 1 := Scalar.xori v83 v84
  let c0_i32_44 : BitVec 32 := 0#32
  let v82 : BitVec 1 := Scalar.cmpi .ne v81 c0_i32_44
  let v86 : BitVec 1 := Scalar.andi v85 v82
  let v87 : BitVec 32 := Scalar.addi v81 v80
  let v88 : BitVec 32 := Scalar.select v86 v87 v81
  let c1_i32_47 : BitVec 32 := 1#32
  let v89 : BitVec 1 := Scalar.cmpi .eq v88 c1_i32_47
  let v90 : BitVec 32 := Scalar.extui v89
  let c0_i32_48 : BitVec 32 := 0#32
  let v91 : BitVec 1 := Scalar.cmpi .ne v90 c0_i32_48
  v91

def k0_mult3 (i : grid0.Coords) : BitVec 32 :=
  let arg2 : BitVec 32 := BitVec.ofNat 32 (i 2).val
  let c1_i32_27 : BitVec 32 := 1#32
  let v55 : BitVec 32 := Scalar.subi arg2 c1_i32_27
  let c0_i32_28 : BitVec 32 := 0#32
  let v56 : BitVec 32 := Scalar.maxsi v55 c0_i32_28
  let c1_i32_82 : BitVec 32 := 1#32
  let v176 : BitVec 32 := Scalar.subi v56 c1_i32_82
  let c512_i32 : BitVec 32 := 512#32
  let v177 : BitVec 32 := Scalar.muli v176 c512_i32
  v177
def k0_off10 (i : grid0.Coords) : Fin 3 → Nat :=
  let c0_83 : Index := 0#32
  let arg2 : BitVec 32 := BitVec.ofNat 32 (i 2).val
  let c1_i32_27 : BitVec 32 := 1#32
  let v55 : BitVec 32 := Scalar.subi arg2 c1_i32_27
  let c0_i32_28 : BitVec 32 := 0#32
  let v56 : BitVec 32 := Scalar.maxsi v55 c0_i32_28
  let c1_i32_82 : BitVec 32 := 1#32
  let v176 : BitVec 32 := Scalar.subi v56 c1_i32_82
  let c512_i32 : BitVec 32 := 512#32
  let v177 : BitVec 32 := Scalar.muli v176 c512_i32
  let v178 : BitVec 32 := v177
  let v179 : Index := Scalar.indexCast v178
  let c0_84 : Index := 0#32
  ![0, v179.toNat, 0]
def k0_off11 (i : grid0.Coords) : Fin 3 → Nat :=
  let c0_85 : Index := 0#32
  let arg2 : BitVec 32 := BitVec.ofNat 32 (i 2).val
  let c1_i32_27 : BitVec 32 := 1#32
  let v55 : BitVec 32 := Scalar.subi arg2 c1_i32_27
  let c0_i32_28 : BitVec 32 := 0#32
  let v56 : BitVec 32 := Scalar.maxsi v55 c0_i32_28
  let c1_i32_82 : BitVec 32 := 1#32
  let v176 : BitVec 32 := Scalar.subi v56 c1_i32_82
  let c512_i32 : BitVec 32 := 512#32
  let v177 : BitVec 32 := Scalar.muli v176 c512_i32
  let v178 : BitVec 32 := v177
  let v182 : Index := Scalar.indexCast v178
  let c128_86 : Index := 128#32
  ![0, v182.toNat, 128]
def k0_off12 (i : grid0.Coords) : Fin 4 → Nat :=
  let c0_87 : Index := 0#32
  let c0_88 : Index := 0#32
  let c0_89 : Index := 0#32
  let arg2 : BitVec 32 := BitVec.ofNat 32 (i 2).val
  let c1_i32_27 : BitVec 32 := 1#32
  let v55 : BitVec 32 := Scalar.subi arg2 c1_i32_27
  let c0_i32_28 : BitVec 32 := 0#32
  let v56 : BitVec 32 := Scalar.maxsi v55 c0_i32_28
  let c1_i32_82 : BitVec 32 := 1#32
  let v176 : BitVec 32 := Scalar.subi v56 c1_i32_82
  let c512_i32 : BitVec 32 := 512#32
  let v177 : BitVec 32 := Scalar.muli v176 c512_i32
  let v178 : BitVec 32 := v177
  let v185 : Index := Scalar.indexCast v178
  ![0, 0, 0, v185.toNat]
def k0_off13 (i : grid0.Coords) : Fin 4 → Nat :=
  let c0_90 : Index := 0#32
  let c1_91 : Index := 1#32
  let c0_92 : Index := 0#32
  let arg2 : BitVec 32 := BitVec.ofNat 32 (i 2).val
  let c1_i32_27 : BitVec 32 := 1#32
  let v55 : BitVec 32 := Scalar.subi arg2 c1_i32_27
  let c0_i32_28 : BitVec 32 := 0#32
  let v56 : BitVec 32 := Scalar.maxsi v55 c0_i32_28
  let c1_i32_82 : BitVec 32 := 1#32
  let v176 : BitVec 32 := Scalar.subi v56 c1_i32_82
  let c512_i32 : BitVec 32 := 512#32
  let v177 : BitVec 32 := Scalar.muli v176 c512_i32
  let v178 : BitVec 32 := v177
  let v188 : Index := Scalar.indexCast v178
  ![0, 1, 0, v188.toNat]
def k0_cond2 (i : grid0.Coords) : BitVec 1 :=
  let arg2 : BitVec 32 := BitVec.ofNat 32 (i 2).val
  let c1_i32_49 : BitVec 32 := 1#32
  let v92 : BitVec 1 := Scalar.cmpi .sge arg2 c1_i32_49
  let v93 : BitVec 32 := Scalar.extui v92
  let c0_i32_50 : BitVec 32 := 0#32
  let v94 : BitVec 1 := Scalar.cmpi .ne v93 c0_i32_50
  v94

def k0_mult4 (i : grid0.Coords) : BitVec 32 :=
  let arg2 : BitVec 32 := BitVec.ofNat 32 (i 2).val
  let c1_i32_82 : BitVec 32 := 1#32
  let v176 : BitVec 32 := Scalar.subi arg2 c1_i32_82
  let c512_i32 : BitVec 32 := 512#32
  let v177 : BitVec 32 := Scalar.muli v176 c512_i32
  v177
def k0_off14 (i : grid0.Coords) : Fin 3 → Nat :=
  let c0_83 : Index := 0#32
  let arg2 : BitVec 32 := BitVec.ofNat 32 (i 2).val
  let c1_i32_82 : BitVec 32 := 1#32
  let v176 : BitVec 32 := Scalar.subi arg2 c1_i32_82
  let c512_i32 : BitVec 32 := 512#32
  let v177 : BitVec 32 := Scalar.muli v176 c512_i32
  let v178 : BitVec 32 := v177
  let v179 : Index := Scalar.indexCast v178
  let c0_84 : Index := 0#32
  ![0, v179.toNat, 0]
def k0_off15 (i : grid0.Coords) : Fin 3 → Nat :=
  let c0_85 : Index := 0#32
  let arg2 : BitVec 32 := BitVec.ofNat 32 (i 2).val
  let c1_i32_82 : BitVec 32 := 1#32
  let v176 : BitVec 32 := Scalar.subi arg2 c1_i32_82
  let c512_i32 : BitVec 32 := 512#32
  let v177 : BitVec 32 := Scalar.muli v176 c512_i32
  let v178 : BitVec 32 := v177
  let v182 : Index := Scalar.indexCast v178
  let c128_86 : Index := 128#32
  ![0, v182.toNat, 128]
def k0_off16 (i : grid0.Coords) : Fin 4 → Nat :=
  let c0_87 : Index := 0#32
  let c0_88 : Index := 0#32
  let c0_89 : Index := 0#32
  let arg2 : BitVec 32 := BitVec.ofNat 32 (i 2).val
  let c1_i32_82 : BitVec 32 := 1#32
  let v176 : BitVec 32 := Scalar.subi arg2 c1_i32_82
  let c512_i32 : BitVec 32 := 512#32
  let v177 : BitVec 32 := Scalar.muli v176 c512_i32
  let v178 : BitVec 32 := v177
  let v185 : Index := Scalar.indexCast v178
  ![0, 0, 0, v185.toNat]
def k0_off17 (i : grid0.Coords) : Fin 4 → Nat :=
  let c0_90 : Index := 0#32
  let c1_91 : Index := 1#32
  let c0_92 : Index := 0#32
  let arg2 : BitVec 32 := BitVec.ofNat 32 (i 2).val
  let c1_i32_82 : BitVec 32 := 1#32
  let v176 : BitVec 32 := Scalar.subi arg2 c1_i32_82
  let c512_i32 : BitVec 32 := 512#32
  let v177 : BitVec 32 := Scalar.muli v176 c512_i32
  let v178 : BitVec 32 := v177
  let v188 : Index := Scalar.indexCast v178
  ![0, 1, 0, v188.toNat]
def cc0_transform_0 (i : grid0.Coords) : Fin 1 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_4 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![arg1.toNat, c0_i32.toNat, c0_i32_0.toNat, c0_i32_1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 1 → Memref sig .tc .smem S8 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false, false]

abbrev stage0_1 : Fin 2 → Memref sig .tc .vmem S1x512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x4096x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x2x144x4096 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S2x2x512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true, false]

abbrev stage0_5 : Fin 1 → Memref sig .tc .vmem S4x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false, false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false, false]

abbrev stage0_7 : Fin 2 → Memref sig .tc .vmem S1x512x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]
-- ==== KernelIdeal.lean ====
variable {F : FTy → Type} [FloatOps F] [Named F]
def κ : String → Option EReal := fun
  | "log2e" => some (((Real.log 2)⁻¹ : ℝ) : EReal)
  | "scale" => some (((1 / 8) * (Real.log 2)⁻¹ : ℝ) : EReal)
  | _ => none
-- ==== ReferenceIdeal.lean ====
abbrev S8 : Shape := ⟨1, ![8]⟩
abbrev S8x4096x1024 : Shape := ⟨3, ![8, 4096, 1024]⟩
abbrev S8x8x144x4096 : Shape := ⟨4, ![8, 8, 144, 4096]⟩
abbrev S8x2x512x512 : Shape := ⟨4, ![8, 2, 512, 512]⟩
abbrev S4x64 : Shape := ⟨2, ![4, 64]⟩
abbrev S1x128 : Shape := ⟨2, ![1, 128]⟩
abbrev S_ : Shape := ⟨0, ![]⟩
abbrev S8x4096x8x2x64 : Shape := ⟨5, ![8, 4096, 8, 2, 64]⟩
abbrev S8x8x128x4096 : Shape := ⟨4, ![8, 8, 128, 4096]⟩
abbrev S8x4096x4096 : Shape := ⟨3, ![8, 4096, 4096]⟩
abbrev S8x1x512x512 : Shape := ⟨4, ![8, 1, 512, 512]⟩
abbrev S8x512x512 : Shape := ⟨3, ![8, 512, 512]⟩
abbrev S8x1x512x1x512 : Shape := ⟨5, ![8, 1, 512, 1, 512]⟩
abbrev S8x8x512x8x512 : Shape := ⟨5, ![8, 8, 512, 8, 512]⟩
abbrev S8x1x1 : Shape := ⟨3, ![8, 1, 1]⟩
abbrev S8x8x2x4096x4096 : Shape := ⟨5, ![8, 8, 2, 4096, 4096]⟩
abbrev S1x8x1x4096x4096 : Shape := ⟨5, ![1, 8, 1, 4096, 4096]⟩
abbrev S1x4096x4096 : Shape := ⟨3, ![1, 4096, 4096]⟩
abbrev S4096x4096 : Shape := ⟨2, ![4096, 4096]⟩
abbrev S8x8x2x4096 : Shape := ⟨4, ![8, 8, 2, 4096]⟩
abbrev S8x8x2x4096x1 : Shape := ⟨5, ![8, 8, 2, 4096, 1]⟩
abbrev S8x8x2x4096x128 : Shape := ⟨5, ![8, 8, 2, 4096, 128]⟩
abbrev S1x64 : Shape := ⟨2, ![1, 64]⟩
abbrev S64 : Shape := ⟨1, ![64]⟩
abbrev S8x8x1x4096x128 : Shape := ⟨5, ![8, 8, 1, 4096, 128]⟩
abbrev S8x8x4096x128 : Shape := ⟨4, ![8, 8, 4096, 128]⟩
abbrev S8x8x4096 : Shape := ⟨3, ![8, 8, 4096]⟩
abbrev S8x8x4096x1 : Shape := ⟨4, ![8, 8, 4096, 1]⟩
abbrev S128 : Shape := ⟨1, ![128]⟩
abbrev S1x1x1x128 : Shape := ⟨4, ![1, 1, 1, 128]⟩
abbrev S8x4096x8x128 : Shape := ⟨4, ![8, 4096, 8, 128]⟩

abbrev nBuf : Space → Nat
  | .hbm => 153
  | .vmem => 0
  | .smem => 0
  | _ => 0

abbrev hbmTy0_0 (i : Nat) : BufTy := match i % 128 with
  | 0 => ⟨S8, .f32⟩
  | 1 => ⟨S8x4096x1024, .f32⟩
  | 2 => ⟨S8x4096x1024, .bf16⟩
  | 3 => ⟨S8x8x144x4096, .bf16⟩
  | 4 => ⟨S8x2x512x512, .f32⟩
  | 5 => ⟨S4x64, .f32⟩
  | 6 => ⟨S1x128, .f32⟩
  | 7 => ⟨S_, .f32⟩
  | 8 => ⟨S8x4096x1024, .f32⟩
  | 9 => ⟨S8x4096x1024, .f32⟩
  | 10 => ⟨S8x4096x8x2x64, .f32⟩
  | 11 => ⟨S8x4096x1024, .f32⟩
  | 12 => ⟨S8x4096x8x2x64, .f32⟩
  | 13 => ⟨S8x8x144x4096, .f32⟩
  | 14 => ⟨S8x8x128x4096, .f32⟩
  | 15 => ⟨S_, .f32⟩
  | 16 => ⟨S_, .f32⟩
  | 17 => ⟨S8x2x512x512, .f32⟩
  | 18 => ⟨S8x2x512x512, .f32⟩
  | 19 => ⟨S8x4096x4096, .i32⟩
  | 20 => ⟨S8x4096x4096, .i32⟩
  | 21 => ⟨S_, .i32⟩
  | 22 => ⟨S_, .i32⟩
  | 23 => ⟨S8x4096x4096, .i32⟩
  | 24 => ⟨S8x4096x4096, .i32⟩
  | 25 => ⟨S8x4096x4096, .i32⟩
  | 26 => ⟨S_, .i32⟩
  | 27 => ⟨S8x4096x4096, .i32⟩
  | 28 => ⟨S8x4096x4096, .i1⟩
  | 29 => ⟨S8x4096x4096, .i32⟩
  | 30 => ⟨S8x4096x4096, .i32⟩
  | 31 => ⟨S_, .i32⟩
  | 32 => ⟨S8x4096x4096, .i32⟩
  | 33 => ⟨S8x4096x4096, .i1⟩
  | 34 => ⟨S8x4096x4096, .i1⟩
  | 35 => ⟨S_, .i32⟩
  | 36 => ⟨S8x4096x4096, .i32⟩
  | 37 => ⟨S8x4096x4096, .i32⟩
  | 38 => ⟨S8x4096x4096, .i32⟩
  | 39 => ⟨S_, .i32⟩
  | 40 => ⟨S_, .i32⟩
  | 41 => ⟨S8x4096x4096, .i32⟩
  | 42 => ⟨S8x4096x4096, .i32⟩
  | 43 => ⟨S8x4096x4096, .i32⟩
  | 44 => ⟨S_, .i32⟩
  | 45 => ⟨S8x4096x4096, .i32⟩
  | 46 => ⟨S8x4096x4096, .i1⟩
  | 47 => ⟨S8x4096x4096, .i32⟩
  | 48 => ⟨S8x4096x4096, .i32⟩
  | 49 => ⟨S_, .i32⟩
  | 50 => ⟨S8x4096x4096, .i32⟩
  | 51 => ⟨S8x4096x4096, .i1⟩
  | 52 => ⟨S8x4096x4096, .i1⟩
  | 53 => ⟨S_, .i32⟩
  | 54 => ⟨S8x4096x4096, .i32⟩
  | 55 => ⟨S8x4096x4096, .i32⟩
  | 56 => ⟨S8x4096x4096, .i32⟩
  | 57 => ⟨S8x4096x4096, .i32⟩
  | 58 => ⟨S_, .i32⟩
  | 59 => ⟨S8x4096x4096, .i32⟩
  | 60 => ⟨S8x4096x4096, .i1⟩
  | 61 => ⟨S8x1x512x512, .f32⟩
  | 62 => ⟨S8x512x512, .f32⟩
  | 63 => ⟨S8x512x512, .f32⟩
  | 64 => ⟨S8x1x512x1x512, .f32⟩
  | 65 => ⟨S8x8x512x8x512, .f32⟩
  | 66 => ⟨S8x4096x4096, .f32⟩
  | 67 => ⟨S_, .i32⟩
  | 68 => ⟨S8x4096x4096, .i32⟩
  | 69 => ⟨S8x4096x4096, .i1⟩
  | 70 => ⟨S8x1x512x512, .f32⟩
  | 71 => ⟨S8x512x512, .f32⟩
  | 72 => ⟨S8x512x512, .f32⟩
  | 73 => ⟨S8x1x512x1x512, .f32⟩
  | 74 => ⟨S8x8x512x8x512, .f32⟩
  | 75 => ⟨S8x4096x4096, .f32⟩
  | 76 => ⟨S8x1x1, .f32⟩
  | 77 => ⟨S8x4096x4096, .f32⟩
  | 78 => ⟨S8x4096x4096, .f32⟩
  | 79 => ⟨S8x4096x4096, .f32⟩
  | 80 => ⟨S8x8x2x4096x4096, .f32⟩
  | 81 => ⟨S1x8x1x4096x4096, .f32⟩
  | 82 => ⟨S8x8x2x4096x4096, .f32⟩
  | 83 => ⟨S8x8x2x4096x4096, .f32⟩
  | 84 => ⟨S8x4096x4096, .i1⟩
  | 85 => ⟨S1x4096x4096, .i1⟩
  | 86 => ⟨S4096x4096, .i1⟩
  | 87 => ⟨S_, .f32⟩
  | 88 => ⟨S_, .f32⟩
  | 89 => ⟨S8x8x2x4096x4096, .i1⟩
  | 90 => ⟨S8x8x2x4096x4096, .f32⟩
  | 91 => ⟨S8x8x2x4096x4096, .f32⟩
  | 92 => ⟨S_, .f32⟩
  | 93 => ⟨S8x8x2x4096, .f32⟩
  | 94 => ⟨S8x8x2x4096x1, .f32⟩
  | 95 => ⟨S8x8x2x4096x4096, .f32⟩
  | 96 => ⟨S8x8x2x4096x4096, .f32⟩
  | 97 => ⟨S8x8x2x4096x4096, .f32⟩
  | 98 => ⟨S8x8x2x4096x128, .f32⟩
  | 99 => ⟨S_, .f32⟩
  | 100 => ⟨S8x8x2x4096, .f32⟩
  | 101 => ⟨S8x8x2x4096x1, .f32⟩
  | 102 => ⟨S8x8x2x4096x128, .f32⟩
  | 103 => ⟨S8x8x2x4096x128, .f32⟩
  | 104 => ⟨S1x64, .f32⟩
  | 105 => ⟨S64, .f32⟩
  | 106 => ⟨S1x64, .f32⟩
  | 107 => ⟨S64, .f32⟩
  | 108 => ⟨S64, .f32⟩
  | 109 => ⟨S_, .f32⟩
  | 110 => ⟨S_, .f32⟩
  | 111 => ⟨S_, .f32⟩
  | 112 => ⟨S1x64, .f32⟩
  | 113 => ⟨S64, .f32⟩
  | 114 => ⟨S1x64, .f32⟩
  | 115 => ⟨S64, .f32⟩
  | 116 => ⟨S64, .f32⟩
  | 117 => ⟨S_, .f32⟩
  | 118 => ⟨S_, .f32⟩
  | 119 => ⟨S_, .f32⟩
  | 120 => ⟨S_, .f32⟩
  | 121 => ⟨S_, .f32⟩
  | 122 => ⟨S_, .f32⟩
  | 123 => ⟨S8x8x1x4096x128, .f32⟩
  | 124 => ⟨S8x8x4096x128, .f32⟩
  | 125 => ⟨S8x8x1x4096x128, .f32⟩
  | 126 => ⟨S8x8x4096x128, .f32⟩
  | 127 => ⟨S8x8x4096x128, .f32⟩
  | _ => ⟨S8, .f32⟩

abbrev hbmTy0_1 (i : Nat) : BufTy := match i % 128 with
  | 0 => ⟨S8x8x4096x128, .f32⟩
  | 1 => ⟨S8x8x4096x128, .f32⟩
  | 2 => ⟨S8x8x4096x128, .f32⟩
  | 3 => ⟨S_, .f32⟩
  | 4 => ⟨S8x8x4096, .f32⟩
  | 5 => ⟨S8x8x4096x1, .f32⟩
  | 6 => ⟨S_, .f32⟩
  | 7 => ⟨S8x8x4096x1, .f32⟩
  | 8 => ⟨S8x8x4096x1, .f32⟩
  | 9 => ⟨S_, .f32⟩
  | 10 => ⟨S8x8x4096x1, .f32⟩
  | 11 => ⟨S8x8x4096x1, .f32⟩
  | 12 => ⟨S8x8x4096x1, .f32⟩
  | 13 => ⟨S8x8x4096x128, .f32⟩
  | 14 => ⟨S8x8x4096x128, .f32⟩
  | 15 => ⟨S128, .f32⟩
  | 16 => ⟨S1x1x1x128, .f32⟩
  | 17 => ⟨S8x8x4096x128, .f32⟩
  | 18 => ⟨S8x8x4096x128, .f32⟩
  | 19 => ⟨S_, .f32⟩
  | 20 => ⟨S8x8x4096x128, .f32⟩
  | 21 => ⟨S8x8x4096x128, .f32⟩
  | 22 => ⟨S8x4096x8x128, .f32⟩
  | 23 => ⟨S8x4096x1024, .f32⟩
  | 24 => ⟨S8x4096x1024, .bf16⟩
  | _ => ⟨S8, .f32⟩

abbrev hbmTy (i : Nat) : BufTy := match i / 128 with
  | 0 => hbmTy0_0 i
  | 1 => hbmTy0_1 i
  | _ => ⟨S8, .f32⟩

abbrev bufTy : (tb : Table) → Fin (tcTables nBuf tb) → BufTy
  | .hbm, ⟨i, _⟩ => hbmTy i
  | _, _ => ⟨S8, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst_0 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_c : Ref sig .tc := ⟨.hbm, 21, rfl⟩
abbrev main_call0_v0 : Ref sig .tc := ⟨.hbm, 22, rfl⟩
abbrev main_call0_v1 : Ref sig .tc := ⟨.hbm, 23, rfl⟩
abbrev main_call0_v2 : Ref sig .tc := ⟨.hbm, 24, rfl⟩
abbrev main_call0_v3 : Ref sig .tc := ⟨.hbm, 25, rfl⟩
abbrev main_call0_v4 : Ref sig .tc := ⟨.hbm, 26, rfl⟩
abbrev main_call0_v5 : Ref sig .tc := ⟨.hbm, 27, rfl⟩
abbrev main_call0_v6 : Ref sig .tc := ⟨.hbm, 28, rfl⟩
abbrev main_call0_v7 : Ref sig .tc := ⟨.hbm, 29, rfl⟩
abbrev main_call0_v8 : Ref sig .tc := ⟨.hbm, 30, rfl⟩
abbrev main_call0_c : Ref sig .tc := ⟨.hbm, 31, rfl⟩
abbrev main_call0_v9 : Ref sig .tc := ⟨.hbm, 32, rfl⟩
abbrev main_call0_v10 : Ref sig .tc := ⟨.hbm, 33, rfl⟩
abbrev main_call0_v11 : Ref sig .tc := ⟨.hbm, 34, rfl⟩
abbrev main_call0_c_0 : Ref sig .tc := ⟨.hbm, 35, rfl⟩
abbrev main_call0_v12 : Ref sig .tc := ⟨.hbm, 36, rfl⟩
abbrev main_call0_v13 : Ref sig .tc := ⟨.hbm, 37, rfl⟩
abbrev main_v12 : Ref sig .tc := ⟨.hbm, 38, rfl⟩
abbrev main_c_1 : Ref sig .tc := ⟨.hbm, 39, rfl⟩
abbrev main_call1_v0 : Ref sig .tc := ⟨.hbm, 40, rfl⟩
abbrev main_call1_v1 : Ref sig .tc := ⟨.hbm, 41, rfl⟩
abbrev main_call1_v2 : Ref sig .tc := ⟨.hbm, 42, rfl⟩
abbrev main_call1_v3 : Ref sig .tc := ⟨.hbm, 43, rfl⟩
abbrev main_call1_v4 : Ref sig .tc := ⟨.hbm, 44, rfl⟩
abbrev main_call1_v5 : Ref sig .tc := ⟨.hbm, 45, rfl⟩
abbrev main_call1_v6 : Ref sig .tc := ⟨.hbm, 46, rfl⟩
abbrev main_call1_v7 : Ref sig .tc := ⟨.hbm, 47, rfl⟩
abbrev main_call1_v8 : Ref sig .tc := ⟨.hbm, 48, rfl⟩
abbrev main_call1_c : Ref sig .tc := ⟨.hbm, 49, rfl⟩
abbrev main_call1_v9 : Ref sig .tc := ⟨.hbm, 50, rfl⟩
abbrev main_call1_v10 : Ref sig .tc := ⟨.hbm, 51, rfl⟩
abbrev main_call1_v11 : Ref sig .tc := ⟨.hbm, 52, rfl⟩
abbrev main_call1_c_0 : Ref sig .tc := ⟨.hbm, 53, rfl⟩
abbrev main_call1_v12 : Ref sig .tc := ⟨.hbm, 54, rfl⟩
abbrev main_call1_v13 : Ref sig .tc := ⟨.hbm, 55, rfl⟩
abbrev main_v13 : Ref sig .tc := ⟨.hbm, 56, rfl⟩
abbrev main_v14 : Ref sig .tc := ⟨.hbm, 57, rfl⟩
abbrev main_c_2 : Ref sig .tc := ⟨.hbm, 58, rfl⟩
abbrev main_v15 : Ref sig .tc := ⟨.hbm, 59, rfl⟩
abbrev main_v16 : Ref sig .tc := ⟨.hbm, 60, rfl⟩
abbrev main_v17 : Ref sig .tc := ⟨.hbm, 61, rfl⟩
abbrev main_v18 : Ref sig .tc := ⟨.hbm, 62, rfl⟩
abbrev main_v19 : Ref sig .tc := ⟨.hbm, 63, rfl⟩
abbrev main_v20 : Ref sig .tc := ⟨.hbm, 64, rfl⟩
abbrev main_v21 : Ref sig .tc := ⟨.hbm, 65, rfl⟩
abbrev main_v22 : Ref sig .tc := ⟨.hbm, 66, rfl⟩
abbrev main_c_3 : Ref sig .tc := ⟨.hbm, 67, rfl⟩
abbrev main_v23 : Ref sig .tc := ⟨.hbm, 68, rfl⟩
abbrev main_v24 : Ref sig .tc := ⟨.hbm, 69, rfl⟩
abbrev main_v25 : Ref sig .tc := ⟨.hbm, 70, rfl⟩
abbrev main_v26 : Ref sig .tc := ⟨.hbm, 71, rfl⟩
abbrev main_v27 : Ref sig .tc := ⟨.hbm, 72, rfl⟩
abbrev main_v28 : Ref sig .tc := ⟨.hbm, 73, rfl⟩
abbrev main_v29 : Ref sig .tc := ⟨.hbm, 74, rfl⟩
abbrev main_v30 : Ref sig .tc := ⟨.hbm, 75, rfl⟩
abbrev main_v31 : Ref sig .tc := ⟨.hbm, 76, rfl⟩
abbrev main_v32 : Ref sig .tc := ⟨.hbm, 77, rfl⟩
abbrev main_v33 : Ref sig .tc := ⟨.hbm, 78, rfl⟩
abbrev main_v34 : Ref sig .tc := ⟨.hbm, 79, rfl⟩
abbrev main_v35 : Ref sig .tc := ⟨.hbm, 80, rfl⟩
abbrev main_v36 : Ref sig .tc := ⟨.hbm, 81, rfl⟩
abbrev main_v37 : Ref sig .tc := ⟨.hbm, 82, rfl⟩
abbrev main_v38 : Ref sig .tc := ⟨.hbm, 83, rfl⟩
abbrev main_v39 : Ref sig .tc := ⟨.hbm, 84, rfl⟩
abbrev main_v40 : Ref sig .tc := ⟨.hbm, 85, rfl⟩
abbrev main_v41 : Ref sig .tc := ⟨.hbm, 86, rfl⟩
abbrev main_cst_4 : Ref sig .tc := ⟨.hbm, 87, rfl⟩
abbrev main_call4_v0 : Ref sig .tc := ⟨.hbm, 88, rfl⟩
abbrev main_call4_v1 : Ref sig .tc := ⟨.hbm, 89, rfl⟩
abbrev main_call4_v2 : Ref sig .tc := ⟨.hbm, 90, rfl⟩
abbrev main_v42 : Ref sig .tc := ⟨.hbm, 91, rfl⟩
abbrev main_cst_5 : Ref sig .tc := ⟨.hbm, 92, rfl⟩
abbrev main_v43 : Ref sig .tc := ⟨.hbm, 93, rfl⟩
abbrev main_v44 : Ref sig .tc := ⟨.hbm, 94, rfl⟩
abbrev main_v45 : Ref sig .tc := ⟨.hbm, 95, rfl⟩
abbrev main_v46 : Ref sig .tc := ⟨.hbm, 96, rfl⟩
abbrev main_v47 : Ref sig .tc := ⟨.hbm, 97, rfl⟩
abbrev main_v48 : Ref sig .tc := ⟨.hbm, 98, rfl⟩
abbrev main_cst_6 : Ref sig .tc := ⟨.hbm, 99, rfl⟩
abbrev main_v49 : Ref sig .tc := ⟨.hbm, 100, rfl⟩
abbrev main_v50 : Ref sig .tc := ⟨.hbm, 101, rfl⟩
abbrev main_v51 : Ref sig .tc := ⟨.hbm, 102, rfl⟩
abbrev main_v52 : Ref sig .tc := ⟨.hbm, 103, rfl⟩
abbrev main_v53 : Ref sig .tc := ⟨.hbm, 104, rfl⟩
abbrev main_v54 : Ref sig .tc := ⟨.hbm, 105, rfl⟩
abbrev main_v55 : Ref sig .tc := ⟨.hbm, 106, rfl⟩
abbrev main_v56 : Ref sig .tc := ⟨.hbm, 107, rfl⟩
abbrev main_v57 : Ref sig .tc := ⟨.hbm, 108, rfl⟩
abbrev main_cst_7 : Ref sig .tc := ⟨.hbm, 109, rfl⟩
abbrev main_v58 : Ref sig .tc := ⟨.hbm, 110, rfl⟩
abbrev main_v59 : Ref sig .tc := ⟨.hbm, 111, rfl⟩
abbrev main_v60 : Ref sig .tc := ⟨.hbm, 112, rfl⟩
abbrev main_v61 : Ref sig .tc := ⟨.hbm, 113, rfl⟩
abbrev main_v62 : Ref sig .tc := ⟨.hbm, 114, rfl⟩
abbrev main_v63 : Ref sig .tc := ⟨.hbm, 115, rfl⟩
abbrev main_v64 : Ref sig .tc := ⟨.hbm, 116, rfl⟩
abbrev main_cst_8 : Ref sig .tc := ⟨.hbm, 117, rfl⟩
abbrev main_v65 : Ref sig .tc := ⟨.hbm, 118, rfl⟩
abbrev main_v66 : Ref sig .tc := ⟨.hbm, 119, rfl⟩
abbrev main_v67 : Ref sig .tc := ⟨.hbm, 120, rfl⟩
abbrev main_cst_9 : Ref sig .tc := ⟨.hbm, 121, rfl⟩
abbrev main_v68 : Ref sig .tc := ⟨.hbm, 122, rfl⟩
abbrev main_v69 : Ref sig .tc := ⟨.hbm, 123, rfl⟩
abbrev main_v70 : Ref sig .tc := ⟨.hbm, 124, rfl⟩
abbrev main_v71 : Ref sig .tc := ⟨.hbm, 125, rfl⟩
abbrev main_v72 : Ref sig .tc := ⟨.hbm, 126, rfl⟩
abbrev main_v73 : Ref sig .tc := ⟨.hbm, 127, rfl⟩
abbrev main_v74 : Ref sig .tc := ⟨.hbm, 128, rfl⟩
abbrev main_v75 : Ref sig .tc := ⟨.hbm, 129, rfl⟩
abbrev main_v76 : Ref sig .tc := ⟨.hbm, 130, rfl⟩
abbrev main_cst_10 : Ref sig .tc := ⟨.hbm, 131, rfl⟩
abbrev main_v77 : Ref sig .tc := ⟨.hbm, 132, rfl⟩
abbrev main_v78 : Ref sig .tc := ⟨.hbm, 133, rfl⟩
abbrev main_cst_11 : Ref sig .tc := ⟨.hbm, 134, rfl⟩
abbrev main_v79 : Ref sig .tc := ⟨.hbm, 135, rfl⟩
abbrev main_v80 : Ref sig .tc := ⟨.hbm, 136, rfl⟩
abbrev main_cst_12 : Ref sig .tc := ⟨.hbm, 137, rfl⟩
abbrev main_v81 : Ref sig .tc := ⟨.hbm, 138, rfl⟩
abbrev main_v82 : Ref sig .tc := ⟨.hbm, 139, rfl⟩
abbrev main_v83 : Ref sig .tc := ⟨.hbm, 140, rfl⟩
abbrev main_v84 : Ref sig .tc := ⟨.hbm, 141, rfl⟩
abbrev main_v85 : Ref sig .tc := ⟨.hbm, 142, rfl⟩
abbrev main_v86 : Ref sig .tc := ⟨.hbm, 143, rfl⟩
abbrev main_v87 : Ref sig .tc := ⟨.hbm, 144, rfl⟩
abbrev main_v88 : Ref sig .tc := ⟨.hbm, 145, rfl⟩
abbrev main_v89 : Ref sig .tc := ⟨.hbm, 146, rfl⟩
abbrev main_cst_13 : Ref sig .tc := ⟨.hbm, 147, rfl⟩
abbrev main_v90 : Ref sig .tc := ⟨.hbm, 148, rfl⟩
abbrev main_v91 : Ref sig .tc := ⟨.hbm, 149, rfl⟩
abbrev main_v92 : Ref sig .tc := ⟨.hbm, 150, rfl⟩
abbrev main_v93 : Ref sig .tc := ⟨.hbm, 151, rfl⟩
abbrev main_v94 : Ref sig .tc := ⟨.hbm, 152, rfl⟩

abbrev nD : Nat := 1
abbrev τ : Topo := Topo.v7x

variable {F : FTy → Type} [FloatOps F]
-- ==== Kernel2.lean ====
abbrev S32768x1024 : Shape := ⟨2, ![32768, 1024]⟩
abbrev S32768x2048 : Shape := ⟨2, ![32768, 2048]⟩
abbrev S32768x256 : Shape := ⟨2, ![32768, 256]⟩
abbrev S2048x1024 : Shape := ⟨2, ![2048, 1024]⟩
abbrev S1024 : Shape := ⟨1, ![1024]⟩
abbrev S1024x4096 : Shape := ⟨2, ![1024, 4096]⟩
abbrev S4096x1024 : Shape := ⟨2, ![4096, 1024]⟩
abbrev S256x1024 : Shape := ⟨2, ![256, 1024]⟩
abbrev S1024x1024 : Shape := ⟨2, ![1024, 1024]⟩
abbrev S1x1024 : Shape := ⟨2, ![1, 1024]⟩
abbrev S512x1024 : Shape := ⟨2, ![512, 1024]⟩
abbrev S512x2048 : Shape := ⟨2, ![512, 2048]⟩
abbrev S512x256 : Shape := ⟨2, ![512, 256]⟩
abbrev S512 : Shape := ⟨1, ![512]⟩
abbrev S512x1 : Shape := ⟨2, ![512, 1]⟩
abbrev S512x4096 : Shape := ⟨2, ![512, 4096]⟩

abbrev nBuf : Space → Nat
  | .hbm => 17
  | .vmem => 17
  | .smem => 0
  | _ => 0

abbrev bufTy : (tb : Table) → Fin (tcTables nBuf tb) → BufTy
  | .hbm, ⟨0, _⟩ => ⟨S32768x1024, .f32⟩
  | .hbm, ⟨1, _⟩ => ⟨S32768x2048, .bf16⟩
  | .hbm, ⟨2, _⟩ => ⟨S32768x256, .f32⟩
  | .hbm, ⟨3, _⟩ => ⟨S2048x1024, .bf16⟩
  | .hbm, ⟨4, _⟩ => ⟨S1024, .f32⟩
  | .hbm, ⟨5, _⟩ => ⟨S1024, .f32⟩
  | .hbm, ⟨6, _⟩ => ⟨S1024x4096, .bf16⟩
  | .hbm, ⟨7, _⟩ => ⟨S4096x1024, .bf16⟩
  | .hbm, ⟨8, _⟩ => ⟨S1024, .f32⟩
  | .hbm, ⟨9, _⟩ => ⟨S1024, .f32⟩
  | .hbm, ⟨10, _⟩ => ⟨S256x1024, .bf16⟩
  | .hbm, ⟨11, _⟩ => ⟨S1024x1024, .bf16⟩
  | .hbm, ⟨12, _⟩ => ⟨S1x1024, .f32⟩
  | .hbm, ⟨13, _⟩ => ⟨S1x1024, .f32⟩
  | .hbm, ⟨14, _⟩ => ⟨S1x1024, .f32⟩
  | .hbm, ⟨15, _⟩ => ⟨S1x1024, .f32⟩
  | .hbm, ⟨16, _⟩ => ⟨S32768x1024, .f32⟩
  | .local _ .vmem, ⟨0, _⟩ => ⟨S512x1024, .f32⟩
  | .local _ .vmem, ⟨1, _⟩ => ⟨S512x1024, .f32⟩
  | .local _ .vmem, ⟨2, _⟩ => ⟨S512x2048, .bf16⟩
  | .local _ .vmem, ⟨3, _⟩ => ⟨S512x2048, .bf16⟩
  | .local _ .vmem, ⟨4, _⟩ => ⟨S512x256, .f32⟩
  | .local _ .vmem, ⟨5, _⟩ => ⟨S512x256, .f32⟩
  | .local _ .vmem, ⟨6, _⟩ => ⟨S2048x1024, .bf16⟩
  | .local _ .vmem, ⟨7, _⟩ => ⟨S1x1024, .f32⟩
  | .local _ .vmem, ⟨8, _⟩ => ⟨S1x1024, .f32⟩
  | .local _ .vmem, ⟨9, _⟩ => ⟨S1024x4096, .bf16⟩
  | .local _ .vmem, ⟨10, _⟩ => ⟨S4096x1024, .bf16⟩
  | .local _ .vmem, ⟨11, _⟩ => ⟨S1x1024, .f32⟩
  | .local _ .vmem, ⟨12, _⟩ => ⟨S1x1024, .f32⟩
  | .local _ .vmem, ⟨13, _⟩ => ⟨S256x1024, .bf16⟩
  | .local _ .vmem, ⟨14, _⟩ => ⟨S1024x1024, .bf16⟩
  | .local _ .vmem, ⟨15, _⟩ => ⟨S512x1024, .f32⟩
  | .local _ .vmem, ⟨16, _⟩ => ⟨S512x1024, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg12_0 : Ref sig .tc := ⟨.vmem, 15, rfl⟩
abbrev cc0_stg12_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem12_0 : DmaSem sig := 15
abbrev cc0_sem12_1 : DmaSem sig := 16

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S2048x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x4096 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S4096x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S256x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1024x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S512x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== Reference2Ideal.lean ====
abbrev S32768x1024 : Shape := ⟨2, ![32768, 1024]⟩
abbrev S32768x2048 : Shape := ⟨2, ![32768, 2048]⟩
abbrev S32768x256 : Shape := ⟨2, ![32768, 256]⟩
abbrev S2048x1024 : Shape := ⟨2, ![2048, 1024]⟩
abbrev S1024 : Shape := ⟨1, ![1024]⟩
abbrev S1024x4096 : Shape := ⟨2, ![1024, 4096]⟩
abbrev S4096x1024 : Shape := ⟨2, ![4096, 1024]⟩
abbrev S256x1024 : Shape := ⟨2, ![256, 1024]⟩
abbrev S1024x1024 : Shape := ⟨2, ![1024, 1024]⟩
abbrev S_ : Shape := ⟨0, ![]⟩
abbrev S32768 : Shape := ⟨1, ![32768]⟩
abbrev S32768x1 : Shape := ⟨2, ![32768, 1]⟩
abbrev S1x1024 : Shape := ⟨2, ![1, 1024]⟩
abbrev S32768x4096 : Shape := ⟨2, ![32768, 4096]⟩

abbrev nBuf : Space → Nat
  | .hbm => 99
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S32768x2048, .bf16⟩
  | .hbm, ⟨2, _⟩ => ⟨S32768x256, .f32⟩
  | .hbm, ⟨3, _⟩ => ⟨S2048x1024, .bf16⟩
  | .hbm, ⟨4, _⟩ => ⟨S1024, .f32⟩
  | .hbm, ⟨5, _⟩ => ⟨S1024, .f32⟩
  | .hbm, ⟨6, _⟩ => ⟨S1024x4096, .bf16⟩
  | .hbm, ⟨7, _⟩ => ⟨S4096x1024, .bf16⟩
  | .hbm, ⟨8, _⟩ => ⟨S1024, .f32⟩
  | .hbm, ⟨9, _⟩ => ⟨S1024, .f32⟩
  | .hbm, ⟨10, _⟩ => ⟨S256x1024, .bf16⟩
  | .hbm, ⟨11, _⟩ => ⟨S1024x1024, .bf16⟩
  | .hbm, ⟨12, _⟩ => ⟨S32768x2048, .f32⟩
  | .hbm, ⟨13, _⟩ => ⟨S2048x1024, .f32⟩
  | .hbm, ⟨14, _⟩ => ⟨S32768x1024, .f32⟩
  | .hbm, ⟨15, _⟩ => ⟨S_, .f32⟩
  | .hbm, ⟨16, _⟩ => ⟨S32768x1024, .f32⟩
  | .hbm, ⟨17, _⟩ => ⟨S32768x1024, .f32⟩
  | .hbm, ⟨18, _⟩ => ⟨S32768x1024, .f32⟩
  | .hbm, ⟨19, _⟩ => ⟨S_, .f32⟩
  | .hbm, ⟨20, _⟩ => ⟨S32768, .f32⟩
  | .hbm, ⟨21, _⟩ => ⟨S32768x1, .f32⟩
  | .hbm, ⟨22, _⟩ => ⟨S_, .f32⟩
  | .hbm, ⟨23, _⟩ => ⟨S32768x1, .f32⟩
  | .hbm, ⟨24, _⟩ => ⟨S32768x1, .f32⟩
  | .hbm, ⟨25, _⟩ => ⟨S32768x1024, .f32⟩
  | .hbm, ⟨26, _⟩ => ⟨S32768x1024, .f32⟩
  | .hbm, ⟨27, _⟩ => ⟨S32768x1024, .f32⟩
  | .hbm, ⟨28, _⟩ => ⟨S_, .f32⟩
  | .hbm, ⟨29, _⟩ => ⟨S32768, .f32⟩
  | .hbm, ⟨30, _⟩ => ⟨S32768x1, .f32⟩
  | .hbm, ⟨31, _⟩ => ⟨S_, .f32⟩
  | .hbm, ⟨32, _⟩ => ⟨S32768x1, .f32⟩
  | .hbm, ⟨33, _⟩ => ⟨S32768x1, .f32⟩
  | .hbm, ⟨34, _⟩ => ⟨S_, .f32⟩
  | .hbm, ⟨35, _⟩ => ⟨S32768x1, .f32⟩
  | .hbm, ⟨36, _⟩ => ⟨S32768x1, .f32⟩
  | .hbm, ⟨37, _⟩ => ⟨S32768x1, .f32⟩
  | .hbm, ⟨38, _⟩ => ⟨S32768x1024, .f32⟩
  | .hbm, ⟨39, _⟩ => ⟨S32768x1024, .f32⟩
  | .hbm, ⟨40, _⟩ => ⟨S1x1024, .f32⟩
  | .hbm, ⟨41, _⟩ => ⟨S32768x1024, .f32⟩
  | .hbm, ⟨42, _⟩ => ⟨S32768x1024, .f32⟩
  | .hbm, ⟨43, _⟩ => ⟨S1x1024, .f32⟩
  | .hbm, ⟨44, _⟩ => ⟨S32768x1024, .f32⟩
  | .hbm, ⟨45, _⟩ => ⟨S32768x1024, .f32⟩
  | .hbm, ⟨46, _⟩ => ⟨S1024x4096, .f32⟩
  | .hbm, ⟨47, _⟩ => ⟨S32768x4096, .f32⟩
  | .hbm, ⟨48, _⟩ => ⟨S_, .f32⟩
  | .hbm, ⟨49, _⟩ => ⟨S32768x4096, .f32⟩
  | .hbm, ⟨50, _⟩ => ⟨S32768x4096, .f32⟩
  | .hbm, ⟨51, _⟩ => ⟨S_, .f32⟩
  | .hbm, ⟨52, _⟩ => ⟨S32768x1024, .f32⟩
  | .hbm, ⟨53, _⟩ => ⟨S32768x1024, .f32⟩
  | .hbm, ⟨54, _⟩ => ⟨S32768x4096, .f32⟩
  | .hbm, ⟨55, _⟩ => ⟨S4096x1024, .f32⟩
  | .hbm, ⟨56, _⟩ => ⟨S32768x1024, .f32⟩
  | .hbm, ⟨57, _⟩ => ⟨S32768x1024, .f32⟩
  | .hbm, ⟨58, _⟩ => ⟨S_, .f32⟩
  | .hbm, ⟨59, _⟩ => ⟨S32768, .f32⟩
  | .hbm, ⟨60, _⟩ => ⟨S32768x1, .f32⟩
  | .hbm, ⟨61, _⟩ => ⟨S_, .f32⟩
  | .hbm, ⟨62, _⟩ => ⟨S32768x1, .f32⟩
  | .hbm, ⟨63, _⟩ => ⟨S32768x1, .f32⟩
  | .hbm, ⟨64, _⟩ => ⟨S32768x1024, .f32⟩
  | .hbm, ⟨65, _⟩ => ⟨S32768x1024, .f32⟩
  | .hbm, ⟨66, _⟩ => ⟨S32768x1024, .f32⟩
  | .hbm, ⟨67, _⟩ => ⟨S_, .f32⟩
  | .hbm, ⟨68, _⟩ => ⟨S32768, .f32⟩
  | .hbm, ⟨69, _⟩ => ⟨S32768x1, .f32⟩
  | .hbm, ⟨70, _⟩ => ⟨S_, .f32⟩
  | .hbm, ⟨71, _⟩ => ⟨S32768x1, .f32⟩
  | .hbm, ⟨72, _⟩ => ⟨S32768x1, .f32⟩
  | .hbm, ⟨73, _⟩ => ⟨S_, .f32⟩
  | .hbm, ⟨74, _⟩ => ⟨S32768x1, .f32⟩
  | .hbm, ⟨75, _⟩ => ⟨S32768x1, .f32⟩
  | .hbm, ⟨76, _⟩ => ⟨S32768x1, .f32⟩
  | .hbm, ⟨77, _⟩ => ⟨S32768x1024, .f32⟩
  | .hbm, ⟨78, _⟩ => ⟨S32768x1024, .f32⟩
  | .hbm, ⟨79, _⟩ => ⟨S1x1024, .f32⟩
  | .hbm, ⟨80, _⟩ => ⟨S32768x1024, .f32⟩
  | .hbm, ⟨81, _⟩ => ⟨S32768x1024, .f32⟩
  | .hbm, ⟨82, _⟩ => ⟨S1x1024, .f32⟩
  | .hbm, ⟨83, _⟩ => ⟨S32768x1024, .f32⟩
  | .hbm, ⟨84, _⟩ => ⟨S32768x1024, .f32⟩
  | .hbm, ⟨85, _⟩ => ⟨S256x1024, .f32⟩
  | .hbm, ⟨86, _⟩ => ⟨S32768x1024, .f32⟩
  | .hbm, ⟨87, _⟩ => ⟨S1024x1024, .f32⟩
  | .hbm, ⟨88, _⟩ => ⟨S32768x1024, .f32⟩
  | .hbm, ⟨89, _⟩ => ⟨S32768x1024, .f32⟩
  | .hbm, ⟨90, _⟩ => ⟨S32768x1024, .f32⟩
  | .hbm, ⟨91, _⟩ => ⟨S_, .f32⟩
  | .hbm, ⟨92, _⟩ => ⟨S32768x1024, .f32⟩
  | .hbm, ⟨93, _⟩ => ⟨S32768x1024, .f32⟩
  | .hbm, ⟨94, _⟩ => ⟨S_, .f32⟩
  | .hbm, ⟨95, _⟩ => ⟨S32768x1024, .f32⟩
  | .hbm, ⟨96, _⟩ => ⟨S32768x1024, .f32⟩
  | .hbm, ⟨97, _⟩ => ⟨S32768x1024, .f32⟩
  | .hbm, ⟨98, _⟩ => ⟨S32768x1024, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_cst : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_cst_0 : Ref sig .tc := ⟨.hbm, 19, rfl⟩
abbrev main_v6 : Ref sig .tc := ⟨.hbm, 20, rfl⟩
abbrev main_v7 : Ref sig .tc := ⟨.hbm, 21, rfl⟩
abbrev main_cst_1 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_cst_2 : Ref sig .tc := ⟨.hbm, 28, rfl⟩
abbrev main_v13 : Ref sig .tc := ⟨.hbm, 29, rfl⟩
abbrev main_v14 : Ref sig .tc := ⟨.hbm, 30, rfl⟩
abbrev main_cst_3 : Ref sig .tc := ⟨.hbm, 31, rfl⟩
abbrev main_v15 : Ref sig .tc := ⟨.hbm, 32, rfl⟩
abbrev main_v16 : Ref sig .tc := ⟨.hbm, 33, rfl⟩
abbrev main_cst_4 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_call0_cst : Ref sig .tc := ⟨.hbm, 48, rfl⟩
abbrev main_call0_v0 : Ref sig .tc := ⟨.hbm, 49, rfl⟩
abbrev main_v30 : Ref sig .tc := ⟨.hbm, 50, rfl⟩
abbrev main_cst_5 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_cst_6 : Ref sig .tc := ⟨.hbm, 58, rfl⟩
abbrev main_v37 : Ref sig .tc := ⟨.hbm, 59, rfl⟩
abbrev main_v38 : Ref sig .tc := ⟨.hbm, 60, rfl⟩
abbrev main_cst_7 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_cst_8 : Ref sig .tc := ⟨.hbm, 67, rfl⟩
abbrev main_v44 : Ref sig .tc := ⟨.hbm, 68, rfl⟩
abbrev main_v45 : Ref sig .tc := ⟨.hbm, 69, rfl⟩
abbrev main_cst_9 : Ref sig .tc := ⟨.hbm, 70, rfl⟩
abbrev main_v46 : Ref sig .tc := ⟨.hbm, 71, rfl⟩
abbrev main_v47 : Ref sig .tc := ⟨.hbm, 72, rfl⟩
abbrev main_cst_10 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_cst_11 : Ref sig .tc := ⟨.hbm, 91, rfl⟩
abbrev main_v65 : Ref sig .tc := ⟨.hbm, 92, rfl⟩
abbrev main_v66 : Ref sig .tc := ⟨.hbm, 93, rfl⟩
abbrev main_cst_12 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩

abbrev nD : Nat := 1
abbrev τ : Topo := Topo.v7x

variable {F : FTy → Type} [FloatOps F]
-- ==== Kernel3.lean ====
abbrev S32768x1024 : Shape := ⟨2, ![32768, 1024]⟩
abbrev S1024x2048 : Shape := ⟨2, ![1024, 2048]⟩
abbrev S32768x8x128 : Shape := ⟨3, ![32768, 8, 128]⟩
abbrev S8x8x144x4096 : Shape := ⟨4, ![8, 8, 144, 4096]⟩
abbrev S512x1024 : Shape := ⟨2, ![512, 1024]⟩
abbrev S512x8x128 : Shape := ⟨3, ![512, 8, 128]⟩
abbrev S1x8x144x512 : Shape := ⟨4, ![1, 8, 144, 512]⟩
abbrev S512x2048 : Shape := ⟨2, ![512, 2048]⟩
abbrev S512x128 : Shape := ⟨2, ![512, 128]⟩
abbrev S128x512 : Shape := ⟨2, ![128, 512]⟩
abbrev S1x1x128x512 : Shape := ⟨4, ![1, 1, 128, 512]⟩
abbrev S16x512 : Shape := ⟨2, ![16, 512]⟩
abbrev S1x1x16x512 : Shape := ⟨4, ![1, 1, 16, 512]⟩

abbrev nBuf : Space → Nat
  | .hbm => 6
  | .vmem => 11
  | .smem => 0
  | _ => 0

abbrev bufTy : (tb : Table) → Fin (tcTables nBuf tb) → BufTy
  | .hbm, ⟨0, _⟩ => ⟨S32768x1024, .f32⟩
  | .hbm, ⟨1, _⟩ => ⟨S1024x2048, .bf16⟩
  | .hbm, ⟨2, _⟩ => ⟨S32768x8x128, .f32⟩
  | .hbm, ⟨3, _⟩ => ⟨S32768x8x128, .f32⟩
  | .hbm, ⟨4, _⟩ => ⟨S32768x1024, .bf16⟩
  | .hbm, ⟨5, _⟩ => ⟨S8x8x144x4096, .bf16⟩
  | .local _ .vmem, ⟨0, _⟩ => ⟨S512x1024, .f32⟩
  | .local _ .vmem, ⟨1, _⟩ => ⟨S512x1024, .f32⟩
  | .local _ .vmem, ⟨2, _⟩ => ⟨S1024x2048, .bf16⟩
  | .local _ .vmem, ⟨3, _⟩ => ⟨S512x8x128, .f32⟩
  | .local _ .vmem, ⟨4, _⟩ => ⟨S512x8x128, .f32⟩
  | .local _ .vmem, ⟨5, _⟩ => ⟨S512x8x128, .f32⟩
  | .local _ .vmem, ⟨6, _⟩ => ⟨S512x8x128, .f32⟩
  | .local _ .vmem, ⟨7, _⟩ => ⟨S512x1024, .bf16⟩
  | .local _ .vmem, ⟨8, _⟩ => ⟨S512x1024, .bf16⟩
  | .local _ .vmem, ⟨9, _⟩ => ⟨S1x8x144x512, .bf16⟩
  | .local _ .vmem, ⟨10, _⟩ => ⟨S1x8x144x512, .bf16⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v0_2 : Ref sig .tc := ⟨.hbm, 4, rfl⟩
abbrev main_v0_3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 4 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, c0_i32_10.toNat, c0_i32_11.toNat, v26.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x8x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x8x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x8x144x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference3Ideal.lean ====
abbrev S32768x1024 : Shape := ⟨2, ![32768, 1024]⟩
abbrev S1024x2048 : Shape := ⟨2, ![1024, 2048]⟩
abbrev S32768x2048 : Shape := ⟨2, ![32768, 2048]⟩
abbrev S8x4096x8x128 : Shape := ⟨4, ![8, 4096, 8, 128]⟩
abbrev S8x8x128x4096 : Shape := ⟨4, ![8, 8, 128, 4096]⟩
abbrev S_ : Shape := ⟨0, ![]⟩
abbrev S8x8x16x4096 : Shape := ⟨4, ![8, 8, 16, 4096]⟩
abbrev S8x8x144x4096 : Shape := ⟨4, ![8, 8, 144, 4096]⟩
abbrev S32768x8x128 : Shape := ⟨3, ![32768, 8, 128]⟩

abbrev nBuf : Space → Nat
  | .hbm => 15
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S1024x2048, .bf16⟩
  | .hbm, ⟨2, _⟩ => ⟨S1024x2048, .f32⟩
  | .hbm, ⟨3, _⟩ => ⟨S32768x2048, .f32⟩
  | .hbm, ⟨4, _⟩ => ⟨S32768x1024, .f32⟩
  | .hbm, ⟨5, _⟩ => ⟨S32768x1024, .f32⟩
  | .hbm, ⟨6, _⟩ => ⟨S8x4096x8x128, .f32⟩
  | .hbm, ⟨7, _⟩ => ⟨S8x8x128x4096, .f32⟩
  | .hbm, ⟨8, _⟩ => ⟨S_, .f32⟩
  | .hbm, ⟨9, _⟩ => ⟨S8x8x16x4096, .f32⟩
  | .hbm, ⟨10, _⟩ => ⟨S8x8x144x4096, .f32⟩
  | .hbm, ⟨11, _⟩ => ⟨S32768x8x128, .f32⟩
  | .hbm, ⟨12, _⟩ => ⟨S32768x8x128, .f32⟩
  | .hbm, ⟨13, _⟩ => ⟨S32768x1024, .bf16⟩
  | .hbm, ⟨14, _⟩ => ⟨S8x8x144x4096, .bf16⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_cst : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩

abbrev nD : Nat := 1
abbrev τ : Topo := Topo.v7x

variable {F : FTy → Type} [FloatOps F]
-- ==== Kernel4.lean ====
abbrev S32768x1024 : Shape := ⟨2, ![32768, 1024]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S32768x1024, .f32⟩
  | .hbm, ⟨1, _⟩ => ⟨S1024x1024, .bf16⟩
  | .hbm, ⟨2, _⟩ => ⟨S32768x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![32, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference4Ideal.lean ====
abbrev S32768x1024 : Shape := ⟨2, ![32768, 1024]⟩
abbrev S1024x1024 : Shape := ⟨2, ![1024, 1024]⟩

abbrev nBuf : Space → Nat
  | .hbm => 4
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S1024x1024, .bf16⟩
  | .hbm, ⟨2, _⟩ => ⟨S1024x1024, .f32⟩
  | .hbm, ⟨3, _⟩ => ⟨S32768x1024, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Kernel5.lean ====
abbrev S32768x1024 : Shape := ⟨2, ![32768, 1024]⟩
abbrev S1024x4096 : Shape := ⟨2, ![1024, 4096]⟩
abbrev S1024x2560 : Shape := ⟨2, ![1024, 2560]⟩
abbrev S8x8x4096 : Shape := ⟨3, ![8, 8, 4096]⟩
abbrev S4x4096 : Shape := ⟨2, ![4, 4096]⟩
abbrev S32768x4096 : Shape := ⟨2, ![32768, 4096]⟩
abbrev S32768x2560 : Shape := ⟨2, ![32768, 2560]⟩
abbrev S64x8x4096 : Shape := ⟨3, ![64, 8, 4096]⟩
abbrev S512x1024 : Shape := ⟨2, ![512, 1024]⟩
abbrev S1024x1024 : Shape := ⟨2, ![1024, 1024]⟩
abbrev S1024x640 : Shape := ⟨2, ![1024, 640]⟩
abbrev S1x8x1024 : Shape := ⟨3, ![1, 8, 1024]⟩
abbrev S4x1024 : Shape := ⟨2, ![4, 1024]⟩
abbrev S512x640 : Shape := ⟨2, ![512, 640]⟩
abbrev S4x8x1024 : Shape := ⟨3, ![4, 8, 1024]⟩
abbrev S520x1024 : Shape := ⟨2, ![520, 1024]⟩
abbrev S8x1024 : Shape := ⟨2, ![8, 1024]⟩
abbrev S4x128 : Shape := ⟨2, ![4, 128]⟩
abbrev S512x128 : Shape := ⟨2, ![512, 128]⟩
abbrev S1x128 : Shape := ⟨2, ![1, 128]⟩
abbrev S512 : Shape := ⟨1, ![512]⟩
abbrev S512x1 : Shape := ⟨2, ![512, 1]⟩

abbrev nBuf : Space → Nat
  | .hbm => 9
  | .vmem => 18
  | .smem => 0
  | _ => 0

abbrev bufTy : (tb : Table) → Fin (tcTables nBuf tb) → BufTy
  | .hbm, ⟨0, _⟩ => ⟨S32768x1024, .f32⟩
  | .hbm, ⟨1, _⟩ => ⟨S1024x4096, .bf16⟩
  | .hbm, ⟨2, _⟩ => ⟨S1024x2560, .bf16⟩
  | .hbm, ⟨3, _⟩ => ⟨S8x8x4096, .f32⟩
  | .hbm, ⟨4, _⟩ => ⟨S4x4096, .f32⟩
  | .hbm, ⟨5, _⟩ => ⟨S32768x4096, .f32⟩
  | .hbm, ⟨6, _⟩ => ⟨S32768x2560, .f32⟩
  | .hbm, ⟨7, _⟩ => ⟨S64x8x4096, .f32⟩
  | .hbm, ⟨8, _⟩ => ⟨S8x8x4096, .f32⟩
  | .local _ .vmem, ⟨0, _⟩ => ⟨S512x1024, .f32⟩
  | .local _ .vmem, ⟨1, _⟩ => ⟨S512x1024, .f32⟩
  | .local _ .vmem, ⟨2, _⟩ => ⟨S1024x1024, .bf16⟩
  | .local _ .vmem, ⟨3, _⟩ => ⟨S1024x1024, .bf16⟩
  | .local _ .vmem, ⟨4, _⟩ => ⟨S1024x640, .bf16⟩
  | .local _ .vmem, ⟨5, _⟩ => ⟨S1024x640, .bf16⟩
  | .local _ .vmem, ⟨6, _⟩ => ⟨S1x8x1024, .f32⟩
  | .local _ .vmem, ⟨7, _⟩ => ⟨S1x8x1024, .f32⟩
  | .local _ .vmem, ⟨8, _⟩ => ⟨S4x1024, .f32⟩
  | .local _ .vmem, ⟨9, _⟩ => ⟨S4x1024, .f32⟩
  | .local _ .vmem, ⟨10, _⟩ => ⟨S512x1024, .f32⟩
  | .local _ .vmem, ⟨11, _⟩ => ⟨S512x1024, .f32⟩
  | .local _ .vmem, ⟨12, _⟩ => ⟨S512x640, .f32⟩
  | .local _ .vmem, ⟨13, _⟩ => ⟨S512x640, .f32⟩
  | .local _ .vmem, ⟨14, _⟩ => ⟨S1x8x1024, .f32⟩
  | .local _ .vmem, ⟨15, _⟩ => ⟨S1x8x1024, .f32⟩
  | .local _ .vmem, ⟨16, _⟩ => ⟨S4x8x1024, .f32⟩
  | .local _ .vmem, ⟨17, _⟩ => ⟨S520x1024, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_scratch0 : Ref sig .tc := ⟨.vmem, 16, rfl⟩
abbrev cc0_scratch1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![64, 4], ![false, false]⟩

def k0_off1 (i : grid0.Coords) : Fin 3 → Nat :=
  let arg1 : BitVec 32 := BitVec.ofNat 32 (i 1).val
  let v15 : Index := Scalar.indexCast arg1
  let c0_8 : Index := 0#32
  let c0_9 : Index := 0#32
  ![v15.toNat, 0, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  ![v16.toNat, c0_i32_4.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x640 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x8x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S4x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S512x640 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x8x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== Reference5Ideal.lean ====
abbrev S32768x1024 : Shape := ⟨2, ![32768, 1024]⟩
abbrev S1024x4096 : Shape := ⟨2, ![1024, 4096]⟩
abbrev S1024x2560 : Shape := ⟨2, ![1024, 2560]⟩
abbrev S8x8x4096 : Shape := ⟨3, ![8, 8, 4096]⟩
abbrev S4x4096 : Shape := ⟨2, ![4, 4096]⟩
abbrev S32768x4096 : Shape := ⟨2, ![32768, 4096]⟩
abbrev S8x4096x4096 : Shape := ⟨3, ![8, 4096, 4096]⟩
abbrev S8x3x4096 : Shape := ⟨3, ![8, 3, 4096]⟩
abbrev S8x4099x4096 : Shape := ⟨3, ![8, 4099, 4096]⟩
abbrev S1x4096 : Shape := ⟨2, ![1, 4096]⟩
abbrev S4096 : Shape := ⟨1, ![4096]⟩
abbrev S1x1x4096 : Shape := ⟨3, ![1, 1, 4096]⟩
abbrev S_ : Shape := ⟨0, ![]⟩
abbrev S8x4096x1024 : Shape := ⟨3, ![8, 4096, 1024]⟩
abbrev S8x4096x8x128 : Shape := ⟨4, ![8, 4096, 8, 128]⟩
abbrev S8x4096x8 : Shape := ⟨3, ![8, 4096, 8]⟩
abbrev S8x4096x8x1 : Shape := ⟨4, ![8, 4096, 8, 1]⟩
abbrev S8x4096x2048 : Shape := ⟨3, ![8, 4096, 2048]⟩
abbrev S32768x2560 : Shape := ⟨2, ![32768, 2560]⟩

abbrev nBuf : Space → Nat
  | .hbm => 84
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S1024x4096, .bf16⟩
  | .hbm, ⟨2, _⟩ => ⟨S1024x2560, .bf16⟩
  | .hbm, ⟨3, _⟩ => ⟨S8x8x4096, .f32⟩
  | .hbm, ⟨4, _⟩ => ⟨S4x4096, .f32⟩
  | .hbm, ⟨5, _⟩ => ⟨S1024x4096, .f32⟩
  | .hbm, ⟨6, _⟩ => ⟨S32768x4096, .f32⟩
  | .hbm, ⟨7, _⟩ => ⟨S8x4096x4096, .f32⟩
  | .hbm, ⟨8, _⟩ => ⟨S8x3x4096, .f32⟩
  | .hbm, ⟨9, _⟩ => ⟨S8x4099x4096, .f32⟩
  | .hbm, ⟨10, _⟩ => ⟨S8x4096x4096, .f32⟩
  | .hbm, ⟨11, _⟩ => ⟨S1x4096, .f32⟩
  | .hbm, ⟨12, _⟩ => ⟨S4096, .f32⟩
  | .hbm, ⟨13, _⟩ => ⟨S1x1x4096, .f32⟩
  | .hbm, ⟨14, _⟩ => ⟨S8x4096x4096, .f32⟩
  | .hbm, ⟨15, _⟩ => ⟨S8x4096x4096, .f32⟩
  | .hbm, ⟨16, _⟩ => ⟨S_, .f32⟩
  | .hbm, ⟨17, _⟩ => ⟨S8x4096x4096, .f32⟩
  | .hbm, ⟨18, _⟩ => ⟨S8x4096x4096, .f32⟩
  | .hbm, ⟨19, _⟩ => ⟨S8x4096x4096, .f32⟩
  | .hbm, ⟨20, _⟩ => ⟨S1x4096, .f32⟩
  | .hbm, ⟨21, _⟩ => ⟨S4096, .f32⟩
  | .hbm, ⟨22, _⟩ => ⟨S1x1x4096, .f32⟩
  | .hbm, ⟨23, _⟩ => ⟨S8x4096x4096, .f32⟩
  | .hbm, ⟨24, _⟩ => ⟨S8x4096x4096, .f32⟩
  | .hbm, ⟨25, _⟩ => ⟨S8x4096x4096, .f32⟩
  | .hbm, ⟨26, _⟩ => ⟨S8x4096x4096, .f32⟩
  | .hbm, ⟨27, _⟩ => ⟨S1x4096, .f32⟩
  | .hbm, ⟨28, _⟩ => ⟨S4096, .f32⟩
  | .hbm, ⟨29, _⟩ => ⟨S1x1x4096, .f32⟩
  | .hbm, ⟨30, _⟩ => ⟨S8x4096x4096, .f32⟩
  | .hbm, ⟨31, _⟩ => ⟨S8x4096x4096, .f32⟩
  | .hbm, ⟨32, _⟩ => ⟨S8x4096x4096, .f32⟩
  | .hbm, ⟨33, _⟩ => ⟨S8x4096x4096, .f32⟩
  | .hbm, ⟨34, _⟩ => ⟨S1x4096, .f32⟩
  | .hbm, ⟨35, _⟩ => ⟨S4096, .f32⟩
  | .hbm, ⟨36, _⟩ => ⟨S1x1x4096, .f32⟩
  | .hbm, ⟨37, _⟩ => ⟨S8x4096x4096, .f32⟩
  | .hbm, ⟨38, _⟩ => ⟨S8x4096x4096, .f32⟩
  | .hbm, ⟨39, _⟩ => ⟨S8x4096x4096, .f32⟩
  | .hbm, ⟨40, _⟩ => ⟨S8x4096x4096, .f32⟩
  | .hbm, ⟨41, _⟩ => ⟨S8x4096x4096, .f32⟩
  | .hbm, ⟨42, _⟩ => ⟨S_, .f32⟩
  | .hbm, ⟨43, _⟩ => ⟨S8x4096x4096, .f32⟩
  | .hbm, ⟨44, _⟩ => ⟨S8x4096x4096, .f32⟩
  | .hbm, ⟨45, _⟩ => ⟨S_, .f32⟩
  | .hbm, ⟨46, _⟩ => ⟨S8x4096x4096, .f32⟩
  | .hbm, ⟨47, _⟩ => ⟨S8x4096x4096, .f32⟩
  | .hbm, ⟨48, _⟩ => ⟨S8x4096x4096, .f32⟩
  | .hbm, ⟨49, _⟩ => ⟨S8x4096x1024, .f32⟩
  | .hbm, ⟨50, _⟩ => ⟨S8x4096x8x128, .f32⟩
  | .hbm, ⟨51, _⟩ => ⟨S8x4096x8x128, .f32⟩
  | .hbm, ⟨52, _⟩ => ⟨S_, .f32⟩
  | .hbm, ⟨53, _⟩ => ⟨S8x4096x8, .f32⟩
  | .hbm, ⟨54, _⟩ => ⟨S8x4096x8x1, .f32⟩
  | .hbm, ⟨55, _⟩ => ⟨S_, .f32⟩
  | .hbm, ⟨56, _⟩ => ⟨S8x4096x8x1, .f32⟩
  | .hbm, ⟨57, _⟩ => ⟨S8x4096x8x1, .f32⟩
  | .hbm, ⟨58, _⟩ => ⟨S8x4096x8x1, .f32⟩
  | .hbm, ⟨59, _⟩ => ⟨S8x4096x8x128, .f32⟩
  | .hbm, ⟨60, _⟩ => ⟨S8x4096x8x128, .f32⟩
  | .hbm, ⟨61, _⟩ => ⟨S_, .f32⟩
  | .hbm, ⟨62, _⟩ => ⟨S8x4096x8x128, .f32⟩
  | .hbm, ⟨63, _⟩ => ⟨S8x4096x8x128, .f32⟩
  | .hbm, ⟨64, _⟩ => ⟨S8x4096x1024, .f32⟩
  | .hbm, ⟨65, _⟩ => ⟨S8x4096x8x128, .f32⟩
  | .hbm, ⟨66, _⟩ => ⟨S8x4096x8x128, .f32⟩
  | .hbm, ⟨67, _⟩ => ⟨S_, .f32⟩
  | .hbm, ⟨68, _⟩ => ⟨S8x4096x8, .f32⟩
  | .hbm, ⟨69, _⟩ => ⟨S8x4096x8x1, .f32⟩
  | .hbm, ⟨70, _⟩ => ⟨S_, .f32⟩
  | .hbm, ⟨71, _⟩ => ⟨S8x4096x8x1, .f32⟩
  | .hbm, ⟨72, _⟩ => ⟨S8x4096x8x1, .f32⟩
  | .hbm, ⟨73, _⟩ => ⟨S8x4096x8x1, .f32⟩
  | .hbm, ⟨74, _⟩ => ⟨S8x4096x8x128, .f32⟩
  | .hbm, ⟨75, _⟩ => ⟨S8x4096x8x128, .f32⟩
  | .hbm, ⟨76, _⟩ => ⟨S8x4096x1024, .f32⟩
  | .hbm, ⟨77, _⟩ => ⟨S8x4096x1024, .f32⟩
  | .hbm, ⟨78, _⟩ => ⟨S8x4096x2048, .f32⟩
  | .hbm, ⟨79, _⟩ => ⟨S8x4096x4096, .f32⟩
  | .hbm, ⟨80, _⟩ => ⟨S32768x4096, .f32⟩
  | .hbm, ⟨81, _⟩ => ⟨S1024x2560, .f32⟩
  | .hbm, ⟨82, _⟩ => ⟨S32768x2560, .f32⟩
  | .hbm, ⟨83, _⟩ => ⟨S8x8x4096, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_call0_v0 : Ref sig .tc := ⟨.hbm, 40, rfl⟩
abbrev main_call0_v1 : Ref sig .tc := ⟨.hbm, 41, rfl⟩
abbrev main_call0_cst : Ref sig .tc := ⟨.hbm, 42, rfl⟩
abbrev main_call0_v2 : Ref sig .tc := ⟨.hbm, 43, rfl⟩
abbrev main_call0_v3 : Ref sig .tc := ⟨.hbm, 44, rfl⟩
abbrev main_call0_cst_0 : Ref sig .tc := ⟨.hbm, 45, rfl⟩
abbrev main_call0_v4 : Ref sig .tc := ⟨.hbm, 46, rfl⟩
abbrev main_call0_v5 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_cst_0 : Ref sig .tc := ⟨.hbm, 52, rfl⟩
abbrev main_v38 : Ref sig .tc := ⟨.hbm, 53, rfl⟩
abbrev main_v39 : Ref sig .tc := ⟨.hbm, 54, rfl⟩
abbrev main_cst_1 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_cst_2 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_cst_3 : Ref sig .tc := ⟨.hbm, 67, rfl⟩
abbrev main_v50 : Ref sig .tc := ⟨.hbm, 68, rfl⟩
abbrev main_v51 : Ref sig .tc := ⟨.hbm, 69, rfl⟩
abbrev main_cst_4 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩

abbrev nD : Nat := 1
abbrev τ : Topo := Topo.v7x

variable {F : FTy → Type} [FloatOps F]
-- ==== Kernel6.lean ====
abbrev S32768x2560 : Shape := ⟨2, ![32768, 2560]⟩
abbrev S16 : Shape := ⟨1, ![16]⟩
abbrev S_ : Shape := ⟨0, ![]⟩
abbrev S128 : Shape := ⟨1, ![128]⟩
abbrev S1x128 : Shape := ⟨2, ![1, 128]⟩
abbrev S32768x128 : Shape := ⟨2, ![32768, 128]⟩
abbrev S1024x128 : Shape := ⟨2, ![1024, 128]⟩

abbrev nBuf : Space → Nat
  | .hbm => 12
  | .vmem => 6
  | .smem => 0
  | _ => 0

abbrev bufTy : (tb : Table) → Fin (tcTables nBuf tb) → BufTy
  | .hbm, ⟨0, _⟩ => ⟨S32768x2560, .f32⟩
  | .hbm, ⟨1, _⟩ => ⟨S16, .f32⟩
  | .hbm, ⟨2, _⟩ => ⟨S16, .f32⟩
  | .hbm, ⟨3, _⟩ => ⟨S_, .i32⟩
  | .hbm, ⟨4, _⟩ => ⟨S_, .f32⟩
  | .hbm, ⟨5, _⟩ => ⟨S128, .f32⟩
  | .hbm, ⟨6, _⟩ => ⟨S1x128, .f32⟩
  | .hbm, ⟨7, _⟩ => ⟨S_, .i32⟩
  | .hbm, ⟨8, _⟩ => ⟨S_, .f32⟩
  | .hbm, ⟨9, _⟩ => ⟨S128, .f32⟩
  | .hbm, ⟨10, _⟩ => ⟨S1x128, .f32⟩
  | .hbm, ⟨11, _⟩ => ⟨S32768x128, .f32⟩
  | .local _ .vmem, ⟨0, _⟩ => ⟨S1024x128, .f32⟩
  | .local _ .vmem, ⟨1, _⟩ => ⟨S1024x128, .f32⟩
  | .local _ .vmem, ⟨2, _⟩ => ⟨S1x128, .f32⟩
  | .local _ .vmem, ⟨3, _⟩ => ⟨S1x128, .f32⟩
  | .local _ .vmem, ⟨4, _⟩ => ⟨S1024x128, .f32⟩
  | .local _ .vmem, ⟨5, _⟩ => ⟨S1024x128, .f32⟩
  | _, _ => ⟨S32768x2560, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_call0_v0 : Ref sig .tc := ⟨.hbm, 4, rfl⟩
abbrev main_v0 : Ref sig .tc := ⟨.hbm, 5, rfl⟩
abbrev main_v1 : Ref sig .tc := ⟨.hbm, 6, rfl⟩
abbrev main_c_0 : Ref sig .tc := ⟨.hbm, 7, rfl⟩
abbrev main_call1_v0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c16_i32 : BitVec 32 := 16#32
  let c0_i32 : BitVec 32 := 0#32
  ![arg0.toNat, c16_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference6Ideal.lean ====
abbrev S32768x2560 : Shape := ⟨2, ![32768, 2560]⟩
abbrev S16 : Shape := ⟨1, ![16]⟩
abbrev S32768x16 : Shape := ⟨2, ![32768, 16]⟩
abbrev S_ : Shape := ⟨0, ![]⟩
abbrev S1x16 : Shape := ⟨2, ![1, 16]⟩
abbrev S512x64x16 : Shape := ⟨3, ![512, 64, 16]⟩
abbrev S32768x80 : Shape := ⟨2, ![32768, 80]⟩
abbrev S32768x128 : Shape := ⟨2, ![32768, 128]⟩

abbrev nBuf : Space → Nat
  | .hbm => 43
  | .vmem => 0
  | .smem => 0
  | _ => 0

abbrev bufTy : (tb : Table) → Fin (tcTables nBuf tb) → BufTy
  | .hbm, ⟨0, _⟩ => ⟨S32768x2560, .f32⟩
  | .hbm, ⟨1, _⟩ => ⟨S16, .f32⟩
  | .hbm, ⟨2, _⟩ => ⟨S16, .f32⟩
  | .hbm, ⟨3, _⟩ => ⟨S32768x16, .f32⟩
  | .hbm, ⟨4, _⟩ => ⟨S32768x16, .f32⟩
  | .hbm, ⟨5, _⟩ => ⟨S32768x16, .f32⟩
  | .hbm, ⟨6, _⟩ => ⟨S32768x16, .f32⟩
  | .hbm, ⟨7, _⟩ => ⟨S_, .f32⟩
  | .hbm, ⟨8, _⟩ => ⟨S32768x16, .f32⟩
  | .hbm, ⟨9, _⟩ => ⟨S32768x16, .f32⟩
  | .hbm, ⟨10, _⟩ => ⟨S_, .f32⟩
  | .hbm, ⟨11, _⟩ => ⟨S32768x16, .f32⟩
  | .hbm, ⟨12, _⟩ => ⟨S32768x16, .f32⟩
  | .hbm, ⟨13, _⟩ => ⟨S16, .f32⟩
  | .hbm, ⟨14, _⟩ => ⟨S16, .f32⟩
  | .hbm, ⟨15, _⟩ => ⟨S1x16, .f32⟩
  | .hbm, ⟨16, _⟩ => ⟨S32768x16, .f32⟩
  | .hbm, ⟨17, _⟩ => ⟨S32768x16, .f32⟩
  | .hbm, ⟨18, _⟩ => ⟨S_, .f32⟩
  | .hbm, ⟨19, _⟩ => ⟨S32768x16, .f32⟩
  | .hbm, ⟨20, _⟩ => ⟨S32768x16, .f32⟩
  | .hbm, ⟨21, _⟩ => ⟨S32768x16, .f32⟩
  | .hbm, ⟨22, _⟩ => ⟨S32768x16, .f32⟩
  | .hbm, ⟨23, _⟩ => ⟨S32768x16, .i1⟩
  | .hbm, ⟨24, _⟩ => ⟨S32768x16, .f32⟩
  | .hbm, ⟨25, _⟩ => ⟨S32768x16, .f32⟩
  | .hbm, ⟨26, _⟩ => ⟨S32768x16, .f32⟩
  | .hbm, ⟨27, _⟩ => ⟨S32768x16, .f32⟩
  | .hbm, ⟨28, _⟩ => ⟨S32768x16, .f32⟩
  | .hbm, ⟨29, _⟩ => ⟨S32768x16, .f32⟩
  | .hbm, ⟨30, _⟩ => ⟨S32768x16, .f32⟩
  | .hbm, ⟨31, _⟩ => ⟨S32768x16, .f32⟩
  | .hbm, ⟨32, _⟩ => ⟨S1x16, .f32⟩
  | .hbm, ⟨33, _⟩ => ⟨S32768x16, .f32⟩
  | .hbm, ⟨34, _⟩ => ⟨S32768x16, .f32⟩
  | .hbm, ⟨35, _⟩ => ⟨S512x64x16, .f32⟩
  | .hbm, ⟨36, _⟩ => ⟨S_, .f32⟩
  | .hbm, ⟨37, _⟩ => ⟨S_, .f32⟩
  | .hbm, ⟨38, _⟩ => ⟨S512x64x16, .f32⟩
  | .hbm, ⟨39, _⟩ => ⟨S32768x16, .f32⟩
  | .hbm, ⟨40, _⟩ => ⟨S_, .f32⟩
  | .hbm, ⟨41, _⟩ => ⟨S32768x80, .f32⟩
  | .hbm, ⟨42, _⟩ => ⟨S32768x128, .f32⟩
  | _, _ => ⟨S32768x2560, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_call0_cst : Ref sig .tc := ⟨.hbm, 18, rfl⟩
abbrev main_call0_v0 : Ref sig .tc := ⟨.hbm, 19, rfl⟩
abbrev main_call0_v1 : Ref sig .tc := ⟨.hbm, 20, rfl⟩
abbrev main_call0_v2 : Ref sig .tc := ⟨.hbm, 21, rfl⟩
abbrev main_call0_v3 : Ref sig .tc := ⟨.hbm, 22, rfl⟩
abbrev main_call0_v4 : Ref sig .tc := ⟨.hbm, 23, rfl⟩
abbrev main_call0_v5 : Ref sig .tc := ⟨.hbm, 24, rfl⟩
abbrev main_call0_v6 : Ref sig .tc := ⟨.hbm, 25, rfl⟩
abbrev main_call0_v7 : Ref sig .tc := ⟨.hbm, 26, rfl⟩
abbrev main_call0_v8 : Ref sig .tc := ⟨.hbm, 27, rfl⟩
abbrev main_call0_v9 : Ref sig .tc := ⟨.hbm, 28, rfl⟩
abbrev main_call0_v10 : Ref sig .tc := ⟨.hbm, 29, rfl⟩
abbrev main_call0_v11 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_call1_call0_cst : Ref sig .tc := ⟨.hbm, 36, rfl⟩
abbrev main_call1_call0_v0 : Ref sig .tc := ⟨.hbm, 37, rfl⟩
abbrev main_v18 : Ref sig .tc := ⟨.hbm, 38, rfl⟩
abbrev main_v19 : Ref sig .tc := ⟨.hbm, 39, rfl⟩
abbrev main_cst_1 : Ref sig .tc := ⟨.hbm, 40, rfl⟩
abbrev main_v20 : Ref sig .tc := ⟨.hbm, 41, rfl⟩
abbrev main_v21 : Ref sig .tc := ⟨.hbm, 42, rfl⟩

abbrev nD : Nat := 1
abbrev τ : Topo := Topo.v7x

variable {F : FTy → Type} [FloatOps F]
-- ==== Proof.Queries.lean ====
module

public import proofs.«01_k».proof.Proof.Gen.Kernel4Ideal.Value
public import proofs.«01_k».proof.Proof.Gen.Reference4Ideal.Run
public import Idealize.ShloMosaic.Lib.Pipeline.ValueKit

@[expose] public section

set_option maxRecDepth 16384

noncomputable section

/-! The query projection: the block product over 32 row blocks is the product of the whole arrays. -/

namespace Cert.Kernel4Ideal.Value

open Cert.Kernel4Ideal Cert.Kernel4Ideal.Gen Idealize.ShloMosaic Idealize.ShloMosaic.TcCoe Idealize.SL.Sem
open Idealize.ShloMosaic.Pipeline (Dat)

variable (m : (ℓ : Loc nD τ sig) → Buf (Elt Ideal) ℓ)

/-- The reference's product of the activations with the widened weights. -/
abbrev wholeQ (X : FVec Ideal S32768x1024 .f32) (W : FVec Ideal S1024x1024 .bf16) : FVec Ideal S32768x1024 .f32 :=
  Host.dotGeneral Cert.Reference4Ideal.dot_S32768x1024_S1024x1024_S32768x1024_1_0_0_1_n_n none X
    (extf .f32 W Cert.Reference4Ideal.Gen.bitsLt_bf16_f32)

/-- The three windows' block indices at every grid point. -/
theorem idxQ : ∀ t : Fin cfg0.N, win0_0.index t = ![(grid0.coords t 0).val, 0] ∧ win0_1.index t = ![0, (grid0.coords t 1).val]
    ∧ win0_2.index t = ![(grid0.coords t 0).val, (grid0.coords t 1).val] :=
  (by decide +kernel : ∀ t : Fin grid0.N, _)

/-- What a point stores at a place of its block is the whole product at the array place under it. -/
theorem pointQ (c : Dev nD) (t : Fin cfg0.N) (y : S1024x1024.Idx) : k0_pay1 (iblk m c 0 t) (iblk m c 1 t) y
    = wholeQ (m ((c : Thread nD τ).loc main_arg0)) (m ((c : Thread nD τ).loc main_arg1)) (((cfg0.win 2).blk t).view.emb y) := by
  pointwise [k0_pay1, wholeQ]
  blk_point [iblk, V, idxQ t]

/-- After the run the result array holds the whole product. -/
theorem finalQ (c : Dev nD) : (dats m 0 c).arrAt 2 cfg0.N
    = wholeQ (m ((c : Thread nD τ).loc main_arg0)) (m ((c : Thread nD τ).loc main_arg1)) := by
  refine (dats m 0 c).arrAt_eq_of_covers 2 _ (by decide +kernel) fun t _ y => ?_
  blk_simp
  rw [after0_2]; frame_out
  exact pointQ m c t y

end Cert.Kernel4Ideal.Value

end
-- ==== Proof.TailRows.lean ====
module

public import proofs.«01_k».proof.Proof.Gen.Kernel2Ideal.Value
public import proofs.«01_k».proof.Proof.Gen.Reference2Ideal.Run
public import Idealize.ShloMosaic.Lib.Pipeline.ValueKit

@[expose] public section

set_option maxRecDepth 16384

noncomputable section

/-! The tail of a layer, row by row: every row of the result is one function of the row's activations, mixer
output and per-layer embedding and of the weights; the kernel's block payloads and the reference's stages are both
read at that function. -/

namespace Cert.Kernel2Ideal.Value

open Cert.Kernel2Ideal Cert.Kernel2Ideal.Gen Idealize.ShloMosaic Idealize.ShloMosaic.TcCoe Idealize.SL.Sem
open Idealize.ShloMosaic.Pipeline (Dat)

/-- The mean of a row of 1024 values. -/
def meanRow (a : Fin 1024 → EReal) : EReal := Ideal.div (∑ x, a x) (Ideal.ofBits FTy.f32 1149239296#32)

/-- Layer normalisation of a row, at place `j`, with gain `g` and shift `b` there. -/
def normRow (a : Fin 1024 → EReal) (g b : EReal) (j : Fin 1024) : EReal :=
  (a j - meanRow a) *
    Ideal.rsqrt (meanRow (fun x => (a x - meanRow a) * (a x - meanRow a)) + Ideal.ofBits FTy.f32 925353388#32) * g + b

/-- The row after the token mixer: its projected output added to the scaled residual, normalised. -/
def mixRow (x : Fin 1024 → EReal) (y : Fin 2048 → EReal) (wo : Fin 2048 → Fin 1024 → EReal) (g b : Fin 1024 → EReal)
    (j : Fin 1024) : EReal :=
  normRow (fun j => Ideal.ofBits FTy.f32 1068827891#32 * x j + ∑ k, y k * wo k j) (g j) (b j) j

/-- The hidden row of the channel mixer: the rectified product, squared. -/
def hidRow (x : Fin 1024 → EReal) (wu : Fin 1024 → Fin 4096 → EReal) (f : Fin 4096) : EReal :=
  max (∑ k, x k * wu k f) 0 * max (∑ k, x k * wu k f) 0

/-- The row after the channel mixer. -/
def mlpRow (x : Fin 1024 → EReal) (h : Fin 4096 → EReal) (wd : Fin 4096 → Fin 1024 → EReal) (g b : Fin 1024 → EReal)
    (j : Fin 1024) : EReal :=
  normRow (fun j => Ideal.ofBits FTy.f32 1068827891#32 * x j + ∑ k, h k * wd k j) (g j) (b j) j

/-- The row with its gated per-layer embedding added. -/
def gateRow (x : Fin 1024 → EReal) (p : Fin 256 → EReal) (we : Fin 256 → Fin 1024 → EReal)
    (wg : Fin 1024 → Fin 1024 → EReal) (j : Fin 1024) : EReal :=
  x j + (∑ k, p k * we k j) *
    Ideal.div 1 (1 + Ideal.exp (-(∑ k, x k * wg k j)))

/-- The block payload after the token mixer, at a place. -/
theorem pay2_row (v0 : Vec Ideal S512x1024 .f32) (v3 : Vec Ideal S512x2048 .bf16) (v4 : Vec Ideal S2048x1024 .bf16)
    (v7 : Vec Ideal S1x1024 .f32) (v9 : Vec Ideal S1x1024 .f32) (r : Fin 512) (j : Fin 1024) :
    k0_pay2 v0 v3 v4 v7 v9 (ix2 r j) = mixRow (fun k => v0 (ix2 r k)) (fun k => v3 (ix2 r k))
      (fun k j => v4 (ix2 k j)) (fun j => v7 (ix2 0 j)) (fun j => v9 (ix2 0 j)) j := by
  pointwise [k0_pay2]
  rfl

/-- The hidden block payload, at a place. -/
theorem pay3_row (v0 : Vec Ideal S512x1024 .f32) (v3 : Vec Ideal S512x2048 .bf16) (v4 : Vec Ideal S2048x1024 .bf16)
    (v7 : Vec Ideal S1x1024 .f32) (v9 : Vec Ideal S1x1024 .f32) (v32 : Vec Ideal S1024x4096 .bf16) (r : Fin 512) (f : Fin 4096) :
    k0_pay3 v0 v3 v4 v7 v9 v32 (ix2 r f) = hidRow (fun k => k0_pay2 v0 v3 v4 v7 v9 (ix2 r k)) (fun k f => v32 (ix2 k f)) f := by
  pointwise [k0_pay3]
  rfl

/-- The block payload after the channel mixer, at a place. -/
theorem pay4_row (v30 : FVec Ideal S512x1024 .f32) (v37 : FVec Ideal S512x4096 .bf16) (v40 : Vec Ideal S4096x1024 .bf16)
    (v43 : Vec Ideal S1x1024 .f32) (v45 : Vec Ideal S1x1024 .f32) (r : Fin 512) (j : Fin 1024) :
    k0_pay4 v30 v37 v40 v43 v45 (ix2 r j) = mlpRow (fun k => v30 (ix2 r k)) (fun k => v37 (ix2 r k))
      (fun k j => v40 (ix2 k j)) (fun j => v43 (ix2 0 j)) (fun j => v45 (ix2 0 j)) j := by
  pointwise [k0_pay4]
  rfl

/-- The stored payload, at a place, from the row after the channel mixer. -/
theorem pay1_row (v30 : FVec Ideal S512x1024 .f32) (v37 : FVec Ideal S512x4096 .bf16) (v40 : Vec Ideal S4096x1024 .bf16)
    (v43 : Vec Ideal S1x1024 .f32) (v45 : Vec Ideal S1x1024 .f32) (v67 : Vec Ideal S512x256 .f32)
    (v69 : Vec Ideal S256x1024 .bf16) (v72 : Vec Ideal S1024x1024 .bf16) (r : Fin 512) (j : Fin 1024) :
    k0_pay1 (k0_pay4 v30 v37 v40 v43 v45) (k0_pay5 v67 v69) (k0_pay6 v30 v37 v40 v43 v45 v72) (ix2 r j)
      = gateRow (fun k => k0_pay4 v30 v37 v40 v43 v45 (ix2 r k)) (fun k => v67 (ix2 r k)) (fun k j => v69 (ix2 k j))
          (fun k j => v72 (ix2 k j)) j := by
  pointwise [k0_pay1, k0_pay5, k0_pay6]
  rw [zero_sub]
  rfl

open Cert.Reference2Ideal.Value in
/-- The reference's row after the token mixer. -/
theorem ref27_row (V0 : Valuation Cert.Reference2Ideal.τ Cert.Reference2Ideal.sig (Elt Ideal)) (r : Fin 32768) (j : Fin 1024) :
    (res_main_v27 V0 : FVec Ideal S32768x1024 .f32) (ix2 r j) = mixRow
      (fun k => (V0 (Proc.devRef .tc Cert.Reference2Ideal.main_arg0) : FVec Ideal S32768x1024 .f32) (ix2 r k))
      (fun k => (V0 (Proc.devRef .tc Cert.Reference2Ideal.main_arg1) : FVec Ideal S32768x2048 .bf16) (ix2 r k))
      (fun k j => (V0 (Proc.devRef .tc Cert.Reference2Ideal.main_arg3) : FVec Ideal S2048x1024 .bf16) (ix2 k j))
      (fun j => (V0 (Proc.devRef .tc Cert.Reference2Ideal.main_arg4) : FVec Ideal S1024 .f32) (ix1 j))
      (fun j => (V0 (Proc.devRef .tc Cert.Reference2Ideal.main_arg5) : FVec Ideal S1024 .f32) (ix1 j)) j := by
  pointwise [res_main_v27, res_main_v11, res_main_v5]
  rfl

open Cert.Reference2Ideal.Value in
/-- The reference's row after the channel mixer. -/
theorem ref58_row (V0 : Valuation Cert.Reference2Ideal.τ Cert.Reference2Ideal.sig (Elt Ideal)) (r : Fin 32768) (j : Fin 1024) :
    (res_main_v58 V0 : FVec Ideal S32768x1024 .f32) (ix2 r j) = mlpRow
      (fun k => (res_main_v27 V0 : FVec Ideal S32768x1024 .f32) (ix2 r k))
      (fun f => hidRow (fun k => (res_main_v27 V0 : FVec Ideal S32768x1024 .f32) (ix2 r k))
         (fun k f => (V0 (Proc.devRef .tc Cert.Reference2Ideal.main_arg6) : FVec Ideal S1024x4096 .bf16) (ix2 k f)) f)
      (fun k j => (V0 (Proc.devRef .tc Cert.Reference2Ideal.main_arg7) : FVec Ideal S4096x1024 .bf16) (ix2 k j))
      (fun j => (V0 (Proc.devRef .tc Cert.Reference2Ideal.main_arg8) : FVec Ideal S1024 .f32) (ix1 j))
      (fun j => (V0 (Proc.devRef .tc Cert.Reference2Ideal.main_arg9) : FVec Ideal S1024 .f32) (ix1 j)) j := by
  pointwise [res_main_v58, res_main_v42, res_main_v36, res_main_v30]
  rfl

/-- The reference's result as a function of the argument arrays, place by place. -/
def tailOf (x : FVec Ideal S32768x1024 .f32) (y : FVec Ideal S32768x2048 .bf16) (p : FVec Ideal S32768x256 .f32)
    (wo : FVec Ideal S2048x1024 .bf16) (g1 b1 : FVec Ideal S1024 .f32) (wu : FVec Ideal S1024x4096 .bf16)
    (wd : FVec Ideal S4096x1024 .bf16) (g2 b2 : FVec Ideal S1024 .f32) (we : FVec Ideal S256x1024 .bf16)
    (wg : FVec Ideal S1024x1024 .bf16) : FVec Ideal S32768x1024 .f32 := fun i =>
  let x1 := mixRow (fun k => x (ix2 (i 0) k)) (fun k => y (ix2 (i 0) k)) (fun k j => wo (ix2 k j))
    (fun j => g1 (ix1 j)) (fun j => b1 (ix1 j))
  let x2 := mlpRow x1 (hidRow x1 (fun k f => wu (ix2 k f))) (fun k j => wd (ix2 k j))
    (fun j => g2 (ix1 j)) (fun j => b2 (ix1 j))
  gateRow x2 (fun k => p (ix2 (i 0) k)) (fun k j => we (ix2 k j)) (fun k j => wg (ix2 k j)) (i 1)

open Cert.Reference2Ideal Cert.Reference2Ideal.Gen Cert.Reference2Ideal.Value in
/-- The reference's composed result is `tailOf` of its arguments. -/
theorem ref70 (V0 : Valuation Cert.Reference2Ideal.τ Cert.Reference2Ideal.sig (Elt Ideal)) :
    (val2 V0 (Proc.devRef .tc Cert.Reference2Ideal.main_v70) : FVec Ideal S32768x1024 .f32)
      = tailOf (V0 (Proc.devRef .tc Cert.Reference2Ideal.main_arg0)) (V0 (Proc.devRef .tc Cert.Reference2Ideal.main_arg1))
        (V0 (Proc.devRef .tc Cert.Reference2Ideal.main_arg2)) (V0 (Proc.devRef .tc Cert.Reference2Ideal.main_arg3))
        (V0 (Proc.devRef .tc Cert.Reference2Ideal.main_arg4)) (V0 (Proc.devRef .tc Cert.Reference2Ideal.main_arg5))
        (V0 (Proc.devRef .tc Cert.Reference2Ideal.main_arg6)) (V0 (Proc.devRef .tc Cert.Reference2Ideal.main_arg7))
        (V0 (Proc.devRef .tc Cert.Reference2Ideal.main_arg8)) (V0 (Proc.devRef .tc Cert.Reference2Ideal.main_arg9))
        (V0 (Proc.devRef .tc Cert.Reference2Ideal.main_arg10)) (V0 (Proc.devRef .tc Cert.Reference2Ideal.main_arg11)) := by
  rw [val2_main_v70]
  funext i
  obtain ⟨r, j, rfl⟩ : ∃ (r : Fin 32768) (j : Fin 1024), i = ix2 r j := ⟨i 0, i 1, by ext a; fin_cases a <;> rfl⟩
  have h1 := fun j => ref27_row V0 r j
  have h2 := fun j => ref58_row V0 r j
  simp only [h1] at h2
  pointwise []
  simp only [h2]
  rfl

variable (m : (ℓ : Loc nD τ sig) → Buf (Elt Ideal) ℓ)

/-- The windows' block indices at every grid point: row block `t` for the rows, the one block for the weights. -/
theorem idxT : ∀ t : Fin cfg0.N, win0_0.index t = ![t.val, 0] ∧ win0_1.index t = ![t.val, 0] ∧ win0_2.index t = ![t.val, 0]
    ∧ win0_3.index t = ![0, 0] ∧ win0_4.index t = ![0, 0] ∧ win0_5.index t = ![0, 0] ∧ win0_6.index t = ![0, 0]
    ∧ win0_7.index t = ![0, 0] ∧ win0_8.index t = ![0, 0] ∧ win0_9.index t = ![0, 0] ∧ win0_10.index t = ![0, 0]
    ∧ win0_11.index t = ![0, 0] ∧ win0_12.index t = ![t.val, 0] :=
  (by decide +kernel : ∀ t : Fin grid0.N, _)

set_option maxHeartbeats 1600000 in
/-- After the run the result array holds `tailOf` of the arguments. -/
theorem finalT (c : Dev nD) : (dats m 0 c).arrAt 12 cfg0.N
    = tailOf (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) (m ((c : Thread nD τ).loc main_arg7)) (m ((c : Thread nD τ).loc main_arg8))
        (m ((c : Thread nD τ).loc main_arg9)) (m ((c : Thread nD τ).loc main_arg10)) (m ((c : Thread nD τ).loc main_arg11)) := by
  refine (dats m 0 c).arrAt_eq_of_covers 12 _ (by decide +kernel) fun t _ y => ?_
  blk_simp
  rw [after0_12]
  unfold_out out0_12
  frame_out
  obtain ⟨r, j, rfl⟩ : ∃ (r : Fin 512) (j : Fin 1024), y = ix2 r j := ⟨y 0, y 1, by ext a; fin_cases a <;> rfl⟩
  have ht : t.val < 64 := t.isLt
  rw [pay1_row]
  simp only [pay4_row, pay3_row, pay2_row, tailOf]
  have h0 : ∀ k, iblk m c 0 t (ix2 r k) = m ((c : Thread nD τ).loc main_arg0) (ix2 (⟨t.val * 512 + r.val, by omega⟩ : Fin 32768) k) := by
    intro k; blk_ext [iblk, V, idxT t]
  have h1 : ∀ k, iblk m c 1 t (ix2 r k) = m ((c : Thread nD τ).loc main_arg1) (ix2 (⟨t.val * 512 + r.val, by omega⟩ : Fin 32768) k) := by
    intro k; blk_ext [iblk, V, idxT t]
  have h2 : ∀ k, iblk m c 2 t (ix2 r k) = m ((c : Thread nD τ).loc main_arg2) (ix2 (⟨t.val * 512 + r.val, by omega⟩ : Fin 32768) k) := by
    intro k; blk_ext [iblk, V, idxT t]
  have h3 : ∀ k j, iblk m c 3 t (ix2 k j) = m ((c : Thread nD τ).loc main_arg3) (ix2 k j) := by
    intro k j; blk_ext [iblk, V, idxT t]
  have h6 : ∀ k j, iblk m c 6 t (ix2 k j) = m ((c : Thread nD τ).loc main_arg6) (ix2 k j) := by
    intro k j; blk_ext [iblk, V, idxT t]
  have h7 : ∀ k j, iblk m c 7 t (ix2 k j) = m ((c : Thread nD τ).loc main_arg7) (ix2 k j) := by
    intro k j; blk_ext [iblk, V, idxT t]
  have h10 : ∀ k j, iblk m c 10 t (ix2 k j) = m ((c : Thread nD τ).loc main_arg10) (ix2 k j) := by
    intro k j; blk_ext [iblk, V, idxT t]
  have h11 : ∀ k j, iblk m c 11 t (ix2 k j) = m ((c : Thread nD τ).loc main_arg11) (ix2 k j) := by
    intro k j; blk_ext [iblk, V, idxT t]
  have h4 : ∀ k, iblk m c 4 t (ix2 0 k) = m ((c : Thread nD τ).loc main_arg4) (ix1 k) := by
    intro k
    blk_simp [iblk]
    entry_read
    pointwise []
    blk_ext [idxT t]
  have h5 : ∀ k, iblk m c 5 t (ix2 0 k) = m ((c : Thread nD τ).loc main_arg5) (ix1 k) := by
    intro k
    blk_simp [iblk]
    entry_read
    pointwise []
    blk_ext [idxT t]
  have h8 : ∀ k, iblk m c 8 t (ix2 0 k) = m ((c : Thread nD τ).loc main_arg8) (ix1 k) := by
    intro k
    blk_simp [iblk]
    entry_read
    pointwise []
    blk_ext [idxT t]
  have h9 : ∀ k, iblk m c 9 t (ix2 0 k) = m ((c : Thread nD τ).loc main_arg9) (ix1 k) := by
    intro k
    blk_simp [iblk]
    entry_read
    pointwise []
    blk_ext [idxT t]
  have hi : ((View.whole main_v4).slice (win0_12.rect t)).emb (ix2 r j) = ix2 (⟨t.val * 512 + r.val, by omega⟩ : Fin 32768) j := by
    blk_ext [idxT t]
  rw [hi]
  simp only [h0, h1, h2, h3, h4, h5, h6, h7, h8, h9, h10, h11]
  rfl

end Cert.Kernel2Ideal.Value

end
-- ==== Proof.Keys.lean ====
module

public import proofs.«01_k».proof.Proof.Gen.Kernel3Ideal.Value
public import proofs.«01_k».proof.Proof.Gen.Reference3Ideal.Run
public import Idealize.ShloMosaic.Lib.Pipeline.ValueKit

@[expose] public section

set_option maxRecDepth 16384

noncomputable section

/-! The shared keys and values: the four results of the projection, read off one product. -/

namespace Cert.Kernel3Ideal.Value

open Cert.Kernel3Ideal Cert.Kernel3Ideal.Gen Idealize.ShloMosaic Idealize.ShloMosaic.TcCoe Idealize.SL.Sem
open Idealize.ShloMosaic.Pipeline (Dat)

variable (m : (ℓ : Loc nD τ sig) → Buf (Elt Ideal) ℓ)

/-- The projection at row `r`, column `n`. -/
def projAt (X : FVec Ideal S32768x1024 .f32) (W : FVec Ideal S1024x2048 .bf16) (r : Fin 32768) (n : Fin 2048) : EReal :=
  ∑ k : Fin 1024, X (ix2 r k) * W (ix2 k n)

/-- The windows' block indices at every grid point. -/
theorem idxK : ∀ t : Fin cfg0.N, win0_0.index t = ![t.val, 0] ∧ win0_1.index t = ![0, 0] ∧ win0_2.index t = ![t.val, 0, 0]
    ∧ win0_3.index t = ![t.val, 0, 0] ∧ win0_4.index t = ![t.val, 0] ∧ win0_5.index t = ![t.val / 8, 0, 0, t.val % 8] :=
  (by decide +kernel : ∀ t : Fin grid0.N, _)

/-- The keys, heads apart. -/
def keysOf (X : FVec Ideal S32768x1024 .f32) (W : FVec Ideal S1024x2048 .bf16) : FVec Ideal S32768x8x128 .f32 := fun i =>
  projAt X W (i 0) ⟨(i 1).val * 128 + (i 2).val, by have := (i 1).isLt; have := (i 2).isLt; simp at *; omega⟩

/-- The values, heads apart. -/
def valsOf (X : FVec Ideal S32768x1024 .f32) (W : FVec Ideal S1024x2048 .bf16) : FVec Ideal S32768x8x128 .f32 := fun i =>
  projAt X W (i 0) ⟨1024 + ((i 1).val * 128 + (i 2).val), by have := (i 1).isLt; have := (i 2).isLt; simp at *; omega⟩

/-- The keys as the attention reads them. -/
def keys16Of (X : FVec Ideal S32768x1024 .f32) (W : FVec Ideal S1024x2048 .bf16) : FVec Ideal S32768x1024 .bf16 := fun i =>
  projAt X W (i 0) ⟨(i 1).val, by have := (i 1).isLt; simp at *; omega⟩

/-- The values as the attention reads them: transposed, with rows of ones below. -/
def vals16Of (X : FVec Ideal S32768x1024 .f32) (W : FVec Ideal S1024x2048 .bf16) : FVec Ideal S8x8x144x4096 .bf16 := fun i =>
  if h : (i 2).val < 128 then
    projAt X W ⟨(i 0).val * 4096 + (i 3).val, by have := (i 0).isLt; have := (i 3).isLt; simp at *; omega⟩
      ⟨1024 + ((i 1).val * 128 + (i 2).val), by have := (i 1).isLt; simp at *; omega⟩
  else 1

/-- The product at a block's row and column. -/
theorem pay3At (t : Fin cfg0.N) (c : Dev nD) (i : S512x2048.Idx) (r : Fin 32768) (n : Fin 2048)
    (hr : r.val = t.val * 512 + (i 0).val) (hn : n.val = (i 1).val) :
    k0_pay3 (F := Ideal) (iblk m c 0 t) (iblk m c 1 t) i
      = projAt (m ((c : Thread nD τ).loc main_arg0)) (m ((c : Thread nD τ).loc main_arg1)) r n := by
  pointwise [k0_pay3, projAt]
  blk_point [iblk, V, idxK t]

theorem final2 (c : Dev nD) : (dats m 0 c).arrAt 2 cfg0.N
    = keysOf (m ((c : Thread nD τ).loc main_arg0)) (m ((c : Thread nD τ).loc main_arg1)) := by
  refine (dats m 0 c).arrAt_eq_of_covers 2 _ (by decide +kernel) fun t _ y => ?_
  blk_simp
  rw [after0_2]; simp only [outsAt0]
  frame_out
  obtain_idx i : S512x2048 := [(y 0 : ℕ), (y 1 : ℕ) * 128 + (y 2 : ℕ)] with hi
  trans k0_pay3 (F := Ideal) (iblk m c 0 t) (iblk m c 1 t) i
  · pointwise [k0_pay4]
    blk_ext
  · unfold keysOf
    refine pay3At m t c i _ _ ?_ ?_ <;> blk_simp [idxK t] <;> (try dsimp only) <;> try omega

theorem final3 (c : Dev nD) : (dats m 0 c).arrAt 3 cfg0.N
    = valsOf (m ((c : Thread nD τ).loc main_arg0)) (m ((c : Thread nD τ).loc main_arg1)) := by
  refine (dats m 0 c).arrAt_eq_of_covers 3 _ (by decide +kernel) fun t _ y => ?_
  blk_simp
  rw [after0_3]; simp only [outsAt0]
  frame_out
  obtain_idx i : S512x2048 := [(y 0 : ℕ), 1024 + ((y 1 : ℕ) * 128 + (y 2 : ℕ))] with hi
  trans k0_pay3 (F := Ideal) (iblk m c 0 t) (iblk m c 1 t) i
  · pointwise [k0_pay5]
    blk_ext
  · unfold valsOf
    refine pay3At m t c i _ _ ?_ ?_ <;> blk_simp [idxK t] <;> (try dsimp only) <;> try omega

theorem final4 (c : Dev nD) : (dats m 0 c).arrAt 4 cfg0.N
    = keys16Of (m ((c : Thread nD τ).loc main_arg0)) (m ((c : Thread nD τ).loc main_arg1)) := by
  refine (dats m 0 c).arrAt_eq_of_covers 4 _ (by decide +kernel) fun t _ y => ?_
  blk_simp
  rw [after0_4]; simp only [outsAt0]
  frame_out
  obtain_idx i : S512x2048 := [(y 0 : ℕ), (y 1 : ℕ)] with hi
  trans k0_pay3 (F := Ideal) (iblk m c 0 t) (iblk m c 1 t) i
  · pointwise [k0_pay6]
    blk_ext
  · unfold keys16Of
    refine pay3At m t c i _ _ ?_ ?_ <;> blk_simp [idxK t] <;> (try dsimp only) <;> try omega

/-- A block of the transposed values, written from the product. -/
def blockV (P : FVec Ideal S512x2048 .f32) (y : S1x8x144x512.Idx) : EReal :=
  if h : (y 2).val < 128 then
    P (ix2 ⟨(y 3).val, (y 3).isLt⟩ ⟨1024 + ((y 1).val * 128 + (y 2).val), by have := (y 1).isLt; simp at *; omega⟩)
  else 1

theorem final5 (c : Dev nD) : (dats m 0 c).arrAt 5 cfg0.N
    = vals16Of (m ((c : Thread nD τ).loc main_arg0)) (m ((c : Thread nD τ).loc main_arg1)) := by
  refine (dats m 0 c).arrAt_eq_of_covers 5 _ (by decide +kernel) fun t _ y => ?_
  blk_simp
  rw [after0_5]; simp only [outsAt0]
  frame_out
  trans blockV (k0_pay3 (F := Ideal) (iblk m c 0 t) (iblk m c 1 t)) y
  · unfold blockV
    canon_tiles x h using (View.cover_of_tiledBy _ ![1, 1, 16, 512] (by sl_kernel_rfl) y)
    all_goals first
      | (rw [dif_neg (by omega)]; open_payloads; pointwise)
      | (rw [dif_pos (by omega)]; open_payloads; pointwise; blk_ext)
  · unfold blockV vals16Of
    have ht : t.val < 64 := lt_of_lt_of_eq t.isLt N_0
    have e2 : ((((View.whole main_v0_3).slice (win0_5.rect t)).emb y) 2).val = (y 2).val := by
      blk_simp [idxK t] <;> try omega
    by_cases h : (y 2).val < 128
    · rw [dif_pos h, dif_pos (by rw [e2]; exact h)]
      refine pay3At m t c _ _ _ ?_ ?_ <;> blk_simp [idxK t] <;> (try dsimp only) <;> try omega
    · rw [dif_neg h, dif_neg (by rw [e2]; exact h)]

end Cert.Kernel3Ideal.Value

/-! The reference's four terms. -/

namespace Cert.Reference3Ideal.Value

open Cert.Reference3Ideal Cert.Reference3Ideal.Gen Idealize.ShloMosaic Idealize.ShloMosaic.TcCoe Idealize.SL.Sem
open Cert.Kernel3Ideal.Value (projAt keysOf valsOf keys16Of vals16Of)

/-- The reference's `v8` is the projection's `keysOf`. -/
theorem ref_v8 (X : FVec Ideal S32768x1024 .f32) (W : FVec Ideal S1024x2048 .bf16) :
    (shapeCast S32768x8x128 (extractStridedSlice S32768x1024 ![0, 0] (Host.dotGeneral (F := Ideal) (φ₁ := .f32) (φ₂ := .f32) dot_S32768x1024_S1024x2048_S32768x2048_1_0_0_1_n_n none X (extf .f32 W bitsLt_bf16_f32)) slices_S32768x2048_S32768x1024_0_0) shapeCasts_S32768x1024_S32768x8x128) = keysOf X W := by
  funext y
  unfold keysOf
  pointwise [projAt]

/-- The reference's `v9` is the projection's `valsOf`. -/
theorem ref_v9 (X : FVec Ideal S32768x1024 .f32) (W : FVec Ideal S1024x2048 .bf16) :
    (shapeCast S32768x8x128 (extractStridedSlice S32768x1024 ![0, 1024] (Host.dotGeneral (F := Ideal) (φ₁ := .f32) (φ₂ := .f32) dot_S32768x1024_S1024x2048_S32768x2048_1_0_0_1_n_n none X (extf .f32 W bitsLt_bf16_f32)) slices_S32768x2048_S32768x1024_0_1024) shapeCasts_S32768x1024_S32768x8x128) = valsOf X W := by
  funext y
  unfold valsOf
  pointwise [projAt]

/-- The reference's `v10` is the projection's `keys16Of`. -/
theorem ref_v10 (X : FVec Ideal S32768x1024 .f32) (W : FVec Ideal S1024x2048 .bf16) :
    (truncf .bf16 (extractStridedSlice S32768x1024 ![0, 0] (Host.dotGeneral (F := Ideal) (φ₁ := .f32) (φ₂ := .f32) dot_S32768x1024_S1024x2048_S32768x2048_1_0_0_1_n_n none X (extf .f32 W bitsLt_bf16_f32)) slices_S32768x2048_S32768x1024_0_0) bitsLt_bf16_f32) = keys16Of X W := by
  funext y
  unfold keys16Of
  pointwise [projAt]

/-- The reference's `v11` is the projection's `vals16Of`. -/
theorem ref_v11 (X : FVec Ideal S32768x1024 .f32) (W : FVec Ideal S1024x2048 .bf16) :
    (truncf .bf16 (concatenate S8x8x144x4096 2 [⟨S8x8x128x4096, (transpose S8x8x128x4096 [0, 2, 3, 1] (shapeCast S8x4096x8x128 (extractStridedSlice S32768x1024 ![0, 1024] (Host.dotGeneral (F := Ideal) (φ₁ := .f32) (φ₂ := .f32) dot_S32768x1024_S1024x2048_S32768x2048_1_0_0_1_n_n none X (extf .f32 W bitsLt_bf16_f32)) slices_S32768x2048_S32768x1024_0_1024) shapeCasts_S32768x1024_S8x4096x8x128) transposes_S8x4096x8x128_S8x8x128x4096_0_2_3_1)⟩, ⟨S8x8x16x4096, (broadcastInDim S8x8x16x4096 ![] bcast_S_S8x8x16x4096 (constant S_ .f32 0x3F800000#32))⟩] concatenates_S8x8x128x4096_S8x8x16x4096_S8x8x144x4096_d2) bitsLt_bf16_f32) = vals16Of X W := by
  funext y
  unfold vals16Of
  pointwise [projAt]

end Cert.Reference3Ideal.Value

end
-- ==== Proof.Claims.lean ====
module

public import proofs.«01_k».proof.Defs
public import proofs.«01_k».proof.Proof.Queries
public import proofs.«01_k».proof.Proof.TailRows
public import proofs.«01_k».proof.Proof.Keys
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import Idealize.ShloMosaic.Adequacy
public import Idealize.ShloMosaic.Init

@[expose] public section

set_option maxRecDepth 16384

noncomputable section

/-! The value claims of the projections and of the layer's tail. -/

namespace Cert.Proof

open Idealize.ShloMosaic Idealize.SL.Sem

/-- The query projection: the kernel and the reference leave the same array. -/
theorem queries : Cert.algebraic_Kernel4Ideal_Reference4Ideal := by
  pair_intro
  · run_from Cert.Kernel4Ideal.Gen.run_main m g
  · run_from Cert.Reference4Ideal.Value.run m' g'
    exact (Cert.Kernel4Ideal.Value.finalQ m c).symm

/-- The shared keys and values: all four arrays agree. -/
theorem keys : Cert.algebraic_Kernel3Ideal_Reference3Ideal := by
  pair_intro
  · run_from Cert.Kernel3Ideal.Gen.run_main m g
  · run_from Cert.Reference3Ideal.Value.run m' g'
    · exact (Cert.Reference3Ideal.Value.ref_v8 _ _).trans (Cert.Kernel3Ideal.Value.final2 m c).symm
    · exact (Cert.Reference3Ideal.Value.ref_v9 _ _).trans (Cert.Kernel3Ideal.Value.final3 m c).symm
    · exact (Cert.Reference3Ideal.Value.ref_v10 _ _).trans (Cert.Kernel3Ideal.Value.final4 m c).symm
    · exact (Cert.Reference3Ideal.Value.ref_v11 _ _).trans (Cert.Kernel3Ideal.Value.final5 m c).symm

section
open Cert.Reference2Ideal
/-- The tail's reference, its result as the row formula. -/
theorem tailRun (m' : (ℓ : Loc nD τ sig) → Buf (Elt Ideal) ℓ) (g' : Dev nD → PrngReg) :
    θ_run (defs (F := Ideal)) (onTc (τ := τ) (main (F := Ideal))) ⟨m', fun _ => 0, g'⟩ fun r => ∀ c : Dev nD,
      r.2.mem ((c.tc : Thread nD τ).loc main_v70) = Cert.Kernel2Ideal.Value.tailOf (m' ((c.tc : Thread nD τ).loc main_arg0)) (m' ((c.tc : Thread nD τ).loc main_arg1)) (m' ((c.tc : Thread nD τ).loc main_arg2)) (m' ((c.tc : Thread nD τ).loc main_arg3)) (m' ((c.tc : Thread nD τ).loc main_arg4)) (m' ((c.tc : Thread nD τ).loc main_arg5)) (m' ((c.tc : Thread nD τ).loc main_arg6)) (m' ((c.tc : Thread nD τ).loc main_arg7)) (m' ((c.tc : Thread nD τ).loc main_arg8)) (m' ((c.tc : Thread nD τ).loc main_arg9)) (m' ((c.tc : Thread nD τ).loc main_arg10)) (m' ((c.tc : Thread nD τ).loc main_arg11))
      ∧ r.2.mem ((c.tc : Thread nD τ).loc main_arg0) = m' ((c.tc : Thread nD τ).loc main_arg0)
      ∧ r.2.mem ((c.tc : Thread nD τ).loc main_arg1) = m' ((c.tc : Thread nD τ).loc main_arg1)
      ∧ r.2.mem ((c.tc : Thread nD τ).loc main_arg2) = m' ((c.tc : Thread nD τ).loc main_arg2)
      ∧ r.2.mem ((c.tc : Thread nD τ).loc main_arg3) = m' ((c.tc : Thread nD τ).loc main_arg3)
      ∧ r.2.mem ((c.tc : Thread nD τ).loc main_arg4) = m' ((c.tc : Thread nD τ).loc main_arg4)
      ∧ r.2.mem ((c.tc : Thread nD τ).loc main_arg5) = m' ((c.tc : Thread nD τ).loc main_arg5)
      ∧ r.2.mem ((c.tc : Thread nD τ).loc main_arg6) = m' ((c.tc : Thread nD τ).loc main_arg6)
      ∧ r.2.mem ((c.tc : Thread nD τ).loc main_arg7) = m' ((c.tc : Thread nD τ).loc main_arg7)
      ∧ r.2.mem ((c.tc : Thread nD τ).loc main_arg8) = m' ((c.tc : Thread nD τ).loc main_arg8)
      ∧ r.2.mem ((c.tc : Thread nD τ).loc main_arg9) = m' ((c.tc : Thread nD τ).loc main_arg9)
      ∧ r.2.mem ((c.tc : Thread nD τ).loc main_arg10) = m' ((c.tc : Thread nD τ).loc main_arg10)
      ∧ r.2.mem ((c.tc : Thread nD τ).loc main_arg11) = m' ((c.tc : Thread nD τ).loc main_arg11) :=
  (θ_run _ _ _).mono (fun _ h c => ⟨(h c).1.trans ((Cert.Reference2Ideal.Value.val2_main_v70 (StableHlo.launchContents m' c)).symm.trans
    (Cert.Kernel2Ideal.Value.ref70 (StableHlo.launchContents m' c))), (h c).2⟩) (Cert.Reference2Ideal.Value.run m' g')
end

/-- The layer's tail: the kernel and the reference leave the same array. -/
theorem tail : Cert.algebraic_Kernel2Ideal_Reference2Ideal := by
  pair_intro
  · run_from Cert.Kernel2Ideal.Gen.run_main m g
  · run_from tailRun m' g'
    exact (Cert.Kernel2Ideal.Value.finalT m c).symm

end Cert.Proof

end
-- ==== Proof.Groups.lean ====
module

public import proofs.«01_k».proof.Proof.Gen.KernelIdeal.Frame
public import Idealize.ShloMosaic.Lib.Pipeline.ValueKit
public import Idealize.ShloMosaic.Lib.Pointwise
public import Idealize.ShloMosaic.Lib.Pipeline.CanonAppend

@[expose] public section

set_option maxRecDepth 16384

noncomputable section

/-! One block of keys against 256 columns of scores: what the attention's body stores for the running maximum and
for the running weighted values, as functions of what it loads. -/

namespace Cert.KernelIdeal.Value

open Cert.KernelIdeal Cert.KernelIdeal.Gen Idealize.ShloMosaic Idealize.ShloMosaic.TcCoe Idealize.SL.Sem

/-- The scores of 1024 keys. -/
def score1 (K : FVec Ideal S1x1024x128 .bf16) (Q : FVec Ideal S1x128x256 .bf16) : FVec Ideal S1024x256 .f32 :=
  matmul dot_S1024x128_S128x256_S1024x256_1_0_0_1_n_n none (shapeCast S1024x128 K (by decide))
    (shapeCast S128x256 Q (by decide)) (constant S1024x256 .f32 0x00000000#32)

/-- The scores of 512 keys. -/
def score5 (K : FVec Ideal S1x512x128 .bf16) (Q : FVec Ideal S1x128x256 .bf16) : FVec Ideal S512x256 .f32 :=
  matmul dot_S512x128_S128x256_S512x256_1_0_0_1_n_n none (shapeCast S512x128 K (by decide))
    (shapeCast S128x256 Q (by decide)) (constant S512x256 .f32 0x00000000#32)

/-- The scores of 1024 keys with their bias. -/
def biased1 (K : FVec Ideal S1x1024x128 .bf16) (Q : FVec Ideal S1x128x256 .bf16) (b : FVec Ideal S1x2x512x256 .f32) :
    FVec Ideal S1024x256 .f32 :=
  addf (score1 K Q) (shapeCast S1024x256 (shapeCast S2x512x256 b (by decide)) (by decide))

/-- The scores of 512 keys with their bias. -/
def biased5 (K : FVec Ideal S1x512x128 .bf16) (Q : FVec Ideal S1x128x256 .bf16) (b : FVec Ideal S1x1x512x256 .f32) :
    FVec Ideal S512x256 .f32 :=
  addf (score5 K Q) (shapeCast S512x256 b (by decide))

/-- The largest of 1024 scores. -/
def top1 (s : FVec Ideal S1024x256 .f32) : FVec Ideal S1x256 .f32 :=
  shapeCast S1x256 (multiReduction .maximumf [0] S256 s 0xFF800000#32 reduces_S1024x256_S256 (.inl rfl) rfl) (by decide)

/-- The largest of 512 scores. -/
def top5 (s : FVec Ideal S512x256 .f32) : FVec Ideal S1x256 .f32 :=
  shapeCast S1x256 (multiReduction .maximumf [0] S256 s 0xFF800000#32 (by decide) (.inl rfl) rfl) (by decide)

/-- The running maximum after keys without bias of their own, their shared bias `f`. -/
def farM (t : FVec Ideal S1x256 .f32) (f : EReal) (m : FVec Ideal S1x1x256 .f32) : FVec Ideal S1x256 .f32 :=
  maximumf (shapeCast S1x256 m (by decide)) (addf t (broadcast S1x256 f : FVec Ideal S1x256 .f32))

/-- The running maximum after keys with a bias each. -/
def nearM (t : FVec Ideal S1x256 .f32) (m : FVec Ideal S1x1x256 .f32) : FVec Ideal S1x256 .f32 :=
  maximumf (shapeCast S1x256 m (by decide)) t

/-- The weighted values carried over to the new maximum `n`, with the new keys' part `p` added. -/
def carry (n : FVec Ideal S1x256 .f32) (m : FVec Ideal S1x1x256 .f32) (a : FVec Ideal S1x144x256 .f32)
    (p : FVec Ideal S144x256 .f32) : FVec Ideal S1x144x256 .f32 :=
  shapeCast S1x144x256 (addf (mulf (broadcastTo S144x256 (exp2 (subf (shapeCast S1x256 m (by decide)) n)) (by decide))
    (shapeCast S144x256 a (by decide))) p) (by decide)

/-- The part of 1024 keys relative to `n`. -/
def part1 (s : FVec Ideal S1024x256 .f32) (n : FVec Ideal S1x256 .f32) (V : FVec Ideal S1x1x144x1024 .bf16) :
    FVec Ideal S144x256 .f32 :=
  matmul dot_S144x1024_S1024x256_S144x256_1_0_0_1_n_n none (shapeCast S144x1024 V (by decide))
    (truncf .bf16 (exp2 (subf s (broadcastTo S1024x256 n (by decide)))) bitsLt_bf16_f32) (constant S144x256 .f32 0x00000000#32)

/-- The part of 512 keys relative to `n`. -/
def part5 (s : FVec Ideal S512x256 .f32) (n : FVec Ideal S1x256 .f32) (V : FVec Ideal S1x1x144x512 .bf16) :
    FVec Ideal S144x256 .f32 :=
  matmul dot_S144x512_S512x256_S144x256_1_0_0_1_n_n none (shapeCast S144x512 V (by decide))
    (truncf .bf16 (exp2 (subf s (broadcastTo S512x256 n (by decide)))) bitsLt_bf16_f32) (constant S144x256 .f32 0x00000000#32)

/-- The running maximum as it is stored. -/
def storeM (n : FVec Ideal S1x256 .f32) : FVec Ideal S1x1x256 .f32 := shapeCast S1x1x256 n (by decide)

/-- A shared bias taken from a maximum. -/
def less (n : FVec Ideal S1x256 .f32) (f : EReal) : FVec Ideal S1x256 .f32 :=
  subf n (broadcast S1x256 f : FVec Ideal S1x256 .f32)

theorem bottom : Ideal.ofBits .f32 0xFF800000#32 = (⊥ : EReal) := by simp [Ideal.ofBits, Ideal.ieee]

/-- A score of one of 1024 keys. -/
theorem score1_at (K : FVec Ideal S1x1024x128 .bf16) (Q : FVec Ideal S1x128x256 .bf16) (k : Fin 1024) (c : Fin 256) :
    score1 K Q (ix2 k c) = ∑ d : Fin 128, K (ix3 0 k d) * Q (ix3 0 d c) := by
  pointwise [score1]

/-- A score of one of 512 keys. -/
theorem score5_at (K : FVec Ideal S1x512x128 .bf16) (Q : FVec Ideal S1x128x256 .bf16) (k : Fin 512) (c : Fin 256) :
    score5 K Q (ix2 k c) = ∑ d : Fin 128, K (ix3 0 k d) * Q (ix3 0 d c) := by
  pointwise [score5]

/-- The largest of a column's 1024 scores. -/
theorem top1_at (s : FVec Ideal S1024x256 .f32) (c : Fin 256) :
    top1 s (ix2 0 c) = Finset.univ.sup fun k : Fin 1024 => s (ix2 k c) := by
  pointwise [top1]
  rw [bottom]; rfl

/-- The largest of a column's 512 scores. -/
theorem top5_at (s : FVec Ideal S512x256 .f32) (c : Fin 256) :
    top5 s (ix2 0 c) = Finset.univ.sup fun k : Fin 512 => s (ix2 k c) := by
  pointwise [top5]
  rw [bottom]; rfl

theorem farM_at (t : FVec Ideal S1x256 .f32) (f : EReal) (m : FVec Ideal S1x1x256 .f32) (c : Fin 256) :
    farM t f m (ix2 0 c) = max (m (ix3 0 0 c)) (t (ix2 0 c) + f) := by
  pointwise [farM]

theorem nearM_at (t : FVec Ideal S1x256 .f32) (m : FVec Ideal S1x1x256 .f32) (c : Fin 256) :
    nearM t m (ix2 0 c) = max (m (ix3 0 0 c)) (t (ix2 0 c)) := by
  pointwise [nearM]

theorem carry_at (n : FVec Ideal S1x256 .f32) (m : FVec Ideal S1x1x256 .f32) (a : FVec Ideal S1x144x256 .f32)
    (p : FVec Ideal S144x256 .f32) (d : Fin 144) (c : Fin 256) :
    carry n m a p (ix3 0 d c) = Ideal.exp2 (m (ix3 0 0 c) - n (ix2 0 c)) * a (ix3 0 d c) + p (ix2 d c) := by
  pointwise [carry]
  rfl

theorem part1_at (s : FVec Ideal S1024x256 .f32) (n : FVec Ideal S1x256 .f32) (V : FVec Ideal S1x1x144x1024 .bf16)
    (d : Fin 144) (c : Fin 256) :
    part1 s n V (ix2 d c) = ∑ k : Fin 1024, V (ix4 0 0 d k) * Ideal.exp2 (s (ix2 k c) - n (ix2 0 c)) := by
  pointwise [part1]
  rfl

theorem part5_at (s : FVec Ideal S512x256 .f32) (n : FVec Ideal S1x256 .f32) (V : FVec Ideal S1x1x144x512 .bf16)
    (d : Fin 144) (c : Fin 256) :
    part5 s n V (ix2 d c) = ∑ k : Fin 512, V (ix4 0 0 d k) * Ideal.exp2 (s (ix2 k c) - n (ix2 0 c)) := by
  pointwise [part5]
  rfl

theorem storeM_at (n : FVec Ideal S1x256 .f32) (c : Fin 256) : storeM n (ix3 0 0 c) = n (ix2 0 c) := by
  pointwise [storeM]

theorem less_at (n : FVec Ideal S1x256 .f32) (f : EReal) (c : Fin 256) : less n f (ix2 0 c) = n (ix2 0 c) - f := by
  pointwise [less]

theorem biased1_at (K : FVec Ideal S1x1024x128 .bf16) (Q : FVec Ideal S1x128x256 .bf16) (b : FVec Ideal S1x2x512x256 .f32)
    (k : Fin 1024) (c : Fin 256) :
    biased1 K Q b (ix2 k c) = score1 K Q (ix2 k c) + b (ix4 0 ⟨k.val / 512, by omega⟩ ⟨k.val % 512, by omega⟩ c) := by
  pointwise [biased1]

theorem biased5_at (K : FVec Ideal S1x512x128 .bf16) (Q : FVec Ideal S1x128x256 .bf16) (b : FVec Ideal S1x1x512x256 .f32)
    (k : Fin 512) (c : Fin 256) :
    biased5 K Q b (ix2 k c) = score5 K Q (ix2 k c) + b (ix4 0 0 k c) := by
  pointwise [biased5]

/-! Eight groups of 256 columns, stored one after another: the loads of a group, and the stores read back. -/

/-- The loads of a group: 1024 or 512 keys, the queries, the maximum, the weighted values, 1024 or 512 value columns. -/
abbrev ldK1 (v : View sig .tc .vmem S1x4096x256 .bf16) (X : v.ty.Contents (Elt Ideal)) (off : Fin 3 → ℕ)
    (inb : ∀ a, off a + S1x1024x128.size a ≤ S1x4096x256.size a) : FVec Ideal S1x1024x128 .bf16 :=
  View.readAt (Elt Ideal) v (Rect.unit (s := S1x4096x256) off S1x1024x128.size inb).toLoadRect X

abbrev ldK5 (v : View sig .tc .vmem S1x4096x256 .bf16) (X : v.ty.Contents (Elt Ideal)) (off : Fin 3 → ℕ)
    (inb : ∀ a, off a + S1x512x128.size a ≤ S1x4096x256.size a) : FVec Ideal S1x512x128 .bf16 :=
  View.readAt (Elt Ideal) v (Rect.unit (s := S1x4096x256) off S1x512x128.size inb).toLoadRect X

abbrev ldQ (v : View sig .tc .vmem S2x128x1024 .bf16) (X : v.ty.Contents (Elt Ideal)) (h c : ℕ)
    (inb : ∀ a, (![h, 0, c] : Fin 3 → ℕ) a + S1x128x256.size a ≤ S2x128x1024.size a) : FVec Ideal S1x128x256 .bf16 :=
  View.readAt (Elt Ideal) v (Rect.unit (s := S2x128x1024) ![h, 0, c] S1x128x256.size inb).toLoadRect X

abbrev ldM (v : View sig .tc .vmem S2x1x1024 .f32) (X : v.ty.Contents (Elt Ideal)) (h c : ℕ)
    (inb : ∀ a, (![h, 0, c] : Fin 3 → ℕ) a + S1x1x256.size a ≤ S2x1x1024.size a) : FVec Ideal S1x1x256 .f32 :=
  View.readAt (Elt Ideal) v (Rect.unit (s := S2x1x1024) ![h, 0, c] S1x1x256.size inb).toLoadRect X

abbrev ldA (v : View sig .tc .vmem S2x144x1024 .f32) (X : v.ty.Contents (Elt Ideal)) (h c : ℕ)
    (inb : ∀ a, (![h, 0, c] : Fin 3 → ℕ) a + S1x144x256.size a ≤ S2x144x1024.size a) : FVec Ideal S1x144x256 .f32 :=
  View.readAt (Elt Ideal) v (Rect.unit (s := S2x144x1024) ![h, 0, c] S1x144x256.size inb).toLoadRect X

abbrev ldV1 (v : View sig .tc .vmem S1x2x144x4096 .bf16) (X : v.ty.Contents (Elt Ideal)) (off : Fin 4 → ℕ)
    (inb : ∀ a, off a + S1x1x144x1024.size a ≤ S1x2x144x4096.size a) : FVec Ideal S1x1x144x1024 .bf16 :=
  View.readAt (Elt Ideal) v (Rect.unit (s := S1x2x144x4096) off S1x1x144x1024.size inb).toLoadRect X

abbrev ldV5 (v : View sig .tc .vmem S1x2x144x4096 .bf16) (X : v.ty.Contents (Elt Ideal)) (off : Fin 4 → ℕ)
    (inb : ∀ a, off a + S1x1x144x512.size a ≤ S1x2x144x4096.size a) : FVec Ideal S1x1x144x512 .bf16 :=
  View.readAt (Elt Ideal) v (Rect.unit (s := S1x2x144x4096) off S1x1x144x512.size inb).toLoadRect X

abbrev ldB1 (v : View sig .tc .vmem S2x2x512x512 .f32) (X : v.ty.Contents (Elt Ideal)) (h c : ℕ)
    (inb : ∀ a, (![h, 0, 0, c] : Fin 4 → ℕ) a + S1x2x512x256.size a ≤ S2x2x512x512.size a) : FVec Ideal S1x2x512x256 .f32 :=
  View.readAt (Elt Ideal) v (Rect.unit (s := S2x2x512x512) ![h, 0, 0, c] S1x2x512x256.size inb).toLoadRect X

abbrev ldB5 (v : View sig .tc .vmem S2x2x512x512 .f32) (X : v.ty.Contents (Elt Ideal)) (h c : ℕ)
    (inb : ∀ a, (![h, 1, 0, c] : Fin 4 → ℕ) a + S1x1x512x256.size a ≤ S2x2x512x512.size a) : FVec Ideal S1x1x512x256 .f32 :=
  View.readAt (Elt Ideal) v (Rect.unit (s := S2x2x512x512) ![h, 1, 0, c] S1x1x512x256.size inb).toLoadRect X

/-- The eight stores, the last one first. -/
abbrev piecesM (w00 w01 w02 w03 w10 w11 w12 w13 : FVec Ideal S1x1x256 .f32) : List (View.Piece (Elt Ideal) S2x1x1024 .f32) :=
  [⟨Rect.unit (s := S2x1x1024) ![1, 0, 768] S1x1x256.size (by decide), w13⟩,
   ⟨Rect.unit (s := S2x1x1024) ![1, 0, 512] S1x1x256.size (by decide), w12⟩,
   ⟨Rect.unit (s := S2x1x1024) ![1, 0, 256] S1x1x256.size (by decide), w11⟩,
   ⟨Rect.unit (s := S2x1x1024) ![1, 0, 0] S1x1x256.size (by decide), w10⟩,
   ⟨Rect.unit (s := S2x1x1024) ![0, 0, 768] S1x1x256.size (by decide), w03⟩,
   ⟨Rect.unit (s := S2x1x1024) ![0, 0, 512] S1x1x256.size (by decide), w02⟩,
   ⟨Rect.unit (s := S2x1x1024) ![0, 0, 256] S1x1x256.size (by decide), w01⟩,
   ⟨Rect.unit (s := S2x1x1024) ![0, 0, 0] S1x1x256.size (by decide), w00⟩]

/-- An index of a group, by its row and column. -/
theorem at_ix3M (x : S1x1x256.Idx) : x = ix3 0 (x 1) (x 2) :=
  (eq_ix3 x).trans (congrArg (fun a : Fin 1 => (ix3 a (x 1) (x 2) : S1x1x256.Idx)) (Subsingleton.elim (α := Fin 1) _ _))

/-- Where a group's index lies. -/
theorem placeM (G : Fin 2 → Fin 1 → Fin 1024 → EReal) (h : Fin 2) (c : ℕ) (hc : c + 256 ≤ 1024) (x : S1x1x256.Idx)
    (inb : ∀ a, (![h.val, 0, c] : Fin 3 → ℕ) a + S1x1x256.size a ≤ S2x1x1024.size a) (hx : c + 256 ≤ 1024) :
    G h (x 1) ⟨c + (x 2).val, lt_of_lt_of_le (Nat.add_lt_add_left (show (x 2).val < 256 from (x 2).isLt) c) hc⟩
      = (fun y : S2x1x1024.Idx => G (y 0) (y 1) (y 2)) ((Rect.unit (s := S2x1x1024) ![h.val, 0, c] S1x1x256.size inb).emb x) := by
  have h0 : (x 0).val = 0 := by have : (x 0).val < 1 := (x 0).isLt; omega
  show G h (x 1) _ = G _ _ _
  refine congr (congr (congrArg G (Fin.ext ?_)) (Fin.ext ?_)) (Fin.ext ?_)
  · show h.val = h.val + 1 * (x 0).val
    omega
  · show (x 1).val = 0 + 1 * (x 1).val
    omega
  · show c + (x 2).val = c + 1 * (x 2).val
    omega

/-- What the eight stores leave, read back. -/
theorem canon_piecesM (w00 w01 w02 w03 w10 w11 w12 w13 : FVec Ideal S1x1x256 .f32) (L : List (View.Piece (Elt Ideal) S2x1x1024 .f32))
    (G : Fin 2 → Fin 1 → Fin 1024 → EReal)
    (h00 : ∀ (d : Fin 1) (c : Fin 256), w00 (ix3 0 d c) = G 0 d ⟨0 + c.val, by omega⟩)
    (h01 : ∀ (d : Fin 1) (c : Fin 256), w01 (ix3 0 d c) = G 0 d ⟨256 + c.val, by omega⟩)
    (h02 : ∀ (d : Fin 1) (c : Fin 256), w02 (ix3 0 d c) = G 0 d ⟨512 + c.val, by omega⟩)
    (h03 : ∀ (d : Fin 1) (c : Fin 256), w03 (ix3 0 d c) = G 0 d ⟨768 + c.val, by omega⟩)
    (h10 : ∀ (d : Fin 1) (c : Fin 256), w10 (ix3 0 d c) = G 1 d ⟨0 + c.val, by omega⟩)
    (h11 : ∀ (d : Fin 1) (c : Fin 256), w11 (ix3 0 d c) = G 1 d ⟨256 + c.val, by omega⟩)
    (h12 : ∀ (d : Fin 1) (c : Fin 256), w12 (ix3 0 d c) = G 1 d ⟨512 + c.val, by omega⟩)
    (h13 : ∀ (d : Fin 1) (c : Fin 256), w13 (ix3 0 d c) = G 1 d ⟨768 + c.val, by omega⟩)
    (h : Fin 2) (d : Fin 1) (c : Fin 1024) : View.canon (Val := Elt Ideal) (piecesM w00 w01 w02 w03 w10 w11 w12 w13 ++ L) (ix3 h d c) = G h d c := by
  refine (View.canon_append_of_pieces (Val := Elt Ideal) (S := S2x1x1024) (fun y => G (y 0) (y 1) (y 2)) L _ ?_ (ix3 h d c) ?_)
  · intro p hp x
    simp only [piecesM, List.mem_cons, List.not_mem_nil, or_false] at hp
    rcases hp with rfl | rfl | rfl | rfl | rfl | rfl | rfl | rfl
    · exact (congrArg (w13) (at_ix3M x)).trans ((h13 (x 1) (x 2)).trans (placeM G 1 768 (by decide) x (by decide) (by decide)))
    · exact (congrArg (w12) (at_ix3M x)).trans ((h12 (x 1) (x 2)).trans (placeM G 1 512 (by decide) x (by decide) (by decide)))
    · exact (congrArg (w11) (at_ix3M x)).trans ((h11 (x 1) (x 2)).trans (placeM G 1 256 (by decide) x (by decide) (by decide)))
    · exact (congrArg (w10) (at_ix3M x)).trans ((h10 (x 1) (x 2)).trans (placeM G 1 0 (by decide) x (by decide) (by decide)))
    · exact (congrArg (w03) (at_ix3M x)).trans ((h03 (x 1) (x 2)).trans (placeM G 0 768 (by decide) x (by decide) (by decide)))
    · exact (congrArg (w02) (at_ix3M x)).trans ((h02 (x 1) (x 2)).trans (placeM G 0 512 (by decide) x (by decide) (by decide)))
    · exact (congrArg (w01) (at_ix3M x)).trans ((h01 (x 1) (x 2)).trans (placeM G 0 256 (by decide) x (by decide) (by decide)))
    · exact (congrArg (w00) (at_ix3M x)).trans ((h00 (x 1) (x 2)).trans (placeM G 0 0 (by decide) x (by decide) (by decide)))
  · obtain ⟨g, hg⟩ : ∃ g, g = c.val / 256 := ⟨_, rfl⟩
    have hc := c.isLt
    have hd := d.isLt
    have hmem : ∀ (H C : ℕ) (inb : ∀ a, (![H, 0, C] : Fin 3 → ℕ) a + S1x1x256.size a ≤ S2x1x1024.size a), h.val = H → C ≤ c.val → c.val < C + 256 →
        (ix3 h d c : S2x1x1024.Idx) ∈ (Rect.unit (s := S2x1x1024) ![H, 0, C] S1x1x256.size inb).set := fun H C inb e1 e2 e3 => by
      refine (Rect.unit (s := S2x1x1024) ![H, 0, C] S1x1x256.size inb).mem_set.mpr fun a => ?_
      fin_cases a
      · exact ⟨0, Nat.one_pos, by simp [Rect.unit]; omega⟩
      · exact ⟨d.val, by simpa [Rect.unit] using hd, by simp [Rect.unit]⟩
      · exact ⟨c.val - C, by simp [Rect.unit]; omega, by simp [Rect.unit]; omega⟩
    fin_cases h
    all_goals
      rcases (show g = 0 ∨ g = 1 ∨ g = 2 ∨ g = 3 by omega) with rfl | rfl | rfl | rfl
    · exact ⟨_, (List.mem_cons_of_mem _ (List.mem_cons_of_mem _ (List.mem_cons_of_mem _ (List.mem_cons_of_mem _ (List.mem_cons_of_mem _ (List.mem_cons_of_mem _ (List.mem_cons_of_mem _ List.mem_cons_self))))))), hmem 0 0 (by decide) rfl (by omega) (by omega)⟩
    · exact ⟨_, (List.mem_cons_of_mem _ (List.mem_cons_of_mem _ (List.mem_cons_of_mem _ (List.mem_cons_of_mem _ (List.mem_cons_of_mem _ (List.mem_cons_of_mem _ List.mem_cons_self)))))), hmem 0 256 (by decide) rfl (by omega) (by omega)⟩
    · exact ⟨_, (List.mem_cons_of_mem _ (List.mem_cons_of_mem _ (List.mem_cons_of_mem _ (List.mem_cons_of_mem _ (List.mem_cons_of_mem _ List.mem_cons_self))))), hmem 0 512 (by decide) rfl (by omega) (by omega)⟩
    · exact ⟨_, (List.mem_cons_of_mem _ (List.mem_cons_of_mem _ (List.mem_cons_of_mem _ (List.mem_cons_of_mem _ List.mem_cons_self)))), hmem 0 768 (by decide) rfl (by omega) (by omega)⟩
    · exact ⟨_, (List.mem_cons_of_mem _ (List.mem_cons_of_mem _ (List.mem_cons_of_mem _ List.mem_cons_self))), hmem 1 0 (by decide) rfl (by omega) (by omega)⟩
    · exact ⟨_, (List.mem_cons_of_mem _ (List.mem_cons_of_mem _ List.mem_cons_self)), hmem 1 256 (by decide) rfl (by omega) (by omega)⟩
    · exact ⟨_, (List.mem_cons_of_mem _ List.mem_cons_self), hmem 1 512 (by decide) rfl (by omega) (by omega)⟩
    · exact ⟨_, List.mem_cons_self, hmem 1 768 (by decide) rfl (by omega) (by omega)⟩

/-- The eight stores, the last one first. -/
abbrev piecesA (w00 w01 w02 w03 w10 w11 w12 w13 : FVec Ideal S1x144x256 .f32) : List (View.Piece (Elt Ideal) S2x144x1024 .f32) :=
  [⟨Rect.unit (s := S2x144x1024) ![1, 0, 768] S1x144x256.size (by decide), w13⟩,
   ⟨Rect.unit (s := S2x144x1024) ![1, 0, 512] S1x144x256.size (by decide), w12⟩,
   ⟨Rect.unit (s := S2x144x1024) ![1, 0, 256] S1x144x256.size (by decide), w11⟩,
   ⟨Rect.unit (s := S2x144x1024) ![1, 0, 0] S1x144x256.size (by decide), w10⟩,
   ⟨Rect.unit (s := S2x144x1024) ![0, 0, 768] S1x144x256.size (by decide), w03⟩,
   ⟨Rect.unit (s := S2x144x1024) ![0, 0, 512] S1x144x256.size (by decide), w02⟩,
   ⟨Rect.unit (s := S2x144x1024) ![0, 0, 256] S1x144x256.size (by decide), w01⟩,
   ⟨Rect.unit (s := S2x144x1024) ![0, 0, 0] S1x144x256.size (by decide), w00⟩]

/-- An index of a group, by its row and column. -/
theorem at_ix3A (x : S1x144x256.Idx) : x = ix3 0 (x 1) (x 2) :=
  (eq_ix3 x).trans (congrArg (fun a : Fin 1 => (ix3 a (x 1) (x 2) : S1x144x256.Idx)) (Subsingleton.elim (α := Fin 1) _ _))

/-- Where a group's index lies. -/
theorem placeA (G : Fin 2 → Fin 144 → Fin 1024 → EReal) (h : Fin 2) (c : ℕ) (hc : c + 256 ≤ 1024) (x : S1x144x256.Idx)
    (inb : ∀ a, (![h.val, 0, c] : Fin 3 → ℕ) a + S1x144x256.size a ≤ S2x144x1024.size a) (hx : c + 256 ≤ 1024) :
    G h (x 1) ⟨c + (x 2).val, lt_of_lt_of_le (Nat.add_lt_add_left (show (x 2).val < 256 from (x 2).isLt) c) hc⟩
      = (fun y : S2x144x1024.Idx => G (y 0) (y 1) (y 2)) ((Rect.unit (s := S2x144x1024) ![h.val, 0, c] S1x144x256.size inb).emb x) := by
  have h0 : (x 0).val = 0 := by have : (x 0).val < 1 := (x 0).isLt; omega
  show G h (x 1) _ = G _ _ _
  refine congr (congr (congrArg G (Fin.ext ?_)) (Fin.ext ?_)) (Fin.ext ?_)
  · show h.val = h.val + 1 * (x 0).val
    omega
  · show (x 1).val = 0 + 1 * (x 1).val
    omega
  · show c + (x 2).val = c + 1 * (x 2).val
    omega

/-- What the eight stores leave, read back. -/
theorem canon_piecesA (w00 w01 w02 w03 w10 w11 w12 w13 : FVec Ideal S1x144x256 .f32) (L : List (View.Piece (Elt Ideal) S2x144x1024 .f32))
    (G : Fin 2 → Fin 144 → Fin 1024 → EReal)
    (h00 : ∀ (d : Fin 144) (c : Fin 256), w00 (ix3 0 d c) = G 0 d ⟨0 + c.val, by omega⟩)
    (h01 : ∀ (d : Fin 144) (c : Fin 256), w01 (ix3 0 d c) = G 0 d ⟨256 + c.val, by omega⟩)
    (h02 : ∀ (d : Fin 144) (c : Fin 256), w02 (ix3 0 d c) = G 0 d ⟨512 + c.val, by omega⟩)
    (h03 : ∀ (d : Fin 144) (c : Fin 256), w03 (ix3 0 d c) = G 0 d ⟨768 + c.val, by omega⟩)
    (h10 : ∀ (d : Fin 144) (c : Fin 256), w10 (ix3 0 d c) = G 1 d ⟨0 + c.val, by omega⟩)
    (h11 : ∀ (d : Fin 144) (c : Fin 256), w11 (ix3 0 d c) = G 1 d ⟨256 + c.val, by omega⟩)
    (h12 : ∀ (d : Fin 144) (c : Fin 256), w12 (ix3 0 d c) = G 1 d ⟨512 + c.val, by omega⟩)
    (h13 : ∀ (d : Fin 144) (c : Fin 256), w13 (ix3 0 d c) = G 1 d ⟨768 + c.val, by omega⟩)
    (h : Fin 2) (d : Fin 144) (c : Fin 1024) : View.canon (Val := Elt Ideal) (piecesA w00 w01 w02 w03 w10 w11 w12 w13 ++ L) (ix3 h d c) = G h d c := by
  refine (View.canon_append_of_pieces (Val := Elt Ideal) (S := S2x144x1024) (fun y => G (y 0) (y 1) (y 2)) L _ ?_ (ix3 h d c) ?_)
  · intro p hp x
    simp only [piecesA, List.mem_cons, List.not_mem_nil, or_false] at hp
    rcases hp with rfl | rfl | rfl | rfl | rfl | rfl | rfl | rfl
    · exact (congrArg (w13) (at_ix3A x)).trans ((h13 (x 1) (x 2)).trans (placeA G 1 768 (by decide) x (by decide) (by decide)))
    · exact (congrArg (w12) (at_ix3A x)).trans ((h12 (x 1) (x 2)).trans (placeA G 1 512 (by decide) x (by decide) (by decide)))
    · exact (congrArg (w11) (at_ix3A x)).trans ((h11 (x 1) (x 2)).trans (placeA G 1 256 (by decide) x (by decide) (by decide)))
    · exact (congrArg (w10) (at_ix3A x)).trans ((h10 (x 1) (x 2)).trans (placeA G 1 0 (by decide) x (by decide) (by decide)))
    · exact (congrArg (w03) (at_ix3A x)).trans ((h03 (x 1) (x 2)).trans (placeA G 0 768 (by decide) x (by decide) (by decide)))
    · exact (congrArg (w02) (at_ix3A x)).trans ((h02 (x 1) (x 2)).trans (placeA G 0 512 (by decide) x (by decide) (by decide)))
    · exact (congrArg (w01) (at_ix3A x)).trans ((h01 (x 1) (x 2)).trans (placeA G 0 256 (by decide) x (by decide) (by decide)))
    · exact (congrArg (w00) (at_ix3A x)).trans ((h00 (x 1) (x 2)).trans (placeA G 0 0 (by decide) x (by decide) (by decide)))
  · obtain ⟨g, hg⟩ : ∃ g, g = c.val / 256 := ⟨_, rfl⟩
    have hc := c.isLt
    have hd := d.isLt
    have hmem : ∀ (H C : ℕ) (inb : ∀ a, (![H, 0, C] : Fin 3 → ℕ) a + S1x144x256.size a ≤ S2x144x1024.size a), h.val = H → C ≤ c.val → c.val < C + 256 →
        (ix3 h d c : S2x144x1024.Idx) ∈ (Rect.unit (s := S2x144x1024) ![H, 0, C] S1x144x256.size inb).set := fun H C inb e1 e2 e3 => by
      refine (Rect.unit (s := S2x144x1024) ![H, 0, C] S1x144x256.size inb).mem_set.mpr fun a => ?_
      fin_cases a
      · exact ⟨0, Nat.one_pos, by simp [Rect.unit]; omega⟩
      · exact ⟨d.val, by simpa [Rect.unit] using hd, by simp [Rect.unit]⟩
      · exact ⟨c.val - C, by simp [Rect.unit]; omega, by simp [Rect.unit]; omega⟩
    fin_cases h
    all_goals
      rcases (show g = 0 ∨ g = 1 ∨ g = 2 ∨ g = 3 by omega) with rfl | rfl | rfl | rfl
    · exact ⟨_, (List.mem_cons_of_mem _ (List.mem_cons_of_mem _ (List.mem_cons_of_mem _ (List.mem_cons_of_mem _ (List.mem_cons_of_mem _ (List.mem_cons_of_mem _ (List.mem_cons_of_mem _ List.mem_cons_self))))))), hmem 0 0 (by decide) rfl (by omega) (by omega)⟩
    · exact ⟨_, (List.mem_cons_of_mem _ (List.mem_cons_of_mem _ (List.mem_cons_of_mem _ (List.mem_cons_of_mem _ (List.mem_cons_of_mem _ (List.mem_cons_of_mem _ List.mem_cons_self)))))), hmem 0 256 (by decide) rfl (by omega) (by omega)⟩
    · exact ⟨_, (List.mem_cons_of_mem _ (List.mem_cons_of_mem _ (List.mem_cons_of_mem _ (List.mem_cons_of_mem _ (List.mem_cons_of_mem _ List.mem_cons_self))))), hmem 0 512 (by decide) rfl (by omega) (by omega)⟩
    · exact ⟨_, (List.mem_cons_of_mem _ (List.mem_cons_of_mem _ (List.mem_cons_of_mem _ (List.mem_cons_of_mem _ List.mem_cons_self)))), hmem 0 768 (by decide) rfl (by omega) (by omega)⟩
    · exact ⟨_, (List.mem_cons_of_mem _ (List.mem_cons_of_mem _ (List.mem_cons_of_mem _ List.mem_cons_self))), hmem 1 0 (by decide) rfl (by omega) (by omega)⟩
    · exact ⟨_, (List.mem_cons_of_mem _ (List.mem_cons_of_mem _ List.mem_cons_self)), hmem 1 256 (by decide) rfl (by omega) (by omega)⟩
    · exact ⟨_, (List.mem_cons_of_mem _ List.mem_cons_self), hmem 1 512 (by decide) rfl (by omega) (by omega)⟩
    · exact ⟨_, List.mem_cons_self, hmem 1 768 (by decide) rfl (by omega) (by omega)⟩

end Cert.KernelIdeal.Value
-- ==== Proof.Trip.lean ====
module

public import proofs.«01_k».proof.Proof.Groups

@[expose] public section

set_option maxRecDepth 16384

noncomputable section

/-! One trip of the attention's loop over pairs of far key blocks. -/

namespace Cert.KernelIdeal.Value

open Cert.KernelIdeal Cert.KernelIdeal.Gen Idealize.ShloMosaic Idealize.ShloMosaic.TcCoe Idealize.SL.Sem

variable (𝒱 : Variants) (c : Dev nD) (bd : Option 𝒱.V) (i : grid0.Coords) (arg3 : Memref sig .tc .smem S8 .f32) (harg3 : arg3.IsWhole) (arg4 : Memref sig .tc .vmem S1x512x256 .f32) (harg4 : arg4.IsWhole) (arg5 : Memref sig .tc .vmem S1x4096x256 .bf16) (harg5 : arg5.IsWhole) (arg6 : Memref sig .tc .vmem S1x2x144x4096 .bf16) (harg6 : arg6.IsWhole) (arg7 : Memref sig .tc .vmem S2x2x512x512 .f32) (harg7 : arg7.IsWhole) (arg8 : Memref sig .tc .vmem S4x64 .f32) (harg8 : arg8.IsWhole) (arg9 : Memref sig .tc .vmem S1x128 .f32) (harg9 : arg9.IsWhole) (arg10 : Memref sig .tc .vmem S1x512x256 .bf16) (harg10 : arg10.IsWhole) (arg11 : Memref sig .tc .vmem S2x128x1024 .bf16) (harg11 : arg11.IsWhole) (arg12 : Memref sig .tc .vmem S2x1x1024 .f32) (harg12 : arg12.IsWhole) (arg13 : Memref sig .tc .vmem S2x144x1024 .f32) (harg13 : arg13.IsWhole) (arg2 : BitVec 32) (v50 : Ideal .f32) (v54 : Ideal .f32) (v56 : BitVec 32) (v57 : BitVec 32) (v68 : BitVec 1) (v69 : BitVec 32) (c0_i32_34 : BitVec 32) (X_arg5 : BufTy.Contents (Elt Ideal) arg5.view.ty) (X_arg6 : BufTy.Contents (Elt Ideal) arg6.view.ty) (X_arg11 : BufTy.Contents (Elt Ideal) arg11.view.ty) (k : Fin (k0_t1_loop i).trips)
  (f12 : BufTy.Contents (Elt Ideal) arg12.view.ty) (f13 : BufTy.Contents (Elt Ideal) arg13.view.ty)

theorem tripM : (tripL_k0_t1 (F := Ideal) 𝒱 c bd i arg3 harg3 arg4 harg4 arg5 harg5 arg6 harg6 arg7 harg7 arg8 harg8 arg9 harg9 arg10 harg10 arg11 harg11 arg12 harg12 arg13 harg13 arg2 v50 v54 v56 v57 v68 v69 c0_i32_34 X_arg5 X_arg6 X_arg11 k f12 f13).1 = piecesM
      (storeM (farM (top1 (score1 (ldK1 arg5.view X_arg5 (k0_off2 i k) (k0_off2_inb i k)) (ldQ arg11.view X_arg11 0 0 (by decide)))) v50 (ldM arg12.view f12 0 0 (by decide))))
      (storeM (farM (top1 (score1 (ldK1 arg5.view X_arg5 (k0_off2 i k) (k0_off2_inb i k)) (ldQ arg11.view X_arg11 0 256 (by decide)))) v50 (ldM arg12.view f12 0 256 (by decide))))
      (storeM (farM (top1 (score1 (ldK1 arg5.view X_arg5 (k0_off2 i k) (k0_off2_inb i k)) (ldQ arg11.view X_arg11 0 512 (by decide)))) v50 (ldM arg12.view f12 0 512 (by decide))))
      (storeM (farM (top1 (score1 (ldK1 arg5.view X_arg5 (k0_off2 i k) (k0_off2_inb i k)) (ldQ arg11.view X_arg11 0 768 (by decide)))) v50 (ldM arg12.view f12 0 768 (by decide))))
      (storeM (farM (top1 (score1 (ldK1 arg5.view X_arg5 (k0_off3 i k) (k0_off3_inb i k)) (ldQ arg11.view X_arg11 1 0 (by decide)))) v54 (ldM arg12.view f12 1 0 (by decide))))
      (storeM (farM (top1 (score1 (ldK1 arg5.view X_arg5 (k0_off3 i k) (k0_off3_inb i k)) (ldQ arg11.view X_arg11 1 256 (by decide)))) v54 (ldM arg12.view f12 1 256 (by decide))))
      (storeM (farM (top1 (score1 (ldK1 arg5.view X_arg5 (k0_off3 i k) (k0_off3_inb i k)) (ldQ arg11.view X_arg11 1 512 (by decide)))) v54 (ldM arg12.view f12 1 512 (by decide))))
      (storeM (farM (top1 (score1 (ldK1 arg5.view X_arg5 (k0_off3 i k) (k0_off3_inb i k)) (ldQ arg11.view X_arg11 1 768 (by decide)))) v54 (ldM arg12.view f12 1 768 (by decide)))) := by
  unfold tripL_k0_t1 trip_k0_t1
  rfl

theorem tripA : (tripL_k0_t1 (F := Ideal) 𝒱 c bd i arg3 harg3 arg4 harg4 arg5 harg5 arg6 harg6 arg7 harg7 arg8 harg8 arg9 harg9 arg10 harg10 arg11 harg11 arg12 harg12 arg13 harg13 arg2 v50 v54 v56 v57 v68 v69 c0_i32_34 X_arg5 X_arg6 X_arg11 k f12 f13).2 = piecesA
      (carry (farM (top1 (score1 (ldK1 arg5.view X_arg5 (k0_off2 i k) (k0_off2_inb i k)) (ldQ arg11.view X_arg11 0 0 (by decide)))) v50 (ldM arg12.view f12 0 0 (by decide))) (ldM arg12.view f12 0 0 (by decide)) (ldA arg13.view f13 0 0 (by decide)) (part1 (score1 (ldK1 arg5.view X_arg5 (k0_off2 i k) (k0_off2_inb i k)) (ldQ arg11.view X_arg11 0 0 (by decide))) (less (farM (top1 (score1 (ldK1 arg5.view X_arg5 (k0_off2 i k) (k0_off2_inb i k)) (ldQ arg11.view X_arg11 0 0 (by decide)))) v50 (ldM arg12.view f12 0 0 (by decide))) v50) (ldV1 arg6.view X_arg6 (k0_off4 i k) (k0_off4_inb i k))))
      (carry (farM (top1 (score1 (ldK1 arg5.view X_arg5 (k0_off2 i k) (k0_off2_inb i k)) (ldQ arg11.view X_arg11 0 256 (by decide)))) v50 (ldM arg12.view f12 0 256 (by decide))) (ldM arg12.view f12 0 256 (by decide)) (ldA arg13.view f13 0 256 (by decide)) (part1 (score1 (ldK1 arg5.view X_arg5 (k0_off2 i k) (k0_off2_inb i k)) (ldQ arg11.view X_arg11 0 256 (by decide))) (less (farM (top1 (score1 (ldK1 arg5.view X_arg5 (k0_off2 i k) (k0_off2_inb i k)) (ldQ arg11.view X_arg11 0 256 (by decide)))) v50 (ldM arg12.view f12 0 256 (by decide))) v50) (ldV1 arg6.view X_arg6 (k0_off4 i k) (k0_off4_inb i k))))
      (carry (farM (top1 (score1 (ldK1 arg5.view X_arg5 (k0_off2 i k) (k0_off2_inb i k)) (ldQ arg11.view X_arg11 0 512 (by decide)))) v50 (ldM arg12.view f12 0 512 (by decide))) (ldM arg12.view f12 0 512 (by decide)) (ldA arg13.view f13 0 512 (by decide)) (part1 (score1 (ldK1 arg5.view X_arg5 (k0_off2 i k) (k0_off2_inb i k)) (ldQ arg11.view X_arg11 0 512 (by decide))) (less (farM (top1 (score1 (ldK1 arg5.view X_arg5 (k0_off2 i k) (k0_off2_inb i k)) (ldQ arg11.view X_arg11 0 512 (by decide)))) v50 (ldM arg12.view f12 0 512 (by decide))) v50) (ldV1 arg6.view X_arg6 (k0_off4 i k) (k0_off4_inb i k))))
      (carry (farM (top1 (score1 (ldK1 arg5.view X_arg5 (k0_off2 i k) (k0_off2_inb i k)) (ldQ arg11.view X_arg11 0 768 (by decide)))) v50 (ldM arg12.view f12 0 768 (by decide))) (ldM arg12.view f12 0 768 (by decide)) (ldA arg13.view f13 0 768 (by decide)) (part1 (score1 (ldK1 arg5.view X_arg5 (k0_off2 i k) (k0_off2_inb i k)) (ldQ arg11.view X_arg11 0 768 (by decide))) (less (farM (top1 (score1 (ldK1 arg5.view X_arg5 (k0_off2 i k) (k0_off2_inb i k)) (ldQ arg11.view X_arg11 0 768 (by decide)))) v50 (ldM arg12.view f12 0 768 (by decide))) v50) (ldV1 arg6.view X_arg6 (k0_off4 i k) (k0_off4_inb i k))))
      (carry (farM (top1 (score1 (ldK1 arg5.view X_arg5 (k0_off3 i k) (k0_off3_inb i k)) (ldQ arg11.view X_arg11 1 0 (by decide)))) v54 (ldM arg12.view f12 1 0 (by decide))) (ldM arg12.view f12 1 0 (by decide)) (ldA arg13.view f13 1 0 (by decide)) (part1 (score1 (ldK1 arg5.view X_arg5 (k0_off3 i k) (k0_off3_inb i k)) (ldQ arg11.view X_arg11 1 0 (by decide))) (less (farM (top1 (score1 (ldK1 arg5.view X_arg5 (k0_off3 i k) (k0_off3_inb i k)) (ldQ arg11.view X_arg11 1 0 (by decide)))) v54 (ldM arg12.view f12 1 0 (by decide))) v54) (ldV1 arg6.view X_arg6 (k0_off5 i k) (k0_off5_inb i k))))
      (carry (farM (top1 (score1 (ldK1 arg5.view X_arg5 (k0_off3 i k) (k0_off3_inb i k)) (ldQ arg11.view X_arg11 1 256 (by decide)))) v54 (ldM arg12.view f12 1 256 (by decide))) (ldM arg12.view f12 1 256 (by decide)) (ldA arg13.view f13 1 256 (by decide)) (part1 (score1 (ldK1 arg5.view X_arg5 (k0_off3 i k) (k0_off3_inb i k)) (ldQ arg11.view X_arg11 1 256 (by decide))) (less (farM (top1 (score1 (ldK1 arg5.view X_arg5 (k0_off3 i k) (k0_off3_inb i k)) (ldQ arg11.view X_arg11 1 256 (by decide)))) v54 (ldM arg12.view f12 1 256 (by decide))) v54) (ldV1 arg6.view X_arg6 (k0_off5 i k) (k0_off5_inb i k))))
      (carry (farM (top1 (score1 (ldK1 arg5.view X_arg5 (k0_off3 i k) (k0_off3_inb i k)) (ldQ arg11.view X_arg11 1 512 (by decide)))) v54 (ldM arg12.view f12 1 512 (by decide))) (ldM arg12.view f12 1 512 (by decide)) (ldA arg13.view f13 1 512 (by decide)) (part1 (score1 (ldK1 arg5.view X_arg5 (k0_off3 i k) (k0_off3_inb i k)) (ldQ arg11.view X_arg11 1 512 (by decide))) (less (farM (top1 (score1 (ldK1 arg5.view X_arg5 (k0_off3 i k) (k0_off3_inb i k)) (ldQ arg11.view X_arg11 1 512 (by decide)))) v54 (ldM arg12.view f12 1 512 (by decide))) v54) (ldV1 arg6.view X_arg6 (k0_off5 i k) (k0_off5_inb i k))))
      (carry (farM (top1 (score1 (ldK1 arg5.view X_arg5 (k0_off3 i k) (k0_off3_inb i k)) (ldQ arg11.view X_arg11 1 768 (by decide)))) v54 (ldM arg12.view f12 1 768 (by decide))) (ldM arg12.view f12 1 768 (by decide)) (ldA arg13.view f13 1 768 (by decide)) (part1 (score1 (ldK1 arg5.view X_arg5 (k0_off3 i k) (k0_off3_inb i k)) (ldQ arg11.view X_arg11 1 768 (by decide))) (less (farM (top1 (score1 (ldK1 arg5.view X_arg5 (k0_off3 i k) (k0_off3_inb i k)) (ldQ arg11.view X_arg11 1 768 (by decide)))) v54 (ldM arg12.view f12 1 768 (by decide))) v54) (ldV1 arg6.view X_arg6 (k0_off5 i k) (k0_off5_inb i k)))) := by
  unfold tripL_k0_t1 trip_k0_t1
  rfl

end Cert.KernelIdeal.Value
-- ==== Proof.Softmax.lean ====
module

public import Idealize.ShloMosaic.Lib.Pointwise

@[expose] public section

noncomputable section

/-! The running softmax over the extended reals: a maximum and weighted sums relative to it, taken over one stretch
of keys after another, are those of all the keys. -/

namespace Cert.Softmax

open Idealize.ShloMosaic Finset

theorem exp2_real (r : ℝ) : Ideal.exp2 (r : EReal) = ((2 : ℝ) ^ r : ℝ) := rfl

/-- A difference of a smaller from a larger value has a real, non-negative power. -/
theorem exp2_le (x y : EReal) (h : x ≤ y) : ∃ r : ℝ, 0 ≤ r ∧ Ideal.exp2 (x - y) = r := by
  induction x with
  | bot => exact ⟨0, le_rfl, by simp⟩
  | top =>
    rw [top_le_iff.mp h]
    exact ⟨0, le_rfl, by rw [EReal.sub_top]; simp⟩
  | coe a =>
    induction y with
    | bot => simp at h
    | top => exact ⟨0, le_rfl, by rw [EReal.sub_top]; simp⟩
    | coe b => exact ⟨(2 : ℝ) ^ (a - b), by positivity, by rw [← EReal.coe_sub, exp2_real]⟩

/-- Powers relative to one maximum, moved to a larger one. -/
theorem exp2_shift (s x y : EReal) (h : s ≤ x) (h' : x ≤ y) :
    Ideal.exp2 (x - y) * Ideal.exp2 (s - x) = Ideal.exp2 (s - y) := by
  induction s with
  | bot => simp [EReal.bot_sub]
  | top =>
    obtain rfl := top_le_iff.mp h
    obtain rfl := top_le_iff.mp h'
    simp [EReal.sub_top]
  | coe c =>
    induction x with
    | bot => simp at h
    | top =>
      obtain rfl := top_le_iff.mp h'
      simp [EReal.sub_top]
    | coe a =>
      induction y with
      | bot => simp at h'
      | top => simp [EReal.sub_top]
      | coe b =>
        rw [← EReal.coe_sub, ← EReal.coe_sub, ← EReal.coe_sub, exp2_real, exp2_real, exp2_real, ← EReal.coe_mul,
          ← Real.rpow_add (by norm_num)]
        congr 2
        ring

/-- A real, non-negative factor goes into a sum. -/
theorem mul_sum_real {ι : Type} (r : ℝ) (hr : 0 ≤ r) (A : Finset ι) (f : ι → EReal) :
    (r : EReal) * ∑ k ∈ A, f k = ∑ k ∈ A, (r : EReal) * f k := by
  classical
  induction A using Finset.induction_on with
  | empty => simp
  | insert a A ha ih =>
    rw [Finset.sum_insert ha, Finset.sum_insert ha, ← ih]
    exact EReal.left_distrib_of_nonneg_of_ne_top (by exact_mod_cast hr) (EReal.coe_ne_top r) _ _

/-- The maximum over the keys below `a + n`. -/
theorem sup_add (S : ℕ → EReal) (a n : ℕ) :
    max ((range a).sup S) (univ.sup fun j : Fin n => S (a + j)) = (range (a + n)).sup S := by
  apply le_antisymm
  · refine max_le (Finset.sup_mono (by simp)) (Finset.sup_le fun j _ => ?_)
    exact Finset.le_sup (f := S) (by simp)
  · refine Finset.sup_le fun k hk => ?_
    by_cases h : k < a
    · exact le_max_of_le_left (Finset.le_sup (f := S) (by simpa using h))
    · have hk' : k - a < n := by have := Finset.mem_range.mp hk; omega
      refine le_max_of_le_right ?_
      have := Finset.le_sup (f := fun j : Fin n => S (a + j)) (Finset.mem_univ ⟨k - a, hk'⟩)
      simpa [show a + (k - a) = k by omega] using this

/-- The weighted values after the keys below `a + n`, from those after the keys below `a`. -/
theorem carry_add (S V : ℕ → EReal) (a n : ℕ) (m x : EReal) (hm : m = (range a).sup S) (hx : x = (range (a + n)).sup S) :
    Ideal.exp2 (m - x) * (∑ k ∈ range a, V k * Ideal.exp2 (S k - m)) + ∑ j : Fin n, V (a + j) * Ideal.exp2 (S (a + j) - x)
      = ∑ k ∈ range (a + n), V k * Ideal.exp2 (S k - x) := by
  have hmx : m ≤ x := by rw [hm, hx]; exact Finset.sup_mono (by simp)
  obtain ⟨r, hr, hr'⟩ := exp2_le m x hmx
  rw [Finset.sum_range_add, Finset.sum_range (n := n)]
  congr 1
  rw [hr', mul_sum_real r hr, ← hr']
  refine Finset.sum_congr rfl fun k hk => ?_
  rw [mul_left_comm, exp2_shift _ _ _ (by rw [hm]; exact Finset.le_sup hk) hmx]

/-- A real bias added to the scores or taken from the maximum. -/
theorem sub_less (s n : EReal) (f : ℝ) : s - (n - f) = s + f - n := by
  induction n with
  | bot =>
    induction s with
    | bot => simp
    | top => simp
    | coe a => simp
  | top => simp [EReal.sub_top]
  | coe b =>
    induction s with
    | bot => simp [EReal.bot_sub]
    | top => rw [← EReal.coe_sub, EReal.top_sub_coe, EReal.top_add_coe, EReal.top_sub_coe]
    | coe a =>
      norm_cast
      ring

/-- The largest of the scores with one real bias added. -/
theorem sup_add_real {n : ℕ} (s : Fin n → EReal) (f : ℝ) :
    univ.sup s + (f : EReal) = univ.sup fun j => s j + (f : EReal) := by
  apply le_antisymm
  · have : (univ.sup s) ≤ (univ.sup fun j => s j + (f : EReal)) - f := Finset.sup_le fun j _ => by
      refine EReal.le_sub_iff_add_le (by simp) (by simp) |>.mpr ?_
      exact Finset.le_sup (f := fun j => s j + (f : EReal)) (mem_univ j)
    exact EReal.le_sub_iff_add_le (by simp) (by simp) |>.mp this
  · exact Finset.sup_le fun j _ => by gcongr; exact Finset.le_sup (mem_univ j)

/-- A maximum taken from −∞ on. -/
theorem fold_max_eq {ι : Type} (A : Finset ι) (f : ι → EReal) : A.fold max ⊥ f = A.sup f := rfl

end Cert.Softmax
-- ==== Proof.Steps.lean ====
module

public import proofs.«01_k».proof.Proof.Groups
public import proofs.«01_k».proof.Proof.Softmax

@[expose] public section

set_option maxRecDepth 16384

noncomputable section

/-! A block of keys taken into the running softmax: with the maxima and the weighted values of the keys below `a`
loaded, what is stored are those of the keys below the block's end. -/

namespace Cert.KernelIdeal.Value

open Cert.KernelIdeal Cert.KernelIdeal.Gen Idealize.ShloMosaic Idealize.ShloMosaic.TcCoe Idealize.SL.Sem
open Finset (range)

/-- The largest score of the keys below `a`. -/
def topTo (S : ℕ → EReal) (a : ℕ) : EReal := (range a).sup S

/-- The values of the keys below `a`, weighted relative to their largest score. -/
def sumTo (S W : ℕ → EReal) (a : ℕ) : EReal := ∑ k ∈ range a, W k * Ideal.exp2 (S k - topTo S a)

/-- A group's new maximum, 1024 keys taken in (one bias for all). -/
theorem far1_max (K : FVec Ideal S1x1024x128 .bf16) (Q : FVec Ideal S1x128x256 .bf16) (f : ℝ) (m : FVec Ideal S1x1x256 .f32)
    (a : ℕ) (S : Fin 256 → ℕ → EReal)
    (hS : ∀ (k : Fin 1024) (c : Fin 256), (∑ d : Fin 128, K (ix3 0 k d) * Q (ix3 0 d c)) + (f : EReal) = S c (a + k))
    (hm : ∀ c : Fin 256, m (ix3 0 0 c) = topTo (S c) a) (c : Fin 256) : (farM (top1 (score1 K Q)) (f : EReal) m) (ix2 0 c) = topTo (S c) (a + 1024) := by
  rw [farM_at, top1_at, hm, Softmax.sup_add_real, topTo, topTo, ← Softmax.sup_add]
  congr 2
  funext k
  rw [score1_at]
  exact hS k c

/-- A group's new weighted values. -/
theorem far1_sum (K : FVec Ideal S1x1024x128 .bf16) (Q : FVec Ideal S1x128x256 .bf16) (f : ℝ) (m : FVec Ideal S1x1x256 .f32)
    (a : ℕ) (S : Fin 256 → ℕ → EReal)
    (hS : ∀ (k : Fin 1024) (c : Fin 256), (∑ d : Fin 128, K (ix3 0 k d) * Q (ix3 0 d c)) + (f : EReal) = S c (a + k))
    (hm : ∀ c : Fin 256, m (ix3 0 0 c) = topTo (S c) a) (V : FVec Ideal S1x1x144x1024 .bf16) (A : FVec Ideal S1x144x256 .f32) (W : Fin 144 → ℕ → EReal)
    (hV : ∀ (d : Fin 144) (k : Fin 1024), V (ix4 0 0 d k) = W d (a + k))
    (hA : ∀ (d : Fin 144) (c : Fin 256), A (ix3 0 d c) = sumTo (S c) (W d) a) (d : Fin 144) (c : Fin 256) :
    carry (farM (top1 (score1 K Q)) (f : EReal) m) m A (part1 (score1 K Q) (less (farM (top1 (score1 K Q)) (f : EReal) m) (f : EReal)) V) (ix3 0 d c) = sumTo (S c) (W d) (a + 1024) := by
  have hn := far1_max K Q f m a S hS hm c
  rw [carry_at, part1_at, hn, hm, hA]
  refine Eq.trans ?_ (Softmax.carry_add (S c) (W d) a 1024 _ _ rfl rfl)
  congr 1
  refine Finset.sum_congr rfl fun k _ => ?_
  rw [hV]
  congr 2
  rw [less_at, Softmax.sub_less, score1_at, hS, hn]

/-- A group's new maximum, 512 keys taken in (one bias for all). -/
theorem far5_max (K : FVec Ideal S1x512x128 .bf16) (Q : FVec Ideal S1x128x256 .bf16) (f : ℝ) (m : FVec Ideal S1x1x256 .f32)
    (a : ℕ) (S : Fin 256 → ℕ → EReal)
    (hS : ∀ (k : Fin 512) (c : Fin 256), (∑ d : Fin 128, K (ix3 0 k d) * Q (ix3 0 d c)) + (f : EReal) = S c (a + k))
    (hm : ∀ c : Fin 256, m (ix3 0 0 c) = topTo (S c) a) (c : Fin 256) : (farM (top5 (score5 K Q)) (f : EReal) m) (ix2 0 c) = topTo (S c) (a + 512) := by
  rw [farM_at, top5_at, hm, Softmax.sup_add_real, topTo, topTo, ← Softmax.sup_add]
  congr 2
  funext k
  rw [score5_at]
  exact hS k c

/-- A group's new weighted values. -/
theorem far5_sum (K : FVec Ideal S1x512x128 .bf16) (Q : FVec Ideal S1x128x256 .bf16) (f : ℝ) (m : FVec Ideal S1x1x256 .f32)
    (a : ℕ) (S : Fin 256 → ℕ → EReal)
    (hS : ∀ (k : Fin 512) (c : Fin 256), (∑ d : Fin 128, K (ix3 0 k d) * Q (ix3 0 d c)) + (f : EReal) = S c (a + k))
    (hm : ∀ c : Fin 256, m (ix3 0 0 c) = topTo (S c) a) (V : FVec Ideal S1x1x144x512 .bf16) (A : FVec Ideal S1x144x256 .f32) (W : Fin 144 → ℕ → EReal)
    (hV : ∀ (d : Fin 144) (k : Fin 512), V (ix4 0 0 d k) = W d (a + k))
    (hA : ∀ (d : Fin 144) (c : Fin 256), A (ix3 0 d c) = sumTo (S c) (W d) a) (d : Fin 144) (c : Fin 256) :
    carry (farM (top5 (score5 K Q)) (f : EReal) m) m A (part5 (score5 K Q) (less (farM (top5 (score5 K Q)) (f : EReal) m) (f : EReal)) V) (ix3 0 d c) = sumTo (S c) (W d) (a + 512) := by
  have hn := far5_max K Q f m a S hS hm c
  rw [carry_at, part5_at, hn, hm, hA]
  refine Eq.trans ?_ (Softmax.carry_add (S c) (W d) a 512 _ _ rfl rfl)
  congr 1
  refine Finset.sum_congr rfl fun k _ => ?_
  rw [hV]
  congr 2
  rw [less_at, Softmax.sub_less, score5_at, hS, hn]

/-- A group's new maximum, 1024 keys taken in (a bias each). -/
theorem near1_max (K : FVec Ideal S1x1024x128 .bf16) (Q : FVec Ideal S1x128x256 .bf16) (b : FVec Ideal S1x2x512x256 .f32) (m : FVec Ideal S1x1x256 .f32)
    (a : ℕ) (S : Fin 256 → ℕ → EReal)
    (hS : ∀ (k : Fin 1024) (c : Fin 256), (∑ d : Fin 128, K (ix3 0 k d) * Q (ix3 0 d c)) + b (ix4 0 ⟨k.val / 512, by omega⟩ ⟨k.val % 512, by omega⟩ c) = S c (a + k))
    (hm : ∀ c : Fin 256, m (ix3 0 0 c) = topTo (S c) a) (c : Fin 256) : (nearM (top1 (biased1 K Q b)) m) (ix2 0 c) = topTo (S c) (a + 1024) := by
  rw [nearM_at, top1_at, hm, topTo, topTo, ← Softmax.sup_add]
  congr 2
  funext k
  rw [biased1_at, score1_at]
  exact hS k c

/-- A group's new weighted values. -/
theorem near1_sum (K : FVec Ideal S1x1024x128 .bf16) (Q : FVec Ideal S1x128x256 .bf16) (b : FVec Ideal S1x2x512x256 .f32) (m : FVec Ideal S1x1x256 .f32)
    (a : ℕ) (S : Fin 256 → ℕ → EReal)
    (hS : ∀ (k : Fin 1024) (c : Fin 256), (∑ d : Fin 128, K (ix3 0 k d) * Q (ix3 0 d c)) + b (ix4 0 ⟨k.val / 512, by omega⟩ ⟨k.val % 512, by omega⟩ c) = S c (a + k))
    (hm : ∀ c : Fin 256, m (ix3 0 0 c) = topTo (S c) a) (V : FVec Ideal S1x1x144x1024 .bf16) (A : FVec Ideal S1x144x256 .f32) (W : Fin 144 → ℕ → EReal)
    (hV : ∀ (d : Fin 144) (k : Fin 1024), V (ix4 0 0 d k) = W d (a + k))
    (hA : ∀ (d : Fin 144) (c : Fin 256), A (ix3 0 d c) = sumTo (S c) (W d) a) (d : Fin 144) (c : Fin 256) :
    carry (nearM (top1 (biased1 K Q b)) m) m A (part1 (biased1 K Q b) (nearM (top1 (biased1 K Q b)) m) V) (ix3 0 d c) = sumTo (S c) (W d) (a + 1024) := by
  have hn := near1_max K Q b m a S hS hm c
  rw [carry_at, part1_at, hn, hm, hA]
  refine Eq.trans ?_ (Softmax.carry_add (S c) (W d) a 1024 _ _ rfl rfl)
  congr 1
  refine Finset.sum_congr rfl fun k _ => ?_
  rw [hV]
  congr 2
  rw [biased1_at, score1_at, hS]

/-- A group's new maximum, 512 keys taken in (a bias each). -/
theorem near5_max (K : FVec Ideal S1x512x128 .bf16) (Q : FVec Ideal S1x128x256 .bf16) (b : FVec Ideal S1x1x512x256 .f32) (m : FVec Ideal S1x1x256 .f32)
    (a : ℕ) (S : Fin 256 → ℕ → EReal)
    (hS : ∀ (k : Fin 512) (c : Fin 256), (∑ d : Fin 128, K (ix3 0 k d) * Q (ix3 0 d c)) + b (ix4 0 0 k c) = S c (a + k))
    (hm : ∀ c : Fin 256, m (ix3 0 0 c) = topTo (S c) a) (c : Fin 256) : (nearM (top5 (biased5 K Q b)) m) (ix2 0 c) = topTo (S c) (a + 512) := by
  rw [nearM_at, top5_at, hm, topTo, topTo, ← Softmax.sup_add]
  congr 2
  funext k
  rw [biased5_at, score5_at]
  exact hS k c

/-- A group's new weighted values. -/
theorem near5_sum (K : FVec Ideal S1x512x128 .bf16) (Q : FVec Ideal S1x128x256 .bf16) (b : FVec Ideal S1x1x512x256 .f32) (m : FVec Ideal S1x1x256 .f32)
    (a : ℕ) (S : Fin 256 → ℕ → EReal)
    (hS : ∀ (k : Fin 512) (c : Fin 256), (∑ d : Fin 128, K (ix3 0 k d) * Q (ix3 0 d c)) + b (ix4 0 0 k c) = S c (a + k))
    (hm : ∀ c : Fin 256, m (ix3 0 0 c) = topTo (S c) a) (V : FVec Ideal S1x1x144x512 .bf16) (A : FVec Ideal S1x144x256 .f32) (W : Fin 144 → ℕ → EReal)
    (hV : ∀ (d : Fin 144) (k : Fin 512), V (ix4 0 0 d k) = W d (a + k))
    (hA : ∀ (d : Fin 144) (c : Fin 256), A (ix3 0 d c) = sumTo (S c) (W d) a) (d : Fin 144) (c : Fin 256) :
    carry (nearM (top5 (biased5 K Q b)) m) m A (part5 (biased5 K Q b) (nearM (top5 (biased5 K Q b)) m) V) (ix3 0 d c) = sumTo (S c) (W d) (a + 512) := by
  have hn := near5_max K Q b m a S hS hm c
  rw [carry_at, part5_at, hn, hm, hA]
  refine Eq.trans ?_ (Softmax.carry_add (S c) (W d) a 512 _ _ rfl rfl)
  congr 1
  refine Finset.sum_congr rfl fun k _ => ?_
  rw [hV]
  congr 2
  rw [biased5_at, score5_at, hS]

/-- A load of queries at an index. -/
theorem ldQ_at (v : View sig .tc .vmem S2x128x1024 .bf16) (X : v.ty.Contents (Elt Ideal)) (h : Fin 2) (c : ℕ)
    (inb : ∀ a, (![h.val, 0, c] : Fin 3 → ℕ) a + S1x128x256.size a ≤ S2x128x1024.size a) (d : Fin 128) (x : Fin 256) (y : Fin 1024)
    (hy : y.val = c + x.val) :
    ldQ v X h.val c inb (ix3 0 d x) = v.read (Elt Ideal) X (ix3 h d y) := by
  show v.read (Elt Ideal) X ((Rect.unit (s := S2x128x1024) ![h.val, 0, c] S1x128x256.size inb).toLoadRect.idx (ix3 0 d x)) = _
  congr 1
  funext a
  fin_cases a
  · exact Fin.ext (by show h.val + 1 * 0 = h.val; omega)
  · exact Fin.ext (by show 0 + 1 * d.val = d.val; omega)
  · exact Fin.ext (by show c + 1 * x.val = y.val; omega)

/-- A load of maxima at an index. -/
theorem ldM_at (v : View sig .tc .vmem S2x1x1024 .f32) (X : v.ty.Contents (Elt Ideal)) (h : Fin 2) (c : ℕ)
    (inb : ∀ a, (![h.val, 0, c] : Fin 3 → ℕ) a + S1x1x256.size a ≤ S2x1x1024.size a) (d : Fin 1) (x : Fin 256) (y : Fin 1024)
    (hy : y.val = c + x.val) :
    ldM v X h.val c inb (ix3 0 d x) = v.read (Elt Ideal) X (ix3 h d y) := by
  show v.read (Elt Ideal) X ((Rect.unit (s := S2x1x1024) ![h.val, 0, c] S1x1x256.size inb).toLoadRect.idx (ix3 0 d x)) = _
  congr 1
  funext a
  fin_cases a
  · exact Fin.ext (by show h.val + 1 * 0 = h.val; omega)
  · exact Fin.ext (by show 0 + 1 * d.val = d.val; omega)
  · exact Fin.ext (by show c + 1 * x.val = y.val; omega)

/-- A load of weighted values at an index. -/
theorem ldA_at (v : View sig .tc .vmem S2x144x1024 .f32) (X : v.ty.Contents (Elt Ideal)) (h : Fin 2) (c : ℕ)
    (inb : ∀ a, (![h.val, 0, c] : Fin 3 → ℕ) a + S1x144x256.size a ≤ S2x144x1024.size a) (d : Fin 144) (x : Fin 256) (y : Fin 1024)
    (hy : y.val = c + x.val) :
    ldA v X h.val c inb (ix3 0 d x) = v.read (Elt Ideal) X (ix3 h d y) := by
  show v.read (Elt Ideal) X ((Rect.unit (s := S2x144x1024) ![h.val, 0, c] S1x144x256.size inb).toLoadRect.idx (ix3 0 d x)) = _
  congr 1
  funext a
  fin_cases a
  · exact Fin.ext (by show h.val + 1 * 0 = h.val; omega)
  · exact Fin.ext (by show 0 + 1 * d.val = d.val; omega)
  · exact Fin.ext (by show c + 1 * x.val = y.val; omega)

/-- A load of biases at an index. -/
theorem ldB1_at (v : View sig .tc .vmem S2x2x512x512 .f32) (X : v.ty.Contents (Elt Ideal)) (h : Fin 2) (c : ℕ)
    (inb : ∀ a, (![h.val, 0, 0, c] : Fin 4 → ℕ) a + S1x2x512x256.size a ≤ S2x2x512x512.size a) (j : Fin 2) (k : Fin 512) (x : Fin 256) (y : Fin 512)
    (hy : y.val = c + x.val) :
    ldB1 v X h.val c inb (ix4 0 j k x) = v.read (Elt Ideal) X (ix4 h j k y) := by
  show v.read (Elt Ideal) X ((Rect.unit (s := S2x2x512x512) ![h.val, 0, 0, c] S1x2x512x256.size inb).toLoadRect.idx (ix4 0 j k x)) = _
  congr 1
  funext a
  fin_cases a
  · exact Fin.ext (by show h.val + 1 * 0 = h.val; omega)
  · exact Fin.ext (by show 0 + 1 * j.val = j.val; omega)
  · exact Fin.ext (by show 0 + 1 * k.val = k.val; omega)
  · exact Fin.ext (by show c + 1 * x.val = y.val; omega)

/-- A load of biases at an index. -/
theorem ldB5_at (v : View sig .tc .vmem S2x2x512x512 .f32) (X : v.ty.Contents (Elt Ideal)) (h : Fin 2) (c : ℕ)
    (inb : ∀ a, (![h.val, 1, 0, c] : Fin 4 → ℕ) a + S1x1x512x256.size a ≤ S2x2x512x512.size a) (j : Fin 1) (k : Fin 512) (x : Fin 256) (y : Fin 512)
    (hy : y.val = c + x.val) :
    ldB5 v X h.val c inb (ix4 0 j k x) = v.read (Elt Ideal) X (ix4 h 1 k y) := by
  show v.read (Elt Ideal) X ((Rect.unit (s := S2x2x512x512) ![h.val, 1, 0, c] S1x1x512x256.size inb).toLoadRect.idx (ix4 0 j k x)) = _
  congr 1
  funext a
  fin_cases a
  · exact Fin.ext (by show h.val + 1 * 0 = h.val; omega)
  · exact Fin.ext (by show 1 + 1 * j.val = 1; omega)
  · exact Fin.ext (by show 0 + 1 * k.val = k.val; omega)
  · exact Fin.ext (by show c + 1 * x.val = y.val; omega)

/-- A load of keys at an index. -/
theorem ldK1_at (v : View sig .tc .vmem S1x4096x256 .bf16) (X : v.ty.Contents (Elt Ideal)) (off : Fin 3 → ℕ)
    (inb : ∀ a, off a + S1x1024x128.size a ≤ S1x4096x256.size a) (k : Fin 1024) (d : Fin 128) (r : Fin 4096) (e : Fin 256)
    (h0 : off 0 = 0) (h1 : off 1 + k.val = r.val) (h2 : off 2 + d.val = e.val) :
    ldK1 v X off inb (ix3 0 k d) = v.read (Elt Ideal) X (ix3 0 r e) := by
  show v.read (Elt Ideal) X ((Rect.unit (s := S1x4096x256) off S1x1024x128.size inb).toLoadRect.idx (ix3 0 k d)) = _
  congr 1
  funext a
  fin_cases a
  · exact Fin.ext (by show off 0 + 1 * 0 = 0; omega)
  · exact Fin.ext (by show off 1 + 1 * k.val = r.val; omega)
  · exact Fin.ext (by show off 2 + 1 * d.val = e.val; omega)

/-- A load of values at an index. -/
theorem ldV1_at (v : View sig .tc .vmem S1x2x144x4096 .bf16) (X : v.ty.Contents (Elt Ideal)) (off : Fin 4 → ℕ)
    (inb : ∀ a, off a + S1x1x144x1024.size a ≤ S1x2x144x4096.size a) (d : Fin 144) (k : Fin 1024) (h : Fin 2) (r : Fin 4096)
    (h0 : off 0 = 0) (h1 : off 1 = h.val) (h2 : off 2 = 0) (h3 : off 3 + k.val = r.val) :
    ldV1 v X off inb (ix4 0 0 d k) = v.read (Elt Ideal) X (ix4 0 h d r) := by
  show v.read (Elt Ideal) X ((Rect.unit (s := S1x2x144x4096) off S1x1x144x1024.size inb).toLoadRect.idx (ix4 0 0 d k)) = _
  congr 1
  funext a
  fin_cases a
  · exact Fin.ext (by show off 0 + 1 * 0 = 0; omega)
  · exact Fin.ext (by show off 1 + 1 * 0 = h.val; omega)
  · exact Fin.ext (by show off 2 + 1 * d.val = d.val; omega)
  · exact Fin.ext (by show off 3 + 1 * k.val = r.val; omega)

/-- A load of keys at an index. -/
theorem ldK5_at (v : View sig .tc .vmem S1x4096x256 .bf16) (X : v.ty.Contents (Elt Ideal)) (off : Fin 3 → ℕ)
    (inb : ∀ a, off a + S1x512x128.size a ≤ S1x4096x256.size a) (k : Fin 512) (d : Fin 128) (r : Fin 4096) (e : Fin 256)
    (h0 : off 0 = 0) (h1 : off 1 + k.val = r.val) (h2 : off 2 + d.val = e.val) :
    ldK5 v X off inb (ix3 0 k d) = v.read (Elt Ideal) X (ix3 0 r e) := by
  show v.read (Elt Ideal) X ((Rect.unit (s := S1x4096x256) off S1x512x128.size inb).toLoadRect.idx (ix3 0 k d)) = _
  congr 1
  funext a
  fin_cases a
  · exact Fin.ext (by show off 0 + 1 * 0 = 0; omega)
  · exact Fin.ext (by show off 1 + 1 * k.val = r.val; omega)
  · exact Fin.ext (by show off 2 + 1 * d.val = e.val; omega)

/-- A load of values at an index. -/
theorem ldV5_at (v : View sig .tc .vmem S1x2x144x4096 .bf16) (X : v.ty.Contents (Elt Ideal)) (off : Fin 4 → ℕ)
    (inb : ∀ a, off a + S1x1x144x512.size a ≤ S1x2x144x4096.size a) (d : Fin 144) (k : Fin 512) (h : Fin 2) (r : Fin 4096)
    (h0 : off 0 = 0) (h1 : off 1 = h.val) (h2 : off 2 = 0) (h3 : off 3 + k.val = r.val) :
    ldV5 v X off inb (ix4 0 0 d k) = v.read (Elt Ideal) X (ix4 0 h d r) := by
  show v.read (Elt Ideal) X ((Rect.unit (s := S1x2x144x4096) off S1x1x144x512.size inb).toLoadRect.idx (ix4 0 0 d k)) = _
  congr 1
  funext a
  fin_cases a
  · exact Fin.ext (by show off 0 + 1 * 0 = 0; omega)
  · exact Fin.ext (by show off 1 + 1 * 0 = h.val; omega)
  · exact Fin.ext (by show off 2 + 1 * d.val = d.val; omega)
  · exact Fin.ext (by show off 3 + 1 * k.val = r.val; omega)

end Cert.KernelIdeal.Value
-- ==== Proof.Blocks.lean ====
module

public import proofs.«01_k».proof.Proof.Steps

@[expose] public section

set_option maxRecDepth 16384

noncomputable section

/-! A block of keys taken into the running softmax of all eight groups, read back from the scratch buffers. -/

namespace Cert.KernelIdeal.Value

open Cert.KernelIdeal Cert.KernelIdeal.Gen Idealize.ShloMosaic Idealize.ShloMosaic.TcCoe Idealize.SL.Sem
open Finset (range)

/-- The maxima a block of 1024 far keys leaves. -/
theorem far1_maxima (v11 : View sig .tc .vmem S2x128x1024 .bf16) (X11 : v11.ty.Contents (Elt Ideal))
    (v12 : View sig .tc .vmem S2x1x1024 .f32) (F00 F01 F02 F03 F10 F11 F12 F13 : v12.ty.Contents (Elt Ideal))
    (K0 K1 : FVec Ideal S1x1024x128 .bf16) (f0 f1 : ℝ)
    (a : ℕ) (S : Fin 2 → Fin 1024 → ℕ → EReal)
    (hS0 : ∀ (k : Fin 1024) (col : Fin 1024), (∑ d : Fin 128, K0 (ix3 0 k d) * v11.read (Elt Ideal) X11 (ix3 0 d col)) + (f0 : EReal) = S 0 col (a + k))
    (hS1 : ∀ (k : Fin 1024) (col : Fin 1024), (∑ d : Fin 128, K1 (ix3 0 k d) * v11.read (Elt Ideal) X11 (ix3 1 d col)) + (f1 : EReal) = S 1 col (a + k))
    (hm00 : ∀ col : Fin 1024, 0 ≤ col.val → col.val < 256 → v12.read (Elt Ideal) F00 (ix3 0 0 col) = topTo (S 0 col) a)
    (hm01 : ∀ col : Fin 1024, 256 ≤ col.val → col.val < 512 → v12.read (Elt Ideal) F01 (ix3 0 0 col) = topTo (S 0 col) a)
    (hm02 : ∀ col : Fin 1024, 512 ≤ col.val → col.val < 768 → v12.read (Elt Ideal) F02 (ix3 0 0 col) = topTo (S 0 col) a)
    (hm03 : ∀ col : Fin 1024, 768 ≤ col.val → col.val < 1024 → v12.read (Elt Ideal) F03 (ix3 0 0 col) = topTo (S 0 col) a)
    (hm10 : ∀ col : Fin 1024, 0 ≤ col.val → col.val < 256 → v12.read (Elt Ideal) F10 (ix3 1 0 col) = topTo (S 1 col) a)
    (hm11 : ∀ col : Fin 1024, 256 ≤ col.val → col.val < 512 → v12.read (Elt Ideal) F11 (ix3 1 0 col) = topTo (S 1 col) a)
    (hm12 : ∀ col : Fin 1024, 512 ≤ col.val → col.val < 768 → v12.read (Elt Ideal) F12 (ix3 1 0 col) = topTo (S 1 col) a)
    (hm13 : ∀ col : Fin 1024, 768 ≤ col.val → col.val < 1024 → v12.read (Elt Ideal) F13 (ix3 1 0 col) = topTo (S 1 col) a)
    (L : List (View.Piece (Elt Ideal) S2x1x1024 .f32)) (h : Fin 2) (col : Fin 1024) :
    View.canon (Val := Elt Ideal) (piecesM
      (storeM (farM (top1 (score1 K0 (ldQ v11 X11 0 0 (by decide)))) (f0 : EReal) (ldM v12 F00 0 0 (by decide))))
      (storeM (farM (top1 (score1 K0 (ldQ v11 X11 0 256 (by decide)))) (f0 : EReal) (ldM v12 F01 0 256 (by decide))))
      (storeM (farM (top1 (score1 K0 (ldQ v11 X11 0 512 (by decide)))) (f0 : EReal) (ldM v12 F02 0 512 (by decide))))
      (storeM (farM (top1 (score1 K0 (ldQ v11 X11 0 768 (by decide)))) (f0 : EReal) (ldM v12 F03 0 768 (by decide))))
      (storeM (farM (top1 (score1 K1 (ldQ v11 X11 1 0 (by decide)))) (f1 : EReal) (ldM v12 F10 1 0 (by decide))))
      (storeM (farM (top1 (score1 K1 (ldQ v11 X11 1 256 (by decide)))) (f1 : EReal) (ldM v12 F11 1 256 (by decide))))
      (storeM (farM (top1 (score1 K1 (ldQ v11 X11 1 512 (by decide)))) (f1 : EReal) (ldM v12 F12 1 512 (by decide))))
      (storeM (farM (top1 (score1 K1 (ldQ v11 X11 1 768 (by decide)))) (f1 : EReal) (ldM v12 F13 1 768 (by decide))))
      ++ L) (ix3 h 0 col) = topTo (S h col) (a + 1024) := by
  refine canon_piecesM _ _ _ _ _ _ _ _ L (fun h _ col => topTo (S h col) (a + 1024)) ?_ ?_ ?_ ?_ ?_ ?_ ?_ ?_ h 0 col
  · intro z c
    rw [Fin.eq_zero z, storeM_at]
    exact far1_max K0 (ldQ v11 X11 0 0 (by decide)) f0 (ldM v12 F00 0 0 (by decide)) a (fun c => S 0 ⟨0 + c.val, by omega⟩)
      (fun k c => (congrArg (· + (f0 : EReal)) (Finset.sum_congr rfl fun d _ =>
        congrArg (K0 (ix3 0 k d) * ·) (ldQ_at v11 X11 0 0 (by decide) d c ⟨0 + c.val, by omega⟩ rfl))).trans (hS0 k ⟨0 + c.val, by omega⟩))
      (fun c => (ldM_at v12 F00 0 0 (by decide) 0 c ⟨0 + c.val, by omega⟩ rfl).trans (hm00 ⟨0 + c.val, by omega⟩ (by dsimp only; omega) (by dsimp only; omega))) c
  · intro z c
    rw [Fin.eq_zero z, storeM_at]
    exact far1_max K0 (ldQ v11 X11 0 256 (by decide)) f0 (ldM v12 F01 0 256 (by decide)) a (fun c => S 0 ⟨256 + c.val, by omega⟩)
      (fun k c => (congrArg (· + (f0 : EReal)) (Finset.sum_congr rfl fun d _ =>
        congrArg (K0 (ix3 0 k d) * ·) (ldQ_at v11 X11 0 256 (by decide) d c ⟨256 + c.val, by omega⟩ rfl))).trans (hS0 k ⟨256 + c.val, by omega⟩))
      (fun c => (ldM_at v12 F01 0 256 (by decide) 0 c ⟨256 + c.val, by omega⟩ rfl).trans (hm01 ⟨256 + c.val, by omega⟩ (by dsimp only; omega) (by dsimp only; omega))) c
  · intro z c
    rw [Fin.eq_zero z, storeM_at]
    exact far1_max K0 (ldQ v11 X11 0 512 (by decide)) f0 (ldM v12 F02 0 512 (by decide)) a (fun c => S 0 ⟨512 + c.val, by omega⟩)
      (fun k c => (congrArg (· + (f0 : EReal)) (Finset.sum_congr rfl fun d _ =>
        congrArg (K0 (ix3 0 k d) * ·) (ldQ_at v11 X11 0 512 (by decide) d c ⟨512 + c.val, by omega⟩ rfl))).trans (hS0 k ⟨512 + c.val, by omega⟩))
      (fun c => (ldM_at v12 F02 0 512 (by decide) 0 c ⟨512 + c.val, by omega⟩ rfl).trans (hm02 ⟨512 + c.val, by omega⟩ (by dsimp only; omega) (by dsimp only; omega))) c
  · intro z c
    rw [Fin.eq_zero z, storeM_at]
    exact far1_max K0 (ldQ v11 X11 0 768 (by decide)) f0 (ldM v12 F03 0 768 (by decide)) a (fun c => S 0 ⟨768 + c.val, by omega⟩)
      (fun k c => (congrArg (· + (f0 : EReal)) (Finset.sum_congr rfl fun d _ =>
        congrArg (K0 (ix3 0 k d) * ·) (ldQ_at v11 X11 0 768 (by decide) d c ⟨768 + c.val, by omega⟩ rfl))).trans (hS0 k ⟨768 + c.val, by omega⟩))
      (fun c => (ldM_at v12 F03 0 768 (by decide) 0 c ⟨768 + c.val, by omega⟩ rfl).trans (hm03 ⟨768 + c.val, by omega⟩ (by dsimp only; omega) (by dsimp only; omega))) c
  · intro z c
    rw [Fin.eq_zero z, storeM_at]
    exact far1_max K1 (ldQ v11 X11 1 0 (by decide)) f1 (ldM v12 F10 1 0 (by decide)) a (fun c => S 1 ⟨0 + c.val, by omega⟩)
      (fun k c => (congrArg (· + (f1 : EReal)) (Finset.sum_congr rfl fun d _ =>
        congrArg (K1 (ix3 0 k d) * ·) (ldQ_at v11 X11 1 0 (by decide) d c ⟨0 + c.val, by omega⟩ rfl))).trans (hS1 k ⟨0 + c.val, by omega⟩))
      (fun c => (ldM_at v12 F10 1 0 (by decide) 0 c ⟨0 + c.val, by omega⟩ rfl).trans (hm10 ⟨0 + c.val, by omega⟩ (by dsimp only; omega) (by dsimp only; omega))) c
  · intro z c
    rw [Fin.eq_zero z, storeM_at]
    exact far1_max K1 (ldQ v11 X11 1 256 (by decide)) f1 (ldM v12 F11 1 256 (by decide)) a (fun c => S 1 ⟨256 + c.val, by omega⟩)
      (fun k c => (congrArg (· + (f1 : EReal)) (Finset.sum_congr rfl fun d _ =>
        congrArg (K1 (ix3 0 k d) * ·) (ldQ_at v11 X11 1 256 (by decide) d c ⟨256 + c.val, by omega⟩ rfl))).trans (hS1 k ⟨256 + c.val, by omega⟩))
      (fun c => (ldM_at v12 F11 1 256 (by decide) 0 c ⟨256 + c.val, by omega⟩ rfl).trans (hm11 ⟨256 + c.val, by omega⟩ (by dsimp only; omega) (by dsimp only; omega))) c
  · intro z c
    rw [Fin.eq_zero z, storeM_at]
    exact far1_max K1 (ldQ v11 X11 1 512 (by decide)) f1 (ldM v12 F12 1 512 (by decide)) a (fun c => S 1 ⟨512 + c.val, by omega⟩)
      (fun k c => (congrArg (· + (f1 : EReal)) (Finset.sum_congr rfl fun d _ =>
        congrArg (K1 (ix3 0 k d) * ·) (ldQ_at v11 X11 1 512 (by decide) d c ⟨512 + c.val, by omega⟩ rfl))).trans (hS1 k ⟨512 + c.val, by omega⟩))
      (fun c => (ldM_at v12 F12 1 512 (by decide) 0 c ⟨512 + c.val, by omega⟩ rfl).trans (hm12 ⟨512 + c.val, by omega⟩ (by dsimp only; omega) (by dsimp only; omega))) c
  · intro z c
    rw [Fin.eq_zero z, storeM_at]
    exact far1_max K1 (ldQ v11 X11 1 768 (by decide)) f1 (ldM v12 F13 1 768 (by decide)) a (fun c => S 1 ⟨768 + c.val, by omega⟩)
      (fun k c => (congrArg (· + (f1 : EReal)) (Finset.sum_congr rfl fun d _ =>
        congrArg (K1 (ix3 0 k d) * ·) (ldQ_at v11 X11 1 768 (by decide) d c ⟨768 + c.val, by omega⟩ rfl))).trans (hS1 k ⟨768 + c.val, by omega⟩))
      (fun c => (ldM_at v12 F13 1 768 (by decide) 0 c ⟨768 + c.val, by omega⟩ rfl).trans (hm13 ⟨768 + c.val, by omega⟩ (by dsimp only; omega) (by dsimp only; omega))) c

/-- The weighted values a block of 1024 far keys leaves. -/
theorem far1_sums (v11 : View sig .tc .vmem S2x128x1024 .bf16) (X11 : v11.ty.Contents (Elt Ideal))
    (v12 : View sig .tc .vmem S2x1x1024 .f32) (F00 F01 F02 F03 F10 F11 F12 F13 : v12.ty.Contents (Elt Ideal))
    (K0 K1 : FVec Ideal S1x1024x128 .bf16) (f0 f1 : ℝ)
    (a : ℕ) (S : Fin 2 → Fin 1024 → ℕ → EReal)
    (hS0 : ∀ (k : Fin 1024) (col : Fin 1024), (∑ d : Fin 128, K0 (ix3 0 k d) * v11.read (Elt Ideal) X11 (ix3 0 d col)) + (f0 : EReal) = S 0 col (a + k))
    (hS1 : ∀ (k : Fin 1024) (col : Fin 1024), (∑ d : Fin 128, K1 (ix3 0 k d) * v11.read (Elt Ideal) X11 (ix3 1 d col)) + (f1 : EReal) = S 1 col (a + k))
    (hm00 : ∀ col : Fin 1024, 0 ≤ col.val → col.val < 256 → v12.read (Elt Ideal) F00 (ix3 0 0 col) = topTo (S 0 col) a)
    (hm01 : ∀ col : Fin 1024, 256 ≤ col.val → col.val < 512 → v12.read (Elt Ideal) F01 (ix3 0 0 col) = topTo (S 0 col) a)
    (hm02 : ∀ col : Fin 1024, 512 ≤ col.val → col.val < 768 → v12.read (Elt Ideal) F02 (ix3 0 0 col) = topTo (S 0 col) a)
    (hm03 : ∀ col : Fin 1024, 768 ≤ col.val → col.val < 1024 → v12.read (Elt Ideal) F03 (ix3 0 0 col) = topTo (S 0 col) a)
    (hm10 : ∀ col : Fin 1024, 0 ≤ col.val → col.val < 256 → v12.read (Elt Ideal) F10 (ix3 1 0 col) = topTo (S 1 col) a)
    (hm11 : ∀ col : Fin 1024, 256 ≤ col.val → col.val < 512 → v12.read (Elt Ideal) F11 (ix3 1 0 col) = topTo (S 1 col) a)
    (hm12 : ∀ col : Fin 1024, 512 ≤ col.val → col.val < 768 → v12.read (Elt Ideal) F12 (ix3 1 0 col) = topTo (S 1 col) a)
    (hm13 : ∀ col : Fin 1024, 768 ≤ col.val → col.val < 1024 → v12.read (Elt Ideal) F13 (ix3 1 0 col) = topTo (S 1 col) a)
    (v13 : View sig .tc .vmem S2x144x1024 .f32) (G00 G01 G02 G03 G10 G11 G12 G13 : v13.ty.Contents (Elt Ideal))
    (V0 V1 : FVec Ideal S1x1x144x1024 .bf16) (W : Fin 2 → Fin 144 → ℕ → EReal)
    (hV0 : ∀ (d : Fin 144) (k : Fin 1024), V0 (ix4 0 0 d k) = W 0 d (a + k))
    (hV1 : ∀ (d : Fin 144) (k : Fin 1024), V1 (ix4 0 0 d k) = W 1 d (a + k))
    (hA00 : ∀ (d : Fin 144) (col : Fin 1024), 0 ≤ col.val → col.val < 256 → v13.read (Elt Ideal) G00 (ix3 0 d col) = sumTo (S 0 col) (W 0 d) a)
    (hA01 : ∀ (d : Fin 144) (col : Fin 1024), 256 ≤ col.val → col.val < 512 → v13.read (Elt Ideal) G01 (ix3 0 d col) = sumTo (S 0 col) (W 0 d) a)
    (hA02 : ∀ (d : Fin 144) (col : Fin 1024), 512 ≤ col.val → col.val < 768 → v13.read (Elt Ideal) G02 (ix3 0 d col) = sumTo (S 0 col) (W 0 d) a)
    (hA03 : ∀ (d : Fin 144) (col : Fin 1024), 768 ≤ col.val → col.val < 1024 → v13.read (Elt Ideal) G03 (ix3 0 d col) = sumTo (S 0 col) (W 0 d) a)
    (hA10 : ∀ (d : Fin 144) (col : Fin 1024), 0 ≤ col.val → col.val < 256 → v13.read (Elt Ideal) G10 (ix3 1 d col) = sumTo (S 1 col) (W 1 d) a)
    (hA11 : ∀ (d : Fin 144) (col : Fin 1024), 256 ≤ col.val → col.val < 512 → v13.read (Elt Ideal) G11 (ix3 1 d col) = sumTo (S 1 col) (W 1 d) a)
    (hA12 : ∀ (d : Fin 144) (col : Fin 1024), 512 ≤ col.val → col.val < 768 → v13.read (Elt Ideal) G12 (ix3 1 d col) = sumTo (S 1 col) (W 1 d) a)
    (hA13 : ∀ (d : Fin 144) (col : Fin 1024), 768 ≤ col.val → col.val < 1024 → v13.read (Elt Ideal) G13 (ix3 1 d col) = sumTo (S 1 col) (W 1 d) a)
    (L : List (View.Piece (Elt Ideal) S2x144x1024 .f32)) (h : Fin 2) (d : Fin 144) (col : Fin 1024) :
    View.canon (Val := Elt Ideal) (piecesA
      (carry (farM (top1 (score1 K0 (ldQ v11 X11 0 0 (by decide)))) (f0 : EReal) (ldM v12 F00 0 0 (by decide))) (ldM v12 F00 0 0 (by decide)) (ldA v13 G00 0 0 (by decide)) (part1 (score1 K0 (ldQ v11 X11 0 0 (by decide))) (less (farM (top1 (score1 K0 (ldQ v11 X11 0 0 (by decide)))) (f0 : EReal) (ldM v12 F00 0 0 (by decide))) (f0 : EReal)) V0))
      (carry (farM (top1 (score1 K0 (ldQ v11 X11 0 256 (by decide)))) (f0 : EReal) (ldM v12 F01 0 256 (by decide))) (ldM v12 F01 0 256 (by decide)) (ldA v13 G01 0 256 (by decide)) (part1 (score1 K0 (ldQ v11 X11 0 256 (by decide))) (less (farM (top1 (score1 K0 (ldQ v11 X11 0 256 (by decide)))) (f0 : EReal) (ldM v12 F01 0 256 (by decide))) (f0 : EReal)) V0))
      (carry (farM (top1 (score1 K0 (ldQ v11 X11 0 512 (by decide)))) (f0 : EReal) (ldM v12 F02 0 512 (by decide))) (ldM v12 F02 0 512 (by decide)) (ldA v13 G02 0 512 (by decide)) (part1 (score1 K0 (ldQ v11 X11 0 512 (by decide))) (less (farM (top1 (score1 K0 (ldQ v11 X11 0 512 (by decide)))) (f0 : EReal) (ldM v12 F02 0 512 (by decide))) (f0 : EReal)) V0))
      (carry (farM (top1 (score1 K0 (ldQ v11 X11 0 768 (by decide)))) (f0 : EReal) (ldM v12 F03 0 768 (by decide))) (ldM v12 F03 0 768 (by decide)) (ldA v13 G03 0 768 (by decide)) (part1 (score1 K0 (ldQ v11 X11 0 768 (by decide))) (less (farM (top1 (score1 K0 (ldQ v11 X11 0 768 (by decide)))) (f0 : EReal) (ldM v12 F03 0 768 (by decide))) (f0 : EReal)) V0))
      (carry (farM (top1 (score1 K1 (ldQ v11 X11 1 0 (by decide)))) (f1 : EReal) (ldM v12 F10 1 0 (by decide))) (ldM v12 F10 1 0 (by decide)) (ldA v13 G10 1 0 (by decide)) (part1 (score1 K1 (ldQ v11 X11 1 0 (by decide))) (less (farM (top1 (score1 K1 (ldQ v11 X11 1 0 (by decide)))) (f1 : EReal) (ldM v12 F10 1 0 (by decide))) (f1 : EReal)) V1))
      (carry (farM (top1 (score1 K1 (ldQ v11 X11 1 256 (by decide)))) (f1 : EReal) (ldM v12 F11 1 256 (by decide))) (ldM v12 F11 1 256 (by decide)) (ldA v13 G11 1 256 (by decide)) (part1 (score1 K1 (ldQ v11 X11 1 256 (by decide))) (less (farM (top1 (score1 K1 (ldQ v11 X11 1 256 (by decide)))) (f1 : EReal) (ldM v12 F11 1 256 (by decide))) (f1 : EReal)) V1))
      (carry (farM (top1 (score1 K1 (ldQ v11 X11 1 512 (by decide)))) (f1 : EReal) (ldM v12 F12 1 512 (by decide))) (ldM v12 F12 1 512 (by decide)) (ldA v13 G12 1 512 (by decide)) (part1 (score1 K1 (ldQ v11 X11 1 512 (by decide))) (less (farM (top1 (score1 K1 (ldQ v11 X11 1 512 (by decide)))) (f1 : EReal) (ldM v12 F12 1 512 (by decide))) (f1 : EReal)) V1))
      (carry (farM (top1 (score1 K1 (ldQ v11 X11 1 768 (by decide)))) (f1 : EReal) (ldM v12 F13 1 768 (by decide))) (ldM v12 F13 1 768 (by decide)) (ldA v13 G13 1 768 (by decide)) (part1 (score1 K1 (ldQ v11 X11 1 768 (by decide))) (less (farM (top1 (score1 K1 (ldQ v11 X11 1 768 (by decide)))) (f1 : EReal) (ldM v12 F13 1 768 (by decide))) (f1 : EReal)) V1))
      ++ L) (ix3 h d col) = sumTo (S h col) (W h d) (a + 1024) := by
  refine canon_piecesA _ _ _ _ _ _ _ _ L (fun h d col => sumTo (S h col) (W h d) (a + 1024)) ?_ ?_ ?_ ?_ ?_ ?_ ?_ ?_ h d col
  · intro d c
    exact far1_sum K0 (ldQ v11 X11 0 0 (by decide)) f0 (ldM v12 F00 0 0 (by decide)) a (fun c => S 0 ⟨0 + c.val, by omega⟩)
      (fun k c => (congrArg (· + (f0 : EReal)) (Finset.sum_congr rfl fun d _ =>
        congrArg (K0 (ix3 0 k d) * ·) (ldQ_at v11 X11 0 0 (by decide) d c ⟨0 + c.val, by omega⟩ rfl))).trans (hS0 k ⟨0 + c.val, by omega⟩))
      (fun c => (ldM_at v12 F00 0 0 (by decide) 0 c ⟨0 + c.val, by omega⟩ rfl).trans (hm00 ⟨0 + c.val, by omega⟩ (by dsimp only; omega) (by dsimp only; omega))) V0 (ldA v13 G00 0 0 (by decide)) (W 0) hV0
      (fun d c => (ldA_at v13 G00 0 0 (by decide) d c ⟨0 + c.val, by omega⟩ rfl).trans (hA00 d ⟨0 + c.val, by omega⟩ (by dsimp only; omega) (by dsimp only; omega))) d c
  · intro d c
    exact far1_sum K0 (ldQ v11 X11 0 256 (by decide)) f0 (ldM v12 F01 0 256 (by decide)) a (fun c => S 0 ⟨256 + c.val, by omega⟩)
      (fun k c => (congrArg (· + (f0 : EReal)) (Finset.sum_congr rfl fun d _ =>
        congrArg (K0 (ix3 0 k d) * ·) (ldQ_at v11 X11 0 256 (by decide) d c ⟨256 + c.val, by omega⟩ rfl))).trans (hS0 k ⟨256 + c.val, by omega⟩))
      (fun c => (ldM_at v12 F01 0 256 (by decide) 0 c ⟨256 + c.val, by omega⟩ rfl).trans (hm01 ⟨256 + c.val, by omega⟩ (by dsimp only; omega) (by dsimp only; omega))) V0 (ldA v13 G01 0 256 (by decide)) (W 0) hV0
      (fun d c => (ldA_at v13 G01 0 256 (by decide) d c ⟨256 + c.val, by omega⟩ rfl).trans (hA01 d ⟨256 + c.val, by omega⟩ (by dsimp only; omega) (by dsimp only; omega))) d c
  · intro d c
    exact far1_sum K0 (ldQ v11 X11 0 512 (by decide)) f0 (ldM v12 F02 0 512 (by decide)) a (fun c => S 0 ⟨512 + c.val, by omega⟩)
      (fun k c => (congrArg (· + (f0 : EReal)) (Finset.sum_congr rfl fun d _ =>
        congrArg (K0 (ix3 0 k d) * ·) (ldQ_at v11 X11 0 512 (by decide) d c ⟨512 + c.val, by omega⟩ rfl))).trans (hS0 k ⟨512 + c.val, by omega⟩))
      (fun c => (ldM_at v12 F02 0 512 (by decide) 0 c ⟨512 + c.val, by omega⟩ rfl).trans (hm02 ⟨512 + c.val, by omega⟩ (by dsimp only; omega) (by dsimp only; omega))) V0 (ldA v13 G02 0 512 (by decide)) (W 0) hV0
      (fun d c => (ldA_at v13 G02 0 512 (by decide) d c ⟨512 + c.val, by omega⟩ rfl).trans (hA02 d ⟨512 + c.val, by omega⟩ (by dsimp only; omega) (by dsimp only; omega))) d c
  · intro d c
    exact far1_sum K0 (ldQ v11 X11 0 768 (by decide)) f0 (ldM v12 F03 0 768 (by decide)) a (fun c => S 0 ⟨768 + c.val, by omega⟩)
      (fun k c => (congrArg (· + (f0 : EReal)) (Finset.sum_congr rfl fun d _ =>
        congrArg (K0 (ix3 0 k d) * ·) (ldQ_at v11 X11 0 768 (by decide) d c ⟨768 + c.val, by omega⟩ rfl))).trans (hS0 k ⟨768 + c.val, by omega⟩))
      (fun c => (ldM_at v12 F03 0 768 (by decide) 0 c ⟨768 + c.val, by omega⟩ rfl).trans (hm03 ⟨768 + c.val, by omega⟩ (by dsimp only; omega) (by dsimp only; omega))) V0 (ldA v13 G03 0 768 (by decide)) (W 0) hV0
      (fun d c => (ldA_at v13 G03 0 768 (by decide) d c ⟨768 + c.val, by omega⟩ rfl).trans (hA03 d ⟨768 + c.val, by omega⟩ (by dsimp only; omega) (by dsimp only; omega))) d c
  · intro d c
    exact far1_sum K1 (ldQ v11 X11 1 0 (by decide)) f1 (ldM v12 F10 1 0 (by decide)) a (fun c => S 1 ⟨0 + c.val, by omega⟩)
      (fun k c => (congrArg (· + (f1 : EReal)) (Finset.sum_congr rfl fun d _ =>
        congrArg (K1 (ix3 0 k d) * ·) (ldQ_at v11 X11 1 0 (by decide) d c ⟨0 + c.val, by omega⟩ rfl))).trans (hS1 k ⟨0 + c.val, by omega⟩))
      (fun c => (ldM_at v12 F10 1 0 (by decide) 0 c ⟨0 + c.val, by omega⟩ rfl).trans (hm10 ⟨0 + c.val, by omega⟩ (by dsimp only; omega) (by dsimp only; omega))) V1 (ldA v13 G10 1 0 (by decide)) (W 1) hV1
      (fun d c => (ldA_at v13 G10 1 0 (by decide) d c ⟨0 + c.val, by omega⟩ rfl).trans (hA10 d ⟨0 + c.val, by omega⟩ (by dsimp only; omega) (by dsimp only; omega))) d c
  · intro d c
    exact far1_sum K1 (ldQ v11 X11 1 256 (by decide)) f1 (ldM v12 F11 1 256 (by decide)) a (fun c => S 1 ⟨256 + c.val, by omega⟩)
      (fun k c => (congrArg (· + (f1 : EReal)) (Finset.sum_congr rfl fun d _ =>
        congrArg (K1 (ix3 0 k d) * ·) (ldQ_at v11 X11 1 256 (by decide) d c ⟨256 + c.val, by omega⟩ rfl))).trans (hS1 k ⟨256 + c.val, by omega⟩))
      (fun c => (ldM_at v12 F11 1 256 (by decide) 0 c ⟨256 + c.val, by omega⟩ rfl).trans (hm11 ⟨256 + c.val, by omega⟩ (by dsimp only; omega) (by dsimp only; omega))) V1 (ldA v13 G11 1 256 (by decide)) (W 1) hV1
      (fun d c => (ldA_at v13 G11 1 256 (by decide) d c ⟨256 + c.val, by omega⟩ rfl).trans (hA11 d ⟨256 + c.val, by omega⟩ (by dsimp only; omega) (by dsimp only; omega))) d c
  · intro d c
    exact far1_sum K1 (ldQ v11 X11 1 512 (by decide)) f1 (ldM v12 F12 1 512 (by decide)) a (fun c => S 1 ⟨512 + c.val, by omega⟩)
      (fun k c => (congrArg (· + (f1 : EReal)) (Finset.sum_congr rfl fun d _ =>
        congrArg (K1 (ix3 0 k d) * ·) (ldQ_at v11 X11 1 512 (by decide) d c ⟨512 + c.val, by omega⟩ rfl))).trans (hS1 k ⟨512 + c.val, by omega⟩))
      (fun c => (ldM_at v12 F12 1 512 (by decide) 0 c ⟨512 + c.val, by omega⟩ rfl).trans (hm12 ⟨512 + c.val, by omega⟩ (by dsimp only; omega) (by dsimp only; omega))) V1 (ldA v13 G12 1 512 (by decide)) (W 1) hV1
      (fun d c => (ldA_at v13 G12 1 512 (by decide) d c ⟨512 + c.val, by omega⟩ rfl).trans (hA12 d ⟨512 + c.val, by omega⟩ (by dsimp only; omega) (by dsimp only; omega))) d c
  · intro d c
    exact far1_sum K1 (ldQ v11 X11 1 768 (by decide)) f1 (ldM v12 F13 1 768 (by decide)) a (fun c => S 1 ⟨768 + c.val, by omega⟩)
      (fun k c => (congrArg (· + (f1 : EReal)) (Finset.sum_congr rfl fun d _ =>
        congrArg (K1 (ix3 0 k d) * ·) (ldQ_at v11 X11 1 768 (by decide) d c ⟨768 + c.val, by omega⟩ rfl))).trans (hS1 k ⟨768 + c.val, by omega⟩))
      (fun c => (ldM_at v12 F13 1 768 (by decide) 0 c ⟨768 + c.val, by omega⟩ rfl).trans (hm13 ⟨768 + c.val, by omega⟩ (by dsimp only; omega) (by dsimp only; omega))) V1 (ldA v13 G13 1 768 (by decide)) (W 1) hV1
      (fun d c => (ldA_at v13 G13 1 768 (by decide) d c ⟨768 + c.val, by omega⟩ rfl).trans (hA13 d ⟨768 + c.val, by omega⟩ (by dsimp only; omega) (by dsimp only; omega))) d c

/-- The maxima a block of 512 far keys leaves. -/
theorem far5_maxima (v11 : View sig .tc .vmem S2x128x1024 .bf16) (X11 : v11.ty.Contents (Elt Ideal))
    (v12 : View sig .tc .vmem S2x1x1024 .f32) (F00 F01 F02 F03 F10 F11 F12 F13 : v12.ty.Contents (Elt Ideal))
    (K0 K1 : FVec Ideal S1x512x128 .bf16) (f0 f1 : ℝ)
    (a : ℕ) (S : Fin 2 → Fin 1024 → ℕ → EReal)
    (hS0 : ∀ (k : Fin 512) (col : Fin 1024), (∑ d : Fin 128, K0 (ix3 0 k d) * v11.read (Elt Ideal) X11 (ix3 0 d col)) + (f0 : EReal) = S 0 col (a + k))
    (hS1 : ∀ (k : Fin 512) (col : Fin 1024), (∑ d : Fin 128, K1 (ix3 0 k d) * v11.read (Elt Ideal) X11 (ix3 1 d col)) + (f1 : EReal) = S 1 col (a + k))
    (hm00 : ∀ col : Fin 1024, 0 ≤ col.val → col.val < 256 → v12.read (Elt Ideal) F00 (ix3 0 0 col) = topTo (S 0 col) a)
    (hm01 : ∀ col : Fin 1024, 256 ≤ col.val → col.val < 512 → v12.read (Elt Ideal) F01 (ix3 0 0 col) = topTo (S 0 col) a)
    (hm02 : ∀ col : Fin 1024, 512 ≤ col.val → col.val < 768 → v12.read (Elt Ideal) F02 (ix3 0 0 col) = topTo (S 0 col) a)
    (hm03 : ∀ col : Fin 1024, 768 ≤ col.val → col.val < 1024 → v12.read (Elt Ideal) F03 (ix3 0 0 col) = topTo (S 0 col) a)
    (hm10 : ∀ col : Fin 1024, 0 ≤ col.val → col.val < 256 → v12.read (Elt Ideal) F10 (ix3 1 0 col) = topTo (S 1 col) a)
    (hm11 : ∀ col : Fin 1024, 256 ≤ col.val → col.val < 512 → v12.read (Elt Ideal) F11 (ix3 1 0 col) = topTo (S 1 col) a)
    (hm12 : ∀ col : Fin 1024, 512 ≤ col.val → col.val < 768 → v12.read (Elt Ideal) F12 (ix3 1 0 col) = topTo (S 1 col) a)
    (hm13 : ∀ col : Fin 1024, 768 ≤ col.val → col.val < 1024 → v12.read (Elt Ideal) F13 (ix3 1 0 col) = topTo (S 1 col) a)
    (L : List (View.Piece (Elt Ideal) S2x1x1024 .f32)) (h : Fin 2) (col : Fin 1024) :
    View.canon (Val := Elt Ideal) (piecesM
      (storeM (farM (top5 (score5 K0 (ldQ v11 X11 0 0 (by decide)))) (f0 : EReal) (ldM v12 F00 0 0 (by decide))))
      (storeM (farM (top5 (score5 K0 (ldQ v11 X11 0 256 (by decide)))) (f0 : EReal) (ldM v12 F01 0 256 (by decide))))
      (storeM (farM (top5 (score5 K0 (ldQ v11 X11 0 512 (by decide)))) (f0 : EReal) (ldM v12 F02 0 512 (by decide))))
      (storeM (farM (top5 (score5 K0 (ldQ v11 X11 0 768 (by decide)))) (f0 : EReal) (ldM v12 F03 0 768 (by decide))))
      (storeM (farM (top5 (score5 K1 (ldQ v11 X11 1 0 (by decide)))) (f1 : EReal) (ldM v12 F10 1 0 (by decide))))
      (storeM (farM (top5 (score5 K1 (ldQ v11 X11 1 256 (by decide)))) (f1 : EReal) (ldM v12 F11 1 256 (by decide))))
      (storeM (farM (top5 (score5 K1 (ldQ v11 X11 1 512 (by decide)))) (f1 : EReal) (ldM v12 F12 1 512 (by decide))))
      (storeM (farM (top5 (score5 K1 (ldQ v11 X11 1 768 (by decide)))) (f1 : EReal) (ldM v12 F13 1 768 (by decide))))
      ++ L) (ix3 h 0 col) = topTo (S h col) (a + 512) := by
  refine canon_piecesM _ _ _ _ _ _ _ _ L (fun h _ col => topTo (S h col) (a + 512)) ?_ ?_ ?_ ?_ ?_ ?_ ?_ ?_ h 0 col
  · intro z c
    rw [Fin.eq_zero z, storeM_at]
    exact far5_max K0 (ldQ v11 X11 0 0 (by decide)) f0 (ldM v12 F00 0 0 (by decide)) a (fun c => S 0 ⟨0 + c.val, by omega⟩)
      (fun k c => (congrArg (· + (f0 : EReal)) (Finset.sum_congr rfl fun d _ =>
        congrArg (K0 (ix3 0 k d) * ·) (ldQ_at v11 X11 0 0 (by decide) d c ⟨0 + c.val, by omega⟩ rfl))).trans (hS0 k ⟨0 + c.val, by omega⟩))
      (fun c => (ldM_at v12 F00 0 0 (by decide) 0 c ⟨0 + c.val, by omega⟩ rfl).trans (hm00 ⟨0 + c.val, by omega⟩ (by dsimp only; omega) (by dsimp only; omega))) c
  · intro z c
    rw [Fin.eq_zero z, storeM_at]
    exact far5_max K0 (ldQ v11 X11 0 256 (by decide)) f0 (ldM v12 F01 0 256 (by decide)) a (fun c => S 0 ⟨256 + c.val, by omega⟩)
      (fun k c => (congrArg (· + (f0 : EReal)) (Finset.sum_congr rfl fun d _ =>
        congrArg (K0 (ix3 0 k d) * ·) (ldQ_at v11 X11 0 256 (by decide) d c ⟨256 + c.val, by omega⟩ rfl))).trans (hS0 k ⟨256 + c.val, by omega⟩))
      (fun c => (ldM_at v12 F01 0 256 (by decide) 0 c ⟨256 + c.val, by omega⟩ rfl).trans (hm01 ⟨256 + c.val, by omega⟩ (by dsimp only; omega) (by dsimp only; omega))) c
  · intro z c
    rw [Fin.eq_zero z, storeM_at]
    exact far5_max K0 (ldQ v11 X11 0 512 (by decide)) f0 (ldM v12 F02 0 512 (by decide)) a (fun c => S 0 ⟨512 + c.val, by omega⟩)
      (fun k c => (congrArg (· + (f0 : EReal)) (Finset.sum_congr rfl fun d _ =>
        congrArg (K0 (ix3 0 k d) * ·) (ldQ_at v11 X11 0 512 (by decide) d c ⟨512 + c.val, by omega⟩ rfl))).trans (hS0 k ⟨512 + c.val, by omega⟩))
      (fun c => (ldM_at v12 F02 0 512 (by decide) 0 c ⟨512 + c.val, by omega⟩ rfl).trans (hm02 ⟨512 + c.val, by omega⟩ (by dsimp only; omega) (by dsimp only; omega))) c
  · intro z c
    rw [Fin.eq_zero z, storeM_at]
    exact far5_max K0 (ldQ v11 X11 0 768 (by decide)) f0 (ldM v12 F03 0 768 (by decide)) a (fun c => S 0 ⟨768 + c.val, by omega⟩)
      (fun k c => (congrArg (· + (f0 : EReal)) (Finset.sum_congr rfl fun d _ =>
        congrArg (K0 (ix3 0 k d) * ·) (ldQ_at v11 X11 0 768 (by decide) d c ⟨768 + c.val, by omega⟩ rfl))).trans (hS0 k ⟨768 + c.val, by omega⟩))
      (fun c => (ldM_at v12 F03 0 768 (by decide) 0 c ⟨768 + c.val, by omega⟩ rfl).trans (hm03 ⟨768 + c.val, by omega⟩ (by dsimp only; omega) (by dsimp only; omega))) c
  · intro z c
    rw [Fin.eq_zero z, storeM_at]
    exact far5_max K1 (ldQ v11 X11 1 0 (by decide)) f1 (ldM v12 F10 1 0 (by decide)) a (fun c => S 1 ⟨0 + c.val, by omega⟩)
      (fun k c => (congrArg (· + (f1 : EReal)) (Finset.sum_congr rfl fun d _ =>
        congrArg (K1 (ix3 0 k d) * ·) (ldQ_at v11 X11 1 0 (by decide) d c ⟨0 + c.val, by omega⟩ rfl))).trans (hS1 k ⟨0 + c.val, by omega⟩))
      (fun c => (ldM_at v12 F10 1 0 (by decide) 0 c ⟨0 + c.val, by omega⟩ rfl).trans (hm10 ⟨0 + c.val, by omega⟩ (by dsimp only; omega) (by dsimp only; omega))) c
  · intro z c
    rw [Fin.eq_zero z, storeM_at]
    exact far5_max K1 (ldQ v11 X11 1 256 (by decide)) f1 (ldM v12 F11 1 256 (by decide)) a (fun c => S 1 ⟨256 + c.val, by omega⟩)
      (fun k c => (congrArg (· + (f1 : EReal)) (Finset.sum_congr rfl fun d _ =>
        congrArg (K1 (ix3 0 k d) * ·) (ldQ_at v11 X11 1 256 (by decide) d c ⟨256 + c.val, by omega⟩ rfl))).trans (hS1 k ⟨256 + c.val, by omega⟩))
      (fun c => (ldM_at v12 F11 1 256 (by decide) 0 c ⟨256 + c.val, by omega⟩ rfl).trans (hm11 ⟨256 + c.val, by omega⟩ (by dsimp only; omega) (by dsimp only; omega))) c
  · intro z c
    rw [Fin.eq_zero z, storeM_at]
    exact far5_max K1 (ldQ v11 X11 1 512 (by decide)) f1 (ldM v12 F12 1 512 (by decide)) a (fun c => S 1 ⟨512 + c.val, by omega⟩)
      (fun k c => (congrArg (· + (f1 : EReal)) (Finset.sum_congr rfl fun d _ =>
        congrArg (K1 (ix3 0 k d) * ·) (ldQ_at v11 X11 1 512 (by decide) d c ⟨512 + c.val, by omega⟩ rfl))).trans (hS1 k ⟨512 + c.val, by omega⟩))
      (fun c => (ldM_at v12 F12 1 512 (by decide) 0 c ⟨512 + c.val, by omega⟩ rfl).trans (hm12 ⟨512 + c.val, by omega⟩ (by dsimp only; omega) (by dsimp only; omega))) c
  · intro z c
    rw [Fin.eq_zero z, storeM_at]
    exact far5_max K1 (ldQ v11 X11 1 768 (by decide)) f1 (ldM v12 F13 1 768 (by decide)) a (fun c => S 1 ⟨768 + c.val, by omega⟩)
      (fun k c => (congrArg (· + (f1 : EReal)) (Finset.sum_congr rfl fun d _ =>
        congrArg (K1 (ix3 0 k d) * ·) (ldQ_at v11 X11 1 768 (by decide) d c ⟨768 + c.val, by omega⟩ rfl))).trans (hS1 k ⟨768 + c.val, by omega⟩))
      (fun c => (ldM_at v12 F13 1 768 (by decide) 0 c ⟨768 + c.val, by omega⟩ rfl).trans (hm13 ⟨768 + c.val, by omega⟩ (by dsimp only; omega) (by dsimp only; omega))) c

/-- The weighted values a block of 512 far keys leaves. -/
theorem far5_sums (v11 : View sig .tc .vmem S2x128x1024 .bf16) (X11 : v11.ty.Contents (Elt Ideal))
    (v12 : View sig .tc .vmem S2x1x1024 .f32) (F00 F01 F02 F03 F10 F11 F12 F13 : v12.ty.Contents (Elt Ideal))
    (K0 K1 : FVec Ideal S1x512x128 .bf16) (f0 f1 : ℝ)
    (a : ℕ) (S : Fin 2 → Fin 1024 → ℕ → EReal)
    (hS0 : ∀ (k : Fin 512) (col : Fin 1024), (∑ d : Fin 128, K0 (ix3 0 k d) * v11.read (Elt Ideal) X11 (ix3 0 d col)) + (f0 : EReal) = S 0 col (a + k))
    (hS1 : ∀ (k : Fin 512) (col : Fin 1024), (∑ d : Fin 128, K1 (ix3 0 k d) * v11.read (Elt Ideal) X11 (ix3 1 d col)) + (f1 : EReal) = S 1 col (a + k))
    (hm00 : ∀ col : Fin 1024, 0 ≤ col.val → col.val < 256 → v12.read (Elt Ideal) F00 (ix3 0 0 col) = topTo (S 0 col) a)
    (hm01 : ∀ col : Fin 1024, 256 ≤ col.val → col.val < 512 → v12.read (Elt Ideal) F01 (ix3 0 0 col) = topTo (S 0 col) a)
    (hm02 : ∀ col : Fin 1024, 512 ≤ col.val → col.val < 768 → v12.read (Elt Ideal) F02 (ix3 0 0 col) = topTo (S 0 col) a)
    (hm03 : ∀ col : Fin 1024, 768 ≤ col.val → col.val < 1024 → v12.read (Elt Ideal) F03 (ix3 0 0 col) = topTo (S 0 col) a)
    (hm10 : ∀ col : Fin 1024, 0 ≤ col.val → col.val < 256 → v12.read (Elt Ideal) F10 (ix3 1 0 col) = topTo (S 1 col) a)
    (hm11 : ∀ col : Fin 1024, 256 ≤ col.val → col.val < 512 → v12.read (Elt Ideal) F11 (ix3 1 0 col) = topTo (S 1 col) a)
    (hm12 : ∀ col : Fin 1024, 512 ≤ col.val → col.val < 768 → v12.read (Elt Ideal) F12 (ix3 1 0 col) = topTo (S 1 col) a)
    (hm13 : ∀ col : Fin 1024, 768 ≤ col.val → col.val < 1024 → v12.read (Elt Ideal) F13 (ix3 1 0 col) = topTo (S 1 col) a)
    (v13 : View sig .tc .vmem S2x144x1024 .f32) (G00 G01 G02 G03 G10 G11 G12 G13 : v13.ty.Contents (Elt Ideal))
    (V0 V1 : FVec Ideal S1x1x144x512 .bf16) (W : Fin 2 → Fin 144 → ℕ → EReal)
    (hV0 : ∀ (d : Fin 144) (k : Fin 512), V0 (ix4 0 0 d k) = W 0 d (a + k))
    (hV1 : ∀ (d : Fin 144) (k : Fin 512), V1 (ix4 0 0 d k) = W 1 d (a + k))
    (hA00 : ∀ (d : Fin 144) (col : Fin 1024), 0 ≤ col.val → col.val < 256 → v13.read (Elt Ideal) G00 (ix3 0 d col) = sumTo (S 0 col) (W 0 d) a)
    (hA01 : ∀ (d : Fin 144) (col : Fin 1024), 256 ≤ col.val → col.val < 512 → v13.read (Elt Ideal) G01 (ix3 0 d col) = sumTo (S 0 col) (W 0 d) a)
    (hA02 : ∀ (d : Fin 144) (col : Fin 1024), 512 ≤ col.val → col.val < 768 → v13.read (Elt Ideal) G02 (ix3 0 d col) = sumTo (S 0 col) (W 0 d) a)
    (hA03 : ∀ (d : Fin 144) (col : Fin 1024), 768 ≤ col.val → col.val < 1024 → v13.read (Elt Ideal) G03 (ix3 0 d col) = sumTo (S 0 col) (W 0 d) a)
    (hA10 : ∀ (d : Fin 144) (col : Fin 1024), 0 ≤ col.val → col.val < 256 → v13.read (Elt Ideal) G10 (ix3 1 d col) = sumTo (S 1 col) (W 1 d) a)
    (hA11 : ∀ (d : Fin 144) (col : Fin 1024), 256 ≤ col.val → col.val < 512 → v13.read (Elt Ideal) G11 (ix3 1 d col) = sumTo (S 1 col) (W 1 d) a)
    (hA12 : ∀ (d : Fin 144) (col : Fin 1024), 512 ≤ col.val → col.val < 768 → v13.read (Elt Ideal) G12 (ix3 1 d col) = sumTo (S 1 col) (W 1 d) a)
    (hA13 : ∀ (d : Fin 144) (col : Fin 1024), 768 ≤ col.val → col.val < 1024 → v13.read (Elt Ideal) G13 (ix3 1 d col) = sumTo (S 1 col) (W 1 d) a)
    (L : List (View.Piece (Elt Ideal) S2x144x1024 .f32)) (h : Fin 2) (d : Fin 144) (col : Fin 1024) :
    View.canon (Val := Elt Ideal) (piecesA
      (carry (farM (top5 (score5 K0 (ldQ v11 X11 0 0 (by decide)))) (f0 : EReal) (ldM v12 F00 0 0 (by decide))) (ldM v12 F00 0 0 (by decide)) (ldA v13 G00 0 0 (by decide)) (part5 (score5 K0 (ldQ v11 X11 0 0 (by decide))) (less (farM (top5 (score5 K0 (ldQ v11 X11 0 0 (by decide)))) (f0 : EReal) (ldM v12 F00 0 0 (by decide))) (f0 : EReal)) V0))
      (carry (farM (top5 (score5 K0 (ldQ v11 X11 0 256 (by decide)))) (f0 : EReal) (ldM v12 F01 0 256 (by decide))) (ldM v12 F01 0 256 (by decide)) (ldA v13 G01 0 256 (by decide)) (part5 (score5 K0 (ldQ v11 X11 0 256 (by decide))) (less (farM (top5 (score5 K0 (ldQ v11 X11 0 256 (by decide)))) (f0 : EReal) (ldM v12 F01 0 256 (by decide))) (f0 : EReal)) V0))
      (carry (farM (top5 (score5 K0 (ldQ v11 X11 0 512 (by decide)))) (f0 : EReal) (ldM v12 F02 0 512 (by decide))) (ldM v12 F02 0 512 (by decide)) (ldA v13 G02 0 512 (by decide)) (part5 (score5 K0 (ldQ v11 X11 0 512 (by decide))) (less (farM (top5 (score5 K0 (ldQ v11 X11 0 512 (by decide)))) (f0 : EReal) (ldM v12 F02 0 512 (by decide))) (f0 : EReal)) V0))
      (carry (farM (top5 (score5 K0 (ldQ v11 X11 0 768 (by decide)))) (f0 : EReal) (ldM v12 F03 0 768 (by decide))) (ldM v12 F03 0 768 (by decide)) (ldA v13 G03 0 768 (by decide)) (part5 (score5 K0 (ldQ v11 X11 0 768 (by decide))) (less (farM (top5 (score5 K0 (ldQ v11 X11 0 768 (by decide)))) (f0 : EReal) (ldM v12 F03 0 768 (by decide))) (f0 : EReal)) V0))
      (carry (farM (top5 (score5 K1 (ldQ v11 X11 1 0 (by decide)))) (f1 : EReal) (ldM v12 F10 1 0 (by decide))) (ldM v12 F10 1 0 (by decide)) (ldA v13 G10 1 0 (by decide)) (part5 (score5 K1 (ldQ v11 X11 1 0 (by decide))) (less (farM (top5 (score5 K1 (ldQ v11 X11 1 0 (by decide)))) (f1 : EReal) (ldM v12 F10 1 0 (by decide))) (f1 : EReal)) V1))
      (carry (farM (top5 (score5 K1 (ldQ v11 X11 1 256 (by decide)))) (f1 : EReal) (ldM v12 F11 1 256 (by decide))) (ldM v12 F11 1 256 (by decide)) (ldA v13 G11 1 256 (by decide)) (part5 (score5 K1 (ldQ v11 X11 1 256 (by decide))) (less (farM (top5 (score5 K1 (ldQ v11 X11 1 256 (by decide)))) (f1 : EReal) (ldM v12 F11 1 256 (by decide))) (f1 : EReal)) V1))
      (carry (farM (top5 (score5 K1 (ldQ v11 X11 1 512 (by decide)))) (f1 : EReal) (ldM v12 F12 1 512 (by decide))) (ldM v12 F12 1 512 (by decide)) (ldA v13 G12 1 512 (by decide)) (part5 (score5 K1 (ldQ v11 X11 1 512 (by decide))) (less (farM (top5 (score5 K1 (ldQ v11 X11 1 512 (by decide)))) (f1 : EReal) (ldM v12 F12 1 512 (by decide))) (f1 : EReal)) V1))
      (carry (farM (top5 (score5 K1 (ldQ v11 X11 1 768 (by decide)))) (f1 : EReal) (ldM v12 F13 1 768 (by decide))) (ldM v12 F13 1 768 (by decide)) (ldA v13 G13 1 768 (by decide)) (part5 (score5 K1 (ldQ v11 X11 1 768 (by decide))) (less (farM (top5 (score5 K1 (ldQ v11 X11 1 768 (by decide)))) (f1 : EReal) (ldM v12 F13 1 768 (by decide))) (f1 : EReal)) V1))
      ++ L) (ix3 h d col) = sumTo (S h col) (W h d) (a + 512) := by
  refine canon_piecesA _ _ _ _ _ _ _ _ L (fun h d col => sumTo (S h col) (W h d) (a + 512)) ?_ ?_ ?_ ?_ ?_ ?_ ?_ ?_ h d col
  · intro d c
    exact far5_sum K0 (ldQ v11 X11 0 0 (by decide)) f0 (ldM v12 F00 0 0 (by decide)) a (fun c => S 0 ⟨0 + c.val, by omega⟩)
      (fun k c => (congrArg (· + (f0 : EReal)) (Finset.sum_congr rfl fun d _ =>
        congrArg (K0 (ix3 0 k d) * ·) (ldQ_at v11 X11 0 0 (by decide) d c ⟨0 + c.val, by omega⟩ rfl))).trans (hS0 k ⟨0 + c.val, by omega⟩))
      (fun c => (ldM_at v12 F00 0 0 (by decide) 0 c ⟨0 + c.val, by omega⟩ rfl).trans (hm00 ⟨0 + c.val, by omega⟩ (by dsimp only; omega) (by dsimp only; omega))) V0 (ldA v13 G00 0 0 (by decide)) (W 0) hV0
      (fun d c => (ldA_at v13 G00 0 0 (by decide) d c ⟨0 + c.val, by omega⟩ rfl).trans (hA00 d ⟨0 + c.val, by omega⟩ (by dsimp only; omega) (by dsimp only; omega))) d c
  · intro d c
    exact far5_sum K0 (ldQ v11 X11 0 256 (by decide)) f0 (ldM v12 F01 0 256 (by decide)) a (fun c => S 0 ⟨256 + c.val, by omega⟩)
      (fun k c => (congrArg (· + (f0 : EReal)) (Finset.sum_congr rfl fun d _ =>
        congrArg (K0 (ix3 0 k d) * ·) (ldQ_at v11 X11 0 256 (by decide) d c ⟨256 + c.val, by omega⟩ rfl))).trans (hS0 k ⟨256 + c.val, by omega⟩))
      (fun c => (ldM_at v12 F01 0 256 (by decide) 0 c ⟨256 + c.val, by omega⟩ rfl).trans (hm01 ⟨256 + c.val, by omega⟩ (by dsimp only; omega) (by dsimp only; omega))) V0 (ldA v13 G01 0 256 (by decide)) (W 0) hV0
      (fun d c => (ldA_at v13 G01 0 256 (by decide) d c ⟨256 + c.val, by omega⟩ rfl).trans (hA01 d ⟨256 + c.val, by omega⟩ (by dsimp only; omega) (by dsimp only; omega))) d c
  · intro d c
    exact far5_sum K0 (ldQ v11 X11 0 512 (by decide)) f0 (ldM v12 F02 0 512 (by decide)) a (fun c => S 0 ⟨512 + c.val, by omega⟩)
      (fun k c => (congrArg (· + (f0 : EReal)) (Finset.sum_congr rfl fun d _ =>
        congrArg (K0 (ix3 0 k d) * ·) (ldQ_at v11 X11 0 512 (by decide) d c ⟨512 + c.val, by omega⟩ rfl))).trans (hS0 k ⟨512 + c.val, by omega⟩))
      (fun c => (ldM_at v12 F02 0 512 (by decide) 0 c ⟨512 + c.val, by omega⟩ rfl).trans (hm02 ⟨512 + c.val, by omega⟩ (by dsimp only; omega) (by dsimp only; omega))) V0 (ldA v13 G02 0 512 (by decide)) (W 0) hV0
      (fun d c => (ldA_at v13 G02 0 512 (by decide) d c ⟨512 + c.val, by omega⟩ rfl).trans (hA02 d ⟨512 + c.val, by omega⟩ (by dsimp only; omega) (by dsimp only; omega))) d c
  · intro d c
    exact far5_sum K0 (ldQ v11 X11 0 768 (by decide)) f0 (ldM v12 F03 0 768 (by decide)) a (fun c => S 0 ⟨768 + c.val, by omega⟩)
      (fun k c => (congrArg (· + (f0 : EReal)) (Finset.sum_congr rfl fun d _ =>
        congrArg (K0 (ix3 0 k d) * ·) (ldQ_at v11 X11 0 768 (by decide) d c ⟨768 + c.val, by omega⟩ rfl))).trans (hS0 k ⟨768 + c.val, by omega⟩))
      (fun c => (ldM_at v12 F03 0 768 (by decide) 0 c ⟨768 + c.val, by omega⟩ rfl).trans (hm03 ⟨768 + c.val, by omega⟩ (by dsimp only; omega) (by dsimp only; omega))) V0 (ldA v13 G03 0 768 (by decide)) (W 0) hV0
      (fun d c => (ldA_at v13 G03 0 768 (by decide) d c ⟨768 + c.val, by omega⟩ rfl).trans (hA03 d ⟨768 + c.val, by omega⟩ (by dsimp only; omega) (by dsimp only; omega))) d c
  · intro d c
    exact far5_sum K1 (ldQ v11 X11 1 0 (by decide)) f1 (ldM v12 F10 1 0 (by decide)) a (fun c => S 1 ⟨0 + c.val, by omega⟩)
      (fun k c => (congrArg (· + (f1 : EReal)) (Finset.sum_congr rfl fun d _ =>
        congrArg (K1 (ix3 0 k d) * ·) (ldQ_at v11 X11 1 0 (by decide) d c ⟨0 + c.val, by omega⟩ rfl))).trans (hS1 k ⟨0 + c.val, by omega⟩))
      (fun c => (ldM_at v12 F10 1 0 (by decide) 0 c ⟨0 + c.val, by omega⟩ rfl).trans (hm10 ⟨0 + c.val, by omega⟩ (by dsimp only; omega) (by dsimp only; omega))) V1 (ldA v13 G10 1 0 (by decide)) (W 1) hV1
      (fun d c => (ldA_at v13 G10 1 0 (by decide) d c ⟨0 + c.val, by omega⟩ rfl).trans (hA10 d ⟨0 + c.val, by omega⟩ (by dsimp only; omega) (by dsimp only; omega))) d c
  · intro d c
    exact far5_sum K1 (ldQ v11 X11 1 256 (by decide)) f1 (ldM v12 F11 1 256 (by decide)) a (fun c => S 1 ⟨256 + c.val, by omega⟩)
      (fun k c => (congrArg (· + (f1 : EReal)) (Finset.sum_congr rfl fun d _ =>
        congrArg (K1 (ix3 0 k d) * ·) (ldQ_at v11 X11 1 256 (by decide) d c ⟨256 + c.val, by omega⟩ rfl))).trans (hS1 k ⟨256 + c.val, by omega⟩))
      (fun c => (ldM_at v12 F11 1 256 (by decide) 0 c ⟨256 + c.val, by omega⟩ rfl).trans (hm11 ⟨256 + c.val, by omega⟩ (by dsimp only; omega) (by dsimp only; omega))) V1 (ldA v13 G11 1 256 (by decide)) (W 1) hV1
      (fun d c => (ldA_at v13 G11 1 256 (by decide) d c ⟨256 + c.val, by omega⟩ rfl).trans (hA11 d ⟨256 + c.val, by omega⟩ (by dsimp only; omega) (by dsimp only; omega))) d c
  · intro d c
    exact far5_sum K1 (ldQ v11 X11 1 512 (by decide)) f1 (ldM v12 F12 1 512 (by decide)) a (fun c => S 1 ⟨512 + c.val, by omega⟩)
      (fun k c => (congrArg (· + (f1 : EReal)) (Finset.sum_congr rfl fun d _ =>
        congrArg (K1 (ix3 0 k d) * ·) (ldQ_at v11 X11 1 512 (by decide) d c ⟨512 + c.val, by omega⟩ rfl))).trans (hS1 k ⟨512 + c.val, by omega⟩))
      (fun c => (ldM_at v12 F12 1 512 (by decide) 0 c ⟨512 + c.val, by omega⟩ rfl).trans (hm12 ⟨512 + c.val, by omega⟩ (by dsimp only; omega) (by dsimp only; omega))) V1 (ldA v13 G12 1 512 (by decide)) (W 1) hV1
      (fun d c => (ldA_at v13 G12 1 512 (by decide) d c ⟨512 + c.val, by omega⟩ rfl).trans (hA12 d ⟨512 + c.val, by omega⟩ (by dsimp only; omega) (by dsimp only; omega))) d c
  · intro d c
    exact far5_sum K1 (ldQ v11 X11 1 768 (by decide)) f1 (ldM v12 F13 1 768 (by decide)) a (fun c => S 1 ⟨768 + c.val, by omega⟩)
      (fun k c => (congrArg (· + (f1 : EReal)) (Finset.sum_congr rfl fun d _ =>
        congrArg (K1 (ix3 0 k d) * ·) (ldQ_at v11 X11 1 768 (by decide) d c ⟨768 + c.val, by omega⟩ rfl))).trans (hS1 k ⟨768 + c.val, by omega⟩))
      (fun c => (ldM_at v12 F13 1 768 (by decide) 0 c ⟨768 + c.val, by omega⟩ rfl).trans (hm13 ⟨768 + c.val, by omega⟩ (by dsimp only; omega) (by dsimp only; omega))) V1 (ldA v13 G13 1 768 (by decide)) (W 1) hV1
      (fun d c => (ldA_at v13 G13 1 768 (by decide) d c ⟨768 + c.val, by omega⟩ rfl).trans (hA13 d ⟨768 + c.val, by omega⟩ (by dsimp only; omega) (by dsimp only; omega))) d c

/-- The weighted values a block of 1024 near keys leaves. -/
theorem near1_sums (v11 : View sig .tc .vmem S2x128x1024 .bf16) (X11 : v11.ty.Contents (Elt Ideal))
    (v12 : View sig .tc .vmem S2x1x1024 .f32) (F00 F01 F02 F03 F10 F11 F12 F13 : v12.ty.Contents (Elt Ideal))
    (K0 K1 : FVec Ideal S1x1024x128 .bf16) (v7 : View sig .tc .vmem S2x2x512x512 .f32) (X7 : v7.ty.Contents (Elt Ideal))
    (a : ℕ) (S : Fin 2 → Fin 1024 → ℕ → EReal)
    (hS0 : ∀ (k : Fin 1024) (col : Fin 1024), (∑ d : Fin 128, K0 (ix3 0 k d) * v11.read (Elt Ideal) X11 (ix3 0 d col)) + v7.read (Elt Ideal) X7 (ix4 0 ⟨k.val / 512, by omega⟩ ⟨k.val % 512, by omega⟩ ⟨col.val % 512, by omega⟩) = S 0 col (a + k))
    (hS1 : ∀ (k : Fin 1024) (col : Fin 1024), (∑ d : Fin 128, K1 (ix3 0 k d) * v11.read (Elt Ideal) X11 (ix3 1 d col)) + v7.read (Elt Ideal) X7 (ix4 1 ⟨k.val / 512, by omega⟩ ⟨k.val % 512, by omega⟩ ⟨col.val % 512, by omega⟩) = S 1 col (a + k))
    (hm00 : ∀ col : Fin 1024, 0 ≤ col.val → col.val < 256 → v12.read (Elt Ideal) F00 (ix3 0 0 col) = topTo (S 0 col) a)
    (hm01 : ∀ col : Fin 1024, 256 ≤ col.val → col.val < 512 → v12.read (Elt Ideal) F01 (ix3 0 0 col) = topTo (S 0 col) a)
    (hm02 : ∀ col : Fin 1024, 512 ≤ col.val → col.val < 768 → v12.read (Elt Ideal) F02 (ix3 0 0 col) = topTo (S 0 col) a)
    (hm03 : ∀ col : Fin 1024, 768 ≤ col.val → col.val < 1024 → v12.read (Elt Ideal) F03 (ix3 0 0 col) = topTo (S 0 col) a)
    (hm10 : ∀ col : Fin 1024, 0 ≤ col.val → col.val < 256 → v12.read (Elt Ideal) F10 (ix3 1 0 col) = topTo (S 1 col) a)
    (hm11 : ∀ col : Fin 1024, 256 ≤ col.val → col.val < 512 → v12.read (Elt Ideal) F11 (ix3 1 0 col) = topTo (S 1 col) a)
    (hm12 : ∀ col : Fin 1024, 512 ≤ col.val → col.val < 768 → v12.read (Elt Ideal) F12 (ix3 1 0 col) = topTo (S 1 col) a)
    (hm13 : ∀ col : Fin 1024, 768 ≤ col.val → col.val < 1024 → v12.read (Elt Ideal) F13 (ix3 1 0 col) = topTo (S 1 col) a)
    (v13 : View sig .tc .vmem S2x144x1024 .f32) (G00 G01 G02 G03 G10 G11 G12 G13 : v13.ty.Contents (Elt Ideal))
    (V0 V1 : FVec Ideal S1x1x144x1024 .bf16) (W : Fin 2 → Fin 144 → ℕ → EReal)
    (hV0 : ∀ (d : Fin 144) (k : Fin 1024), V0 (ix4 0 0 d k) = W 0 d (a + k))
    (hV1 : ∀ (d : Fin 144) (k : Fin 1024), V1 (ix4 0 0 d k) = W 1 d (a + k))
    (hA00 : ∀ (d : Fin 144) (col : Fin 1024), 0 ≤ col.val → col.val < 256 → v13.read (Elt Ideal) G00 (ix3 0 d col) = sumTo (S 0 col) (W 0 d) a)
    (hA01 : ∀ (d : Fin 144) (col : Fin 1024), 256 ≤ col.val → col.val < 512 → v13.read (Elt Ideal) G01 (ix3 0 d col) = sumTo (S 0 col) (W 0 d) a)
    (hA02 : ∀ (d : Fin 144) (col : Fin 1024), 512 ≤ col.val → col.val < 768 → v13.read (Elt Ideal) G02 (ix3 0 d col) = sumTo (S 0 col) (W 0 d) a)
    (hA03 : ∀ (d : Fin 144) (col : Fin 1024), 768 ≤ col.val → col.val < 1024 → v13.read (Elt Ideal) G03 (ix3 0 d col) = sumTo (S 0 col) (W 0 d) a)
    (hA10 : ∀ (d : Fin 144) (col : Fin 1024), 0 ≤ col.val → col.val < 256 → v13.read (Elt Ideal) G10 (ix3 1 d col) = sumTo (S 1 col) (W 1 d) a)
    (hA11 : ∀ (d : Fin 144) (col : Fin 1024), 256 ≤ col.val → col.val < 512 → v13.read (Elt Ideal) G11 (ix3 1 d col) = sumTo (S 1 col) (W 1 d) a)
    (hA12 : ∀ (d : Fin 144) (col : Fin 1024), 512 ≤ col.val → col.val < 768 → v13.read (Elt Ideal) G12 (ix3 1 d col) = sumTo (S 1 col) (W 1 d) a)
    (hA13 : ∀ (d : Fin 144) (col : Fin 1024), 768 ≤ col.val → col.val < 1024 → v13.read (Elt Ideal) G13 (ix3 1 d col) = sumTo (S 1 col) (W 1 d) a)
    (L : List (View.Piece (Elt Ideal) S2x144x1024 .f32)) (h : Fin 2) (d : Fin 144) (col : Fin 1024) :
    View.canon (Val := Elt Ideal) (piecesA
      (carry (nearM (top1 (biased1 K0 (ldQ v11 X11 0 0 (by decide)) (ldB1 v7 X7 0 0 (by decide)))) (ldM v12 F00 0 0 (by decide))) (ldM v12 F00 0 0 (by decide)) (ldA v13 G00 0 0 (by decide)) (part1 (biased1 K0 (ldQ v11 X11 0 0 (by decide)) (ldB1 v7 X7 0 0 (by decide))) (nearM (top1 (biased1 K0 (ldQ v11 X11 0 0 (by decide)) (ldB1 v7 X7 0 0 (by decide)))) (ldM v12 F00 0 0 (by decide))) V0))
      (carry (nearM (top1 (biased1 K0 (ldQ v11 X11 0 256 (by decide)) (ldB1 v7 X7 0 256 (by decide)))) (ldM v12 F01 0 256 (by decide))) (ldM v12 F01 0 256 (by decide)) (ldA v13 G01 0 256 (by decide)) (part1 (biased1 K0 (ldQ v11 X11 0 256 (by decide)) (ldB1 v7 X7 0 256 (by decide))) (nearM (top1 (biased1 K0 (ldQ v11 X11 0 256 (by decide)) (ldB1 v7 X7 0 256 (by decide)))) (ldM v12 F01 0 256 (by decide))) V0))
      (carry (nearM (top1 (biased1 K0 (ldQ v11 X11 0 512 (by decide)) (ldB1 v7 X7 0 0 (by decide)))) (ldM v12 F02 0 512 (by decide))) (ldM v12 F02 0 512 (by decide)) (ldA v13 G02 0 512 (by decide)) (part1 (biased1 K0 (ldQ v11 X11 0 512 (by decide)) (ldB1 v7 X7 0 0 (by decide))) (nearM (top1 (biased1 K0 (ldQ v11 X11 0 512 (by decide)) (ldB1 v7 X7 0 0 (by decide)))) (ldM v12 F02 0 512 (by decide))) V0))
      (carry (nearM (top1 (biased1 K0 (ldQ v11 X11 0 768 (by decide)) (ldB1 v7 X7 0 256 (by decide)))) (ldM v12 F03 0 768 (by decide))) (ldM v12 F03 0 768 (by decide)) (ldA v13 G03 0 768 (by decide)) (part1 (biased1 K0 (ldQ v11 X11 0 768 (by decide)) (ldB1 v7 X7 0 256 (by decide))) (nearM (top1 (biased1 K0 (ldQ v11 X11 0 768 (by decide)) (ldB1 v7 X7 0 256 (by decide)))) (ldM v12 F03 0 768 (by decide))) V0))
      (carry (nearM (top1 (biased1 K1 (ldQ v11 X11 1 0 (by decide)) (ldB1 v7 X7 1 0 (by decide)))) (ldM v12 F10 1 0 (by decide))) (ldM v12 F10 1 0 (by decide)) (ldA v13 G10 1 0 (by decide)) (part1 (biased1 K1 (ldQ v11 X11 1 0 (by decide)) (ldB1 v7 X7 1 0 (by decide))) (nearM (top1 (biased1 K1 (ldQ v11 X11 1 0 (by decide)) (ldB1 v7 X7 1 0 (by decide)))) (ldM v12 F10 1 0 (by decide))) V1))
      (carry (nearM (top1 (biased1 K1 (ldQ v11 X11 1 256 (by decide)) (ldB1 v7 X7 1 256 (by decide)))) (ldM v12 F11 1 256 (by decide))) (ldM v12 F11 1 256 (by decide)) (ldA v13 G11 1 256 (by decide)) (part1 (biased1 K1 (ldQ v11 X11 1 256 (by decide)) (ldB1 v7 X7 1 256 (by decide))) (nearM (top1 (biased1 K1 (ldQ v11 X11 1 256 (by decide)) (ldB1 v7 X7 1 256 (by decide)))) (ldM v12 F11 1 256 (by decide))) V1))
      (carry (nearM (top1 (biased1 K1 (ldQ v11 X11 1 512 (by decide)) (ldB1 v7 X7 1 0 (by decide)))) (ldM v12 F12 1 512 (by decide))) (ldM v12 F12 1 512 (by decide)) (ldA v13 G12 1 512 (by decide)) (part1 (biased1 K1 (ldQ v11 X11 1 512 (by decide)) (ldB1 v7 X7 1 0 (by decide))) (nearM (top1 (biased1 K1 (ldQ v11 X11 1 512 (by decide)) (ldB1 v7 X7 1 0 (by decide)))) (ldM v12 F12 1 512 (by decide))) V1))
      (carry (nearM (top1 (biased1 K1 (ldQ v11 X11 1 768 (by decide)) (ldB1 v7 X7 1 256 (by decide)))) (ldM v12 F13 1 768 (by decide))) (ldM v12 F13 1 768 (by decide)) (ldA v13 G13 1 768 (by decide)) (part1 (biased1 K1 (ldQ v11 X11 1 768 (by decide)) (ldB1 v7 X7 1 256 (by decide))) (nearM (top1 (biased1 K1 (ldQ v11 X11 1 768 (by decide)) (ldB1 v7 X7 1 256 (by decide)))) (ldM v12 F13 1 768 (by decide))) V1))
      ++ L) (ix3 h d col) = sumTo (S h col) (W h d) (a + 1024) := by
  refine canon_piecesA _ _ _ _ _ _ _ _ L (fun h d col => sumTo (S h col) (W h d) (a + 1024)) ?_ ?_ ?_ ?_ ?_ ?_ ?_ ?_ h d col
  · intro d c
    exact near1_sum K0 (ldQ v11 X11 0 0 (by decide)) (ldB1 v7 X7 0 0 (by decide)) (ldM v12 F00 0 0 (by decide)) a (fun c => S 0 ⟨0 + c.val, by omega⟩)
      (fun k c => by
        have e := ldB1_at v7 X7 0 0 (by decide) ⟨k.val / 512, by omega⟩ ⟨k.val % 512, by omega⟩ c ⟨0 + c.val, by omega⟩ rfl
        have e2 := hS0 k ⟨0 + c.val, by omega⟩
        rw [show (⟨(0 + c.val) % 512, by omega⟩ : Fin 512) = ⟨0 + c.val, by omega⟩ from Fin.ext (by show (0 + c.val) % 512 = 0 + c.val; omega)] at e2
        exact (congr (congrArg (· + ·) (Finset.sum_congr rfl fun d _ =>
          congrArg (K0 (ix3 0 k d) * ·) (ldQ_at v11 X11 0 0 (by decide) d c ⟨0 + c.val, by omega⟩ rfl))) e).trans e2)
      (fun c => (ldM_at v12 F00 0 0 (by decide) 0 c ⟨0 + c.val, by omega⟩ rfl).trans (hm00 ⟨0 + c.val, by omega⟩ (by dsimp only; omega) (by dsimp only; omega))) V0 (ldA v13 G00 0 0 (by decide)) (W 0) hV0
      (fun d c => (ldA_at v13 G00 0 0 (by decide) d c ⟨0 + c.val, by omega⟩ rfl).trans (hA00 d ⟨0 + c.val, by omega⟩ (by dsimp only; omega) (by dsimp only; omega))) d c
  · intro d c
    exact near1_sum K0 (ldQ v11 X11 0 256 (by decide)) (ldB1 v7 X7 0 256 (by decide)) (ldM v12 F01 0 256 (by decide)) a (fun c => S 0 ⟨256 + c.val, by omega⟩)
      (fun k c => by
        have e := ldB1_at v7 X7 0 256 (by decide) ⟨k.val / 512, by omega⟩ ⟨k.val % 512, by omega⟩ c ⟨256 + c.val, by omega⟩ rfl
        have e2 := hS0 k ⟨256 + c.val, by omega⟩
        rw [show (⟨(256 + c.val) % 512, by omega⟩ : Fin 512) = ⟨256 + c.val, by omega⟩ from Fin.ext (by show (256 + c.val) % 512 = 256 + c.val; omega)] at e2
        exact (congr (congrArg (· + ·) (Finset.sum_congr rfl fun d _ =>
          congrArg (K0 (ix3 0 k d) * ·) (ldQ_at v11 X11 0 256 (by decide) d c ⟨256 + c.val, by omega⟩ rfl))) e).trans e2)
      (fun c => (ldM_at v12 F01 0 256 (by decide) 0 c ⟨256 + c.val, by omega⟩ rfl).trans (hm01 ⟨256 + c.val, by omega⟩ (by dsimp only; omega) (by dsimp only; omega))) V0 (ldA v13 G01 0 256 (by decide)) (W 0) hV0
      (fun d c => (ldA_at v13 G01 0 256 (by decide) d c ⟨256 + c.val, by omega⟩ rfl).trans (hA01 d ⟨256 + c.val, by omega⟩ (by dsimp only; omega) (by dsimp only; omega))) d c
  · intro d c
    exact near1_sum K0 (ldQ v11 X11 0 512 (by decide)) (ldB1 v7 X7 0 0 (by decide)) (ldM v12 F02 0 512 (by decide)) a (fun c => S 0 ⟨512 + c.val, by omega⟩)
      (fun k c => by
        have e := ldB1_at v7 X7 0 0 (by decide) ⟨k.val / 512, by omega⟩ ⟨k.val % 512, by omega⟩ c ⟨0 + c.val, by omega⟩ rfl
        have e2 := hS0 k ⟨512 + c.val, by omega⟩
        rw [show (⟨(512 + c.val) % 512, by omega⟩ : Fin 512) = ⟨0 + c.val, by omega⟩ from Fin.ext (by show (512 + c.val) % 512 = 0 + c.val; omega)] at e2
        exact (congr (congrArg (· + ·) (Finset.sum_congr rfl fun d _ =>
          congrArg (K0 (ix3 0 k d) * ·) (ldQ_at v11 X11 0 512 (by decide) d c ⟨512 + c.val, by omega⟩ rfl))) e).trans e2)
      (fun c => (ldM_at v12 F02 0 512 (by decide) 0 c ⟨512 + c.val, by omega⟩ rfl).trans (hm02 ⟨512 + c.val, by omega⟩ (by dsimp only; omega) (by dsimp only; omega))) V0 (ldA v13 G02 0 512 (by decide)) (W 0) hV0
      (fun d c => (ldA_at v13 G02 0 512 (by decide) d c ⟨512 + c.val, by omega⟩ rfl).trans (hA02 d ⟨512 + c.val, by omega⟩ (by dsimp only; omega) (by dsimp only; omega))) d c
  · intro d c
    exact near1_sum K0 (ldQ v11 X11 0 768 (by decide)) (ldB1 v7 X7 0 256 (by decide)) (ldM v12 F03 0 768 (by decide)) a (fun c => S 0 ⟨768 + c.val, by omega⟩)
      (fun k c => by
        have e := ldB1_at v7 X7 0 256 (by decide) ⟨k.val / 512, by omega⟩ ⟨k.val % 512, by omega⟩ c ⟨256 + c.val, by omega⟩ rfl
        have e2 := hS0 k ⟨768 + c.val, by omega⟩
        rw [show (⟨(768 + c.val) % 512, by omega⟩ : Fin 512) = ⟨256 + c.val, by omega⟩ from Fin.ext (by show (768 + c.val) % 512 = 256 + c.val; omega)] at e2
        exact (congr (congrArg (· + ·) (Finset.sum_congr rfl fun d _ =>
          congrArg (K0 (ix3 0 k d) * ·) (ldQ_at v11 X11 0 768 (by decide) d c ⟨768 + c.val, by omega⟩ rfl))) e).trans e2)
      (fun c => (ldM_at v12 F03 0 768 (by decide) 0 c ⟨768 + c.val, by omega⟩ rfl).trans (hm03 ⟨768 + c.val, by omega⟩ (by dsimp only; omega) (by dsimp only; omega))) V0 (ldA v13 G03 0 768 (by decide)) (W 0) hV0
      (fun d c => (ldA_at v13 G03 0 768 (by decide) d c ⟨768 + c.val, by omega⟩ rfl).trans (hA03 d ⟨768 + c.val, by omega⟩ (by dsimp only; omega) (by dsimp only; omega))) d c
  · intro d c
    exact near1_sum K1 (ldQ v11 X11 1 0 (by decide)) (ldB1 v7 X7 1 0 (by decide)) (ldM v12 F10 1 0 (by decide)) a (fun c => S 1 ⟨0 + c.val, by omega⟩)
      (fun k c => by
        have e := ldB1_at v7 X7 1 0 (by decide) ⟨k.val / 512, by omega⟩ ⟨k.val % 512, by omega⟩ c ⟨0 + c.val, by omega⟩ rfl
        have e2 := hS1 k ⟨0 + c.val, by omega⟩
        rw [show (⟨(0 + c.val) % 512, by omega⟩ : Fin 512) = ⟨0 + c.val, by omega⟩ from Fin.ext (by show (0 + c.val) % 512 = 0 + c.val; omega)] at e2
        exact (congr (congrArg (· + ·) (Finset.sum_congr rfl fun d _ =>
          congrArg (K1 (ix3 0 k d) * ·) (ldQ_at v11 X11 1 0 (by decide) d c ⟨0 + c.val, by omega⟩ rfl))) e).trans e2)
      (fun c => (ldM_at v12 F10 1 0 (by decide) 0 c ⟨0 + c.val, by omega⟩ rfl).trans (hm10 ⟨0 + c.val, by omega⟩ (by dsimp only; omega) (by dsimp only; omega))) V1 (ldA v13 G10 1 0 (by decide)) (W 1) hV1
      (fun d c => (ldA_at v13 G10 1 0 (by decide) d c ⟨0 + c.val, by omega⟩ rfl).trans (hA10 d ⟨0 + c.val, by omega⟩ (by dsimp only; omega) (by dsimp only; omega))) d c
  · intro d c
    exact near1_sum K1 (ldQ v11 X11 1 256 (by decide)) (ldB1 v7 X7 1 256 (by decide)) (ldM v12 F11 1 256 (by decide)) a (fun c => S 1 ⟨256 + c.val, by omega⟩)
      (fun k c => by
        have e := ldB1_at v7 X7 1 256 (by decide) ⟨k.val / 512, by omega⟩ ⟨k.val % 512, by omega⟩ c ⟨256 + c.val, by omega⟩ rfl
        have e2 := hS1 k ⟨256 + c.val, by omega⟩
        rw [show (⟨(256 + c.val) % 512, by omega⟩ : Fin 512) = ⟨256 + c.val, by omega⟩ from Fin.ext (by show (256 + c.val) % 512 = 256 + c.val; omega)] at e2
        exact (congr (congrArg (· + ·) (Finset.sum_congr rfl fun d _ =>
          congrArg (K1 (ix3 0 k d) * ·) (ldQ_at v11 X11 1 256 (by decide) d c ⟨256 + c.val, by omega⟩ rfl))) e).trans e2)
      (fun c => (ldM_at v12 F11 1 256 (by decide) 0 c ⟨256 + c.val, by omega⟩ rfl).trans (hm11 ⟨256 + c.val, by omega⟩ (by dsimp only; omega) (by dsimp only; omega))) V1 (ldA v13 G11 1 256 (by decide)) (W 1) hV1
      (fun d c => (ldA_at v13 G11 1 256 (by decide) d c ⟨256 + c.val, by omega⟩ rfl).trans (hA11 d ⟨256 + c.val, by omega⟩ (by dsimp only; omega) (by dsimp only; omega))) d c
  · intro d c
    exact near1_sum K1 (ldQ v11 X11 1 512 (by decide)) (ldB1 v7 X7 1 0 (by decide)) (ldM v12 F12 1 512 (by decide)) a (fun c => S 1 ⟨512 + c.val, by omega⟩)
      (fun k c => by
        have e := ldB1_at v7 X7 1 0 (by decide) ⟨k.val / 512, by omega⟩ ⟨k.val % 512, by omega⟩ c ⟨0 + c.val, by omega⟩ rfl
        have e2 := hS1 k ⟨512 + c.val, by omega⟩
        rw [show (⟨(512 + c.val) % 512, by omega⟩ : Fin 512) = ⟨0 + c.val, by omega⟩ from Fin.ext (by show (512 + c.val) % 512 = 0 + c.val; omega)] at e2
        exact (congr (congrArg (· + ·) (Finset.sum_congr rfl fun d _ =>
          congrArg (K1 (ix3 0 k d) * ·) (ldQ_at v11 X11 1 512 (by decide) d c ⟨512 + c.val, by omega⟩ rfl))) e).trans e2)
      (fun c => (ldM_at v12 F12 1 512 (by decide) 0 c ⟨512 + c.val, by omega⟩ rfl).trans (hm12 ⟨512 + c.val, by omega⟩ (by dsimp only; omega) (by dsimp only; omega))) V1 (ldA v13 G12 1 512 (by decide)) (W 1) hV1
      (fun d c => (ldA_at v13 G12 1 512 (by decide) d c ⟨512 + c.val, by omega⟩ rfl).trans (hA12 d ⟨512 + c.val, by omega⟩ (by dsimp only; omega) (by dsimp only; omega))) d c
  · intro d c
    exact near1_sum K1 (ldQ v11 X11 1 768 (by decide)) (ldB1 v7 X7 1 256 (by decide)) (ldM v12 F13 1 768 (by decide)) a (fun c => S 1 ⟨768 + c.val, by omega⟩)
      (fun k c => by
        have e := ldB1_at v7 X7 1 256 (by decide) ⟨k.val / 512, by omega⟩ ⟨k.val % 512, by omega⟩ c ⟨256 + c.val, by omega⟩ rfl
        have e2 := hS1 k ⟨768 + c.val, by omega⟩
        rw [show (⟨(768 + c.val) % 512, by omega⟩ : Fin 512) = ⟨256 + c.val, by omega⟩ from Fin.ext (by show (768 + c.val) % 512 = 256 + c.val; omega)] at e2
        exact (congr (congrArg (· + ·) (Finset.sum_congr rfl fun d _ =>
          congrArg (K1 (ix3 0 k d) * ·) (ldQ_at v11 X11 1 768 (by decide) d c ⟨768 + c.val, by omega⟩ rfl))) e).trans e2)
      (fun c => (ldM_at v12 F13 1 768 (by decide) 0 c ⟨768 + c.val, by omega⟩ rfl).trans (hm13 ⟨768 + c.val, by omega⟩ (by dsimp only; omega) (by dsimp only; omega))) V1 (ldA v13 G13 1 768 (by decide)) (W 1) hV1
      (fun d c => (ldA_at v13 G13 1 768 (by decide) d c ⟨768 + c.val, by omega⟩ rfl).trans (hA13 d ⟨768 + c.val, by omega⟩ (by dsimp only; omega) (by dsimp only; omega))) d c

/-- The weighted values a block of 512 near keys leaves. -/
theorem near5_sums (v11 : View sig .tc .vmem S2x128x1024 .bf16) (X11 : v11.ty.Contents (Elt Ideal))
    (v12 : View sig .tc .vmem S2x1x1024 .f32) (F00 F01 F02 F03 F10 F11 F12 F13 : v12.ty.Contents (Elt Ideal))
    (K0 K1 : FVec Ideal S1x512x128 .bf16) (v7 : View sig .tc .vmem S2x2x512x512 .f32) (X7 : v7.ty.Contents (Elt Ideal))
    (a : ℕ) (S : Fin 2 → Fin 1024 → ℕ → EReal)
    (hS0 : ∀ (k : Fin 512) (col : Fin 1024), (∑ d : Fin 128, K0 (ix3 0 k d) * v11.read (Elt Ideal) X11 (ix3 0 d col)) + v7.read (Elt Ideal) X7 (ix4 0 1 k ⟨col.val % 512, by omega⟩) = S 0 col (a + k))
    (hS1 : ∀ (k : Fin 512) (col : Fin 1024), (∑ d : Fin 128, K1 (ix3 0 k d) * v11.read (Elt Ideal) X11 (ix3 1 d col)) + v7.read (Elt Ideal) X7 (ix4 1 1 k ⟨col.val % 512, by omega⟩) = S 1 col (a + k))
    (hm00 : ∀ col : Fin 1024, 0 ≤ col.val → col.val < 256 → v12.read (Elt Ideal) F00 (ix3 0 0 col) = topTo (S 0 col) a)
    (hm01 : ∀ col : Fin 1024, 256 ≤ col.val → col.val < 512 → v12.read (Elt Ideal) F01 (ix3 0 0 col) = topTo (S 0 col) a)
    (hm02 : ∀ col : Fin 1024, 512 ≤ col.val → col.val < 768 → v12.read (Elt Ideal) F02 (ix3 0 0 col) = topTo (S 0 col) a)
    (hm03 : ∀ col : Fin 1024, 768 ≤ col.val → col.val < 1024 → v12.read (Elt Ideal) F03 (ix3 0 0 col) = topTo (S 0 col) a)
    (hm10 : ∀ col : Fin 1024, 0 ≤ col.val → col.val < 256 → v12.read (Elt Ideal) F10 (ix3 1 0 col) = topTo (S 1 col) a)
    (hm11 : ∀ col : Fin 1024, 256 ≤ col.val → col.val < 512 → v12.read (Elt Ideal) F11 (ix3 1 0 col) = topTo (S 1 col) a)
    (hm12 : ∀ col : Fin 1024, 512 ≤ col.val → col.val < 768 → v12.read (Elt Ideal) F12 (ix3 1 0 col) = topTo (S 1 col) a)
    (hm13 : ∀ col : Fin 1024, 768 ≤ col.val → col.val < 1024 → v12.read (Elt Ideal) F13 (ix3 1 0 col) = topTo (S 1 col) a)
    (v13 : View sig .tc .vmem S2x144x1024 .f32) (G00 G01 G02 G03 G10 G11 G12 G13 : v13.ty.Contents (Elt Ideal))
    (V0 V1 : FVec Ideal S1x1x144x512 .bf16) (W : Fin 2 → Fin 144 → ℕ → EReal)
    (hV0 : ∀ (d : Fin 144) (k : Fin 512), V0 (ix4 0 0 d k) = W 0 d (a + k))
    (hV1 : ∀ (d : Fin 144) (k : Fin 512), V1 (ix4 0 0 d k) = W 1 d (a + k))
    (hA00 : ∀ (d : Fin 144) (col : Fin 1024), 0 ≤ col.val → col.val < 256 → v13.read (Elt Ideal) G00 (ix3 0 d col) = sumTo (S 0 col) (W 0 d) a)
    (hA01 : ∀ (d : Fin 144) (col : Fin 1024), 256 ≤ col.val → col.val < 512 → v13.read (Elt Ideal) G01 (ix3 0 d col) = sumTo (S 0 col) (W 0 d) a)
    (hA02 : ∀ (d : Fin 144) (col : Fin 1024), 512 ≤ col.val → col.val < 768 → v13.read (Elt Ideal) G02 (ix3 0 d col) = sumTo (S 0 col) (W 0 d) a)
    (hA03 : ∀ (d : Fin 144) (col : Fin 1024), 768 ≤ col.val → col.val < 1024 → v13.read (Elt Ideal) G03 (ix3 0 d col) = sumTo (S 0 col) (W 0 d) a)
    (hA10 : ∀ (d : Fin 144) (col : Fin 1024), 0 ≤ col.val → col.val < 256 → v13.read (Elt Ideal) G10 (ix3 1 d col) = sumTo (S 1 col) (W 1 d) a)
    (hA11 : ∀ (d : Fin 144) (col : Fin 1024), 256 ≤ col.val → col.val < 512 → v13.read (Elt Ideal) G11 (ix3 1 d col) = sumTo (S 1 col) (W 1 d) a)
    (hA12 : ∀ (d : Fin 144) (col : Fin 1024), 512 ≤ col.val → col.val < 768 → v13.read (Elt Ideal) G12 (ix3 1 d col) = sumTo (S 1 col) (W 1 d) a)
    (hA13 : ∀ (d : Fin 144) (col : Fin 1024), 768 ≤ col.val → col.val < 1024 → v13.read (Elt Ideal) G13 (ix3 1 d col) = sumTo (S 1 col) (W 1 d) a)
    (L : List (View.Piece (Elt Ideal) S2x144x1024 .f32)) (h : Fin 2) (d : Fin 144) (col : Fin 1024) :
    View.canon (Val := Elt Ideal) (piecesA
      (carry (nearM (top5 (biased5 K0 (ldQ v11 X11 0 0 (by decide)) (ldB5 v7 X7 0 0 (by decide)))) (ldM v12 F00 0 0 (by decide))) (ldM v12 F00 0 0 (by decide)) (ldA v13 G00 0 0 (by decide)) (part5 (biased5 K0 (ldQ v11 X11 0 0 (by decide)) (ldB5 v7 X7 0 0 (by decide))) (nearM (top5 (biased5 K0 (ldQ v11 X11 0 0 (by decide)) (ldB5 v7 X7 0 0 (by decide)))) (ldM v12 F00 0 0 (by decide))) V0))
      (carry (nearM (top5 (biased5 K0 (ldQ v11 X11 0 256 (by decide)) (ldB5 v7 X7 0 256 (by decide)))) (ldM v12 F01 0 256 (by decide))) (ldM v12 F01 0 256 (by decide)) (ldA v13 G01 0 256 (by decide)) (part5 (biased5 K0 (ldQ v11 X11 0 256 (by decide)) (ldB5 v7 X7 0 256 (by decide))) (nearM (top5 (biased5 K0 (ldQ v11 X11 0 256 (by decide)) (ldB5 v7 X7 0 256 (by decide)))) (ldM v12 F01 0 256 (by decide))) V0))
      (carry (nearM (top5 (biased5 K0 (ldQ v11 X11 0 512 (by decide)) (ldB5 v7 X7 0 0 (by decide)))) (ldM v12 F02 0 512 (by decide))) (ldM v12 F02 0 512 (by decide)) (ldA v13 G02 0 512 (by decide)) (part5 (biased5 K0 (ldQ v11 X11 0 512 (by decide)) (ldB5 v7 X7 0 0 (by decide))) (nearM (top5 (biased5 K0 (ldQ v11 X11 0 512 (by decide)) (ldB5 v7 X7 0 0 (by decide)))) (ldM v12 F02 0 512 (by decide))) V0))
      (carry (nearM (top5 (biased5 K0 (ldQ v11 X11 0 768 (by decide)) (ldB5 v7 X7 0 256 (by decide)))) (ldM v12 F03 0 768 (by decide))) (ldM v12 F03 0 768 (by decide)) (ldA v13 G03 0 768 (by decide)) (part5 (biased5 K0 (ldQ v11 X11 0 768 (by decide)) (ldB5 v7 X7 0 256 (by decide))) (nearM (top5 (biased5 K0 (ldQ v11 X11 0 768 (by decide)) (ldB5 v7 X7 0 256 (by decide)))) (ldM v12 F03 0 768 (by decide))) V0))
      (carry (nearM (top5 (biased5 K1 (ldQ v11 X11 1 0 (by decide)) (ldB5 v7 X7 1 0 (by decide)))) (ldM v12 F10 1 0 (by decide))) (ldM v12 F10 1 0 (by decide)) (ldA v13 G10 1 0 (by decide)) (part5 (biased5 K1 (ldQ v11 X11 1 0 (by decide)) (ldB5 v7 X7 1 0 (by decide))) (nearM (top5 (biased5 K1 (ldQ v11 X11 1 0 (by decide)) (ldB5 v7 X7 1 0 (by decide)))) (ldM v12 F10 1 0 (by decide))) V1))
      (carry (nearM (top5 (biased5 K1 (ldQ v11 X11 1 256 (by decide)) (ldB5 v7 X7 1 256 (by decide)))) (ldM v12 F11 1 256 (by decide))) (ldM v12 F11 1 256 (by decide)) (ldA v13 G11 1 256 (by decide)) (part5 (biased5 K1 (ldQ v11 X11 1 256 (by decide)) (ldB5 v7 X7 1 256 (by decide))) (nearM (top5 (biased5 K1 (ldQ v11 X11 1 256 (by decide)) (ldB5 v7 X7 1 256 (by decide)))) (ldM v12 F11 1 256 (by decide))) V1))
      (carry (nearM (top5 (biased5 K1 (ldQ v11 X11 1 512 (by decide)) (ldB5 v7 X7 1 0 (by decide)))) (ldM v12 F12 1 512 (by decide))) (ldM v12 F12 1 512 (by decide)) (ldA v13 G12 1 512 (by decide)) (part5 (biased5 K1 (ldQ v11 X11 1 512 (by decide)) (ldB5 v7 X7 1 0 (by decide))) (nearM (top5 (biased5 K1 (ldQ v11 X11 1 512 (by decide)) (ldB5 v7 X7 1 0 (by decide)))) (ldM v12 F12 1 512 (by decide))) V1))
      (carry (nearM (top5 (biased5 K1 (ldQ v11 X11 1 768 (by decide)) (ldB5 v7 X7 1 256 (by decide)))) (ldM v12 F13 1 768 (by decide))) (ldM v12 F13 1 768 (by decide)) (ldA v13 G13 1 768 (by decide)) (part5 (biased5 K1 (ldQ v11 X11 1 768 (by decide)) (ldB5 v7 X7 1 256 (by decide))) (nearM (top5 (biased5 K1 (ldQ v11 X11 1 768 (by decide)) (ldB5 v7 X7 1 256 (by decide)))) (ldM v12 F13 1 768 (by decide))) V1))
      ++ L) (ix3 h d col) = sumTo (S h col) (W h d) (a + 512) := by
  refine canon_piecesA _ _ _ _ _ _ _ _ L (fun h d col => sumTo (S h col) (W h d) (a + 512)) ?_ ?_ ?_ ?_ ?_ ?_ ?_ ?_ h d col
  · intro d c
    exact near5_sum K0 (ldQ v11 X11 0 0 (by decide)) (ldB5 v7 X7 0 0 (by decide)) (ldM v12 F00 0 0 (by decide)) a (fun c => S 0 ⟨0 + c.val, by omega⟩)
      (fun k c => by
        have e := ldB5_at v7 X7 0 0 (by decide) 0 k c ⟨0 + c.val, by omega⟩ rfl
        have e2 := hS0 k ⟨0 + c.val, by omega⟩
        rw [show (⟨(0 + c.val) % 512, by omega⟩ : Fin 512) = ⟨0 + c.val, by omega⟩ from Fin.ext (by show (0 + c.val) % 512 = 0 + c.val; omega)] at e2
        exact (congr (congrArg (· + ·) (Finset.sum_congr rfl fun d _ =>
          congrArg (K0 (ix3 0 k d) * ·) (ldQ_at v11 X11 0 0 (by decide) d c ⟨0 + c.val, by omega⟩ rfl))) e).trans e2)
      (fun c => (ldM_at v12 F00 0 0 (by decide) 0 c ⟨0 + c.val, by omega⟩ rfl).trans (hm00 ⟨0 + c.val, by omega⟩ (by dsimp only; omega) (by dsimp only; omega))) V0 (ldA v13 G00 0 0 (by decide)) (W 0) hV0
      (fun d c => (ldA_at v13 G00 0 0 (by decide) d c ⟨0 + c.val, by omega⟩ rfl).trans (hA00 d ⟨0 + c.val, by omega⟩ (by dsimp only; omega) (by dsimp only; omega))) d c
  · intro d c
    exact near5_sum K0 (ldQ v11 X11 0 256 (by decide)) (ldB5 v7 X7 0 256 (by decide)) (ldM v12 F01 0 256 (by decide)) a (fun c => S 0 ⟨256 + c.val, by omega⟩)
      (fun k c => by
        have e := ldB5_at v7 X7 0 256 (by decide) 0 k c ⟨256 + c.val, by omega⟩ rfl
        have e2 := hS0 k ⟨256 + c.val, by omega⟩
        rw [show (⟨(256 + c.val) % 512, by omega⟩ : Fin 512) = ⟨256 + c.val, by omega⟩ from Fin.ext (by show (256 + c.val) % 512 = 256 + c.val; omega)] at e2
        exact (congr (congrArg (· + ·) (Finset.sum_congr rfl fun d _ =>
          congrArg (K0 (ix3 0 k d) * ·) (ldQ_at v11 X11 0 256 (by decide) d c ⟨256 + c.val, by omega⟩ rfl))) e).trans e2)
      (fun c => (ldM_at v12 F01 0 256 (by decide) 0 c ⟨256 + c.val, by omega⟩ rfl).trans (hm01 ⟨256 + c.val, by omega⟩ (by dsimp only; omega) (by dsimp only; omega))) V0 (ldA v13 G01 0 256 (by decide)) (W 0) hV0
      (fun d c => (ldA_at v13 G01 0 256 (by decide) d c ⟨256 + c.val, by omega⟩ rfl).trans (hA01 d ⟨256 + c.val, by omega⟩ (by dsimp only; omega) (by dsimp only; omega))) d c
  · intro d c
    exact near5_sum K0 (ldQ v11 X11 0 512 (by decide)) (ldB5 v7 X7 0 0 (by decide)) (ldM v12 F02 0 512 (by decide)) a (fun c => S 0 ⟨512 + c.val, by omega⟩)
      (fun k c => by
        have e := ldB5_at v7 X7 0 0 (by decide) 0 k c ⟨0 + c.val, by omega⟩ rfl
        have e2 := hS0 k ⟨512 + c.val, by omega⟩
        rw [show (⟨(512 + c.val) % 512, by omega⟩ : Fin 512) = ⟨0 + c.val, by omega⟩ from Fin.ext (by show (512 + c.val) % 512 = 0 + c.val; omega)] at e2
        exact (congr (congrArg (· + ·) (Finset.sum_congr rfl fun d _ =>
          congrArg (K0 (ix3 0 k d) * ·) (ldQ_at v11 X11 0 512 (by decide) d c ⟨512 + c.val, by omega⟩ rfl))) e).trans e2)
      (fun c => (ldM_at v12 F02 0 512 (by decide) 0 c ⟨512 + c.val, by omega⟩ rfl).trans (hm02 ⟨512 + c.val, by omega⟩ (by dsimp only; omega) (by dsimp only; omega))) V0 (ldA v13 G02 0 512 (by decide)) (W 0) hV0
      (fun d c => (ldA_at v13 G02 0 512 (by decide) d c ⟨512 + c.val, by omega⟩ rfl).trans (hA02 d ⟨512 + c.val, by omega⟩ (by dsimp only; omega) (by dsimp only; omega))) d c
  · intro d c
    exact near5_sum K0 (ldQ v11 X11 0 768 (by decide)) (ldB5 v7 X7 0 256 (by decide)) (ldM v12 F03 0 768 (by decide)) a (fun c => S 0 ⟨768 + c.val, by omega⟩)
      (fun k c => by
        have e := ldB5_at v7 X7 0 256 (by decide) 0 k c ⟨256 + c.val, by omega⟩ rfl
        have e2 := hS0 k ⟨768 + c.val, by omega⟩
        rw [show (⟨(768 + c.val) % 512, by omega⟩ : Fin 512) = ⟨256 + c.val, by omega⟩ from Fin.ext (by show (768 + c.val) % 512 = 256 + c.val; omega)] at e2
        exact (congr (congrArg (· + ·) (Finset.sum_congr rfl fun d _ =>
          congrArg (K0 (ix3 0 k d) * ·) (ldQ_at v11 X11 0 768 (by decide) d c ⟨768 + c.val, by omega⟩ rfl))) e).trans e2)
      (fun c => (ldM_at v12 F03 0 768 (by decide) 0 c ⟨768 + c.val, by omega⟩ rfl).trans (hm03 ⟨768 + c.val, by omega⟩ (by dsimp only; omega) (by dsimp only; omega))) V0 (ldA v13 G03 0 768 (by decide)) (W 0) hV0
      (fun d c => (ldA_at v13 G03 0 768 (by decide) d c ⟨768 + c.val, by omega⟩ rfl).trans (hA03 d ⟨768 + c.val, by omega⟩ (by dsimp only; omega) (by dsimp only; omega))) d c
  · intro d c
    exact near5_sum K1 (ldQ v11 X11 1 0 (by decide)) (ldB5 v7 X7 1 0 (by decide)) (ldM v12 F10 1 0 (by decide)) a (fun c => S 1 ⟨0 + c.val, by omega⟩)
      (fun k c => by
        have e := ldB5_at v7 X7 1 0 (by decide) 0 k c ⟨0 + c.val, by omega⟩ rfl
        have e2 := hS1 k ⟨0 + c.val, by omega⟩
        rw [show (⟨(0 + c.val) % 512, by omega⟩ : Fin 512) = ⟨0 + c.val, by omega⟩ from Fin.ext (by show (0 + c.val) % 512 = 0 + c.val; omega)] at e2
        exact (congr (congrArg (· + ·) (Finset.sum_congr rfl fun d _ =>
          congrArg (K1 (ix3 0 k d) * ·) (ldQ_at v11 X11 1 0 (by decide) d c ⟨0 + c.val, by omega⟩ rfl))) e).trans e2)
      (fun c => (ldM_at v12 F10 1 0 (by decide) 0 c ⟨0 + c.val, by omega⟩ rfl).trans (hm10 ⟨0 + c.val, by omega⟩ (by dsimp only; omega) (by dsimp only; omega))) V1 (ldA v13 G10 1 0 (by decide)) (W 1) hV1
      (fun d c => (ldA_at v13 G10 1 0 (by decide) d c ⟨0 + c.val, by omega⟩ rfl).trans (hA10 d ⟨0 + c.val, by omega⟩ (by dsimp only; omega) (by dsimp only; omega))) d c
  · intro d c
    exact near5_sum K1 (ldQ v11 X11 1 256 (by decide)) (ldB5 v7 X7 1 256 (by decide)) (ldM v12 F11 1 256 (by decide)) a (fun c => S 1 ⟨256 + c.val, by omega⟩)
      (fun k c => by
        have e := ldB5_at v7 X7 1 256 (by decide) 0 k c ⟨256 + c.val, by omega⟩ rfl
        have e2 := hS1 k ⟨256 + c.val, by omega⟩
        rw [show (⟨(256 + c.val) % 512, by omega⟩ : Fin 512) = ⟨256 + c.val, by omega⟩ from Fin.ext (by show (256 + c.val) % 512 = 256 + c.val; omega)] at e2
        exact (congr (congrArg (· + ·) (Finset.sum_congr rfl fun d _ =>
          congrArg (K1 (ix3 0 k d) * ·) (ldQ_at v11 X11 1 256 (by decide) d c ⟨256 + c.val, by omega⟩ rfl))) e).trans e2)
      (fun c => (ldM_at v12 F11 1 256 (by decide) 0 c ⟨256 + c.val, by omega⟩ rfl).trans (hm11 ⟨256 + c.val, by omega⟩ (by dsimp only; omega) (by dsimp only; omega))) V1 (ldA v13 G11 1 256 (by decide)) (W 1) hV1
      (fun d c => (ldA_at v13 G11 1 256 (by decide) d c ⟨256 + c.val, by omega⟩ rfl).trans (hA11 d ⟨256 + c.val, by omega⟩ (by dsimp only; omega) (by dsimp only; omega))) d c
  · intro d c
    exact near5_sum K1 (ldQ v11 X11 1 512 (by decide)) (ldB5 v7 X7 1 0 (by decide)) (ldM v12 F12 1 512 (by decide)) a (fun c => S 1 ⟨512 + c.val, by omega⟩)
      (fun k c => by
        have e := ldB5_at v7 X7 1 0 (by decide) 0 k c ⟨0 + c.val, by omega⟩ rfl
        have e2 := hS1 k ⟨512 + c.val, by omega⟩
        rw [show (⟨(512 + c.val) % 512, by omega⟩ : Fin 512) = ⟨0 + c.val, by omega⟩ from Fin.ext (by show (512 + c.val) % 512 = 0 + c.val; omega)] at e2
        exact (congr (congrArg (· + ·) (Finset.sum_congr rfl fun d _ =>
          congrArg (K1 (ix3 0 k d) * ·) (ldQ_at v11 X11 1 512 (by decide) d c ⟨512 + c.val, by omega⟩ rfl))) e).trans e2)
      (fun c => (ldM_at v12 F12 1 512 (by decide) 0 c ⟨512 + c.val, by omega⟩ rfl).trans (hm12 ⟨512 + c.val, by omega⟩ (by dsimp only; omega) (by dsimp only; omega))) V1 (ldA v13 G12 1 512 (by decide)) (W 1) hV1
      (fun d c => (ldA_at v13 G12 1 512 (by decide) d c ⟨512 + c.val, by omega⟩ rfl).trans (hA12 d ⟨512 + c.val, by omega⟩ (by dsimp only; omega) (by dsimp only; omega))) d c
  · intro d c
    exact near5_sum K1 (ldQ v11 X11 1 768 (by decide)) (ldB5 v7 X7 1 256 (by decide)) (ldM v12 F13 1 768 (by decide)) a (fun c => S 1 ⟨768 + c.val, by omega⟩)
      (fun k c => by
        have e := ldB5_at v7 X7 1 256 (by decide) 0 k c ⟨256 + c.val, by omega⟩ rfl
        have e2 := hS1 k ⟨768 + c.val, by omega⟩
        rw [show (⟨(768 + c.val) % 512, by omega⟩ : Fin 512) = ⟨256 + c.val, by omega⟩ from Fin.ext (by show (768 + c.val) % 512 = 256 + c.val; omega)] at e2
        exact (congr (congrArg (· + ·) (Finset.sum_congr rfl fun d _ =>
          congrArg (K1 (ix3 0 k d) * ·) (ldQ_at v11 X11 1 768 (by decide) d c ⟨768 + c.val, by omega⟩ rfl))) e).trans e2)
      (fun c => (ldM_at v12 F13 1 768 (by decide) 0 c ⟨768 + c.val, by omega⟩ rfl).trans (hm13 ⟨768 + c.val, by omega⟩ (by dsimp only; omega) (by dsimp only; omega))) V1 (ldA v13 G13 1 768 (by decide)) (W 1) hV1
      (fun d c => (ldA_at v13 G13 1 768 (by decide) d c ⟨768 + c.val, by omega⟩ rfl).trans (hA13 d ⟨768 + c.val, by omega⟩ (by dsimp only; omega) (by dsimp only; omega))) d c

end Cert.KernelIdeal.Value
-- ==== Proof.Loop.lean ====
module

public import proofs.«01_k».proof.Proof.Trip
public import proofs.«01_k».proof.Proof.Blocks

@[expose] public section

set_option maxRecDepth 16384

noncomputable section

/-! The attention's loop over pairs of far key blocks: how often it runs, what it reads, and what it leaves. -/

namespace Cert.KernelIdeal.Value

open Cert.KernelIdeal Cert.KernelIdeal.Gen Idealize.ShloMosaic Idealize.ShloMosaic.TcCoe Idealize.SL.Sem
open Finset (range)

/-- The loop over pairs runs once for each whole pair of far blocks. -/
theorem trips_pairs (i : grid0.Coords) : (k0_t1_loop i).trips = ((i 2).val - 1) / 2 := by
  unfold Scf.Loop.trips k0_t1_loop
  dsimp only
  generalize i 2 = x
  revert x
  decide

/-- The loop over the remainder never runs. -/
theorem trips_rest (i : grid0.Coords) : (k0_t2_loop i).trips = 0 := by
  unfold Scf.Loop.trips k0_t2_loop
  dsimp only
  generalize i 2 = x
  revert x
  decide

theorem trips_lt (i : grid0.Coords) : (k0_t1_loop i).trips ≤ 3 := by
  rw [trips_pairs]
  have : (i 2).val < 8 := (i 2).isLt
  omega

/-- Where a trip's keys begin. -/
theorem off2_eq (i : grid0.Coords) (k : Fin (k0_t1_loop i).trips) : k0_off2 i k = ![0, 1024 * k.val, 0] := by
  have h := trips_lt i
  have hk := k.isLt
  unfold k0_off2
  dsimp only
  obtain ⟨k, hk'⟩ := k
  dsimp only at hk ⊢
  have : k < 3 := by omega
  interval_cases k <;> rfl

theorem off3_eq (i : grid0.Coords) (k : Fin (k0_t1_loop i).trips) : k0_off3 i k = ![0, 1024 * k.val, 128] := by
  have h := trips_lt i
  have hk := k.isLt
  unfold k0_off3
  dsimp only
  obtain ⟨k, hk'⟩ := k
  dsimp only at hk ⊢
  have : k < 3 := by omega
  interval_cases k <;> rfl

theorem off4_eq (i : grid0.Coords) (k : Fin (k0_t1_loop i).trips) : k0_off4 i k = ![0, 0, 0, 1024 * k.val] := by
  have h := trips_lt i
  have hk := k.isLt
  unfold k0_off4
  dsimp only
  obtain ⟨k, hk'⟩ := k
  dsimp only at hk ⊢
  have : k < 3 := by omega
  interval_cases k <;> rfl

theorem off5_eq (i : grid0.Coords) (k : Fin (k0_t1_loop i).trips) : k0_off5 i k = ![0, 1, 0, 1024 * k.val] := by
  have h := trips_lt i
  have hk := k.isLt
  unfold k0_off5
  dsimp only
  obtain ⟨k, hk'⟩ := k
  dsimp only at hk ⊢
  have : k < 3 := by omega
  interval_cases k <;> rfl

theorem off10_eq (i : grid0.Coords) (h : 2 ≤ (i 2).val) : k0_off10 i = ![0, 512 * ((i 2).val - 2), 0] := by
  unfold k0_off10
  dsimp only
  generalize i 2 = x at h ⊢
  fin_cases x <;> first | rfl | (exfalso; revert h; decide)

theorem off11_eq (i : grid0.Coords) (h : 2 ≤ (i 2).val) : k0_off11 i = ![0, 512 * ((i 2).val - 2), 128] := by
  unfold k0_off11
  dsimp only
  generalize i 2 = x at h ⊢
  fin_cases x <;> first | rfl | (exfalso; revert h; decide)

theorem off12_eq (i : grid0.Coords) (h : 2 ≤ (i 2).val) : k0_off12 i = ![0, 0, 0, 512 * ((i 2).val - 2)] := by
  unfold k0_off12
  dsimp only
  generalize i 2 = x at h ⊢
  fin_cases x <;> first | rfl | (exfalso; revert h; decide)

theorem off13_eq (i : grid0.Coords) (h : 2 ≤ (i 2).val) : k0_off13 i = ![0, 1, 0, 512 * ((i 2).val - 2)] := by
  unfold k0_off13
  dsimp only
  generalize i 2 = x at h ⊢
  fin_cases x <;> first | rfl | (exfalso; revert h; decide)

theorem off14_eq (i : grid0.Coords) (h : 1 ≤ (i 2).val) : k0_off14 i = ![0, 512 * ((i 2).val - 1), 0] := by
  unfold k0_off14
  dsimp only
  generalize i 2 = x at h ⊢
  fin_cases x <;> first | rfl | (exfalso; revert h; decide)

theorem off15_eq (i : grid0.Coords) (h : 1 ≤ (i 2).val) : k0_off15 i = ![0, 512 * ((i 2).val - 1), 128] := by
  unfold k0_off15
  dsimp only
  generalize i 2 = x at h ⊢
  fin_cases x <;> first | rfl | (exfalso; revert h; decide)

theorem off16_eq (i : grid0.Coords) (h : 1 ≤ (i 2).val) : k0_off16 i = ![0, 0, 0, 512 * ((i 2).val - 1)] := by
  unfold k0_off16
  dsimp only
  generalize i 2 = x at h ⊢
  fin_cases x <;> first | rfl | (exfalso; revert h; decide)

theorem off17_eq (i : grid0.Coords) (h : 1 ≤ (i 2).val) : k0_off17 i = ![0, 1, 0, 512 * ((i 2).val - 1)] := by
  unfold k0_off17
  dsimp only
  generalize i 2 = x at h ⊢
  fin_cases x <;> first | rfl | (exfalso; revert h; decide)

/-- After `n` trips the scratch holds the running softmax of the first `1024 n` keys. -/
theorem loop_leaves (𝒱 : Variants) (c : Dev nD) (bd : Option 𝒱.V) (i : grid0.Coords) (arg3 : Memref sig .tc .smem S8 .f32) (harg3 : arg3.IsWhole) (arg4 : Memref sig .tc .vmem S1x512x256 .f32) (harg4 : arg4.IsWhole) (arg5 : Memref sig .tc .vmem S1x4096x256 .bf16) (harg5 : arg5.IsWhole) (arg6 : Memref sig .tc .vmem S1x2x144x4096 .bf16) (harg6 : arg6.IsWhole) (arg7 : Memref sig .tc .vmem S2x2x512x512 .f32) (harg7 : arg7.IsWhole) (arg8 : Memref sig .tc .vmem S4x64 .f32) (harg8 : arg8.IsWhole) (arg9 : Memref sig .tc .vmem S1x128 .f32) (harg9 : arg9.IsWhole) (arg10 : Memref sig .tc .vmem S1x512x256 .bf16) (harg10 : arg10.IsWhole) (arg11 : Memref sig .tc .vmem S2x128x1024 .bf16) (harg11 : arg11.IsWhole) (arg12 : Memref sig .tc .vmem S2x1x1024 .f32) (harg12 : arg12.IsWhole) (arg13 : Memref sig .tc .vmem S2x144x1024 .f32) (harg13 : arg13.IsWhole) (arg2 : BitVec 32) (v50 v54 : Ideal .f32) (v56 : BitVec 32) (v57 : BitVec 32) (v68 : BitVec 1) (v69 : BitVec 32) (c0_i32_34 : BitVec 32)  (f0 f1 : ℝ) (hf0 : v50 = (f0 : EReal)) (hf1 : v54 = (f1 : EReal))
    (X5 : arg5.view.ty.Contents (Elt Ideal)) (X6 : arg6.view.ty.Contents (Elt Ideal)) (X11 : arg11.view.ty.Contents (Elt Ideal))
    (L12 : List (View.Piece (Elt Ideal) S2x1x1024 .f32)) (L13 : List (View.Piece (Elt Ideal) S2x144x1024 .f32))
    (S : Fin 2 → Fin 1024 → ℕ → EReal) (W : Fin 2 → Fin 144 → ℕ → EReal)
    (hS0 : ∀ (k : Fin 4096) (col : Fin 1024), k.val < 1024 * (k0_t1_loop i).trips →
      (∑ d : Fin 128, arg5.view.read (Elt Ideal) X5 (ix3 0 k ⟨0 + d.val, by omega⟩) * arg11.view.read (Elt Ideal) X11 (ix3 0 d col)) + (f0 : EReal) = S 0 col k)
    (hS1 : ∀ (k : Fin 4096) (col : Fin 1024), k.val < 1024 * (k0_t1_loop i).trips →
      (∑ d : Fin 128, arg5.view.read (Elt Ideal) X5 (ix3 0 k ⟨128 + d.val, by omega⟩) * arg11.view.read (Elt Ideal) X11 (ix3 1 d col)) + (f1 : EReal) = S 1 col k)
    (hV : ∀ (h : Fin 2) (d : Fin 144) (k : Fin 4096), arg6.view.read (Elt Ideal) X6 (ix4 0 h d k) = W h d k)
    (hm : ∀ h col, View.canon (Val := Elt Ideal) L12 (ix3 h 0 col) = topTo (S h col) 0)
    (hA : ∀ h d col, View.canon (Val := Elt Ideal) L13 (ix3 h d col) = sumTo (S h col) (W h d) 0) (n : ℕ) (hn : n ≤ (k0_t1_loop i).trips) :
    (∀ h col, View.canon (Val := Elt Ideal) ((pb_k0_t1 (F := Ideal) 𝒱 c bd i arg3 harg3 arg4 harg4 arg5 harg5 arg6 harg6 arg7 harg7 arg8 harg8 arg9 harg9 arg10 harg10 arg11 harg11 arg12 harg12 arg13 harg13 arg2 v50 v54 v56 v57 v68 v69 c0_i32_34 X5 X6 X11 (arg12.view.writes (Elt Ideal) arg12.view.junk L12) (arg13.view.writes (Elt Ideal) arg13.view.junk L13) n).1 ++ L12) (ix3 h 0 col) = topTo (S h col) (1024 * n))
    ∧ (∀ h d col, View.canon (Val := Elt Ideal) ((pb_k0_t1 (F := Ideal) 𝒱 c bd i arg3 harg3 arg4 harg4 arg5 harg5 arg6 harg6 arg7 harg7 arg8 harg8 arg9 harg9 arg10 harg10 arg11 harg11 arg12 harg12 arg13 harg13 arg2 v50 v54 v56 v57 v68 v69 c0_i32_34 X5 X6 X11 (arg12.view.writes (Elt Ideal) arg12.view.junk L12) (arg13.view.writes (Elt Ideal) arg13.view.junk L13) n).2 ++ L13) (ix3 h d col) = sumTo (S h col) (W h d) (1024 * n)) := by
  subst hf0 hf1
  induction n with
  | zero => exact ⟨hm, hA⟩
  | succ n ih =>
    obtain ⟨ihm, ihA⟩ := ih (by omega)
    have e : pb_k0_t1 (F := Ideal) 𝒱 c bd i arg3 harg3 arg4 harg4 arg5 harg5 arg6 harg6 arg7 harg7 arg8 harg8 arg9 harg9 arg10 harg10 arg11 harg11 arg12 harg12 arg13 harg13 arg2 (f0 : EReal) (f1 : EReal) v56 v57 v68 v69 c0_i32_34 X5 X6 X11 (arg12.view.writes (Elt Ideal) arg12.view.junk L12) (arg13.view.writes (Elt Ideal) arg13.view.junk L13) (n + 1) = _ := pb_k0_t1_succ (F := Ideal) 𝒱 c bd i arg3 harg3 arg4 harg4 arg5 harg5 arg6 harg6 arg7 harg7 arg8 harg8 arg9 harg9 arg10 harg10 arg11 harg11 arg12 harg12 arg13 harg13 arg2 (f0 : EReal) (f1 : EReal) v56 v57 v68 v69 c0_i32_34 X5 X6 X11 (arg12.view.writes (Elt Ideal) arg12.view.junk L12) (arg13.view.writes (Elt Ideal) arg13.view.junk L13) ⟨n, by omega⟩
    have h3 := trips_lt i
    have rm : ∀ h col, arg12.view.read (Elt Ideal) (arg12.view.writes (Elt Ideal) (arg12.view.writes (Elt Ideal) arg12.view.junk L12) (pb_k0_t1 (F := Ideal) 𝒱 c bd i arg3 harg3 arg4 harg4 arg5 harg5 arg6 harg6 arg7 harg7 arg8 harg8 arg9 harg9 arg10 harg10 arg11 harg11 arg12 harg12 arg13 harg13 arg2 (f0 : EReal) (f1 : EReal) v56 v57 v68 v69 c0_i32_34 X5 X6 X11 (arg12.view.writes (Elt Ideal) arg12.view.junk L12) (arg13.view.writes (Elt Ideal) arg13.view.junk L13) n).1) (ix3 h 0 col) = topTo (S h col) (1024 * n) := fun h col => by
      rw [← View.writes_append]
      exact (View.read_writes_junk_apply_eq_canon _ _ _).trans (ihm h col)
    have rA : ∀ h d col, arg13.view.read (Elt Ideal) (arg13.view.writes (Elt Ideal) (arg13.view.writes (Elt Ideal) arg13.view.junk L13) (pb_k0_t1 (F := Ideal) 𝒱 c bd i arg3 harg3 arg4 harg4 arg5 harg5 arg6 harg6 arg7 harg7 arg8 harg8 arg9 harg9 arg10 harg10 arg11 harg11 arg12 harg12 arg13 harg13 arg2 (f0 : EReal) (f1 : EReal) v56 v57 v68 v69 c0_i32_34 X5 X6 X11 (arg12.view.writes (Elt Ideal) arg12.view.junk L12) (arg13.view.writes (Elt Ideal) arg13.view.junk L13) n).2) (ix3 h d col) = sumTo (S h col) (W h d) (1024 * n) := fun h d col => by
      rw [← View.writes_append]
      exact (View.read_writes_junk_apply_eq_canon _ _ _).trans (ihA h d col)
    have s0 : ∀ (k : Fin 1024) (col : Fin 1024), (∑ d : Fin 128, ldK1 arg5.view X5 (k0_off2 i ⟨n, by omega⟩) (k0_off2_inb i ⟨n, by omega⟩) (ix3 0 k d) * arg11.view.read (Elt Ideal) X11 (ix3 0 d col)) + (f0 : EReal) = S 0 col (1024 * n + k) := fun k col => by
      refine Eq.trans (congrArg (· + (f0 : EReal)) (Finset.sum_congr rfl fun d _ => congrArg (· * arg11.view.read (Elt Ideal) X11 (ix3 0 d col)) (ldK1_at arg5.view X5 _ _ k d ⟨1024 * n + k.val, by omega⟩ ⟨0 + d.val, by omega⟩ ?_ ?_ ?_))) (hS0 ⟨1024 * n + k.val, by omega⟩ col (by dsimp only; omega)) <;> rw [off2_eq] <;> simp
    have s1 : ∀ (k : Fin 1024) (col : Fin 1024), (∑ d : Fin 128, ldK1 arg5.view X5 (k0_off3 i ⟨n, by omega⟩) (k0_off3_inb i ⟨n, by omega⟩) (ix3 0 k d) * arg11.view.read (Elt Ideal) X11 (ix3 1 d col)) + (f1 : EReal) = S 1 col (1024 * n + k) := fun k col => by
      refine Eq.trans (congrArg (· + (f1 : EReal)) (Finset.sum_congr rfl fun d _ => congrArg (· * arg11.view.read (Elt Ideal) X11 (ix3 1 d col)) (ldK1_at arg5.view X5 _ _ k d ⟨1024 * n + k.val, by omega⟩ ⟨128 + d.val, by omega⟩ ?_ ?_ ?_))) (hS1 ⟨1024 * n + k.val, by omega⟩ col (by dsimp only; omega)) <;> rw [off3_eq] <;> simp
    constructor
    · intro h col
      refine (congrArg (fun L => View.canon (Val := Elt Ideal) (L ++ L12) (ix3 h 0 col)) ((congrArg Prod.fst e).trans (congrArg (· ++ (pb_k0_t1 (F := Ideal) 𝒱 c bd i arg3 harg3 arg4 harg4 arg5 harg5 arg6 harg6 arg7 harg7 arg8 harg8 arg9 harg9 arg10 harg10 arg11 harg11 arg12 harg12 arg13 harg13 arg2 (f0 : EReal) (f1 : EReal) v56 v57 v68 v69 c0_i32_34 X5 X6 X11 (arg12.view.writes (Elt Ideal) arg12.view.junk L12) (arg13.view.writes (Elt Ideal) arg13.view.junk L13) n).1)
        (tripM 𝒱 c bd i arg3 harg3 arg4 harg4 arg5 harg5 arg6 harg6 arg7 harg7 arg8 harg8 arg9 harg9 arg10 harg10 arg11 harg11 arg12 harg12 arg13 harg13 arg2 (f0 : EReal) (f1 : EReal) v56 v57 v68 v69 c0_i32_34 X5 X6 X11 ⟨n, by omega⟩ _ _)))).trans ?_
      refine (congrArg (fun L => View.canon (Val := Elt Ideal) L (ix3 h 0 col)) (List.append_assoc _ _ _)).trans ?_
      exact far1_maxima arg11.view X11 arg12.view _ _ _ _ _ _ _ _ _ _ f0 f1 (1024 * n) S s0 s1
        (fun col _ _ => rm 0 col) (fun col _ _ => rm 0 col) (fun col _ _ => rm 0 col) (fun col _ _ => rm 0 col)
        (fun col _ _ => rm 1 col) (fun col _ _ => rm 1 col) (fun col _ _ => rm 1 col) (fun col _ _ => rm 1 col) _ h col
    · intro h d col
      refine (congrArg (fun L => View.canon (Val := Elt Ideal) (L ++ L13) (ix3 h d col)) ((congrArg Prod.snd e).trans (congrArg (· ++ (pb_k0_t1 (F := Ideal) 𝒱 c bd i arg3 harg3 arg4 harg4 arg5 harg5 arg6 harg6 arg7 harg7 arg8 harg8 arg9 harg9 arg10 harg10 arg11 harg11 arg12 harg12 arg13 harg13 arg2 (f0 : EReal) (f1 : EReal) v56 v57 v68 v69 c0_i32_34 X5 X6 X11 (arg12.view.writes (Elt Ideal) arg12.view.junk L12) (arg13.view.writes (Elt Ideal) arg13.view.junk L13) n).2)
        (tripA 𝒱 c bd i arg3 harg3 arg4 harg4 arg5 harg5 arg6 harg6 arg7 harg7 arg8 harg8 arg9 harg9 arg10 harg10 arg11 harg11 arg12 harg12 arg13 harg13 arg2 (f0 : EReal) (f1 : EReal) v56 v57 v68 v69 c0_i32_34 X5 X6 X11 ⟨n, by omega⟩ _ _)))).trans ?_
      refine (congrArg (fun L => View.canon (Val := Elt Ideal) L (ix3 h d col)) (List.append_assoc _ _ _)).trans ?_
      exact far1_sums arg11.view X11 arg12.view _ _ _ _ _ _ _ _ _ _ f0 f1 (1024 * n) S s0 s1
        (fun col _ _ => rm 0 col) (fun col _ _ => rm 0 col) (fun col _ _ => rm 0 col) (fun col _ _ => rm 0 col)
        (fun col _ _ => rm 1 col) (fun col _ _ => rm 1 col) (fun col _ _ => rm 1 col) (fun col _ _ => rm 1 col)
        arg13.view _ _ _ _ _ _ _ _ _ _ W
        (fun d k => (ldV1_at arg6.view X6 _ _ d k 0 ⟨1024 * n + k.val, by omega⟩ (by rw [off4_eq]; rfl) (by rw [off4_eq]; rfl) (by rw [off4_eq]; rfl) (by rw [off4_eq]; rfl)).trans (hV 0 d ⟨1024 * n + k.val, by omega⟩))
        (fun d k => (ldV1_at arg6.view X6 _ _ d k 1 ⟨1024 * n + k.val, by omega⟩ (by rw [off5_eq]; rfl) (by rw [off5_eq]; rfl) (by rw [off5_eq]; rfl) (by rw [off5_eq]; rfl)).trans (hV 1 d ⟨1024 * n + k.val, by omega⟩))
        (fun d col _ _ => rA 0 d col) (fun d col _ _ => rA 0 d col) (fun d col _ _ => rA 0 d col) (fun d col _ _ => rA 0 d col)
        (fun d col _ _ => rA 1 d col) (fun d col _ _ => rA 1 d col) (fun d col _ _ => rA 1 d col) (fun d col _ _ => rA 1 d col) _ h d col

end Cert.KernelIdeal.Value
-- ==== Proof.Scores.lean ====
module

public import proofs.«01_k».proof.Proof.Loop

@[expose] public section

set_option maxRecDepth 16384

noncomputable section

/-! The scores and values of a query block's keys, and reading a scratch buffer past the stores of other groups. -/

namespace Cert.KernelIdeal.Value

open Cert.KernelIdeal Cert.KernelIdeal.Gen Idealize.ShloMosaic Idealize.ShloMosaic.TcCoe Idealize.SL.Sem
open Finset (range)

/-- The bias of key `k` against column `col` of query block `q`: one number for a far block, else from the two tiles. -/
def keyBias (b : S2x2x512x512.Idx → EReal) (q : ℕ) (f : Fin 2 → ℝ) (h : Fin 2) (col : Fin 1024) (k : ℕ) : EReal :=
  if k / 512 + 1 < q then (f h : EReal)
  else b (ix4 h (if k / 512 < q then 0 else 1) ⟨k % 512, by omega⟩ ⟨col.val % 512, by omega⟩)

/-- The score of key `k` against column `col`. -/
def keyScore (K : S1x4096x256.Idx → EReal) (Q : S2x128x1024.Idx → EReal) (b : S2x2x512x512.Idx → EReal) (q : ℕ) (f : Fin 2 → ℝ)
    (h : Fin 2) (col : Fin 1024) (k : ℕ) : EReal :=
  (∑ d : Fin 128, K (ix3 0 ⟨k % 4096, by omega⟩ ⟨128 * h.val + d.val, by omega⟩) * Q (ix3 h d col)) + keyBias b q f h col k

/-- Feature `d` of key `k`'s value. -/
def keyValue (V : S1x2x144x4096.Idx → EReal) (h : Fin 2) (d : Fin 144) (k : ℕ) : EReal :=
  V (ix4 0 h d ⟨k % 4096, by omega⟩)

theorem keyBias_far (b : S2x2x512x512.Idx → EReal) (q : ℕ) (f : Fin 2 → ℝ) (h : Fin 2) (col : Fin 1024) (k : ℕ) (hk : k / 512 + 1 < q) :
    keyBias b q f h col k = (f h : EReal) := if_pos hk

theorem keyBias_before (b : S2x2x512x512.Idx → EReal) (q : ℕ) (f : Fin 2 → ℝ) (h : Fin 2) (col : Fin 1024) (k : ℕ) (hk : k / 512 + 1 = q)
    (r : Fin 512) (hr : r.val = k % 512) : keyBias b q f h col k = b (ix4 h 0 r ⟨col.val % 512, by omega⟩) := by
  unfold keyBias
  rw [if_neg (by omega), if_pos (by omega)]
  congr 2
  exact Fin.ext hr.symm

theorem keyBias_same (b : S2x2x512x512.Idx → EReal) (q : ℕ) (f : Fin 2 → ℝ) (h : Fin 2) (col : Fin 1024) (k : ℕ) (hk : k / 512 = q)
    (r : Fin 512) (hr : r.val = k % 512) : keyBias b q f h col k = b (ix4 h 1 r ⟨col.val % 512, by omega⟩) := by
  unfold keyBias
  rw [if_neg (by omega), if_neg (by omega)]
  congr 2
  exact Fin.ext hr.symm

/-- A key's score from loaded keys and queries. -/
theorem score_of (K : S1x4096x256.Idx → EReal) (Q : S2x128x1024.Idx → EReal) (b : S2x2x512x512.Idx → EReal) (q : ℕ) (f : Fin 2 → ℝ)
    (h : Fin 2) (col : Fin 1024) (k : ℕ) (hk : k < 4096) (ks qs : Fin 128 → EReal) (x : EReal)
    (hks : ∀ (d : Fin 128) (e : Fin 256), e.val = 128 * h.val + d.val → ks d = K (ix3 0 ⟨k, hk⟩ e)) (hqs : ∀ d, qs d = Q (ix3 h d col))
    (hx : x = keyBias b q f h col k) : (∑ d : Fin 128, ks d * qs d) + x = keyScore K Q b q f h col k := by
  unfold keyScore
  rw [hx]
  congr 1
  refine Finset.sum_congr rfl fun d _ => ?_
  rw [hks d ⟨128 * h.val + d.val, by omega⟩ rfl, hqs]
  congr 3
  exact Fin.ext (Nat.mod_eq_of_lt hk).symm

theorem value_of (V : S1x2x144x4096.Idx → EReal) (h : Fin 2) (d : Fin 144) (k : Fin 4096) : V (ix4 0 h d k) = keyValue V h d k := by
  unfold keyValue
  congr 2
  exact Fin.ext (Nat.mod_eq_of_lt k.isLt).symm

/-- A stored group of maxima is skipped by a read of another group. -/
theorem skipM (H C : ℕ) (inb : ∀ a, (![H, 0, C] : Fin 3 → ℕ) a + S1x1x256.size a ≤ S2x1x1024.size a) (w : FVec Ideal S1x1x256 .f32)
    (L : List (View.Piece (Elt Ideal) S2x1x1024 .f32)) (h : Fin 2) (col : Fin 1024)
    (hne : h.val < H ∨ H + 1 ≤ h.val ∨ col.val < C ∨ C + 256 ≤ col.val) :
    View.canon (Val := Elt Ideal) (⟨Rect.unit (s := S2x1x1024) ![H, 0, C] S1x1x256.size inb, w⟩ :: L) (ix3 h 0 col)
      = View.canon (Val := Elt Ideal) L (ix3 h 0 col) := by
  refine View.canon_cons_of_not_mem (Val := Elt Ideal) _ L ?_
  rcases hne with h1 | h1 | h1 | h1
  · exact Rect.not_mem_set_of_axis _ _ (0 : Fin 3) H 1 rfl rfl rfl (Or.inl h1)
  · exact Rect.not_mem_set_of_axis _ _ (0 : Fin 3) H 1 rfl rfl rfl (Or.inr h1)
  · exact Rect.not_mem_set_of_axis _ _ (2 : Fin 3) C 256 rfl rfl rfl (Or.inl h1)
  · exact Rect.not_mem_set_of_axis _ _ (2 : Fin 3) C 256 rfl rfl rfl (Or.inr h1)

/-- A stored group of weighted values is skipped by a read of another group. -/
theorem skipA (H C : ℕ) (inb : ∀ a, (![H, 0, C] : Fin 3 → ℕ) a + S1x144x256.size a ≤ S2x144x1024.size a) (w : FVec Ideal S1x144x256 .f32)
    (L : List (View.Piece (Elt Ideal) S2x144x1024 .f32)) (h : Fin 2) (d : Fin 144) (col : Fin 1024)
    (hne : h.val < H ∨ H + 1 ≤ h.val ∨ col.val < C ∨ C + 256 ≤ col.val) :
    View.canon (Val := Elt Ideal) (⟨Rect.unit (s := S2x144x1024) ![H, 0, C] S1x144x256.size inb, w⟩ :: L) (ix3 h d col)
      = View.canon (Val := Elt Ideal) L (ix3 h d col) := by
  refine View.canon_cons_of_not_mem (Val := Elt Ideal) _ L ?_
  rcases hne with h1 | h1 | h1 | h1
  · exact Rect.not_mem_set_of_axis _ _ (0 : Fin 3) H 1 rfl rfl rfl (Or.inl h1)
  · exact Rect.not_mem_set_of_axis _ _ (0 : Fin 3) H 1 rfl rfl rfl (Or.inr h1)
  · exact Rect.not_mem_set_of_axis _ _ (2 : Fin 3) C 256 rfl rfl rfl (Or.inl h1)
  · exact Rect.not_mem_set_of_axis _ _ (2 : Fin 3) C 256 rfl rfl rfl (Or.inr h1)

/-- Nothing taken in yet. -/
theorem start_max (h : Fin 2) (col : Fin 1024) (S : ℕ → EReal) :
    View.canon (Val := Elt Ideal) (s := S2x1x1024) (e := .f32) [⟨Rect.unit (s := S2x1x1024) ![0, 0, 0] S2x1x1024.size (by decide), (k0_pay253 : FVec Ideal S2x1x1024 .f32)⟩] (ix3 h 0 col)
      = topTo S 0 := by
  rw [View.canon_unit_zero (by funext a; fin_cases a <;> rfl)]
  pointwise [k0_pay253]
  simp [topTo, bottom]

theorem start_sum (h : Fin 2) (d : Fin 144) (col : Fin 1024) (S W : ℕ → EReal) :
    View.canon (Val := Elt Ideal) (s := S2x144x1024) (e := .f32) [⟨Rect.unit (s := S2x144x1024) ![0, 0, 0] S2x144x1024.size (by decide), (k0_pay254 : FVec Ideal S2x144x1024 .f32)⟩] (ix3 h d col)
      = sumTo S W 0 := by
  rw [View.canon_unit_zero (by funext a; fin_cases a <;> rfl)]
  pointwise [k0_pay254]
  simp [sumTo, Ideal.ofBits, Ideal.ieee]

end Cert.KernelIdeal.Value
-- ==== Proof.CaseA.lean ====
module

public import proofs.«01_k».proof.Proof.Scores
public import proofs.«01_k».proof.Proof.Gen.KernelIdeal.Frame

@[expose] public section

set_option maxRecDepth 16384

noncomputable section

/-! The first query block: only its own keys. -/

namespace Cert.KernelIdeal.Value

open Cert.KernelIdeal Cert.KernelIdeal.Gen Idealize.ShloMosaic Idealize.ShloMosaic.TcCoe Idealize.SL.Sem
open Finset (range)

/-- What the loops leave. -/
theorem loops_A (c : Dev nD) (i : grid0.Coords) (arg3 : Memref sig .tc .smem S8 .f32) (harg3 : arg3.IsWhole) (arg4 : Memref sig .tc .vmem S1x512x256 .f32) (harg4 : arg4.IsWhole) (arg5 : Memref sig .tc .vmem S1x4096x256 .bf16) (harg5 : arg5.IsWhole) (arg6 : Memref sig .tc .vmem S1x2x144x4096 .bf16) (harg6 : arg6.IsWhole) (arg7 : Memref sig .tc .vmem S2x2x512x512 .f32) (harg7 : arg7.IsWhole) (arg8 : Memref sig .tc .vmem S4x64 .f32) (harg8 : arg8.IsWhole) (arg9 : Memref sig .tc .vmem S1x128 .f32) (harg9 : arg9.IsWhole) (arg10 : Memref sig .tc .vmem S1x512x256 .bf16) (harg10 : arg10.IsWhole) (arg11 : Memref sig .tc .vmem S2x128x1024 .bf16) (harg11 : arg11.IsWhole) (arg12 : Memref sig .tc .vmem S2x1x1024 .f32) (harg12 : arg12.IsWhole) (arg13 : Memref sig .tc .vmem S2x144x1024 .f32) (harg13 : arg13.IsWhole)

    (x0 : Vec Ideal S8 .f32) (x1 : Vec Ideal S1x512x256 .f32) (x2 : Vec Ideal S1x4096x256 .bf16) (x3 : Vec Ideal S1x2x144x4096 .bf16) (x4 : Vec Ideal S2x2x512x512 .f32)
    (f : Fin 2 → ℝ) (hf0 : kernelRun0_A.sl.r_3 c i arg3 harg3 x0 = (f 0 : EReal)) (hf1 : kernelRun0_A.sl.r_4 c i arg3 harg3 x0 = (f 1 : EReal))
    (hq : (i 2).val = 0) :
    (∀ h col, View.canon (Val := Elt Ideal) (List.tail (kernelRun0_A.sl.HS1_1_1 c i arg3 harg3 arg4 harg4 arg5 harg5 arg6 harg6 arg7 harg7 arg8 harg8 arg9 harg9 arg10 harg10 arg11 harg11 arg12 harg12 arg13 harg13 x0 x1 x2 x3 x4)) (ix3 h 0 col) = topTo ((keyScore x2 (View.canon (Val := Elt Ideal) (kernelRun0_A.sl.HS0_2 c arg4 harg4 x1 : List (View.Piece (Elt Ideal) S2x128x1024 .bf16))) x4 (i 2).val f) h col) 0)
    ∧ (∀ h d col, View.canon (Val := Elt Ideal) (List.tail (kernelRun0_A.sl.HS2_1_1 c i arg3 harg3 arg4 harg4 arg5 harg5 arg6 harg6 arg7 harg7 arg8 harg8 arg9 harg9 arg10 harg10 arg11 harg11 arg12 harg12 arg13 harg13 x0 x1 x2 x3 x4)) (ix3 h d col) = sumTo ((keyScore x2 (View.canon (Val := Elt Ideal) (kernelRun0_A.sl.HS0_2 c arg4 harg4 x1 : List (View.Piece (Elt Ideal) S2x128x1024 .bf16))) x4 (i 2).val f) h col) ((keyValue x3) h d) 0) := by
  have hi : (i 2).val < 8 := (i 2).isLt
  have ht := trips_pairs i
  have ha : 1024 * (k0_t1_loop i).trips = 0 := by omega
  have h2 : Scf.trips (k0_t2_loop i).lb (k0_t2_loop i).ub (k0_t2_loop i).st = 0 := trips_rest i
  have hS : ∀ (h : Fin 2) (k : Fin 4096) (col : Fin 1024) (ks : Fin 128 → EReal), k.val < 1024 * (k0_t1_loop i).trips →
      (∀ (d : Fin 128) (e : Fin 256), e.val = 128 * h.val + d.val → ks d = x2 (ix3 0 k e)) →
      (∑ d : Fin 128, ks d * arg11.view.read (Elt Ideal) (arg11.view.writes (Elt Ideal) arg11.view.junk (kernelRun0_A.sl.HS0_2 c arg4 harg4 x1 : List (View.Piece (Elt Ideal) S2x128x1024 .bf16))) (ix3 h d col)) + (f h : EReal) = (keyScore x2 (View.canon (Val := Elt Ideal) (kernelRun0_A.sl.HS0_2 c arg4 harg4 x1 : List (View.Piece (Elt Ideal) S2x128x1024 .bf16))) x4 (i 2).val f) h col k := fun h k col ks hk hks =>
    score_of x2 (View.canon (Val := Elt Ideal) (kernelRun0_A.sl.HS0_2 c arg4 harg4 x1 : List (View.Piece (Elt Ideal) S2x128x1024 .bf16))) x4 (i 2).val f h col k k.isLt ks _ _ hks (fun d => View.read_writes_junk_apply_eq_canon _ _ _) (keyBias_far x4 (i 2).val f h col k (by omega)).symm
  have base := loop_leaves Variants.none c none i arg3 harg3 arg4 harg4 arg5 harg5 arg6 harg6 arg7 harg7 arg8 harg8 arg9 harg9 arg10 harg10 arg11 harg11 arg12 harg12 arg13 harg13 (BitVec.ofNat 32 (i 2).val)
    (kernelRun0_A.sl.r_3 c i arg3 harg3 x0) (kernelRun0_A.sl.r_4 c i arg3 harg3 x0) (kernelRun0_A.sl.v56 i) (kernelRun0_A.sl.v57 i) (kernelRun0_A.sl.v68 i) (kernelRun0_A.sl.v69 i) (0#32) (f 0) (f 1) hf0 hf1
    (harg5.unread x2) (harg6.unread x3) (arg11.view.writes (Elt Ideal) arg11.view.junk (kernelRun0_A.sl.HS0_2 c arg4 harg4 x1 : List (View.Piece (Elt Ideal) S2x128x1024 .bf16))) kernelRun0_A.sl.HS1_1 kernelRun0_A.sl.HS2_1 (keyScore x2 (View.canon (Val := Elt Ideal) (kernelRun0_A.sl.HS0_2 c arg4 harg4 x1 : List (View.Piece (Elt Ideal) S2x128x1024 .bf16))) x4 (i 2).val f) (keyValue x3)
    (fun k col hk => hS 0 k col _ hk (fun d e he => by
      rw [harg5.read_unread]; congr 2; exact Fin.ext (by rw [he]; show 0 + d.val = 128 * 0 + d.val; omega)))
    (fun k col hk => hS 1 k col _ hk (fun d e he => by
      rw [harg5.read_unread]; congr 2; exact Fin.ext (by rw [he]; show 128 + d.val = 128 * 1 + d.val; omega)))
    (fun h d k => by rw [harg6.read_unread]; exact value_of x3 h d k)
    (fun h col => start_max h col _) (fun h d col => start_sum h d col _ _) _ le_rfl
  rw [ha] at base
  constructor
  · intro h col
    refine Eq.trans ?_ (base.1 h col)
    unfold kernelRun0_A.sl.HS1_1_1
    rw [List.tail_cons, h2]
    rfl
  · intro h d col
    refine Eq.trans ?_ (base.2 h d col)
    unfold kernelRun0_A.sl.HS2_1_1
    rw [List.tail_cons, h2]
    rfl

/-- All keys taken in. -/
theorem sums_A (c : Dev nD) (i : grid0.Coords) (arg3 : Memref sig .tc .smem S8 .f32) (harg3 : arg3.IsWhole) (arg4 : Memref sig .tc .vmem S1x512x256 .f32) (harg4 : arg4.IsWhole) (arg5 : Memref sig .tc .vmem S1x4096x256 .bf16) (harg5 : arg5.IsWhole) (arg6 : Memref sig .tc .vmem S1x2x144x4096 .bf16) (harg6 : arg6.IsWhole) (arg7 : Memref sig .tc .vmem S2x2x512x512 .f32) (harg7 : arg7.IsWhole) (arg8 : Memref sig .tc .vmem S4x64 .f32) (harg8 : arg8.IsWhole) (arg9 : Memref sig .tc .vmem S1x128 .f32) (harg9 : arg9.IsWhole) (arg10 : Memref sig .tc .vmem S1x512x256 .bf16) (harg10 : arg10.IsWhole) (arg11 : Memref sig .tc .vmem S2x128x1024 .bf16) (harg11 : arg11.IsWhole) (arg12 : Memref sig .tc .vmem S2x1x1024 .f32) (harg12 : arg12.IsWhole) (arg13 : Memref sig .tc .vmem S2x144x1024 .f32) (harg13 : arg13.IsWhole)

    (x0 : Vec Ideal S8 .f32) (x1 : Vec Ideal S1x512x256 .f32) (x2 : Vec Ideal S1x4096x256 .bf16) (x3 : Vec Ideal S1x2x144x4096 .bf16) (x4 : Vec Ideal S2x2x512x512 .f32)
    (f : Fin 2 → ℝ) (hf0 : kernelRun0_A.sl.r_3 c i arg3 harg3 x0 = (f 0 : EReal)) (hf1 : kernelRun0_A.sl.r_4 c i arg3 harg3 x0 = (f 1 : EReal))
    (hq : (i 2).val = 0) (h : Fin 2) (d : Fin 144) (col : Fin 1024) :
    View.canon (Val := Elt Ideal) (kernelRun0_A.sl.HS2_8 c i arg3 harg3 arg4 harg4 arg5 harg5 arg6 harg6 arg7 harg7 arg8 harg8 arg9 harg9 arg10 harg10 arg11 harg11 arg12 harg12 arg13 harg13 x0 x1 x2 x3 x4) (ix3 h d col) = sumTo ((keyScore x2 (View.canon (Val := Elt Ideal) (kernelRun0_A.sl.HS0_2 c arg4 harg4 x1 : List (View.Piece (Elt Ideal) S2x128x1024 .bf16))) x4 (i 2).val f) h col) ((keyValue x3) h d) (512 * ((i 2).val + 1)) := by
  have hi : (i 2).val < 8 := (i 2).isLt
  obtain ⟨lm, la⟩ := loops_A c i arg3 harg3 arg4 harg4 arg5 harg5 arg6 harg6 arg7 harg7 arg8 harg8 arg9 harg9 arg10 harg10 arg11 harg11 arg12 harg12 arg13 harg13  x0 x1 x2 x3 x4 f hf0 hf1 hq
  have m0 : ∀ (h : Fin 2) (col : Fin 1024), 0 ≤ 4 * h.val + col.val / 256 → View.canon (Val := Elt Ideal) (List.tail (kernelRun0_A.sl.HS1_1_1 c i arg3 harg3 arg4 harg4 arg5 harg5 arg6 harg6 arg7 harg7 arg8 harg8 arg9 harg9 arg10 harg10 arg11 harg11 arg12 harg12 arg13 harg13 x0 x1 x2 x3 x4)) (ix3 h 0 col) = topTo ((keyScore x2 (View.canon (Val := Elt Ideal) (kernelRun0_A.sl.HS0_2 c arg4 harg4 x1 : List (View.Piece (Elt Ideal) S2x128x1024 .bf16))) x4 (i 2).val f) h col) 0 := fun h col _ => lm h col
  have s0 : ∀ (h : Fin 2) (d : Fin 144) (col : Fin 1024), 0 ≤ 4 * h.val + col.val / 256 → View.canon (Val := Elt Ideal) (List.tail (kernelRun0_A.sl.HS2_1_1 c i arg3 harg3 arg4 harg4 arg5 harg5 arg6 harg6 arg7 harg7 arg8 harg8 arg9 harg9 arg10 harg10 arg11 harg11 arg12 harg12 arg13 harg13 x0 x1 x2 x3 x4)) (ix3 h d col) = sumTo ((keyScore x2 (View.canon (Val := Elt Ideal) (kernelRun0_A.sl.HS0_2 c arg4 harg4 x1 : List (View.Piece (Elt Ideal) S2x128x1024 .bf16))) x4 (i 2).val f) h col) ((keyValue x3) h d) 0 := fun h d col _ => la h d col
  have m1 : ∀ (h : Fin 2) (col : Fin 1024), 1 ≤ 4 * h.val + col.val / 256 → View.canon (Val := Elt Ideal) (kernelRun0_A.sl.HS1_1_1 c i arg3 harg3 arg4 harg4 arg5 harg5 arg6 harg6 arg7 harg7 arg8 harg8 arg9 harg9 arg10 harg10 arg11 harg11 arg12 harg12 arg13 harg13 x0 x1 x2 x3 x4) (ix3 h 0 col) = topTo ((keyScore x2 (View.canon (Val := Elt Ideal) (kernelRun0_A.sl.HS0_2 c arg4 harg4 x1 : List (View.Piece (Elt Ideal) S2x128x1024 .bf16))) x4 (i 2).val f) h col) 0 := fun h col hc =>
    (skipM 0 0 (by decide) _ (List.tail (kernelRun0_A.sl.HS1_1_1 c i arg3 harg3 arg4 harg4 arg5 harg5 arg6 harg6 arg7 harg7 arg8 harg8 arg9 harg9 arg10 harg10 arg11 harg11 arg12 harg12 arg13 harg13 x0 x1 x2 x3 x4)) h col (by omega)).trans (m0 h col (by omega))
  have s1 : ∀ (h : Fin 2) (d : Fin 144) (col : Fin 1024), 1 ≤ 4 * h.val + col.val / 256 → View.canon (Val := Elt Ideal) (kernelRun0_A.sl.HS2_1_1 c i arg3 harg3 arg4 harg4 arg5 harg5 arg6 harg6 arg7 harg7 arg8 harg8 arg9 harg9 arg10 harg10 arg11 harg11 arg12 harg12 arg13 harg13 x0 x1 x2 x3 x4) (ix3 h d col) = sumTo ((keyScore x2 (View.canon (Val := Elt Ideal) (kernelRun0_A.sl.HS0_2 c arg4 harg4 x1 : List (View.Piece (Elt Ideal) S2x128x1024 .bf16))) x4 (i 2).val f) h col) ((keyValue x3) h d) 0 := fun h d col hc =>
    (skipA 0 0 (by decide) _ (List.tail (kernelRun0_A.sl.HS2_1_1 c i arg3 harg3 arg4 harg4 arg5 harg5 arg6 harg6 arg7 harg7 arg8 harg8 arg9 harg9 arg10 harg10 arg11 harg11 arg12 harg12 arg13 harg13 x0 x1 x2 x3 x4)) h d col (by omega)).trans (s0 h d col (by omega))
  have m2 : ∀ (h : Fin 2) (col : Fin 1024), 2 ≤ 4 * h.val + col.val / 256 → View.canon (Val := Elt Ideal) (kernelRun0_A.sl.HS1_2 c i arg3 harg3 arg4 harg4 arg5 harg5 arg6 harg6 arg7 harg7 arg8 harg8 arg9 harg9 arg10 harg10 arg11 harg11 arg12 harg12 arg13 harg13 x0 x1 x2 x3 x4) (ix3 h 0 col) = topTo ((keyScore x2 (View.canon (Val := Elt Ideal) (kernelRun0_A.sl.HS0_2 c arg4 harg4 x1 : List (View.Piece (Elt Ideal) S2x128x1024 .bf16))) x4 (i 2).val f) h col) 0 := fun h col hc =>
    (skipM 0 256 (by decide) _ (kernelRun0_A.sl.HS1_1_1 c i arg3 harg3 arg4 harg4 arg5 harg5 arg6 harg6 arg7 harg7 arg8 harg8 arg9 harg9 arg10 harg10 arg11 harg11 arg12 harg12 arg13 harg13 x0 x1 x2 x3 x4) h col (by omega)).trans (m1 h col (by omega))
  have s2 : ∀ (h : Fin 2) (d : Fin 144) (col : Fin 1024), 2 ≤ 4 * h.val + col.val / 256 → View.canon (Val := Elt Ideal) (kernelRun0_A.sl.HS2_2 c i arg3 harg3 arg4 harg4 arg5 harg5 arg6 harg6 arg7 harg7 arg8 harg8 arg9 harg9 arg10 harg10 arg11 harg11 arg12 harg12 arg13 harg13 x0 x1 x2 x3 x4) (ix3 h d col) = sumTo ((keyScore x2 (View.canon (Val := Elt Ideal) (kernelRun0_A.sl.HS0_2 c arg4 harg4 x1 : List (View.Piece (Elt Ideal) S2x128x1024 .bf16))) x4 (i 2).val f) h col) ((keyValue x3) h d) 0 := fun h d col hc =>
    (skipA 0 256 (by decide) _ (kernelRun0_A.sl.HS2_1_1 c i arg3 harg3 arg4 harg4 arg5 harg5 arg6 harg6 arg7 harg7 arg8 harg8 arg9 harg9 arg10 harg10 arg11 harg11 arg12 harg12 arg13 harg13 x0 x1 x2 x3 x4) h d col (by omega)).trans (s1 h d col (by omega))
  have m3 : ∀ (h : Fin 2) (col : Fin 1024), 3 ≤ 4 * h.val + col.val / 256 → View.canon (Val := Elt Ideal) (kernelRun0_A.sl.HS1_3 c i arg3 harg3 arg4 harg4 arg5 harg5 arg6 harg6 arg7 harg7 arg8 harg8 arg9 harg9 arg10 harg10 arg11 harg11 arg12 harg12 arg13 harg13 x0 x1 x2 x3 x4) (ix3 h 0 col) = topTo ((keyScore x2 (View.canon (Val := Elt Ideal) (kernelRun0_A.sl.HS0_2 c arg4 harg4 x1 : List (View.Piece (Elt Ideal) S2x128x1024 .bf16))) x4 (i 2).val f) h col) 0 := fun h col hc =>
    (skipM 0 512 (by decide) _ (kernelRun0_A.sl.HS1_2 c i arg3 harg3 arg4 harg4 arg5 harg5 arg6 harg6 arg7 harg7 arg8 harg8 arg9 harg9 arg10 harg10 arg11 harg11 arg12 harg12 arg13 harg13 x0 x1 x2 x3 x4) h col (by omega)).trans (m2 h col (by omega))
  have s3 : ∀ (h : Fin 2) (d : Fin 144) (col : Fin 1024), 3 ≤ 4 * h.val + col.val / 256 → View.canon (Val := Elt Ideal) (kernelRun0_A.sl.HS2_3 c i arg3 harg3 arg4 harg4 arg5 harg5 arg6 harg6 arg7 harg7 arg8 harg8 arg9 harg9 arg10 harg10 arg11 harg11 arg12 harg12 arg13 harg13 x0 x1 x2 x3 x4) (ix3 h d col) = sumTo ((keyScore x2 (View.canon (Val := Elt Ideal) (kernelRun0_A.sl.HS0_2 c arg4 harg4 x1 : List (View.Piece (Elt Ideal) S2x128x1024 .bf16))) x4 (i 2).val f) h col) ((keyValue x3) h d) 0 := fun h d col hc =>
    (skipA 0 512 (by decide) _ (kernelRun0_A.sl.HS2_2 c i arg3 harg3 arg4 harg4 arg5 harg5 arg6 harg6 arg7 harg7 arg8 harg8 arg9 harg9 arg10 harg10 arg11 harg11 arg12 harg12 arg13 harg13 x0 x1 x2 x3 x4) h d col (by omega)).trans (s2 h d col (by omega))
  have m4 : ∀ (h : Fin 2) (col : Fin 1024), 4 ≤ 4 * h.val + col.val / 256 → View.canon (Val := Elt Ideal) (kernelRun0_A.sl.HS1_4 c i arg3 harg3 arg4 harg4 arg5 harg5 arg6 harg6 arg7 harg7 arg8 harg8 arg9 harg9 arg10 harg10 arg11 harg11 arg12 harg12 arg13 harg13 x0 x1 x2 x3 x4) (ix3 h 0 col) = topTo ((keyScore x2 (View.canon (Val := Elt Ideal) (kernelRun0_A.sl.HS0_2 c arg4 harg4 x1 : List (View.Piece (Elt Ideal) S2x128x1024 .bf16))) x4 (i 2).val f) h col) 0 := fun h col hc =>
    (skipM 0 768 (by decide) _ (kernelRun0_A.sl.HS1_3 c i arg3 harg3 arg4 harg4 arg5 harg5 arg6 harg6 arg7 harg7 arg8 harg8 arg9 harg9 arg10 harg10 arg11 harg11 arg12 harg12 arg13 harg13 x0 x1 x2 x3 x4) h col (by omega)).trans (m3 h col (by omega))
  have s4 : ∀ (h : Fin 2) (d : Fin 144) (col : Fin 1024), 4 ≤ 4 * h.val + col.val / 256 → View.canon (Val := Elt Ideal) (kernelRun0_A.sl.HS2_4 c i arg3 harg3 arg4 harg4 arg5 harg5 arg6 harg6 arg7 harg7 arg8 harg8 arg9 harg9 arg10 harg10 arg11 harg11 arg12 harg12 arg13 harg13 x0 x1 x2 x3 x4) (ix3 h d col) = sumTo ((keyScore x2 (View.canon (Val := Elt Ideal) (kernelRun0_A.sl.HS0_2 c arg4 harg4 x1 : List (View.Piece (Elt Ideal) S2x128x1024 .bf16))) x4 (i 2).val f) h col) ((keyValue x3) h d) 0 := fun h d col hc =>
    (skipA 0 768 (by decide) _ (kernelRun0_A.sl.HS2_3 c i arg3 harg3 arg4 harg4 arg5 harg5 arg6 harg6 arg7 harg7 arg8 harg8 arg9 harg9 arg10 harg10 arg11 harg11 arg12 harg12 arg13 harg13 x0 x1 x2 x3 x4) h d col (by omega)).trans (s3 h d col (by omega))
  have m5 : ∀ (h : Fin 2) (col : Fin 1024), 5 ≤ 4 * h.val + col.val / 256 → View.canon (Val := Elt Ideal) (kernelRun0_A.sl.HS1_5 c i arg3 harg3 arg4 harg4 arg5 harg5 arg6 harg6 arg7 harg7 arg8 harg8 arg9 harg9 arg10 harg10 arg11 harg11 arg12 harg12 arg13 harg13 x0 x1 x2 x3 x4) (ix3 h 0 col) = topTo ((keyScore x2 (View.canon (Val := Elt Ideal) (kernelRun0_A.sl.HS0_2 c arg4 harg4 x1 : List (View.Piece (Elt Ideal) S2x128x1024 .bf16))) x4 (i 2).val f) h col) 0 := fun h col hc =>
    (skipM 1 0 (by decide) _ (kernelRun0_A.sl.HS1_4 c i arg3 harg3 arg4 harg4 arg5 harg5 arg6 harg6 arg7 harg7 arg8 harg8 arg9 harg9 arg10 harg10 arg11 harg11 arg12 harg12 arg13 harg13 x0 x1 x2 x3 x4) h col (by omega)).trans (m4 h col (by omega))
  have s5 : ∀ (h : Fin 2) (d : Fin 144) (col : Fin 1024), 5 ≤ 4 * h.val + col.val / 256 → View.canon (Val := Elt Ideal) (kernelRun0_A.sl.HS2_5 c i arg3 harg3 arg4 harg4 arg5 harg5 arg6 harg6 arg7 harg7 arg8 harg8 arg9 harg9 arg10 harg10 arg11 harg11 arg12 harg12 arg13 harg13 x0 x1 x2 x3 x4) (ix3 h d col) = sumTo ((keyScore x2 (View.canon (Val := Elt Ideal) (kernelRun0_A.sl.HS0_2 c arg4 harg4 x1 : List (View.Piece (Elt Ideal) S2x128x1024 .bf16))) x4 (i 2).val f) h col) ((keyValue x3) h d) 0 := fun h d col hc =>
    (skipA 1 0 (by decide) _ (kernelRun0_A.sl.HS2_4 c i arg3 harg3 arg4 harg4 arg5 harg5 arg6 harg6 arg7 harg7 arg8 harg8 arg9 harg9 arg10 harg10 arg11 harg11 arg12 harg12 arg13 harg13 x0 x1 x2 x3 x4) h d col (by omega)).trans (s4 h d col (by omega))
  have m6 : ∀ (h : Fin 2) (col : Fin 1024), 6 ≤ 4 * h.val + col.val / 256 → View.canon (Val := Elt Ideal) (kernelRun0_A.sl.HS1_6 c i arg3 harg3 arg4 harg4 arg5 harg5 arg6 harg6 arg7 harg7 arg8 harg8 arg9 harg9 arg10 harg10 arg11 harg11 arg12 harg12 arg13 harg13 x0 x1 x2 x3 x4) (ix3 h 0 col) = topTo ((keyScore x2 (View.canon (Val := Elt Ideal) (kernelRun0_A.sl.HS0_2 c arg4 harg4 x1 : List (View.Piece (Elt Ideal) S2x128x1024 .bf16))) x4 (i 2).val f) h col) 0 := fun h col hc =>
    (skipM 1 256 (by decide) _ (kernelRun0_A.sl.HS1_5 c i arg3 harg3 arg4 harg4 arg5 harg5 arg6 harg6 arg7 harg7 arg8 harg8 arg9 harg9 arg10 harg10 arg11 harg11 arg12 harg12 arg13 harg13 x0 x1 x2 x3 x4) h col (by omega)).trans (m5 h col (by omega))
  have s6 : ∀ (h : Fin 2) (d : Fin 144) (col : Fin 1024), 6 ≤ 4 * h.val + col.val / 256 → View.canon (Val := Elt Ideal) (kernelRun0_A.sl.HS2_6 c i arg3 harg3 arg4 harg4 arg5 harg5 arg6 harg6 arg7 harg7 arg8 harg8 arg9 harg9 arg10 harg10 arg11 harg11 arg12 harg12 arg13 harg13 x0 x1 x2 x3 x4) (ix3 h d col) = sumTo ((keyScore x2 (View.canon (Val := Elt Ideal) (kernelRun0_A.sl.HS0_2 c arg4 harg4 x1 : List (View.Piece (Elt Ideal) S2x128x1024 .bf16))) x4 (i 2).val f) h col) ((keyValue x3) h d) 0 := fun h d col hc =>
    (skipA 1 256 (by decide) _ (kernelRun0_A.sl.HS2_5 c i arg3 harg3 arg4 harg4 arg5 harg5 arg6 harg6 arg7 harg7 arg8 harg8 arg9 harg9 arg10 harg10 arg11 harg11 arg12 harg12 arg13 harg13 x0 x1 x2 x3 x4) h d col (by omega)).trans (s5 h d col (by omega))
  have m7 : ∀ (h : Fin 2) (col : Fin 1024), 7 ≤ 4 * h.val + col.val / 256 → View.canon (Val := Elt Ideal) (kernelRun0_A.sl.HS1_7 c i arg3 harg3 arg4 harg4 arg5 harg5 arg6 harg6 arg7 harg7 arg8 harg8 arg9 harg9 arg10 harg10 arg11 harg11 arg12 harg12 arg13 harg13 x0 x1 x2 x3 x4) (ix3 h 0 col) = topTo ((keyScore x2 (View.canon (Val := Elt Ideal) (kernelRun0_A.sl.HS0_2 c arg4 harg4 x1 : List (View.Piece (Elt Ideal) S2x128x1024 .bf16))) x4 (i 2).val f) h col) 0 := fun h col hc =>
    (skipM 1 512 (by decide) _ (kernelRun0_A.sl.HS1_6 c i arg3 harg3 arg4 harg4 arg5 harg5 arg6 harg6 arg7 harg7 arg8 harg8 arg9 harg9 arg10 harg10 arg11 harg11 arg12 harg12 arg13 harg13 x0 x1 x2 x3 x4) h col (by omega)).trans (m6 h col (by omega))
  have s7 : ∀ (h : Fin 2) (d : Fin 144) (col : Fin 1024), 7 ≤ 4 * h.val + col.val / 256 → View.canon (Val := Elt Ideal) (kernelRun0_A.sl.HS2_7 c i arg3 harg3 arg4 harg4 arg5 harg5 arg6 harg6 arg7 harg7 arg8 harg8 arg9 harg9 arg10 harg10 arg11 harg11 arg12 harg12 arg13 harg13 x0 x1 x2 x3 x4) (ix3 h d col) = sumTo ((keyScore x2 (View.canon (Val := Elt Ideal) (kernelRun0_A.sl.HS0_2 c arg4 harg4 x1 : List (View.Piece (Elt Ideal) S2x128x1024 .bf16))) x4 (i 2).val f) h col) ((keyValue x3) h d) 0 := fun h d col hc =>
    (skipA 1 512 (by decide) _ (kernelRun0_A.sl.HS2_6 c i arg3 harg3 arg4 harg4 arg5 harg5 arg6 harg6 arg7 harg7 arg8 harg8 arg9 harg9 arg10 harg10 arg11 harg11 arg12 harg12 arg13 harg13 x0 x1 x2 x3 x4) h d col (by omega)).trans (s6 h d col (by omega))
  have c0 : ∀ (k : Fin 512) (col : Fin 1024), (∑ d : Fin 128, ldK5 arg5.view (harg5.unread x2) ![0, 0, 0] (by decide) (ix3 0 k d) * arg11.view.read (Elt Ideal) (arg11.view.writes (Elt Ideal) arg11.view.junk (kernelRun0_A.sl.HS0_2 c arg4 harg4 x1 : List (View.Piece (Elt Ideal) S2x128x1024 .bf16))) (ix3 0 d col)) + arg7.view.read (Elt Ideal) (harg7.unread x4) (ix4 0 1 k ⟨col.val % 512, by omega⟩) = (keyScore x2 (View.canon (Val := Elt Ideal) (kernelRun0_A.sl.HS0_2 c arg4 harg4 x1 : List (View.Piece (Elt Ideal) S2x128x1024 .bf16))) x4 (i 2).val f) 0 col (0 + k.val) := fun k col =>
    score_of x2 (View.canon (Val := Elt Ideal) (kernelRun0_A.sl.HS0_2 c arg4 harg4 x1 : List (View.Piece (Elt Ideal) S2x128x1024 .bf16))) x4 (i 2).val f 0 col (0 + k.val) (by omega) _ _ _
      (fun d e he => (ldK5_at arg5.view (harg5.unread x2) ![0, 0, 0] (by decide) k d ⟨0 + k.val, by omega⟩ e rfl (by show 0 + k.val = 0 + k.val; rfl) (by show 0 + d.val = e.val; rw [he]; rfl)).trans (by rw [harg5.read_unread]))
      (fun d => View.read_writes_junk_apply_eq_canon _ _ _) (by rw [harg7.read_unread]; exact (keyBias_same x4 (i 2).val f 0 col (0 + k.val) (by omega) k (by omega)).symm)
  have v0 : ∀ (d : Fin 144) (k : Fin 512), ldV5 arg6.view (harg6.unread x3) ![0, 0, 0, 0] (by decide) (ix4 0 0 d k) = (keyValue x3) 0 d (0 + k.val) := fun d k =>
    (ldV5_at arg6.view (harg6.unread x3) ![0, 0, 0, 0] (by decide) d k 0 ⟨0 + k.val, by omega⟩ rfl rfl rfl rfl).trans (by
      rw [harg6.read_unread]; exact value_of x3 0 d ⟨0 + k.val, by omega⟩)
  have c1 : ∀ (k : Fin 512) (col : Fin 1024), (∑ d : Fin 128, ldK5 arg5.view (harg5.unread x2) ![0, 0, 128] (by decide) (ix3 0 k d) * arg11.view.read (Elt Ideal) (arg11.view.writes (Elt Ideal) arg11.view.junk (kernelRun0_A.sl.HS0_2 c arg4 harg4 x1 : List (View.Piece (Elt Ideal) S2x128x1024 .bf16))) (ix3 1 d col)) + arg7.view.read (Elt Ideal) (harg7.unread x4) (ix4 1 1 k ⟨col.val % 512, by omega⟩) = (keyScore x2 (View.canon (Val := Elt Ideal) (kernelRun0_A.sl.HS0_2 c arg4 harg4 x1 : List (View.Piece (Elt Ideal) S2x128x1024 .bf16))) x4 (i 2).val f) 1 col (0 + k.val) := fun k col =>
    score_of x2 (View.canon (Val := Elt Ideal) (kernelRun0_A.sl.HS0_2 c arg4 harg4 x1 : List (View.Piece (Elt Ideal) S2x128x1024 .bf16))) x4 (i 2).val f 1 col (0 + k.val) (by omega) _ _ _
      (fun d e he => (ldK5_at arg5.view (harg5.unread x2) ![0, 0, 128] (by decide) k d ⟨0 + k.val, by omega⟩ e rfl (by show 0 + k.val = 0 + k.val; rfl) (by show 128 + d.val = e.val; rw [he]; rfl)).trans (by rw [harg5.read_unread]))
      (fun d => View.read_writes_junk_apply_eq_canon _ _ _) (by rw [harg7.read_unread]; exact (keyBias_same x4 (i 2).val f 1 col (0 + k.val) (by omega) k (by omega)).symm)
  have v1 : ∀ (d : Fin 144) (k : Fin 512), ldV5 arg6.view (harg6.unread x3) ![0, 1, 0, 0] (by decide) (ix4 0 0 d k) = (keyValue x3) 1 d (0 + k.val) := fun d k =>
    (ldV5_at arg6.view (harg6.unread x3) ![0, 1, 0, 0] (by decide) d k 1 ⟨0 + k.val, by omega⟩ rfl rfl rfl rfl).trans (by
      rw [harg6.read_unread]; exact value_of x3 1 d ⟨0 + k.val, by omega⟩)
  have hn : (512 * ((i 2).val + 1)) = 0 + 512 := by omega
  rw [hn]
  exact near5_sums arg11.view (arg11.view.writes (Elt Ideal) arg11.view.junk (kernelRun0_A.sl.HS0_2 c arg4 harg4 x1 : List (View.Piece (Elt Ideal) S2x128x1024 .bf16))) arg12.view (arg12.view.writes (Elt Ideal) arg12.view.junk (List.tail (kernelRun0_A.sl.HS1_1_1 c i arg3 harg3 arg4 harg4 arg5 harg5 arg6 harg6 arg7 harg7 arg8 harg8 arg9 harg9 arg10 harg10 arg11 harg11 arg12 harg12 arg13 harg13 x0 x1 x2 x3 x4))) (arg12.view.writes (Elt Ideal) arg12.view.junk (kernelRun0_A.sl.HS1_1_1 c i arg3 harg3 arg4 harg4 arg5 harg5 arg6 harg6 arg7 harg7 arg8 harg8 arg9 harg9 arg10 harg10 arg11 harg11 arg12 harg12 arg13 harg13 x0 x1 x2 x3 x4)) (arg12.view.writes (Elt Ideal) arg12.view.junk (kernelRun0_A.sl.HS1_2 c i arg3 harg3 arg4 harg4 arg5 harg5 arg6 harg6 arg7 harg7 arg8 harg8 arg9 harg9 arg10 harg10 arg11 harg11 arg12 harg12 arg13 harg13 x0 x1 x2 x3 x4)) (arg12.view.writes (Elt Ideal) arg12.view.junk (kernelRun0_A.sl.HS1_3 c i arg3 harg3 arg4 harg4 arg5 harg5 arg6 harg6 arg7 harg7 arg8 harg8 arg9 harg9 arg10 harg10 arg11 harg11 arg12 harg12 arg13 harg13 x0 x1 x2 x3 x4)) (arg12.view.writes (Elt Ideal) arg12.view.junk (kernelRun0_A.sl.HS1_4 c i arg3 harg3 arg4 harg4 arg5 harg5 arg6 harg6 arg7 harg7 arg8 harg8 arg9 harg9 arg10 harg10 arg11 harg11 arg12 harg12 arg13 harg13 x0 x1 x2 x3 x4)) (arg12.view.writes (Elt Ideal) arg12.view.junk (kernelRun0_A.sl.HS1_5 c i arg3 harg3 arg4 harg4 arg5 harg5 arg6 harg6 arg7 harg7 arg8 harg8 arg9 harg9 arg10 harg10 arg11 harg11 arg12 harg12 arg13 harg13 x0 x1 x2 x3 x4)) (arg12.view.writes (Elt Ideal) arg12.view.junk (kernelRun0_A.sl.HS1_6 c i arg3 harg3 arg4 harg4 arg5 harg5 arg6 harg6 arg7 harg7 arg8 harg8 arg9 harg9 arg10 harg10 arg11 harg11 arg12 harg12 arg13 harg13 x0 x1 x2 x3 x4)) (arg12.view.writes (Elt Ideal) arg12.view.junk (kernelRun0_A.sl.HS1_7 c i arg3 harg3 arg4 harg4 arg5 harg5 arg6 harg6 arg7 harg7 arg8 harg8 arg9 harg9 arg10 harg10 arg11 harg11 arg12 harg12 arg13 harg13 x0 x1 x2 x3 x4)) (ldK5 arg5.view (harg5.unread x2) ![0, 0, 0] (by decide)) (ldK5 arg5.view (harg5.unread x2) ![0, 0, 128] (by decide)) arg7.view (harg7.unread x4) 0 (keyScore x2 (View.canon (Val := Elt Ideal) (kernelRun0_A.sl.HS0_2 c arg4 harg4 x1 : List (View.Piece (Elt Ideal) S2x128x1024 .bf16))) x4 (i 2).val f) c0 c1
      (fun col h1 h2 => (View.read_writes_junk_apply_eq_canon _ _ _).trans (m0 0 col (by show 0 ≤ 4 * 0 + col.val / 256; omega))) (fun col h1 h2 => (View.read_writes_junk_apply_eq_canon _ _ _).trans (m1 0 col (by show 1 ≤ 4 * 0 + col.val / 256; omega))) (fun col h1 h2 => (View.read_writes_junk_apply_eq_canon _ _ _).trans (m2 0 col (by show 2 ≤ 4 * 0 + col.val / 256; omega))) (fun col h1 h2 => (View.read_writes_junk_apply_eq_canon _ _ _).trans (m3 0 col (by show 3 ≤ 4 * 0 + col.val / 256; omega))) (fun col h1 h2 => (View.read_writes_junk_apply_eq_canon _ _ _).trans (m4 1 col (by show 4 ≤ 4 * 1 + col.val / 256; omega))) (fun col h1 h2 => (View.read_writes_junk_apply_eq_canon _ _ _).trans (m5 1 col (by show 5 ≤ 4 * 1 + col.val / 256; omega))) (fun col h1 h2 => (View.read_writes_junk_apply_eq_canon _ _ _).trans (m6 1 col (by show 6 ≤ 4 * 1 + col.val / 256; omega))) (fun col h1 h2 => (View.read_writes_junk_apply_eq_canon _ _ _).trans (m7 1 col (by show 7 ≤ 4 * 1 + col.val / 256; omega)))
      arg13.view (arg13.view.writes (Elt Ideal) arg13.view.junk (List.tail (kernelRun0_A.sl.HS2_1_1 c i arg3 harg3 arg4 harg4 arg5 harg5 arg6 harg6 arg7 harg7 arg8 harg8 arg9 harg9 arg10 harg10 arg11 harg11 arg12 harg12 arg13 harg13 x0 x1 x2 x3 x4))) (arg13.view.writes (Elt Ideal) arg13.view.junk (kernelRun0_A.sl.HS2_1_1 c i arg3 harg3 arg4 harg4 arg5 harg5 arg6 harg6 arg7 harg7 arg8 harg8 arg9 harg9 arg10 harg10 arg11 harg11 arg12 harg12 arg13 harg13 x0 x1 x2 x3 x4)) (arg13.view.writes (Elt Ideal) arg13.view.junk (kernelRun0_A.sl.HS2_2 c i arg3 harg3 arg4 harg4 arg5 harg5 arg6 harg6 arg7 harg7 arg8 harg8 arg9 harg9 arg10 harg10 arg11 harg11 arg12 harg12 arg13 harg13 x0 x1 x2 x3 x4)) (arg13.view.writes (Elt Ideal) arg13.view.junk (kernelRun0_A.sl.HS2_3 c i arg3 harg3 arg4 harg4 arg5 harg5 arg6 harg6 arg7 harg7 arg8 harg8 arg9 harg9 arg10 harg10 arg11 harg11 arg12 harg12 arg13 harg13 x0 x1 x2 x3 x4)) (arg13.view.writes (Elt Ideal) arg13.view.junk (kernelRun0_A.sl.HS2_4 c i arg3 harg3 arg4 harg4 arg5 harg5 arg6 harg6 arg7 harg7 arg8 harg8 arg9 harg9 arg10 harg10 arg11 harg11 arg12 harg12 arg13 harg13 x0 x1 x2 x3 x4)) (arg13.view.writes (Elt Ideal) arg13.view.junk (kernelRun0_A.sl.HS2_5 c i arg3 harg3 arg4 harg4 arg5 harg5 arg6 harg6 arg7 harg7 arg8 harg8 arg9 harg9 arg10 harg10 arg11 harg11 arg12 harg12 arg13 harg13 x0 x1 x2 x3 x4)) (arg13.view.writes (Elt Ideal) arg13.view.junk (kernelRun0_A.sl.HS2_6 c i arg3 harg3 arg4 harg4 arg5 harg5 arg6 harg6 arg7 harg7 arg8 harg8 arg9 harg9 arg10 harg10 arg11 harg11 arg12 harg12 arg13 harg13 x0 x1 x2 x3 x4)) (arg13.view.writes (Elt Ideal) arg13.view.junk (kernelRun0_A.sl.HS2_7 c i arg3 harg3 arg4 harg4 arg5 harg5 arg6 harg6 arg7 harg7 arg8 harg8 arg9 harg9 arg10 harg10 arg11 harg11 arg12 harg12 arg13 harg13 x0 x1 x2 x3 x4)) (ldV5 arg6.view (harg6.unread x3) ![0, 0, 0, 0] (by decide)) (ldV5 arg6.view (harg6.unread x3) ![0, 1, 0, 0] (by decide)) (keyValue x3) v0 v1
      (fun d col h1 h2 => (View.read_writes_junk_apply_eq_canon _ _ _).trans (s0 0 d col (by show 0 ≤ 4 * 0 + col.val / 256; omega))) (fun d col h1 h2 => (View.read_writes_junk_apply_eq_canon _ _ _).trans (s1 0 d col (by show 1 ≤ 4 * 0 + col.val / 256; omega))) (fun d col h1 h2 => (View.read_writes_junk_apply_eq_canon _ _ _).trans (s2 0 d col (by show 2 ≤ 4 * 0 + col.val / 256; omega))) (fun d col h1 h2 => (View.read_writes_junk_apply_eq_canon _ _ _).trans (s3 0 d col (by show 3 ≤ 4 * 0 + col.val / 256; omega))) (fun d col h1 h2 => (View.read_writes_junk_apply_eq_canon _ _ _).trans (s4 1 d col (by show 4 ≤ 4 * 1 + col.val / 256; omega))) (fun d col h1 h2 => (View.read_writes_junk_apply_eq_canon _ _ _).trans (s5 1 d col (by show 5 ≤ 4 * 1 + col.val / 256; omega))) (fun d col h1 h2 => (View.read_writes_junk_apply_eq_canon _ _ _).trans (s6 1 d col (by show 6 ≤ 4 * 1 + col.val / 256; omega))) (fun d col h1 h2 => (View.read_writes_junk_apply_eq_canon _ _ _).trans (s7 1 d col (by show 7 ≤ 4 * 1 + col.val / 256; omega))) _ h d col

end Cert.KernelIdeal.Value
-- ==== Proof.CaseB.lean ====
module

public import proofs.«01_k».proof.Proof.Scores
public import proofs.«01_k».proof.Proof.Gen.KernelIdeal.Frame

@[expose] public section

set_option maxRecDepth 16384

noncomputable section

/-! A query block of odd number: far keys in pairs of blocks, then the two near blocks. -/

namespace Cert.KernelIdeal.Value

open Cert.KernelIdeal Cert.KernelIdeal.Gen Idealize.ShloMosaic Idealize.ShloMosaic.TcCoe Idealize.SL.Sem
open Finset (range)

/-- What the loops leave. -/
theorem loops_B (c : Dev nD) (i : grid0.Coords) (arg3 : Memref sig .tc .smem S8 .f32) (harg3 : arg3.IsWhole) (arg4 : Memref sig .tc .vmem S1x512x256 .f32) (harg4 : arg4.IsWhole) (arg5 : Memref sig .tc .vmem S1x4096x256 .bf16) (harg5 : arg5.IsWhole) (arg6 : Memref sig .tc .vmem S1x2x144x4096 .bf16) (harg6 : arg6.IsWhole) (arg7 : Memref sig .tc .vmem S2x2x512x512 .f32) (harg7 : arg7.IsWhole) (arg8 : Memref sig .tc .vmem S4x64 .f32) (harg8 : arg8.IsWhole) (arg9 : Memref sig .tc .vmem S1x128 .f32) (harg9 : arg9.IsWhole) (arg10 : Memref sig .tc .vmem S1x512x256 .bf16) (harg10 : arg10.IsWhole) (arg11 : Memref sig .tc .vmem S2x128x1024 .bf16) (harg11 : arg11.IsWhole) (arg12 : Memref sig .tc .vmem S2x1x1024 .f32) (harg12 : arg12.IsWhole) (arg13 : Memref sig .tc .vmem S2x144x1024 .f32) (harg13 : arg13.IsWhole)
    (hc1 : cond0_1 i)
    (x0 : Vec Ideal S8 .f32) (x1 : Vec Ideal S1x512x256 .f32) (x2 : Vec Ideal S1x4096x256 .bf16) (x3 : Vec Ideal S1x2x144x4096 .bf16) (x4 : Vec Ideal S2x2x512x512 .f32)
    (f : Fin 2 → ℝ) (hf0 : kernelRun0_B.sl.r_3 c i arg3 harg3 x0 = (f 0 : EReal)) (hf1 : kernelRun0_B.sl.r_4 c i arg3 harg3 x0 = (f 1 : EReal))
    (hq : (i 2).val % 2 = 1) :
    (∀ h col, View.canon (Val := Elt Ideal) (List.tail (kernelRun0_B.sl.HS1_1_1 c i arg3 harg3 arg4 harg4 arg5 harg5 arg6 harg6 arg7 harg7 arg8 harg8 arg9 harg9 arg10 harg10 arg11 harg11 arg12 harg12 arg13 harg13 hc1 x0 x1 x2 x3 x4)) (ix3 h 0 col) = topTo ((keyScore x2 (View.canon (Val := Elt Ideal) (kernelRun0_B.sl.HS0_2 c arg4 harg4 x1 : List (View.Piece (Elt Ideal) S2x128x1024 .bf16))) x4 (i 2).val f) h col) (512 * ((i 2).val - 1)))
    ∧ (∀ h d col, View.canon (Val := Elt Ideal) (List.tail (kernelRun0_B.sl.HS2_1_1 c i arg3 harg3 arg4 harg4 arg5 harg5 arg6 harg6 arg7 harg7 arg8 harg8 arg9 harg9 arg10 harg10 arg11 harg11 arg12 harg12 arg13 harg13 hc1 x0 x1 x2 x3 x4)) (ix3 h d col) = sumTo ((keyScore x2 (View.canon (Val := Elt Ideal) (kernelRun0_B.sl.HS0_2 c arg4 harg4 x1 : List (View.Piece (Elt Ideal) S2x128x1024 .bf16))) x4 (i 2).val f) h col) ((keyValue x3) h d) (512 * ((i 2).val - 1))) := by
  have hi : (i 2).val < 8 := (i 2).isLt
  have ht := trips_pairs i
  have ha : 1024 * (k0_t1_loop i).trips = (512 * ((i 2).val - 1)) := by omega
  have h2 : Scf.trips (k0_t2_loop i).lb (k0_t2_loop i).ub (k0_t2_loop i).st = 0 := trips_rest i
  have hS : ∀ (h : Fin 2) (k : Fin 4096) (col : Fin 1024) (ks : Fin 128 → EReal), k.val < 1024 * (k0_t1_loop i).trips →
      (∀ (d : Fin 128) (e : Fin 256), e.val = 128 * h.val + d.val → ks d = x2 (ix3 0 k e)) →
      (∑ d : Fin 128, ks d * arg11.view.read (Elt Ideal) (arg11.view.writes (Elt Ideal) arg11.view.junk (kernelRun0_B.sl.HS0_2 c arg4 harg4 x1 : List (View.Piece (Elt Ideal) S2x128x1024 .bf16))) (ix3 h d col)) + (f h : EReal) = (keyScore x2 (View.canon (Val := Elt Ideal) (kernelRun0_B.sl.HS0_2 c arg4 harg4 x1 : List (View.Piece (Elt Ideal) S2x128x1024 .bf16))) x4 (i 2).val f) h col k := fun h k col ks hk hks =>
    score_of x2 (View.canon (Val := Elt Ideal) (kernelRun0_B.sl.HS0_2 c arg4 harg4 x1 : List (View.Piece (Elt Ideal) S2x128x1024 .bf16))) x4 (i 2).val f h col k k.isLt ks _ _ hks (fun d => View.read_writes_junk_apply_eq_canon _ _ _) (keyBias_far x4 (i 2).val f h col k (by omega)).symm
  have base := loop_leaves Variants.none c none i arg3 harg3 arg4 harg4 arg5 harg5 arg6 harg6 arg7 harg7 arg8 harg8 arg9 harg9 arg10 harg10 arg11 harg11 arg12 harg12 arg13 harg13 (BitVec.ofNat 32 (i 2).val)
    (kernelRun0_B.sl.r_3 c i arg3 harg3 x0) (kernelRun0_B.sl.r_4 c i arg3 harg3 x0) (kernelRun0_B.sl.v56 i) (kernelRun0_B.sl.v57 i) (kernelRun0_B.sl.v68 i) (kernelRun0_B.sl.v69 i) (0#32) (f 0) (f 1) hf0 hf1
    (harg5.unread x2) (harg6.unread x3) (arg11.view.writes (Elt Ideal) arg11.view.junk (kernelRun0_B.sl.HS0_2 c arg4 harg4 x1 : List (View.Piece (Elt Ideal) S2x128x1024 .bf16))) kernelRun0_B.sl.HS1_1 kernelRun0_B.sl.HS2_1 (keyScore x2 (View.canon (Val := Elt Ideal) (kernelRun0_B.sl.HS0_2 c arg4 harg4 x1 : List (View.Piece (Elt Ideal) S2x128x1024 .bf16))) x4 (i 2).val f) (keyValue x3)
    (fun k col hk => hS 0 k col _ hk (fun d e he => by
      rw [harg5.read_unread]; congr 2; exact Fin.ext (by rw [he]; show 0 + d.val = 128 * 0 + d.val; omega)))
    (fun k col hk => hS 1 k col _ hk (fun d e he => by
      rw [harg5.read_unread]; congr 2; exact Fin.ext (by rw [he]; show 128 + d.val = 128 * 1 + d.val; omega)))
    (fun h d k => by rw [harg6.read_unread]; exact value_of x3 h d k)
    (fun h col => start_max h col _) (fun h d col => start_sum h d col _ _) _ le_rfl
  rw [ha] at base
  constructor
  · intro h col
    refine Eq.trans ?_ (base.1 h col)
    unfold kernelRun0_B.sl.HS1_1_1
    rw [List.tail_cons, h2]
    rfl
  · intro h d col
    refine Eq.trans ?_ (base.2 h d col)
    unfold kernelRun0_B.sl.HS2_1_1
    rw [List.tail_cons, h2]
    rfl

/-- All keys taken in. -/
theorem sums_B (c : Dev nD) (i : grid0.Coords) (arg3 : Memref sig .tc .smem S8 .f32) (harg3 : arg3.IsWhole) (arg4 : Memref sig .tc .vmem S1x512x256 .f32) (harg4 : arg4.IsWhole) (arg5 : Memref sig .tc .vmem S1x4096x256 .bf16) (harg5 : arg5.IsWhole) (arg6 : Memref sig .tc .vmem S1x2x144x4096 .bf16) (harg6 : arg6.IsWhole) (arg7 : Memref sig .tc .vmem S2x2x512x512 .f32) (harg7 : arg7.IsWhole) (arg8 : Memref sig .tc .vmem S4x64 .f32) (harg8 : arg8.IsWhole) (arg9 : Memref sig .tc .vmem S1x128 .f32) (harg9 : arg9.IsWhole) (arg10 : Memref sig .tc .vmem S1x512x256 .bf16) (harg10 : arg10.IsWhole) (arg11 : Memref sig .tc .vmem S2x128x1024 .bf16) (harg11 : arg11.IsWhole) (arg12 : Memref sig .tc .vmem S2x1x1024 .f32) (harg12 : arg12.IsWhole) (arg13 : Memref sig .tc .vmem S2x144x1024 .f32) (harg13 : arg13.IsWhole)
    (hc1 : cond0_1 i)
    (x0 : Vec Ideal S8 .f32) (x1 : Vec Ideal S1x512x256 .f32) (x2 : Vec Ideal S1x4096x256 .bf16) (x3 : Vec Ideal S1x2x144x4096 .bf16) (x4 : Vec Ideal S2x2x512x512 .f32)
    (f : Fin 2 → ℝ) (hf0 : kernelRun0_B.sl.r_3 c i arg3 harg3 x0 = (f 0 : EReal)) (hf1 : kernelRun0_B.sl.r_4 c i arg3 harg3 x0 = (f 1 : EReal))
    (hq : (i 2).val % 2 = 1) (h : Fin 2) (d : Fin 144) (col : Fin 1024) :
    View.canon (Val := Elt Ideal) (kernelRun0_B.sl.HS2_8 c i arg3 harg3 arg4 harg4 arg5 harg5 arg6 harg6 arg7 harg7 arg8 harg8 arg9 harg9 arg10 harg10 arg11 harg11 arg12 harg12 arg13 harg13 hc1 x0 x1 x2 x3 x4) (ix3 h d col) = sumTo ((keyScore x2 (View.canon (Val := Elt Ideal) (kernelRun0_B.sl.HS0_2 c arg4 harg4 x1 : List (View.Piece (Elt Ideal) S2x128x1024 .bf16))) x4 (i 2).val f) h col) ((keyValue x3) h d) (512 * ((i 2).val + 1)) := by
  have hi : (i 2).val < 8 := (i 2).isLt
  obtain ⟨lm, la⟩ := loops_B c i arg3 harg3 arg4 harg4 arg5 harg5 arg6 harg6 arg7 harg7 arg8 harg8 arg9 harg9 arg10 harg10 arg11 harg11 arg12 harg12 arg13 harg13 hc1 x0 x1 x2 x3 x4 f hf0 hf1 hq
  have m0 : ∀ (h : Fin 2) (col : Fin 1024), 0 ≤ 4 * h.val + col.val / 256 → View.canon (Val := Elt Ideal) (List.tail (kernelRun0_B.sl.HS1_1_1 c i arg3 harg3 arg4 harg4 arg5 harg5 arg6 harg6 arg7 harg7 arg8 harg8 arg9 harg9 arg10 harg10 arg11 harg11 arg12 harg12 arg13 harg13 hc1 x0 x1 x2 x3 x4)) (ix3 h 0 col) = topTo ((keyScore x2 (View.canon (Val := Elt Ideal) (kernelRun0_B.sl.HS0_2 c arg4 harg4 x1 : List (View.Piece (Elt Ideal) S2x128x1024 .bf16))) x4 (i 2).val f) h col) (512 * ((i 2).val - 1)) := fun h col _ => lm h col
  have s0 : ∀ (h : Fin 2) (d : Fin 144) (col : Fin 1024), 0 ≤ 4 * h.val + col.val / 256 → View.canon (Val := Elt Ideal) (List.tail (kernelRun0_B.sl.HS2_1_1 c i arg3 harg3 arg4 harg4 arg5 harg5 arg6 harg6 arg7 harg7 arg8 harg8 arg9 harg9 arg10 harg10 arg11 harg11 arg12 harg12 arg13 harg13 hc1 x0 x1 x2 x3 x4)) (ix3 h d col) = sumTo ((keyScore x2 (View.canon (Val := Elt Ideal) (kernelRun0_B.sl.HS0_2 c arg4 harg4 x1 : List (View.Piece (Elt Ideal) S2x128x1024 .bf16))) x4 (i 2).val f) h col) ((keyValue x3) h d) (512 * ((i 2).val - 1)) := fun h d col _ => la h d col
  have m1 : ∀ (h : Fin 2) (col : Fin 1024), 1 ≤ 4 * h.val + col.val / 256 → View.canon (Val := Elt Ideal) (kernelRun0_B.sl.HS1_1_1 c i arg3 harg3 arg4 harg4 arg5 harg5 arg6 harg6 arg7 harg7 arg8 harg8 arg9 harg9 arg10 harg10 arg11 harg11 arg12 harg12 arg13 harg13 hc1 x0 x1 x2 x3 x4) (ix3 h 0 col) = topTo ((keyScore x2 (View.canon (Val := Elt Ideal) (kernelRun0_B.sl.HS0_2 c arg4 harg4 x1 : List (View.Piece (Elt Ideal) S2x128x1024 .bf16))) x4 (i 2).val f) h col) (512 * ((i 2).val - 1)) := fun h col hc =>
    (skipM 0 0 (by decide) _ (List.tail (kernelRun0_B.sl.HS1_1_1 c i arg3 harg3 arg4 harg4 arg5 harg5 arg6 harg6 arg7 harg7 arg8 harg8 arg9 harg9 arg10 harg10 arg11 harg11 arg12 harg12 arg13 harg13 hc1 x0 x1 x2 x3 x4)) h col (by omega)).trans (m0 h col (by omega))
  have s1 : ∀ (h : Fin 2) (d : Fin 144) (col : Fin 1024), 1 ≤ 4 * h.val + col.val / 256 → View.canon (Val := Elt Ideal) (kernelRun0_B.sl.HS2_1_1 c i arg3 harg3 arg4 harg4 arg5 harg5 arg6 harg6 arg7 harg7 arg8 harg8 arg9 harg9 arg10 harg10 arg11 harg11 arg12 harg12 arg13 harg13 hc1 x0 x1 x2 x3 x4) (ix3 h d col) = sumTo ((keyScore x2 (View.canon (Val := Elt Ideal) (kernelRun0_B.sl.HS0_2 c arg4 harg4 x1 : List (View.Piece (Elt Ideal) S2x128x1024 .bf16))) x4 (i 2).val f) h col) ((keyValue x3) h d) (512 * ((i 2).val - 1)) := fun h d col hc =>
    (skipA 0 0 (by decide) _ (List.tail (kernelRun0_B.sl.HS2_1_1 c i arg3 harg3 arg4 harg4 arg5 harg5 arg6 harg6 arg7 harg7 arg8 harg8 arg9 harg9 arg10 harg10 arg11 harg11 arg12 harg12 arg13 harg13 hc1 x0 x1 x2 x3 x4)) h d col (by omega)).trans (s0 h d col (by omega))
  have m2 : ∀ (h : Fin 2) (col : Fin 1024), 2 ≤ 4 * h.val + col.val / 256 → View.canon (Val := Elt Ideal) (kernelRun0_B.sl.HS1_2 c i arg3 harg3 arg4 harg4 arg5 harg5 arg6 harg6 arg7 harg7 arg8 harg8 arg9 harg9 arg10 harg10 arg11 harg11 arg12 harg12 arg13 harg13 hc1 x0 x1 x2 x3 x4) (ix3 h 0 col) = topTo ((keyScore x2 (View.canon (Val := Elt Ideal) (kernelRun0_B.sl.HS0_2 c arg4 harg4 x1 : List (View.Piece (Elt Ideal) S2x128x1024 .bf16))) x4 (i 2).val f) h col) (512 * ((i 2).val - 1)) := fun h col hc =>
    (skipM 0 256 (by decide) _ (kernelRun0_B.sl.HS1_1_1 c i arg3 harg3 arg4 harg4 arg5 harg5 arg6 harg6 arg7 harg7 arg8 harg8 arg9 harg9 arg10 harg10 arg11 harg11 arg12 harg12 arg13 harg13 hc1 x0 x1 x2 x3 x4) h col (by omega)).trans (m1 h col (by omega))
  have s2 : ∀ (h : Fin 2) (d : Fin 144) (col : Fin 1024), 2 ≤ 4 * h.val + col.val / 256 → View.canon (Val := Elt Ideal) (kernelRun0_B.sl.HS2_2 c i arg3 harg3 arg4 harg4 arg5 harg5 arg6 harg6 arg7 harg7 arg8 harg8 arg9 harg9 arg10 harg10 arg11 harg11 arg12 harg12 arg13 harg13 hc1 x0 x1 x2 x3 x4) (ix3 h d col) = sumTo ((keyScore x2 (View.canon (Val := Elt Ideal) (kernelRun0_B.sl.HS0_2 c arg4 harg4 x1 : List (View.Piece (Elt Ideal) S2x128x1024 .bf16))) x4 (i 2).val f) h col) ((keyValue x3) h d) (512 * ((i 2).val - 1)) := fun h d col hc =>
    (skipA 0 256 (by decide) _ (kernelRun0_B.sl.HS2_1_1 c i arg3 harg3 arg4 harg4 arg5 harg5 arg6 harg6 arg7 harg7 arg8 harg8 arg9 harg9 arg10 harg10 arg11 harg11 arg12 harg12 arg13 harg13 hc1 x0 x1 x2 x3 x4) h d col (by omega)).trans (s1 h d col (by omega))
  have m3 : ∀ (h : Fin 2) (col : Fin 1024), 3 ≤ 4 * h.val + col.val / 256 → View.canon (Val := Elt Ideal) (kernelRun0_B.sl.HS1_3 c i arg3 harg3 arg4 harg4 arg5 harg5 arg6 harg6 arg7 harg7 arg8 harg8 arg9 harg9 arg10 harg10 arg11 harg11 arg12 harg12 arg13 harg13 hc1 x0 x1 x2 x3 x4) (ix3 h 0 col) = topTo ((keyScore x2 (View.canon (Val := Elt Ideal) (kernelRun0_B.sl.HS0_2 c arg4 harg4 x1 : List (View.Piece (Elt Ideal) S2x128x1024 .bf16))) x4 (i 2).val f) h col) (512 * ((i 2).val - 1)) := fun h col hc =>
    (skipM 0 512 (by decide) _ (kernelRun0_B.sl.HS1_2 c i arg3 harg3 arg4 harg4 arg5 harg5 arg6 harg6 arg7 harg7 arg8 harg8 arg9 harg9 arg10 harg10 arg11 harg11 arg12 harg12 arg13 harg13 hc1 x0 x1 x2 x3 x4) h col (by omega)).trans (m2 h col (by omega))
  have s3 : ∀ (h : Fin 2) (d : Fin 144) (col : Fin 1024), 3 ≤ 4 * h.val + col.val / 256 → View.canon (Val := Elt Ideal) (kernelRun0_B.sl.HS2_3 c i arg3 harg3 arg4 harg4 arg5 harg5 arg6 harg6 arg7 harg7 arg8 harg8 arg9 harg9 arg10 harg10 arg11 harg11 arg12 harg12 arg13 harg13 hc1 x0 x1 x2 x3 x4) (ix3 h d col) = sumTo ((keyScore x2 (View.canon (Val := Elt Ideal) (kernelRun0_B.sl.HS0_2 c arg4 harg4 x1 : List (View.Piece (Elt Ideal) S2x128x1024 .bf16))) x4 (i 2).val f) h col) ((keyValue x3) h d) (512 * ((i 2).val - 1)) := fun h d col hc =>
    (skipA 0 512 (by decide) _ (kernelRun0_B.sl.HS2_2 c i arg3 harg3 arg4 harg4 arg5 harg5 arg6 harg6 arg7 harg7 arg8 harg8 arg9 harg9 arg10 harg10 arg11 harg11 arg12 harg12 arg13 harg13 hc1 x0 x1 x2 x3 x4) h d col (by omega)).trans (s2 h d col (by omega))
  have m4 : ∀ (h : Fin 2) (col : Fin 1024), 4 ≤ 4 * h.val + col.val / 256 → View.canon (Val := Elt Ideal) (kernelRun0_B.sl.HS1_4 c i arg3 harg3 arg4 harg4 arg5 harg5 arg6 harg6 arg7 harg7 arg8 harg8 arg9 harg9 arg10 harg10 arg11 harg11 arg12 harg12 arg13 harg13 hc1 x0 x1 x2 x3 x4) (ix3 h 0 col) = topTo ((keyScore x2 (View.canon (Val := Elt Ideal) (kernelRun0_B.sl.HS0_2 c arg4 harg4 x1 : List (View.Piece (Elt Ideal) S2x128x1024 .bf16))) x4 (i 2).val f) h col) (512 * ((i 2).val - 1)) := fun h col hc =>
    (skipM 0 768 (by decide) _ (kernelRun0_B.sl.HS1_3 c i arg3 harg3 arg4 harg4 arg5 harg5 arg6 harg6 arg7 harg7 arg8 harg8 arg9 harg9 arg10 harg10 arg11 harg11 arg12 harg12 arg13 harg13 hc1 x0 x1 x2 x3 x4) h col (by omega)).trans (m3 h col (by omega))
  have s4 : ∀ (h : Fin 2) (d : Fin 144) (col : Fin 1024), 4 ≤ 4 * h.val + col.val / 256 → View.canon (Val := Elt Ideal) (kernelRun0_B.sl.HS2_4 c i arg3 harg3 arg4 harg4 arg5 harg5 arg6 harg6 arg7 harg7 arg8 harg8 arg9 harg9 arg10 harg10 arg11 harg11 arg12 harg12 arg13 harg13 hc1 x0 x1 x2 x3 x4) (ix3 h d col) = sumTo ((keyScore x2 (View.canon (Val := Elt Ideal) (kernelRun0_B.sl.HS0_2 c arg4 harg4 x1 : List (View.Piece (Elt Ideal) S2x128x1024 .bf16))) x4 (i 2).val f) h col) ((keyValue x3) h d) (512 * ((i 2).val - 1)) := fun h d col hc =>
    (skipA 0 768 (by decide) _ (kernelRun0_B.sl.HS2_3 c i arg3 harg3 arg4 harg4 arg5 harg5 arg6 harg6 arg7 harg7 arg8 harg8 arg9 harg9 arg10 harg10 arg11 harg11 arg12 harg12 arg13 harg13 hc1 x0 x1 x2 x3 x4) h d col (by omega)).trans (s3 h d col (by omega))
  have m5 : ∀ (h : Fin 2) (col : Fin 1024), 5 ≤ 4 * h.val + col.val / 256 → View.canon (Val := Elt Ideal) (kernelRun0_B.sl.HS1_5 c i arg3 harg3 arg4 harg4 arg5 harg5 arg6 harg6 arg7 harg7 arg8 harg8 arg9 harg9 arg10 harg10 arg11 harg11 arg12 harg12 arg13 harg13 hc1 x0 x1 x2 x3 x4) (ix3 h 0 col) = topTo ((keyScore x2 (View.canon (Val := Elt Ideal) (kernelRun0_B.sl.HS0_2 c arg4 harg4 x1 : List (View.Piece (Elt Ideal) S2x128x1024 .bf16))) x4 (i 2).val f) h col) (512 * ((i 2).val - 1)) := fun h col hc =>
    (skipM 1 0 (by decide) _ (kernelRun0_B.sl.HS1_4 c i arg3 harg3 arg4 harg4 arg5 harg5 arg6 harg6 arg7 harg7 arg8 harg8 arg9 harg9 arg10 harg10 arg11 harg11 arg12 harg12 arg13 harg13 hc1 x0 x1 x2 x3 x4) h col (by omega)).trans (m4 h col (by omega))
  have s5 : ∀ (h : Fin 2) (d : Fin 144) (col : Fin 1024), 5 ≤ 4 * h.val + col.val / 256 → View.canon (Val := Elt Ideal) (kernelRun0_B.sl.HS2_5 c i arg3 harg3 arg4 harg4 arg5 harg5 arg6 harg6 arg7 harg7 arg8 harg8 arg9 harg9 arg10 harg10 arg11 harg11 arg12 harg12 arg13 harg13 hc1 x0 x1 x2 x3 x4) (ix3 h d col) = sumTo ((keyScore x2 (View.canon (Val := Elt Ideal) (kernelRun0_B.sl.HS0_2 c arg4 harg4 x1 : List (View.Piece (Elt Ideal) S2x128x1024 .bf16))) x4 (i 2).val f) h col) ((keyValue x3) h d) (512 * ((i 2).val - 1)) := fun h d col hc =>
    (skipA 1 0 (by decide) _ (kernelRun0_B.sl.HS2_4 c i arg3 harg3 arg4 harg4 arg5 harg5 arg6 harg6 arg7 harg7 arg8 harg8 arg9 harg9 arg10 harg10 arg11 harg11 arg12 harg12 arg13 harg13 hc1 x0 x1 x2 x3 x4) h d col (by omega)).trans (s4 h d col (by omega))
  have m6 : ∀ (h : Fin 2) (col : Fin 1024), 6 ≤ 4 * h.val + col.val / 256 → View.canon (Val := Elt Ideal) (kernelRun0_B.sl.HS1_6 c i arg3 harg3 arg4 harg4 arg5 harg5 arg6 harg6 arg7 harg7 arg8 harg8 arg9 harg9 arg10 harg10 arg11 harg11 arg12 harg12 arg13 harg13 hc1 x0 x1 x2 x3 x4) (ix3 h 0 col) = topTo ((keyScore x2 (View.canon (Val := Elt Ideal) (kernelRun0_B.sl.HS0_2 c arg4 harg4 x1 : List (View.Piece (Elt Ideal) S2x128x1024 .bf16))) x4 (i 2).val f) h col) (512 * ((i 2).val - 1)) := fun h col hc =>
    (skipM 1 256 (by decide) _ (kernelRun0_B.sl.HS1_5 c i arg3 harg3 arg4 harg4 arg5 harg5 arg6 harg6 arg7 harg7 arg8 harg8 arg9 harg9 arg10 harg10 arg11 harg11 arg12 harg12 arg13 harg13 hc1 x0 x1 x2 x3 x4) h col (by omega)).trans (m5 h col (by omega))
  have s6 : ∀ (h : Fin 2) (d : Fin 144) (col : Fin 1024), 6 ≤ 4 * h.val + col.val / 256 → View.canon (Val := Elt Ideal) (kernelRun0_B.sl.HS2_6 c i arg3 harg3 arg4 harg4 arg5 harg5 arg6 harg6 arg7 harg7 arg8 harg8 arg9 harg9 arg10 harg10 arg11 harg11 arg12 harg12 arg13 harg13 hc1 x0 x1 x2 x3 x4) (ix3 h d col) = sumTo ((keyScore x2 (View.canon (Val := Elt Ideal) (kernelRun0_B.sl.HS0_2 c arg4 harg4 x1 : List (View.Piece (Elt Ideal) S2x128x1024 .bf16))) x4 (i 2).val f) h col) ((keyValue x3) h d) (512 * ((i 2).val - 1)) := fun h d col hc =>
    (skipA 1 256 (by decide) _ (kernelRun0_B.sl.HS2_5 c i arg3 harg3 arg4 harg4 arg5 harg5 arg6 harg6 arg7 harg7 arg8 harg8 arg9 harg9 arg10 harg10 arg11 harg11 arg12 harg12 arg13 harg13 hc1 x0 x1 x2 x3 x4) h d col (by omega)).trans (s5 h d col (by omega))
  have m7 : ∀ (h : Fin 2) (col : Fin 1024), 7 ≤ 4 * h.val + col.val / 256 → View.canon (Val := Elt Ideal) (kernelRun0_B.sl.HS1_7 c i arg3 harg3 arg4 harg4 arg5 harg5 arg6 harg6 arg7 harg7 arg8 harg8 arg9 harg9 arg10 harg10 arg11 harg11 arg12 harg12 arg13 harg13 hc1 x0 x1 x2 x3 x4) (ix3 h 0 col) = topTo ((keyScore x2 (View.canon (Val := Elt Ideal) (kernelRun0_B.sl.HS0_2 c arg4 harg4 x1 : List (View.Piece (Elt Ideal) S2x128x1024 .bf16))) x4 (i 2).val f) h col) (512 * ((i 2).val - 1)) := fun h col hc =>
    (skipM 1 512 (by decide) _ (kernelRun0_B.sl.HS1_6 c i arg3 harg3 arg4 harg4 arg5 harg5 arg6 harg6 arg7 harg7 arg8 harg8 arg9 harg9 arg10 harg10 arg11 harg11 arg12 harg12 arg13 harg13 hc1 x0 x1 x2 x3 x4) h col (by omega)).trans (m6 h col (by omega))
  have s7 : ∀ (h : Fin 2) (d : Fin 144) (col : Fin 1024), 7 ≤ 4 * h.val + col.val / 256 → View.canon (Val := Elt Ideal) (kernelRun0_B.sl.HS2_7 c i arg3 harg3 arg4 harg4 arg5 harg5 arg6 harg6 arg7 harg7 arg8 harg8 arg9 harg9 arg10 harg10 arg11 harg11 arg12 harg12 arg13 harg13 hc1 x0 x1 x2 x3 x4) (ix3 h d col) = sumTo ((keyScore x2 (View.canon (Val := Elt Ideal) (kernelRun0_B.sl.HS0_2 c arg4 harg4 x1 : List (View.Piece (Elt Ideal) S2x128x1024 .bf16))) x4 (i 2).val f) h col) ((keyValue x3) h d) (512 * ((i 2).val - 1)) := fun h d col hc =>
    (skipA 1 512 (by decide) _ (kernelRun0_B.sl.HS2_6 c i arg3 harg3 arg4 harg4 arg5 harg5 arg6 harg6 arg7 harg7 arg8 harg8 arg9 harg9 arg10 harg10 arg11 harg11 arg12 harg12 arg13 harg13 hc1 x0 x1 x2 x3 x4) h d col (by omega)).trans (s6 h d col (by omega))
  have hb : ∀ (h : Fin 2) (k : Fin 1024) (col : Fin 1024), arg7.view.read (Elt Ideal) (harg7.unread x4) (ix4 h ⟨k.val / 512, by omega⟩ ⟨k.val % 512, by omega⟩ ⟨col.val % 512, by omega⟩) = keyBias x4 (i 2).val f h col ((512 * ((i 2).val - 1)) + k.val) := fun h k col => by
    rw [harg7.read_unread]
    rcases (show k.val / 512 = 0 ∨ k.val / 512 = 1 by omega) with hk | hk
    · rw [show (⟨k.val / 512, by omega⟩ : Fin 2) = 0 from Fin.ext hk]
      exact (keyBias_before x4 (i 2).val f h col ((512 * ((i 2).val - 1)) + k.val) (by omega) ⟨k.val % 512, by omega⟩ (by dsimp only; omega)).symm
    · rw [show (⟨k.val / 512, by omega⟩ : Fin 2) = 1 from Fin.ext hk]
      exact (keyBias_same x4 (i 2).val f h col ((512 * ((i 2).val - 1)) + k.val) (by omega) ⟨k.val % 512, by omega⟩ (by dsimp only; omega)).symm
  have c0 : ∀ (k : Fin 1024) (col : Fin 1024), (∑ d : Fin 128, ldK1 arg5.view (harg5.unread x2) (k0_off14 i) (k0_off14_inb i hc1) (ix3 0 k d) * arg11.view.read (Elt Ideal) (arg11.view.writes (Elt Ideal) arg11.view.junk (kernelRun0_B.sl.HS0_2 c arg4 harg4 x1 : List (View.Piece (Elt Ideal) S2x128x1024 .bf16))) (ix3 0 d col)) + arg7.view.read (Elt Ideal) (harg7.unread x4) (ix4 0 ⟨k.val / 512, by omega⟩ ⟨k.val % 512, by omega⟩ ⟨col.val % 512, by omega⟩) = (keyScore x2 (View.canon (Val := Elt Ideal) (kernelRun0_B.sl.HS0_2 c arg4 harg4 x1 : List (View.Piece (Elt Ideal) S2x128x1024 .bf16))) x4 (i 2).val f) 0 col ((512 * ((i 2).val - 1)) + k.val) := fun k col =>
    score_of x2 (View.canon (Val := Elt Ideal) (kernelRun0_B.sl.HS0_2 c arg4 harg4 x1 : List (View.Piece (Elt Ideal) S2x128x1024 .bf16))) x4 (i 2).val f 0 col ((512 * ((i 2).val - 1)) + k.val) (by omega) _ _ _
      (fun d e he => (ldK1_at arg5.view (harg5.unread x2) (k0_off14 i) (k0_off14_inb i hc1) k d ⟨(512 * ((i 2).val - 1)) + k.val, by omega⟩ e (by rw [off14_eq i (by omega)]; rfl) (by rw [off14_eq i (by omega)]; rfl) (by rw [off14_eq i (by omega), he]; rfl)).trans (by rw [harg5.read_unread]))
      (fun d => View.read_writes_junk_apply_eq_canon _ _ _) (hb 0 k col)
  have v0 : ∀ (d : Fin 144) (k : Fin 1024), ldV1 arg6.view (harg6.unread x3) (k0_off16 i) (k0_off16_inb i hc1) (ix4 0 0 d k) = (keyValue x3) 0 d ((512 * ((i 2).val - 1)) + k.val) := fun d k =>
    (ldV1_at arg6.view (harg6.unread x3) (k0_off16 i) (k0_off16_inb i hc1) d k 0 ⟨(512 * ((i 2).val - 1)) + k.val, by omega⟩ (by rw [off16_eq i (by omega)]; rfl) (by rw [off16_eq i (by omega)]; rfl) (by rw [off16_eq i (by omega)]; rfl) (by rw [off16_eq i (by omega)]; rfl)).trans (by
      rw [harg6.read_unread]; exact value_of x3 0 d ⟨(512 * ((i 2).val - 1)) + k.val, by omega⟩)
  have c1 : ∀ (k : Fin 1024) (col : Fin 1024), (∑ d : Fin 128, ldK1 arg5.view (harg5.unread x2) (k0_off15 i) (k0_off15_inb i hc1) (ix3 0 k d) * arg11.view.read (Elt Ideal) (arg11.view.writes (Elt Ideal) arg11.view.junk (kernelRun0_B.sl.HS0_2 c arg4 harg4 x1 : List (View.Piece (Elt Ideal) S2x128x1024 .bf16))) (ix3 1 d col)) + arg7.view.read (Elt Ideal) (harg7.unread x4) (ix4 1 ⟨k.val / 512, by omega⟩ ⟨k.val % 512, by omega⟩ ⟨col.val % 512, by omega⟩) = (keyScore x2 (View.canon (Val := Elt Ideal) (kernelRun0_B.sl.HS0_2 c arg4 harg4 x1 : List (View.Piece (Elt Ideal) S2x128x1024 .bf16))) x4 (i 2).val f) 1 col ((512 * ((i 2).val - 1)) + k.val) := fun k col =>
    score_of x2 (View.canon (Val := Elt Ideal) (kernelRun0_B.sl.HS0_2 c arg4 harg4 x1 : List (View.Piece (Elt Ideal) S2x128x1024 .bf16))) x4 (i 2).val f 1 col ((512 * ((i 2).val - 1)) + k.val) (by omega) _ _ _
      (fun d e he => (ldK1_at arg5.view (harg5.unread x2) (k0_off15 i) (k0_off15_inb i hc1) k d ⟨(512 * ((i 2).val - 1)) + k.val, by omega⟩ e (by rw [off15_eq i (by omega)]; rfl) (by rw [off15_eq i (by omega)]; rfl) (by rw [off15_eq i (by omega), he]; rfl)).trans (by rw [harg5.read_unread]))
      (fun d => View.read_writes_junk_apply_eq_canon _ _ _) (hb 1 k col)
  have v1 : ∀ (d : Fin 144) (k : Fin 1024), ldV1 arg6.view (harg6.unread x3) (k0_off17 i) (k0_off17_inb i hc1) (ix4 0 0 d k) = (keyValue x3) 1 d ((512 * ((i 2).val - 1)) + k.val) := fun d k =>
    (ldV1_at arg6.view (harg6.unread x3) (k0_off17 i) (k0_off17_inb i hc1) d k 1 ⟨(512 * ((i 2).val - 1)) + k.val, by omega⟩ (by rw [off17_eq i (by omega)]; rfl) (by rw [off17_eq i (by omega)]; rfl) (by rw [off17_eq i (by omega)]; rfl) (by rw [off17_eq i (by omega)]; rfl)).trans (by
      rw [harg6.read_unread]; exact value_of x3 1 d ⟨(512 * ((i 2).val - 1)) + k.val, by omega⟩)
  have hn : (512 * ((i 2).val + 1)) = (512 * ((i 2).val - 1)) + 1024 := by omega
  rw [hn]
  exact near1_sums arg11.view (arg11.view.writes (Elt Ideal) arg11.view.junk (kernelRun0_B.sl.HS0_2 c arg4 harg4 x1 : List (View.Piece (Elt Ideal) S2x128x1024 .bf16))) arg12.view (arg12.view.writes (Elt Ideal) arg12.view.junk (List.tail (kernelRun0_B.sl.HS1_1_1 c i arg3 harg3 arg4 harg4 arg5 harg5 arg6 harg6 arg7 harg7 arg8 harg8 arg9 harg9 arg10 harg10 arg11 harg11 arg12 harg12 arg13 harg13 hc1 x0 x1 x2 x3 x4))) (arg12.view.writes (Elt Ideal) arg12.view.junk (kernelRun0_B.sl.HS1_1_1 c i arg3 harg3 arg4 harg4 arg5 harg5 arg6 harg6 arg7 harg7 arg8 harg8 arg9 harg9 arg10 harg10 arg11 harg11 arg12 harg12 arg13 harg13 hc1 x0 x1 x2 x3 x4)) (arg12.view.writes (Elt Ideal) arg12.view.junk (kernelRun0_B.sl.HS1_2 c i arg3 harg3 arg4 harg4 arg5 harg5 arg6 harg6 arg7 harg7 arg8 harg8 arg9 harg9 arg10 harg10 arg11 harg11 arg12 harg12 arg13 harg13 hc1 x0 x1 x2 x3 x4)) (arg12.view.writes (Elt Ideal) arg12.view.junk (kernelRun0_B.sl.HS1_3 c i arg3 harg3 arg4 harg4 arg5 harg5 arg6 harg6 arg7 harg7 arg8 harg8 arg9 harg9 arg10 harg10 arg11 harg11 arg12 harg12 arg13 harg13 hc1 x0 x1 x2 x3 x4)) (arg12.view.writes (Elt Ideal) arg12.view.junk (kernelRun0_B.sl.HS1_4 c i arg3 harg3 arg4 harg4 arg5 harg5 arg6 harg6 arg7 harg7 arg8 harg8 arg9 harg9 arg10 harg10 arg11 harg11 arg12 harg12 arg13 harg13 hc1 x0 x1 x2 x3 x4)) (arg12.view.writes (Elt Ideal) arg12.view.junk (kernelRun0_B.sl.HS1_5 c i arg3 harg3 arg4 harg4 arg5 harg5 arg6 harg6 arg7 harg7 arg8 harg8 arg9 harg9 arg10 harg10 arg11 harg11 arg12 harg12 arg13 harg13 hc1 x0 x1 x2 x3 x4)) (arg12.view.writes (Elt Ideal) arg12.view.junk (kernelRun0_B.sl.HS1_6 c i arg3 harg3 arg4 harg4 arg5 harg5 arg6 harg6 arg7 harg7 arg8 harg8 arg9 harg9 arg10 harg10 arg11 harg11 arg12 harg12 arg13 harg13 hc1 x0 x1 x2 x3 x4)) (arg12.view.writes (Elt Ideal) arg12.view.junk (kernelRun0_B.sl.HS1_7 c i arg3 harg3 arg4 harg4 arg5 harg5 arg6 harg6 arg7 harg7 arg8 harg8 arg9 harg9 arg10 harg10 arg11 harg11 arg12 harg12 arg13 harg13 hc1 x0 x1 x2 x3 x4)) (ldK1 arg5.view (harg5.unread x2) (k0_off14 i) (k0_off14_inb i hc1)) (ldK1 arg5.view (harg5.unread x2) (k0_off15 i) (k0_off15_inb i hc1)) arg7.view (harg7.unread x4) (512 * ((i 2).val - 1)) (keyScore x2 (View.canon (Val := Elt Ideal) (kernelRun0_B.sl.HS0_2 c arg4 harg4 x1 : List (View.Piece (Elt Ideal) S2x128x1024 .bf16))) x4 (i 2).val f) c0 c1
      (fun col h1 h2 => (View.read_writes_junk_apply_eq_canon _ _ _).trans (m0 0 col (by show 0 ≤ 4 * 0 + col.val / 256; omega))) (fun col h1 h2 => (View.read_writes_junk_apply_eq_canon _ _ _).trans (m1 0 col (by show 1 ≤ 4 * 0 + col.val / 256; omega))) (fun col h1 h2 => (View.read_writes_junk_apply_eq_canon _ _ _).trans (m2 0 col (by show 2 ≤ 4 * 0 + col.val / 256; omega))) (fun col h1 h2 => (View.read_writes_junk_apply_eq_canon _ _ _).trans (m3 0 col (by show 3 ≤ 4 * 0 + col.val / 256; omega))) (fun col h1 h2 => (View.read_writes_junk_apply_eq_canon _ _ _).trans (m4 1 col (by show 4 ≤ 4 * 1 + col.val / 256; omega))) (fun col h1 h2 => (View.read_writes_junk_apply_eq_canon _ _ _).trans (m5 1 col (by show 5 ≤ 4 * 1 + col.val / 256; omega))) (fun col h1 h2 => (View.read_writes_junk_apply_eq_canon _ _ _).trans (m6 1 col (by show 6 ≤ 4 * 1 + col.val / 256; omega))) (fun col h1 h2 => (View.read_writes_junk_apply_eq_canon _ _ _).trans (m7 1 col (by show 7 ≤ 4 * 1 + col.val / 256; omega)))
      arg13.view (arg13.view.writes (Elt Ideal) arg13.view.junk (List.tail (kernelRun0_B.sl.HS2_1_1 c i arg3 harg3 arg4 harg4 arg5 harg5 arg6 harg6 arg7 harg7 arg8 harg8 arg9 harg9 arg10 harg10 arg11 harg11 arg12 harg12 arg13 harg13 hc1 x0 x1 x2 x3 x4))) (arg13.view.writes (Elt Ideal) arg13.view.junk (kernelRun0_B.sl.HS2_1_1 c i arg3 harg3 arg4 harg4 arg5 harg5 arg6 harg6 arg7 harg7 arg8 harg8 arg9 harg9 arg10 harg10 arg11 harg11 arg12 harg12 arg13 harg13 hc1 x0 x1 x2 x3 x4)) (arg13.view.writes (Elt Ideal) arg13.view.junk (kernelRun0_B.sl.HS2_2 c i arg3 harg3 arg4 harg4 arg5 harg5 arg6 harg6 arg7 harg7 arg8 harg8 arg9 harg9 arg10 harg10 arg11 harg11 arg12 harg12 arg13 harg13 hc1 x0 x1 x2 x3 x4)) (arg13.view.writes (Elt Ideal) arg13.view.junk (kernelRun0_B.sl.HS2_3 c i arg3 harg3 arg4 harg4 arg5 harg5 arg6 harg6 arg7 harg7 arg8 harg8 arg9 harg9 arg10 harg10 arg11 harg11 arg12 harg12 arg13 harg13 hc1 x0 x1 x2 x3 x4)) (arg13.view.writes (Elt Ideal) arg13.view.junk (kernelRun0_B.sl.HS2_4 c i arg3 harg3 arg4 harg4 arg5 harg5 arg6 harg6 arg7 harg7 arg8 harg8 arg9 harg9 arg10 harg10 arg11 harg11 arg12 harg12 arg13 harg13 hc1 x0 x1 x2 x3 x4)) (arg13.view.writes (Elt Ideal) arg13.view.junk (kernelRun0_B.sl.HS2_5 c i arg3 harg3 arg4 harg4 arg5 harg5 arg6 harg6 arg7 harg7 arg8 harg8 arg9 harg9 arg10 harg10 arg11 harg11 arg12 harg12 arg13 harg13 hc1 x0 x1 x2 x3 x4)) (arg13.view.writes (Elt Ideal) arg13.view.junk (kernelRun0_B.sl.HS2_6 c i arg3 harg3 arg4 harg4 arg5 harg5 arg6 harg6 arg7 harg7 arg8 harg8 arg9 harg9 arg10 harg10 arg11 harg11 arg12 harg12 arg13 harg13 hc1 x0 x1 x2 x3 x4)) (arg13.view.writes (Elt Ideal) arg13.view.junk (kernelRun0_B.sl.HS2_7 c i arg3 harg3 arg4 harg4 arg5 harg5 arg6 harg6 arg7 harg7 arg8 harg8 arg9 harg9 arg10 harg10 arg11 harg11 arg12 harg12 arg13 harg13 hc1 x0 x1 x2 x3 x4)) (ldV1 arg6.view (harg6.unread x3) (k0_off16 i) (k0_off16_inb i hc1)) (ldV1 arg6.view (harg6.unread x3) (k0_off17 i) (k0_off17_inb i hc1)) (keyValue x3) v0 v1
      (fun d col h1 h2 => (View.read_writes_junk_apply_eq_canon _ _ _).trans (s0 0 d col (by show 0 ≤ 4 * 0 + col.val / 256; omega))) (fun d col h1 h2 => (View.read_writes_junk_apply_eq_canon _ _ _).trans (s1 0 d col (by show 1 ≤ 4 * 0 + col.val / 256; omega))) (fun d col h1 h2 => (View.read_writes_junk_apply_eq_canon _ _ _).trans (s2 0 d col (by show 2 ≤ 4 * 0 + col.val / 256; omega))) (fun d col h1 h2 => (View.read_writes_junk_apply_eq_canon _ _ _).trans (s3 0 d col (by show 3 ≤ 4 * 0 + col.val / 256; omega))) (fun d col h1 h2 => (View.read_writes_junk_apply_eq_canon _ _ _).trans (s4 1 d col (by show 4 ≤ 4 * 1 + col.val / 256; omega))) (fun d col h1 h2 => (View.read_writes_junk_apply_eq_canon _ _ _).trans (s5 1 d col (by show 5 ≤ 4 * 1 + col.val / 256; omega))) (fun d col h1 h2 => (View.read_writes_junk_apply_eq_canon _ _ _).trans (s6 1 d col (by show 6 ≤ 4 * 1 + col.val / 256; omega))) (fun d col h1 h2 => (View.read_writes_junk_apply_eq_canon _ _ _).trans (s7 1 d col (by show 7 ≤ 4 * 1 + col.val / 256; omega))) _ h d col

end Cert.KernelIdeal.Value
-- ==== Proof.CaseC.lean ====
module

public import proofs.«01_k».proof.Proof.Scores
public import proofs.«01_k».proof.Proof.Gen.KernelIdeal.Frame

@[expose] public section

set_option maxRecDepth 16384

noncomputable section

/-! A query block of even number: far keys in pairs of blocks and one more, then the two near blocks. -/

namespace Cert.KernelIdeal.Value

open Cert.KernelIdeal Cert.KernelIdeal.Gen Idealize.ShloMosaic Idealize.ShloMosaic.TcCoe Idealize.SL.Sem
open Finset (range)

/-- What the loops leave. -/
theorem loops_C (c : Dev nD) (i : grid0.Coords) (arg3 : Memref sig .tc .smem S8 .f32) (harg3 : arg3.IsWhole) (arg4 : Memref sig .tc .vmem S1x512x256 .f32) (harg4 : arg4.IsWhole) (arg5 : Memref sig .tc .vmem S1x4096x256 .bf16) (harg5 : arg5.IsWhole) (arg6 : Memref sig .tc .vmem S1x2x144x4096 .bf16) (harg6 : arg6.IsWhole) (arg7 : Memref sig .tc .vmem S2x2x512x512 .f32) (harg7 : arg7.IsWhole) (arg8 : Memref sig .tc .vmem S4x64 .f32) (harg8 : arg8.IsWhole) (arg9 : Memref sig .tc .vmem S1x128 .f32) (harg9 : arg9.IsWhole) (arg10 : Memref sig .tc .vmem S1x512x256 .bf16) (harg10 : arg10.IsWhole) (arg11 : Memref sig .tc .vmem S2x128x1024 .bf16) (harg11 : arg11.IsWhole) (arg12 : Memref sig .tc .vmem S2x1x1024 .f32) (harg12 : arg12.IsWhole) (arg13 : Memref sig .tc .vmem S2x144x1024 .f32) (harg13 : arg13.IsWhole)
    (hc0 : cond0_0 i) (hc1 : cond0_1 i)
    (x0 : Vec Ideal S8 .f32) (x1 : Vec Ideal S1x512x256 .f32) (x2 : Vec Ideal S1x4096x256 .bf16) (x3 : Vec Ideal S1x2x144x4096 .bf16) (x4 : Vec Ideal S2x2x512x512 .f32)
    (f : Fin 2 → ℝ) (hf0 : kernelRun0_C.sl.r_3 c i arg3 harg3 x0 = (f 0 : EReal)) (hf1 : kernelRun0_C.sl.r_4 c i arg3 harg3 x0 = (f 1 : EReal))
    (hq : (i 2).val % 2 = 0) (hq2 : 2 ≤ (i 2).val) :
    (∀ h col, View.canon (Val := Elt Ideal) (List.tail (kernelRun0_C.sl.HS1_1_1 c i arg3 harg3 arg4 harg4 arg5 harg5 arg6 harg6 arg7 harg7 arg8 harg8 arg9 harg9 arg10 harg10 arg11 harg11 arg12 harg12 arg13 harg13 hc0 x0 x1 x2 x3)) (ix3 h 0 col) = topTo ((keyScore x2 (View.canon (Val := Elt Ideal) (kernelRun0_C.sl.HS0_2 c arg4 harg4 x1 : List (View.Piece (Elt Ideal) S2x128x1024 .bf16))) x4 (i 2).val f) h col) (512 * ((i 2).val - 2)))
    ∧ (∀ h d col, View.canon (Val := Elt Ideal) (List.tail (kernelRun0_C.sl.HS2_1_1 c i arg3 harg3 arg4 harg4 arg5 harg5 arg6 harg6 arg7 harg7 arg8 harg8 arg9 harg9 arg10 harg10 arg11 harg11 arg12 harg12 arg13 harg13 hc0 x0 x1 x2 x3)) (ix3 h d col) = sumTo ((keyScore x2 (View.canon (Val := Elt Ideal) (kernelRun0_C.sl.HS0_2 c arg4 harg4 x1 : List (View.Piece (Elt Ideal) S2x128x1024 .bf16))) x4 (i 2).val f) h col) ((keyValue x3) h d) (512 * ((i 2).val - 2))) := by
  have hi : (i 2).val < 8 := (i 2).isLt
  have ht := trips_pairs i
  have ha : 1024 * (k0_t1_loop i).trips = (512 * ((i 2).val - 2)) := by omega
  have h2 : Scf.trips (k0_t2_loop i).lb (k0_t2_loop i).ub (k0_t2_loop i).st = 0 := trips_rest i
  have hS : ∀ (h : Fin 2) (k : Fin 4096) (col : Fin 1024) (ks : Fin 128 → EReal), k.val < 1024 * (k0_t1_loop i).trips →
      (∀ (d : Fin 128) (e : Fin 256), e.val = 128 * h.val + d.val → ks d = x2 (ix3 0 k e)) →
      (∑ d : Fin 128, ks d * arg11.view.read (Elt Ideal) (arg11.view.writes (Elt Ideal) arg11.view.junk (kernelRun0_C.sl.HS0_2 c arg4 harg4 x1 : List (View.Piece (Elt Ideal) S2x128x1024 .bf16))) (ix3 h d col)) + (f h : EReal) = (keyScore x2 (View.canon (Val := Elt Ideal) (kernelRun0_C.sl.HS0_2 c arg4 harg4 x1 : List (View.Piece (Elt Ideal) S2x128x1024 .bf16))) x4 (i 2).val f) h col k := fun h k col ks hk hks =>
    score_of x2 (View.canon (Val := Elt Ideal) (kernelRun0_C.sl.HS0_2 c arg4 harg4 x1 : List (View.Piece (Elt Ideal) S2x128x1024 .bf16))) x4 (i 2).val f h col k k.isLt ks _ _ hks (fun d => View.read_writes_junk_apply_eq_canon _ _ _) (keyBias_far x4 (i 2).val f h col k (by omega)).symm
  have base := loop_leaves Variants.none c none i arg3 harg3 arg4 harg4 arg5 harg5 arg6 harg6 arg7 harg7 arg8 harg8 arg9 harg9 arg10 harg10 arg11 harg11 arg12 harg12 arg13 harg13 (BitVec.ofNat 32 (i 2).val)
    (kernelRun0_C.sl.r_3 c i arg3 harg3 x0) (kernelRun0_C.sl.r_4 c i arg3 harg3 x0) (kernelRun0_C.sl.v56 i) (kernelRun0_C.sl.v57 i) (kernelRun0_C.sl.v68 i) (kernelRun0_C.sl.v69 i) (0#32) (f 0) (f 1) hf0 hf1
    (harg5.unread x2) (harg6.unread x3) (arg11.view.writes (Elt Ideal) arg11.view.junk (kernelRun0_C.sl.HS0_2 c arg4 harg4 x1 : List (View.Piece (Elt Ideal) S2x128x1024 .bf16))) kernelRun0_C.sl.HS1_1 kernelRun0_C.sl.HS2_1 (keyScore x2 (View.canon (Val := Elt Ideal) (kernelRun0_C.sl.HS0_2 c arg4 harg4 x1 : List (View.Piece (Elt Ideal) S2x128x1024 .bf16))) x4 (i 2).val f) (keyValue x3)
    (fun k col hk => hS 0 k col _ hk (fun d e he => by
      rw [harg5.read_unread]; congr 2; exact Fin.ext (by rw [he]; show 0 + d.val = 128 * 0 + d.val; omega)))
    (fun k col hk => hS 1 k col _ hk (fun d e he => by
      rw [harg5.read_unread]; congr 2; exact Fin.ext (by rw [he]; show 128 + d.val = 128 * 1 + d.val; omega)))
    (fun h d k => by rw [harg6.read_unread]; exact value_of x3 h d k)
    (fun h col => start_max h col _) (fun h d col => start_sum h d col _ _) _ le_rfl
  rw [ha] at base
  constructor
  · intro h col
    refine Eq.trans ?_ (base.1 h col)
    unfold kernelRun0_C.sl.HS1_1_1
    rw [List.tail_cons, h2]
    rfl
  · intro h d col
    refine Eq.trans ?_ (base.2 h d col)
    unfold kernelRun0_C.sl.HS2_1_1
    rw [List.tail_cons, h2]
    rfl

/-- The odd far block taken in. -/
theorem single_C (c : Dev nD) (i : grid0.Coords) (arg3 : Memref sig .tc .smem S8 .f32) (harg3 : arg3.IsWhole) (arg4 : Memref sig .tc .vmem S1x512x256 .f32) (harg4 : arg4.IsWhole) (arg5 : Memref sig .tc .vmem S1x4096x256 .bf16) (harg5 : arg5.IsWhole) (arg6 : Memref sig .tc .vmem S1x2x144x4096 .bf16) (harg6 : arg6.IsWhole) (arg7 : Memref sig .tc .vmem S2x2x512x512 .f32) (harg7 : arg7.IsWhole) (arg8 : Memref sig .tc .vmem S4x64 .f32) (harg8 : arg8.IsWhole) (arg9 : Memref sig .tc .vmem S1x128 .f32) (harg9 : arg9.IsWhole) (arg10 : Memref sig .tc .vmem S1x512x256 .bf16) (harg10 : arg10.IsWhole) (arg11 : Memref sig .tc .vmem S2x128x1024 .bf16) (harg11 : arg11.IsWhole) (arg12 : Memref sig .tc .vmem S2x1x1024 .f32) (harg12 : arg12.IsWhole) (arg13 : Memref sig .tc .vmem S2x144x1024 .f32) (harg13 : arg13.IsWhole)
    (hc0 : cond0_0 i) (hc1 : cond0_1 i)
    (x0 : Vec Ideal S8 .f32) (x1 : Vec Ideal S1x512x256 .f32) (x2 : Vec Ideal S1x4096x256 .bf16) (x3 : Vec Ideal S1x2x144x4096 .bf16) (x4 : Vec Ideal S2x2x512x512 .f32)
    (f : Fin 2 → ℝ) (hf0 : kernelRun0_C.sl.r_3 c i arg3 harg3 x0 = (f 0 : EReal)) (hf1 : kernelRun0_C.sl.r_4 c i arg3 harg3 x0 = (f 1 : EReal))
    (hq : (i 2).val % 2 = 0) (hq2 : 2 ≤ (i 2).val) (h : Fin 2) (d : Fin 144) (col : Fin 1024) :
    View.canon (Val := Elt Ideal) (kernelRun0_C.sl.HS1_8 c i arg3 harg3 arg4 harg4 arg5 harg5 arg6 harg6 arg7 harg7 arg8 harg8 arg9 harg9 arg10 harg10 arg11 harg11 arg12 harg12 arg13 harg13 hc0 x0 x1 x2 x3) (ix3 h 0 col) = topTo ((keyScore x2 (View.canon (Val := Elt Ideal) (kernelRun0_C.sl.HS0_2 c arg4 harg4 x1 : List (View.Piece (Elt Ideal) S2x128x1024 .bf16))) x4 (i 2).val f) h col) (512 * ((i 2).val - 1))
    ∧ View.canon (Val := Elt Ideal) (kernelRun0_C.sl.HS2_8 c i arg3 harg3 arg4 harg4 arg5 harg5 arg6 harg6 arg7 harg7 arg8 harg8 arg9 harg9 arg10 harg10 arg11 harg11 arg12 harg12 arg13 harg13 hc0 x0 x1 x2 x3) (ix3 h d col) = sumTo ((keyScore x2 (View.canon (Val := Elt Ideal) (kernelRun0_C.sl.HS0_2 c arg4 harg4 x1 : List (View.Piece (Elt Ideal) S2x128x1024 .bf16))) x4 (i 2).val f) h col) ((keyValue x3) h d) (512 * ((i 2).val - 1)) := by
  have hi : (i 2).val < 8 := (i 2).isLt
  obtain ⟨lm, la⟩ := loops_C c i arg3 harg3 arg4 harg4 arg5 harg5 arg6 harg6 arg7 harg7 arg8 harg8 arg9 harg9 arg10 harg10 arg11 harg11 arg12 harg12 arg13 harg13 hc0 hc1 x0 x1 x2 x3 x4 f hf0 hf1 hq hq2
  have m0 : ∀ (h : Fin 2) (col : Fin 1024), 0 ≤ 4 * h.val + col.val / 256 → View.canon (Val := Elt Ideal) (List.tail (kernelRun0_C.sl.HS1_1_1 c i arg3 harg3 arg4 harg4 arg5 harg5 arg6 harg6 arg7 harg7 arg8 harg8 arg9 harg9 arg10 harg10 arg11 harg11 arg12 harg12 arg13 harg13 hc0 x0 x1 x2 x3)) (ix3 h 0 col) = topTo ((keyScore x2 (View.canon (Val := Elt Ideal) (kernelRun0_C.sl.HS0_2 c arg4 harg4 x1 : List (View.Piece (Elt Ideal) S2x128x1024 .bf16))) x4 (i 2).val f) h col) (512 * ((i 2).val - 2)) := fun h col _ => lm h col
  have s0 : ∀ (h : Fin 2) (d : Fin 144) (col : Fin 1024), 0 ≤ 4 * h.val + col.val / 256 → View.canon (Val := Elt Ideal) (List.tail (kernelRun0_C.sl.HS2_1_1 c i arg3 harg3 arg4 harg4 arg5 harg5 arg6 harg6 arg7 harg7 arg8 harg8 arg9 harg9 arg10 harg10 arg11 harg11 arg12 harg12 arg13 harg13 hc0 x0 x1 x2 x3)) (ix3 h d col) = sumTo ((keyScore x2 (View.canon (Val := Elt Ideal) (kernelRun0_C.sl.HS0_2 c arg4 harg4 x1 : List (View.Piece (Elt Ideal) S2x128x1024 .bf16))) x4 (i 2).val f) h col) ((keyValue x3) h d) (512 * ((i 2).val - 2)) := fun h d col _ => la h d col
  have m1 : ∀ (h : Fin 2) (col : Fin 1024), 1 ≤ 4 * h.val + col.val / 256 → View.canon (Val := Elt Ideal) (kernelRun0_C.sl.HS1_1_1 c i arg3 harg3 arg4 harg4 arg5 harg5 arg6 harg6 arg7 harg7 arg8 harg8 arg9 harg9 arg10 harg10 arg11 harg11 arg12 harg12 arg13 harg13 hc0 x0 x1 x2 x3) (ix3 h 0 col) = topTo ((keyScore x2 (View.canon (Val := Elt Ideal) (kernelRun0_C.sl.HS0_2 c arg4 harg4 x1 : List (View.Piece (Elt Ideal) S2x128x1024 .bf16))) x4 (i 2).val f) h col) (512 * ((i 2).val - 2)) := fun h col hc =>
    (skipM 0 0 (by decide) _ (List.tail (kernelRun0_C.sl.HS1_1_1 c i arg3 harg3 arg4 harg4 arg5 harg5 arg6 harg6 arg7 harg7 arg8 harg8 arg9 harg9 arg10 harg10 arg11 harg11 arg12 harg12 arg13 harg13 hc0 x0 x1 x2 x3)) h col (by omega)).trans (m0 h col (by omega))
  have s1 : ∀ (h : Fin 2) (d : Fin 144) (col : Fin 1024), 1 ≤ 4 * h.val + col.val / 256 → View.canon (Val := Elt Ideal) (kernelRun0_C.sl.HS2_1_1 c i arg3 harg3 arg4 harg4 arg5 harg5 arg6 harg6 arg7 harg7 arg8 harg8 arg9 harg9 arg10 harg10 arg11 harg11 arg12 harg12 arg13 harg13 hc0 x0 x1 x2 x3) (ix3 h d col) = sumTo ((keyScore x2 (View.canon (Val := Elt Ideal) (kernelRun0_C.sl.HS0_2 c arg4 harg4 x1 : List (View.Piece (Elt Ideal) S2x128x1024 .bf16))) x4 (i 2).val f) h col) ((keyValue x3) h d) (512 * ((i 2).val - 2)) := fun h d col hc =>
    (skipA 0 0 (by decide) _ (List.tail (kernelRun0_C.sl.HS2_1_1 c i arg3 harg3 arg4 harg4 arg5 harg5 arg6 harg6 arg7 harg7 arg8 harg8 arg9 harg9 arg10 harg10 arg11 harg11 arg12 harg12 arg13 harg13 hc0 x0 x1 x2 x3)) h d col (by omega)).trans (s0 h d col (by omega))
  have m2 : ∀ (h : Fin 2) (col : Fin 1024), 2 ≤ 4 * h.val + col.val / 256 → View.canon (Val := Elt Ideal) (kernelRun0_C.sl.HS1_2 c i arg3 harg3 arg4 harg4 arg5 harg5 arg6 harg6 arg7 harg7 arg8 harg8 arg9 harg9 arg10 harg10 arg11 harg11 arg12 harg12 arg13 harg13 hc0 x0 x1 x2 x3) (ix3 h 0 col) = topTo ((keyScore x2 (View.canon (Val := Elt Ideal) (kernelRun0_C.sl.HS0_2 c arg4 harg4 x1 : List (View.Piece (Elt Ideal) S2x128x1024 .bf16))) x4 (i 2).val f) h col) (512 * ((i 2).val - 2)) := fun h col hc =>
    (skipM 0 256 (by decide) _ (kernelRun0_C.sl.HS1_1_1 c i arg3 harg3 arg4 harg4 arg5 harg5 arg6 harg6 arg7 harg7 arg8 harg8 arg9 harg9 arg10 harg10 arg11 harg11 arg12 harg12 arg13 harg13 hc0 x0 x1 x2 x3) h col (by omega)).trans (m1 h col (by omega))
  have s2 : ∀ (h : Fin 2) (d : Fin 144) (col : Fin 1024), 2 ≤ 4 * h.val + col.val / 256 → View.canon (Val := Elt Ideal) (kernelRun0_C.sl.HS2_2 c i arg3 harg3 arg4 harg4 arg5 harg5 arg6 harg6 arg7 harg7 arg8 harg8 arg9 harg9 arg10 harg10 arg11 harg11 arg12 harg12 arg13 harg13 hc0 x0 x1 x2 x3) (ix3 h d col) = sumTo ((keyScore x2 (View.canon (Val := Elt Ideal) (kernelRun0_C.sl.HS0_2 c arg4 harg4 x1 : List (View.Piece (Elt Ideal) S2x128x1024 .bf16))) x4 (i 2).val f) h col) ((keyValue x3) h d) (512 * ((i 2).val - 2)) := fun h d col hc =>
    (skipA 0 256 (by decide) _ (kernelRun0_C.sl.HS2_1_1 c i arg3 harg3 arg4 harg4 arg5 harg5 arg6 harg6 arg7 harg7 arg8 harg8 arg9 harg9 arg10 harg10 arg11 harg11 arg12 harg12 arg13 harg13 hc0 x0 x1 x2 x3) h d col (by omega)).trans (s1 h d col (by omega))
  have m3 : ∀ (h : Fin 2) (col : Fin 1024), 3 ≤ 4 * h.val + col.val / 256 → View.canon (Val := Elt Ideal) (kernelRun0_C.sl.HS1_3 c i arg3 harg3 arg4 harg4 arg5 harg5 arg6 harg6 arg7 harg7 arg8 harg8 arg9 harg9 arg10 harg10 arg11 harg11 arg12 harg12 arg13 harg13 hc0 x0 x1 x2 x3) (ix3 h 0 col) = topTo ((keyScore x2 (View.canon (Val := Elt Ideal) (kernelRun0_C.sl.HS0_2 c arg4 harg4 x1 : List (View.Piece (Elt Ideal) S2x128x1024 .bf16))) x4 (i 2).val f) h col) (512 * ((i 2).val - 2)) := fun h col hc =>
    (skipM 0 512 (by decide) _ (kernelRun0_C.sl.HS1_2 c i arg3 harg3 arg4 harg4 arg5 harg5 arg6 harg6 arg7 harg7 arg8 harg8 arg9 harg9 arg10 harg10 arg11 harg11 arg12 harg12 arg13 harg13 hc0 x0 x1 x2 x3) h col (by omega)).trans (m2 h col (by omega))
  have s3 : ∀ (h : Fin 2) (d : Fin 144) (col : Fin 1024), 3 ≤ 4 * h.val + col.val / 256 → View.canon (Val := Elt Ideal) (kernelRun0_C.sl.HS2_3 c i arg3 harg3 arg4 harg4 arg5 harg5 arg6 harg6 arg7 harg7 arg8 harg8 arg9 harg9 arg10 harg10 arg11 harg11 arg12 harg12 arg13 harg13 hc0 x0 x1 x2 x3) (ix3 h d col) = sumTo ((keyScore x2 (View.canon (Val := Elt Ideal) (kernelRun0_C.sl.HS0_2 c arg4 harg4 x1 : List (View.Piece (Elt Ideal) S2x128x1024 .bf16))) x4 (i 2).val f) h col) ((keyValue x3) h d) (512 * ((i 2).val - 2)) := fun h d col hc =>
    (skipA 0 512 (by decide) _ (kernelRun0_C.sl.HS2_2 c i arg3 harg3 arg4 harg4 arg5 harg5 arg6 harg6 arg7 harg7 arg8 harg8 arg9 harg9 arg10 harg10 arg11 harg11 arg12 harg12 arg13 harg13 hc0 x0 x1 x2 x3) h d col (by omega)).trans (s2 h d col (by omega))
  have m4 : ∀ (h : Fin 2) (col : Fin 1024), 4 ≤ 4 * h.val + col.val / 256 → View.canon (Val := Elt Ideal) (kernelRun0_C.sl.HS1_4 c i arg3 harg3 arg4 harg4 arg5 harg5 arg6 harg6 arg7 harg7 arg8 harg8 arg9 harg9 arg10 harg10 arg11 harg11 arg12 harg12 arg13 harg13 hc0 x0 x1 x2 x3) (ix3 h 0 col) = topTo ((keyScore x2 (View.canon (Val := Elt Ideal) (kernelRun0_C.sl.HS0_2 c arg4 harg4 x1 : List (View.Piece (Elt Ideal) S2x128x1024 .bf16))) x4 (i 2).val f) h col) (512 * ((i 2).val - 2)) := fun h col hc =>
    (skipM 0 768 (by decide) _ (kernelRun0_C.sl.HS1_3 c i arg3 harg3 arg4 harg4 arg5 harg5 arg6 harg6 arg7 harg7 arg8 harg8 arg9 harg9 arg10 harg10 arg11 harg11 arg12 harg12 arg13 harg13 hc0 x0 x1 x2 x3) h col (by omega)).trans (m3 h col (by omega))
  have s4 : ∀ (h : Fin 2) (d : Fin 144) (col : Fin 1024), 4 ≤ 4 * h.val + col.val / 256 → View.canon (Val := Elt Ideal) (kernelRun0_C.sl.HS2_4 c i arg3 harg3 arg4 harg4 arg5 harg5 arg6 harg6 arg7 harg7 arg8 harg8 arg9 harg9 arg10 harg10 arg11 harg11 arg12 harg12 arg13 harg13 hc0 x0 x1 x2 x3) (ix3 h d col) = sumTo ((keyScore x2 (View.canon (Val := Elt Ideal) (kernelRun0_C.sl.HS0_2 c arg4 harg4 x1 : List (View.Piece (Elt Ideal) S2x128x1024 .bf16))) x4 (i 2).val f) h col) ((keyValue x3) h d) (512 * ((i 2).val - 2)) := fun h d col hc =>
    (skipA 0 768 (by decide) _ (kernelRun0_C.sl.HS2_3 c i arg3 harg3 arg4 harg4 arg5 harg5 arg6 harg6 arg7 harg7 arg8 harg8 arg9 harg9 arg10 harg10 arg11 harg11 arg12 harg12 arg13 harg13 hc0 x0 x1 x2 x3) h d col (by omega)).trans (s3 h d col (by omega))
  have m5 : ∀ (h : Fin 2) (col : Fin 1024), 5 ≤ 4 * h.val + col.val / 256 → View.canon (Val := Elt Ideal) (kernelRun0_C.sl.HS1_5 c i arg3 harg3 arg4 harg4 arg5 harg5 arg6 harg6 arg7 harg7 arg8 harg8 arg9 harg9 arg10 harg10 arg11 harg11 arg12 harg12 arg13 harg13 hc0 x0 x1 x2 x3) (ix3 h 0 col) = topTo ((keyScore x2 (View.canon (Val := Elt Ideal) (kernelRun0_C.sl.HS0_2 c arg4 harg4 x1 : List (View.Piece (Elt Ideal) S2x128x1024 .bf16))) x4 (i 2).val f) h col) (512 * ((i 2).val - 2)) := fun h col hc =>
    (skipM 1 0 (by decide) _ (kernelRun0_C.sl.HS1_4 c i arg3 harg3 arg4 harg4 arg5 harg5 arg6 harg6 arg7 harg7 arg8 harg8 arg9 harg9 arg10 harg10 arg11 harg11 arg12 harg12 arg13 harg13 hc0 x0 x1 x2 x3) h col (by omega)).trans (m4 h col (by omega))
  have s5 : ∀ (h : Fin 2) (d : Fin 144) (col : Fin 1024), 5 ≤ 4 * h.val + col.val / 256 → View.canon (Val := Elt Ideal) (kernelRun0_C.sl.HS2_5 c i arg3 harg3 arg4 harg4 arg5 harg5 arg6 harg6 arg7 harg7 arg8 harg8 arg9 harg9 arg10 harg10 arg11 harg11 arg12 harg12 arg13 harg13 hc0 x0 x1 x2 x3) (ix3 h d col) = sumTo ((keyScore x2 (View.canon (Val := Elt Ideal) (kernelRun0_C.sl.HS0_2 c arg4 harg4 x1 : List (View.Piece (Elt Ideal) S2x128x1024 .bf16))) x4 (i 2).val f) h col) ((keyValue x3) h d) (512 * ((i 2).val - 2)) := fun h d col hc =>
    (skipA 1 0 (by decide) _ (kernelRun0_C.sl.HS2_4 c i arg3 harg3 arg4 harg4 arg5 harg5 arg6 harg6 arg7 harg7 arg8 harg8 arg9 harg9 arg10 harg10 arg11 harg11 arg12 harg12 arg13 harg13 hc0 x0 x1 x2 x3) h d col (by omega)).trans (s4 h d col (by omega))
  have m6 : ∀ (h : Fin 2) (col : Fin 1024), 6 ≤ 4 * h.val + col.val / 256 → View.canon (Val := Elt Ideal) (kernelRun0_C.sl.HS1_6 c i arg3 harg3 arg4 harg4 arg5 harg5 arg6 harg6 arg7 harg7 arg8 harg8 arg9 harg9 arg10 harg10 arg11 harg11 arg12 harg12 arg13 harg13 hc0 x0 x1 x2 x3) (ix3 h 0 col) = topTo ((keyScore x2 (View.canon (Val := Elt Ideal) (kernelRun0_C.sl.HS0_2 c arg4 harg4 x1 : List (View.Piece (Elt Ideal) S2x128x1024 .bf16))) x4 (i 2).val f) h col) (512 * ((i 2).val - 2)) := fun h col hc =>
    (skipM 1 256 (by decide) _ (kernelRun0_C.sl.HS1_5 c i arg3 harg3 arg4 harg4 arg5 harg5 arg6 harg6 arg7 harg7 arg8 harg8 arg9 harg9 arg10 harg10 arg11 harg11 arg12 harg12 arg13 harg13 hc0 x0 x1 x2 x3) h col (by omega)).trans (m5 h col (by omega))
  have s6 : ∀ (h : Fin 2) (d : Fin 144) (col : Fin 1024), 6 ≤ 4 * h.val + col.val / 256 → View.canon (Val := Elt Ideal) (kernelRun0_C.sl.HS2_6 c i arg3 harg3 arg4 harg4 arg5 harg5 arg6 harg6 arg7 harg7 arg8 harg8 arg9 harg9 arg10 harg10 arg11 harg11 arg12 harg12 arg13 harg13 hc0 x0 x1 x2 x3) (ix3 h d col) = sumTo ((keyScore x2 (View.canon (Val := Elt Ideal) (kernelRun0_C.sl.HS0_2 c arg4 harg4 x1 : List (View.Piece (Elt Ideal) S2x128x1024 .bf16))) x4 (i 2).val f) h col) ((keyValue x3) h d) (512 * ((i 2).val - 2)) := fun h d col hc =>
    (skipA 1 256 (by decide) _ (kernelRun0_C.sl.HS2_5 c i arg3 harg3 arg4 harg4 arg5 harg5 arg6 harg6 arg7 harg7 arg8 harg8 arg9 harg9 arg10 harg10 arg11 harg11 arg12 harg12 arg13 harg13 hc0 x0 x1 x2 x3) h d col (by omega)).trans (s5 h d col (by omega))
  have m7 : ∀ (h : Fin 2) (col : Fin 1024), 7 ≤ 4 * h.val + col.val / 256 → View.canon (Val := Elt Ideal) (kernelRun0_C.sl.HS1_7 c i arg3 harg3 arg4 harg4 arg5 harg5 arg6 harg6 arg7 harg7 arg8 harg8 arg9 harg9 arg10 harg10 arg11 harg11 arg12 harg12 arg13 harg13 hc0 x0 x1 x2 x3) (ix3 h 0 col) = topTo ((keyScore x2 (View.canon (Val := Elt Ideal) (kernelRun0_C.sl.HS0_2 c arg4 harg4 x1 : List (View.Piece (Elt Ideal) S2x128x1024 .bf16))) x4 (i 2).val f) h col) (512 * ((i 2).val - 2)) := fun h col hc =>
    (skipM 1 512 (by decide) _ (kernelRun0_C.sl.HS1_6 c i arg3 harg3 arg4 harg4 arg5 harg5 arg6 harg6 arg7 harg7 arg8 harg8 arg9 harg9 arg10 harg10 arg11 harg11 arg12 harg12 arg13 harg13 hc0 x0 x1 x2 x3) h col (by omega)).trans (m6 h col (by omega))
  have s7 : ∀ (h : Fin 2) (d : Fin 144) (col : Fin 1024), 7 ≤ 4 * h.val + col.val / 256 → View.canon (Val := Elt Ideal) (kernelRun0_C.sl.HS2_7 c i arg3 harg3 arg4 harg4 arg5 harg5 arg6 harg6 arg7 harg7 arg8 harg8 arg9 harg9 arg10 harg10 arg11 harg11 arg12 harg12 arg13 harg13 hc0 x0 x1 x2 x3) (ix3 h d col) = sumTo ((keyScore x2 (View.canon (Val := Elt Ideal) (kernelRun0_C.sl.HS0_2 c arg4 harg4 x1 : List (View.Piece (Elt Ideal) S2x128x1024 .bf16))) x4 (i 2).val f) h col) ((keyValue x3) h d) (512 * ((i 2).val - 2)) := fun h d col hc =>
    (skipA 1 512 (by decide) _ (kernelRun0_C.sl.HS2_6 c i arg3 harg3 arg4 harg4 arg5 harg5 arg6 harg6 arg7 harg7 arg8 harg8 arg9 harg9 arg10 harg10 arg11 harg11 arg12 harg12 arg13 harg13 hc0 x0 x1 x2 x3) h d col (by omega)).trans (s6 h d col (by omega))
  have c0 : ∀ (k : Fin 512) (col : Fin 1024), (∑ d : Fin 128, ldK5 arg5.view (harg5.unread x2) (k0_off10 i) (k0_off10_inb i hc0) (ix3 0 k d) * arg11.view.read (Elt Ideal) (arg11.view.writes (Elt Ideal) arg11.view.junk (kernelRun0_C.sl.HS0_2 c arg4 harg4 x1 : List (View.Piece (Elt Ideal) S2x128x1024 .bf16))) (ix3 0 d col)) + (f 0 : EReal) = (keyScore x2 (View.canon (Val := Elt Ideal) (kernelRun0_C.sl.HS0_2 c arg4 harg4 x1 : List (View.Piece (Elt Ideal) S2x128x1024 .bf16))) x4 (i 2).val f) 0 col ((512 * ((i 2).val - 2)) + k.val) := fun k col =>
    score_of x2 (View.canon (Val := Elt Ideal) (kernelRun0_C.sl.HS0_2 c arg4 harg4 x1 : List (View.Piece (Elt Ideal) S2x128x1024 .bf16))) x4 (i 2).val f 0 col ((512 * ((i 2).val - 2)) + k.val) (by omega) _ _ _
      (fun d e he => (ldK5_at arg5.view (harg5.unread x2) (k0_off10 i) (k0_off10_inb i hc0) k d ⟨(512 * ((i 2).val - 2)) + k.val, by omega⟩ e (by rw [off10_eq i hq2]; rfl) (by rw [off10_eq i hq2]; rfl) (by rw [off10_eq i hq2, he]; rfl)).trans (by rw [harg5.read_unread]))
      (fun d => View.read_writes_junk_apply_eq_canon _ _ _) (keyBias_far x4 (i 2).val f 0 col ((512 * ((i 2).val - 2)) + k.val) (by omega)).symm
  have v0 : ∀ (d : Fin 144) (k : Fin 512), ldV5 arg6.view (harg6.unread x3) (k0_off12 i) (k0_off12_inb i hc0) (ix4 0 0 d k) = (keyValue x3) 0 d ((512 * ((i 2).val - 2)) + k.val) := fun d k =>
    (ldV5_at arg6.view (harg6.unread x3) (k0_off12 i) (k0_off12_inb i hc0) d k 0 ⟨(512 * ((i 2).val - 2)) + k.val, by omega⟩ (by rw [off12_eq i hq2]; rfl) (by rw [off12_eq i hq2]; rfl) (by rw [off12_eq i hq2]; rfl) (by rw [off12_eq i hq2]; rfl)).trans (by
      rw [harg6.read_unread]; exact value_of x3 0 d ⟨(512 * ((i 2).val - 2)) + k.val, by omega⟩)
  have c1 : ∀ (k : Fin 512) (col : Fin 1024), (∑ d : Fin 128, ldK5 arg5.view (harg5.unread x2) (k0_off11 i) (k0_off11_inb i hc0) (ix3 0 k d) * arg11.view.read (Elt Ideal) (arg11.view.writes (Elt Ideal) arg11.view.junk (kernelRun0_C.sl.HS0_2 c arg4 harg4 x1 : List (View.Piece (Elt Ideal) S2x128x1024 .bf16))) (ix3 1 d col)) + (f 1 : EReal) = (keyScore x2 (View.canon (Val := Elt Ideal) (kernelRun0_C.sl.HS0_2 c arg4 harg4 x1 : List (View.Piece (Elt Ideal) S2x128x1024 .bf16))) x4 (i 2).val f) 1 col ((512 * ((i 2).val - 2)) + k.val) := fun k col =>
    score_of x2 (View.canon (Val := Elt Ideal) (kernelRun0_C.sl.HS0_2 c arg4 harg4 x1 : List (View.Piece (Elt Ideal) S2x128x1024 .bf16))) x4 (i 2).val f 1 col ((512 * ((i 2).val - 2)) + k.val) (by omega) _ _ _
      (fun d e he => (ldK5_at arg5.view (harg5.unread x2) (k0_off11 i) (k0_off11_inb i hc0) k d ⟨(512 * ((i 2).val - 2)) + k.val, by omega⟩ e (by rw [off11_eq i hq2]; rfl) (by rw [off11_eq i hq2]; rfl) (by rw [off11_eq i hq2, he]; rfl)).trans (by rw [harg5.read_unread]))
      (fun d => View.read_writes_junk_apply_eq_canon _ _ _) (keyBias_far x4 (i 2).val f 1 col ((512 * ((i 2).val - 2)) + k.val) (by omega)).symm
  have v1 : ∀ (d : Fin 144) (k : Fin 512), ldV5 arg6.view (harg6.unread x3) (k0_off13 i) (k0_off13_inb i hc0) (ix4 0 0 d k) = (keyValue x3) 1 d ((512 * ((i 2).val - 2)) + k.val) := fun d k =>
    (ldV5_at arg6.view (harg6.unread x3) (k0_off13 i) (k0_off13_inb i hc0) d k 1 ⟨(512 * ((i 2).val - 2)) + k.val, by omega⟩ (by rw [off13_eq i hq2]; rfl) (by rw [off13_eq i hq2]; rfl) (by rw [off13_eq i hq2]; rfl) (by rw [off13_eq i hq2]; rfl)).trans (by
      rw [harg6.read_unread]; exact value_of x3 1 d ⟨(512 * ((i 2).val - 2)) + k.val, by omega⟩)
  have hn : (512 * ((i 2).val - 1)) = (512 * ((i 2).val - 2)) + 512 := by omega
  rw [hn]
  constructor
  · have e := far5_maxima arg11.view (arg11.view.writes (Elt Ideal) arg11.view.junk (kernelRun0_C.sl.HS0_2 c arg4 harg4 x1 : List (View.Piece (Elt Ideal) S2x128x1024 .bf16))) arg12.view (arg12.view.writes (Elt Ideal) arg12.view.junk (List.tail (kernelRun0_C.sl.HS1_1_1 c i arg3 harg3 arg4 harg4 arg5 harg5 arg6 harg6 arg7 harg7 arg8 harg8 arg9 harg9 arg10 harg10 arg11 harg11 arg12 harg12 arg13 harg13 hc0 x0 x1 x2 x3))) (arg12.view.writes (Elt Ideal) arg12.view.junk (kernelRun0_C.sl.HS1_1_1 c i arg3 harg3 arg4 harg4 arg5 harg5 arg6 harg6 arg7 harg7 arg8 harg8 arg9 harg9 arg10 harg10 arg11 harg11 arg12 harg12 arg13 harg13 hc0 x0 x1 x2 x3)) (arg12.view.writes (Elt Ideal) arg12.view.junk (kernelRun0_C.sl.HS1_2 c i arg3 harg3 arg4 harg4 arg5 harg5 arg6 harg6 arg7 harg7 arg8 harg8 arg9 harg9 arg10 harg10 arg11 harg11 arg12 harg12 arg13 harg13 hc0 x0 x1 x2 x3)) (arg12.view.writes (Elt Ideal) arg12.view.junk (kernelRun0_C.sl.HS1_3 c i arg3 harg3 arg4 harg4 arg5 harg5 arg6 harg6 arg7 harg7 arg8 harg8 arg9 harg9 arg10 harg10 arg11 harg11 arg12 harg12 arg13 harg13 hc0 x0 x1 x2 x3)) (arg12.view.writes (Elt Ideal) arg12.view.junk (kernelRun0_C.sl.HS1_4 c i arg3 harg3 arg4 harg4 arg5 harg5 arg6 harg6 arg7 harg7 arg8 harg8 arg9 harg9 arg10 harg10 arg11 harg11 arg12 harg12 arg13 harg13 hc0 x0 x1 x2 x3)) (arg12.view.writes (Elt Ideal) arg12.view.junk (kernelRun0_C.sl.HS1_5 c i arg3 harg3 arg4 harg4 arg5 harg5 arg6 harg6 arg7 harg7 arg8 harg8 arg9 harg9 arg10 harg10 arg11 harg11 arg12 harg12 arg13 harg13 hc0 x0 x1 x2 x3)) (arg12.view.writes (Elt Ideal) arg12.view.junk (kernelRun0_C.sl.HS1_6 c i arg3 harg3 arg4 harg4 arg5 harg5 arg6 harg6 arg7 harg7 arg8 harg8 arg9 harg9 arg10 harg10 arg11 harg11 arg12 harg12 arg13 harg13 hc0 x0 x1 x2 x3)) (arg12.view.writes (Elt Ideal) arg12.view.junk (kernelRun0_C.sl.HS1_7 c i arg3 harg3 arg4 harg4 arg5 harg5 arg6 harg6 arg7 harg7 arg8 harg8 arg9 harg9 arg10 harg10 arg11 harg11 arg12 harg12 arg13 harg13 hc0 x0 x1 x2 x3)) (ldK5 arg5.view (harg5.unread x2) (k0_off10 i) (k0_off10_inb i hc0)) (ldK5 arg5.view (harg5.unread x2) (k0_off11 i) (k0_off11_inb i hc0)) (f 0) (f 1) (512 * ((i 2).val - 2)) (keyScore x2 (View.canon (Val := Elt Ideal) (kernelRun0_C.sl.HS0_2 c arg4 harg4 x1 : List (View.Piece (Elt Ideal) S2x128x1024 .bf16))) x4 (i 2).val f) c0 c1
      (fun col h1 h2 => (View.read_writes_junk_apply_eq_canon _ _ _).trans (m0 0 col (by show 0 ≤ 4 * 0 + col.val / 256; omega))) (fun col h1 h2 => (View.read_writes_junk_apply_eq_canon _ _ _).trans (m1 0 col (by show 1 ≤ 4 * 0 + col.val / 256; omega))) (fun col h1 h2 => (View.read_writes_junk_apply_eq_canon _ _ _).trans (m2 0 col (by show 2 ≤ 4 * 0 + col.val / 256; omega))) (fun col h1 h2 => (View.read_writes_junk_apply_eq_canon _ _ _).trans (m3 0 col (by show 3 ≤ 4 * 0 + col.val / 256; omega))) (fun col h1 h2 => (View.read_writes_junk_apply_eq_canon _ _ _).trans (m4 1 col (by show 4 ≤ 4 * 1 + col.val / 256; omega))) (fun col h1 h2 => (View.read_writes_junk_apply_eq_canon _ _ _).trans (m5 1 col (by show 5 ≤ 4 * 1 + col.val / 256; omega))) (fun col h1 h2 => (View.read_writes_junk_apply_eq_canon _ _ _).trans (m6 1 col (by show 6 ≤ 4 * 1 + col.val / 256; omega))) (fun col h1 h2 => (View.read_writes_junk_apply_eq_canon _ _ _).trans (m7 1 col (by show 7 ≤ 4 * 1 + col.val / 256; omega))) (List.tail (kernelRun0_C.sl.HS1_1_1 c i arg3 harg3 arg4 harg4 arg5 harg5 arg6 harg6 arg7 harg7 arg8 harg8 arg9 harg9 arg10 harg10 arg11 harg11 arg12 harg12 arg13 harg13 hc0 x0 x1 x2 x3)) h col
    rw [← hf0, ← hf1] at e
    exact e
  · have e := far5_sums arg11.view (arg11.view.writes (Elt Ideal) arg11.view.junk (kernelRun0_C.sl.HS0_2 c arg4 harg4 x1 : List (View.Piece (Elt Ideal) S2x128x1024 .bf16))) arg12.view (arg12.view.writes (Elt Ideal) arg12.view.junk (List.tail (kernelRun0_C.sl.HS1_1_1 c i arg3 harg3 arg4 harg4 arg5 harg5 arg6 harg6 arg7 harg7 arg8 harg8 arg9 harg9 arg10 harg10 arg11 harg11 arg12 harg12 arg13 harg13 hc0 x0 x1 x2 x3))) (arg12.view.writes (Elt Ideal) arg12.view.junk (kernelRun0_C.sl.HS1_1_1 c i arg3 harg3 arg4 harg4 arg5 harg5 arg6 harg6 arg7 harg7 arg8 harg8 arg9 harg9 arg10 harg10 arg11 harg11 arg12 harg12 arg13 harg13 hc0 x0 x1 x2 x3)) (arg12.view.writes (Elt Ideal) arg12.view.junk (kernelRun0_C.sl.HS1_2 c i arg3 harg3 arg4 harg4 arg5 harg5 arg6 harg6 arg7 harg7 arg8 harg8 arg9 harg9 arg10 harg10 arg11 harg11 arg12 harg12 arg13 harg13 hc0 x0 x1 x2 x3)) (arg12.view.writes (Elt Ideal) arg12.view.junk (kernelRun0_C.sl.HS1_3 c i arg3 harg3 arg4 harg4 arg5 harg5 arg6 harg6 arg7 harg7 arg8 harg8 arg9 harg9 arg10 harg10 arg11 harg11 arg12 harg12 arg13 harg13 hc0 x0 x1 x2 x3)) (arg12.view.writes (Elt Ideal) arg12.view.junk (kernelRun0_C.sl.HS1_4 c i arg3 harg3 arg4 harg4 arg5 harg5 arg6 harg6 arg7 harg7 arg8 harg8 arg9 harg9 arg10 harg10 arg11 harg11 arg12 harg12 arg13 harg13 hc0 x0 x1 x2 x3)) (arg12.view.writes (Elt Ideal) arg12.view.junk (kernelRun0_C.sl.HS1_5 c i arg3 harg3 arg4 harg4 arg5 harg5 arg6 harg6 arg7 harg7 arg8 harg8 arg9 harg9 arg10 harg10 arg11 harg11 arg12 harg12 arg13 harg13 hc0 x0 x1 x2 x3)) (arg12.view.writes (Elt Ideal) arg12.view.junk (kernelRun0_C.sl.HS1_6 c i arg3 harg3 arg4 harg4 arg5 harg5 arg6 harg6 arg7 harg7 arg8 harg8 arg9 harg9 arg10 harg10 arg11 harg11 arg12 harg12 arg13 harg13 hc0 x0 x1 x2 x3)) (arg12.view.writes (Elt Ideal) arg12.view.junk (kernelRun0_C.sl.HS1_7 c i arg3 harg3 arg4 harg4 arg5 harg5 arg6 harg6 arg7 harg7 arg8 harg8 arg9 harg9 arg10 harg10 arg11 harg11 arg12 harg12 arg13 harg13 hc0 x0 x1 x2 x3)) (ldK5 arg5.view (harg5.unread x2) (k0_off10 i) (k0_off10_inb i hc0)) (ldK5 arg5.view (harg5.unread x2) (k0_off11 i) (k0_off11_inb i hc0)) (f 0) (f 1) (512 * ((i 2).val - 2)) (keyScore x2 (View.canon (Val := Elt Ideal) (kernelRun0_C.sl.HS0_2 c arg4 harg4 x1 : List (View.Piece (Elt Ideal) S2x128x1024 .bf16))) x4 (i 2).val f) c0 c1
      (fun col h1 h2 => (View.read_writes_junk_apply_eq_canon _ _ _).trans (m0 0 col (by show 0 ≤ 4 * 0 + col.val / 256; omega))) (fun col h1 h2 => (View.read_writes_junk_apply_eq_canon _ _ _).trans (m1 0 col (by show 1 ≤ 4 * 0 + col.val / 256; omega))) (fun col h1 h2 => (View.read_writes_junk_apply_eq_canon _ _ _).trans (m2 0 col (by show 2 ≤ 4 * 0 + col.val / 256; omega))) (fun col h1 h2 => (View.read_writes_junk_apply_eq_canon _ _ _).trans (m3 0 col (by show 3 ≤ 4 * 0 + col.val / 256; omega))) (fun col h1 h2 => (View.read_writes_junk_apply_eq_canon _ _ _).trans (m4 1 col (by show 4 ≤ 4 * 1 + col.val / 256; omega))) (fun col h1 h2 => (View.read_writes_junk_apply_eq_canon _ _ _).trans (m5 1 col (by show 5 ≤ 4 * 1 + col.val / 256; omega))) (fun col h1 h2 => (View.read_writes_junk_apply_eq_canon _ _ _).trans (m6 1 col (by show 6 ≤ 4 * 1 + col.val / 256; omega))) (fun col h1 h2 => (View.read_writes_junk_apply_eq_canon _ _ _).trans (m7 1 col (by show 7 ≤ 4 * 1 + col.val / 256; omega)))
      arg13.view (arg13.view.writes (Elt Ideal) arg13.view.junk (List.tail (kernelRun0_C.sl.HS2_1_1 c i arg3 harg3 arg4 harg4 arg5 harg5 arg6 harg6 arg7 harg7 arg8 harg8 arg9 harg9 arg10 harg10 arg11 harg11 arg12 harg12 arg13 harg13 hc0 x0 x1 x2 x3))) (arg13.view.writes (Elt Ideal) arg13.view.junk (kernelRun0_C.sl.HS2_1_1 c i arg3 harg3 arg4 harg4 arg5 harg5 arg6 harg6 arg7 harg7 arg8 harg8 arg9 harg9 arg10 harg10 arg11 harg11 arg12 harg12 arg13 harg13 hc0 x0 x1 x2 x3)) (arg13.view.writes (Elt Ideal) arg13.view.junk (kernelRun0_C.sl.HS2_2 c i arg3 harg3 arg4 harg4 arg5 harg5 arg6 harg6 arg7 harg7 arg8 harg8 arg9 harg9 arg10 harg10 arg11 harg11 arg12 harg12 arg13 harg13 hc0 x0 x1 x2 x3)) (arg13.view.writes (Elt Ideal) arg13.view.junk (kernelRun0_C.sl.HS2_3 c i arg3 harg3 arg4 harg4 arg5 harg5 arg6 harg6 arg7 harg7 arg8 harg8 arg9 harg9 arg10 harg10 arg11 harg11 arg12 harg12 arg13 harg13 hc0 x0 x1 x2 x3)) (arg13.view.writes (Elt Ideal) arg13.view.junk (kernelRun0_C.sl.HS2_4 c i arg3 harg3 arg4 harg4 arg5 harg5 arg6 harg6 arg7 harg7 arg8 harg8 arg9 harg9 arg10 harg10 arg11 harg11 arg12 harg12 arg13 harg13 hc0 x0 x1 x2 x3)) (arg13.view.writes (Elt Ideal) arg13.view.junk (kernelRun0_C.sl.HS2_5 c i arg3 harg3 arg4 harg4 arg5 harg5 arg6 harg6 arg7 harg7 arg8 harg8 arg9 harg9 arg10 harg10 arg11 harg11 arg12 harg12 arg13 harg13 hc0 x0 x1 x2 x3)) (arg13.view.writes (Elt Ideal) arg13.view.junk (kernelRun0_C.sl.HS2_6 c i arg3 harg3 arg4 harg4 arg5 harg5 arg6 harg6 arg7 harg7 arg8 harg8 arg9 harg9 arg10 harg10 arg11 harg11 arg12 harg12 arg13 harg13 hc0 x0 x1 x2 x3)) (arg13.view.writes (Elt Ideal) arg13.view.junk (kernelRun0_C.sl.HS2_7 c i arg3 harg3 arg4 harg4 arg5 harg5 arg6 harg6 arg7 harg7 arg8 harg8 arg9 harg9 arg10 harg10 arg11 harg11 arg12 harg12 arg13 harg13 hc0 x0 x1 x2 x3)) (ldV5 arg6.view (harg6.unread x3) (k0_off12 i) (k0_off12_inb i hc0)) (ldV5 arg6.view (harg6.unread x3) (k0_off13 i) (k0_off13_inb i hc0)) (keyValue x3) v0 v1
      (fun d col h1 h2 => (View.read_writes_junk_apply_eq_canon _ _ _).trans (s0 0 d col (by show 0 ≤ 4 * 0 + col.val / 256; omega))) (fun d col h1 h2 => (View.read_writes_junk_apply_eq_canon _ _ _).trans (s1 0 d col (by show 1 ≤ 4 * 0 + col.val / 256; omega))) (fun d col h1 h2 => (View.read_writes_junk_apply_eq_canon _ _ _).trans (s2 0 d col (by show 2 ≤ 4 * 0 + col.val / 256; omega))) (fun d col h1 h2 => (View.read_writes_junk_apply_eq_canon _ _ _).trans (s3 0 d col (by show 3 ≤ 4 * 0 + col.val / 256; omega))) (fun d col h1 h2 => (View.read_writes_junk_apply_eq_canon _ _ _).trans (s4 1 d col (by show 4 ≤ 4 * 1 + col.val / 256; omega))) (fun d col h1 h2 => (View.read_writes_junk_apply_eq_canon _ _ _).trans (s5 1 d col (by show 5 ≤ 4 * 1 + col.val / 256; omega))) (fun d col h1 h2 => (View.read_writes_junk_apply_eq_canon _ _ _).trans (s6 1 d col (by show 6 ≤ 4 * 1 + col.val / 256; omega))) (fun d col h1 h2 => (View.read_writes_junk_apply_eq_canon _ _ _).trans (s7 1 d col (by show 7 ≤ 4 * 1 + col.val / 256; omega))) (List.tail (kernelRun0_C.sl.HS2_1_1 c i arg3 harg3 arg4 harg4 arg5 harg5 arg6 harg6 arg7 harg7 arg8 harg8 arg9 harg9 arg10 harg10 arg11 harg11 arg12 harg12 arg13 harg13 hc0 x0 x1 x2 x3)) h d col
    rw [← hf0, ← hf1] at e
    exact e

/-- All keys taken in. -/
theorem sums_C (c : Dev nD) (i : grid0.Coords) (arg3 : Memref sig .tc .smem S8 .f32) (harg3 : arg3.IsWhole) (arg4 : Memref sig .tc .vmem S1x512x256 .f32) (harg4 : arg4.IsWhole) (arg5 : Memref sig .tc .vmem S1x4096x256 .bf16) (harg5 : arg5.IsWhole) (arg6 : Memref sig .tc .vmem S1x2x144x4096 .bf16) (harg6 : arg6.IsWhole) (arg7 : Memref sig .tc .vmem S2x2x512x512 .f32) (harg7 : arg7.IsWhole) (arg8 : Memref sig .tc .vmem S4x64 .f32) (harg8 : arg8.IsWhole) (arg9 : Memref sig .tc .vmem S1x128 .f32) (harg9 : arg9.IsWhole) (arg10 : Memref sig .tc .vmem S1x512x256 .bf16) (harg10 : arg10.IsWhole) (arg11 : Memref sig .tc .vmem S2x128x1024 .bf16) (harg11 : arg11.IsWhole) (arg12 : Memref sig .tc .vmem S2x1x1024 .f32) (harg12 : arg12.IsWhole) (arg13 : Memref sig .tc .vmem S2x144x1024 .f32) (harg13 : arg13.IsWhole)
    (hc0 : cond0_0 i) (hc1 : cond0_1 i)
    (x0 : Vec Ideal S8 .f32) (x1 : Vec Ideal S1x512x256 .f32) (x2 : Vec Ideal S1x4096x256 .bf16) (x3 : Vec Ideal S1x2x144x4096 .bf16) (x4 : Vec Ideal S2x2x512x512 .f32)
    (f : Fin 2 → ℝ) (hf0 : kernelRun0_C.sl.r_3 c i arg3 harg3 x0 = (f 0 : EReal)) (hf1 : kernelRun0_C.sl.r_4 c i arg3 harg3 x0 = (f 1 : EReal))
    (hq : (i 2).val % 2 = 0) (hq2 : 2 ≤ (i 2).val) (h : Fin 2) (d : Fin 144) (col : Fin 1024) :
    View.canon (Val := Elt Ideal) (kernelRun0_C.sl.HS2_16 c i arg3 harg3 arg4 harg4 arg5 harg5 arg6 harg6 arg7 harg7 arg8 harg8 arg9 harg9 arg10 harg10 arg11 harg11 arg12 harg12 arg13 harg13 hc0 hc1 x0 x1 x2 x3 x4) (ix3 h d col) = sumTo ((keyScore x2 (View.canon (Val := Elt Ideal) (kernelRun0_C.sl.HS0_2 c arg4 harg4 x1 : List (View.Piece (Elt Ideal) S2x128x1024 .bf16))) x4 (i 2).val f) h col) ((keyValue x3) h d) (512 * ((i 2).val + 1)) := by
  have hi : (i 2).val < 8 := (i 2).isLt
  have m0 : ∀ (h : Fin 2) (col : Fin 1024), 0 ≤ 4 * h.val + col.val / 256 → View.canon (Val := Elt Ideal) (kernelRun0_C.sl.HS1_8 c i arg3 harg3 arg4 harg4 arg5 harg5 arg6 harg6 arg7 harg7 arg8 harg8 arg9 harg9 arg10 harg10 arg11 harg11 arg12 harg12 arg13 harg13 hc0 x0 x1 x2 x3) (ix3 h 0 col) = topTo ((keyScore x2 (View.canon (Val := Elt Ideal) (kernelRun0_C.sl.HS0_2 c arg4 harg4 x1 : List (View.Piece (Elt Ideal) S2x128x1024 .bf16))) x4 (i 2).val f) h col) (512 * ((i 2).val - 1)) := fun h col _ => (single_C c i arg3 harg3 arg4 harg4 arg5 harg5 arg6 harg6 arg7 harg7 arg8 harg8 arg9 harg9 arg10 harg10 arg11 harg11 arg12 harg12 arg13 harg13 hc0 hc1 x0 x1 x2 x3 x4 f hf0 hf1 hq hq2 h 0 col).1
  have s0 : ∀ (h : Fin 2) (d : Fin 144) (col : Fin 1024), 0 ≤ 4 * h.val + col.val / 256 → View.canon (Val := Elt Ideal) (kernelRun0_C.sl.HS2_8 c i arg3 harg3 arg4 harg4 arg5 harg5 arg6 harg6 arg7 harg7 arg8 harg8 arg9 harg9 arg10 harg10 arg11 harg11 arg12 harg12 arg13 harg13 hc0 x0 x1 x2 x3) (ix3 h d col) = sumTo ((keyScore x2 (View.canon (Val := Elt Ideal) (kernelRun0_C.sl.HS0_2 c arg4 harg4 x1 : List (View.Piece (Elt Ideal) S2x128x1024 .bf16))) x4 (i 2).val f) h col) ((keyValue x3) h d) (512 * ((i 2).val - 1)) := fun h d col _ => (single_C c i arg3 harg3 arg4 harg4 arg5 harg5 arg6 harg6 arg7 harg7 arg8 harg8 arg9 harg9 arg10 harg10 arg11 harg11 arg12 harg12 arg13 harg13 hc0 hc1 x0 x1 x2 x3 x4 f hf0 hf1 hq hq2 h d col).2
  have m1 : ∀ (h : Fin 2) (col : Fin 1024), 1 ≤ 4 * h.val + col.val / 256 → View.canon (Val := Elt Ideal) (kernelRun0_C.sl.HS1_9 c i arg3 harg3 arg4 harg4 arg5 harg5 arg6 harg6 arg7 harg7 arg8 harg8 arg9 harg9 arg10 harg10 arg11 harg11 arg12 harg12 arg13 harg13 hc0 hc1 x0 x1 x2 x3 x4) (ix3 h 0 col) = topTo ((keyScore x2 (View.canon (Val := Elt Ideal) (kernelRun0_C.sl.HS0_2 c arg4 harg4 x1 : List (View.Piece (Elt Ideal) S2x128x1024 .bf16))) x4 (i 2).val f) h col) (512 * ((i 2).val - 1)) := fun h col hc =>
    (skipM 0 0 (by decide) _ (kernelRun0_C.sl.HS1_8 c i arg3 harg3 arg4 harg4 arg5 harg5 arg6 harg6 arg7 harg7 arg8 harg8 arg9 harg9 arg10 harg10 arg11 harg11 arg12 harg12 arg13 harg13 hc0 x0 x1 x2 x3) h col (by omega)).trans (m0 h col (by omega))
  have s1 : ∀ (h : Fin 2) (d : Fin 144) (col : Fin 1024), 1 ≤ 4 * h.val + col.val / 256 → View.canon (Val := Elt Ideal) (kernelRun0_C.sl.HS2_9 c i arg3 harg3 arg4 harg4 arg5 harg5 arg6 harg6 arg7 harg7 arg8 harg8 arg9 harg9 arg10 harg10 arg11 harg11 arg12 harg12 arg13 harg13 hc0 hc1 x0 x1 x2 x3 x4) (ix3 h d col) = sumTo ((keyScore x2 (View.canon (Val := Elt Ideal) (kernelRun0_C.sl.HS0_2 c arg4 harg4 x1 : List (View.Piece (Elt Ideal) S2x128x1024 .bf16))) x4 (i 2).val f) h col) ((keyValue x3) h d) (512 * ((i 2).val - 1)) := fun h d col hc =>
    (skipA 0 0 (by decide) _ (kernelRun0_C.sl.HS2_8 c i arg3 harg3 arg4 harg4 arg5 harg5 arg6 harg6 arg7 harg7 arg8 harg8 arg9 harg9 arg10 harg10 arg11 harg11 arg12 harg12 arg13 harg13 hc0 x0 x1 x2 x3) h d col (by omega)).trans (s0 h d col (by omega))
  have m2 : ∀ (h : Fin 2) (col : Fin 1024), 2 ≤ 4 * h.val + col.val / 256 → View.canon (Val := Elt Ideal) (kernelRun0_C.sl.HS1_10 c i arg3 harg3 arg4 harg4 arg5 harg5 arg6 harg6 arg7 harg7 arg8 harg8 arg9 harg9 arg10 harg10 arg11 harg11 arg12 harg12 arg13 harg13 hc0 hc1 x0 x1 x2 x3 x4) (ix3 h 0 col) = topTo ((keyScore x2 (View.canon (Val := Elt Ideal) (kernelRun0_C.sl.HS0_2 c arg4 harg4 x1 : List (View.Piece (Elt Ideal) S2x128x1024 .bf16))) x4 (i 2).val f) h col) (512 * ((i 2).val - 1)) := fun h col hc =>
    (skipM 0 256 (by decide) _ (kernelRun0_C.sl.HS1_9 c i arg3 harg3 arg4 harg4 arg5 harg5 arg6 harg6 arg7 harg7 arg8 harg8 arg9 harg9 arg10 harg10 arg11 harg11 arg12 harg12 arg13 harg13 hc0 hc1 x0 x1 x2 x3 x4) h col (by omega)).trans (m1 h col (by omega))
  have s2 : ∀ (h : Fin 2) (d : Fin 144) (col : Fin 1024), 2 ≤ 4 * h.val + col.val / 256 → View.canon (Val := Elt Ideal) (kernelRun0_C.sl.HS2_10 c i arg3 harg3 arg4 harg4 arg5 harg5 arg6 harg6 arg7 harg7 arg8 harg8 arg9 harg9 arg10 harg10 arg11 harg11 arg12 harg12 arg13 harg13 hc0 hc1 x0 x1 x2 x3 x4) (ix3 h d col) = sumTo ((keyScore x2 (View.canon (Val := Elt Ideal) (kernelRun0_C.sl.HS0_2 c arg4 harg4 x1 : List (View.Piece (Elt Ideal) S2x128x1024 .bf16))) x4 (i 2).val f) h col) ((keyValue x3) h d) (512 * ((i 2).val - 1)) := fun h d col hc =>
    (skipA 0 256 (by decide) _ (kernelRun0_C.sl.HS2_9 c i arg3 harg3 arg4 harg4 arg5 harg5 arg6 harg6 arg7 harg7 arg8 harg8 arg9 harg9 arg10 harg10 arg11 harg11 arg12 harg12 arg13 harg13 hc0 hc1 x0 x1 x2 x3 x4) h d col (by omega)).trans (s1 h d col (by omega))
  have m3 : ∀ (h : Fin 2) (col : Fin 1024), 3 ≤ 4 * h.val + col.val / 256 → View.canon (Val := Elt Ideal) (kernelRun0_C.sl.HS1_11 c i arg3 harg3 arg4 harg4 arg5 harg5 arg6 harg6 arg7 harg7 arg8 harg8 arg9 harg9 arg10 harg10 arg11 harg11 arg12 harg12 arg13 harg13 hc0 hc1 x0 x1 x2 x3 x4) (ix3 h 0 col) = topTo ((keyScore x2 (View.canon (Val := Elt Ideal) (kernelRun0_C.sl.HS0_2 c arg4 harg4 x1 : List (View.Piece (Elt Ideal) S2x128x1024 .bf16))) x4 (i 2).val f) h col) (512 * ((i 2).val - 1)) := fun h col hc =>
    (skipM 0 512 (by decide) _ (kernelRun0_C.sl.HS1_10 c i arg3 harg3 arg4 harg4 arg5 harg5 arg6 harg6 arg7 harg7 arg8 harg8 arg9 harg9 arg10 harg10 arg11 harg11 arg12 harg12 arg13 harg13 hc0 hc1 x0 x1 x2 x3 x4) h col (by omega)).trans (m2 h col (by omega))
  have s3 : ∀ (h : Fin 2) (d : Fin 144) (col : Fin 1024), 3 ≤ 4 * h.val + col.val / 256 → View.canon (Val := Elt Ideal) (kernelRun0_C.sl.HS2_11 c i arg3 harg3 arg4 harg4 arg5 harg5 arg6 harg6 arg7 harg7 arg8 harg8 arg9 harg9 arg10 harg10 arg11 harg11 arg12 harg12 arg13 harg13 hc0 hc1 x0 x1 x2 x3 x4) (ix3 h d col) = sumTo ((keyScore x2 (View.canon (Val := Elt Ideal) (kernelRun0_C.sl.HS0_2 c arg4 harg4 x1 : List (View.Piece (Elt Ideal) S2x128x1024 .bf16))) x4 (i 2).val f) h col) ((keyValue x3) h d) (512 * ((i 2).val - 1)) := fun h d col hc =>
    (skipA 0 512 (by decide) _ (kernelRun0_C.sl.HS2_10 c i arg3 harg3 arg4 harg4 arg5 harg5 arg6 harg6 arg7 harg7 arg8 harg8 arg9 harg9 arg10 harg10 arg11 harg11 arg12 harg12 arg13 harg13 hc0 hc1 x0 x1 x2 x3 x4) h d col (by omega)).trans (s2 h d col (by omega))
  have m4 : ∀ (h : Fin 2) (col : Fin 1024), 4 ≤ 4 * h.val + col.val / 256 → View.canon (Val := Elt Ideal) (kernelRun0_C.sl.HS1_12 c i arg3 harg3 arg4 harg4 arg5 harg5 arg6 harg6 arg7 harg7 arg8 harg8 arg9 harg9 arg10 harg10 arg11 harg11 arg12 harg12 arg13 harg13 hc0 hc1 x0 x1 x2 x3 x4) (ix3 h 0 col) = topTo ((keyScore x2 (View.canon (Val := Elt Ideal) (kernelRun0_C.sl.HS0_2 c arg4 harg4 x1 : List (View.Piece (Elt Ideal) S2x128x1024 .bf16))) x4 (i 2).val f) h col) (512 * ((i 2).val - 1)) := fun h col hc =>
    (skipM 0 768 (by decide) _ (kernelRun0_C.sl.HS1_11 c i arg3 harg3 arg4 harg4 arg5 harg5 arg6 harg6 arg7 harg7 arg8 harg8 arg9 harg9 arg10 harg10 arg11 harg11 arg12 harg12 arg13 harg13 hc0 hc1 x0 x1 x2 x3 x4) h col (by omega)).trans (m3 h col (by omega))
  have s4 : ∀ (h : Fin 2) (d : Fin 144) (col : Fin 1024), 4 ≤ 4 * h.val + col.val / 256 → View.canon (Val := Elt Ideal) (kernelRun0_C.sl.HS2_12 c i arg3 harg3 arg4 harg4 arg5 harg5 arg6 harg6 arg7 harg7 arg8 harg8 arg9 harg9 arg10 harg10 arg11 harg11 arg12 harg12 arg13 harg13 hc0 hc1 x0 x1 x2 x3 x4) (ix3 h d col) = sumTo ((keyScore x2 (View.canon (Val := Elt Ideal) (kernelRun0_C.sl.HS0_2 c arg4 harg4 x1 : List (View.Piece (Elt Ideal) S2x128x1024 .bf16))) x4 (i 2).val f) h col) ((keyValue x3) h d) (512 * ((i 2).val - 1)) := fun h d col hc =>
    (skipA 0 768 (by decide) _ (kernelRun0_C.sl.HS2_11 c i arg3 harg3 arg4 harg4 arg5 harg5 arg6 harg6 arg7 harg7 arg8 harg8 arg9 harg9 arg10 harg10 arg11 harg11 arg12 harg12 arg13 harg13 hc0 hc1 x0 x1 x2 x3 x4) h d col (by omega)).trans (s3 h d col (by omega))
  have m5 : ∀ (h : Fin 2) (col : Fin 1024), 5 ≤ 4 * h.val + col.val / 256 → View.canon (Val := Elt Ideal) (kernelRun0_C.sl.HS1_13 c i arg3 harg3 arg4 harg4 arg5 harg5 arg6 harg6 arg7 harg7 arg8 harg8 arg9 harg9 arg10 harg10 arg11 harg11 arg12 harg12 arg13 harg13 hc0 hc1 x0 x1 x2 x3 x4) (ix3 h 0 col) = topTo ((keyScore x2 (View.canon (Val := Elt Ideal) (kernelRun0_C.sl.HS0_2 c arg4 harg4 x1 : List (View.Piece (Elt Ideal) S2x128x1024 .bf16))) x4 (i 2).val f) h col) (512 * ((i 2).val - 1)) := fun h col hc =>
    (skipM 1 0 (by decide) _ (kernelRun0_C.sl.HS1_12 c i arg3 harg3 arg4 harg4 arg5 harg5 arg6 harg6 arg7 harg7 arg8 harg8 arg9 harg9 arg10 harg10 arg11 harg11 arg12 harg12 arg13 harg13 hc0 hc1 x0 x1 x2 x3 x4) h col (by omega)).trans (m4 h col (by omega))
  have s5 : ∀ (h : Fin 2) (d : Fin 144) (col : Fin 1024), 5 ≤ 4 * h.val + col.val / 256 → View.canon (Val := Elt Ideal) (kernelRun0_C.sl.HS2_13 c i arg3 harg3 arg4 harg4 arg5 harg5 arg6 harg6 arg7 harg7 arg8 harg8 arg9 harg9 arg10 harg10 arg11 harg11 arg12 harg12 arg13 harg13 hc0 hc1 x0 x1 x2 x3 x4) (ix3 h d col) = sumTo ((keyScore x2 (View.canon (Val := Elt Ideal) (kernelRun0_C.sl.HS0_2 c arg4 harg4 x1 : List (View.Piece (Elt Ideal) S2x128x1024 .bf16))) x4 (i 2).val f) h col) ((keyValue x3) h d) (512 * ((i 2).val - 1)) := fun h d col hc =>
    (skipA 1 0 (by decide) _ (kernelRun0_C.sl.HS2_12 c i arg3 harg3 arg4 harg4 arg5 harg5 arg6 harg6 arg7 harg7 arg8 harg8 arg9 harg9 arg10 harg10 arg11 harg11 arg12 harg12 arg13 harg13 hc0 hc1 x0 x1 x2 x3 x4) h d col (by omega)).trans (s4 h d col (by omega))
  have m6 : ∀ (h : Fin 2) (col : Fin 1024), 6 ≤ 4 * h.val + col.val / 256 → View.canon (Val := Elt Ideal) (kernelRun0_C.sl.HS1_14 c i arg3 harg3 arg4 harg4 arg5 harg5 arg6 harg6 arg7 harg7 arg8 harg8 arg9 harg9 arg10 harg10 arg11 harg11 arg12 harg12 arg13 harg13 hc0 hc1 x0 x1 x2 x3 x4) (ix3 h 0 col) = topTo ((keyScore x2 (View.canon (Val := Elt Ideal) (kernelRun0_C.sl.HS0_2 c arg4 harg4 x1 : List (View.Piece (Elt Ideal) S2x128x1024 .bf16))) x4 (i 2).val f) h col) (512 * ((i 2).val - 1)) := fun h col hc =>
    (skipM 1 256 (by decide) _ (kernelRun0_C.sl.HS1_13 c i arg3 harg3 arg4 harg4 arg5 harg5 arg6 harg6 arg7 harg7 arg8 harg8 arg9 harg9 arg10 harg10 arg11 harg11 arg12 harg12 arg13 harg13 hc0 hc1 x0 x1 x2 x3 x4) h col (by omega)).trans (m5 h col (by omega))
  have s6 : ∀ (h : Fin 2) (d : Fin 144) (col : Fin 1024), 6 ≤ 4 * h.val + col.val / 256 → View.canon (Val := Elt Ideal) (kernelRun0_C.sl.HS2_14 c i arg3 harg3 arg4 harg4 arg5 harg5 arg6 harg6 arg7 harg7 arg8 harg8 arg9 harg9 arg10 harg10 arg11 harg11 arg12 harg12 arg13 harg13 hc0 hc1 x0 x1 x2 x3 x4) (ix3 h d col) = sumTo ((keyScore x2 (View.canon (Val := Elt Ideal) (kernelRun0_C.sl.HS0_2 c arg4 harg4 x1 : List (View.Piece (Elt Ideal) S2x128x1024 .bf16))) x4 (i 2).val f) h col) ((keyValue x3) h d) (512 * ((i 2).val - 1)) := fun h d col hc =>
    (skipA 1 256 (by decide) _ (kernelRun0_C.sl.HS2_13 c i arg3 harg3 arg4 harg4 arg5 harg5 arg6 harg6 arg7 harg7 arg8 harg8 arg9 harg9 arg10 harg10 arg11 harg11 arg12 harg12 arg13 harg13 hc0 hc1 x0 x1 x2 x3 x4) h d col (by omega)).trans (s5 h d col (by omega))
  have m7 : ∀ (h : Fin 2) (col : Fin 1024), 7 ≤ 4 * h.val + col.val / 256 → View.canon (Val := Elt Ideal) (kernelRun0_C.sl.HS1_15 c i arg3 harg3 arg4 harg4 arg5 harg5 arg6 harg6 arg7 harg7 arg8 harg8 arg9 harg9 arg10 harg10 arg11 harg11 arg12 harg12 arg13 harg13 hc0 hc1 x0 x1 x2 x3 x4) (ix3 h 0 col) = topTo ((keyScore x2 (View.canon (Val := Elt Ideal) (kernelRun0_C.sl.HS0_2 c arg4 harg4 x1 : List (View.Piece (Elt Ideal) S2x128x1024 .bf16))) x4 (i 2).val f) h col) (512 * ((i 2).val - 1)) := fun h col hc =>
    (skipM 1 512 (by decide) _ (kernelRun0_C.sl.HS1_14 c i arg3 harg3 arg4 harg4 arg5 harg5 arg6 harg6 arg7 harg7 arg8 harg8 arg9 harg9 arg10 harg10 arg11 harg11 arg12 harg12 arg13 harg13 hc0 hc1 x0 x1 x2 x3 x4) h col (by omega)).trans (m6 h col (by omega))
  have s7 : ∀ (h : Fin 2) (d : Fin 144) (col : Fin 1024), 7 ≤ 4 * h.val + col.val / 256 → View.canon (Val := Elt Ideal) (kernelRun0_C.sl.HS2_15 c i arg3 harg3 arg4 harg4 arg5 harg5 arg6 harg6 arg7 harg7 arg8 harg8 arg9 harg9 arg10 harg10 arg11 harg11 arg12 harg12 arg13 harg13 hc0 hc1 x0 x1 x2 x3 x4) (ix3 h d col) = sumTo ((keyScore x2 (View.canon (Val := Elt Ideal) (kernelRun0_C.sl.HS0_2 c arg4 harg4 x1 : List (View.Piece (Elt Ideal) S2x128x1024 .bf16))) x4 (i 2).val f) h col) ((keyValue x3) h d) (512 * ((i 2).val - 1)) := fun h d col hc =>
    (skipA 1 512 (by decide) _ (kernelRun0_C.sl.HS2_14 c i arg3 harg3 arg4 harg4 arg5 harg5 arg6 harg6 arg7 harg7 arg8 harg8 arg9 harg9 arg10 harg10 arg11 harg11 arg12 harg12 arg13 harg13 hc0 hc1 x0 x1 x2 x3 x4) h d col (by omega)).trans (s6 h d col (by omega))
  have hb : ∀ (h : Fin 2) (k : Fin 1024) (col : Fin 1024), arg7.view.read (Elt Ideal) (harg7.unread x4) (ix4 h ⟨k.val / 512, by omega⟩ ⟨k.val % 512, by omega⟩ ⟨col.val % 512, by omega⟩) = keyBias x4 (i 2).val f h col ((512 * ((i 2).val - 1)) + k.val) := fun h k col => by
    rw [harg7.read_unread]
    rcases (show k.val / 512 = 0 ∨ k.val / 512 = 1 by omega) with hk | hk
    · rw [show (⟨k.val / 512, by omega⟩ : Fin 2) = 0 from Fin.ext hk]
      exact (keyBias_before x4 (i 2).val f h col ((512 * ((i 2).val - 1)) + k.val) (by omega) ⟨k.val % 512, by omega⟩ (by dsimp only; omega)).symm
    · rw [show (⟨k.val / 512, by omega⟩ : Fin 2) = 1 from Fin.ext hk]
      exact (keyBias_same x4 (i 2).val f h col ((512 * ((i 2).val - 1)) + k.val) (by omega) ⟨k.val % 512, by omega⟩ (by dsimp only; omega)).symm
  have c0 : ∀ (k : Fin 1024) (col : Fin 1024), (∑ d : Fin 128, ldK1 arg5.view (harg5.unread x2) (k0_off14 i) (k0_off14_inb i hc1) (ix3 0 k d) * arg11.view.read (Elt Ideal) (arg11.view.writes (Elt Ideal) arg11.view.junk (kernelRun0_C.sl.HS0_2 c arg4 harg4 x1 : List (View.Piece (Elt Ideal) S2x128x1024 .bf16))) (ix3 0 d col)) + arg7.view.read (Elt Ideal) (harg7.unread x4) (ix4 0 ⟨k.val / 512, by omega⟩ ⟨k.val % 512, by omega⟩ ⟨col.val % 512, by omega⟩) = (keyScore x2 (View.canon (Val := Elt Ideal) (kernelRun0_C.sl.HS0_2 c arg4 harg4 x1 : List (View.Piece (Elt Ideal) S2x128x1024 .bf16))) x4 (i 2).val f) 0 col ((512 * ((i 2).val - 1)) + k.val) := fun k col =>
    score_of x2 (View.canon (Val := Elt Ideal) (kernelRun0_C.sl.HS0_2 c arg4 harg4 x1 : List (View.Piece (Elt Ideal) S2x128x1024 .bf16))) x4 (i 2).val f 0 col ((512 * ((i 2).val - 1)) + k.val) (by omega) _ _ _
      (fun d e he => (ldK1_at arg5.view (harg5.unread x2) (k0_off14 i) (k0_off14_inb i hc1) k d ⟨(512 * ((i 2).val - 1)) + k.val, by omega⟩ e (by rw [off14_eq i (by omega)]; rfl) (by rw [off14_eq i (by omega)]; rfl) (by rw [off14_eq i (by omega), he]; rfl)).trans (by rw [harg5.read_unread]))
      (fun d => View.read_writes_junk_apply_eq_canon _ _ _) (hb 0 k col)
  have v0 : ∀ (d : Fin 144) (k : Fin 1024), ldV1 arg6.view (harg6.unread x3) (k0_off16 i) (k0_off16_inb i hc1) (ix4 0 0 d k) = (keyValue x3) 0 d ((512 * ((i 2).val - 1)) + k.val) := fun d k =>
    (ldV1_at arg6.view (harg6.unread x3) (k0_off16 i) (k0_off16_inb i hc1) d k 0 ⟨(512 * ((i 2).val - 1)) + k.val, by omega⟩ (by rw [off16_eq i (by omega)]; rfl) (by rw [off16_eq i (by omega)]; rfl) (by rw [off16_eq i (by omega)]; rfl) (by rw [off16_eq i (by omega)]; rfl)).trans (by
      rw [harg6.read_unread]; exact value_of x3 0 d ⟨(512 * ((i 2).val - 1)) + k.val, by omega⟩)
  have c1 : ∀ (k : Fin 1024) (col : Fin 1024), (∑ d : Fin 128, ldK1 arg5.view (harg5.unread x2) (k0_off15 i) (k0_off15_inb i hc1) (ix3 0 k d) * arg11.view.read (Elt Ideal) (arg11.view.writes (Elt Ideal) arg11.view.junk (kernelRun0_C.sl.HS0_2 c arg4 harg4 x1 : List (View.Piece (Elt Ideal) S2x128x1024 .bf16))) (ix3 1 d col)) + arg7.view.read (Elt Ideal) (harg7.unread x4) (ix4 1 ⟨k.val / 512, by omega⟩ ⟨k.val % 512, by omega⟩ ⟨col.val % 512, by omega⟩) = (keyScore x2 (View.canon (Val := Elt Ideal) (kernelRun0_C.sl.HS0_2 c arg4 harg4 x1 : List (View.Piece (Elt Ideal) S2x128x1024 .bf16))) x4 (i 2).val f) 1 col ((512 * ((i 2).val - 1)) + k.val) := fun k col =>
    score_of x2 (View.canon (Val := Elt Ideal) (kernelRun0_C.sl.HS0_2 c arg4 harg4 x1 : List (View.Piece (Elt Ideal) S2x128x1024 .bf16))) x4 (i 2).val f 1 col ((512 * ((i 2).val - 1)) + k.val) (by omega) _ _ _
      (fun d e he => (ldK1_at arg5.view (harg5.unread x2) (k0_off15 i) (k0_off15_inb i hc1) k d ⟨(512 * ((i 2).val - 1)) + k.val, by omega⟩ e (by rw [off15_eq i (by omega)]; rfl) (by rw [off15_eq i (by omega)]; rfl) (by rw [off15_eq i (by omega), he]; rfl)).trans (by rw [harg5.read_unread]))
      (fun d => View.read_writes_junk_apply_eq_canon _ _ _) (hb 1 k col)
  have v1 : ∀ (d : Fin 144) (k : Fin 1024), ldV1 arg6.view (harg6.unread x3) (k0_off17 i) (k0_off17_inb i hc1) (ix4 0 0 d k) = (keyValue x3) 1 d ((512 * ((i 2).val - 1)) + k.val) := fun d k =>
    (ldV1_at arg6.view (harg6.unread x3) (k0_off17 i) (k0_off17_inb i hc1) d k 1 ⟨(512 * ((i 2).val - 1)) + k.val, by omega⟩ (by rw [off17_eq i (by omega)]; rfl) (by rw [off17_eq i (by omega)]; rfl) (by rw [off17_eq i (by omega)]; rfl) (by rw [off17_eq i (by omega)]; rfl)).trans (by
      rw [harg6.read_unread]; exact value_of x3 1 d ⟨(512 * ((i 2).val - 1)) + k.val, by omega⟩)
  have hn : (512 * ((i 2).val + 1)) = (512 * ((i 2).val - 1)) + 1024 := by omega
  rw [hn]
  exact near1_sums arg11.view (arg11.view.writes (Elt Ideal) arg11.view.junk (kernelRun0_C.sl.HS0_2 c arg4 harg4 x1 : List (View.Piece (Elt Ideal) S2x128x1024 .bf16))) arg12.view (arg12.view.writes (Elt Ideal) arg12.view.junk (kernelRun0_C.sl.HS1_8 c i arg3 harg3 arg4 harg4 arg5 harg5 arg6 harg6 arg7 harg7 arg8 harg8 arg9 harg9 arg10 harg10 arg11 harg11 arg12 harg12 arg13 harg13 hc0 x0 x1 x2 x3)) (arg12.view.writes (Elt Ideal) arg12.view.junk (kernelRun0_C.sl.HS1_9 c i arg3 harg3 arg4 harg4 arg5 harg5 arg6 harg6 arg7 harg7 arg8 harg8 arg9 harg9 arg10 harg10 arg11 harg11 arg12 harg12 arg13 harg13 hc0 hc1 x0 x1 x2 x3 x4)) (arg12.view.writes (Elt Ideal) arg12.view.junk (kernelRun0_C.sl.HS1_10 c i arg3 harg3 arg4 harg4 arg5 harg5 arg6 harg6 arg7 harg7 arg8 harg8 arg9 harg9 arg10 harg10 arg11 harg11 arg12 harg12 arg13 harg13 hc0 hc1 x0 x1 x2 x3 x4)) (arg12.view.writes (Elt Ideal) arg12.view.junk (kernelRun0_C.sl.HS1_11 c i arg3 harg3 arg4 harg4 arg5 harg5 arg6 harg6 arg7 harg7 arg8 harg8 arg9 harg9 arg10 harg10 arg11 harg11 arg12 harg12 arg13 harg13 hc0 hc1 x0 x1 x2 x3 x4)) (arg12.view.writes (Elt Ideal) arg12.view.junk (kernelRun0_C.sl.HS1_12 c i arg3 harg3 arg4 harg4 arg5 harg5 arg6 harg6 arg7 harg7 arg8 harg8 arg9 harg9 arg10 harg10 arg11 harg11 arg12 harg12 arg13 harg13 hc0 hc1 x0 x1 x2 x3 x4)) (arg12.view.writes (Elt Ideal) arg12.view.junk (kernelRun0_C.sl.HS1_13 c i arg3 harg3 arg4 harg4 arg5 harg5 arg6 harg6 arg7 harg7 arg8 harg8 arg9 harg9 arg10 harg10 arg11 harg11 arg12 harg12 arg13 harg13 hc0 hc1 x0 x1 x2 x3 x4)) (arg12.view.writes (Elt Ideal) arg12.view.junk (kernelRun0_C.sl.HS1_14 c i arg3 harg3 arg4 harg4 arg5 harg5 arg6 harg6 arg7 harg7 arg8 harg8 arg9 harg9 arg10 harg10 arg11 harg11 arg12 harg12 arg13 harg13 hc0 hc1 x0 x1 x2 x3 x4)) (arg12.view.writes (Elt Ideal) arg12.view.junk (kernelRun0_C.sl.HS1_15 c i arg3 harg3 arg4 harg4 arg5 harg5 arg6 harg6 arg7 harg7 arg8 harg8 arg9 harg9 arg10 harg10 arg11 harg11 arg12 harg12 arg13 harg13 hc0 hc1 x0 x1 x2 x3 x4)) (ldK1 arg5.view (harg5.unread x2) (k0_off14 i) (k0_off14_inb i hc1)) (ldK1 arg5.view (harg5.unread x2) (k0_off15 i) (k0_off15_inb i hc1)) arg7.view (harg7.unread x4) (512 * ((i 2).val - 1)) (keyScore x2 (View.canon (Val := Elt Ideal) (kernelRun0_C.sl.HS0_2 c arg4 harg4 x1 : List (View.Piece (Elt Ideal) S2x128x1024 .bf16))) x4 (i 2).val f) c0 c1
      (fun col h1 h2 => (View.read_writes_junk_apply_eq_canon _ _ _).trans (m0 0 col (by show 0 ≤ 4 * 0 + col.val / 256; omega))) (fun col h1 h2 => (View.read_writes_junk_apply_eq_canon _ _ _).trans (m1 0 col (by show 1 ≤ 4 * 0 + col.val / 256; omega))) (fun col h1 h2 => (View.read_writes_junk_apply_eq_canon _ _ _).trans (m2 0 col (by show 2 ≤ 4 * 0 + col.val / 256; omega))) (fun col h1 h2 => (View.read_writes_junk_apply_eq_canon _ _ _).trans (m3 0 col (by show 3 ≤ 4 * 0 + col.val / 256; omega))) (fun col h1 h2 => (View.read_writes_junk_apply_eq_canon _ _ _).trans (m4 1 col (by show 4 ≤ 4 * 1 + col.val / 256; omega))) (fun col h1 h2 => (View.read_writes_junk_apply_eq_canon _ _ _).trans (m5 1 col (by show 5 ≤ 4 * 1 + col.val / 256; omega))) (fun col h1 h2 => (View.read_writes_junk_apply_eq_canon _ _ _).trans (m6 1 col (by show 6 ≤ 4 * 1 + col.val / 256; omega))) (fun col h1 h2 => (View.read_writes_junk_apply_eq_canon _ _ _).trans (m7 1 col (by show 7 ≤ 4 * 1 + col.val / 256; omega)))
      arg13.view (arg13.view.writes (Elt Ideal) arg13.view.junk (kernelRun0_C.sl.HS2_8 c i arg3 harg3 arg4 harg4 arg5 harg5 arg6 harg6 arg7 harg7 arg8 harg8 arg9 harg9 arg10 harg10 arg11 harg11 arg12 harg12 arg13 harg13 hc0 x0 x1 x2 x3)) (arg13.view.writes (Elt Ideal) arg13.view.junk (kernelRun0_C.sl.HS2_9 c i arg3 harg3 arg4 harg4 arg5 harg5 arg6 harg6 arg7 harg7 arg8 harg8 arg9 harg9 arg10 harg10 arg11 harg11 arg12 harg12 arg13 harg13 hc0 hc1 x0 x1 x2 x3 x4)) (arg13.view.writes (Elt Ideal) arg13.view.junk (kernelRun0_C.sl.HS2_10 c i arg3 harg3 arg4 harg4 arg5 harg5 arg6 harg6 arg7 harg7 arg8 harg8 arg9 harg9 arg10 harg10 arg11 harg11 arg12 harg12 arg13 harg13 hc0 hc1 x0 x1 x2 x3 x4)) (arg13.view.writes (Elt Ideal) arg13.view.junk (kernelRun0_C.sl.HS2_11 c i arg3 harg3 arg4 harg4 arg5 harg5 arg6 harg6 arg7 harg7 arg8 harg8 arg9 harg9 arg10 harg10 arg11 harg11 arg12 harg12 arg13 harg13 hc0 hc1 x0 x1 x2 x3 x4)) (arg13.view.writes (Elt Ideal) arg13.view.junk (kernelRun0_C.sl.HS2_12 c i arg3 harg3 arg4 harg4 arg5 harg5 arg6 harg6 arg7 harg7 arg8 harg8 arg9 harg9 arg10 harg10 arg11 harg11 arg12 harg12 arg13 harg13 hc0 hc1 x0 x1 x2 x3 x4)) (arg13.view.writes (Elt Ideal) arg13.view.junk (kernelRun0_C.sl.HS2_13 c i arg3 harg3 arg4 harg4 arg5 harg5 arg6 harg6 arg7 harg7 arg8 harg8 arg9 harg9 arg10 harg10 arg11 harg11 arg12 harg12 arg13 harg13 hc0 hc1 x0 x1 x2 x3 x4)) (arg13.view.writes (Elt Ideal) arg13.view.junk (kernelRun0_C.sl.HS2_14 c i arg3 harg3 arg4 harg4 arg5 harg5 arg6 harg6 arg7 harg7 arg8 harg8 arg9 harg9 arg10 harg10 arg11 harg11 arg12 harg12 arg13 harg13 hc0 hc1 x0 x1 x2 x3 x4)) (arg13.view.writes (Elt Ideal) arg13.view.junk (kernelRun0_C.sl.HS2_15 c i arg3 harg3 arg4 harg4 arg5 harg5 arg6 harg6 arg7 harg7 arg8 harg8 arg9 harg9 arg10 harg10 arg11 harg11 arg12 harg12 arg13 harg13 hc0 hc1 x0 x1 x2 x3 x4)) (ldV1 arg6.view (harg6.unread x3) (k0_off16 i) (k0_off16_inb i hc1)) (ldV1 arg6.view (harg6.unread x3) (k0_off17 i) (k0_off17_inb i hc1)) (keyValue x3) v0 v1
      (fun d col h1 h2 => (View.read_writes_junk_apply_eq_canon _ _ _).trans (s0 0 d col (by show 0 ≤ 4 * 0 + col.val / 256; omega))) (fun d col h1 h2 => (View.read_writes_junk_apply_eq_canon _ _ _).trans (s1 0 d col (by show 1 ≤ 4 * 0 + col.val / 256; omega))) (fun d col h1 h2 => (View.read_writes_junk_apply_eq_canon _ _ _).trans (s2 0 d col (by show 2 ≤ 4 * 0 + col.val / 256; omega))) (fun d col h1 h2 => (View.read_writes_junk_apply_eq_canon _ _ _).trans (s3 0 d col (by show 3 ≤ 4 * 0 + col.val / 256; omega))) (fun d col h1 h2 => (View.read_writes_junk_apply_eq_canon _ _ _).trans (s4 1 d col (by show 4 ≤ 4 * 1 + col.val / 256; omega))) (fun d col h1 h2 => (View.read_writes_junk_apply_eq_canon _ _ _).trans (s5 1 d col (by show 5 ≤ 4 * 1 + col.val / 256; omega))) (fun d col h1 h2 => (View.read_writes_junk_apply_eq_canon _ _ _).trans (s6 1 d col (by show 6 ≤ 4 * 1 + col.val / 256; omega))) (fun d col h1 h2 => (View.read_writes_junk_apply_eq_canon _ _ _).trans (s7 1 d col (by show 7 ≤ 4 * 1 + col.val / 256; omega))) _ h d col

end Cert.KernelIdeal.Value
-- ==== Proof.Rows.lean ====
module

public import proofs.«01_k».proof.Proof.Scores
public import Idealize.ShloMosaic.Lib.Pointwise

@[expose] public section

set_option maxRecDepth 16384

noncomputable section

/-! The ends of a block: the scaled, map-split queries written first, and the row of a head written last. -/

namespace Cert.KernelIdeal.Value

open Cert.KernelIdeal Cert.KernelIdeal.Gen Idealize.ShloMosaic Idealize.ShloMosaic.TcCoe Idealize.SL.Sem

/-- The weight of the second map from the four rows of the learned vectors. -/
def lamOf (l : Fin 4 → Fin 64 → EReal) : EReal :=
  Ideal.exp (∑ k, l 0 k * l 1 k) - Ideal.exp (∑ k, l 2 k * l 3 k) + Ideal.ofBits FTy.f32 0x3EB60549#32

/-- The row of a head from the two maps' weighted values: their difference, normalised by its root mean square. -/
def outRow (A B : Fin 128 → EReal) (lam g : EReal) (d : Fin 128) : EReal :=
  (A d - lam * B d) * Ideal.rsqrt (Ideal.div (∑ x, (A x - lam * B x) * (A x - lam * B x)) (Ideal.ofBits FTy.f32 0x43000000#32)
    + Ideal.ofBits FTy.f32 0x3727C5AC#32) * g * Ideal.ofBits FTy.f32 0x3F24FD5C#32

/-- The weighted value at a place: accumulated over accumulated weight. -/
def wtOf (acc : S1x144x1024.Idx → EReal) (d : Fin 128) (col : Fin 1024) : EReal :=
  Ideal.div (acc (ix3 0 ⟨d.val, by omega⟩ col)) (acc (ix3 0 ⟨128, by omega⟩ col))

theorem pay266_at (l : Vec Ideal S4x64 .f32) : k0_pay266 l (ix2 0 0) = ∑ k : Fin 64, l (ix2 0 k) * l (ix2 1 k) := by
  pointwise [k0_pay266]
  try rfl

theorem pay267_at (l : Vec Ideal S4x64 .f32) (w : FVec Ideal S1x1 .f32) :
    k0_pay267 l w (ix2 0 0) = Ideal.exp (w (ix2 0 0)) - Ideal.exp (∑ k : Fin 64, l (ix2 2 k) * l (ix2 3 k)) + Ideal.ofBits FTy.f32 0x3EB60549#32 := by
  pointwise [k0_pay267]
  try rfl

/-- The weight of the second map as the kernel computes it. -/
theorem lam_at (l : Vec Ideal S4x64 .f32) : k0_pay267 l (k0_pay266 l) (ix2 0 0) = lamOf fun a k => l (ix2 a k) := by
  rw [pay267_at, pay266_at]
  rfl

/-- The second head's row. -/
theorem pay1_at (lam : FVec Ideal S1x1 .f32) (acc : Vec Ideal S1x144x1024 .f32) (g : Vec Ideal S1x128 .f32) (r : Fin 512) (d : Fin 128) :
    k0_pay1 lam acc g (ix3 0 r d) = outRow (fun d => wtOf acc d ⟨r.val, by omega⟩) (fun d => wtOf acc d ⟨512 + r.val, by omega⟩)
      (lam (ix2 0 0)) (g (ix2 0 d)) d := by
  pointwise [k0_pay1]
  rfl

/-- The first head's row. -/
theorem pay268_at (l : Vec Ideal S4x64 .f32) (w : FVec Ideal S1x1 .f32) (acc : Vec Ideal S1x144x1024 .f32) (g : Vec Ideal S1x128 .f32) (r : Fin 512) (d : Fin 128) :
    k0_pay268 l w acc g (ix3 0 r d) = outRow (fun d => wtOf acc d ⟨r.val, by omega⟩) (fun d => wtOf acc d ⟨512 + r.val, by omega⟩)
      (k0_pay267 l w (ix2 0 0)) (g (ix2 0 d)) d := by
  pointwise [k0_pay268]
  rfl

/-- A query feature of a column: of its map's half, scaled; zero in the other half. -/
def queryAt (x : S1x512x256.Idx → EReal) (h : Fin 2) (d : Fin 128) (col : Fin 1024) : EReal :=
  if (d.val < 64 ↔ col.val < 512) then x (ix3 0 ⟨col.val % 512, by omega⟩ ⟨128 * h.val + d.val, by omega⟩)
    * (((1 / 8) * (Real.log 2)⁻¹ : ℝ) : EReal) else 0

theorem below_half (d : Fin 128) : IntOp.cmpi .slt (BitVec.ofNat 32 d.val) 64#32 = if d.val < 64 then 1#1 else 0#1 := by
  revert d; decide

theorem above_half (d : Fin 128) : IntOp.cmpi .sge (BitVec.ofNat 32 d.val) 64#32 = if d.val < 64 then 0#1 else 1#1 := by
  revert d; decide

theorem pay250_at (v : FVec Ideal S1x512x128 .f32) (d : Fin 128) (col : Fin 1024) :
    (show EReal from k0_pay250 (F := Ideal) v (ix3 0 d col)) = if (d.val < 64 ↔ col.val < 512) then v (ix3 0 ⟨col.val % 512, by omega⟩ d)
      * (((1 / 8) * (Real.log 2)⁻¹ : ℝ) : EReal) else 0 := by
  pointwise [k0_pay250]
  rw [below_half, above_half]
  by_cases hc : col.val < 512 <;> by_cases hd : d.val < 64
  · simp only [hc, hd, if_true, dif_pos, iff_self]
    exact congrArg (fun r : Fin 512 => v (ix3 0 r d) * _) (Fin.ext (Nat.mod_eq_of_lt hc).symm)
  · simp only [hc, hd, if_false, dif_pos, iff_true]
    rfl
  · simp only [hc, hd, if_true, dif_neg, not_false_iff, iff_false, not_true, if_false]
    rfl
  · simp only [hc, hd, if_false, dif_neg, not_false_iff, iff_self, if_true]
    exact congrArg (fun r : Fin 512 => v (ix3 0 r d) * _) (Fin.ext (by show col.val - 512 = col.val % 512; omega))

theorem pay251_at (v : FVec Ideal S1x512x128 .f32) (d : Fin 128) (col : Fin 1024) :
    (show EReal from k0_pay252 (F := Ideal) (k0_pay251 v) (ix3 0 d col)) = if (d.val < 64 ↔ col.val < 512) then v (ix3 0 ⟨col.val % 512, by omega⟩ d)
      * (((1 / 8) * (Real.log 2)⁻¹ : ℝ) : EReal) else 0 := by
  refine Eq.trans ?_ (pay250_at v d col)
  pointwise [k0_pay252, k0_pay251, k0_pay250]

/-- A loaded half of the queries, at a place. -/
theorem ldq_at (v : View sig .tc .vmem S1x512x256 .f32) (X : v.ty.Contents (Elt Ideal)) (c : ℕ)
    (inb : ∀ a, (![0, 0, c] : Fin 3 → ℕ) a + S1x512x128.size a ≤ S1x512x256.size a) (r : Fin 512) (d : Fin 128) (e : Fin 256) (he : e.val = c + d.val) :
    v.readAt (Elt Ideal) (Rect.unit (s := S1x512x256) ![0, 0, c] S1x512x128.size inb).toLoadRect X (ix3 0 r d) = v.read (Elt Ideal) X (ix3 0 r e) := by
  show v.read (Elt Ideal) X _ = _
  congr 1
  funext a
  fin_cases a
  · rfl
  · exact Fin.ext (by show 0 + 1 * r.val = r.val; omega)
  · exact Fin.ext (by show c + 1 * d.val = e.val; omega)

/-- The query scratch written first: every column's scaled features, in its map's half. -/
theorem queries_at (v : View sig .tc .vmem S1x512x256 .f32) (X : v.ty.Contents (Elt Ideal))
    (i0 i1 : ∀ a, _) (j0 j1 : ∀ a, _) (h : Fin 2) (d : Fin 128) (col : Fin 1024) :
    View.canon (Val := Elt Ideal) (s := S2x128x1024) (e := .bf16)
      [⟨Rect.unit (s := S2x128x1024) ![1, 0, 0] S1x128x1024.size j1, k0_pay252 (k0_pay251 (v.readAt (Elt Ideal) (Rect.unit (s := S1x512x256) ![0, 0, 128] S1x512x128.size i1).toLoadRect X))⟩,
       ⟨Rect.unit (s := S2x128x1024) ![0, 0, 0] S1x128x1024.size j0, k0_pay250 (v.readAt (Elt Ideal) (Rect.unit (s := S1x512x256) ![0, 0, 0] S1x512x128.size i0).toLoadRect X)⟩]
      (ix3 h d col) = queryAt (v.read (Elt Ideal) X) h d col := by
  have e0 : (ix3 0 d col : S2x128x1024.Idx) = (Rect.unit (s := S2x128x1024) ![0, 0, 0] S1x128x1024.size j0).emb (ix3 0 d col) := by
    funext a; fin_cases a
    · rfl
    · exact Fin.ext (by show d.val = 0 + 1 * d.val; omega)
    · exact Fin.ext (by show col.val = 0 + 1 * col.val; omega)
  have e1 : (ix3 1 d col : S2x128x1024.Idx) = (Rect.unit (s := S2x128x1024) ![1, 0, 0] S1x128x1024.size j1).emb (ix3 0 d col) := by
    funext a; fin_cases a
    · rfl
    · exact Fin.ext (by show d.val = 0 + 1 * d.val; omega)
    · exact Fin.ext (by show col.val = 0 + 1 * col.val; omega)
  unfold queryAt
  obtain ⟨h, hh⟩ := h
  interval_cases h
  · refine (View.canon_cons_of_not_mem (Val := Elt Ideal) _ _ (Rect.not_mem_set_of_axis _ _ (0 : Fin 3) 1 1 rfl rfl rfl (Or.inl Nat.zero_lt_one))).trans ?_
    show View.canon (Val := Elt Ideal) _ (ix3 0 d col) = _
    rw [e0, View.canon_cons_emb]
    exact (pay250_at _ d col).trans (by rw [ldq_at v X 0 i0 _ d ⟨128 * 0 + d.val, by omega⟩ (by simp)])
  · show View.canon (Val := Elt Ideal) _ (ix3 1 d col) = _
    rw [e1, View.canon_cons_emb]
    exact (pay251_at _ d col).trans (by rw [ldq_at v X 128 i1 _ d ⟨128 * 1 + d.val, by omega⟩ (by simp)])

/-- The far bias in powers of two. -/
theorem pay255_at (x : Elt Ideal .f32) : k0_pay255 x = (show EReal from x) * (((Real.log 2)⁻¹ : ℝ) : EReal) := rfl

theorem pay256_at (x : Elt Ideal .f32) : k0_pay256 x = (show EReal from x) * (((Real.log 2)⁻¹ : ℝ) : EReal) := rfl

end Cert.KernelIdeal.Value
-- ==== Proof.Ends.lean ====
module

public import proofs.«01_k».proof.Proof.CaseA
public import proofs.«01_k».proof.Proof.CaseB
public import proofs.«01_k».proof.Proof.CaseC
public import proofs.«01_k».proof.Proof.Rows

@[expose] public section

set_option maxRecDepth 16384

noncomputable section

/-! What a grid point writes back: each head's row from all the keys up to the end of the query block. -/

namespace Cert.KernelIdeal.Value

open Cert.KernelIdeal Cert.KernelIdeal.Gen Idealize.ShloMosaic Idealize.ShloMosaic.TcCoe Idealize.SL.Sem

/-- The query scratch as one function of the query block. -/
def queryF (x : S1x512x256.Idx → EReal) : S2x128x1024.Idx → EReal := fun y => queryAt x (y 0) (y 1) (y 2)

/-- The weighted value a column reads from the keys up to its block's end. -/
def wtRow (x1 : S1x512x256.Idx → EReal) (x2 : S1x4096x256.Idx → EReal) (x3 : S1x2x144x4096.Idx → EReal)
    (x4 : S2x2x512x512.Idx → EReal) (q : ℕ) (f : Fin 2 → ℝ) (h : Fin 2) (col : Fin 1024) (d : Fin 128) : EReal :=
  Ideal.div (sumTo (keyScore x2 (queryF x1) x4 q f h col) (keyValue x3 h ⟨d.val, by omega⟩) (512 * (q + 1)))
    (sumTo (keyScore x2 (queryF x1) x4 q f h col) (keyValue x3 h ⟨128, by omega⟩) (512 * (q + 1)))

/-- A head's row of the block. -/
def headRow (x1 : S1x512x256.Idx → EReal) (x2 : S1x4096x256.Idx → EReal) (x3 : S1x2x144x4096.Idx → EReal)
    (x4 : S2x2x512x512.Idx → EReal) (x5 : S4x64.Idx → EReal) (x6 : S1x128.Idx → EReal) (q : ℕ) (f : Fin 2 → ℝ)
    (h : Fin 2) (r : Fin 512) (d : Fin 128) : EReal :=
  outRow (wtRow x1 x2 x3 x4 q f h ⟨r.val, by omega⟩) (wtRow x1 x2 x3 x4 q f h ⟨512 + r.val, by omega⟩)
    (lamOf fun a k => x5 (ix2 a k)) (x6 (ix2 0 d)) d

/-- A load of a scratch head after the stores, at a place. -/
theorem ldAcc_at (v : View sig .tc .vmem S2x144x1024 .f32) (L : List (View.Piece (Elt Ideal) S2x144x1024 .f32)) (h : Fin 2)
    (inb : ∀ a, (![h.val, 0, 0] : Fin 3 → ℕ) a + S1x144x1024.size a ≤ S2x144x1024.size a) (d : Fin 144) (col : Fin 1024) :
    v.readCov L (Rect.unit (s := S2x144x1024) ![h.val, 0, 0] S1x144x1024.size inb).toLoadRect (ix3 0 d col)
      = View.canon (Val := Elt Ideal) L (ix3 h d col) := by
  refine Eq.trans (b := v.read (Elt Ideal) (v.writes (Elt Ideal) v.junk L) (ix3 h d col)) ?_ (View.read_writes_junk_apply_eq_canon _ _ _)
  show v.read (Elt Ideal) _ _ = _
  congr 1
  funext a
  fin_cases a
  · exact Fin.ext (by show h.val + 1 * 0 = h.val; omega)
  · exact Fin.ext (by show 0 + 1 * d.val = d.val; omega)
  · exact Fin.ext (by show 0 + 1 * col.val = col.val; omega)

/-- The output block's two stores, one a head, read at a place. -/
theorem canon_heads (i0 i1 : _) (w1 w0 : FVec Ideal S1x512x128 .bf16) (r : Fin 512) (h : Fin 2) (d : Fin 128) (e : Fin 256) (he : e.val = 128 * h.val + d.val) :
    View.canon (Val := Elt Ideal) (s := S1x512x256) (e := .bf16)
      [⟨Rect.unit (s := S1x512x256) ![0, 0, 128] S1x512x128.size i1, w1⟩, ⟨Rect.unit (s := S1x512x256) ![0, 0, 0] S1x512x128.size i0, w0⟩]
      (ix3 0 r e) = if h = 0 then w0 (ix3 0 r d) else w1 (ix3 0 r d) := by
  have e0 (hh : h.val = 0) : (ix3 0 r e : S1x512x256.Idx) = (Rect.unit (s := S1x512x256) ![0, 0, 0] S1x512x128.size i0).emb (ix3 0 r d) := by
    funext a; fin_cases a
    · rfl
    · exact Fin.ext (by show r.val = 0 + 1 * r.val; omega)
    · exact Fin.ext (by show e.val = 0 + 1 * d.val; omega)
  have e1 (hh : h.val = 1) : (ix3 0 r e : S1x512x256.Idx) = (Rect.unit (s := S1x512x256) ![0, 0, 128] S1x512x128.size i1).emb (ix3 0 r d) := by
    funext a; fin_cases a
    · rfl
    · exact Fin.ext (by show r.val = 0 + 1 * r.val; omega)
    · exact Fin.ext (by show e.val = 128 + 1 * d.val; omega)
  by_cases h0 : h = 0
  · have hv : h.val = 0 := by rw [h0]; rfl
    rw [if_pos h0]
    refine (View.canon_cons_of_not_mem (Val := Elt Ideal) _ _ (Rect.not_mem_set_of_axis _ _ (2 : Fin 3) 128 128 rfl rfl rfl (Or.inl (by show e.val < 128; omega)))).trans ?_
    rw [e0 hv, View.canon_cons_emb]
  · have hv : h.val = 1 := by have := h.isLt; have : h.val ≠ 0 := fun h' => h0 (Fin.ext h'); omega
    rw [if_neg h0, e1 hv, View.canon_cons_emb]

/-- A head's row from accumulated values that are the sums over its keys. -/
theorem headRow_of (x1 : S1x512x256.Idx → EReal) (x2 : S1x4096x256.Idx → EReal) (x3 : S1x2x144x4096.Idx → EReal)
    (x4 : S2x2x512x512.Idx → EReal) (x5 : S4x64.Idx → EReal) (x6 : S1x128.Idx → EReal) (q : ℕ) (f : Fin 2 → ℝ) (h : Fin 2) (r : Fin 512) (d : Fin 128)
    (acc : S1x144x1024.Idx → EReal) (lam g : EReal)
    (ha : ∀ (d : Fin 144) (col : Fin 1024), acc (ix3 0 d col) = sumTo (keyScore x2 (queryF x1) x4 q f h col) (keyValue x3 h d) (512 * (q + 1)))
    (hl : lam = lamOf fun a k => x5 (ix2 a k)) (hg : g = x6 (ix2 0 d)) :
    outRow (fun d => wtOf acc d ⟨r.val, by omega⟩) (fun d => wtOf acc d ⟨512 + r.val, by omega⟩) lam g d = headRow x1 x2 x3 x4 x5 x6 q f h r d := by
  unfold headRow
  rw [hl, hg]
  have hw : ∀ (col : Fin 1024), (fun d => wtOf acc d col) = wtRow x1 x2 x3 x4 q f h col := fun col => funext fun d => by
    unfold wtOf wtRow
    rw [ha, ha]
  rw [hw, hw]

/-- Where the far biases of a point's two heads are loaded from. -/
theorem off1_eq0 (i : grid0.Coords) : k0_off1 i 0#32 = ![2 * (i 1).val] := by
  unfold k0_off1
  dsimp only
  generalize i 1 = x
  fin_cases x <;> rfl

theorem off1_eq1 (i : grid0.Coords) : k0_off1 i 1#32 = ![2 * (i 1).val + 1] := by
  unfold k0_off1
  dsimp only
  generalize i 1 = x
  fin_cases x <;> rfl

/-- A loaded far bias. -/
theorem ldFar_at (v : View sig .tc .smem S8 .f32) (X : v.ty.Contents (Elt Ideal)) (off : Fin 1 → ℕ) (inb : ∀ a, off a + S1.size a ≤ S8.size a)
    (hn : 0 < (Rect.unit (s := S8) off S1.size inb).toLoadRect.shape.numel) (n : Fin 8) (h : off = ![n.val]) :
    v.readAt (Elt Ideal) (Rect.unit (s := S8) off S1.size inb).toLoadRect X (Shape.Idx.first hn) = v.read (Elt Ideal) X (ix1 n) := by
  show v.read (Elt Ideal) X _ = _
  congr 1
  funext a
  fin_cases a
  refine Fin.ext ?_
  show off 0 + 1 * 0 = n.val
  rw [h]
  rfl

/-- A whole load of the learned vectors is the block. -/
theorem ldLam (v : Memref sig .tc .vmem S4x64 .f32) (hv : v.IsWhole) (x : Vec Ideal S4x64 .f32) (inb : _) :
    v.view.readAt (Elt Ideal) (Rect.unit (s := S4x64) ![0, 0] S4x64.size inb).toLoadRect (hv.unread x) = x := by
  funext y
  refine Eq.trans ?_ (congrFun (hv.read_unread x) y)
  show v.view.read (Elt Ideal) _ _ = _
  congr 1
  funext a
  fin_cases a
  · exact Fin.ext (by show 0 + 1 * (y 0).val = (y 0).val; omega)
  · exact Fin.ext (by show 0 + 1 * (y 1).val = (y 1).val; omega)

/-- A whole load of the gain is the block. -/
theorem ldGain (v : Memref sig .tc .vmem S1x128 .f32) (hv : v.IsWhole) (x : Vec Ideal S1x128 .f32) (inb : _) :
    v.view.readAt (Elt Ideal) (Rect.unit (s := S1x128) ![0, 0] S1x128.size inb).toLoadRect (hv.unread x) = x := by
  funext y
  refine Eq.trans ?_ (congrFun (hv.read_unread x) y)
  show v.view.read (Elt Ideal) _ _ = _
  congr 1
  funext a
  fin_cases a
  · exact Fin.ext (by show 0 + 1 * (y 0).val = (y 0).val; omega)
  · exact Fin.ext (by show 0 + 1 * (y 1).val = (y 1).val; omega)

/-- What case A of the grid's points stores, at a place of the block. -/
theorem ends_A (c : Dev nD) (i : grid0.Coords) (arg3 : Memref sig .tc .smem S8 .f32) (harg3 : arg3.IsWhole) (arg4 : Memref sig .tc .vmem S1x512x256 .f32) (harg4 : arg4.IsWhole) (arg5 : Memref sig .tc .vmem S1x4096x256 .bf16) (harg5 : arg5.IsWhole) (arg6 : Memref sig .tc .vmem S1x2x144x4096 .bf16) (harg6 : arg6.IsWhole) (arg7 : Memref sig .tc .vmem S2x2x512x512 .f32) (harg7 : arg7.IsWhole) (arg8 : Memref sig .tc .vmem S4x64 .f32) (harg8 : arg8.IsWhole) (arg9 : Memref sig .tc .vmem S1x128 .f32) (harg9 : arg9.IsWhole) (arg10 : Memref sig .tc .vmem S1x512x256 .bf16) (harg10 : arg10.IsWhole) (arg11 : Memref sig .tc .vmem S2x128x1024 .bf16) (harg11 : arg11.IsWhole) (arg12 : Memref sig .tc .vmem S2x1x1024 .f32) (harg12 : arg12.IsWhole) (arg13 : Memref sig .tc .vmem S2x144x1024 .f32) (harg13 : arg13.IsWhole) (hc0 : ¬cond0_0 i) (hc1 : ¬cond0_1 i) (hc2 : cond0_2 i)
    (x0 : Vec Ideal S8 .f32) (x1 : Vec Ideal S1x512x256 .f32) (x2 : Vec Ideal S1x4096x256 .bf16) (x3 : Vec Ideal S1x2x144x4096 .bf16) (x4 : Vec Ideal S2x2x512x512 .f32) (x5 : Vec Ideal S4x64 .f32) (x6 : Vec Ideal S1x128 .f32)
    (f : Fin 2 → ℝ) (hf : ∀ h : Fin 2, (show EReal from x0 (ix1 (⟨2 * (i 1).val + h.val, by have := (i 1).isLt; have : (i 1).val < 4 := this; omega⟩ : Fin 8))) * (((Real.log 2)⁻¹ : ℝ) : EReal) = (f h : EReal))
    (hq : (i 2).val = 0) (r : Fin 512) (h : Fin 2) (d : Fin 128) (e : Fin 256) (he : e.val = 128 * h.val + d.val) :
    out0_A_7 c i arg3 harg3 arg4 harg4 arg5 harg5 arg6 harg6 arg7 harg7 arg8 harg8 arg9 harg9 arg10 harg10 arg11 harg11 arg12 harg12 arg13 harg13 hc0 hc1 hc2 x0 x1 x2 x3 x4 x5 x6 (ix3 0 r e) = headRow x1 x2 x3 x4 x5 x6 (i 2).val f h r d := by
  have hi : (i 1).val < 4 := (i 1).isLt
  have hf0 : kernelRun0_A.sl.r_3 c i arg3 harg3 x0 = (f 0 : EReal) := by
    refine Eq.trans ?_ (hf 0)
    refine (pay255_at _).trans (congrArg (fun y : EReal => y * (((Real.log 2)⁻¹ : ℝ) : EReal)) ?_)
    refine (ldFar_at arg3.view (harg3.unread x0) (k0_off1 i 0#32) (k0_off1_inb i 0) _ ⟨2 * (i 1).val + 0, by omega⟩ (off1_eq0 i)).trans ?_
    exact congrFun (harg3.read_unread x0) _
  have hf1 : kernelRun0_A.sl.r_4 c i arg3 harg3 x0 = (f 1 : EReal) := by
    refine Eq.trans ?_ (hf 1)
    refine (pay256_at _).trans (congrArg (fun y : EReal => y * (((Real.log 2)⁻¹ : ℝ) : EReal)) ?_)
    refine (ldFar_at arg3.view (harg3.unread x0) (k0_off1 i 1#32) (k0_off1_inb i 1) _ ⟨2 * (i 1).val + 1, by omega⟩ (off1_eq1 i)).trans ?_
    exact congrFun (harg3.read_unread x0) _
  have hQ : (View.canon (Val := Elt Ideal) (kernelRun0_A.sl.HS0_2 c arg4 harg4 x1 : List (View.Piece (Elt Ideal) S2x128x1024 .bf16))) = queryF x1 := by
    funext y
    rw [eq_ix3 y]
    refine (queries_at arg4.view (harg4.unread x1) _ _ _ _ (y 0) (y 1) (y 2)).trans ?_
    rw [harg4.read_unread]
    rfl
  have hs := sums_A c i arg3 harg3 arg4 harg4 arg5 harg5 arg6 harg6 arg7 harg7 arg8 harg8 arg9 harg9 arg10 harg10 arg11 harg11 arg12 harg12 arg13 harg13  x0 x1 x2 x3 x4 f hf0 hf1 hq
  rw [hQ] at hs
  unfold out0_A_7
  refine (View.read_writes_junk_apply_eq_canon _ _ _).trans ?_
  unfold kernelRun0_A
  dsimp only
  refine (canon_heads _ _ _ _ r h d e he).trans ?_
  by_cases h0 : h = 0
  · rw [if_pos h0, h0]
    refine (pay268_at _ _ _ _ r d).trans (headRow_of x1 x2 x3 x4 x5 x6 (i 2).val f 0 r d _ _ _ (fun d col => (ldAcc_at arg13.view _ 0 _ d col).trans (hs 0 d col)) ?_ ?_)
    · refine Eq.trans ?_ (lam_at x5)
      exact congrArg (fun l => k0_pay267 l (k0_pay266 l) (ix2 0 0)) (ldLam arg8 harg8 x5 _)
    · exact congrFun (ldGain arg9 harg9 x6 _) _
  · have h1 : h = 1 := by fin_cases h <;> first | exact absurd rfl h0 | rfl
    rw [if_neg h0, h1]
    refine (pay1_at _ _ _ r d).trans (headRow_of x1 x2 x3 x4 x5 x6 (i 2).val f 1 r d _ _ _ (fun d col => (ldAcc_at arg13.view _ 1 _ d col).trans (hs 1 d col)) ?_ ?_)
    · refine Eq.trans ?_ (lam_at x5)
      exact congrArg (fun l => k0_pay267 l (k0_pay266 l) (ix2 0 0)) (ldLam arg8 harg8 x5 _)
    · exact congrFun (ldGain arg9 harg9 x6 _) _

/-- What case B of the grid's points stores, at a place of the block. -/
theorem ends_B (c : Dev nD) (i : grid0.Coords) (arg3 : Memref sig .tc .smem S8 .f32) (harg3 : arg3.IsWhole) (arg4 : Memref sig .tc .vmem S1x512x256 .f32) (harg4 : arg4.IsWhole) (arg5 : Memref sig .tc .vmem S1x4096x256 .bf16) (harg5 : arg5.IsWhole) (arg6 : Memref sig .tc .vmem S1x2x144x4096 .bf16) (harg6 : arg6.IsWhole) (arg7 : Memref sig .tc .vmem S2x2x512x512 .f32) (harg7 : arg7.IsWhole) (arg8 : Memref sig .tc .vmem S4x64 .f32) (harg8 : arg8.IsWhole) (arg9 : Memref sig .tc .vmem S1x128 .f32) (harg9 : arg9.IsWhole) (arg10 : Memref sig .tc .vmem S1x512x256 .bf16) (harg10 : arg10.IsWhole) (arg11 : Memref sig .tc .vmem S2x128x1024 .bf16) (harg11 : arg11.IsWhole) (arg12 : Memref sig .tc .vmem S2x1x1024 .f32) (harg12 : arg12.IsWhole) (arg13 : Memref sig .tc .vmem S2x144x1024 .f32) (harg13 : arg13.IsWhole) (hc0 : ¬cond0_0 i) (hc1 : cond0_1 i) (hc2 : ¬cond0_2 i)
    (x0 : Vec Ideal S8 .f32) (x1 : Vec Ideal S1x512x256 .f32) (x2 : Vec Ideal S1x4096x256 .bf16) (x3 : Vec Ideal S1x2x144x4096 .bf16) (x4 : Vec Ideal S2x2x512x512 .f32) (x5 : Vec Ideal S4x64 .f32) (x6 : Vec Ideal S1x128 .f32)
    (f : Fin 2 → ℝ) (hf : ∀ h : Fin 2, (show EReal from x0 (ix1 (⟨2 * (i 1).val + h.val, by have := (i 1).isLt; have : (i 1).val < 4 := this; omega⟩ : Fin 8))) * (((Real.log 2)⁻¹ : ℝ) : EReal) = (f h : EReal))
    (hq : (i 2).val % 2 = 1) (r : Fin 512) (h : Fin 2) (d : Fin 128) (e : Fin 256) (he : e.val = 128 * h.val + d.val) :
    out0_B_7 c i arg3 harg3 arg4 harg4 arg5 harg5 arg6 harg6 arg7 harg7 arg8 harg8 arg9 harg9 arg10 harg10 arg11 harg11 arg12 harg12 arg13 harg13 hc0 hc1 hc2 x0 x1 x2 x3 x4 x5 x6 (ix3 0 r e) = headRow x1 x2 x3 x4 x5 x6 (i 2).val f h r d := by
  have hi : (i 1).val < 4 := (i 1).isLt
  have hf0 : kernelRun0_B.sl.r_3 c i arg3 harg3 x0 = (f 0 : EReal) := by
    refine Eq.trans ?_ (hf 0)
    refine (pay255_at _).trans (congrArg (fun y : EReal => y * (((Real.log 2)⁻¹ : ℝ) : EReal)) ?_)
    refine (ldFar_at arg3.view (harg3.unread x0) (k0_off1 i 0#32) (k0_off1_inb i 0) _ ⟨2 * (i 1).val + 0, by omega⟩ (off1_eq0 i)).trans ?_
    exact congrFun (harg3.read_unread x0) _
  have hf1 : kernelRun0_B.sl.r_4 c i arg3 harg3 x0 = (f 1 : EReal) := by
    refine Eq.trans ?_ (hf 1)
    refine (pay256_at _).trans (congrArg (fun y : EReal => y * (((Real.log 2)⁻¹ : ℝ) : EReal)) ?_)
    refine (ldFar_at arg3.view (harg3.unread x0) (k0_off1 i 1#32) (k0_off1_inb i 1) _ ⟨2 * (i 1).val + 1, by omega⟩ (off1_eq1 i)).trans ?_
    exact congrFun (harg3.read_unread x0) _
  have hQ : (View.canon (Val := Elt Ideal) (kernelRun0_B.sl.HS0_2 c arg4 harg4 x1 : List (View.Piece (Elt Ideal) S2x128x1024 .bf16))) = queryF x1 := by
    funext y
    rw [eq_ix3 y]
    refine (queries_at arg4.view (harg4.unread x1) _ _ _ _ (y 0) (y 1) (y 2)).trans ?_
    rw [harg4.read_unread]
    rfl
  have hs := sums_B c i arg3 harg3 arg4 harg4 arg5 harg5 arg6 harg6 arg7 harg7 arg8 harg8 arg9 harg9 arg10 harg10 arg11 harg11 arg12 harg12 arg13 harg13 hc1 x0 x1 x2 x3 x4 f hf0 hf1 hq
  rw [hQ] at hs
  unfold out0_B_7
  refine (View.read_writes_junk_apply_eq_canon _ _ _).trans ?_
  unfold kernelRun0_B
  dsimp only
  refine (canon_heads _ _ _ _ r h d e he).trans ?_
  by_cases h0 : h = 0
  · rw [if_pos h0, h0]
    refine (pay268_at _ _ _ _ r d).trans (headRow_of x1 x2 x3 x4 x5 x6 (i 2).val f 0 r d _ _ _ (fun d col => (ldAcc_at arg13.view _ 0 _ d col).trans (hs 0 d col)) ?_ ?_)
    · refine Eq.trans ?_ (lam_at x5)
      exact congrArg (fun l => k0_pay267 l (k0_pay266 l) (ix2 0 0)) (ldLam arg8 harg8 x5 _)
    · exact congrFun (ldGain arg9 harg9 x6 _) _
  · have h1 : h = 1 := by fin_cases h <;> first | exact absurd rfl h0 | rfl
    rw [if_neg h0, h1]
    refine (pay1_at _ _ _ r d).trans (headRow_of x1 x2 x3 x4 x5 x6 (i 2).val f 1 r d _ _ _ (fun d col => (ldAcc_at arg13.view _ 1 _ d col).trans (hs 1 d col)) ?_ ?_)
    · refine Eq.trans ?_ (lam_at x5)
      exact congrArg (fun l => k0_pay267 l (k0_pay266 l) (ix2 0 0)) (ldLam arg8 harg8 x5 _)
    · exact congrFun (ldGain arg9 harg9 x6 _) _

/-- What case C of the grid's points stores, at a place of the block. -/
theorem ends_C (c : Dev nD) (i : grid0.Coords) (arg3 : Memref sig .tc .smem S8 .f32) (harg3 : arg3.IsWhole) (arg4 : Memref sig .tc .vmem S1x512x256 .f32) (harg4 : arg4.IsWhole) (arg5 : Memref sig .tc .vmem S1x4096x256 .bf16) (harg5 : arg5.IsWhole) (arg6 : Memref sig .tc .vmem S1x2x144x4096 .bf16) (harg6 : arg6.IsWhole) (arg7 : Memref sig .tc .vmem S2x2x512x512 .f32) (harg7 : arg7.IsWhole) (arg8 : Memref sig .tc .vmem S4x64 .f32) (harg8 : arg8.IsWhole) (arg9 : Memref sig .tc .vmem S1x128 .f32) (harg9 : arg9.IsWhole) (arg10 : Memref sig .tc .vmem S1x512x256 .bf16) (harg10 : arg10.IsWhole) (arg11 : Memref sig .tc .vmem S2x128x1024 .bf16) (harg11 : arg11.IsWhole) (arg12 : Memref sig .tc .vmem S2x1x1024 .f32) (harg12 : arg12.IsWhole) (arg13 : Memref sig .tc .vmem S2x144x1024 .f32) (harg13 : arg13.IsWhole) (hc0 : cond0_0 i) (hc1 : cond0_1 i) (hc2 : ¬cond0_2 i)
    (x0 : Vec Ideal S8 .f32) (x1 : Vec Ideal S1x512x256 .f32) (x2 : Vec Ideal S1x4096x256 .bf16) (x3 : Vec Ideal S1x2x144x4096 .bf16) (x4 : Vec Ideal S2x2x512x512 .f32) (x5 : Vec Ideal S4x64 .f32) (x6 : Vec Ideal S1x128 .f32)
    (f : Fin 2 → ℝ) (hf : ∀ h : Fin 2, (show EReal from x0 (ix1 (⟨2 * (i 1).val + h.val, by have := (i 1).isLt; have : (i 1).val < 4 := this; omega⟩ : Fin 8))) * (((Real.log 2)⁻¹ : ℝ) : EReal) = (f h : EReal))
    (hq : (i 2).val % 2 = 0) (hq2 : 2 ≤ (i 2).val) (r : Fin 512) (h : Fin 2) (d : Fin 128) (e : Fin 256) (he : e.val = 128 * h.val + d.val) :
    out0_C_7 c i arg3 harg3 arg4 harg4 arg5 harg5 arg6 harg6 arg7 harg7 arg8 harg8 arg9 harg9 arg10 harg10 arg11 harg11 arg12 harg12 arg13 harg13 hc0 hc1 hc2 x0 x1 x2 x3 x4 x5 x6 (ix3 0 r e) = headRow x1 x2 x3 x4 x5 x6 (i 2).val f h r d := by
  have hi : (i 1).val < 4 := (i 1).isLt
  have hf0 : kernelRun0_C.sl.r_3 c i arg3 harg3 x0 = (f 0 : EReal) := by
    refine Eq.trans ?_ (hf 0)
    refine (pay255_at _).trans (congrArg (fun y : EReal => y * (((Real.log 2)⁻¹ : ℝ) : EReal)) ?_)
    refine (ldFar_at arg3.view (harg3.unread x0) (k0_off1 i 0#32) (k0_off1_inb i 0) _ ⟨2 * (i 1).val + 0, by omega⟩ (off1_eq0 i)).trans ?_
    exact congrFun (harg3.read_unread x0) _
  have hf1 : kernelRun0_C.sl.r_4 c i arg3 harg3 x0 = (f 1 : EReal) := by
    refine Eq.trans ?_ (hf 1)
    refine (pay256_at _).trans (congrArg (fun y : EReal => y * (((Real.log 2)⁻¹ : ℝ) : EReal)) ?_)
    refine (ldFar_at arg3.view (harg3.unread x0) (k0_off1 i 1#32) (k0_off1_inb i 1) _ ⟨2 * (i 1).val + 1, by omega⟩ (off1_eq1 i)).trans ?_
    exact congrFun (harg3.read_unread x0) _
  have hQ : (View.canon (Val := Elt Ideal) (kernelRun0_C.sl.HS0_2 c arg4 harg4 x1 : List (View.Piece (Elt Ideal) S2x128x1024 .bf16))) = queryF x1 := by
    funext y
    rw [eq_ix3 y]
    refine (queries_at arg4.view (harg4.unread x1) _ _ _ _ (y 0) (y 1) (y 2)).trans ?_
    rw [harg4.read_unread]
    rfl
  have hs := sums_C c i arg3 harg3 arg4 harg4 arg5 harg5 arg6 harg6 arg7 harg7 arg8 harg8 arg9 harg9 arg10 harg10 arg11 harg11 arg12 harg12 arg13 harg13 hc0 hc1 x0 x1 x2 x3 x4 f hf0 hf1 hq hq2
  rw [hQ] at hs
  unfold out0_C_7
  refine (View.read_writes_junk_apply_eq_canon _ _ _).trans ?_
  unfold kernelRun0_C
  dsimp only
  refine (canon_heads _ _ _ _ r h d e he).trans ?_
  by_cases h0 : h = 0
  · rw [if_pos h0, h0]
    refine (pay268_at _ _ _ _ r d).trans (headRow_of x1 x2 x3 x4 x5 x6 (i 2).val f 0 r d _ _ _ (fun d col => (ldAcc_at arg13.view _ 0 _ d col).trans (hs 0 d col)) ?_ ?_)
    · refine Eq.trans ?_ (lam_at x5)
      exact congrArg (fun l => k0_pay267 l (k0_pay266 l) (ix2 0 0)) (ldLam arg8 harg8 x5 _)
    · exact congrFun (ldGain arg9 harg9 x6 _) _
  · have h1 : h = 1 := by fin_cases h <;> first | exact absurd rfl h0 | rfl
    rw [if_neg h0, h1]
    refine (pay1_at _ _ _ r d).trans (headRow_of x1 x2 x3 x4 x5 x6 (i 2).val f 1 r d _ _ _ (fun d col => (ldAcc_at arg13.view _ 1 _ d col).trans (hs 1 d col)) ?_ ?_)
    · refine Eq.trans ?_ (lam_at x5)
      exact congrArg (fun l => k0_pay267 l (k0_pay266 l) (ix2 0 0)) (ldLam arg8 harg8 x5 _)
    · exact congrFun (ldGain arg9 harg9 x6 _) _

end Cert.KernelIdeal.Value
-- ==== Proof.Scale.lean ====
module

public import proofs.«01_k».proof.Proof.Ends

@[expose] public section

set_option maxRecDepth 16384

noncomputable section

/-! The plain softmax over all the keys against the one in powers of two over the keys up to the block's end. -/

namespace Cert.Scale

open Idealize.ShloMosaic Finset Cert.KernelIdeal.Value

/-- The natural logarithm of two. -/
def ln2 : ℝ := Real.log 2

theorem ln2_pos : 0 < ln2 := Real.log_pos (by norm_num)

/-- The natural exponential of a value scaled by the logarithm of two is its power of two. -/
theorem exp_scaled (x : EReal) : Ideal.exp ((ln2 : EReal) * x) = Ideal.exp2 x := by
  induction x with
  | bot => rw [EReal.coe_mul_bot_of_pos ln2_pos]; rfl
  | top => rw [EReal.coe_mul_top_of_pos ln2_pos]; rfl
  | coe r =>
    rw [← EReal.coe_mul, Cert.Softmax.exp2_real]
    show ((Real.exp (ln2 * r) : ℝ) : EReal) = _
    rw [Real.rpow_def_of_pos (by norm_num)]
    rfl

theorem scaled_sub (x y : EReal) : (ln2 : EReal) * (x - y) = (ln2 : EReal) * x - (ln2 : EReal) * y := by
  induction x with
  | bot => simp [EReal.coe_mul_bot_of_pos ln2_pos, EReal.bot_sub]
  | top =>
    induction y with
    | bot => simp [EReal.coe_mul_bot_of_pos ln2_pos, EReal.coe_mul_top_of_pos ln2_pos]
    | top => simp [EReal.coe_mul_bot_of_pos ln2_pos, EReal.coe_mul_top_of_pos ln2_pos]
    | coe s => rw [EReal.top_sub_coe, EReal.coe_mul_top_of_pos ln2_pos, ← EReal.coe_mul, EReal.top_sub_coe]
  | coe r =>
    induction y with
    | bot => rw [EReal.coe_sub_bot, EReal.coe_mul_bot_of_pos ln2_pos, EReal.coe_mul_top_of_pos ln2_pos, ← EReal.coe_mul, EReal.coe_sub_bot]
    | top => rw [EReal.coe_mul_top_of_pos ln2_pos, ← EReal.coe_mul]; simp [EReal.coe_mul_bot_of_pos ln2_pos]
    | coe s => rw [← EReal.coe_sub, ← EReal.coe_mul, ← EReal.coe_mul, ← EReal.coe_mul, ← EReal.coe_sub, mul_sub]

/-- The keys' natural scores: scaled up to the block's end, none beyond. -/
structure Scaled (n : ℕ) (S : ℕ → EReal) (T : Fin 4096 → EReal) : Prop where
  le : n ≤ 4096
  inside : ∀ k : Fin 4096, k.val < n → T k = (ln2 : EReal) * S k.val
  beyond : ∀ k : Fin 4096, n ≤ k.val → T k = ⊥

theorem Scaled.top {n : ℕ} {S : ℕ → EReal} {T : Fin 4096 → EReal} (h : Scaled n S T) :
    univ.sup T = (ln2 : EReal) * topTo S n := by
  have mono : Monotone fun x : EReal => (ln2 : EReal) * x := fun x y hxy =>
    mul_le_mul_of_nonneg_left hxy (by exact_mod_cast ln2_pos.le)
  have e : (ln2 : EReal) * topTo S n = (range n).sup fun k => (ln2 : EReal) * S k := by
    unfold topTo
    rw [Finset.comp_sup_eq_sup_comp_of_is_total (fun x : EReal => (ln2 : EReal) * x) mono (EReal.coe_mul_bot_of_pos ln2_pos)]
    rfl
  rw [e]
  apply le_antisymm
  · refine Finset.sup_le fun k _ => ?_
    by_cases hk : k.val < n
    · rw [h.inside k hk]
      exact Finset.le_sup (f := fun k => (ln2 : EReal) * S k) (Finset.mem_range.mpr hk)
    · rw [h.beyond k (by omega)]; exact bot_le
  · refine Finset.sup_le fun k hk => ?_
    have hk' := Finset.mem_range.mp hk
    have hk4 : k < 4096 := lt_of_lt_of_le hk' h.le
    rw [← h.inside ⟨k, hk4⟩ hk']
    exact Finset.le_sup (f := T) (Finset.mem_univ _)

theorem Scaled.weight {n : ℕ} {S : ℕ → EReal} {T : Fin 4096 → EReal} (h : Scaled n S T) (k : Fin 4096) :
    Ideal.exp (T k - univ.sup T) = if k.val < n then Ideal.exp2 (S k.val - topTo S n) else 0 := by
  by_cases hk : k.val < n
  · rw [if_pos hk, h.top, h.inside k hk, ← scaled_sub, exp_scaled]
  · rw [if_neg hk, h.beyond k (by omega), EReal.bot_sub]; rfl

/-- The weighted sum over all the keys is the one over the keys up to the block's end. -/
theorem Scaled.sum {n : ℕ} {S : ℕ → EReal} {T : Fin 4096 → EReal} (h : Scaled n S T) (W : ℕ → EReal) :
    ∑ k : Fin 4096, Ideal.exp (T k - univ.sup T) * W k.val = sumTo S W n := by
  have e (k : Fin 4096) : Ideal.exp (T k - univ.sup T) * W k.val
      = (fun j : ℕ => if j < n then W j * Ideal.exp2 (S j - topTo S n) else 0) k.val := by
    rw [h.weight k]
    by_cases hk : k.val < n
    · simp only [if_pos hk, mul_comm]
    · simp only [if_neg hk, zero_mul]
  rw [Finset.sum_congr rfl fun k _ => e k, Fin.sum_univ_eq_sum_range (fun j : ℕ => if j < n then W j * Ideal.exp2 (S j - topTo S n) else 0) 4096]
  unfold sumTo
  rw [← Finset.sum_filter]
  refine Finset.sum_congr ?_ fun _ _ => rfl
  ext j
  simp only [Finset.mem_filter, Finset.mem_range]
  have := h.le
  omega

/-- The quotient of the plain softmax is the quotient of the running one, whose weight row holds ones. -/
theorem Scaled.quot {n : ℕ} {S : ℕ → EReal} {T : Fin 4096 → EReal} (h : Scaled n S T) (W U : ℕ → EReal) (hU : ∀ k, U k = 1) :
    Ideal.div (∑ k : Fin 4096, Ideal.exp (T k - univ.sup T) * W k.val) (∑ k : Fin 4096, Ideal.exp (T k - univ.sup T))
      = Ideal.div (sumTo S W n) (sumTo S U n) := by
  rw [h.sum W, ← h.sum U]
  congr 1
  exact Finset.sum_congr rfl fun k _ => by rw [hU, mul_one]

/-- A sum over a head's features in which only one map's half of the queries is filled. -/
theorem half_sum (K x : Fin 128 → EReal) (c : EReal) (u : Fin 2) :
    (∑ d : Fin 128, K d * (if (d.val < 64 ↔ u.val = 0) then x d * c else 0))
      = ∑ e : Fin 64, K ⟨64 * u.val + e.val, by omega⟩ * (x ⟨64 * u.val + e.val, by omega⟩ * c) := by
  have s (g : Fin 128 → EReal) : ∑ d : Fin 128, g d = ∑ e : Fin 64, g ⟨e.val, by omega⟩ + ∑ e : Fin 64, g ⟨64 + e.val, by omega⟩ := by
    exact Fin.sum_univ_add (a := 64) (b := 64) (fun d : Fin (64 + 64) => g d)
  rw [s]
  fin_cases u
  · rw [Finset.sum_congr (s₁ := univ) (s₂ := univ) rfl (g := fun e : Fin 64 => K ⟨e.val, by omega⟩ * (x ⟨e.val, by omega⟩ * c)) fun e _ => by
        rw [if_pos (by simp)],
      Finset.sum_eq_zero (s := univ) (f := fun e : Fin 64 => K ⟨64 + e.val, by omega⟩ * _) fun e _ => by
        rw [if_neg (by simp), mul_zero], add_zero]
    exact Finset.sum_congr rfl fun e _ => by simp
  · rw [Finset.sum_eq_zero (s := univ) (f := fun e : Fin 64 => K ⟨e.val, by omega⟩ * _) fun e _ => by
        rw [if_neg (by simp), mul_zero], zero_add]
    exact Finset.sum_congr rfl fun e _ => by rw [if_pos (by simp)]; rfl

end Cert.Scale
-- ==== Proof.Plain.lean ====
module

public import proofs.«01_k».proof.Proof.Gen.ReferenceIdeal.Run
public import Idealize.ShloMosaic.Lib.Pointwise
public import Idealize.ShloMosaic.Lib.Pipeline.ValueKit
public import Idealize.ShloMosaic.Lib.WordCmp

@[expose] public section

set_option maxRecDepth 16384

noncomputable section

/-! The plain attention's scores and weighted values, read at an index. -/

namespace Cert.ReferenceIdeal.Value

open Cert.ReferenceIdeal Cert.ReferenceIdeal.Gen Idealize.ShloMosaic Idealize.ShloMosaic.TcCoe Idealize.SL.Sem Idealize.ShloMosaic.StableHlo

variable (V0 : Valuation τ sig (Elt Ideal))

/-- The block of a place: the floor of its quotient by 512, in words. -/
def blockWord (n : BitVec 32) : BitVec 32 :=
  Scalar.select
    (IntOp.andi
      (IntOp.cmpi (w := 32) CmpIPredicate.ne (if n = 0 then 0 else if n.msb = true then -1 else 1)
        (if (512#32 : BitVec 32) = 0 then 0 else if BitVec.msb (512#32) = true then -1 else 1))
      (IntOp.cmpi CmpIPredicate.ne (IntOp.remsi ArithUnit.host n 512#32) 0#32))
    (IntOp.subi (IntOp.divsi ArithUnit.host n 512#32) 1#32)
    (IntOp.divsi ArithUnit.host n 512#32)

theorem blockWord_at : ∀ n : Fin 4096, blockWord (BitVec.ofNat 32 n.val) = BitVec.ofNat 32 (n.val / 512) := by
  decide +kernel

theorem apart_at (H : Fin 8) (q k : Fin 4096) :
    @Eq (BitVec 32) (res_main_v14 V0 (ix3 H q k)) (IntOp.subi (BitVec.ofNat 32 (q.val / 512)) (BitVec.ofNat 32 (k.val / 512))) := by
  rw [← blockWord_at q, ← blockWord_at k]
  pointwise [res_main_v14, res_main_v10, res_main_v11, res_main_call0_v0, res_main_call0_v2, res_main_call1_v0, res_main_call1_v2]
  rfl

theorem same_block (a c : Fin 8) : IntOp.cmpi .eq (IntOp.subi (BitVec.ofNat 32 a.val) (BitVec.ofNat 32 c.val)) 0#32 = if a.val = c.val then 1#1 else 0#1 := by
  revert a c; decide

theorem next_block (a c : Fin 8) : IntOp.cmpi .eq (IntOp.subi (BitVec.ofNat 32 a.val) (BitVec.ofNat 32 c.val)) 1#32 = if a.val = c.val + 1 then 1#1 else 0#1 := by
  revert a c; decide

theorem not_after (q k : Fin 4096) : IntOp.cmpi .sle (BitVec.ofNat 32 k.val) (BitVec.ofNat 32 q.val) = if k.val ≤ q.val then 1#1 else 0#1 := by
  word_cmp
  by_cases h : k.val ≤ q.val <;> simp [h]

/-- The bias a key adds to its score. -/
def relAt (far : S8.Idx → EReal) (bias : S8x2x512x512.Idx → EReal) (H : Fin 8) (q k : Fin 4096) : EReal :=
  if q.val / 512 = k.val / 512 then bias (ix4 H 1 ⟨k.val % 512, by omega⟩ ⟨q.val % 512, by omega⟩) * ((Real.log 2 : ℝ) : EReal)
  else if q.val / 512 = k.val / 512 + 1 then bias (ix4 H 0 ⟨k.val % 512, by omega⟩ ⟨q.val % 512, by omega⟩) * ((Real.log 2 : ℝ) : EReal)
  else far (ix1 H)

/-- A key's score for a query. -/
def scoreAt (far : S8.Idx → EReal) (Q K : S8x4096x1024.Idx → EReal) (bias : S8x2x512x512.Idx → EReal) (b H : Fin 8) (u : Fin 2) (q k : Fin 4096) : EReal :=
  if k.val ≤ q.val then (∑ x : Fin 64, Q (ix3 b q ⟨H.val * 128 + u.val * 64 + x.val, by omega⟩) * ((1 / 8 : ℝ) : EReal)
      * K (ix3 b k ⟨H.val * 128 + u.val * 64 + x.val, by omega⟩)) + relAt far bias H q k
  else ⊥

theorem eighth : Ideal.ofBits FTy.f32 0x3E000000#32 = ((1 / 8 : ℝ) : EReal) := by
  simp [Ideal.ofBits, Ideal.ieee]; rw [← EReal.coe_mul]; norm_num
theorem two_log : Ideal.log (Ideal.ofBits FTy.f32 0x40000000#32) = ((Real.log 2 : ℝ) : EReal) := by
  have e : Ideal.ofBits FTy.f32 0x40000000#32 = ((2 : ℝ) : EReal) := by
    simp [Ideal.ofBits, Ideal.ieee]; rw [← EReal.coe_mul]; norm_num
  rw [e]
  show (if (2 : ℝ) ≤ 0 then (⊥ : EReal) else ((Real.log 2 : ℝ) : EReal)) = _
  rw [if_neg (by norm_num)]
theorem lowest : Ideal.ofBits FTy.f32 0xFF800000#32 = (⊥ : EReal) := by
  simp [Ideal.ofBits, Ideal.ieee]

/-- A choice by a word that is one or zero. -/
theorem choose_if (p : Prop) [Decidable p] (x y : EReal) : Scalar.select (if p then 1#1 else 0#1) x y = if p then x else y := by
  by_cases h : p
  · simp only [if_pos h]; rfl
  · simp only [if_neg h]; rfl

theorem score_at (b H : Fin 8) (u : Fin 2) (q k : Fin 4096) :
    (show EReal from res_main_v42 V0 (ix5 b H u q k)) = scoreAt (V0 (Proc.tc.devRef main_arg0)) (V0 (Proc.tc.devRef main_arg1)) (V0 (Proc.tc.devRef main_arg2)) (V0 (Proc.tc.devRef main_arg4)) b H u q k := by
  have e1 : @Eq (BitVec 32) (res_main_v11 V0 (ix3 0 q k)) (BitVec.ofNat 32 k.val) := rfl
  have e0 : @Eq (BitVec 32) (res_main_v10 V0 (ix3 0 q k)) (BitVec.ofNat 32 q.val) := rfl
  have e2 := apart_at V0 H q k
  have f1 := same_block ⟨q.val / 512, by omega⟩ ⟨k.val / 512, by omega⟩
  have f2 := next_block ⟨q.val / 512, by omega⟩ ⟨k.val / 512, by omega⟩
  pointwise [res_main_v42, res_main_v9]
  have f0 := not_after q k
  have g1 := eighth
  have g2 := two_log
  simp only [e0, e1, e2, f0, f1, f2, g1, g2]
  unfold scoreAt relAt
  refine (choose_if _ _ _).trans (if_congr Iff.rfl (congrArg (_ + ·) ?_) lowest)
  refine (choose_if _ _ _).trans (if_congr Iff.rfl rfl ?_)
  exact choose_if _ _ _

/-- The places a row's maximum is taken over are the row's keys. -/
theorem fold_row (X : S8x8x2x4096x4096.Idx → EReal) (b H : Fin 8) (u : Fin 2) (q : Fin 4096) :
    Finset.fold max (⊥ : EReal) X {i | reducesTo_S8x8x2x4096x4096_S8x8x2x4096_d4.drop i = ix4 b H u q}
      = Finset.univ.sup fun k : Fin 4096 => X (ix5 b H u q k) := by
  show Finset.sup _ X = _
  apply le_antisymm
  · refine Finset.sup_le fun i hi => ?_
    have hi' := (Finset.mem_filter.mp hi).2
    have e : i = ix5 b H u q (i 4) := by
      funext a
      fin_cases a
      · exact congrFun hi' 0
      · exact congrFun hi' 1
      · exact congrFun hi' 2
      · exact congrFun hi' 3
      · rfl
    rw [e]
    exact Finset.le_sup (f := fun k : Fin 4096 => X (ix5 b H u q k)) (Finset.mem_univ _)
  · refine Finset.sup_le fun k _ => ?_
    refine Finset.le_sup (f := X) (Finset.mem_filter.mpr ⟨Finset.mem_univ _, ?_⟩)
    funext a
    fin_cases a <;> rfl

theorem p_at (b H : Fin 8) (u : Fin 2) (q k : Fin 4096) (T : Fin 4096 → EReal) (hT : ∀ k, (show EReal from res_main_v42 V0 (ix5 b H u q k)) = T k) :
    (show EReal from res_main_v47 V0 (ix5 b H u q k)) = Ideal.exp (T k - Finset.univ.sup T) := by
  have e := fold_row (res_main_v42 V0) b H u q
  have e2 : (Finset.univ.sup fun k : Fin 4096 => (show EReal from res_main_v42 V0 (ix5 b H u q k))) = Finset.univ.sup T := by
    congr 1; funext k; exact hT k
  have e3 := hT k
  pointwise [res_main_v47]
  rw [lowest]
  exact congrArg Ideal.exp (congrArg₂ (· - ·) e3 (e.trans e2))

theorem w_at (b H : Fin 8) (u : Fin 2) (q  : Fin 4096) (d : Fin 128) (T : Fin 4096 → EReal) (hT : ∀ k, (show EReal from res_main_v42 V0 (ix5 b H u q k)) = T k) :
    (show EReal from res_main_v52 V0 (ix5 b H u q d)) = Ideal.div
      (∑ k : Fin 4096, Ideal.exp (T k - Finset.univ.sup T) * (show S8x8x144x4096.Idx → EReal from V0 (Proc.tc.devRef main_arg3)) (ix4 b H ⟨d.val, by omega⟩ k))
      (∑ k : Fin 4096, Ideal.exp (T k - Finset.univ.sup T)) := by
  have e (k : Fin 4096) := p_at V0 b H u q k T hT
  pointwise [res_main_v52]
  exact congrArg₂ Ideal.div (Finset.sum_congr rfl fun k _ => congrArg (· * _) (e k)) (Finset.sum_congr rfl fun k _ => e k)

end Cert.ReferenceIdeal.Value
-- ==== Proof.Match.lean ====
module

public import proofs.«01_k».proof.Proof.Scale
public import proofs.«01_k».proof.Proof.Plain

@[expose] public section

set_option maxRecDepth 16384

noncomputable section

/-! A grid point's scores and weighted values against the plain attention's. -/

namespace Cert.Match

open Idealize.ShloMosaic Finset Cert.KernelIdeal.Value Cert.Scale
open Cert.ReferenceIdeal.Value (scoreAt relAt)
open Cert.KernelIdeal (S1x512x256 S1x4096x256 S1x2x144x4096 S2x2x512x512)
open Cert.ReferenceIdeal (S8 S8x4096x1024 S8x8x144x4096 S8x2x512x512)

theorem ln2_inv : ((ln2 : ℝ) : EReal) * ((Real.log 2)⁻¹ : ℝ) = 1 := by
  rw [← EReal.coe_mul]
  have : ln2 * (Real.log 2)⁻¹ = 1 := mul_inv_cancel₀ ln2_pos.ne'
  rw [this]; rfl

/-- The query's scale, times the logarithm of two, is an eighth. -/
theorem ln2_scale : ((ln2 : ℝ) : EReal) * (((1 / 8) * (Real.log 2)⁻¹ : ℝ) : EReal) = ((1 / 8 : ℝ) : EReal) := by
  rw [← EReal.coe_mul]
  have : ln2 * ((1 / 8) * (Real.log 2)⁻¹) = 1 / 8 := by
    have := mul_inv_cancel₀ ln2_pos.ne'
    unfold ln2 at *
    rw [mul_left_comm, this, mul_one]
  rw [this]

theorem ln2_add (x y : EReal) : (ln2 : EReal) * (x + y) = (ln2 : EReal) * x + (ln2 : EReal) * y :=
  EReal.left_distrib_of_nonneg_of_ne_top (by exact_mod_cast ln2_pos.le) (EReal.coe_ne_top _) _ _

/-- A block of the arrays that a grid point reads: batch row `b`, head pair `p`, query block `i`. -/
structure Block (b : Fin 8) (p : Fin 4) (i : Fin 8) (far : S8.Idx → EReal) (Q K : S8x4096x1024.Idx → EReal) (V : S8x8x144x4096.Idx → EReal)
    (bias : S8x2x512x512.Idx → EReal) (x1 : S1x512x256.Idx → EReal) (x2 : S1x4096x256.Idx → EReal) (x3 : S1x2x144x4096.Idx → EReal)
    (x4 : S2x2x512x512.Idx → EReal) (f : Fin 2 → ℝ) : Prop where
  q : ∀ (r : Fin 512) (e : Fin 256), x1 (ix3 0 r e) = Q (ix3 b ⟨512 * i.val + r.val, by omega⟩ ⟨256 * p.val + e.val, by omega⟩)
  k : ∀ (r : Fin 4096) (e : Fin 256), x2 (ix3 0 r e) = K (ix3 b r ⟨256 * p.val + e.val, by omega⟩)
  v : ∀ (h : Fin 2) (d : Fin 144) (r : Fin 4096), x3 (ix4 0 h d r) = V (ix4 b ⟨2 * p.val + h.val, by omega⟩ d r)
  w : ∀ (h a : Fin 2) (r s : Fin 512), x4 (ix4 h a r s) = bias (ix4 ⟨2 * p.val + h.val, by omega⟩ a r s)
  f : ∀ h : Fin 2, far (ix1 ⟨2 * p.val + h.val, by omega⟩) * ((Real.log 2)⁻¹ : ℝ) = (f h : EReal)
  ones : ∀ (h : Fin 2) (r : Fin 4096), V (ix4 b ⟨2 * p.val + h.val, by omega⟩ 128 r) = 1
  none : ∀ (h : Fin 2) (r s : Fin 512), s.val < r.val → bias (ix4 ⟨2 * p.val + h.val, by omega⟩ 1 r s) = ⊥

variable {b : Fin 8} {p : Fin 4} {i : Fin 8} {far : S8.Idx → EReal} {Q K : S8x4096x1024.Idx → EReal} {V : S8x8x144x4096.Idx → EReal}
    {bias : S8x2x512x512.Idx → EReal} {x1 : S1x512x256.Idx → EReal} {x2 : S1x4096x256.Idx → EReal} {x3 : S1x2x144x4096.Idx → EReal}
    {x4 : S2x2x512x512.Idx → EReal} {f : Fin 2 → ℝ}

/-- The products of queries and keys: the kernel's, times the logarithm of two, are the plain ones. -/
theorem Block.dot (B : Block b p i far Q K V bias x1 x2 x3 x4 f) (h u : Fin 2) (r : Fin 512) (k : Fin 4096) :
    (ln2 : EReal) * ∑ d : Fin 128, x2 (ix3 0 ⟨k.val % 4096, by omega⟩ ⟨128 * h.val + d.val, by omega⟩) * queryF x1 (ix3 h d ⟨512 * u.val + r.val, by omega⟩)
      = ∑ x : Fin 64, Q (ix3 b ⟨512 * i.val + r.val, by omega⟩ ⟨(2 * p.val + h.val) * 128 + u.val * 64 + x.val, by omega⟩) * ((1 / 8 : ℝ) : EReal)
      * K (ix3 b k ⟨(2 * p.val + h.val) * 128 + u.val * 64 + x.val, by omega⟩) := by
  have e (d : Fin 128) : queryF x1 (ix3 h d ⟨512 * u.val + r.val, by omega⟩)
      = if (d.val < 64 ↔ u.val = 0) then x1 (ix3 0 r ⟨128 * h.val + d.val, by omega⟩) * (((1 / 8) * (Real.log 2)⁻¹ : ℝ) : EReal) else 0 := by
    show queryAt x1 h d ⟨512 * u.val + r.val, _⟩ = _
    unfold queryAt
    refine if_congr (iff_congr Iff.rfl (by show 512 * u.val + r.val < 512 ↔ _; omega)) ?_ rfl
    have e : (⟨(512 * u.val + r.val) % 512, by omega⟩ : Fin 512) = r := Fin.ext (by show (512 * u.val + r.val) % 512 = _; omega)
    exact congrArg (fun r => x1 (ix3 0 r _) * _) e
  rw [Finset.sum_congr rfl fun d _ => congrArg (_ * ·) (e d)]
  rw [half_sum (fun d => x2 (ix3 0 ⟨k.val % 4096, by omega⟩ ⟨128 * h.val + d.val, by omega⟩)) (fun d => x1 (ix3 0 r ⟨128 * h.val + d.val, by omega⟩)) _ u,
    Cert.Softmax.mul_sum_real _ ln2_pos.le]
  refine Finset.sum_congr rfl fun x _ => ?_
  have eK : x2 (ix3 0 ⟨k.val % 4096, by omega⟩ ⟨128 * h.val + (64 * u.val + x.val), by omega⟩) = K (ix3 b k ⟨(2 * p.val + h.val) * 128 + u.val * 64 + x.val, by omega⟩) := by
    rw [B.k]
    exact congrArg₂ (fun a c => K (ix3 b a c)) (Fin.ext (by show k.val % 4096 = _; omega)) (Fin.ext (by show 256 * p.val + (128 * h.val + (64 * u.val + x.val)) = (2 * p.val + h.val) * 128 + u.val * 64 + x.val; omega))
  have eQ : x1 (ix3 0 r ⟨128 * h.val + (64 * u.val + x.val), by omega⟩) = Q (ix3 b ⟨512 * i.val + r.val, by omega⟩ ⟨(2 * p.val + h.val) * 128 + u.val * 64 + x.val, by omega⟩) := by
    rw [B.q]
    exact congrArg (fun c => Q (ix3 b _ c)) (Fin.ext (by show 256 * p.val + (128 * h.val + (64 * u.val + x.val)) = (2 * p.val + h.val) * 128 + u.val * 64 + x.val; omega))
  rw [eK, eQ, ← ln2_scale]
  generalize K _ = y
  generalize Q _ = z
  generalize ((ln2 : ℝ) : EReal) = g
  generalize ((_ : ℝ) : EReal) = w
  rw [mul_comm y, mul_left_comm z g w, mul_assoc g, mul_assoc z w y]

/-- The bias: the kernel's, times the logarithm of two, is the plain one. -/
theorem Block.rel (B : Block b p i far Q K V bias x1 x2 x3 x4 f) (h u : Fin 2) (r : Fin 512) (k : Fin 4096) (hk : k.val < 512 * (i.val + 1)) :
    (ln2 : EReal) * keyBias x4 i.val f h ⟨512 * u.val + r.val, by omega⟩ k.val
      = relAt far bias ⟨2 * p.val + h.val, by omega⟩ ⟨512 * i.val + r.val, by omega⟩ k := by
  have er : (⟨(512 * u.val + r.val) % 512, by omega⟩ : Fin 512) = r := Fin.ext (by show (512 * u.val + r.val) % 512 = _; omega)
  have es : (⟨(512 * i.val + r.val) % 512, by omega⟩ : Fin 512) = r := Fin.ext (by show (512 * i.val + r.val) % 512 = _; omega)
  have eb (a : Fin 2) : x4 (ix4 h a ⟨k.val % 512, by omega⟩ ⟨(512 * u.val + r.val) % 512, by omega⟩)
      = bias (ix4 ⟨2 * p.val + h.val, by omega⟩ a ⟨k.val % 512, by omega⟩ ⟨(512 * i.val + r.val) % 512, by omega⟩) := by
    rw [B.w]
    exact congrArg (fun c => bias (ix4 _ a _ c)) (er.trans es.symm)
  have hi : (512 * i.val + r.val) / 512 = i.val := by omega
  unfold keyBias relAt
  show (ln2 : EReal) * (if k.val / 512 + 1 < i.val then (f h : EReal) else x4 (ix4 h (if k.val / 512 < i.val then 0 else 1) ⟨k.val % 512, _⟩ ⟨(512 * u.val + r.val) % 512, _⟩))
    = if (512 * i.val + r.val) / 512 = k.val / 512 then bias (ix4 _ 1 ⟨k.val % 512, _⟩ ⟨(512 * i.val + r.val) % 512, _⟩) * (ln2 : EReal)
      else if (512 * i.val + r.val) / 512 = k.val / 512 + 1 then bias (ix4 _ 0 ⟨k.val % 512, _⟩ ⟨(512 * i.val + r.val) % 512, _⟩) * (ln2 : EReal) else far (ix1 _)
  by_cases h1 : k.val / 512 + 1 < i.val
  · rw [if_pos h1, if_neg (by omega), if_neg (by omega), ← B.f h, mul_left_comm, ln2_inv, mul_one]
  · rw [if_neg h1, eb, mul_comm]
    by_cases h2 : k.val / 512 < i.val
    · rw [if_pos h2, if_neg (by omega), if_pos (by omega)]
    · rw [if_neg h2, if_pos (by omega)]

/-- The kernel's scores are the plain ones, scaled; beyond the block's end the plain ones are the lowest. -/
theorem Block.scaled (B : Block b p i far Q K V bias x1 x2 x3 x4 f) (h u : Fin 2) (r : Fin 512) :
    Scaled (512 * (i.val + 1)) (keyScore x2 (queryF x1) x4 i.val f h ⟨512 * u.val + r.val, by omega⟩)
      (scoreAt far Q K bias b ⟨2 * p.val + h.val, by omega⟩ u ⟨512 * i.val + r.val, by omega⟩) where
  le := by omega
  inside k hk := by
    unfold scoreAt
    by_cases hq : k.val ≤ 512 * i.val + r.val
    · rw [if_pos hq]
      unfold keyScore
      rw [ln2_add, B.rel h u r k hk, B.dot h u r k]
    · rw [if_neg hq]
      unfold keyScore
      have e : keyBias x4 i.val f h ⟨512 * u.val + r.val, by omega⟩ k.val = ⊥ := by
        unfold keyBias
        rw [if_neg (by omega), if_neg (by omega), B.w]
        exact B.none h _ _ (by show (512 * u.val + r.val) % 512 < k.val % 512; omega)
      rw [e, EReal.add_bot, EReal.coe_mul_bot_of_pos ln2_pos]
  beyond k hk := by
    unfold scoreAt
    rw [if_neg (by show ¬ k.val ≤ 512 * i.val + r.val; omega)]

/-- The kernel's weighted values are the plain ones. -/
theorem Block.weighted (B : Block b p i far Q K V bias x1 x2 x3 x4 f) (h u : Fin 2) (r : Fin 512) (d : Fin 128) :
    wtRow x1 x2 x3 x4 i.val f h ⟨512 * u.val + r.val, by omega⟩ d
      = Ideal.div
    (∑ k : Fin 4096, Ideal.exp (scoreAt far Q K bias b ⟨2 * p.val + h.val, by omega⟩ u ⟨512 * i.val + r.val, by omega⟩ k - Finset.univ.sup (scoreAt far Q K bias b ⟨2 * p.val + h.val, by omega⟩ u ⟨512 * i.val + r.val, by omega⟩)) * V (ix4 b ⟨2 * p.val + h.val, by omega⟩ ⟨d.val, by omega⟩ k))
    (∑ k : Fin 4096, Ideal.exp (scoreAt far Q K bias b ⟨2 * p.val + h.val, by omega⟩ u ⟨512 * i.val + r.val, by omega⟩ k - Finset.univ.sup (scoreAt far Q K bias b ⟨2 * p.val + h.val, by omega⟩ u ⟨512 * i.val + r.val, by omega⟩))) := by
  unfold wtRow
  rw [← (B.scaled h u r).quot _ _ fun k => by
    unfold keyValue
    rw [B.v]
    exact B.ones h _]
  congr 1
  refine Finset.sum_congr rfl fun k _ => congrArg (HMul.hMul _) ?_
  unfold keyValue
  rw [B.v]
  exact congrArg (fun c => V (ix4 b _ _ c)) (Fin.ext (by show k.val % 4096 = k.val; omega))

end Cert.Match
-- ==== Proof.PlainOut.lean ====
module

public import proofs.«01_k».proof.Proof.Plain
public import proofs.«01_k».proof.Proof.Rows

@[expose] public section

set_option maxRecDepth 16384

noncomputable section

/-! The plain attention's result, read at an index. -/

namespace Cert.ReferenceIdeal.Value

open Cert.ReferenceIdeal Cert.ReferenceIdeal.Gen Idealize.ShloMosaic Idealize.ShloMosaic.TcCoe Idealize.SL.Sem Idealize.ShloMosaic.StableHlo

/-- The weight between the two maps. -/
theorem lam_at (l : FVec Ideal S4x64 .f32) (y : S_.Idx) :
    (show EReal from (addf (subf (Host.exp (Host.reduceAdd (mulf (shapeCast _ (extractStridedSlice S1x64 ![0, 0] l slices_S4x64_S1x64_0_0) shapeCasts_S1x64_S64) (shapeCast _ (extractStridedSlice S1x64 ![1, 0] l slices_S4x64_S1x64_1_0) shapeCasts_S1x64_S64)) (constant S_ .f32 0x00000000#32) reducesTo_S64_S_d0 h_S_)) (Host.exp (Host.reduceAdd (mulf (shapeCast _ (extractStridedSlice S1x64 ![2, 0] l slices_S4x64_S1x64_2_0) shapeCasts_S1x64_S64) (shapeCast _ (extractStridedSlice S1x64 ![3, 0] l slices_S4x64_S1x64_3_0) shapeCasts_S1x64_S64)) (constant S_ .f32 0x00000000#32) reducesTo_S64_S_d0 h_S_))) (constant S_ .f32 0x3EB60549#32)) y)
      = KernelIdeal.Value.lamOf fun a k => l (ix2 a k) := by
  have e : y = ix0 := funext fun a => a.elim0
  subst e
  unfold KernelIdeal.Value.lamOf
  pointwise []

/-- The second map's weighted values. -/
theorem map1_at (W : FVec Ideal S8x8x2x4096x128 .f32) (b H : Fin 8) (q : Fin 4096) (d : Fin 128) :
    (shapeCast _ (extractStridedSlice S8x8x1x4096x128 ![0, 0, 1, 0, 0] W slices_S8x8x2x4096x128_S8x8x1x4096x128_0_0_1_0_0) shapeCasts_S8x8x1x4096x128_S8x8x4096x128) (ix4 b H q d) = W (ix5 b H 1 q d) := by
  pointwise []

/-- The first map's weighted values. -/
theorem map0_at (W : FVec Ideal S8x8x2x4096x128 .f32) (b H : Fin 8) (q : Fin 4096) (d : Fin 128) :
    (shapeCast _ (extractStridedSlice S8x8x1x4096x128 ![0, 0, 0, 0, 0] W slices_S8x8x2x4096x128_S8x8x1x4096x128_0_0_0_0_0) shapeCasts_S8x8x1x4096x128_S8x8x4096x128) (ix4 b H q d) = W (ix5 b H 0 q d) := by
  pointwise []

/-- The normalised rows, laid out by query and head, at a feature of the result. -/
theorem normed_raw (o : FVec Ideal S8x8x4096x128 .f32) (g : FVec Ideal S1x128 .f32) (b : Fin 8) (q : Fin 4096) (e : Fin 1024) :
    (show EReal from (truncf .bf16 (shapeCast _ (transpose S8x4096x8x128 [0, 2, 1, 3] (mulf (mulf (mulf o (broadcastInDim S8x8x4096x128 ![0, 1, 2, 3] bcast_S8x8x4096x1_S8x8x4096x128_0_1_2_3 (Host.rsqrt (addf (Host.divf (broadcastInDim S8x8x4096x1 ![0, 1, 2] bcast_S8x8x4096_S8x8x4096x1_0_1_2 (Host.reduceAdd (mulf o o) (constant S_ .f32 0x00000000#32) reducesTo_S8x8x4096x128_S8x8x4096_d3 h_S_)) (broadcastInDim S8x8x4096x1 ![] bcast_S_S8x8x4096x1 (constant S_ .f32 0x43000000#32))) (broadcastInDim S8x8x4096x1 ![] bcast_S_S8x8x4096x1 (constant S_ .f32 0x3727C5AC#32)))))) (broadcastInDim S8x8x4096x128 ![0, 1, 2, 3] bcast_S1x1x1x128_S8x8x4096x128_0_1_2_3 (broadcastInDim S1x1x1x128 ![3] bcast_S128_S1x1x1x128_3 (shapeCast _ g shapeCasts_S1x128_S128)))) (broadcastInDim S8x8x4096x128 ![] bcast_S_S8x8x4096x128 (constant S_ .f32 0x3F24FD5C#32))) transposes_S8x8x4096x128_S8x4096x8x128_0_2_1_3) shapeCasts_S8x4096x8x128_S8x4096x1024) bitsLt_bf16_f32 : FVec Ideal S8x4096x1024 .bf16) (ix3 b q e))
      = o (ix4 b ⟨e.val / 128, by omega⟩ q ⟨e.val % 128, by omega⟩) * Ideal.rsqrt (Ideal.div (∑ x : Fin 128, o (ix4 b ⟨e.val / 128, by omega⟩ q x) * o (ix4 b ⟨e.val / 128, by omega⟩ q x)) (Ideal.ofBits FTy.f32 0x43000000#32) + Ideal.ofBits FTy.f32 0x3727C5AC#32) * g (ix2 0 ⟨e.val % 128, by omega⟩) * Ideal.ofBits FTy.f32 0x3F24FD5C#32 := by
  pointwise []

/-- The weighted value of a head's map at a query. -/
def weightedAt (far : S8.Idx → EReal) (Q K : S8x4096x1024.Idx → EReal) (V : S8x8x144x4096.Idx → EReal) (bias : S8x2x512x512.Idx → EReal)
    (b H : Fin 8) (u : Fin 2) (q : Fin 4096) (d : Fin 128) : EReal :=
  Ideal.div
    (∑ k : Fin 4096, Ideal.exp (scoreAt far Q K bias b H u q k - Finset.univ.sup (scoreAt far Q K bias b H u q)) * V (ix4 b H ⟨d.val, by omega⟩ k))
    (∑ k : Fin 4096, Ideal.exp (scoreAt far Q K bias b H u q k - Finset.univ.sup (scoreAt far Q K bias b H u q)))

/-- The attention's result: each head's row, from its two maps' weighted values. -/
def attnOf (far : S8.Idx → EReal) (Q K : S8x4096x1024.Idx → EReal) (V : S8x8x144x4096.Idx → EReal) (bias : S8x2x512x512.Idx → EReal)
    (l : S4x64.Idx → EReal) (g : S1x128.Idx → EReal) : S8x4096x1024.Idx → EReal := fun i =>
  KernelIdeal.Value.outRow (weightedAt far Q K V bias (i 0) ⟨(i 2).val / 128, Nat.div_lt_of_lt_mul (i 2).isLt⟩ 0 (i 1))
    (weightedAt far Q K V bias (i 0) ⟨(i 2).val / 128, Nat.div_lt_of_lt_mul (i 2).isLt⟩ 1 (i 1))
    (KernelIdeal.Value.lamOf fun a k => l (ix2 a k)) (g (ix2 0 ⟨(i 2).val % 128, Nat.mod_lt _ (by decide)⟩)) ⟨(i 2).val % 128, Nat.mod_lt _ (by decide)⟩

/-- A difference weighted by one scalar, at a place. -/
theorem weighted_diff (X Y : FVec Ideal S8x8x4096x128 .f32) (L : FVec Ideal S_ .f32) (b H : Fin 8) (q : Fin 4096) (d : Fin 128) :
    subf X (mulf (broadcastInDim S8x8x4096x128 ![] bcast_S_S8x8x4096x128 L) Y) (ix4 b H q d) = X (ix4 b H q d) - L ix0 * Y (ix4 b H q d) := by
  pointwise []

/-- The difference of the two maps' values. -/
theorem diff_of (W : FVec Ideal S8x8x2x4096x128 .f32) (l : FVec Ideal S4x64 .f32) (b H : Fin 8) (q : Fin 4096) (d : Fin 128) :
    @Eq EReal ((subf (shapeCast S8x8x4096x128 (extractStridedSlice S8x8x1x4096x128 ![0, 0, 0, 0, 0] W slices_S8x8x2x4096x128_S8x8x1x4096x128_0_0_0_0_0) shapeCasts_S8x8x1x4096x128_S8x8x4096x128) (mulf (broadcastInDim S8x8x4096x128 ![] bcast_S_S8x8x4096x128 (addf (subf (Host.exp (Host.reduceAdd (mulf (shapeCast _ (extractStridedSlice S1x64 ![0, 0] l slices_S4x64_S1x64_0_0) shapeCasts_S1x64_S64) (shapeCast _ (extractStridedSlice S1x64 ![1, 0] l slices_S4x64_S1x64_1_0) shapeCasts_S1x64_S64)) (constant S_ .f32 0x00000000#32) reducesTo_S64_S_d0 h_S_)) (Host.exp (Host.reduceAdd (mulf (shapeCast _ (extractStridedSlice S1x64 ![2, 0] l slices_S4x64_S1x64_2_0) shapeCasts_S1x64_S64) (shapeCast _ (extractStridedSlice S1x64 ![3, 0] l slices_S4x64_S1x64_3_0) shapeCasts_S1x64_S64)) (constant S_ .f32 0x00000000#32) reducesTo_S64_S_d0 h_S_))) (constant S_ .f32 0x3EB60549#32))) (shapeCast S8x8x4096x128 (extractStridedSlice S8x8x1x4096x128 ![0, 0, 1, 0, 0] W slices_S8x8x2x4096x128_S8x8x1x4096x128_0_0_1_0_0) shapeCasts_S8x8x1x4096x128_S8x8x4096x128)) : FVec Ideal S8x8x4096x128 .f32) (ix4 b H q d))
      (W (ix5 b H 0 q d) - KernelIdeal.Value.lamOf (fun a k => l (ix2 a k)) * W (ix5 b H 1 q d)) := by
  refine (weighted_diff _ _ _ b H q d).trans ?_
  rw [map0_at, map1_at]
  exact congrArg (fun x : EReal => _ - x * _) (lam_at l ix0)

/-- The difference of the two maps' weighted values. -/
theorem diff_at (V0 : Valuation τ sig (Elt Ideal)) (b H : Fin 8) (q : Fin 4096) (d : Fin 128) :
    @Eq EReal (res_main_v75 V0 (ix4 b H q d))
      (weightedAt (V0 (Proc.tc.devRef main_arg0)) (V0 (Proc.tc.devRef main_arg1)) (V0 (Proc.tc.devRef main_arg2)) (V0 (Proc.tc.devRef main_arg3)) (V0 (Proc.tc.devRef main_arg4)) b H 0 q d
        - KernelIdeal.Value.lamOf (fun a k => (show S4x64.Idx → EReal from V0 (Proc.tc.devRef main_arg5)) (ix2 a k))
          * weightedAt (V0 (Proc.tc.devRef main_arg0)) (V0 (Proc.tc.devRef main_arg1)) (V0 (Proc.tc.devRef main_arg2)) (V0 (Proc.tc.devRef main_arg3)) (V0 (Proc.tc.devRef main_arg4)) b H 1 q d) := by
  refine (diff_of (res_main_v52 V0) (V0 (Proc.tc.devRef main_arg5)) b H q d).trans ?_
  exact congrArg₂ (fun x y : EReal => x - _ * y) (w_at V0 b H 0 q d _ (fun k => score_at V0 b H 0 q k)) (w_at V0 b H 1 q d _ (fun k => score_at V0 b H 1 q k))

/-- The reference's result is the attention of its arguments. -/
theorem result_eq (V0 : Valuation τ sig (Elt Ideal)) :
    @Eq (S8x4096x1024.Idx → EReal) (val2 V0 (Proc.tc.devRef main_v94))
      (attnOf (V0 (Proc.tc.devRef main_arg0)) (V0 (Proc.tc.devRef main_arg1)) (V0 (Proc.tc.devRef main_arg2)) (V0 (Proc.tc.devRef main_arg3)) (V0 (Proc.tc.devRef main_arg4)) (V0 (Proc.tc.devRef main_arg5)) (V0 (Proc.tc.devRef main_arg6))) := by
  rw [val2_main_v94]
  funext i
  obtain ⟨b, q, e, rfl⟩ : ∃ (b : Fin 8) (q : Fin 4096) (e : Fin 1024), i = ix3 b q e := ⟨i 0, i 1, i 2, by funext a; fin_cases a <;> rfl⟩
  refine (normed_raw (res_main_v75 V0) (V0 (Proc.tc.devRef main_arg6)) b q e).trans ?_
  have d (x : Fin 128) := diff_at V0 b ⟨e.val / 128, by omega⟩ q x
  unfold attnOf KernelIdeal.Value.outRow
  refine congrArg (· * _) (congrArg (· * _) (congrArg₂ (fun x y : EReal => x * y) (d _) (congrArg (fun z : EReal => Ideal.rsqrt (Ideal.div z _ + _)) ?_)))
  exact Finset.sum_congr rfl fun x _ => congrArg₂ (fun x y : EReal => x * y) (d x) (d x)

end Cert.ReferenceIdeal.Value
-- ==== Proof.Args.lean ====
module

public import proofs.«01_k».proof.Pre_attn_args
public import Idealize.ShloMosaic.Lib.ReduceAll
public import Idealize.ShloMosaic.Lib.Pointwise
public import Idealize.ShloMosaic.Lib.Pipeline.ValueKit
public import Idealize.ShloMosaic.Lib.WordCmp

@[expose] public section

set_option maxRecDepth 16384

noncomputable section

/-! What the precondition on the attention's arguments says of them. -/

namespace Cert.Pre_attn_args

open Idealize.ShloMosaic

/-- The predicate's side conditions. -/
instance facts : Facts where
  bcast_S_S8 := by decide
  reducesTo_S8_S_d0 := by decide
  h_S_ := by decide
  bitsLt_bf16_f32 := by decide
  slices_S8x8x144x4096_S8x8x1x4096_0_0_128_0 := by decide
  bcast_S_S8x8x1x4096 := by decide
  reducesTo_S8x8x1x4096_S_d0_1_2_3 := by decide
  slices_S8x2x512x512_S8x1x512x512_0_1_0_0 := by decide
  shapeCasts_S8x1x512x512_S8x512x512 := by decide
  bcast_S_S8x512x512 := by decide
  reducesTo_S8x512x512_S_d0_1_2 := by decide

open Facts

instance : Subsingleton S_.Idx := ⟨fun a b => funext fun i => i.elim0⟩

theorem both (x y : BitVec 1) : IntOp.andi x y = 1#1 → x = 1#1 ∧ y = 1#1 := by revert x y; decide
theorem either (x y : BitVec 1) : IntOp.ori x y = 1#1 → x = 1#1 ∨ y = 1#1 := by revert x y; decide

theorem ofBool_one (b : Bool) : BitVec.ofBool b = 1#1 ↔ b = true := by revert b; decide

/-- What the claim needs of the arguments: the far biases are finite, the values' row 128 holds ones, and no key after the query has a bias. -/
structure Good (far : S8.Idx → EReal) (V : S8x8x144x4096.Idx → EReal) (bias : S8x2x512x512.Idx → EReal) : Prop where
  far : ∀ H : Fin 8, ∃ r : ℝ, far (ix1 H) = (r : EReal)
  ones : ∀ (b H : Fin 8) (r : Fin 4096), V (ix4 b H 128 r) = 1
  none : ∀ (H : Fin 8) (r s : Fin 512), s.val < r.val → bias (ix4 H 1 r s) = ⊥

theorem far_of (far : FVec Ideal S8 .f32) (H : Fin 8)
    (h : (andi (cmpf .ogt far (broadcastInDim S8 ![] bcast_S_S8 (constant S_ .f32 0xFF800000#32))) (cmpf .olt far (broadcastInDim S8 ![] bcast_S_S8 (constant S_ .f32 0x7F800000#32)))) (ix1 H) = 1#1) :
    ∃ r : ℝ, (show EReal from far (ix1 H)) = (r : EReal) := by
  obtain ⟨h1, h2⟩ := both _ _ h
  revert h1 h2
  pointwise []
  intro h1 h2
  have e1 := of_decide_eq_true ((ofBool_one _).mp h1)
  have e2 := of_decide_eq_true ((ofBool_one _).mp h2)
  have b1 : Ideal.ofBits FTy.f32 0xFF800000#32 = (⊥ : EReal) := by simp [Ideal.ofBits, Ideal.ieee]
  have b2 : Ideal.ofBits FTy.f32 0x7F800000#32 = (⊤ : EReal) := by simp [Ideal.ofBits, Ideal.ieee]
  rw [b1] at e1
  rw [b2] at e2
  exact ⟨_, (EReal.coe_toReal e2.ne e1.ne').symm⟩

theorem ones_of (V : FVec Ideal S8x8x144x4096 .bf16) (b H : Fin 8) (r : Fin 4096)
    (h : (cmpf .oeq (extractStridedSlice S8x8x1x4096 ![0, 0, 128, 0] (extf .f32 V bitsLt_bf16_f32) slices_S8x8x144x4096_S8x8x1x4096_0_0_128_0) (broadcastInDim S8x8x1x4096 ![] bcast_S_S8x8x1x4096 (constant S_ .f32 0x3F800000#32))) (ix4 b H 0 r) = 1#1) :
    (show EReal from V (ix4 b H 128 r)) = 1 := by
  revert h
  pointwise []
  exact fun h => of_decide_eq_true ((ofBool_one _).mp h)

theorem none_of (bias : FVec Ideal S8x2x512x512 .f32) (H : Fin 8) (r s : Fin 512) (hs : s.val < r.val)
    (h : (ori (cmpi .sle (iotaInDim S8x512x512 32 1) (iotaInDim S8x512x512 32 2)) (cmpf .oeq (shapeCast S8x512x512 (extractStridedSlice S8x1x512x512 ![0, 1, 0, 0] bias slices_S8x2x512x512_S8x1x512x512_0_1_0_0) shapeCasts_S8x1x512x512_S8x512x512) (broadcastInDim S8x512x512 ![] bcast_S_S8x512x512 (constant S_ .f32 0xFF800000#32)))) (ix3 H r s) = 1#1) :
    (show EReal from bias (ix4 H 1 r s)) = ⊥ := by
  rcases either _ _ h with h | h
  · exfalso
    revert h
    pointwise []
    rw [WordCmp.cmpi_sle_ofNat_eq_one_iff (by omega) (by omega)]
    omega
  · revert h
    pointwise []
    intro h
    exact (of_decide_eq_true ((ofBool_one _).mp h)).trans (by simp [Ideal.ofBits, Ideal.ieee])

theorem good (far : FVec Ideal S8 .f32) (Q : FVec Ideal S8x4096x1024 .f32) (K : FVec Ideal S8x4096x1024 .bf16) (V : FVec Ideal S8x8x144x4096 .bf16)
    (bias : FVec Ideal S8x2x512x512 .f32) (l : FVec Ideal S4x64 .f32) (g : FVec Ideal S1x128 .f32)
    (h : fn (F := Ideal) far Q K V bias l g = fun _ => 1#1) : Good far V bias := by
  have e := congrFun h ix0
  unfold fn fn_part1 at e
  dsimp only at e
  obtain ⟨e1, e3⟩ := both _ _ e
  obtain ⟨e1, e2⟩ := both _ _ e1
  exact ⟨fun H => far_of far H (Host.reduce_andi_all _ _ _ _ _ e1 (ix1 H)),
    fun b H r => ones_of V b H r (Host.reduce_andi_all _ _ _ _ _ e2 (ix4 b H 0 r)),
    fun H r s hs => none_of bias H r s hs (Host.reduce_andi_all _ _ _ _ _ e3 (ix3 H r s))⟩

end Cert.Pre_attn_args
-- ==== Proof.Whole.lean ====
module

public import proofs.«01_k».proof.Proof.Gen.KernelIdeal.Value
public import proofs.«01_k».proof.Proof.Match
public import proofs.«01_k».proof.Proof.PlainOut
public import proofs.«01_k».proof.Proof.Args
public import Idealize.ShloMosaic.Lib.Pipeline.ValueKit

@[expose] public section

set_option maxRecDepth 16384

noncomputable section

/-! The attention's result array after the run: every block is the plain attention's. -/

namespace Cert.KernelIdeal.Value

open Cert.KernelIdeal Cert.KernelIdeal.Gen Idealize.ShloMosaic Idealize.ShloMosaic.TcCoe Idealize.SL.Sem
open Idealize.ShloMosaic.Pipeline (Dat)
open Cert.ReferenceIdeal.Value (weightedAt attnOf)

variable (m : (ℓ : Loc nD τ sig) → Buf (Elt Ideal) ℓ)

/-- The windows' block indices at every grid point: batch row, query block and head pair. -/
theorem idxA : ∀ t : Fin cfg0.N, win0_0.index t = ![0] ∧ win0_1.index t = ![t.val / 32, t.val % 8, t.val / 8 % 4]
    ∧ win0_2.index t = ![t.val / 32, 0, t.val / 8 % 4] ∧ win0_3.index t = ![t.val / 32, t.val / 8 % 4, 0, 0]
    ∧ win0_4.index t = ![t.val / 8 % 4, 0, 0, 0] ∧ win0_5.index t = ![0, 0] ∧ win0_6.index t = ![0, 0]
    ∧ win0_7.index t = ![t.val / 32, t.val % 8, t.val / 8 % 4] :=
  (by decide +kernel : ∀ t : Fin grid0.N, _)

/-- A grid point's head pair and query block. -/
theorem coordsA : ∀ t : Fin cfg0.N, (grid0.coords t 1).val = t.val / 8 % 4 ∧ (grid0.coords t 2).val = t.val % 8 :=
  (by decide +kernel : ∀ t : Fin grid0.N, _)

/-- The scaled far biases of a head pair. -/
def farOf (far : S8.Idx → EReal) (p : Fin 4) (h : Fin 2) : ℝ := (far (ix1 ⟨2 * p.val + h.val, by omega⟩)).toReal * (Real.log 2)⁻¹

theorem blk1 (c : Dev nD) (t : Fin cfg0.N) (ht : t.val < 256) (r : Fin 512) (e : Fin 256) :
    @Eq EReal (iblk m c 1 t (ix3 0 r e)) (m ((c : Thread nD τ).loc main_arg1) (ix3 (⟨t.val / 32, by omega⟩ : Fin 8) (⟨512 * (t.val % 8) + r.val, by omega⟩ : Fin 4096) (⟨256 * (t.val / 8 % 4) + e.val, by omega⟩ : Fin 1024))) := by
  blk_ext [iblk, V, idxA t]

theorem blk2 (c : Dev nD) (t : Fin cfg0.N) (ht : t.val < 256) (r : Fin 4096) (e : Fin 256) :
    @Eq EReal (iblk m c 2 t (ix3 0 r e)) (m ((c : Thread nD τ).loc main_arg2) (ix3 (⟨t.val / 32, by omega⟩ : Fin 8) r (⟨256 * (t.val / 8 % 4) + e.val, by omega⟩ : Fin 1024))) := by
  blk_ext [iblk, V, idxA t]

theorem blk3 (c : Dev nD) (t : Fin cfg0.N) (ht : t.val < 256) (h : Fin 2) (d : Fin 144) (r : Fin 4096) :
    @Eq EReal (iblk m c 3 t (ix4 0 h d r)) (m ((c : Thread nD τ).loc main_arg3) (ix4 (⟨t.val / 32, by omega⟩ : Fin 8) (⟨2 * (t.val / 8 % 4) + h.val, by omega⟩ : Fin 8) d r)) := by
  blk_ext [iblk, V, idxA t]

theorem blk4 (c : Dev nD) (t : Fin cfg0.N) (ht : t.val < 256) (h a : Fin 2) (r s : Fin 512) :
    @Eq EReal (iblk m c 4 t (ix4 h a r s)) (m ((c : Thread nD τ).loc main_arg4) (ix4 (⟨2 * (t.val / 8 % 4) + h.val, by omega⟩ : Fin 8) a r s)) := by
  blk_ext [iblk, V, idxA t]

theorem blk0 (c : Dev nD) (t : Fin cfg0.N) (H : Fin 8) :
    @Eq EReal (iblk m c 0 t (ix1 H)) (m ((c : Thread nD τ).loc main_arg0) (ix1 H)) := by
  blk_ext [iblk, V, idxA t]

theorem blk5 (c : Dev nD) (t : Fin cfg0.N) (a : Fin 4) (k : Fin 64) :
    @Eq EReal (iblk m c 5 t (ix2 a k)) (m ((c : Thread nD τ).loc main_arg5) (ix2 a k)) := by
  blk_ext [iblk, V, idxA t]

theorem blk6 (c : Dev nD) (t : Fin cfg0.N) (d : Fin 128) :
    @Eq EReal (iblk m c 6 t (ix2 0 d)) (m ((c : Thread nD τ).loc main_arg6) (ix2 0 d)) := by
  blk_ext [iblk, V, idxA t]

/-- The place of the result array under a place of the block. -/
theorem emb7 (t : Fin cfg0.N) (ht : t.val < 256) (r : Fin 512) (e : Fin 256) :
    ((View.whole main_v0).slice (win0_7.rect t)).emb (ix3 0 r e)
      = ix3 (⟨t.val / 32, by omega⟩ : Fin 8) (⟨512 * (t.val % 8) + r.val, by omega⟩ : Fin 4096) (⟨256 * (t.val / 8 % 4) + e.val, by omega⟩ : Fin 1024) := by
  blk_ext [idxA t]

variable (c : Dev nD)
    (G : Pre_attn_args.Good (m ((c : Thread nD τ).loc main_arg0)) (m ((c : Thread nD τ).loc main_arg3)) (m ((c : Thread nD τ).loc main_arg4)))
include G

/-- A far bias in base two is a real number. -/
theorem farOf_eq (p : Fin 4) (h : Fin 2) :
    (show EReal from m ((c : Thread nD τ).loc main_arg0) (ix1 (⟨2 * p.val + h.val, by omega⟩ : Fin 8))) * (((Real.log 2)⁻¹ : ℝ) : EReal)
      = (farOf (m ((c : Thread nD τ).loc main_arg0)) p h : EReal) := by
  obtain ⟨r, hr⟩ := G.far ⟨2 * p.val + h.val, by omega⟩
  unfold farOf
  rw [EReal.coe_mul]
  refine congrArg (· * (((Real.log 2)⁻¹ : ℝ) : EReal)) ?_
  refine hr.trans ?_
  rw [hr, EReal.toReal_coe]

/-- The blocks a grid point reads. -/
theorem blockA (t : Fin cfg0.N) (ht : t.val < 256) :
    Cert.Match.Block ⟨t.val / 32, by omega⟩ ⟨t.val / 8 % 4, by omega⟩ ⟨t.val % 8, by omega⟩
      (m ((c : Thread nD τ).loc main_arg0)) (m ((c : Thread nD τ).loc main_arg1)) (m ((c : Thread nD τ).loc main_arg2)) (m ((c : Thread nD τ).loc main_arg3)) (m ((c : Thread nD τ).loc main_arg4))
      (iblk m c 1 t) (iblk m c 2 t) (iblk m c 3 t) (iblk m c 4 t) (farOf (m ((c : Thread nD τ).loc main_arg0)) ⟨t.val / 8 % 4, by omega⟩) where
  q r e := blk1 m c t ht r e
  k r e := blk2 m c t ht r e
  v h d r := blk3 m c t ht h d r
  w h a r s := blk4 m c t ht h a r s
  f h := farOf_eq m c G ⟨t.val / 8 % 4, by omega⟩ h
  ones h r := G.ones _ _ r
  none h r s := G.none _ r s

/-- A head's row of a block is the plain attention's row. -/
theorem headRow_eq (t : Fin cfg0.N) (ht : t.val < 256) (h : Fin 2) (r : Fin 512) (d : Fin 128) (e : Fin 256) (he : e.val = 128 * h.val + d.val) :
    headRow (iblk m c 1 t) (iblk m c 2 t) (iblk m c 3 t) (iblk m c 4 t) (iblk m c 5 t) (iblk m c 6 t) (t.val % 8) (farOf (m ((c : Thread nD τ).loc main_arg0)) ⟨t.val / 8 % 4, by omega⟩) h r d
      = attnOf (m ((c : Thread nD τ).loc main_arg0)) (m ((c : Thread nD τ).loc main_arg1)) (m ((c : Thread nD τ).loc main_arg2)) (m ((c : Thread nD τ).loc main_arg3))
        (m ((c : Thread nD τ).loc main_arg4)) (m ((c : Thread nD τ).loc main_arg5)) (m ((c : Thread nD τ).loc main_arg6))
        (ix3 (⟨t.val / 32, by omega⟩ : Fin 8) (⟨512 * (t.val % 8) + r.val, by omega⟩ : Fin 4096) (⟨256 * (t.val / 8 % 4) + e.val, by omega⟩ : Fin 1024)) := by
  have B := blockA m c G t ht
  have w (u : Fin 2) (col : Fin 1024) (hc : col.val = 512 * u.val + r.val) : wtRow (iblk m c 1 t) (iblk m c 2 t) (iblk m c 3 t) (iblk m c 4 t) (t.val % 8) (farOf (m ((c : Thread nD τ).loc main_arg0)) ⟨t.val / 8 % 4, by omega⟩) h col
      = weightedAt (m ((c : Thread nD τ).loc main_arg0)) (m ((c : Thread nD τ).loc main_arg1)) (m ((c : Thread nD τ).loc main_arg2)) (m ((c : Thread nD τ).loc main_arg3)) (m ((c : Thread nD τ).loc main_arg4))
        ⟨t.val / 32, by omega⟩ ⟨2 * (t.val / 8 % 4) + h.val, by omega⟩ u ⟨512 * (t.val % 8) + r.val, by omega⟩ := by
    have ec : col = ⟨512 * u.val + r.val, by omega⟩ := Fin.ext hc
    rw [ec]
    funext d
    exact B.weighted h u r d
  have eH : (⟨(256 * (t.val / 8 % 4) + e.val) / 128, by omega⟩ : Fin 8) = ⟨2 * (t.val / 8 % 4) + h.val, by omega⟩ := Fin.ext (by show (256 * (t.val / 8 % 4) + e.val) / 128 = 2 * (t.val / 8 % 4) + h.val; omega)
  have ed : (⟨(256 * (t.val / 8 % 4) + e.val) % 128, by omega⟩ : Fin 128) = d := Fin.ext (by show (256 * (t.val / 8 % 4) + e.val) % 128 = d.val; omega)
  unfold headRow attnOf
  rw [w 0 ⟨r.val, by omega⟩ (by show r.val = 512 * 0 + r.val; omega), w 1 ⟨512 + r.val, by omega⟩ (by show 512 + r.val = 512 * 1 + r.val; omega)]
  have el : (lamOf fun a k => iblk m c 5 t (ix2 a k)) = lamOf fun a k => (show EReal from m ((c : Thread nD τ).loc main_arg5) (ix2 a k)) :=
    congrArg lamOf (funext fun a => funext fun k => blk5 m c t a k)
  rw [el]
  show outRow _ _ _ (iblk m c 6 t (ix2 0 d)) d = outRow (weightedAt _ _ _ _ _ _ (⟨(256 * (t.val / 8 % 4) + e.val) / 128, _⟩ : Fin 8) 0 _) (weightedAt _ _ _ _ _ _ (⟨(256 * (t.val / 8 % 4) + e.val) / 128, _⟩ : Fin 8) 1 _) _
    (m ((c : Thread nD τ).loc main_arg6) (ix2 0 (⟨(256 * (t.val / 8 % 4) + e.val) % 128, _⟩ : Fin 128))) (⟨(256 * (t.val / 8 % 4) + e.val) % 128, _⟩ : Fin 128)
  rw [eH, ed]
  exact congrArg (fun g => outRow _ _ _ g d) (blk6 m c t d)

set_option maxHeartbeats 1600000 in
/-- After the run the result array holds the plain attention of the arguments. -/
theorem finalA : (dats m 0 c).arrAt 7 cfg0.N
    = attnOf (m ((c : Thread nD τ).loc main_arg0)) (m ((c : Thread nD τ).loc main_arg1)) (m ((c : Thread nD τ).loc main_arg2)) (m ((c : Thread nD τ).loc main_arg3))
        (m ((c : Thread nD τ).loc main_arg4)) (m ((c : Thread nD τ).loc main_arg5)) (m ((c : Thread nD τ).loc main_arg6)) := by
  refine (dats m 0 c).arrAt_eq_of_covers 7 _ (by decide +kernel) fun t _ y => ?_
  have ht : t.val < 256 := t.isLt
  obtain ⟨k1, k2⟩ := coordsA t
  obtain ⟨r, e, rfl⟩ : ∃ (r : Fin 512) (e : Fin 256), y = ix3 0 r e := ⟨y 1, y 2, by funext a; fin_cases a; exacts [Subsingleton.elim (α := Fin 1) _ _, rfl, rfl]⟩
  have he : e.val = 128 * (⟨e.val / 128, by omega⟩ : Fin 2).val + (⟨e.val % 128, by omega⟩ : Fin 128).val := by show e.val = 128 * (e.val / 128) + e.val % 128; omega
  have hf (h : Fin 2) : (show EReal from iblk m c 0 t (ix1 (⟨2 * (grid0.coords t 1).val + h.val, by rw [k1]; omega⟩ : Fin 8))) * (((Real.log 2)⁻¹ : ℝ) : EReal)
      = (farOf (m ((c : Thread nD τ).loc main_arg0)) ⟨t.val / 8 % 4, by omega⟩ h : EReal) := by
    refine Eq.trans ?_ (farOf_eq m c G ⟨t.val / 8 % 4, by omega⟩ h)
    refine congrArg (fun z : EReal => z * (((Real.log 2)⁻¹ : ℝ) : EReal)) ((blk0 m c t _).trans ?_)
    exact congrArg (fun H => m ((c : Thread nD τ).loc main_arg0) (ix1 H)) (Fin.ext (by show 2 * (grid0.coords t 1).val + h.val = 2 * (t.val / 8 % 4) + h.val; rw [k1]))
  have key : outsAt0 m c t.val t.isLt (ix3 0 r e) = headRow (iblk m c 1 t) (iblk m c 2 t) (iblk m c 3 t) (iblk m c 4 t) (iblk m c 5 t) (iblk m c 6 t) (t.val % 8)
      (farOf (m ((c : Thread nD τ).loc main_arg0)) ⟨t.val / 8 % 4, by omega⟩) ⟨e.val / 128, by omega⟩ r ⟨e.val % 128, by omega⟩ := by
    rw [← k2]
    by_cases h2 : t.val % 8 = 0
    · rw [outsAt0_A m c t (by omega) (by omega) h2]
      exact ends_A c (grid0.coords t) _ _ _ _ _ _ _ _ _ _ _ _ _ _ _ _ _ _ _ _ _ _ _ _ _ _ _ _ _ _ _ _ _ hf (by rw [k2]; exact h2) r _ _ e he
    · by_cases h0 : t.val % 8 = 2 ∨ t.val % 8 = 4 ∨ t.val % 8 = 6
      · rw [outsAt0_C m c t h0 (by omega) h2]
        exact ends_C c (grid0.coords t) _ _ _ _ _ _ _ _ _ _ _ _ _ _ _ _ _ _ _ _ _ _ _ _ _ _ _ _ _ _ _ _ _ hf (by rw [k2]; omega) (by rw [k2]; omega) r _ _ e he
      · rw [outsAt0_B m c t h0 (by omega) h2]
        exact ends_B c (grid0.coords t) _ _ _ _ _ _ _ _ _ _ _ _ _ _ _ _ _ _ _ _ _ _ _ _ _ _ _ _ _ _ _ _ _ hf (by rw [k2]; omega) r _ _ e he
  blk_simp
  rw [after0_7, emb7 t ht r e]
  exact key.trans (headRow_eq m c G t ht _ r _ e he)

end Cert.KernelIdeal.Value
-- ==== Proof.Attention.lean ====
module

public import proofs.«01_k».proof.Defs
public import proofs.«01_k».proof.Proof.Whole

@[expose] public section

set_option maxRecDepth 16384

noncomputable section

/-! The value claim of the attention. -/

namespace Cert.Proof

open Idealize.ShloMosaic Idealize.SL.Sem

section
open Cert.ReferenceIdeal
/-- The plain attention's run, its result as the row formula. -/
theorem attnRun (m' : (ℓ : Loc nD τ sig) → Buf (Elt Ideal) ℓ) (g' : Dev nD → PrngReg) :
    θ_run (defs (F := Ideal)) (onTc (τ := τ) (main (F := Ideal))) ⟨m', fun _ => 0, g'⟩ fun r => ∀ c : Dev nD,
      r.2.mem ((c.tc : Thread nD τ).loc main_v94) = Cert.ReferenceIdeal.Value.attnOf (m' ((c.tc : Thread nD τ).loc main_arg0)) (m' ((c.tc : Thread nD τ).loc main_arg1)) (m' ((c.tc : Thread nD τ).loc main_arg2)) (m' ((c.tc : Thread nD τ).loc main_arg3)) (m' ((c.tc : Thread nD τ).loc main_arg4)) (m' ((c.tc : Thread nD τ).loc main_arg5)) (m' ((c.tc : Thread nD τ).loc main_arg6))
      ∧ r.2.mem ((c.tc : Thread nD τ).loc main_arg0) = m' ((c.tc : Thread nD τ).loc main_arg0)
      ∧ r.2.mem ((c.tc : Thread nD τ).loc main_arg1) = m' ((c.tc : Thread nD τ).loc main_arg1)
      ∧ r.2.mem ((c.tc : Thread nD τ).loc main_arg2) = m' ((c.tc : Thread nD τ).loc main_arg2)
      ∧ r.2.mem ((c.tc : Thread nD τ).loc main_arg3) = m' ((c.tc : Thread nD τ).loc main_arg3)
      ∧ r.2.mem ((c.tc : Thread nD τ).loc main_arg4) = m' ((c.tc : Thread nD τ).loc main_arg4)
      ∧ r.2.mem ((c.tc : Thread nD τ).loc main_arg5) = m' ((c.tc : Thread nD τ).loc main_arg5)
      ∧ r.2.mem ((c.tc : Thread nD τ).loc main_arg6) = m' ((c.tc : Thread nD τ).loc main_arg6) :=
  (θ_run _ _ _).mono (fun _ h c => ⟨(h c).1.trans ((Cert.ReferenceIdeal.Value.val2_main_v94 (StableHlo.launchContents m' c)).symm.trans
    (Cert.ReferenceIdeal.Value.result_eq (StableHlo.launchContents m' c))), (h c).2⟩) (Cert.ReferenceIdeal.Value.run m' g')
end

/-- The attention: where the far biases are finite, the values carry their row of ones and no key after the query has a
bias, the kernel and the reference leave the same array. -/
theorem attention : Cert.algebraic_KernelIdeal_ReferenceIdeal_pre_attn_args := by
  intro m g m' g' hpre hargs
  refine ⟨fun c => Cert.ReferenceIdeal.Value.attnOf (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)), ?_, ?_⟩
  · refine (θ_run _ _ _).mono (fun r h c => ⟨(h c).1.trans ?_, (h c).2⟩) (Cert.KernelIdeal.Value.run_blocks m g)
    exact Cert.KernelIdeal.Value.finalA m c (Cert.Pre_attn_args.good _ _ _ _ _ _ _ (hpre c))
  · refine (θ_run _ _ _).mono (fun r h c => ⟨(h c).1.trans ?_, (h c).2⟩) (attnRun m' g')
    obtain ⟨h0, h1, h2, h3, h4, h5, h6⟩ := hargs c
    rw [h0, h1, h2, h3, h4, h5, h6]

end Cert.Proof

end
-- ==== Proof.Run5Ideal.lean ====
module

public import proofs.«01_k».proof.Proof.Gen.Kernel5Ideal.Frame
public import proofs.«01_k».proof.Proof.Gen.Kernel5Ideal.Skeleton
public import Idealize.ShloMosaic.Lib.Claim

@[expose] public section

set_option maxRecDepth 16384

noncomputable section

namespace Cert.Kernel5Ideal.Body

open Cert.Kernel5Ideal Cert.Kernel5Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 2000000 in
def run (c : Dev nD) (i : grid0.Coords) (arg2 : Memref sig .tc .vmem S512x1024 .f32) (harg2 : arg2.IsWhole)
    (arg3 : Memref sig .tc .vmem S1024x1024 .bf16) (harg3 : arg3.IsWhole)
    (arg4 : Memref sig .tc .vmem S1024x640 .bf16) (harg4 : arg4.IsWhole)
    (arg5 : Memref sig .tc .vmem S1x8x1024 .f32) (harg5 : arg5.IsWhole)
    (arg6 : Memref sig .tc .vmem S4x1024 .f32) (harg6 : arg6.IsWhole)
    (arg7 : Memref sig .tc .vmem S512x1024 .f32) (harg7 : arg7.IsWhole)
    (arg8 : Memref sig .tc .vmem S512x640 .f32) (harg8 : arg8.IsWhole)
    (arg9 : Memref sig .tc .vmem S1x8x1024 .f32) (harg9 : arg9.IsWhole)
    (arg10 : Memref sig .tc .vmem S4x8x1024 .f32) (harg10 : arg10.IsWhole)
    (arg11 : Memref sig .tc .vmem S520x1024 .f32) (harg11 : arg11.IsWhole)
    (x0 : Vec F S512x1024 .f32) (x1 : Vec F S1024x1024 .bf16) (x2 : Vec F S1024x640 .bf16)
    (x3 : Vec F S1x8x1024 .f32) (x4 : Vec F S4x1024 .f32) (C : Vec F S4x8x1024 .f32) :
    Σ' (L7 : List (View.Piece (Elt F) S512x1024 .f32)) (L8 : List (View.Piece (Elt F) S512x640 .f32))
      (L9 : List (View.Piece (Elt F) S1x8x1024 .f32)),
      { L10 : List (View.Piece (Elt F) S4x8x1024 .f32) //
      ∀ (E : Set ℕ) (K : PUnit → sProp 𝕄),
        iprop(owns (c : Thread nD τ) arg2 fullShare x0 ∗ owns (c : Thread nD τ) arg3 fullShare x1
            ∗ owns (c : Thread nD τ) arg4 fullShare x2 ∗ owns (c : Thread nD τ) arg5 fullShare x3
            ∗ owns (c : Thread nD τ) arg6 fullShare x4
            ∗ (∃ d, owns (c : Thread nD τ) arg7 fullShare d) ∗ (∃ d, owns (c : Thread nD τ) arg8 fullShare d)
            ∗ (∃ d, owns (c : Thread nD τ) arg9 fullShare d)
            ∗ owns (c : Thread nD τ) arg10 fullShare C ∗ (∃ d, owns (c : Thread nD τ) arg11 fullShare d)
            ∗ (iprop(owns (c : Thread nD τ) arg2 fullShare x0 ∗ owns (c : Thread nD τ) arg3 fullShare x1
              ∗ owns (c : Thread nD τ) arg4 fullShare x2 ∗ owns (c : Thread nD τ) arg5 fullShare x3
              ∗ owns (c : Thread nD τ) arg6 fullShare x4
              ∗ (∃ f, arg7.view.loc (c : Thread nD τ) ↦[arg7.view.set]{fullShare} arg7.view.writes (Elt F) f L7)
              ∗ (∃ f, arg8.view.loc (c : Thread nD τ) ↦[arg8.view.set]{fullShare} arg8.view.writes (Elt F) f L8)
              ∗ (∃ f, arg9.view.loc (c : Thread nD τ) ↦[arg9.view.set]{fullShare} arg9.view.writes (Elt F) f L9)
              ∗ (arg10.view.loc (c : Thread nD τ) ↦[arg10.view.set]{fullShare} arg10.view.writes (Elt F) (harg10.unread C) L10)
              ∗ (∃ d, owns (c : Thread nD τ) arg11 fullShare d)) -∗ K ⟨⟩))
          ⊢ wp frame (wpE (defs₀ (F := F)) Variants.none c none) E (cc0_inproj_conv i arg2 harg2 arg3 harg3 arg4 harg4 arg5 harg5 arg6 harg6 arg7 harg7 arg8 harg8 arg9 harg9 arg10 harg10 arg11 harg11) K } := by
  refine ⟨?_, ?_, ?_, ?_, fun E K => ?run⟩
  case run =>
    simp only [cc0_inproj_conv_eq_skeleton]; unfold cc0_inproj_conv_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d7, %f7, -, H7⟩, ⟨%d8, %f8, -, H8⟩, ⟨%d9, %f9, -, H9⟩, ⟨%fs0, %hfs0, HS0⟩, ⟨%ds1, %fs1, -, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg10.eq_unread hfs0
    sl_exec
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H7]; · iexists _; iexact H7
    isplitl [H8]; · iexists _; iexact H8
    isplitl [H9]; · iexists _; iexact H9
    isplitl [HS0]; · iexact HS0
    iexists _, _; isplitr; swap; · iexact HS1
    ipureintro; rfl

end Cert.Kernel5Ideal.Body

end
-- ==== Proof.Body5Ideal.lean ====
module

public import proofs.«01_k».proof.Proof.Run5Ideal
public import Idealize.ShloMosaic.Lib.Pointwise

@[expose] public section

set_option maxRecDepth 16384

noncomputable section

/-! The layer's first projection with its short filter, point by point: what each point of the grid leaves, with the
last eight rows of a column carried to the next block of rows. -/

namespace Cert.Kernel5Ideal.Body

open Cert.Kernel5Ideal Cert.Kernel5Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev ms0 (t : Fin cfg0.N) : Memref sig .tc .vmem S512x1024 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S1024x1024 .bf16 := win0_1.stage (cfg0.slots t 1)
abbrev hs1 (t : Fin cfg0.N) : (ms1 t).IsWhole := hstage0_1 ((cfg0.slots t 1).cast nbuf0_1)
abbrev ms2 (t : Fin cfg0.N) : Memref sig .tc .vmem S1024x640 .bf16 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x8x1024 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S4x1024 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S512x1024 .f32 := win0_5.stage (cfg0.slots t 5)
abbrev hs5 (t : Fin cfg0.N) : (ms5 t).IsWhole := hstage0_5 ((cfg0.slots t 5).cast nbuf0_5)
abbrev ms6 (t : Fin cfg0.N) : Memref sig .tc .vmem S512x640 .f32 := win0_6.stage (cfg0.slots t 6)
abbrev hs6 (t : Fin cfg0.N) : (ms6 t).IsWhole := hstage0_6 ((cfg0.slots t 6).cast nbuf0_6)
abbrev ms7 (t : Fin cfg0.N) : Memref sig .tc .vmem S1x8x1024 .f32 := win0_7.stage (cfg0.slots t 7)
abbrev hs7 (t : Fin cfg0.N) : (ms7 t).IsWhole := hstage0_7 ((cfg0.slots t 7).cast nbuf0_7)
/-- The carried tails and the staged rows. -/
abbrev sM0 : Memref sig .tc .vmem S4x8x1024 .f32 := Memref.whole cc0_scratch0
abbrev hM0 : (sM0 : Memref sig .tc .vmem S4x8x1024 .f32).IsWhole := Memref.isWhole_whole _
abbrev sM1 : Memref sig .tc .vmem S520x1024 .f32 := Memref.whole cc0_scratch1
abbrev hM1 : (sM1 : Memref sig .tc .vmem S520x1024 .f32).IsWhole := Memref.isWhole_whole _

/-- What is free of the body's choice: the two scratch buffers at some contents, and the generator's register. -/
theorem rest_eq (c : Dev nD) :
    (Pipeline.ΦA spec0 c : sProp 𝕄)
      = iprop(iprop((∃ d, owns (c : Thread nD τ) sM0 fullShare d) ∗ (∃ d, owns (c : Thread nD τ) sM1 fullShare d)) ∗ (∃ r, prngReg c r)) := by
  unfold Pipeline.ΦA; rw [scopedRest0_eq]; simp only [sM0, sM1, owns_whole]; try rfl

/-- The block of the projection a point computes. -/
def pre (c : Dev nD) (t : Fin cfg0.N) : Vec F S512x1024 .f32 := k0_pay6 (iblk m c 0 t) (iblk m c 1 t)

/-- Its last eight rows. -/
def tl (c : Dev nD) (t : Fin cfg0.N) : Vec F S1x8x1024 .f32 :=
  fun y => pre m c t (ix2 ⟨504 + (y 1).val, by have : (y 1).val < 8 := (y 1).isLt; omega⟩ (y 2))

/-- The last eight rows of the block of rows before, in the same columns. -/
def prevRow (c : Dev nD) (t : Fin cfg0.N) : Vec F S1x8x1024 .f32 :=
  tl m c ⟨t.val - 4, lt_of_le_of_lt (Nat.sub_le _ _) t.isLt⟩

/-- A carried buffer that holds them in every column. -/
def carry (c : Dev nD) (t : Fin cfg0.N) : Vec F S4x8x1024 .f32 := fun y => prevRow m c t (ix3 0 (y 1) (y 2))

/-- Before point `n` the carried buffer holds, column by column, the last eight rows of that column's latest block. -/
def Agree (c : Dev nD) (n : ℕ) (C : Vec F S4x8x1024 .f32) : Prop :=
  ∀ s : Fin cfg0.N, s.val < n → n ≤ s.val + 4 → ∀ (r : Fin 8) (l : Fin 1024), C (ix3 ⟨s.val % 4, Nat.mod_lt _ (by decide)⟩ r l) = tl m c s (ix3 0 r l)

/-- The carried tail is addressed by the column block of the step. -/
theorem off_eq : ∀ t : Fin cfg0.N, k0_off1 (grid0.coords t) = ![t.val % 4, 0, 0] :=
  (by decide +kernel : ∀ t : Fin grid0.N, k0_off1 (grid0.coords t) = ![t.val % 4, 0, 0])

/-- The rows of one column of the carried buffer. -/
theorem read_col (t : Fin cfg0.N) (C : Vec F S4x8x1024 .f32) (y : S1x8x1024.Idx) :
    View.readAt (Elt F) sM0.view (Rect.unit (s := S4x8x1024) (k0_off1 (grid0.coords t)) S1x8x1024.size (k0_off1_inb (grid0.coords t))).toLoadRect (hM0.unread C) y
      = C (ix3 ⟨t.val % 4, Nat.mod_lt _ (by decide)⟩ (y 1) (y 2)) := by
  rw [View.readAt_apply, hM0.read_unread]
  congr 1
  have h := off_eq t
  refine funext fun a => Fin.ext ?_
  have h0 : (y 0).val = 0 := by have : (y 0).val < 1 := (y 0).isLt; omega
  show k0_off1 (grid0.coords t) a + 1 * (y a).val = _
  rw [h]
  fin_cases a
  · show t.val % 4 + 1 * (y 0).val = t.val % 4
    omega
  · show 0 + 1 * (y 1).val = (y 1).val
    omega
  · show 0 + 1 * (y 2).val = (y 2).val
    omega

/-- The first block of a sequence takes the given state, whatever was carried. -/
theorem first_rows (t : Fin cfg0.N) (ht : t.val < 4) (a b b' : Vec F S1x8x1024 .f32) :
    k0_pay5 (F := F) (grid0.coords t) a b = k0_pay5 (grid0.coords t) a b' := by
  have hN : t.val < 256 := lt_of_lt_of_eq t.isLt N_0
  have e0 : (grid0.coords t 0).val = t.val / 4 % 64 := Pipeline.Grid.coords_val t 0 (by decide) rfl
  have e : (grid0.coords t 0).val = 0 := by omega
  unfold k0_pay5
  simp only [e]
  rfl

/-- The rows staged before a block depend on the carried buffer through that column's latest tail only. -/
theorem rows_eq (c : Dev nD) (t : Fin cfg0.N) (C : Vec F S4x8x1024 .f32) (h : Agree m c t.val C) (a : Vec F S1x8x1024 .f32) :
    k0_pay5 (F := F) (grid0.coords t) a (View.readAt (Elt F) sM0.view (Rect.unit (s := S4x8x1024) (k0_off1 (grid0.coords t)) S1x8x1024.size (k0_off1_inb (grid0.coords t))).toLoadRect (hM0.unread C))
      = k0_pay5 (grid0.coords t) a (View.readAt (Elt F) sM0.view (Rect.unit (s := S4x8x1024) (k0_off1 (grid0.coords t)) S1x8x1024.size (k0_off1_inb (grid0.coords t))).toLoadRect (hM0.unread (carry m c t))) := by
  by_cases ht : t.val < 4
  · exact first_rows t ht _ _ _
  · congr 1
    funext y
    rw [read_col, read_col]
    have := h ⟨t.val - 4, lt_of_le_of_lt (Nat.sub_le _ _) t.isLt⟩ (by show t.val - 4 < t.val; omega) (by show t.val ≤ t.val - 4 + 4; omega) (y 1) (y 2)
    refine Eq.trans ?_ this
    congr 2
    exact Fin.ext (by show t.val % 4 = (t.val - 4) % 4; omega)

/-- The body's stores at a point, over a carried buffer. -/
abbrev runAt (c : Dev nD) (t : Fin cfg0.N) (C : Vec F S4x8x1024 .f32) := run (F := F) c (grid0.coords t) (ms0 t) (hs0 t) (ms1 t) (hs1 t) (ms2 t) (hs2 t) (ms3 t) (hs3 t) (ms4 t) (hs4 t) (ms5 t) (hs5 t) (ms6 t) (hs6 t) (ms7 t) (hs7 t) sM0 hM0 sM1 hM1 (iblk m c 0 t) (iblk m c 1 t) (iblk m c 2 t) (iblk m c 3 t) (iblk m c 4 t) C

/-- The rows before a step's block depend only on the carried tails the step may read. -/
theorem staged_eq (c : Dev nD) (t : Fin cfg0.N) (C : Vec F S4x8x1024 .f32) (h : Agree m c t.val C) :
    run.sl.HS1_2 c (grid0.coords t) (ms0 t) (hs0 t) (ms1 t) (hs1 t) (ms3 t) (hs3 t) sM0 hM0 (iblk m c 0 t) (iblk m c 1 t) (iblk m c 3 t) C
      = run.sl.HS1_2 c (grid0.coords t) (ms0 t) (hs0 t) (ms1 t) (hs1 t) (ms3 t) (hs3 t) sM0 hM0 (iblk m c 0 t) (iblk m c 1 t) (iblk m c 3 t) (carry m c t) := by
  unfold run.sl.HS1_2
  rw [rows_eq m c t C h]

/-- So do all the stores of the body. -/
theorem stores_eq (c : Dev nD) (t : Fin cfg0.N) (C : Vec F S4x8x1024 .f32) (h : Agree m c t.val C) :
    (runAt m c t C).1 = (runAt m c t (carry m c t)).1 ∧ (runAt m c t C).2.1 = (runAt m c t (carry m c t)).2.1
      ∧ (runAt m c t C).2.2.1 = (runAt m c t (carry m c t)).2.2.1
      ∧ (runAt m c t C).2.2.2.1 = (runAt m c t (carry m c t)).2.2.2.1 := by
  have hs := staged_eq m c t C h
  unfold runAt run
  dsimp only
  simp only [run.sl.v30, run.sl.v32, run.sl.v36, run.sl.v41, run.sl.v46, run.sl.v59, run.sl.v66, run.sl.v77, run.sl.v81, run.sl.v86, run.sl.v91, run.sl.v104, run.sl.v122, run.sl.v126, run.sl.v131, run.sl.v136, run.sl.v167, run.sl.v171, run.sl.v176, run.sl.v181, run.sl.v212, run.sl.v216, run.sl.v221, run.sl.v226, run.sl.v257, run.sl.v261, run.sl.v266, run.sl.v271, run.sl.v302, run.sl.v306, run.sl.v311, run.sl.v316, run.sl.v347, run.sl.v351, run.sl.v356, run.sl.v361, run.sl.v374, run.sl.v381, run.sl.v391, run.sl.r, run.sl.r_1, run.sl.r_2, run.sl.r_3, run.sl.r_4, run.sl.r_5, run.sl.r_6, run.sl.r_7, run.sl.r_8, run.sl.r_9, run.sl.r_10, run.sl.r_11, run.sl.r_12, run.sl.r_13, run.sl.r_14, run.sl.r_15, run.sl.r_16, run.sl.r_17, hs, and_self]

/-- The stores cover the three results' blocks. -/
theorem cover5 (c : Dev nD) (t : Fin cfg0.N) (C : Vec F S4x8x1024 .f32) (y : S512x1024.Idx) : ∃ pc ∈ (runAt m c t C).1, y ∈ pc.1.set :=
  View.cover_of_tiledL (runAt m c t C).1 S512x128.size (by sl_kernel_rfl) y
/-- The step writes its whole block of gates. -/
theorem cover6 (c : Dev nD) (t : Fin cfg0.N) (C : Vec F S4x8x1024 .f32) (y : S512x640.Idx) : ∃ pc ∈ (runAt m c t C).2.1, y ∈ pc.1.set :=
  View.cover_of_tiledL (runAt m c t C).2.1 S512x640.size (by sl_kernel_rfl) y
/-- The step writes its whole block of last rows. -/
theorem cover7 (c : Dev nD) (t : Fin cfg0.N) (C : Vec F S4x8x1024 .f32) (y : S1x8x1024.Idx) : ∃ pc ∈ (runAt m c t C).2.2.1, y ∈ pc.1.set :=
  View.cover_of_tiledL (runAt m c t C).2.2.1 S1x8x1024.size (by sl_kernel_rfl) y

/-- What a point leaves in the three results' blocks. -/
def out5 (c : Dev nD) (t : Fin cfg0.N) : Vec F S512x1024 .f32 := View.canon (Val := Elt F) (runAt m c t (carry m c t)).1
/-- The block of gates a step leaves. -/
def out6 (c : Dev nD) (t : Fin cfg0.N) : Vec F S512x640 .f32 := View.canon (Val := Elt F) (runAt m c t (carry m c t)).2.1
/-- The block of last rows a step leaves. -/
def out7 (c : Dev nD) (t : Fin cfg0.N) : Vec F S1x8x1024 .f32 := View.canon (Val := Elt F) (runAt m c t (carry m c t)).2.2.1

/-- A load of a whole buffer reads what it holds. -/
theorem load_all {sh : Shape} {e : EltTy} (M : Memref sig .tc .vmem sh e) (h : M.IsWhole) (x : sh.Idx → Elt F e) (off : Fin sh.rank → ℕ)
    (inb : ∀ a, off a + sh.size a ≤ sh.size a) : M.view.readAt (Elt F) (Rect.unit off sh.size inb).toLoadRect (h.unread x) = x := by
  funext y
  rw [View.readAt_apply, h.read_unread]
  refine congrArg x (funext fun a => Fin.ext ?_)
  show off a + 1 * (y a).val = (y a).val
  have := inb a
  omega

/-- Under the block's rows the staged rows hold the projection. -/
theorem staged_block (c : Dev nD) (t : Fin cfg0.N) (C : Vec F S4x8x1024 .f32) (r : Fin 512) (l : Fin 1024) :
    View.canon (Val := Elt F) (run.sl.HS1_2 c (grid0.coords t) (ms0 t) (hs0 t) (ms1 t) (hs1 t) (ms3 t) (hs3 t) sM0 hM0 (iblk m c 0 t) (iblk m c 1 t) (iblk m c 3 t) C) (ix2 ⟨8 + r.val, by omega⟩ l)
      = pre m c t (ix2 r l) := by
  unfold run.sl.HS1_2
  refine Eq.trans (congrArg _ ?_) ((View.canon_cons_emb (Val := Elt F) (Rect.unit (s := S520x1024) ![8, 0] S512x1024.size inb_S520x1024_S512x1024_8_0) _ _ (ix2 r l)).trans ?_)
  · refine funext fun a => Fin.ext ?_
    fin_cases a
    · show 8 + r.val = 8 + 1 * r.val
      omega
    · show l.val = 0 + 1 * l.val
      omega
  · unfold pre
    have e0 : View.readAt (Elt F) (ms0 t).view (Rect.unit (s := S512x1024) ![0, 0] S512x1024.size inb_S512x1024_S512x1024_0_0).toLoadRect ((hs0 t).unread (iblk m c 0 t)) = iblk m c 0 t :=
      load_all _ (hs0 t) _ _ _
    have e1 : View.readAt (Elt F) (ms1 t).view (Rect.unit (s := S1024x1024) ![0, 0] S1024x1024.size inb_S1024x1024_S1024x1024_0_0).toLoadRect ((hs1 t).unread (iblk m c 1 t)) = iblk m c 1 t :=
      load_all _ (hs1 t) _ _ _
    rw [e0, e1]

/-- The last rows a step leaves are the last eight rows of its staged projection. -/
theorem tail_rows (c : Dev nD) (t : Fin cfg0.N) (C : Vec F S4x8x1024 .f32) (r : Fin 8) (l : Fin 1024) :
    k0_pay2 (F := F) (run.sl.v391 c (grid0.coords t) (ms0 t) (hs0 t) (ms1 t) (hs1 t) (ms3 t) (hs3 t) sM0 hM0 sM1 (iblk m c 0 t) (iblk m c 1 t) (iblk m c 3 t) C) (ix3 0 r l) = tl m c t (ix3 0 r l) := by
  unfold k0_pay2 run.sl.v391
  pointwise []
  rw [View.readCov_eq_canon']
  refine Eq.trans (congrArg _ ?_) (staged_block m c t C ⟨504 + r.val, by omega⟩ l)
  refine funext fun a => Fin.ext ?_
  fin_cases a
  · show 512 + 1 * r.val = 8 + (504 + r.val)
    omega
  · show 0 + 1 * l.val = l.val
    omega

/-- The body's store into the carried buffer. -/
theorem store_carry (c : Dev nD) (t : Fin cfg0.N) (C : Vec F S4x8x1024 .f32) :
    (runAt m c t C).2.2.2.1 = [⟨Rect.unit (s := S4x8x1024) (k0_off1 (grid0.coords t)) S1x8x1024.size (k0_off1_inb (grid0.coords t)),
      k0_pay2 (F := F) (run.sl.v391 c (grid0.coords t) (ms0 t) (hs0 t) (ms1 t) (hs1 t) (ms3 t) (hs3 t) sM0 hM0 sM1 (iblk m c 0 t) (iblk m c 1 t) (iblk m c 3 t) C)⟩] := rfl

/-- After a point the carried buffer agrees with what the next point expects. -/
theorem agree_next (c : Dev nD) (t : Fin cfg0.N) (C : Vec F S4x8x1024 .f32) (h : Agree m c t.val C) :
    Agree m c (t.val + 1) (sM0.view.read (Elt F) (sM0.view.writes (Elt F) (hM0.unread C) (runAt m c t C).2.2.2.1)) := by
  intro s hs hn r l
  rw [store_carry]
  have ho := off_eq t
  by_cases hst : s.val = t.val
  · obtain rfl : s = t := Fin.ext hst
    refine Eq.trans (congrArg _ ?_) ((View.read_writes_cons_emb (Val := Elt F) sM0.view (hM0.unread C) (Rect.unit (s := S4x8x1024) (k0_off1 (grid0.coords s)) S1x8x1024.size (k0_off1_inb (grid0.coords s))) _ [] (ix3 0 r l)).trans (tail_rows m c s C r l))
    refine funext fun a => Fin.ext ?_
    show _ = k0_off1 (grid0.coords s) a + 1 * (ix3 (n0 := 1) (n1 := 8) (n2 := 1024) 0 r l a).val
    rw [ho]
    fin_cases a
    · show s.val % 4 = s.val % 4 + 1 * 0
      omega
    · show r.val = 0 + 1 * r.val
      omega
    · show l.val = 0 + 1 * l.val
      omega
  · refine (View.read_writes_apply_of_forall_not_mem sM0.view (hM0.unread C) (ix3 ⟨s.val % 4, Nat.mod_lt _ (by decide)⟩ r l) _ ?_).trans ?_
    · intro p hp hmem
      obtain rfl := List.mem_singleton.mp hp
      obtain ⟨x, hx⟩ := LoadRect.exists_idx_of_mem _ hmem
      have h0 := congrArg (fun z : S4x8x1024.Idx => (z 0).val) hx
      have h1 : k0_off1 (grid0.coords t) 0 + 1 * (x 0).val = s.val % 4 := h0
      have hx0 : (x 0).val < 1 := (x 0).isLt
      have h2 : k0_off1 (grid0.coords t) 0 = t.val % 4 := congrFun ho 0
      have h3 : t.val % 4 + 1 * (x 0).val = s.val % 4 := (congrArg (· + 1 * (x 0).val) h2).symm.trans h1
      omega
    · rw [hM0.read_unread]
      exact h s (by omega) (by omega) r l

/-- What is carried between points: a buffer that agrees, the staged rows at anything, the register. -/
def Phi (c : Dev nD) (n : ℕ) : sProp 𝕄 :=
  iprop((∃ C : Vec F S4x8x1024 .f32, ⌜Agree m c n C⌝ ∗ owns (c : Thread nD τ) sM0 fullShare C) ∗ (∃ d, owns (c : Thread nD τ) sM1 fullShare d) ∗ (∃ r, prngReg c r))

/-- The proof data: the arrays as found, what each point leaves, and the carried buffer. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => out5 m c t
    | ⟨6, _⟩ => out6 m c t
    | ⟨7, _⟩ => out7 m c t
  Φ t := Phi m c t.val
  q _ := fullShare
  owed _ := 0

/-- A window's array before the run is the one of the initial memory. -/
theorem A_eq (c : Dev nD) (w : Fin cfg0.W) : (dats m 0 c).A w = V m c (Pipeline.arrRef spec0 w) := by
  dsimp only [dats]
/-- Input window 0 holds its block after a step. -/
theorem after_0 (c : Dev nD) (t : Fin cfg0.N) : (dats m 0 c).after 0 t = iblk m c 0 t := by dsimp only [dats]
/-- Input window 1 holds its block after a step. -/
theorem after_1 (c : Dev nD) (t : Fin cfg0.N) : (dats m 0 c).after 1 t = iblk m c 1 t := by dsimp only [dats]
/-- Input window 2 holds its block after a step. -/
theorem after_2 (c : Dev nD) (t : Fin cfg0.N) : (dats m 0 c).after 2 t = iblk m c 2 t := by dsimp only [dats]
/-- Input window 3 holds its block after a step. -/
theorem after_3 (c : Dev nD) (t : Fin cfg0.N) : (dats m 0 c).after 3 t = iblk m c 3 t := by dsimp only [dats]
/-- Input window 4 holds its block after a step. -/
theorem after_4 (c : Dev nD) (t : Fin cfg0.N) : (dats m 0 c).after 4 t = iblk m c 4 t := by dsimp only [dats]
/-- Output window 5 holds what the step leaves. -/
theorem after_5 (c : Dev nD) (t : Fin cfg0.N) : (dats m 0 c).after 5 t = out5 m c t := by dsimp only [dats]
/-- Output window 6 holds what the step leaves. -/
theorem after_6 (c : Dev nD) (t : Fin cfg0.N) : (dats m 0 c).after 6 t = out6 m c t := by dsimp only [dats]
/-- Output window 7 holds what the step leaves. -/
theorem after_7 (c : Dev nD) (t : Fin cfg0.N) : (dats m 0 c).after 7 t = out7 m c t := by dsimp only [dats]
/-- Input window 0 holds its block before a step. -/
theorem before_0 (c : Dev nD) (t : Fin cfg0.N) (d) : (dats m 0 c).before 0 t d = iblk m c 0 t :=
  before0_0_of m (dats m 0 c) (A_eq m c 0) (after_0 m c) t d
/-- Input window 1 holds its block before a step. -/
theorem before_1 (c : Dev nD) (t : Fin cfg0.N) (d) : (dats m 0 c).before 1 t d = iblk m c 1 t :=
  before0_1_of m (dats m 0 c) (A_eq m c 1) (after_1 m c) t d
/-- Input window 2 holds its block before a step. -/
theorem before_2 (c : Dev nD) (t : Fin cfg0.N) (d) : (dats m 0 c).before 2 t d = iblk m c 2 t :=
  before0_2_of m (dats m 0 c) (A_eq m c 2) (after_2 m c) t d
/-- Input window 3 holds its block before a step. -/
theorem before_3 (c : Dev nD) (t : Fin cfg0.N) (d) : (dats m 0 c).before 3 t d = iblk m c 3 t :=
  before0_3_of m (dats m 0 c) (A_eq m c 3) (after_3 m c) t d
/-- Input window 4 holds its block before a step. -/
theorem before_4 (c : Dev nD) (t : Fin cfg0.N) (d) : (dats m 0 c).before 4 t d = iblk m c 4 t :=
  before0_4_of m (dats m 0 c) (A_eq m c 4) (after_4 m c) t d

/-- What the body is called with at a point, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t)

set_option maxHeartbeats 4000000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4]
  rw [show (dats m 0 c).owesAt () t.succ = (dats m 0 c).owesAt () t.castSucc from rfl]
  rw [show (dats m 0 c).Φ t.succ = Phi m c (t.val + 1) from rfl, show (dats m 0 c).Φ t.castSucc = Phi m c t.val from rfl]
  rw [show (dats m 0 c).leavesExact 0 t = owns (c : Thread nD τ) (ms0 t) fullShare ((dats m 0 c).after 0 t) from rfl, after_0]
  rw [show (dats m 0 c).leavesExact 1 t = owns (c : Thread nD τ) (ms1 t) fullShare ((dats m 0 c).after 1 t) from rfl, after_1]
  rw [show (dats m 0 c).leavesExact 2 t = owns (c : Thread nD τ) (ms2 t) fullShare ((dats m 0 c).after 2 t) from rfl, after_2]
  rw [show (dats m 0 c).leavesExact 3 t = owns (c : Thread nD τ) (ms3 t) fullShare ((dats m 0 c).after 3 t) from rfl, after_3]
  rw [show (dats m 0 c).leavesExact 4 t = owns (c : Thread nD τ) (ms4 t) fullShare ((dats m 0 c).after 4 t) from rfl, after_4]
  rw [show (dats m 0 c).leavesExact 5 t = owns (c : Thread nD τ) (ms5 t) fullShare ((dats m 0 c).after 5 t) from rfl, after_5]
  rw [show (dats m 0 c).leavesExact 6 t = owns (c : Thread nD τ) (ms6 t) fullShare ((dats m 0 c).after 6 t) from rfl, after_6]
  rw [show (dats m 0 c).leavesExact 7 t = owns (c : Thread nD τ) (ms7 t) fullShare ((dats m 0 c).after 7 t) from rfl, after_7]
  unfold Phi
  iintro ⟨⟨⟨%C, %hC, HC⟩, HX, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
  obtain ⟨s5, s6, s7, -⟩ := stores_eq m c t C hC
  iapply ((runAt m c t C).2.2.2.2 Set.univ _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  isplitl [H7]; · iexists _; iexact H7
  isplitl [HC]; · iexact HC
  isplitl [HX]; · iexact HX
  iintro ⟨H0, H1, H2, H3, H4, ⟨%e5, H5⟩, ⟨%e6, H6⟩, ⟨%e7, H7⟩, HC, HX⟩
  isplitl [HC HX Hg]
  · isplitl [HC]
    · iexists _; isplitr
      · ipureintro; exact agree_next m c t C hC
      unfold owns; iexists _; isplitr
      swap; · iexact HC
      ipureintro; rfl
    isplitl [HX]; · iexact HX
    iexact Hg
  isplitl [Ho]; · iexact Ho
  isplitl [H0]; · iexact H0
  isplitl [H1]; · iexact H1
  isplitl [H2]; · iexact H2
  isplitl [H3]; · iexact H3
  isplitl [H4]; · iexact H4
  isplitl [H5]
  · unfold owns; iexists _; isplitr
    swap; · iexact H5
    ipureintro; exact (View.read_writes_eq_canon _ _ _ (cover5 m c t C)).trans (congrArg _ s5)
  isplitl [H6]
  · unfold owns; iexists _; isplitr
    swap; · iexact H6
    ipureintro; exact (View.read_writes_eq_canon _ _ _ (cover6 m c t C)).trans (congrArg _ s6)
  unfold owns; iexists _; isplitr
  swap; · iexact H7
  ipureintro; exact (View.read_writes_eq_canon _ _ _ (cover7 m c t C)).trans (congrArg _ s7)

/-- The launch's body is the one the run was stated for. -/
theorem defs_row (t : Fin cfg0.N) :
    defs₀ (F := F) .tc cfg0.body (cfg0.bodyArgs t (cfg0.slots t)) = bodyAt0 t := by
  unfold defs₀; rw [Defs.onTc_tc]

/-- The body does at every point what the pipeline asks of it. -/
theorem body_obligation (c : Dev nD) : BodyObligation (dats (F := F) m 0 c) (defs₀ (F := F)) Variants.none () Set.univ := fun t => by
  rw [bigSep_W0, bigSep_W0, defs_row]
  exact triple_restated (sound_body m c t) rfl .rfl fun _ => .rfl

/-- The scratch of the run is what the invariant asks for at its start. -/
theorem hin (c : Dev nD) : Pipeline.ΦA spec0 c ⊢ (dats m 0 c).Φ 0 := by
  rw [show (dats m 0 c).Φ 0 = Phi m c 0 from rfl, rest_eq]
  unfold Phi
  iintro ⟨⟨⟨%d, HC⟩, HX⟩, Hg⟩
  isplitl [HC]
  · iexists d; isplitr
    · ipureintro; exact fun s hs => absurd hs (Nat.not_lt_zero _)
    iexact HC
  isplitl [HX]; · iexact HX
  iexact Hg

/-- The invariant at the end gives the scratch back. -/
theorem hout (c : Dev nD) : (dats m 0 c).Φ (Fin.last cfg0.N) ⊢ Pipeline.ΦA spec0 c := by
  rw [show (dats m 0 c).Φ (Fin.last cfg0.N) = Phi m c cfg0.N from rfl, rest_eq]
  unfold Phi
  iintro ⟨⟨%C, -, HC⟩, HX, Hg⟩
  isplitl [HC HX]
  · isplitl [HC]; · iexists _; iexact HC
    iexact HX
  iexact Hg

-- the launch's implicit arguments are found by unifying its conclusion with this one
set_option backward.isDefEq.respectTransparency.types false in
/-- The launch, and every semaphore counter at zero at the end. -/
theorem run_main_quiescent : θ_run defs (onTc (τ := τ) (main (F := F))) (s₀ m ρ)
    (fun r => (Pipeline.FramePost cfgs (dats m) 0 (Pipeline.afterTail₀ cfgs (dats m) 0 (V0 m) [hostOps1])) r ∧ r.2.sem = fun _ => 0) :=
  Pipeline.θ_run_frame_around_track (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- What the whole program leaves. -/
theorem run_main : θ_run defs (onTc (τ := τ) (main (F := F))) (s₀ m ρ) (Pipeline.FramePost cfgs (dats m) 0 (Pipeline.afterTail₀ cfgs (dats m) 0 (V0 m) [hostOps1])) :=
  (θ_run defs _ _).mono (fun _ h => h.1) (run_main_quiescent m ρ)

/-- The frame: the arguments end unchanged and every counter is at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (frame_of m ρ (dats m) (A_eq m) (run_main m ρ)) ((θ_run defs _ _).mono (fun _ h => h.2) (run_main_quiescent m ρ))

end Cert.Kernel5Ideal.Body

end
-- ==== Proof.Spec5.lean ====
module

public import proofs.«01_k».proof.Proof.Gen.Reference5Ideal.Run
public import Idealize.ShloMosaic.Lib.Pipeline.ValueKit

@[expose] public section

set_option maxRecDepth 16384

noncomputable section

/-! The first projection with its short filter, written out place by place: the projected rows, the four-tap filter over
each sequence with its carried rows in front, the gate, and the normalised heads; and the reference read at it. -/

namespace Cert.Reference5Ideal.Value

open Cert.Reference5Ideal Cert.Reference5Ideal.Gen Idealize.ShloMosaic Idealize.ShloMosaic.TcCoe Idealize.SL.Sem

/-- The projection at row `r`, column `l`. -/
def prj (X : FVec Ideal S32768x1024 .f32) (W : FVec Ideal S1024x4096 .bf16) (r : Fin 32768) (l : Fin 4096) : EReal :=
  ∑ k : Fin 1024, X (ix2 r k) * W (ix2 k l)

/-- A sequence's rows with the three carried ones in front: place `n` is row `n - 3` of the projection. -/
def seqAt (X : FVec Ideal S32768x1024 .f32) (W : FVec Ideal S1024x4096 .bf16) (st : FVec Ideal S8x8x4096 .f32)
    (b : Fin 8) (n : Fin 4099) (l : Fin 4096) : EReal :=
  if h : n.val < 3 then st (ix3 b ⟨5 + n.val, by omega⟩ l)
  else prj X W ⟨b.val * 4096 + (n.val - 3), by have := b.isLt; have := n.isLt; omega⟩ l

/-- The four-tap filter: the newest row first. -/
def tap (a0 a1 a2 a3 w0 w1 w2 w3 : EReal) : EReal := ((a0 * w3 + a1 * w2) + a2 * w1) + a3 * w0

/-- A filtered value under its gate. -/
def gate (x : EReal) : EReal := x * Ideal.div 1 (1 + Ideal.exp (-x))

/-- The filtered and gated value at step `τ` of sequence `b`, column `l`. -/
def convAt (X : FVec Ideal S32768x1024 .f32) (W : FVec Ideal S1024x4096 .bf16) (st : FVec Ideal S8x8x4096 .f32)
    (cw : FVec Ideal S4x4096 .f32) (b : Fin 8) (τ : Fin 4096) (l : Fin 4096) : EReal :=
  gate (tap (seqAt X W st b ⟨3 + τ.val, by omega⟩ l) (seqAt X W st b ⟨2 + τ.val, by omega⟩ l)
    (seqAt X W st b ⟨1 + τ.val, by omega⟩ l) (seqAt X W st b ⟨τ.val, by omega⟩ l)
    (cw (ix2 0 l)) (cw (ix2 1 l)) (cw (ix2 2 l)) (cw (ix2 3 l)))

/-- The reciprocal norm of one head of 128 values. -/
def rnorm (y : Fin 128 → EReal) : EReal := Ideal.rsqrt ((∑ e, y e * y e) + Ideal.ofBits FTy.f32 0x358637BD#32)

/-- A head's value: the first eight heads are normalised and scaled, the next eight normalised, the rest left. -/
def headAt (h : ℕ) (y : Fin 128 → EReal) (e : Fin 128) : EReal :=
  if h < 8 then y e * (rnorm y * Ideal.ofBits FTy.f32 0x3DB504F3#32) else if h < 16 then y e * rnorm y else y e

/-- The first result: every head of every row. -/
def headsOf (X : FVec Ideal S32768x1024 .f32) (W : FVec Ideal S1024x4096 .bf16) (st : FVec Ideal S8x8x4096 .f32)
    (cw : FVec Ideal S4x4096 .f32) : FVec Ideal S32768x4096 .f32 := fun i =>
  headAt ((i 1).val / 128)
    (fun e => convAt X W st cw ⟨(i 0).val / 4096, by have : (i 0).val < 32768 := (i 0).isLt; omega⟩
      ⟨(i 0).val % 4096, Nat.mod_lt _ (by decide)⟩
      ⟨(i 1).val / 128 * 128 + e.val, by have : (i 1).val < 4096 := (i 1).isLt; omega⟩)
    ⟨(i 1).val % 128, Nat.mod_lt _ (by decide)⟩

/-- The second result: the other projection. -/
def gatesOf (X : FVec Ideal S32768x1024 .f32) (W : FVec Ideal S1024x2560 .bf16) : FVec Ideal S32768x2560 .f32 := fun i =>
  ∑ k : Fin 1024, X (ix2 (i 0) k) * W (ix2 k (i 1))

/-- The third result: the last eight projected rows of every sequence. -/
def lastOf (X : FVec Ideal S32768x1024 .f32) (W : FVec Ideal S1024x4096 .bf16) : FVec Ideal S8x8x4096 .f32 := fun i =>
  prj X W ⟨(i 0).val * 4096 + (4088 + (i 1).val), by
    have : (i 0).val < 8 := (i 0).isLt; have : (i 1).val < 8 := (i 1).isLt; omega⟩ (i 2)

/-- The reference's projection. -/
def prjT (X : FVec Ideal S32768x1024 .f32) (W : FVec Ideal S1024x4096 .bf16) : FVec Ideal S8x4096x4096 .f32 :=
  shapeCast _ (Host.dotGeneral (F := Ideal) (φ₁ := .f32) (φ₂ := .f32) dot_S32768x1024_S1024x4096_S32768x4096_1_0_0_1_n_n none X (extf .f32 W bitsLt_bf16_f32)) shapeCasts_S32768x4096_S8x4096x4096

/-- Entry of the projection, split in sequences. -/
theorem prjT_at (X : FVec Ideal S32768x1024 .f32) (W : FVec Ideal S1024x4096 .bf16) (b : Fin 8) (τ l : Fin 4096) :
    prjT X W (ix3 b τ l) = prj X W ⟨b.val * 4096 + τ.val, by omega⟩ l := by
  pointwise [prjT, prj]

/-- The reference's sequences with the carried rows in front. -/
def seqT (X : FVec Ideal S8x4096x4096 .f32) (st : FVec Ideal S8x8x4096 .f32) : FVec Ideal S8x4099x4096 .f32 :=
  concatenate S8x4099x4096 1 [⟨S8x3x4096, (extractStridedSlice S8x3x4096 ![0, 5, 0] st slices_S8x8x4096_S8x3x4096_0_5_0)⟩, ⟨S8x4096x4096, X⟩] concatenates_S8x3x4096_S8x4096x4096_S8x4099x4096_d1

/-- Entry of a sequence behind the state before it. -/
theorem seqT_at (X : FVec Ideal S8x4096x4096 .f32) (st : FVec Ideal S8x8x4096 .f32) (b : Fin 8) (n : Fin 4099) (l : Fin 4096) :
    @Eq EReal (seqT X st (ix3 b n l)) (if h : n.val < 3 then st (ix3 b ⟨5 + n.val, by omega⟩ l)
      else X (ix3 b ⟨n.val - 3, by omega⟩ l)) := by
  pointwise [seqT]

/-- The reference's filter. -/
def tapT (V4 : FVec Ideal S8x4099x4096 .f32) (cw : FVec Ideal S4x4096 .f32) : FVec Ideal S8x4096x4096 .f32 :=
  (addf (addf (addf (addf (broadcastInDim S8x4096x4096 ![] bcast_S_S8x4096x4096 (constant S_ .f32 0x00000000#32)) (mulf (extractStridedSlice S8x4096x4096 ![0, 0, 0] V4 slices_S8x4099x4096_S8x4096x4096_0_0_0) (broadcastInDim S8x4096x4096 ![0, 1, 2] bcast_S1x1x4096_S8x4096x4096_0_1_2 (broadcastInDim S1x1x4096 ![2] bcast_S4096_S1x1x4096_2 (shapeCast _ (extractStridedSlice S1x4096 ![0, 0] cw slices_S4x4096_S1x4096_0_0) shapeCasts_S1x4096_S4096))))) (mulf (extractStridedSlice S8x4096x4096 ![0, 1, 0] V4 slices_S8x4099x4096_S8x4096x4096_0_1_0) (broadcastInDim S8x4096x4096 ![0, 1, 2] bcast_S1x1x4096_S8x4096x4096_0_1_2 (broadcastInDim S1x1x4096 ![2] bcast_S4096_S1x1x4096_2 (shapeCast _ (extractStridedSlice S1x4096 ![1, 0] cw slices_S4x4096_S1x4096_1_0) shapeCasts_S1x4096_S4096))))) (mulf (extractStridedSlice S8x4096x4096 ![0, 2, 0] V4 slices_S8x4099x4096_S8x4096x4096_0_2_0) (broadcastInDim S8x4096x4096 ![0, 1, 2] bcast_S1x1x4096_S8x4096x4096_0_1_2 (broadcastInDim S1x1x4096 ![2] bcast_S4096_S1x1x4096_2 (shapeCast _ (extractStridedSlice S1x4096 ![2, 0] cw slices_S4x4096_S1x4096_2_0) shapeCasts_S1x4096_S4096))))) (mulf (extractStridedSlice S8x4096x4096 ![0, 3, 0] V4 slices_S8x4099x4096_S8x4096x4096_0_3_0) (broadcastInDim S8x4096x4096 ![0, 1, 2] bcast_S1x1x4096_S8x4096x4096_0_1_2 (broadcastInDim S1x1x4096 ![2] bcast_S4096_S1x1x4096_2 (shapeCast _ (extractStridedSlice S1x4096 ![3, 0] cw slices_S4x4096_S1x4096_3_0) shapeCasts_S1x4096_S4096)))))

/-- Entry of the four-tap filter. -/
theorem tapT_at (V4 : FVec Ideal S8x4099x4096 .f32) (cw : FVec Ideal S4x4096 .f32) (b : Fin 8) (τ l : Fin 4096) :
    tapT V4 cw (ix3 b τ l) = tap (V4 (ix3 b ⟨3 + τ.val, by omega⟩ l)) (V4 (ix3 b ⟨2 + τ.val, by omega⟩ l))
      (V4 (ix3 b ⟨1 + τ.val, by omega⟩ l)) (V4 (ix3 b ⟨τ.val, by omega⟩ l))
      (cw (ix2 0 l)) (cw (ix2 1 l)) (cw (ix2 2 l)) (cw (ix2 3 l)) := by
  pointwise [tapT, tap]
  ac_rfl

/-- The reference's gate. -/
def gateT (V33 : FVec Ideal S8x4096x4096 .f32) : FVec Ideal S8x4096x4096 .f32 :=
  (mulf V33 (Host.divf (broadcastInDim S8x4096x4096 ![] bcast_S_S8x4096x4096 (constant S_ .f32 0x3F800000#32)) (addf (broadcastInDim S8x4096x4096 ![] bcast_S_S8x4096x4096 (constant S_ .f32 0x3F800000#32)) (Host.exp (Host.negf V33)))))

/-- Entry of the SiLU. -/
theorem gateT_at (V : FVec Ideal S8x4096x4096 .f32) (b : Fin 8) (τ l : Fin 4096) : gateT V (ix3 b τ l) = gate (V (ix3 b τ l)) := by
  pointwise [gateT, gate]

/-- The reference's heads, one column range: the values normalised. -/
def rnT (V : FVec Ideal S8x4096x8x128 .f32) : FVec Ideal S8x4096x8x128 .f32 :=
  mulf V (broadcastInDim S8x4096x8x128 ![0, 1, 2, 3] bcast_S8x4096x8x1_S8x4096x8x128_0_1_2_3 (Host.rsqrt (addf (broadcastInDim S8x4096x8x1 ![0, 1, 2] bcast_S8x4096x8_S8x4096x8x1_0_1_2 (Host.reduceAdd (mulf V V) (constant S_ .f32 0x00000000#32) reducesTo_S8x4096x8x128_S8x4096x8_d3 h_S_)) (broadcastInDim S8x4096x8x1 ![] bcast_S_S8x4096x8x1 (constant S_ .f32 0x358637BD#32)))))

/-- Entry of a head over its norm. -/
theorem rnT_at (V : FVec Ideal S8x4096x8x128 .f32) (b : Fin 8) (τ : Fin 4096) (h : Fin 8) (e : Fin 128) :
    @Eq EReal (rnT V (ix4 b τ h e)) (V (ix4 b τ h e) * rnorm (fun e => V (ix4 b τ h e))) := by
  pointwise [rnT, rnorm]

/-- The first eight heads. -/
def qT (V34 : FVec Ideal S8x4096x4096 .f32) : FVec Ideal S8x4096x1024 .f32 :=
  shapeCast _ (mulf (rnT (shapeCast _ (extractStridedSlice S8x4096x1024 ![0, 0, 0] V34 slices_S8x4096x4096_S8x4096x1024_0_0_0) shapeCasts_S8x4096x1024_S8x4096x8x128)) (broadcastInDim S8x4096x8x128 ![] bcast_S_S8x4096x8x128 (constant S_ .f32 0x3DB504F3#32))) shapeCasts_S8x4096x8x128_S8x4096x1024

/-- The next eight. -/
def kT (V34 : FVec Ideal S8x4096x4096 .f32) : FVec Ideal S8x4096x1024 .f32 :=
  shapeCast _ (rnT (shapeCast _ (extractStridedSlice S8x4096x1024 ![0, 0, 1024] V34 slices_S8x4096x4096_S8x4096x1024_0_0_1024) shapeCasts_S8x4096x1024_S8x4096x8x128)) shapeCasts_S8x4096x8x128_S8x4096x1024

/-- Entry of the queries. -/
theorem qT_at (V : FVec Ideal S8x4096x4096 .f32) (b : Fin 8) (τ : Fin 4096) (l : Fin 1024) :
    @Eq EReal (qT V (ix3 b τ l)) (V (ix3 b τ ⟨l.val, by omega⟩)
      * rnorm (fun e => V (ix3 b τ ⟨l.val / 128 * 128 + e.val, by omega⟩)) * Ideal.ofBits FTy.f32 0x3DB504F3#32) := by
  pointwise [qT, rnT_at]

/-- Entry of the keys. -/
theorem kT_at (V : FVec Ideal S8x4096x4096 .f32) (b : Fin 8) (τ : Fin 4096) (l : Fin 1024) :
    @Eq EReal (kT V (ix3 b τ l)) (V (ix3 b τ ⟨1024 + l.val, by omega⟩)
      * rnorm (fun e => V (ix3 b τ ⟨1024 + (l.val / 128 * 128 + e.val), by omega⟩))) := by
  pointwise [kT, rnT_at]

/-- Three column ranges side by side, rows flat. -/
def catT (q k : FVec Ideal S8x4096x1024 .f32) (v : FVec Ideal S8x4096x2048 .f32) : FVec Ideal S32768x4096 .f32 :=
  shapeCast _ ((concatenate S8x4096x4096 2 [⟨S8x4096x1024, (q : (⟨S8x4096x1024, .f32⟩ : BufTy).Contents (Elt Ideal))⟩, ⟨S8x4096x1024, (k : (⟨S8x4096x1024, .f32⟩ : BufTy).Contents (Elt Ideal))⟩, ⟨S8x4096x2048, (v : (⟨S8x4096x2048, .f32⟩ : BufTy).Contents (Elt Ideal))⟩] concatenates_S8x4096x1024_S8x4096x1024_S8x4096x2048_S8x4096x4096_d2 : (⟨S8x4096x4096, .f32⟩ : BufTy).Contents (Elt Ideal))) shapeCasts_S8x4096x4096_S32768x4096

/-- Entry of the three parts set side by side. -/
theorem catT_at (q k : FVec Ideal S8x4096x1024 .f32) (v : FVec Ideal S8x4096x2048 .f32) (R : Fin 32768) (l : Fin 4096) :
    @Eq EReal (catT q k v (ix2 R l)) (if h : l.val < 1024 then q (ix3 ⟨R.val / 4096, by omega⟩ ⟨R.val % 4096, by omega⟩ ⟨l.val, h⟩)
      else if h' : l.val - 1024 < 1024 then k (ix3 ⟨R.val / 4096, by omega⟩ ⟨R.val % 4096, by omega⟩ ⟨l.val - 1024, h'⟩)
      else v (ix3 ⟨R.val / 4096, by omega⟩ ⟨R.val % 4096, by omega⟩ ⟨l.val - 1024 - 1024, by omega⟩)) := by
  pointwise [catT]

/-- The last range, as it is. -/
def vT (V34 : FVec Ideal S8x4096x4096 .f32) : FVec Ideal S8x4096x2048 .f32 :=
  extractStridedSlice S8x4096x2048 ![0, 0, 2048] V34 slices_S8x4096x4096_S8x4096x2048_0_0_2048

/-- Entry of the values. -/
theorem vT_at (V : FVec Ideal S8x4096x4096 .f32) (b : Fin 8) (τ : Fin 4096) (l : Fin 2048) :
    @Eq EReal (vT V (ix3 b τ l)) (V (ix3 b τ ⟨2048 + l.val, by omega⟩)) := by
  pointwise [vT]

/-- All of them, rows flat. -/
def headsT (V34 : FVec Ideal S8x4096x4096 .f32) : FVec Ideal S32768x4096 .f32 := catT (qT V34) (kT V34) (vT V34)

/-- Entry of the filtered heads, by its part. -/
theorem headsT_at (V : FVec Ideal S8x4096x4096 .f32) (R : Fin 32768) (l : Fin 4096) :
    @Eq EReal (headsT V (ix2 R l)) (headAt (l.val / 128)
      (fun e => V (ix3 ⟨R.val / 4096, by omega⟩ ⟨R.val % 4096, by omega⟩ ⟨l.val / 128 * 128 + e.val, by omega⟩)) ⟨l.val % 128, by omega⟩) := by
  refine (catT_at _ _ _ R l).trans ?_
  have e1 : (⟨l.val / 128 * 128 + l.val % 128, by omega⟩ : Fin 4096) = l := Fin.ext (by show l.val / 128 * 128 + l.val % 128 = l.val; omega)
  by_cases h1 : l.val < 1024
  · refine (dif_pos h1).trans ((qT_at V _ _ _).trans ?_)
    unfold headAt
    rw [if_pos (by omega : l.val / 128 < 8), mul_assoc]
    dsimp only
    rw [e1]
  · refine (dif_neg h1).trans ?_
    by_cases h2 : l.val - 1024 < 1024
    · refine (dif_pos h2).trans ((kT_at V _ _ _).trans ?_)
      unfold headAt
      rw [if_neg (by omega : ¬ l.val / 128 < 8), if_pos (by omega : l.val / 128 < 16)]
      dsimp only
      refine congrArg₂ (fun a b : EReal => a * b) (congrArg V (congrArg (ix3 _ _) (Fin.ext ?_))) (congrArg rnorm (funext fun e => congrArg V (congrArg (ix3 _ _) (Fin.ext ?_))))
      · show 1024 + (l.val - 1024) = l.val / 128 * 128 + l.val % 128
        omega
      · show 1024 + ((l.val - 1024) / 128 * 128 + e.val) = l.val / 128 * 128 + e.val
        omega
    · refine (dif_neg h2).trans ((vT_at V _ _ _).trans ?_)
      unfold headAt
      rw [if_neg (by omega : ¬ l.val / 128 < 8), if_neg (by omega : ¬ l.val / 128 < 16)]
      refine congrArg V (congrArg (ix3 _ _) (Fin.ext ?_))
      show 2048 + (l.val - 1024 - 1024) = l.val / 128 * 128 + l.val % 128
      omega

/-- The reference's first result as its stages, one after another. -/
theorem res_eq (m : (ℓ : Loc nD τ sig) → Buf (Elt Ideal) ℓ) (c : Dev nD) :
    res_main_v61 m c = headsT (gateT (tapT (seqT (prjT (m ((c.tc : Thread nD τ).loc main_arg0)) (m ((c.tc : Thread nD τ).loc main_arg1)))
      (m ((c.tc : Thread nD τ).loc main_arg3))) (m ((c.tc : Thread nD τ).loc main_arg4)))) := by
  unfold res_main_v61 headsT catT vT qT kT rnT gateT tapT seqT prjT
  rfl

/-- The reference's first result. -/
theorem ref_heads (m : (ℓ : Loc nD τ sig) → Buf (Elt Ideal) ℓ) (c : Dev nD) :
    res_main_v61 m c = headsOf (m ((c.tc : Thread nD τ).loc main_arg0)) (m ((c.tc : Thread nD τ).loc main_arg1))
      (m ((c.tc : Thread nD τ).loc main_arg3)) (m ((c.tc : Thread nD τ).loc main_arg4)) := by
  rw [res_eq]
  funext i
  obtain ⟨R, l, rfl⟩ : ∃ (R : Fin 32768) (l : Fin 4096), i = ix2 R l := ⟨i 0, i 1, by ext a; fin_cases a <;> rfl⟩
  refine (headsT_at _ R l).trans ?_
  unfold headsOf
  refine congrArg (fun f => headAt (l.val / 128) f ⟨l.val % 128, _⟩) (funext fun e => ?_)
  refine (gateT_at _ _ _ _).trans ?_
  unfold convAt
  refine congrArg gate ?_
  refine (tapT_at _ _ _ _ _).trans ?_
  simp only [seqT_at, prjT_at]
  rfl

/-- The reference's second result. -/
theorem ref_gates (X : FVec Ideal S32768x1024 .f32) (W : FVec Ideal S1024x2560 .bf16) :
    Host.dotGeneral (F := Ideal) (φ₁ := .f32) (φ₂ := .f32) dot_S32768x1024_S1024x2560_S32768x2560_1_0_0_1_n_n none X (extf .f32 W bitsLt_bf16_f32) = gatesOf X W := by
  funext y
  unfold gatesOf
  pointwise []

/-- The reference's third result. -/
theorem ref_last (X : FVec Ideal S32768x1024 .f32) (W : FVec Ideal S1024x4096 .bf16) :
    extractStridedSlice S8x8x4096 ![0, 4088, 0] (prjT X W) slices_S8x4096x4096_S8x8x4096_0_4088_0 = lastOf X W := by
  funext y
  unfold lastOf
  pointwise [prjT, prj]

end Cert.Reference5Ideal.Value

end
-- ==== Proof.Conv5.lean ====
module

public import proofs.«01_k».proof.Proof.Spec5
public import proofs.«01_k».proof.Proof.Gen.Kernel5Ideal.Skeleton
public import Idealize.ShloMosaic.Lib.Pipeline.ValueKit

@[expose] public section

set_option maxRecDepth 16384

noncomputable section

/-! The eight groups of a block's columns: each stored payload is one head of 128 columns, filtered, gated and normalised. -/

namespace Cert.Kernel5Ideal.Value

open Cert.Kernel5Ideal Cert.Kernel5Ideal.Gen Idealize.ShloMosaic Idealize.ShloMosaic.TcCoe Idealize.SL.Sem
open Cert.Reference5Ideal.Value (tap gate rnorm headAt)

/-- The filtered and gated values of a row in one group of columns. -/
def rowY (w : FVec Ideal S4x128 .f32) (a0 a1 a2 a3 : FVec Ideal S512x128 .f32) (r : Fin 512) (e : Fin 128) : EReal :=
  gate (tap (a0 (ix2 r e)) (a1 (ix2 r e)) (a2 (ix2 r e)) (a3 (ix2 r e)) (w (ix2 0 e)) (w (ix2 1 e)) (w (ix2 2 e)) (w (ix2 3 e)))

/-- A head's value as the kernel chooses it, by the words of the head's number. -/
def headW (g : BitVec 32) (y : Fin 128 → EReal) (e : Fin 128) : EReal :=
  y e * Scalar.select (Scalar.cmpi CmpIPredicate.slt g 8#32) (rnorm y * Ideal.ofBits FTy.f32 0x3DB504F3#32)
    (Scalar.select (Scalar.cmpi CmpIPredicate.slt g 16#32) (rnorm y) 1)

/-- The words say what the head's number says. -/
theorem headW_eq (j : Fin 4) (h : Fin 8) (y : Fin 128 → EReal) (e : Fin 128) :
    headW (Scalar.addi (Scalar.muli (BitVec.ofNat 32 j.val) 8#32) (BitVec.ofNat 32 h.val)) y e = headAt (8 * j.val + h.val) y e := by
  have e1 : ∀ (j : Fin 4) (h : Fin 8), Scalar.cmpi CmpIPredicate.slt (Scalar.addi (Scalar.muli (BitVec.ofNat 32 j.val) 8#32) (BitVec.ofNat 32 h.val)) 8#32
      = if 8 * j.val + h.val < 8 then 1#1 else 0#1 := by decide +kernel
  have e2 : ∀ (j : Fin 4) (h : Fin 8), Scalar.cmpi CmpIPredicate.slt (Scalar.addi (Scalar.muli (BitVec.ofNat 32 j.val) 8#32) (BitVec.ofNat 32 h.val)) 16#32
      = if 8 * j.val + h.val < 16 then 1#1 else 0#1 := by decide +kernel
  unfold headW headAt
  rw [e1, e2]
  by_cases h1 : 8 * j.val + h.val < 8
  · rw [if_pos h1, if_pos h1]; rfl
  · rw [if_neg h1, if_neg h1]
    by_cases h2 : 8 * j.val + h.val < 16
    · rw [if_pos h2, if_pos h2]; rfl
    · rw [if_neg h2, if_neg h2]
      exact mul_one _

/-! The eight stored payloads at a place. -/

/-- Entry of one head's written value: the filtered row of its taps. -/
theorem pay8_at (w : FVec Ideal S4x128 .f32) (a0 a1 a2 a3 : FVec Ideal S512x128 .f32) (r : Fin 512) (e : Fin 128) :
    @Eq EReal (k0_pay8 (F := Ideal) w a0 a1 a2 a3 (ix2 r e)) (rowY w a0 a1 a2 a3 r e) := by
  pointwise [k0_pay8, rowY, gate, tap]
  rw [zero_sub]

/-- Entry of one head's written value: the filtered row of its taps. -/
theorem pay12_at (w : FVec Ideal S4x128 .f32) (a0 a1 a2 a3 : FVec Ideal S512x128 .f32) (r : Fin 512) (e : Fin 128) :
    @Eq EReal (k0_pay12 (F := Ideal) w a0 a1 a2 a3 (ix2 r e)) (rowY w a0 a1 a2 a3 r e) := by
  pointwise [k0_pay12, rowY, gate, tap]
  rw [zero_sub]

/-- Entry of one head's written value: the filtered row of its taps. -/
theorem pay16_at (w : FVec Ideal S4x128 .f32) (a0 a1 a2 a3 : FVec Ideal S512x128 .f32) (r : Fin 512) (e : Fin 128) :
    @Eq EReal (k0_pay16 (F := Ideal) w a0 a1 a2 a3 (ix2 r e)) (rowY w a0 a1 a2 a3 r e) := by
  pointwise [k0_pay16, rowY, gate, tap]
  rw [zero_sub]

/-- Entry of one head's written value: the filtered row of its taps. -/
theorem pay27_at (w : FVec Ideal S4x128 .f32) (a0 a1 a2 a3 : FVec Ideal S512x128 .f32) (r : Fin 512) (e : Fin 128) :
    @Eq EReal (k0_pay27 (F := Ideal) w a0 a1 a2 a3 (ix2 r e)) (rowY w a0 a1 a2 a3 r e) := by
  pointwise [k0_pay27, rowY, gate, tap]
  rw [zero_sub]

/-- Entry of one head's written value: the filtered row of its taps. -/
theorem pay11_at (g : BitVec 32) (w : FVec Ideal S4x128 .f32) (a0 a1 a2 a3 : FVec Ideal S512x128 .f32) (r : Fin 512) (e : Fin 128) :
    @Eq EReal (k0_pay11 (F := Ideal) (k0_pay8 w a0 a1 a2 a3) g (k0_pay9 w a0 a1 a2 a3) (Scalar.cmpi .slt g 8#32) (k0_pay10 w a0 a1 a2 a3) 16#32 (ix2 r e)) (headW g (rowY w a0 a1 a2 a3 r) e) := by
  pointwise [k0_pay11, k0_pay9, k0_pay10, pay8_at, headW, rnorm]

/-- Entry of one head's written value: the filtered row of its taps. -/
theorem pay15_at (g : BitVec 32) (w : FVec Ideal S4x128 .f32) (a0 a1 a2 a3 : FVec Ideal S512x128 .f32) (r : Fin 512) (e : Fin 128) :
    @Eq EReal (k0_pay15 (F := Ideal) (k0_pay12 w a0 a1 a2 a3) g (k0_pay13 w a0 a1 a2 a3) k0_pay14 (ix2 r e)) (headW g (rowY w a0 a1 a2 a3 r) e) := by
  pointwise [k0_pay15, k0_pay13, k0_pay14, pay12_at, headW, rnorm]

/-- Entry of one head's written value: the filtered row of its taps. -/
theorem pay17_at (g : BitVec 32) (w : FVec Ideal S4x128 .f32) (a0 a1 a2 a3 : FVec Ideal S512x128 .f32) (r : Fin 512) (e : Fin 128) :
    @Eq EReal (k0_pay17 (F := Ideal) g (k0_pay16 w a0 a1 a2 a3) (ix2 r e)) (headW (Scalar.addi g 2#32) (rowY w a0 a1 a2 a3 r) e) := by
  pointwise [k0_pay17, pay16_at, headW, rnorm]

/-- Entry of one head's written value: the filtered row of its taps. -/
theorem pay18_at (w : FVec Ideal S4x128 .f32) (a0 a1 a2 a3 : FVec Ideal S512x128 .f32) (r : Fin 512) (e : Fin 128) :
    @Eq EReal (k0_pay18 (F := Ideal) w a0 a1 a2 a3 (ix2 r e)) (tap (a0 (ix2 r e)) (a1 (ix2 r e)) (a2 (ix2 r e)) (a3 (ix2 r e)) (w (ix2 0 e)) (w (ix2 1 e)) (w (ix2 2 e)) (w (ix2 3 e))) := by
  pointwise [k0_pay18, tap]

/-- Entry of one head's written value: the filtered row of its taps. -/
theorem pay19_at (w : FVec Ideal S4x128 .f32) (a0 a1 a2 a3 : FVec Ideal S512x128 .f32) (r : Fin 512) (e : Fin 128) :
    @Eq EReal (k0_pay19 (F := Ideal) w a0 a1 a2 a3 (ix2 r e)) (-(tap (a0 (ix2 r e)) (a1 (ix2 r e)) (a2 (ix2 r e)) (a3 (ix2 r e)) (w (ix2 0 e)) (w (ix2 1 e)) (w (ix2 2 e)) (w (ix2 3 e)))) := by
  pointwise [k0_pay19, pay18_at]
  rw [zero_sub]

/-- Entry of one head's written value: the filtered row of its taps. -/
theorem pay20_at (g : BitVec 32) (w : FVec Ideal S4x128 .f32) (a0 a1 a2 a3 : FVec Ideal S512x128 .f32) (r : Fin 512) (e : Fin 128) :
    @Eq EReal (k0_pay20 (F := Ideal) g (k0_pay18 w a0 a1 a2 a3) (k0_pay19 w a0 a1 a2 a3) (ix2 r e)) (headW (Scalar.addi g 3#32) (rowY w a0 a1 a2 a3 r) e) := by
  pointwise [k0_pay20, pay18_at, pay19_at, headW, rnorm, rowY, gate]

/-- Entry of one head's written value: the filtered row of its taps. -/
theorem pay22_at (g : BitVec 32) (w : FVec Ideal S4x128 .f32) (a0 a1 a2 a3 : FVec Ideal S512x128 .f32) (r : Fin 512) (e : Fin 128) :
    @Eq EReal (k0_pay22 (F := Ideal) g w (k0_pay21 w a0 a1 a2) a3 (ix2 r e)) (headW (Scalar.addi g 4#32) (rowY w a0 a1 a2 a3 r) e) := by
  pointwise [k0_pay22, k0_pay21, headW, rnorm, rowY, gate, tap, zero_sub]

/-- Entry of one head's written value: the filtered row of its taps. -/
theorem pay24_at (g : BitVec 32) (w : FVec Ideal S4x128 .f32) (a0 a1 a2 a3 : FVec Ideal S512x128 .f32) (r : Fin 512) (e : Fin 128) :
    @Eq EReal (k0_pay24 (F := Ideal) g w (k0_pay23 w a0 a1) a2 a3 (ix2 r e)) (headW (Scalar.addi g 5#32) (rowY w a0 a1 a2 a3 r) e) := by
  pointwise [k0_pay24, k0_pay23, headW, rnorm, rowY, gate, tap, zero_sub]

/-- Entry of one head's written value: the filtered row of its taps. -/
theorem pay26_at (g : BitVec 32) (w : FVec Ideal S4x128 .f32) (a0 a1 a2 a3 : FVec Ideal S512x128 .f32) (r : Fin 512) (e : Fin 128) :
    @Eq EReal (k0_pay26 (F := Ideal) g w (k0_pay25 w a0) a1 a2 a3 (ix2 r e)) (headW (Scalar.addi g 6#32) (rowY w a0 a1 a2 a3 r) e) := by
  pointwise [k0_pay26, k0_pay25, headW, rnorm, rowY, gate, tap, zero_sub]

/-- Entry of one head's written value: the filtered row of its taps. -/
theorem pay1_at (g : BitVec 32) (w : FVec Ideal S4x128 .f32) (a0 a1 a2 a3 : FVec Ideal S512x128 .f32) (r : Fin 512) (e : Fin 128) :
    @Eq EReal (k0_pay1 (F := Ideal) (k0_pay27 w a0 a1 a2 a3) (Scalar.cmpi .slt (Scalar.addi g 7#32) 8#32) (k0_pay29 w a0 a1 a2 a3) (k0_pay30 g w a0 a1 a2 a3) (ix2 r e)) (headW (Scalar.addi g 7#32) (rowY w a0 a1 a2 a3 r) e) := by
  pointwise [k0_pay1, k0_pay29, k0_pay30, k0_pay28, pay27_at, headW, rnorm]

end Cert.Kernel5Ideal.Value

end
-- ==== Proof.Rows5.lean ====
module

public import proofs.«01_k».proof.Proof.Body5Ideal
public import proofs.«01_k».proof.Proof.Conv5
public import Idealize.ShloMosaic.Lib.Pipeline.ValueKit
public import Idealize.ShloMosaic.Lib.Pipeline.CanonAppend

@[expose] public section

set_option maxRecDepth 16384

noncomputable section

/-! The blocks of the projection, its staged rows and its filtered heads, read at a place. -/

namespace Cert.Kernel5Ideal.Value

open Cert.Kernel5Ideal Cert.Kernel5Ideal.Gen Cert.Kernel5Ideal.Body Idealize.ShloMosaic Idealize.ShloMosaic.TcCoe Idealize.SL.Sem
open Cert.Reference5Ideal.Value (tap gate rnorm headAt prj seqAt convAt headsOf gatesOf lastOf)
open Idealize.ShloMosaic.Pipeline (Dat)

variable (m : (ℓ : Loc nD τ sig) → Buf (Elt Ideal) ℓ)

/-- The windows' block indices at every grid point. -/
theorem idx5 : ∀ t : Fin cfg0.N, win0_0.index t = ![t.val / 4, 0] ∧ win0_1.index t = ![0, t.val % 4] ∧ win0_2.index t = ![0, t.val % 4]
    ∧ win0_3.index t = ![t.val / 32, 0, t.val % 4] ∧ win0_4.index t = ![0, t.val % 4] ∧ win0_5.index t = ![t.val / 4, t.val % 4]
    ∧ win0_6.index t = ![t.val / 4, t.val % 4] ∧ win0_7.index t = ![t.val / 4, 0, t.val % 4] :=
  (by decide +kernel : ∀ t : Fin grid0.N, _)

/-- The launch has 256 steps. -/
theorem lt256 (t : Fin cfg0.N) : t.val < 256 := lt_of_lt_of_eq t.isLt N_0

/-- The product of a block of rows and a block of columns. -/
theorem pay6_at (A : FVec Ideal S512x1024 .f32) (B : FVec Ideal S1024x1024 .bf16) (r : Fin 512) (l : Fin 1024) :
    @Eq EReal (k0_pay6 (F := Ideal) A B (ix2 r l)) (∑ k : Fin 1024, A (ix2 r k) * B (ix2 k l)) := by
  pointwise [k0_pay6, k0_pay4]

/-- The other product. -/
theorem pay7_at (A : FVec Ideal S512x1024 .f32) (B : FVec Ideal S1024x640 .bf16) (r : Fin 512) (l : Fin 640) :
    @Eq EReal (k0_pay7 (F := Ideal) A B (ix2 r l)) (∑ k : Fin 1024, A (ix2 r k) * B (ix2 k l)) := by
  pointwise [k0_pay7, k0_pay4]

/-- A block of the projection at a place. -/
theorem pre_at (c : Dev nD) (t : Fin cfg0.N) (r : Fin 512) (l : Fin 1024) (R : Fin 32768) (col : Fin 4096)
    (hR : R.val = 512 * (t.val / 4) + r.val) (hc : col.val = 1024 * (t.val % 4) + l.val) :
    pre m c t (ix2 r l) = prj (m ((c : Thread nD τ).loc main_arg0)) (m ((c : Thread nD τ).loc main_arg1)) R col := by
  have h0 : ∀ k, iblk m c 0 t (ix2 r k) = m ((c : Thread nD τ).loc main_arg0) (ix2 R k) := by
    intro k; blk_ext [iblk, V, idx5 t] <;> omega
  have h1 : ∀ k, iblk m c 1 t (ix2 k l) = m ((c : Thread nD τ).loc main_arg1) (ix2 k col) := by
    intro k; blk_ext [iblk, V, idx5 t] <;> omega
  unfold pre
  refine (pay6_at (iblk m c 0 t) (iblk m c 1 t) r l).trans ?_
  unfold prj
  exact Finset.sum_congr rfl fun k _ => congrArg₂ (fun a b : EReal => a * b) (h0 k) (h1 k)

/-- The rows staged above a block: the given state at a sequence's first block, else the rows before. -/
theorem pay5_at (i : grid0.Coords) (a b : FVec Ideal S1x8x1024 .f32) (u : Fin 8) (l : Fin 1024) :
    @Eq EReal (k0_pay5 (F := Ideal) i a b (ix2 u l)) (if (i 0).val % 8 = 0 then a (ix3 0 u l) else b (ix3 0 u l)) := by
  pointwise [k0_pay5]
  have key : ∀ n : Fin 64, Scalar.cmpi CmpIPredicate.eq
        (Scalar.select
          (Scalar.andi
            (Scalar.xori
              (Scalar.cmpi CmpIPredicate.slt
                (Scalar.remsi (BitVec.ofNat 32 n.val)
                  (Scalar.select (Scalar.cmpi CmpIPredicate.eq 8#32 0#32) 1#32 8#32))
                0#32)
              (Scalar.cmpi CmpIPredicate.slt (Scalar.select (Scalar.cmpi CmpIPredicate.eq 8#32 0#32) 1#32 8#32) 0#32))
            (Scalar.cmpi CmpIPredicate.ne
              (Scalar.remsi (BitVec.ofNat 32 n.val) (Scalar.select (Scalar.cmpi CmpIPredicate.eq 8#32 0#32) 1#32 8#32))
              0#32))
          (Scalar.addi
            (Scalar.remsi (BitVec.ofNat 32 n.val) (Scalar.select (Scalar.cmpi CmpIPredicate.eq 8#32 0#32) 1#32 8#32))
            (Scalar.select (Scalar.cmpi CmpIPredicate.eq 8#32 0#32) 1#32 8#32))
          (Scalar.remsi (BitVec.ofNat 32 n.val) (Scalar.select (Scalar.cmpi CmpIPredicate.eq 8#32 0#32) 1#32 8#32)))
        0#32 = if n.val % 8 = 0 then 1#1 else 0#1 := by decide +kernel
  refine (congrArg (fun p => Scalar.select p _ _) (key (i 0))).trans ?_
  by_cases h : (i 0).val % 8 = 0
  · rw [if_pos h, if_pos h]; rfl
  · rw [if_neg h, if_neg h]; rfl

/-- The staged rows at a point. -/
def stg (c : Dev nD) (t : Fin cfg0.N) : Vec Ideal S520x1024 .f32 :=
  View.canon (Val := Elt Ideal) (run.sl.HS1_2 c (grid0.coords t) (ms0 t) (hs0 t) (ms1 t) (hs1 t) (ms3 t) (hs3 t) sM0 hM0 (iblk m c 0 t) (iblk m c 1 t) (iblk m c 3 t) (carry m c t))

/-- The eight staged rows before a block. -/
theorem stg_low (c : Dev nD) (t : Fin cfg0.N) (u : Fin 8) (l : Fin 1024) :
    @Eq EReal (stg m c t (ix2 ⟨u.val, by omega⟩ l)) (if (t.val / 4) % 8 = 0 then iblk m c 3 t (ix3 0 u l) else prevRow m c t (ix3 0 u l)) := by
  have ht := lt256 t
  unfold stg run.sl.HS1_2
  refine (View.canon_cons_of_not_mem (Val := Elt Ideal) _ _ ?_).trans ?_
  · intro h
    obtain ⟨x, hx⟩ := LoadRect.exists_idx_of_mem _ h
    have := congrArg (fun f : S520x1024.Idx => (f 0).val) hx
    have h2 : 8 + 1 * (x 0).val = u.val := this
    have := u.isLt
    omega
  · refine Eq.trans (congrArg _ ?_) ((View.canon_cons_emb (Val := Elt Ideal) (Rect.unit (s := S520x1024) ![0, 0] S8x1024.size inb_S520x1024_S8x1024_0_0) _ _ (ix2 u l)).trans ?_)
    · refine funext fun a => Fin.ext ?_
      fin_cases a
      · show u.val = 0 + 1 * u.val
        omega
      · show l.val = 0 + 1 * l.val
        omega
    · refine (pay5_at _ _ _ u l).trans ?_
      have e0 : (grid0.coords t 0).val = t.val / 4 % 64 := Pipeline.Grid.coords_val t 0 (by decide) rfl
      have e3 : View.readAt (Elt Ideal) (ms3 t).view (Rect.unit (s := S1x8x1024) ![0, 0, 0] S1x8x1024.size inb_S1x8x1024_S1x8x1024_0_0_0).toLoadRect ((hs3 t).unread (iblk m c 3 t)) = iblk m c 3 t :=
        load_all _ (hs3 t) _ _ _
      refine if_congr (by rw [e0]; omega) (congrFun e3 _) ?_
      exact read_col t _ _

/-- The staged rows are the sequence's, from the third row before the block on. -/
theorem stg_at (c : Dev nD) (t : Fin cfg0.N) (u : Fin 520) (l : Fin 1024) (h5 : 5 ≤ u.val) (b : Fin 8) (n : Fin 4099) (col : Fin 4096)
    (hb : b.val = t.val / 32) (hn : n.val = 512 * (t.val / 4 % 8) + (u.val - 5)) (hc : col.val = 1024 * (t.val % 4) + l.val) :
    stg m c t (ix2 u l) = seqAt (m ((c : Thread nD τ).loc main_arg0)) (m ((c : Thread nD τ).loc main_arg1)) (m ((c : Thread nD τ).loc main_arg3)) b n col := by
  have ht := lt256 t
  unfold seqAt
  by_cases h8 : 8 ≤ u.val
  · rw [dif_neg (by omega)]
    have e : u = ⟨8 + (⟨u.val - 8, by omega⟩ : Fin 512).val, by show 8 + (u.val - 8) < 520; omega⟩ := Fin.ext (by show u.val = 8 + (u.val - 8); omega)
    refine Eq.trans (congrArg (fun u => stg m c t (ix2 u l)) e) ((staged_block m c t (carry m c t) ⟨u.val - 8, by omega⟩ l).trans ?_)
    refine pre_at m c t _ l _ _ ?_ hc
    show b.val * 4096 + (n.val - 3) = 512 * (t.val / 4) + (u.val - 8)
    omega
  · refine Eq.trans (stg_low m c t ⟨u.val, by omega⟩ l) ?_
    by_cases h0 : t.val / 4 % 8 = 0
    · rw [if_pos h0, dif_pos (by omega)]
      have e : n.val = u.val - 5 := by omega
      blk_ext [iblk, V, idx5 t] <;> omega
    · rw [if_neg h0, dif_neg (by omega)]
      unfold prevRow tl
      refine pre_at m c _ _ l _ _ ?_ ?_
      · show b.val * 4096 + (n.val - 3) = 512 * ((t.val - 4) / 4) + (504 + u.val)
        omega
      · show col.val = 1024 * ((t.val - 4) % 4) + l.val
        omega

/-- Columns of the staged rows, as loaded. -/
def ldF (Fl : Vec Ideal S520x1024 .f32) (o n : ℕ) (ho : o ≤ 8) (hn : n ≤ 896) : FVec Ideal S512x128 .f32 := fun y =>
  Fl (ix2 ⟨o + (y 0).val, by have : (y 0).val < 512 := (y 0).isLt; omega⟩ ⟨n + (y 1).val, by have : (y 1).val < 128 := (y 1).isLt; omega⟩)

/-- A slice of the staged rows, by entries. -/
theorem cov_eq (c : Dev nD) (t : Fin cfg0.N) (o n : ℕ) (ho : o ≤ 8) (hn : n ≤ 896) (inb) :
    sM1.view.readCov (Val := Elt Ideal) (run.sl.HS1_2 c (grid0.coords t) (ms0 t) (hs0 t) (ms1 t) (hs1 t) (ms3 t) (hs3 t) sM0 hM0 (iblk m c 0 t) (iblk m c 1 t) (iblk m c 3 t) (carry m c t))
      (Rect.unit (s := S520x1024) ![o, n] S512x128.size inb).toLoadRect = ldF (stg m c t) o n ho hn := by
  rw [View.readCov_eq_canon']
  funext y
  unfold ldF stg
  refine congrArg _ (funext fun a => Fin.ext ?_)
  fin_cases a
  · show o + 1 * (y 0).val = o + (y 0).val
    omega
  · show n + 1 * (y 1).val = n + (y 1).val
    omega

/-- Columns of the taps, as loaded. -/
def ldW (x : Vec Ideal S4x1024 .f32) (n : ℕ) (hn : n ≤ 896) : FVec Ideal S4x128 .f32 := fun y =>
  x (ix2 ⟨(y 0).val, (y 0).isLt⟩ ⟨n + (y 1).val, by have : (y 1).val < 128 := (y 1).isLt; omega⟩)

/-- A slice of the taps, by entries. -/
theorem taps_eq (t : Fin cfg0.N) (x : Vec Ideal S4x1024 .f32) (n : ℕ) (hn : n ≤ 896) (inb) :
    View.readAt (Elt Ideal) (ms4 t).view (Rect.unit (s := S4x1024) ![0, n] S4x128.size inb).toLoadRect ((hs4 t).unread x) = ldW x n hn := by
  funext y
  rw [View.readAt_apply, (hs4 t).read_unread]
  unfold ldW
  refine congrArg _ (funext fun a => Fin.ext ?_)
  fin_cases a
  · show 0 + 1 * (y 0).val = (y 0).val
    omega
  · show n + 1 * (y 1).val = n + (y 1).val
    omega

/-- The filtered row depends only on its taps and rows. -/
theorem rowY_congr {w w' : FVec Ideal S4x128 .f32} {a0 a1 a2 a3 b0 b1 b2 b3 : FVec Ideal S512x128 .f32} (hw : w = w') (h0 : a0 = b0)
    (h1 : a1 = b1) (h2 : a2 = b2) (h3 : a3 = b3) (g : BitVec 32) (r : Fin 512) (e : Fin 128) :
    headW g (rowY w a0 a1 a2 a3 r) e = headW g (rowY w' b0 b1 b2 b3 r) e := by
  subst hw h0 h1 h2 h3; rfl

/-- Head `q` of a block, row `r`. -/
def blkH (g : BitVec 32) (Fl : Vec Ideal S520x1024 .f32) (x : Vec Ideal S4x1024 .f32) (r : Fin 512) (q : ℕ) (hq : q < 8) (e : Fin 128) : EReal :=
  headW (Scalar.addi g (BitVec.ofNat 32 q)) (rowY (ldW x (128 * q) (by omega)) (ldF Fl 8 (128 * q) (by omega) (by omega)) (ldF Fl 7 (128 * q) (by omega) (by omega))
    (ldF Fl 6 (128 * q) (by omega) (by omega)) (ldF Fl 5 (128 * q) (by omega) (by omega)) r) e

/-- The block's heads side by side. -/
def blkG (g : BitVec 32) (Fl : Vec Ideal S520x1024 .f32) (x : Vec Ideal S4x1024 .f32) (r : Fin 512) (l : Fin 1024) : EReal :=
  blkH g Fl x r (l.val / 128) (by omega) ⟨l.val % 128, Nat.mod_lt _ (by decide)⟩

/-- Entry of one head's block in the staged rows and taps. -/
theorem blkG_at (g : BitVec 32) (Fl : Vec Ideal S520x1024 .f32) (x : Vec Ideal S4x1024 .f32) (r : Fin 512) (q : ℕ) (hq : q < 8) (e : Fin 128)
    (l : Fin 1024) (hl : l.val = 128 * q + e.val) : blkH g Fl x r q hq e = blkG g Fl x r l := by
  have key : ∀ (q' : ℕ) (hq' : q' < 8) (e' : Fin 128), q' = q → e' = e → blkH g Fl x r q' hq' e' = blkH g Fl x r q hq e := by
    intro q' hq' e' h1 h2; subst h1 h2; rfl
  exact (key _ _ _ (by omega) (Fin.ext (by show l.val % 128 = e.val; omega))).symm

/-- Eight column groups written side by side. -/
theorem canon8 (w0 w1 w2 w3 w4 w5 w6 w7 : FVec Ideal S512x128 .f32) (G : Fin 512 → Fin 1024 → EReal)
    (h0 : ∀ (r : Fin 512) (e : Fin 128), w0 (ix2 r e) = G r ⟨0 + e.val, by omega⟩)
    (h1 : ∀ (r : Fin 512) (e : Fin 128), w1 (ix2 r e) = G r ⟨128 + e.val, by omega⟩)
    (h2 : ∀ (r : Fin 512) (e : Fin 128), w2 (ix2 r e) = G r ⟨256 + e.val, by omega⟩)
    (h3 : ∀ (r : Fin 512) (e : Fin 128), w3 (ix2 r e) = G r ⟨384 + e.val, by omega⟩)
    (h4 : ∀ (r : Fin 512) (e : Fin 128), w4 (ix2 r e) = G r ⟨512 + e.val, by omega⟩)
    (h5 : ∀ (r : Fin 512) (e : Fin 128), w5 (ix2 r e) = G r ⟨640 + e.val, by omega⟩)
    (h6 : ∀ (r : Fin 512) (e : Fin 128), w6 (ix2 r e) = G r ⟨768 + e.val, by omega⟩)
    (h7 : ∀ (r : Fin 512) (e : Fin 128), w7 (ix2 r e) = G r ⟨896 + e.val, by omega⟩)
    (r : Fin 512) (l : Fin 1024) : View.canon (Val := Elt Ideal) (s := S512x1024) (e := .f32) [⟨Rect.unit (s := S512x1024) ![0, 896] S512x128.size inb_S512x1024_S512x128_0_896, w7⟩, ⟨Rect.unit (s := S512x1024) ![0, 768] S512x128.size inb_S512x1024_S512x128_0_768, w6⟩, ⟨Rect.unit (s := S512x1024) ![0, 640] S512x128.size inb_S512x1024_S512x128_0_640, w5⟩, ⟨Rect.unit (s := S512x1024) ![0, 512] S512x128.size inb_S512x1024_S512x128_0_512, w4⟩, ⟨Rect.unit (s := S512x1024) ![0, 384] S512x128.size inb_S512x1024_S512x128_0_384, w3⟩, ⟨Rect.unit (s := S512x1024) ![0, 256] S512x128.size inb_S512x1024_S512x128_0_256, w2⟩, ⟨Rect.unit (s := S512x1024) ![0, 128] S512x128.size inb_S512x1024_S512x128_0_128, w1⟩, ⟨Rect.unit (s := S512x1024) ![0, 0] S512x128.size inb_S512x1024_S512x128_0_0, w0⟩] (ix2 r l) = G r l := by
  have key : ∀ (n : ℕ) (hn : n ≤ 896) (x : S512x128.Idx) (inb) (w : FVec Ideal S512x128 .f32)
      (h : ∀ (r : Fin 512) (e : Fin 128), w (ix2 r e) = G r ⟨n + e.val, by omega⟩),
      w x = G ((Rect.unit (s := S512x1024) ![0, n] S512x128.size inb).idx x 0) ((Rect.unit (s := S512x1024) ![0, n] S512x128.size inb).idx x 1) := by
    intro n hn x inb w h
    obtain ⟨r, e, rfl⟩ : ∃ (r : Fin 512) (e : Fin 128), x = ix2 r e := ⟨x 0, x 1, by ext a; fin_cases a <;> rfl⟩
    refine (h r e).trans (congrArg₂ G (Fin.ext ?_) (Fin.ext ?_))
    · show r.val = 0 + 1 * r.val
      omega
    · show n + e.val = n + 1 * e.val
      omega
  have := (View.canon_append_of_pieces (Val := Elt Ideal) (S := S512x1024) (e := .f32) (fun y => G (y 0) (y 1)) [] [⟨Rect.unit (s := S512x1024) ![0, 896] S512x128.size inb_S512x1024_S512x128_0_896, w7⟩, ⟨Rect.unit (s := S512x1024) ![0, 768] S512x128.size inb_S512x1024_S512x128_0_768, w6⟩, ⟨Rect.unit (s := S512x1024) ![0, 640] S512x128.size inb_S512x1024_S512x128_0_640, w5⟩, ⟨Rect.unit (s := S512x1024) ![0, 512] S512x128.size inb_S512x1024_S512x128_0_512, w4⟩, ⟨Rect.unit (s := S512x1024) ![0, 384] S512x128.size inb_S512x1024_S512x128_0_384, w3⟩, ⟨Rect.unit (s := S512x1024) ![0, 256] S512x128.size inb_S512x1024_S512x128_0_256, w2⟩, ⟨Rect.unit (s := S512x1024) ![0, 128] S512x128.size inb_S512x1024_S512x128_0_128, w1⟩, ⟨Rect.unit (s := S512x1024) ![0, 0] S512x128.size inb_S512x1024_S512x128_0_0, w0⟩] ?_ (ix2 r l) ?_)
  · exact this
  · intro p hp x
    simp only [List.mem_cons, List.not_mem_nil, or_false] at hp
    rcases hp with rfl | rfl | rfl | rfl | rfl | rfl | rfl | rfl
    · exact key 896 (by decide) x inb_S512x1024_S512x128_0_896 w7 h7
    · exact key 768 (by decide) x inb_S512x1024_S512x128_0_768 w6 h6
    · exact key 640 (by decide) x inb_S512x1024_S512x128_0_640 w5 h5
    · exact key 512 (by decide) x inb_S512x1024_S512x128_0_512 w4 h4
    · exact key 384 (by decide) x inb_S512x1024_S512x128_0_384 w3 h3
    · exact key 256 (by decide) x inb_S512x1024_S512x128_0_256 w2 h2
    · exact key 128 (by decide) x inb_S512x1024_S512x128_0_128 w1 h1
    · exact key 0 (by decide) x inb_S512x1024_S512x128_0_0 w0 h0
  · obtain ⟨g, hg⟩ : ∃ g, g = l.val / 128 := ⟨_, rfl⟩
    have hc := l.isLt
    have hr := r.isLt
    have hmem : ∀ (C : ℕ) (inb : ∀ a, (![0, C] : Fin 2 → ℕ) a + S512x128.size a ≤ S512x1024.size a), C ≤ l.val → l.val < C + 128 →
        (ix2 r l : S512x1024.Idx) ∈ (Rect.unit (s := S512x1024) ![0, C] S512x128.size inb).set := fun C inb e2 e3 => by
      refine (Rect.unit (s := S512x1024) ![0, C] S512x128.size inb).mem_set.mpr fun a => ?_
      fin_cases a
      · exact ⟨r.val, by simpa [Rect.unit] using hr, by simp [Rect.unit]⟩
      · exact ⟨l.val - C, by simp [Rect.unit]; omega, by simp [Rect.unit]; omega⟩
    rcases (show g = 0 ∨ g = 1 ∨ g = 2 ∨ g = 3 ∨ g = 4 ∨ g = 5 ∨ g = 6 ∨ g = 7 by omega) with rfl | rfl | rfl | rfl | rfl | rfl | rfl | rfl
    · exact ⟨_, (List.mem_cons_of_mem _ (List.mem_cons_of_mem _ (List.mem_cons_of_mem _ (List.mem_cons_of_mem _ (List.mem_cons_of_mem _ (List.mem_cons_of_mem _ (List.mem_cons_of_mem _ List.mem_cons_self))))))), hmem 0 inb_S512x1024_S512x128_0_0 (by omega) (by omega)⟩
    · exact ⟨_, (List.mem_cons_of_mem _ (List.mem_cons_of_mem _ (List.mem_cons_of_mem _ (List.mem_cons_of_mem _ (List.mem_cons_of_mem _ (List.mem_cons_of_mem _ List.mem_cons_self)))))), hmem 128 inb_S512x1024_S512x128_0_128 (by omega) (by omega)⟩
    · exact ⟨_, (List.mem_cons_of_mem _ (List.mem_cons_of_mem _ (List.mem_cons_of_mem _ (List.mem_cons_of_mem _ (List.mem_cons_of_mem _ List.mem_cons_self))))), hmem 256 inb_S512x1024_S512x128_0_256 (by omega) (by omega)⟩
    · exact ⟨_, (List.mem_cons_of_mem _ (List.mem_cons_of_mem _ (List.mem_cons_of_mem _ (List.mem_cons_of_mem _ List.mem_cons_self)))), hmem 384 inb_S512x1024_S512x128_0_384 (by omega) (by omega)⟩
    · exact ⟨_, (List.mem_cons_of_mem _ (List.mem_cons_of_mem _ (List.mem_cons_of_mem _ List.mem_cons_self))), hmem 512 inb_S512x1024_S512x128_0_512 (by omega) (by omega)⟩
    · exact ⟨_, (List.mem_cons_of_mem _ (List.mem_cons_of_mem _ List.mem_cons_self)), hmem 640 inb_S512x1024_S512x128_0_640 (by omega) (by omega)⟩
    · exact ⟨_, (List.mem_cons_of_mem _ List.mem_cons_self), hmem 768 inb_S512x1024_S512x128_0_768 (by omega) (by omega)⟩
    · exact ⟨_, List.mem_cons_self, hmem 896 inb_S512x1024_S512x128_0_896 (by omega) (by omega)⟩

set_option maxHeartbeats 2000000 in
/-- The first output's block at a point. -/
theorem out5_at (c : Dev nD) (t : Fin cfg0.N) (r : Fin 512) (l : Fin 1024) :
    out5 m c t (ix2 r l) = blkG (run.sl.v30 (grid0.coords t)) (stg m c t) (iblk m c 4 t) r l := by
  unfold out5 runAt run
  dsimp only
  refine canon8 _ _ _ _ _ _ _ _ (fun r l => blkG (run.sl.v30 (grid0.coords t)) (stg m c t) (iblk m c 4 t) r l) ?_ ?_ ?_ ?_ ?_ ?_ ?_ ?_ r l
  · intro r e
    refine (pay11_at _ _ _ _ _ _ r e).trans ?_
    refine Eq.trans (rowY_congr (taps_eq t (iblk m c 4 t) 0 (by decide) _) (cov_eq m c t 8 0 (by decide) (by decide) _) (cov_eq m c t 7 0 (by decide) (by decide) _)
      (cov_eq m c t 6 0 (by decide) (by decide) _) (cov_eq m c t 5 0 (by decide) (by decide) _) _ r e) ?_
    exact blkG_at _ _ _ r 0 (by decide) e ⟨0 + e.val, by omega⟩ rfl
  · intro r e
    refine (pay15_at _ _ _ _ _ _ r e).trans ?_
    refine Eq.trans (rowY_congr (taps_eq t (iblk m c 4 t) 128 (by decide) _) (cov_eq m c t 8 128 (by decide) (by decide) _) (cov_eq m c t 7 128 (by decide) (by decide) _)
      (cov_eq m c t 6 128 (by decide) (by decide) _) (cov_eq m c t 5 128 (by decide) (by decide) _) _ r e) ?_
    exact blkG_at _ _ _ r 1 (by decide) e ⟨128 + e.val, by omega⟩ rfl
  · intro r e
    refine (pay17_at _ _ _ _ _ _ r e).trans ?_
    refine Eq.trans (rowY_congr (taps_eq t (iblk m c 4 t) 256 (by decide) _) (cov_eq m c t 8 256 (by decide) (by decide) _) (cov_eq m c t 7 256 (by decide) (by decide) _)
      (cov_eq m c t 6 256 (by decide) (by decide) _) (cov_eq m c t 5 256 (by decide) (by decide) _) _ r e) ?_
    exact blkG_at _ _ _ r 2 (by decide) e ⟨256 + e.val, by omega⟩ rfl
  · intro r e
    refine (pay20_at _ _ _ _ _ _ r e).trans ?_
    refine Eq.trans (rowY_congr (taps_eq t (iblk m c 4 t) 384 (by decide) _) (cov_eq m c t 8 384 (by decide) (by decide) _) (cov_eq m c t 7 384 (by decide) (by decide) _)
      (cov_eq m c t 6 384 (by decide) (by decide) _) (cov_eq m c t 5 384 (by decide) (by decide) _) _ r e) ?_
    exact blkG_at _ _ _ r 3 (by decide) e ⟨384 + e.val, by omega⟩ rfl
  · intro r e
    refine (pay22_at _ _ _ _ _ _ r e).trans ?_
    refine Eq.trans (rowY_congr (taps_eq t (iblk m c 4 t) 512 (by decide) _) (cov_eq m c t 8 512 (by decide) (by decide) _) (cov_eq m c t 7 512 (by decide) (by decide) _)
      (cov_eq m c t 6 512 (by decide) (by decide) _) (cov_eq m c t 5 512 (by decide) (by decide) _) _ r e) ?_
    exact blkG_at _ _ _ r 4 (by decide) e ⟨512 + e.val, by omega⟩ rfl
  · intro r e
    refine (pay24_at _ _ _ _ _ _ r e).trans ?_
    refine Eq.trans (rowY_congr (taps_eq t (iblk m c 4 t) 640 (by decide) _) (cov_eq m c t 8 640 (by decide) (by decide) _) (cov_eq m c t 7 640 (by decide) (by decide) _)
      (cov_eq m c t 6 640 (by decide) (by decide) _) (cov_eq m c t 5 640 (by decide) (by decide) _) _ r e) ?_
    exact blkG_at _ _ _ r 5 (by decide) e ⟨640 + e.val, by omega⟩ rfl
  · intro r e
    refine (pay26_at _ _ _ _ _ _ r e).trans ?_
    refine Eq.trans (rowY_congr (taps_eq t (iblk m c 4 t) 768 (by decide) _) (cov_eq m c t 8 768 (by decide) (by decide) _) (cov_eq m c t 7 768 (by decide) (by decide) _)
      (cov_eq m c t 6 768 (by decide) (by decide) _) (cov_eq m c t 5 768 (by decide) (by decide) _) _ r e) ?_
    exact blkG_at _ _ _ r 6 (by decide) e ⟨768 + e.val, by omega⟩ rfl
  · intro r e
    refine (pay1_at _ _ _ _ _ _ r e).trans ?_
    refine Eq.trans (rowY_congr (taps_eq t (iblk m c 4 t) 896 (by decide) _) (cov_eq m c t 8 896 (by decide) (by decide) _) (cov_eq m c t 7 896 (by decide) (by decide) _)
      (cov_eq m c t 6 896 (by decide) (by decide) _) (cov_eq m c t 5 896 (by decide) (by decide) _) _ r e) ?_
    exact blkG_at _ _ _ r 7 (by decide) e ⟨896 + e.val, by omega⟩ rfl

/-- The second output's block at a point. -/
theorem out6_at (c : Dev nD) (t : Fin cfg0.N) (r : Fin 512) (l : Fin 640) :
    @Eq EReal (out6 m c t (ix2 r l)) (k0_pay7 (F := Ideal) (iblk m c 0 t) (iblk m c 2 t) (ix2 r l)) := by
  unfold out6 runAt run
  dsimp only
  unfold run.sl.r
  have e0 : View.readAt (Elt Ideal) (ms0 t).view (Rect.unit (s := S512x1024) ![0, 0] S512x1024.size inb_S512x1024_S512x1024_0_0).toLoadRect ((hs0 t).unread (iblk m c 0 t)) = iblk m c 0 t :=
    load_all _ (hs0 t) _ _ _
  have e2 : View.readAt (Elt Ideal) (ms2 t).view (Rect.unit (s := S1024x640) ![0, 0] S1024x640.size inb_S1024x640_S1024x640_0_0).toLoadRect ((hs2 t).unread (iblk m c 2 t)) = iblk m c 2 t :=
    load_all _ (hs2 t) _ _ _
  refine Eq.trans (congrArg _ ?_) ((View.canon_cons_emb (Val := Elt Ideal) (Rect.unit (s := S512x640) ![0, 0] S512x640.size inb_S512x640_S512x640_0_0) _ _ (ix2 r l)).trans ?_)
  · refine funext fun a => Fin.ext ?_
    fin_cases a
    · show r.val = 0 + 1 * r.val
      omega
    · show l.val = 0 + 1 * l.val
      omega
  · exact congrFun (congrArg₂ (k0_pay7 (F := Ideal)) e0 e2) _

/-- The third output's block at a point. -/
theorem out7_at (c : Dev nD) (t : Fin cfg0.N) (r : Fin 8) (l : Fin 1024) :
    @Eq EReal (out7 m c t (ix3 0 r l)) (tl m c t (ix3 0 r l)) := by
  unfold out7 runAt run
  dsimp only
  refine Eq.trans (congrArg _ ?_) ((View.canon_cons_emb (Val := Elt Ideal) (Rect.unit (s := S1x8x1024) ![0, 0, 0] S1x8x1024.size inb_S1x8x1024_S1x8x1024_0_0_0) _ _ (ix3 0 r l)).trans ?_)
  · refine funext fun a => Fin.ext ?_
    fin_cases a
    · show 0 = 0 + 1 * 0
      omega
    · show r.val = 0 + 1 * r.val
      omega
    · show l.val = 0 + 1 * l.val
      omega
  · exact tail_rows m c t (carry m c t) r l

/-- The second result. -/
theorem final6 (c : Dev nD) : (Body.dats m 0 c).arrAt 6 cfg0.N
    = gatesOf (m ((c : Thread nD τ).loc main_arg0)) (m ((c : Thread nD τ).loc main_arg2)) := by
  refine (Body.dats m 0 c).arrAt_eq_of_covers 6 _ (by decide +kernel) fun t _ y => ?_
  blk_simp
  rw [Body.after_6]
  obtain ⟨r, l, rfl⟩ : ∃ (r : Fin 512) (l : Fin 640), y = ix2 r l := ⟨y 0, y 1, by ext a; fin_cases a <;> rfl⟩
  have ht := lt256 t
  have hi : ((View.whole main_v0_1).slice (win0_6.rect t)).emb (ix2 r l) = ix2 (⟨t.val / 4 * 512 + r.val, by omega⟩ : Fin 32768) (⟨t.val % 4 * 640 + l.val, by omega⟩ : Fin 2560) := by
    blk_ext [idx5 t]
  rw [hi]
  refine (out6_at m c t r l).trans ((pay7_at (iblk m c 0 t) (iblk m c 2 t) r l).trans ?_)
  unfold gatesOf
  have h0 : ∀ k, iblk m c 0 t (ix2 r k) = m ((c : Thread nD τ).loc main_arg0) (ix2 (⟨t.val / 4 * 512 + r.val, by omega⟩ : Fin 32768) k) := by
    intro k; blk_ext [iblk, V, idx5 t]
  have h2 : ∀ k, iblk m c 2 t (ix2 k l) = m ((c : Thread nD τ).loc main_arg2) (ix2 k (⟨t.val % 4 * 640 + l.val, by omega⟩ : Fin 2560)) := by
    intro k; blk_ext [iblk, V, idx5 t]
  exact Finset.sum_congr rfl fun k _ => congrArg₂ (fun a b : EReal => a * b) (h0 k) (h2 k)

/-- Every block's last eight rows. -/
def tailsOf (X : FVec Ideal S32768x1024 .f32) (W : FVec Ideal S1024x4096 .bf16) : FVec Ideal S64x8x4096 .f32 := fun i =>
  prj X W ⟨(i 0).val * 512 + (504 + (i 1).val), by
    have : (i 0).val < 64 := (i 0).isLt; have : (i 1).val < 8 := (i 1).isLt; omega⟩ (i 2)

/-- The third output. -/
theorem final7 (c : Dev nD) : (Body.dats m 0 c).arrAt 7 cfg0.N
    = tailsOf (m ((c : Thread nD τ).loc main_arg0)) (m ((c : Thread nD τ).loc main_arg1)) := by
  refine (Body.dats m 0 c).arrAt_eq_of_covers 7 _ (by decide +kernel) fun t _ y => ?_
  blk_simp
  rw [Body.after_7]
  obtain ⟨z, r, l, rfl⟩ : ∃ (z : Fin 1) (r : Fin 8) (l : Fin 1024), y = ix3 z r l := ⟨y 0, y 1, y 2, by ext a; fin_cases a <;> rfl⟩
  obtain rfl : z = 0 := Subsingleton.elim _ _
  have ht := lt256 t
  have hi : ((View.whole main_v0_2).slice (win0_7.rect t)).emb (ix3 0 r l) = ix3 (⟨t.val / 4, by omega⟩ : Fin 64) r (⟨t.val % 4 * 1024 + l.val, by omega⟩ : Fin 4096) := by
    blk_ext [idx5 t]
  rw [hi]
  refine (out7_at m c t r l).trans ?_
  unfold tl tailsOf
  refine pre_at m c t _ l _ _ ?_ ?_
  · show t.val / 4 * 512 + (504 + r.val) = 512 * (t.val / 4) + (504 + r.val)
    omega
  · show t.val % 4 * 1024 + l.val = 1024 * (t.val % 4) + l.val
    omega

/-- The first result. -/
theorem final5 (c : Dev nD) : (Body.dats m 0 c).arrAt 5 cfg0.N
    = headsOf (m ((c : Thread nD τ).loc main_arg0)) (m ((c : Thread nD τ).loc main_arg1)) (m ((c : Thread nD τ).loc main_arg3)) (m ((c : Thread nD τ).loc main_arg4)) := by
  refine (Body.dats m 0 c).arrAt_eq_of_covers 5 _ (by decide +kernel) fun t _ y => ?_
  blk_simp
  rw [Body.after_5]
  obtain ⟨r, l, rfl⟩ : ∃ (r : Fin 512) (l : Fin 1024), y = ix2 r l := ⟨y 0, y 1, by ext a; fin_cases a <;> rfl⟩
  have ht := lt256 t
  have hi : ((View.whole main_v0_0).slice (win0_5.rect t)).emb (ix2 r l) = ix2 (⟨t.val / 4 * 512 + r.val, by omega⟩ : Fin 32768) (⟨t.val % 4 * 1024 + l.val, by omega⟩ : Fin 4096) := by
    blk_ext [idx5 t]
  rw [hi]
  refine (out5_at m c t r l).trans ?_
  have e1 : (grid0.coords t 1).val = t.val % 4 := by
    have : (grid0.coords t 1).val = t.val / 1 % 4 := Pipeline.Grid.coords_val t 1 (by decide) rfl
    omega
  have ev : run.sl.v30 (grid0.coords t) = Scalar.muli (BitVec.ofNat 32 (⟨t.val % 4, Nat.mod_lt _ (by decide)⟩ : Fin 4).val) 8#32 := by
    show Scalar.muli (BitVec.ofNat 32 (grid0.coords t 1).val) 8#32 = _
    rw [e1]
  unfold blkG blkH headsOf
  rw [ev]
  refine (headW_eq ⟨t.val % 4, Nat.mod_lt _ (by decide)⟩ ⟨l.val / 128, by omega⟩ _ _).trans ?_
  have hh : 8 * (t.val % 4) + l.val / 128 = (t.val % 4 * 1024 + l.val) / 128 := by omega
  have he : (⟨l.val % 128, Nat.mod_lt _ (by decide)⟩ : Fin 128) = ⟨(t.val % 4 * 1024 + l.val) % 128, Nat.mod_lt _ (by decide)⟩ := Fin.ext (by show l.val % 128 = (t.val % 4 * 1024 + l.val) % 128; omega)
  have hy : ∀ e : Fin 128, rowY (ldW (iblk m c 4 t) (128 * (l.val / 128)) (by omega)) (ldF (stg m c t) 8 (128 * (l.val / 128)) (by omega) (by omega))
      (ldF (stg m c t) 7 (128 * (l.val / 128)) (by omega) (by omega)) (ldF (stg m c t) 6 (128 * (l.val / 128)) (by omega) (by omega))
      (ldF (stg m c t) 5 (128 * (l.val / 128)) (by omega) (by omega)) r e
      = convAt (m ((c : Thread nD τ).loc main_arg0)) (m ((c : Thread nD τ).loc main_arg1)) (m ((c : Thread nD τ).loc main_arg3)) (m ((c : Thread nD τ).loc main_arg4))
        ⟨(t.val / 4 * 512 + r.val) / 4096, by omega⟩ ⟨(t.val / 4 * 512 + r.val) % 4096, Nat.mod_lt _ (by decide)⟩
        ⟨(t.val % 4 * 1024 + l.val) / 128 * 128 + e.val, by omega⟩ := by
    intro e
    unfold rowY convAt
    have hw : ∀ k : Fin 4, ldW (iblk m c 4 t) (128 * (l.val / 128)) (by omega) (ix2 k e)
        = m ((c : Thread nD τ).loc main_arg4) (ix2 k (⟨(t.val % 4 * 1024 + l.val) / 128 * 128 + e.val, by omega⟩ : Fin 4096)) := by
      intro k
      unfold ldW
      blk_ext [iblk, V, idx5 t] <;> omega
    have hf : ∀ (o : ℕ) (ho : o ≤ 8) (ho5 : 5 ≤ o), ldF (stg m c t) o (128 * (l.val / 128)) ho (by omega) (ix2 r e)
        = seqAt (m ((c : Thread nD τ).loc main_arg0)) (m ((c : Thread nD τ).loc main_arg1)) (m ((c : Thread nD τ).loc main_arg3))
          ⟨(t.val / 4 * 512 + r.val) / 4096, by omega⟩ ⟨(o - 5) + (t.val / 4 * 512 + r.val) % 4096, by omega⟩
          ⟨(t.val % 4 * 1024 + l.val) / 128 * 128 + e.val, by omega⟩ := by
      intro o ho ho5
      unfold ldF
      refine stg_at m c t _ _ ?_ _ _ _ ?_ ?_ ?_
      · show 5 ≤ o + r.val
        omega
      · show (t.val / 4 * 512 + r.val) / 4096 = t.val / 32
        omega
      · show (o - 5) + (t.val / 4 * 512 + r.val) % 4096 = 512 * (t.val / 4 % 8) + (o + r.val - 5)
        omega
      · show (t.val % 4 * 1024 + l.val) / 128 * 128 + e.val = 1024 * (t.val % 4) + (128 * (l.val / 128) + e.val)
        omega
    refine congrArg gate ?_
    have f0 := hf 8 (by decide) (by decide)
    have f1 := hf 7 (by decide) (by decide)
    have f2 := hf 6 (by decide) (by decide)
    have f3 := hf 5 (by decide) (by decide)
    rw [f0, f1, f2, f3, hw 0, hw 1, hw 2, hw 3]
    refine congrArg (fun n => tap _ _ _ (seqAt _ _ _ _ n _) _ _ _ _) (Fin.ext ?_)
    show (5 - 5) + (t.val / 4 * 512 + r.val) % 4096 = (t.val / 4 * 512 + r.val) % 4096
    omega
  have hy' := funext hy
  show headAt (8 * (t.val % 4) + l.val / 128) _ _ = headAt ((t.val % 4 * 1024 + l.val) / 128) _ _
  rw [hh, he]
  exact congrArg (fun y => headAt ((t.val % 4 * 1024 + l.val) / 128) y _) hy'

end Cert.Kernel5Ideal.Value

end
-- ==== Proof.Claims5.lean ====
module

public import proofs.«01_k».proof.Defs
public import proofs.«01_k».proof.Proof.Rows5
public import proofs.«01_k».proof.Proof.Gen.Kernel5
public import proofs.«01_k».proof.Proof.Gen.Kernel5Ideal
public import proofs.«01_k».proof.Proof.Gen.Reference5Ideal
public import Idealize.ShloMosaic.Adequacy
public import Idealize.ShloMosaic.Init

@[expose] public section

set_option maxRecDepth 16384

noncomputable section

/-! The value claim of the first projection with its short filter. -/

namespace Cert.Proof

open Idealize.ShloMosaic Idealize.SL.Sem

section
open Cert.Kernel5Ideal Cert.Kernel5Ideal.Gen
/-- After the program the third result holds the slice of every sequence's last block. -/
theorem convs_tail (m : (ℓ : Loc nD τ sig) → Buf (Elt Ideal) ℓ) (c : Dev nD) :
    Pipeline.afterTail₀ cfgs (Cert.Kernel5Ideal.Body.dats m) 0 (V0 m) [hostOps1] c main_v1
      = Cert.Reference5Ideal.Value.lastOf (m ((c.tc : Thread nD τ).loc main_arg0)) (m ((c.tc : Thread nD τ).loc main_arg1)) := by
  have h : Pipeline.withArrays (cfgs 0).spec c (V0 m c) (fun w => (Cert.Kernel5Ideal.Body.dats m 0 c).arrAt w (cfgs 0).N) (Proc.devRef .tc main_v0_2)
      = Cert.Kernel5Ideal.Value.tailsOf (m ((c.tc : Thread nD τ).loc main_arg0)) (m ((c.tc : Thread nD τ).loc main_arg1)) :=
    (Pipeline.withArrays_arr spec0 launch0.win.arr_inj c (V0 m c) (fun w => (Cert.Kernel5Ideal.Body.dats m 0 c).arrAt w (cfgs 0).N) 7).trans (Cert.Kernel5Ideal.Value.final7 m c)
  unfold Pipeline.afterTail₀
  simp only [hostOps1, List.flatten_cons, List.flatten_nil, List.append_nil]
  after_results_simp
  refine (congrArg (fun a : FVec Ideal S64x8x4096 .f32 => Host.slice S8x8x4096 ![7, 0, 0] ![8, 1, 1] a slicesBy_S64x8x4096_S8x8x4096_7s8_0s1_0s1) h).trans ?_
  funext y
  unfold Cert.Kernel5Ideal.Value.tailsOf Cert.Reference5Ideal.Value.lastOf
  pointwise []
  have e : (7 + 8 * (y 0).val) * 512 + (504 + (y 1).val) = (y 0).val * 4096 + (4088 + (y 1).val) := by omega
  exact congrArg (fun t => Cert.Reference5Ideal.Value.prj (m ((c.tc : Thread nD τ).loc main_arg0)) (m ((c.tc : Thread nD τ).loc main_arg1)) t (y 2)) (Fin.ext e)
end

/-- The first projection: the filtered heads, the gates and the carried rows agree. -/
theorem convs : Cert.algebraic_Kernel5Ideal_Reference5Ideal := by
  pair_intro
  · run_from Cert.Kernel5Ideal.Body.run_main m g
  · run_from Cert.Reference5Ideal.Value.run m' g'
    · obtain ⟨a0, a1, a2, a3, a4⟩ := hagree c
      refine (Cert.Reference5Ideal.Value.ref_heads m' c).trans ?_
      rw [a0, a1, a3, a4]
      exact (Cert.Kernel5Ideal.Value.final5 m c).symm
    · exact (Cert.Reference5Ideal.Value.ref_gates _ _).trans (Cert.Kernel5Ideal.Value.final6 m c).symm
    · exact (Cert.Reference5Ideal.Value.ref_last _ _).trans (convs_tail m c).symm

end Cert.Proof

end
-- ==== Proof.Spec6.lean ====
module

public import proofs.«01_k».proof.Proof.Gen.Reference6Ideal.Run
public import Idealize.ShloMosaic.Lib.Pipeline.ValueKit

@[expose] public section

set_option maxRecDepth 16384

noncomputable section

/-! The write strengths and the decays of the gated DeltaNet, written out place by place, with the decays' running sums
over each chunk of 64 rows; and the reference read at them. -/

namespace Cert.Reference6Ideal.Value

open Cert.Reference6Ideal Cert.Reference6Ideal.Gen Idealize.ShloMosaic Idealize.ShloMosaic.TcCoe Idealize.SL.Sem

/-- The sum of the last `k` values up to row `n` that lie in row `n`'s chunk of 64. -/
def winSum (f : ℕ → EReal) (k n : ℕ) : EReal := ∑ j ∈ Finset.range k, if j ≤ n % 64 then f (n - j) else 0

/-- One row is its own sum. -/
theorem winSum_one (f : ℕ → EReal) (n : ℕ) : winSum f 1 n = f n := by
  unfold winSum
  rw [Finset.sum_range_one, if_pos (Nat.zero_le _)]
  rfl

/-- Two neighbouring sums of `k` rows make one of `2 k`. -/
theorem winSum_double (f : ℕ → EReal) (k n : ℕ) :
    winSum f k n + (if k ≤ n % 64 then winSum f k (n - k) else 0) = winSum f (k + k) n := by
  unfold winSum
  rw [Finset.sum_range_add]
  congr 1
  by_cases h : k ≤ n % 64
  · rw [if_pos h]
    refine Finset.sum_congr rfl fun j _ => ?_
    have e : n - k - j = n - (k + j) := by omega
    have e' : (n - k) % 64 = n % 64 - k := by omega
    rw [e, e']
    exact if_congr (by omega) rfl rfl
  · rw [if_neg h]
    exact (Finset.sum_eq_zero fun j _ => if_neg (by omega)).symm

/-- A fold of sums over the positions of a list is their sum. -/
theorem foldl_add (n : ℕ) (g : Fin n → EReal) (v : EReal) :
    (List.finRange n).foldl (fun r w => r + g w) v = v + ∑ w, g w := by
  have h : ∀ (l : List (Fin n)) (v : EReal), l.foldl (fun r w => r + g w) v = v + (l.map g).sum := by
    intro l
    induction l with
    | nil => intro v; simp
    | cons a l ih => intro v; rw [List.foldl_cons, ih, List.map_cons, List.sum_cons, add_assoc]
  rw [h, Fin.sum_univ_def]

/-- The window of the running sum: one place per step along the chunk. -/
abbrev winS : Shape := ⟨3, ![1, 64, 1]⟩

/-- Place `n` of the window is step `n` of its chunk. -/
theorem winS_at (n : Fin winS.numel) : (winS.rowMajor.symm n 0).val = 0 ∧ (winS.rowMajor.symm n 1).val = n.val ∧ (winS.rowMajor.symm n 2).val = 0 := by
  have h : (winS.rowMajor (winS.rowMajor.symm n)).val = n.val := congrArg Fin.val (Equiv.apply_symm_apply _ _)
  rw [Shape.rowMajor_val_three] at h
  have h0 : (winS.rowMajor.symm n 0).val < 1 := (winS.rowMajor.symm n 0).isLt
  have h2 : (winS.rowMajor.symm n 2).val < 1 := (winS.rowMajor.symm n 2).isLt
  have e1 : (![1, 64, 1] : Fin 3 → ℕ) 1 = 64 := rfl
  have e2 : (![1, 64, 1] : Fin 3 → ℕ) 2 = 1 := rfl
  rw [e1, e2] at h
  refine ⟨by omega, by omega, by omega⟩

/-- The host's running sum along the chunk, at a place. -/
theorem cum_at (x : FVec Ideal S512x64x16 .f32) (v : FVec Ideal S_ .f32) (hv : v (Shape.Idx.first h_S_) = 0) (a : Fin 512) (p : Fin 64) (h : Fin 16) :
    Host.reduceWindowAdd (F := Ideal) ![1, 64, 1] ![1, 1, 1] ![0, 63, 0] ![0, 0, 0] x v reduceWindows_S512x64x16_S512x64x16_w1s1p0_0_w64s1p63_0_w1s1p0_0 h_S_ (ix3 a p h)
      = ∑ j ∈ Finset.range 64, if j ≤ p.val then (if q : p.val - j < 64 then x (ix3 a ⟨p.val - j, q⟩ h) else 0) else 0 := by
  unfold Host.reduceWindowAdd
  rw [Ideal.hostReduceWindowAdd_def]
  unfold Ideal.hostReduceWindowAdd Host.reduceWindow
  refine (foldl_add _ _ _).trans ?_
  rw [hv, zero_add]
  refine (Finset.sum_congr rfl (g := fun n : Fin winS.numel => (fun w : ℕ => if 63 ≤ p.val + w then (if q : p.val + w - 63 < 64 then x (ix3 a ⟨p.val + w - 63, q⟩ h) else 0) else 0) n.val) fun n _ => ?_).trans ?_
  · obtain ⟨w0, w1, w2⟩ := winS_at n
    have hn : n.val < 64 := lt_of_lt_of_eq n.isLt (by decide)
    have hp := p.isLt
    have ha := a.isLt
    have hh := h.isLt
    dsimp only
    split
    · next hin =>
      have h1 := hin 1
      change 63 ≤ p.val * 1 + (winS.rowMajor.symm n 1).val ∧ p.val * 1 + (winS.rowMajor.symm n 1).val - 63 < 64 at h1
      rw [w1] at h1
      rw [if_pos (by omega), dif_pos (by omega)]
      refine congrArg x (funext fun b => Fin.ext ?_)
      match b with
      | ⟨0, _⟩ =>
        show a.val * 1 + (winS.rowMajor.symm n 0).val - 0 = a.val
        omega
      | ⟨1, _⟩ =>
        show p.val * 1 + (winS.rowMajor.symm n 1).val - 63 = p.val + n.val - 63
        omega
      | ⟨2, _⟩ =>
        show h.val * 1 + (winS.rowMajor.symm n 2).val - 0 = h.val
        omega
    · next hin =>
      rw [if_neg fun hle => hin fun b => by
        match b with
        | ⟨0, _⟩ =>
          show 0 ≤ a.val * 1 + (winS.rowMajor.symm n 0).val ∧ a.val * 1 + (winS.rowMajor.symm n 0).val - 0 < 512
          omega
        | ⟨1, _⟩ =>
          show 63 ≤ p.val * 1 + (winS.rowMajor.symm n 1).val ∧ p.val * 1 + (winS.rowMajor.symm n 1).val - 63 < 64
          omega
        | ⟨2, _⟩ =>
          show 0 ≤ h.val * 1 + (winS.rowMajor.symm n 2).val ∧ h.val * 1 + (winS.rowMajor.symm n 2).val - 0 < 16
          omega]
  · rw [Fin.sum_univ_eq_sum_range (fun w : ℕ => if 63 ≤ p.val + w then (if q : p.val + w - 63 < 64 then x (ix3 a ⟨p.val + w - 63, q⟩ h) else 0) else 0) winS.numel]
    have e : winS.numel = 64 := by decide
    rw [e, ← Finset.sum_range_reflect]
    refine Finset.sum_congr rfl fun j hj => ?_
    have hj' := Finset.mem_range.mp hj
    have hp := p.isLt
    by_cases hle : j ≤ p.val
    · rw [if_pos (by omega), if_pos hle, dif_pos (by omega), dif_pos (by omega)]
      exact congrArg (fun q => x (ix3 a q h)) (Fin.ext (show p.val + (64 - 1 - j) - 63 = p.val - j by omega))
    · rw [if_neg (by omega), if_neg hle]

/-- The softplus: the part above zero and the logarithm of what is left. -/
def softp (x : EReal) : EReal := max x 0 + Ideal.log (1 + Ideal.exp (-(max x (-x))))

/-- The log decay of head `h` at row `r`. -/
def dec (X : FVec Ideal S32768x2560 .f32) (A D : FVec Ideal S16 .f32) (r : Fin 32768) (h : Fin 16) : EReal :=
  -(Ideal.exp (A (ix1 h))) * softp (X (ix2 r ⟨2064 + h.val, by have := h.isLt; omega⟩) + D (ix1 h))

/-- The same at any number: nothing past the last row. -/
def decN (X : FVec Ideal S32768x2560 .f32) (A D : FVec Ideal S16 .f32) (h : Fin 16) (n : ℕ) : EReal :=
  if q : n < 32768 then dec X A D ⟨n, q⟩ h else 0

/-- The reference's decays, as an array. -/
def decT (X : FVec Ideal S32768x2560 .f32) (A D : FVec Ideal S16 .f32) : FVec Ideal S32768x16 .f32 :=
  mulf (broadcastInDim S32768x16 ![0, 1] bcast_S1x16_S32768x16_0_1 (broadcastInDim S1x16 ![1] bcast_S16_S1x16_1 (Host.negf (Host.exp A))))
    (select
      (cmpf CmpFPredicate.une
        (subf (addf (extractStridedSlice S32768x16 ![0, 2064] X slices_S32768x2560_S32768x16_0_2064)
            (broadcastInDim S32768x16 ![0, 1] bcast_S1x16_S32768x16_0_1 (broadcastInDim S1x16 ![1] bcast_S16_S1x16_1 D)))
          (broadcastInDim S32768x16 ![] bcast_S_S32768x16 (constant S_ FTy.f32 0#32)))
        (subf (addf (extractStridedSlice S32768x16 ![0, 2064] X slices_S32768x2560_S32768x16_0_2064)
            (broadcastInDim S32768x16 ![0, 1] bcast_S1x16_S32768x16_0_1 (broadcastInDim S1x16 ![1] bcast_S16_S1x16_1 D)))
          (broadcastInDim S32768x16 ![] bcast_S_S32768x16 (constant S_ FTy.f32 0#32))))
      (addf (addf (extractStridedSlice S32768x16 ![0, 2064] X slices_S32768x2560_S32768x16_0_2064)
            (broadcastInDim S32768x16 ![0, 1] bcast_S1x16_S32768x16_0_1 (broadcastInDim S1x16 ![1] bcast_S16_S1x16_1 D)))
        (broadcastInDim S32768x16 ![] bcast_S_S32768x16 (constant S_ FTy.f32 0#32)))
      (addf (maximumf (addf (extractStridedSlice S32768x16 ![0, 2064] X slices_S32768x2560_S32768x16_0_2064)
            (broadcastInDim S32768x16 ![0, 1] bcast_S1x16_S32768x16_0_1 (broadcastInDim S1x16 ![1] bcast_S16_S1x16_1 D)))
          (broadcastInDim S32768x16 ![] bcast_S_S32768x16 (constant S_ FTy.f32 0#32)))
        (Host.log1p (Host.exp (Host.negf (Host.absf
          (subf (addf (extractStridedSlice S32768x16 ![0, 2064] X slices_S32768x2560_S32768x16_0_2064)
              (broadcastInDim S32768x16 ![0, 1] bcast_S1x16_S32768x16_0_1 (broadcastInDim S1x16 ![1] bcast_S16_S1x16_1 D)))
            (broadcastInDim S32768x16 ![] bcast_S_S32768x16 (constant S_ FTy.f32 0#32)))))))))

/-- Entry of the decays. -/
theorem decT_at (X : FVec Ideal S32768x2560 .f32) (A D : FVec Ideal S16 .f32) (r : Fin 32768) (h : Fin 16) :
    decT X A D (ix2 r h) = dec X A D r h := by
  unfold decT dec softp
  pointwise []
  rw [if_neg (not_not.mpr rfl)]
  rfl

/-- The write strengths, as an array. -/
def betaT (X : FVec Ideal S32768x2560 .f32) : FVec Ideal S32768x16 .f32 :=
  Host.divf (broadcastInDim S32768x16 ![] bcast_S_S32768x16 (constant S_ .f32 0x3F800000#32))
    (addf (broadcastInDim S32768x16 ![] bcast_S_S32768x16 (constant S_ .f32 0x3F800000#32))
      (Host.exp (Host.negf (extractStridedSlice S32768x16 ![0, 2048] X slices_S32768x2560_S32768x16_0_2048))))

/-- The write strength of head `h` at row `r`. -/
def beta (X : FVec Ideal S32768x2560 .f32) (r : Fin 32768) (h : Fin 16) : EReal :=
  Ideal.div 1 (1 + Ideal.exp (-(X (ix2 r ⟨2048 + h.val, by have := h.isLt; omega⟩))))

/-- Entry of the write strengths. -/
theorem betaT_at (X : FVec Ideal S32768x2560 .f32) (r : Fin 32768) (h : Fin 16) : betaT X (ix2 r h) = beta X r h := by
  unfold betaT beta
  pointwise []

/-- The decays summed along each chunk, rows flat. -/
def cumT (V : FVec Ideal S32768x16 .f32) : FVec Ideal S32768x16 .f32 :=
  shapeCast S32768x16 (Host.reduceWindowAdd (F := Ideal) (φ := .f32) ![1, 64, 1] ![1, 1, 1] ![0, 63, 0] ![0, 0, 0]
    (shapeCast S512x64x16 V shapeCasts_S32768x16_S512x64x16) (broadcastInDim S_ ![] bcast_S_S_ (constant S_ FTy.f32 0#32))
    reduceWindows_S512x64x16_S512x64x16_w1s1p0_0_w64s1p63_0_w1s1p0_0 h_S_) shapeCasts_S512x64x16_S32768x16

/-- Rows split in chunks. -/
theorem chunk_at (V : FVec Ideal S32768x16 .f32) (a : Fin 512) (p : Fin 64) (h : Fin 16) :
    @Eq EReal (shapeCast S512x64x16 V shapeCasts_S32768x16_S512x64x16 (ix3 a p h)) (V (ix2 ⟨a.val * 64 + p.val, by omega⟩ h)) := by
  pointwise []

/-- Chunks set one after another. -/
theorem flat_at (V : FVec Ideal S512x64x16 .f32) (r : Fin 32768) (h : Fin 16) :
    @Eq EReal (shapeCast S32768x16 V shapeCasts_S512x64x16_S32768x16 (ix2 r h)) (V (ix3 ⟨r.val / 64, by omega⟩ ⟨r.val % 64, by omega⟩ h)) := by
  pointwise []

/-- Entry of the summed decays. -/
theorem cumT_at (V : FVec Ideal S32768x16 .f32) (r : Fin 32768) (h : Fin 16) :
    @Eq EReal (cumT V (ix2 r h)) (winSum (fun n => if q : n < 32768 then V (ix2 ⟨n, q⟩ h) else 0) 64 r.val) := by
  unfold cumT winSum
  refine (flat_at _ r h).trans ?_
  refine (cum_at _ _ (by pointwise []) _ _ _).trans ?_
  refine Finset.sum_congr rfl fun j hj => ?_
  dsimp only
  by_cases hle : j ≤ r.val % 64
  · have hr := r.isLt
    rw [if_pos hle, if_pos hle, dif_pos (by omega : r.val % 64 - j < 64), dif_pos (by omega : r.val - j < 32768)]
    refine (chunk_at V _ _ h).trans ?_
    refine congrArg (fun n => V (ix2 n h)) (Fin.ext ?_)
    show r.val / 64 * 64 + (r.val % 64 - j) = r.val - j
    omega
  · rw [if_neg hle, if_neg hle]

/-- Three column ranges side by side and the rest. -/
def catT (a b d : FVec Ideal S32768x16 .f32) (z : FVec Ideal S32768x80 .f32) : FVec Ideal S32768x128 .f32 :=
  concatenate S32768x128 1 [⟨S32768x16, (a : (⟨S32768x16, .f32⟩ : BufTy).Contents (Elt Ideal))⟩, ⟨S32768x16, (b : (⟨S32768x16, .f32⟩ : BufTy).Contents (Elt Ideal))⟩, ⟨S32768x16, (d : (⟨S32768x16, .f32⟩ : BufTy).Contents (Elt Ideal))⟩, ⟨S32768x80, (z : (⟨S32768x80, .f32⟩ : BufTy).Contents (Elt Ideal))⟩] concatenates_S32768x16_S32768x16_S32768x16_S32768x80_S32768x128_d1

/-- Entry of the parts set side by side. -/
theorem catT_at (a b d : FVec Ideal S32768x16 .f32) (z : FVec Ideal S32768x80 .f32) (r : Fin 32768) (l : Fin 128) :
    @Eq EReal (catT a b d z (ix2 r l)) (if h : l.val < 16 then a (ix2 r ⟨l.val, h⟩)
      else if h' : l.val - 16 < 16 then b (ix2 r ⟨l.val - 16, h'⟩)
      else if h'' : l.val - 16 - 16 < 16 then d (ix2 r ⟨l.val - 16 - 16, h''⟩)
      else z (ix2 r ⟨l.val - 16 - 16 - 16, by omega⟩)) := by
  pointwise [catT]

/-- The call's result at row `r` and column `l`. -/
def gdAt (X : FVec Ideal S32768x2560 .f32) (A D : FVec Ideal S16 .f32) (r : Fin 32768) (l : Fin 128) : EReal :=
  if h : l.val < 16 then beta X r ⟨l.val, h⟩
  else if h' : l.val - 16 < 16 then dec X A D r ⟨l.val - 16, h'⟩
  else if h'' : l.val - 16 - 16 < 16 then winSum (decN X A D ⟨l.val - 16 - 16, h''⟩) 64 r.val
  else 0

/-- The call's result. -/
def gdOf (X : FVec Ideal S32768x2560 .f32) (A D : FVec Ideal S16 .f32) : FVec Ideal S32768x128 .f32 := fun i => gdAt X A D (i 0) (i 1)

/-- The reference's result. -/
theorem ref_gd (m : (ℓ : Loc nD τ sig) → Buf (Elt Ideal) ℓ) (c : Dev nD) :
    res_main_v21 m c = gdOf (m ((c.tc : Thread nD τ).loc main_arg0)) (m ((c.tc : Thread nD τ).loc main_arg1)) (m ((c.tc : Thread nD τ).loc main_arg2)) := by
  have e : res_main_v21 m c = catT (betaT (m ((c.tc : Thread nD τ).loc main_arg0)))
      (decT (m ((c.tc : Thread nD τ).loc main_arg0)) (m ((c.tc : Thread nD τ).loc main_arg1)) (m ((c.tc : Thread nD τ).loc main_arg2)))
      (cumT (decT (m ((c.tc : Thread nD τ).loc main_arg0)) (m ((c.tc : Thread nD τ).loc main_arg1)) (m ((c.tc : Thread nD τ).loc main_arg2))))
      (broadcastInDim S32768x80 ![] bcast_S_S32768x80 (constant S_ FTy.f32 0#32)) := by
    unfold res_main_v21 catT cumT decT betaT
    rfl
  rw [e]
  funext i
  obtain ⟨r, l, rfl⟩ : ∃ (r : Fin 32768) (l : Fin 128), i = ix2 r l := ⟨i 0, i 1, by ext a; fin_cases a <;> rfl⟩
  refine (catT_at _ _ _ _ r l).trans ?_
  show _ = gdAt _ _ _ r l
  unfold gdAt
  by_cases h1 : l.val < 16
  · refine (dif_pos h1).trans (Eq.trans ?_ (dif_pos h1).symm)
    exact betaT_at _ _ _
  refine (dif_neg h1).trans (Eq.trans ?_ (dif_neg h1).symm)
  by_cases h2 : l.val - 16 < 16
  · refine (dif_pos h2).trans (Eq.trans ?_ (dif_pos h2).symm)
    exact decT_at _ _ _ _ _
  refine (dif_neg h2).trans (Eq.trans ?_ (dif_neg h2).symm)
  by_cases h3 : l.val - 16 - 16 < 16
  · refine (dif_pos h3).trans ((cumT_at _ _ _).trans (Eq.trans ?_ (dif_pos h3).symm))
    refine congrArg (fun f => winSum f 64 r.val) (funext fun n => ?_)
    unfold decN
    by_cases q : n < 32768
    · rw [dif_pos q, dif_pos q]
      exact decT_at _ _ _ _ _
    · rw [dif_neg q, dif_neg q]
  · refine (dif_neg h3).trans (Eq.trans ?_ (dif_neg h3).symm)
    pointwise []

end Cert.Reference6Ideal.Value

end
-- ==== Proof.Gates6.lean ====
module

public import proofs.«01_k».proof.Proof.Gen.Kernel6Ideal.Value
public import proofs.«01_k».proof.Proof.Spec6
public import Idealize.ShloMosaic.Lib.Pipeline.ValueKit

@[expose] public section

set_option maxRecDepth 16384

noncomputable section

/-! The gates: write strengths, log decays and their sums along each chunk, stored row block by row block. -/

namespace Cert.Kernel6Ideal.Value

open Cert.Kernel6Ideal Cert.Kernel6Ideal.Gen Idealize.ShloMosaic Idealize.ShloMosaic.TcCoe Idealize.SL.Sem
open Idealize.ShloMosaic.Pipeline (Dat)
open Cert.Reference6Ideal.Value (winSum winSum_one winSum_double beta dec decN softp gdAt gdOf)

variable (m : (ℓ : Loc nD τ sig) → Buf (Elt Ideal) ℓ)

/-- The row positions inside a chunk, as the body computes them. -/
def posA : IVec S1024x128 32 :=
  k0_pay7 (Scalar.select (Scalar.cmpi .eq 64#32 0#32) 1#32 64#32) k0_pay4 k0_pay5 k0_pay6 (Scalar.cmpi .slt (Scalar.select (Scalar.cmpi .eq 64#32 0#32) 1#32 64#32) 0#32)

/-- Row `r` stands at place `r mod 64` of its chunk. -/
theorem posA_at (r : Fin 1024) (l : Fin 128) : posA (ix2 r l) = BitVec.ofNat 32 (r.val % 64) := by
  unfold posA
  pointwise [k0_pay7, k0_pay4, k0_pay5, k0_pay6]
  revert r
  decide +kernel

/-- One doubling step of the chunk sums. -/
def stepA (f : FVec Ideal S1024x128 .f32) (k : BitVec 32) : FVec Ideal S1024x128 .f32 :=
  addf f (select (cmpi .sge posA (broadcast S1024x128 k)) (dynamicRotate 0 k none f rotates_S1024x128_d0)
    (broadcast S1024x128 (Scalar.ofBits .f32 0x00000000#32)))

/-- The comparison of two small numbers. -/
theorem sge_small : ∀ (k : Fin 33) (p : Fin 64), IntOp.cmpi .sge (BitVec.ofNat 32 p.val) (BitVec.ofNat 32 k.val) = if k.val ≤ p.val then 1#1 else 0#1 := by
  decide +kernel

/-- Entry of one step. -/
theorem stepA_at (f : FVec Ideal S1024x128 .f32) (k : ℕ) (hk : k ≤ 32) (r : Fin 1024) (l : Fin 128) :
    @Eq EReal (stepA f (BitVec.ofNat 32 k) (ix2 r l)) (f (ix2 r l) + (if h : k ≤ r.val % 64 then f (ix2 ⟨r.val - k, by omega⟩ l) else 0)) := by
  unfold stepA
  pointwise []
  rw [posA_at]
  have hs := sge_small ⟨k, by omega⟩ ⟨r.val % 64, Nat.mod_lt _ (by decide)⟩
  dsimp only at hs
  rw [hs]
  by_cases h : k ≤ r.val % 64
  · rw [if_pos h, dif_pos h]
    have hr := r.isLt
    have e : (BitVec.ofNat 32 k).toNat = k := by rw [BitVec.toNat_ofNat]; omega
    refine congrArg (fun n => f (ix2 r l) + f (ix2 n l)) (Fin.ext ?_)
    show (r.val + 1024 - (BitVec.ofNat 32 k).toNat % 1024) % 1024 = r.val - k
    rw [e]
    omega
  · rw [if_neg h, dif_neg h]
    rfl

/-- A column of a block as a function of the number of the row. -/
def colN (f : FVec Ideal S1024x128 .f32) (l : Fin 128) (n : ℕ) : EReal := if q : n < 1024 then f (ix2 ⟨n, q⟩ l) else 0

/-- A step doubles the number of rows summed. -/
theorem stepA_sum (f : FVec Ideal S1024x128 .f32) (G : ℕ → EReal) (l : Fin 128) (k : ℕ) (hk : k ≤ 32)
    (hf : ∀ r : Fin 1024, f (ix2 r l) = winSum G k r.val) (r : Fin 1024) :
    stepA f (BitVec.ofNat 32 k) (ix2 r l) = winSum G (k + k) r.val := by
  refine (stepA_at f k hk r l).trans ?_
  rw [← winSum_double]
  by_cases h : k ≤ r.val % 64
  · rw [dif_pos h, if_pos h, hf, hf]
  · rw [dif_neg h, if_neg h, hf]

/-- The six steps: the sums along each chunk. -/
def cumA (f : FVec Ideal S1024x128 .f32) : FVec Ideal S1024x128 .f32 :=
  stepA (stepA (stepA (stepA (stepA (stepA f 1#32) 2#32) 4#32) 8#32) 16#32) 32#32

/-- Entry of the chunk sums. -/
theorem cumA_at (f : FVec Ideal S1024x128 .f32) (r : Fin 1024) (l : Fin 128) : cumA f (ix2 r l) = winSum (colN f l) 64 r.val := by
  have h1 : ∀ r : Fin 1024, f (ix2 r l) = winSum (colN f l) 1 r.val := fun r => by
    rw [winSum_one, colN, dif_pos r.isLt]
  have h2 := stepA_sum _ _ l 1 (by decide) h1
  have h3 := stepA_sum _ _ l 2 (by decide) h2
  have h4 := stepA_sum _ _ l 4 (by decide) h3
  have h5 := stepA_sum _ _ l 8 (by decide) h4
  have h6 := stepA_sum _ _ l 16 (by decide) h5
  exact stepA_sum _ _ l 32 (by decide) h6 r

/-- What the body stores, of its strengths `b` and decays `f`. -/
def storeA (b f : FVec Ideal S1024x128 .f32) : FVec Ideal S1024x128 .f32 :=
  k0_pay1 (iota .tc S1024x128 32 [1] iota_S1024x128_d1_w32) b f
    (k0_pay8 f (Scalar.select (Scalar.cmpi .eq 64#32 0#32) 1#32 64#32) k0_pay4 k0_pay5 k0_pay6 (Scalar.cmpi .slt (Scalar.select (Scalar.cmpi .eq 64#32 0#32) 1#32 64#32) 0#32))
    (k0_pay9 f (Scalar.select (Scalar.cmpi .eq 64#32 0#32) 1#32 64#32) k0_pay4 k0_pay5 k0_pay6 (Scalar.cmpi .slt (Scalar.select (Scalar.cmpi .eq 64#32 0#32) 1#32 64#32) 0#32))

/-- The same over three arrays: the column decides which is kept. -/
def pickA (b f g : FVec Ideal S1024x128 .f32) : FVec Ideal S1024x128 .f32 :=
  select (cmpi .slt (iota .tc S1024x128 32 [1] iota_S1024x128_d1_w32) (broadcast S1024x128 16#32)) b
    (select (cmpi .slt (iota .tc S1024x128 32 [1] iota_S1024x128_d1_w32) (broadcast S1024x128 32#32)) f
      (select (cmpi .slt (iota .tc S1024x128 32 [1] iota_S1024x128_d1_w32) (broadcast S1024x128 48#32))
        (dynamicRotate 1 16#32 none g rotates_S1024x128_d1) (broadcast S1024x128 (Scalar.ofBits .f32 0x00000000#32))))

/-- The stored block is the choice over the chunk sums. -/
theorem storeA_eq (b f : FVec Ideal S1024x128 .f32) : storeA b f = pickA b f (cumA f) := rfl

/-- The comparison of a column with a bound. -/
theorem slt_small : ∀ (k : Fin 64) (p : Fin 128), IntOp.cmpi .slt (BitVec.ofNat 32 p.val) (BitVec.ofNat 32 k.val) = if p.val < k.val then 1#1 else 0#1 := by
  decide +kernel

/-- Entry of the choice. -/
theorem pickA_at (b f g : FVec Ideal S1024x128 .f32) (r : Fin 1024) (l : Fin 128) :
    @Eq EReal (pickA b f g (ix2 r l)) (if l.val < 16 then b (ix2 r l) else if l.val < 32 then f (ix2 r l)
      else if h : l.val < 48 then g (ix2 r ⟨l.val - 16, by omega⟩) else 0) := by
  unfold pickA
  pointwise []
  have s16 : IntOp.cmpi .slt (BitVec.ofNat 32 l.val) 16#32 = if l.val < 16 then 1#1 else 0#1 := slt_small 16 l
  have s32 : IntOp.cmpi .slt (BitVec.ofNat 32 l.val) 32#32 = if l.val < 32 then 1#1 else 0#1 := slt_small 32 l
  have s48 : IntOp.cmpi .slt (BitVec.ofNat 32 l.val) 48#32 = if l.val < 48 then 1#1 else 0#1 := slt_small 48 l
  rw [s16, s32, s48]
  by_cases h1 : l.val < 16
  · rw [if_pos h1, if_pos h1]
    rfl
  rw [if_neg h1, if_neg h1]
  by_cases h2 : l.val < 32
  · rw [if_pos h2, if_pos h2]
    rfl
  rw [if_neg h2, if_neg h2]
  by_cases h3 : l.val < 48
  · rw [if_pos h3, dif_pos h3]
    refine congrArg (fun n => g (ix2 r n)) (Fin.ext ?_)
    show (l.val + 128 - 16) % 128 = l.val - 16
    omega
  · rw [if_neg h3, dif_neg h3]
    rfl

/-- Entry of the strengths of a block. -/
theorem pay2_at (x : FVec Ideal S1024x128 .f32) (r : Fin 1024) (l : Fin 128) :
    @Eq EReal (k0_pay2 (F := Ideal) x (ix2 r l)) (Ideal.div 1 (1 + Ideal.exp (-(x (ix2 r l))))) := by
  pointwise [k0_pay2]
  rw [sub_eq_add_neg, zero_add]

/-- Entry of the decays of a block. -/
theorem pay3_at (x : FVec Ideal S1024x128 .f32) (d a : FVec Ideal S1x128 .f32) (r : Fin 1024) (l : Fin 128) :
    @Eq EReal (k0_pay3 (F := Ideal) x d a (ix2 r l)) (-(Ideal.exp (a (ix2 0 l))) * softp (x (ix2 r l) + d (ix2 0 l))) := by
  unfold softp
  pointwise [k0_pay3]
  rw [sub_eq_add_neg, zero_add, sub_eq_add_neg, zero_add (-(FloatOps.absf (F := Ideal) (φ := .f32) (x (ix2 r l) + d (ix2 0 l))))]
  rfl

/-- The chunk sums of a block are those of the whole rows: a block starts a chunk. -/
theorem winSum_shift (f g : ℕ → EReal) (T r : ℕ) (hfg : ∀ n, n ≤ r → f n = g (T * 1024 + n)) : winSum f 64 r = winSum g 64 (T * 1024 + r) := by
  unfold winSum
  refine Finset.sum_congr rfl fun j hj => ?_
  have e : (T * 1024 + r) % 64 = r % 64 := by omega
  rw [e]
  by_cases h : j ≤ r % 64
  · rw [if_pos h, if_pos h, hfg _ (by omega)]
    congr 1
    omega
  · rw [if_neg h, if_neg h]

/-- A decay of a block is the decay of the row under it. -/
theorem dec_block (x : FVec Ideal S1024x128 .f32) (d a : FVec Ideal S1x128 .f32) (X : FVec Ideal S32768x2560 .f32) (A D : FVec Ideal S16 .f32)
    (T : ℕ) (hT : T < 32)
    (h0 : ∀ (r : Fin 1024) (k : Fin 128), x (ix2 r k) = X (ix2 (⟨T * 1024 + r.val, by omega⟩ : Fin 32768) (⟨2048 + k.val, by omega⟩ : Fin 2560)))
    (h1 : ∀ (k : Fin 128) (h : Fin 16), k.val = 16 + h.val → a (ix2 0 k) = A (ix1 h))
    (h2 : ∀ (k : Fin 128) (h : Fin 16), k.val = 16 + h.val → d (ix2 0 k) = D (ix1 h))
    (r : Fin 1024) (k : Fin 128) (h : Fin 16) (e : k.val = 16 + h.val) :
    @Eq EReal (k0_pay3 (F := Ideal) x d a (ix2 r k)) (dec X A D (⟨T * 1024 + r.val, by omega⟩ : Fin 32768) h) := by
  refine (pay3_at x d a r k).trans ?_
  rw [h0, h1 k h e, h2 k h e]
  unfold dec
  have e2 : (⟨2048 + k.val, by omega⟩ : Fin 2560) = ⟨2064 + h.val, by omega⟩ := Fin.ext (by show 2048 + k.val = 2064 + h.val; omega)
  rw [e2]

/-- What a point stores at a place of its block is the call's result at the array place under it. -/
theorem blockG (x : FVec Ideal S1024x128 .f32) (d a : FVec Ideal S1x128 .f32) (X : FVec Ideal S32768x2560 .f32) (A D : FVec Ideal S16 .f32)
    (T : ℕ) (hT : T < 32)
    (h0 : ∀ (r : Fin 1024) (k : Fin 128), x (ix2 r k) = X (ix2 (⟨T * 1024 + r.val, by omega⟩ : Fin 32768) (⟨2048 + k.val, by omega⟩ : Fin 2560)))
    (h1 : ∀ (k : Fin 128) (h : Fin 16), k.val = 16 + h.val → a (ix2 0 k) = A (ix1 h))
    (h2 : ∀ (k : Fin 128) (h : Fin 16), k.val = 16 + h.val → d (ix2 0 k) = D (ix1 h))
    (r : Fin 1024) (l : Fin 128) :
    @Eq EReal (storeA (k0_pay2 (F := Ideal) x) (k0_pay3 (F := Ideal) x d a) (ix2 r l)) (gdAt X A D (⟨T * 1024 + r.val, by omega⟩ : Fin 32768) l) := by
  rw [storeA_eq]
  refine (pickA_at _ _ _ r l).trans ?_
  unfold gdAt
  by_cases c1 : l.val < 16
  · rw [if_pos c1, dif_pos c1]
    refine (pay2_at x r l).trans ?_
    rw [h0]
    rfl
  rw [if_neg c1, dif_neg c1]
  by_cases c2 : l.val < 32
  · rw [if_pos c2, dif_pos (by omega : l.val - 16 < 16)]
    exact dec_block x d a X A D T hT h0 h1 h2 r l ⟨l.val - 16, by omega⟩ (by show l.val = 16 + (l.val - 16); omega)
  rw [if_neg c2, dif_neg (by omega : ¬ l.val - 16 < 16)]
  by_cases c3 : l.val < 48
  · rw [dif_pos c3, dif_pos (by omega : l.val - 16 - 16 < 16)]
    refine (cumA_at _ r _).trans (winSum_shift _ _ T r.val fun n hn => ?_)
    have hr := r.isLt
    unfold colN decN
    rw [dif_pos (by omega : n < 1024), dif_pos (by omega : T * 1024 + n < 32768)]
    exact dec_block x d a X A D T hT h0 h1 h2 ⟨n, by omega⟩ ⟨l.val - 16, by omega⟩ ⟨l.val - 16 - 16, by omega⟩ (by show l.val - 16 = 16 + (l.val - 16 - 16); omega)
  · rw [dif_neg c3, dif_neg (by omega : ¬ l.val - 16 - 16 < 16)]

/-- The windows' block indices at every grid point. -/
theorem idxG : ∀ t : Fin cfg0.N, win0_0.index t = ![t.val, 16] ∧ win0_1.index t = ![0, 0] ∧ win0_2.index t = ![0, 0]
    ∧ win0_3.index t = ![t.val, 0] :=
  (by decide +kernel : ∀ t : Fin grid0.N, _)

/-- A padded row at a place of its middle. -/
theorem padRow_at (A : FVec Ideal S16 .f32) (v : FVec Ideal S_ .f32) (l : Fin 128) (h : Fin 16) (hl : l.val = 16 + h.val) :
    @Eq EReal (pad S128 ![16] ![96] ![0] A v pads_S16_S128_16960 h_S_ (ix1 l)) (A (ix1 h)) := by
  pointwise []
  rw [dif_pos (by have := h.isLt; omega : 16 ≤ l.val ∧ l.val - 16 < 16)]
  refine congrArg (fun n => A (ix1 n)) (Fin.ext ?_)
  show l.val - 16 = h.val
  omega

/-- A padded row as one row of 128 places. -/
def rowA (A : FVec Ideal S16 .f32) : FVec Ideal S1x128 .f32 :=
  shapeCast S1x128 (pad S128 ![16] ![96] ![0] A (sitofp (F := Ideal) .f32 (constantI S_ 32 0#32)) pads_S16_S128_16960 h_S_) shapeCasts_S128_S1x128

/-- A padded row at a place of its middle. -/
theorem rowA_at (A : FVec Ideal S16 .f32) (l : Fin 128) (h : Fin 16) (hl : l.val = 16 + h.val) :
    @Eq EReal (rowA A (ix2 0 l)) (A (ix1 h)) := by
  refine Eq.trans ?_ (padRow_at A (sitofp (F := Ideal) .f32 (constantI S_ 32 0#32)) l h hl)
  unfold rowA
  generalize pad S128 ![16] ![96] ![0] A (sitofp (F := Ideal) .f32 (constantI S_ 32 0#32)) pads_S16_S128_16960 h_S_ = x
  pointwise []

/-- The first padded row the launch finds. -/
theorem V1 (c : Dev nD) : V m c main_v1 = rowA (m ((c : Thread nD τ).loc main_arg1)) := by
  unfold V
  simp only [hostOps0, hostOps0_1, hostOps0_2, hostOps0_3, hostOps0_4, List.flatten_cons, List.flatten_nil, List.append_nil, List.cons_append, List.nil_append]
  entry_read
  rfl

/-- The second. -/
theorem V3 (c : Dev nD) : V m c main_v3 = rowA (m ((c : Thread nD τ).loc main_arg2)) := by
  unfold V
  simp only [hostOps0, hostOps0_1, hostOps0_2, hostOps0_3, hostOps0_4, List.flatten_cons, List.flatten_nil, List.append_nil, List.cons_append, List.nil_append]
  entry_read
  rfl

set_option maxHeartbeats 1600000 in
/-- After the run the result array holds `gdOf` of the arguments. -/
theorem finalG (c : Dev nD) : (dats m 0 c).arrAt 3 cfg0.N
    = gdOf (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3]
  unfold_out out0_3
  frame_out
  obtain ⟨r, l, rfl⟩ : ∃ (r : Fin 1024) (l : Fin 128), y = ix2 r l := ⟨y 0, y 1, by ext a; fin_cases a <;> rfl⟩
  have ht : t.val < 32 := t.isLt
  have h0 : ∀ (r : Fin 1024) (k : Fin 128), iblk m c 0 t (ix2 r k) = m ((c : Thread nD τ).loc main_arg0) (ix2 (⟨t.val * 1024 + r.val, by omega⟩ : Fin 32768) (⟨2048 + k.val, by omega⟩ : Fin 2560)) := by
    intro r k; blk_ext [iblk, V, idxG t]
  have h1 : ∀ (k : Fin 128) (h : Fin 16), k.val = 16 + h.val → iblk m c 1 t (ix2 0 k) = m ((c : Thread nD τ).loc main_arg1) (ix1 h) := by
    intro k h e
    refine Eq.trans ?_ (rowA_at (m ((c : Thread nD τ).loc main_arg1)) k h e)
    rw [← V1 m c]
    blk_simp [iblk]
    blk_ext [idxG t]
  have h2 : ∀ (k : Fin 128) (h : Fin 16), k.val = 16 + h.val → iblk m c 2 t (ix2 0 k) = m ((c : Thread nD τ).loc main_arg2) (ix1 h) := by
    intro k h e
    refine Eq.trans ?_ (rowA_at (m ((c : Thread nD τ).loc main_arg2)) k h e)
    rw [← V3 m c]
    blk_simp [iblk]
    blk_ext [idxG t]
  have hi : ((View.whole main_v4).slice (win0_3.rect t)).emb (ix2 r l) = ix2 (⟨t.val * 1024 + r.val, by omega⟩ : Fin 32768) l := by
    blk_ext [idxG t]
  rw [hi]
  exact blockG (iblk m c 0 t) (iblk m c 2 t) (iblk m c 1 t) _ _ _ t.val ht h0 h1 h2 r l

end Cert.Kernel6Ideal.Value

end
-- ==== Proof.Claims6.lean ====
module

public import proofs.«01_k».proof.Defs
public import proofs.«01_k».proof.Proof.Gates6
public import proofs.«01_k».proof.Proof.Gen.Kernel6Ideal.Value
public import proofs.«01_k».proof.Proof.Gen.Reference6Ideal.Run
public import Idealize.ShloMosaic.Adequacy
public import Idealize.ShloMosaic.Init

@[expose] public section

noncomputable section

/-! The value claim of the gates. -/

namespace Cert.Proof

open Idealize.ShloMosaic Idealize.SL.Sem

section
open Cert.Reference6Ideal
/-- The gates' reference, its result place by place. -/
theorem gatesRun (m' : (ℓ : Loc nD τ sig) → Buf (Elt Ideal) ℓ) (g' : Dev nD → PrngReg) :
    θ_run (defs (F := Ideal)) (onTc (τ := τ) (main (F := Ideal))) ⟨m', fun _ => 0, g'⟩ fun r => ∀ c : Dev nD,
      r.2.mem ((c.tc : Thread nD τ).loc main_v21) = Value.gdOf (m' ((c.tc : Thread nD τ).loc main_arg0)) (m' ((c.tc : Thread nD τ).loc main_arg1)) (m' ((c.tc : Thread nD τ).loc main_arg2))
      ∧ r.2.mem ((c.tc : Thread nD τ).loc main_arg0) = m' ((c.tc : Thread nD τ).loc main_arg0)
      ∧ r.2.mem ((c.tc : Thread nD τ).loc main_arg1) = m' ((c.tc : Thread nD τ).loc main_arg1)
      ∧ r.2.mem ((c.tc : Thread nD τ).loc main_arg2) = m' ((c.tc : Thread nD τ).loc main_arg2) :=
  (θ_run _ _ _).mono (fun _ h c => ⟨(h c).1.trans (Value.ref_gd m' c), (h c).2⟩) (Value.run m' g')
end

/-- The gates: the kernel and the reference leave the same array. -/
theorem gates : Cert.algebraic_Kernel6Ideal_Reference6Ideal := by
  pair_intro
  · run_from Cert.Kernel6Ideal.Gen.run_main m g
    · exact Cert.Kernel6Ideal.Gen.V_main_arg1 m c
    · exact Cert.Kernel6Ideal.Gen.V_main_arg2 m c
  · run_from gatesRun m' g'
    exact (Cert.Kernel6Ideal.Value.finalG m c).symm

end Cert.Proof

end
-- ==== Proof.lean ====
module

public import proofs.«01_k».proof.Defs
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Reference5Ideal
public import proofs.«01_k».proof.Proof.Gen.Reference5Ideal.Run
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run

public import proofs.«01_k».proof.Proof.Claims
public import proofs.«01_k».proof.Proof.Attention
public import proofs.«01_k».proof.Proof.Body5
public import proofs.«01_k».proof.Proof.Body5Ideal
public import proofs.«01_k».proof.Proof.Claims5
public import proofs.«01_k».proof.Proof.Claims6
public import Idealize.ShloMosaic.Adequacy
public import Idealize.ShloMosaic.Init

@[expose] public section

noncomputable section

/-! The certificate's claim: the frames of every program, the sanctioned rewrites, and the value claims. -/

namespace Cert.Proof

open Idealize.ShloMosaic Idealize.SL.Sem

set_option maxHeartbeats 1600000 in
/-- `ReferenceIdeal` ends with its arguments as they were and every counter at zero. -/
theorem quiet_ReferenceIdeal : Cert.quiescent_ReferenceIdeal := by
  intro m g _
  exact (θ_run _ _ _).mono (fun r h => ⟨fun c => (h c).2, sem_eq_zero_of_no_sems (by decide) r.2⟩) (Cert.ReferenceIdeal.Value.run m g)

set_option maxHeartbeats 1600000 in
/-- `Reference2Ideal` ends with its arguments as they were and every counter at zero. -/
theorem quiet_Reference2Ideal : Cert.quiescent_Reference2Ideal := by
  intro m g _
  exact (θ_run _ _ _).mono (fun r h => ⟨fun c => (h c).2, sem_eq_zero_of_no_sems (by decide) r.2⟩) (Cert.Reference2Ideal.Value.run m g)

set_option maxHeartbeats 1600000 in
/-- `Reference3Ideal` ends with its arguments as they were and every counter at zero. -/
theorem quiet_Reference3Ideal : Cert.quiescent_Reference3Ideal := by
  intro m g _
  exact (θ_run _ _ _).mono (fun r h => ⟨fun c => (h c).2.2.2.2, sem_eq_zero_of_no_sems (by decide) r.2⟩) (Cert.Reference3Ideal.Value.run m g)

set_option maxHeartbeats 1600000 in
/-- `Reference4Ideal` ends with its arguments as they were and every counter at zero. -/
theorem quiet_Reference4Ideal : Cert.quiescent_Reference4Ideal := by
  intro m g _
  exact (θ_run _ _ _).mono (fun r h => ⟨fun c => (h c).2, sem_eq_zero_of_no_sems (by decide) r.2⟩) (Cert.Reference4Ideal.Value.run m g)

set_option maxHeartbeats 1600000 in
/-- `Reference5Ideal` ends with its arguments as they were and every counter at zero. -/
theorem quiet_Reference5Ideal : Cert.quiescent_Reference5Ideal := by
  intro m g _
  exact (θ_run _ _ _).mono (fun r h => ⟨fun c => (h c).2.2.2, sem_eq_zero_of_no_sems (by decide) r.2⟩) (Cert.Reference5Ideal.Value.run m g)

set_option maxHeartbeats 1600000 in
/-- `Reference6Ideal` ends with its arguments as they were and every counter at zero. -/
theorem quiet_Reference6Ideal : Cert.quiescent_Reference6Ideal := by
  intro m g _
  exact (θ_run _ _ _).mono (fun r h => ⟨fun c => (h c).2, sem_eq_zero_of_no_sems (by decide) r.2⟩) (Cert.Reference6Ideal.Value.run m g)

/-- The two named constants of the attention are the ones the text holds. -/
theorem rewrites : Cert.preserves_Kernel_KernelIdeal :=
  ⟨IdealRules.named_const.statement _ _ _ _ _ rfl, IdealRules.named_const.statement _ _ _ _ _ rfl⟩

/-- Everything the certificate claims. -/
theorem claim : Cert.Claim := ⟨Cert.Kernel.Gen.facts, Cert.KernelIdeal.Gen.facts, Cert.ReferenceIdeal.Gen.facts, Cert.Kernel2.Gen.facts, Cert.Kernel2Ideal.Gen.facts, Cert.Reference2Ideal.Gen.facts, Cert.Kernel3.Gen.facts, Cert.Kernel3Ideal.Gen.facts, Cert.Reference3Ideal.Gen.facts, Cert.Kernel4.Gen.facts, Cert.Kernel4Ideal.Gen.facts, Cert.Reference4Ideal.Gen.facts, Cert.Kernel5.Gen.facts, Cert.Kernel5Ideal.Gen.facts, Cert.Reference5Ideal.Gen.facts, Cert.Kernel6.Gen.facts, Cert.Kernel6Ideal.Gen.facts, Cert.Reference6Ideal.Gen.facts, Cert.Pre_attn_args.facts,
  fun m g _ => Cert.Kernel.Gen.frame m g,
  fun m g _ => Cert.KernelIdeal.Gen.frame m g,
  fun m g _ => Cert.KernelIdeal.Gen.frame m g,
  quiet_ReferenceIdeal,
  fun m g _ => quiet_ReferenceIdeal m g trivial,
  fun m g _ => Cert.Kernel2.Gen.frame m g,
  fun m g _ => Cert.Kernel2Ideal.Gen.frame m g,
  quiet_Reference2Ideal,
  fun m g _ => Cert.Kernel3.Gen.frame m g,
  fun m g _ => Cert.Kernel3Ideal.Gen.frame m g,
  quiet_Reference3Ideal,
  fun m g _ => Cert.Kernel4.Gen.frame m g,
  fun m g _ => Cert.Kernel4Ideal.Gen.frame m g,
  quiet_Reference4Ideal,
  fun m g _ => Cert.Kernel5.Body.frame m g,
  fun m g _ => Cert.Kernel5Ideal.Body.frame m g,
  quiet_Reference5Ideal,
  fun m g _ => Cert.Kernel6.Gen.frame m g,
  fun m g _ => Cert.Kernel6Ideal.Gen.frame m g,
  quiet_Reference6Ideal,
  rewrites,
  attention,
  trivial,
  tail,
  trivial,
  keys,
  trivial,
  queries,
  trivial,
  convs,
  trivial,
  gates⟩

end Cert.Proof

end
